-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v40) = v0 c
          ∧ r.2.mem ((c.tc : Thread Cert.Reference15Ideal.nD Cert.Reference15Ideal.τ).loc Cert.Reference15Ideal.main_v41) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v40) = v0 c
          ∧ r.2.mem ((c.tc : Thread Cert.Reference16Ideal.nD Cert.Reference16Ideal.τ).loc Cert.Reference16Ideal.main_v41) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v40) = v0 c
          ∧ r.2.mem ((c.tc : Thread Cert.Reference17Ideal.nD Cert.Reference17Ideal.τ).loc Cert.Reference17Ideal.main_v41) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v30) = v0 c
          ∧ r.2.mem ((c.tc : Thread Cert.Reference23Ideal.nD Cert.Reference23Ideal.τ).loc Cert.Reference23Ideal.main_v47) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S8192x3072 : Shape := ⟨2, ![8192, 3072]⟩
abbrev S8192x1024 : Shape := ⟨2, ![8192, 1024]⟩
abbrev S8192x4096 : Shape := ⟨2, ![8192, 4096]⟩
abbrev S_ : Shape := ⟨0, ![]⟩

class Facts : Prop where
  concatenates_S8192x3072_S8192x1024_S8192x4096_d1 : Shape.Concatenates [S8192x3072, S8192x1024] S8192x4096 1
  bcast_S_S8192x4096 : S_.BroadcastsInDim S8192x4096 (![] : Fin 0 → Fin S8192x4096.rank)

variable [Facts]

def fn {F : FTy → Type} [FloatOps F] (main_arg0 : FVec F S8192x3072 .bf16) (main_arg1 : FVec F S8192x1024 .bf16) : IVec S8192x4096 1 :=
  let main_v0 : FVec F S8192x4096 .bf16 := (fun a b => concatenate S8192x4096 1 [⟨S8192x3072, a⟩, ⟨S8192x1024, b⟩] concatenates_S8192x3072_S8192x1024_S8192x4096_d1) main_arg0 main_arg1
  let main_v1 : FVec F S8192x4096 .bf16 := Host.absf main_v0
  let main_cst : FVec F S_ .bf16 := constant S_ .bf16 0x7F80#16
  let main_v2 : FVec F S8192x4096 .bf16 := broadcastInDim S8192x4096 ![] bcast_S_S8192x4096 main_cst
  let main_v3 : IVec S8192x4096 1 := cmpf .olt main_v1 main_v2
  main_v3
-- ==== Kernel.lean ====
abbrev S8192x3072 : Shape := ⟨2, ![8192, 3072]⟩
abbrev S8192x1024 : Shape := ⟨2, ![8192, 1024]⟩
abbrev S8192x16x64 : Shape := ⟨3, ![8192, 16, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S8x2x8192 : Shape := ⟨3, ![8, 2, 8192]⟩
abbrev S8x8192x2 : Shape := ⟨3, ![8, 8192, 2]⟩
abbrev S256x256 : Shape := ⟨2, ![256, 256]⟩
abbrev S1024x128 : Shape := ⟨2, ![1024, 128]⟩
abbrev S8192x128 : Shape := ⟨2, ![8192, 128]⟩
abbrev S1x1024x2 : Shape := ⟨3, ![1, 1024, 2]⟩
abbrev S1024x2 : Shape := ⟨2, ![1024, 2]⟩
abbrev S1024x1 : Shape := ⟨2, ![1024, 1]⟩
abbrev S256x128 : Shape := ⟨2, ![256, 128]⟩
abbrev S1024x256 : Shape := ⟨2, ![1024, 256]⟩
abbrev S768x128 : Shape := ⟨2, ![768, 128]⟩
abbrev S768x256 : Shape := ⟨2, ![768, 256]⟩
abbrev S768x1 : Shape := ⟨2, ![768, 1]⟩
abbrev S256x1 : Shape := ⟨2, ![256, 1]⟩
abbrev S512x128 : Shape := ⟨2, ![512, 128]⟩
abbrev S512x256 : Shape := ⟨2, ![512, 256]⟩
abbrev S512x1 : Shape := ⟨2, ![512, 1]⟩

abbrev nBuf : Space → Nat
  | .hbm => 55
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x1024, .bf16⟩
  | .hbm, ⟨5, _⟩ => ⟨S8192x1024, .f32⟩
  | .hbm, ⟨6, _⟩ => ⟨S8192x16x64, .f32⟩
  | .hbm, ⟨7, _⟩ => ⟨S_, .f32⟩
  | .hbm, ⟨8, _⟩ => ⟨S8192x16x64, .f32⟩
  | .hbm, ⟨9, _⟩ => ⟨S8192x16x64, .f32⟩
  | .hbm, ⟨10, _⟩ => ⟨S8192x16x64, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S16x8192x8192, .f32⟩
  | .hbm, ⟨19, _⟩ => ⟨S16x8192x8192, .f32⟩
  | .hbm, ⟨20, _⟩ => ⟨S_, .f32⟩
  | .hbm, ⟨21, _⟩ => ⟨S16x8192x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S_, .f32⟩
  | .hbm, ⟨36, _⟩ => ⟨S_, .f32⟩
  | .hbm, ⟨37, _⟩ => ⟨S16x8192x8192, .i1⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S8x2x8192, .f32⟩
  | .hbm, ⟨43, _⟩ => ⟨S8x8192x2, .f32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S256x256, .bf16⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S256x256, .bf16⟩
  | .hbm, ⟨52, _⟩ => ⟨S8192x1024, .f32⟩
  | .hbm, ⟨53, _⟩ => ⟨S8192x1024, .f32⟩
  | .hbm, ⟨54, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x2, .f32⟩
  | .local _ .vmem, ⟨9, _⟩ => ⟨S1x1024x2, .f32⟩
  | .local _ .vmem, ⟨10, _⟩ => ⟨S256x256, .bf16⟩
  | .local _ .vmem, ⟨11, _⟩ => ⟨S256x256, .bf16⟩
  | .local _ .vmem, ⟨12, _⟩ => ⟨S1024x128, .f32⟩
  | .local _ .vmem, ⟨13, _⟩ => ⟨S1024x128, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_19 : BitVec 32 := 0#32
  let arg1 : BitVec 32 := BitVec.ofNat 32 (i 1).val
  let c4_i32 : BitVec 32 := 4#32
  let v35 : BitVec 32 := Scalar.muli arg1 c4_i32
  let v36 : BitVec 32 := Scalar.subi v35 c0_i32_19
  let c1_i32 : BitVec 32 := 1#32
  let v38 : BitVec 32 := Scalar.divsi v36 c1_i32
  let v39 : BitVec 32 := Scalar.muli v38 c1_i32
  let v40 : BitVec 32 := Scalar.addi c0_i32_19 v39
  let c1_i32_20 : BitVec 32 := 1#32
  ⟨c0_i32_19, v40, c1_i32_20⟩
def k0_mult1 (i : grid0.Coords) (k0_t1 : Fin (k0_t1_loop i).trips) : BitVec 32 :=
  let c0_i32_19 : BitVec 32 := 0#32
  let c1_i32_20 : BitVec 32 := 1#32
  let arg12 : BitVec 32 := Scf.iv c0_i32_19 c1_i32_20 k0_t1
  let c256_i32_192 : BitVec 32 := 256#32
  let v676 : BitVec 32 := Scalar.muli arg12 c256_i32_192
  v676
def k0_off1 (i : grid0.Coords) (k0_t1 : Fin (k0_t1_loop i).trips) : Fin 2 → Nat :=
  let c0_i32_19 : BitVec 32 := 0#32
  let c1_i32_20 : BitVec 32 := 1#32
  let arg12 : BitVec 32 := Scf.iv c0_i32_19 c1_i32_20 k0_t1
  let c256_i32_192 : BitVec 32 := 256#32
  let v676 : BitVec 32 := Scalar.muli arg12 c256_i32_192
  let v677 : BitVec 32 := v676
  let v678 : Index := Scalar.indexCast v677
  let c0_193 : Index := 0#32
  ![v678.toNat, 0]
@[reducible] def k0_t2_loop (i : grid0.Coords) : Scf.Loop 32 :=
  let c0_i32_19 : BitVec 32 := 0#32
  let arg1 : BitVec 32 := BitVec.ofNat 32 (i 1).val
  let c4_i32 : BitVec 32 := 4#32
  let v35 : BitVec 32 := Scalar.muli arg1 c4_i32
  let v36 : BitVec 32 := Scalar.subi v35 c0_i32_19
  let c1_i32 : BitVec 32 := 1#32
  let v38 : BitVec 32 := Scalar.divsi v36 c1_i32
  let v39 : BitVec 32 := Scalar.muli v38 c1_i32
  let v40 : BitVec 32 := Scalar.addi c0_i32_19 v39
  let v37 : BitVec 32 := Scalar.addi c0_i32_19 v36
  let c1_i32_21 : BitVec 32 := 1#32
  ⟨v40, v37, c1_i32_21⟩
def k0_mult2 (i : grid0.Coords) (k0_t2 : Fin (k0_t2_loop i).trips) : BitVec 32 :=
  let c0_i32_19 : BitVec 32 := 0#32
  let arg1 : BitVec 32 := BitVec.ofNat 32 (i 1).val
  let c4_i32 : BitVec 32 := 4#32
  let v35 : BitVec 32 := Scalar.muli arg1 c4_i32
  let v36 : BitVec 32 := Scalar.subi v35 c0_i32_19
  let c1_i32 : BitVec 32 := 1#32
  let v38 : BitVec 32 := Scalar.divsi v36 c1_i32
  let v39 : BitVec 32 := Scalar.muli v38 c1_i32
  let v40 : BitVec 32 := Scalar.addi c0_i32_19 v39
  let c1_i32_21 : BitVec 32 := 1#32
  let arg12 : BitVec 32 := Scf.iv v40 c1_i32_21 k0_t2
  let c256_i32_192 : BitVec 32 := 256#32
  let v676 : BitVec 32 := Scalar.muli arg12 c256_i32_192
  v676
def k0_off2 (i : grid0.Coords) (k0_t2 : Fin (k0_t2_loop i).trips) : Fin 2 → Nat :=
  let c0_i32_19 : BitVec 32 := 0#32
  let arg1 : BitVec 32 := BitVec.ofNat 32 (i 1).val
  let c4_i32 : BitVec 32 := 4#32
  let v35 : BitVec 32 := Scalar.muli arg1 c4_i32
  let v36 : BitVec 32 := Scalar.subi v35 c0_i32_19
  let c1_i32 : BitVec 32 := 1#32
  let v38 : BitVec 32 := Scalar.divsi v36 c1_i32
  let v39 : BitVec 32 := Scalar.muli v38 c1_i32
  let v40 : BitVec 32 := Scalar.addi c0_i32_19 v39
  let c1_i32_21 : BitVec 32 := 1#32
  let arg12 : BitVec 32 := Scf.iv v40 c1_i32_21 k0_t2
  let c256_i32_192 : BitVec 32 := 256#32
  let v676 : BitVec 32 := Scalar.muli arg12 c256_i32_192
  let v677 : BitVec 32 := v676
  let v678 : Index := Scalar.indexCast v677
  let c0_193 : Index := 0#32
  ![v678.toNat, 0]
def k0_mult3 (i : grid0.Coords) : BitVec 32 :=
  let arg1 : BitVec 32 := BitVec.ofNat 32 (i 1).val
  let c4_i32_22 : BitVec 32 := 4#32
  let v43 : BitVec 32 := Scalar.muli arg1 c4_i32_22
  let c0_i32_23 : BitVec 32 := 0#32
  let v44 : BitVec 32 := Scalar.addi v43 c0_i32_23
  let c256_i32 : BitVec 32 := 256#32
  let v45 : BitVec 32 := Scalar.muli v44 c256_i32
  v45
def k0_off3 (i : grid0.Coords) (c0_i32_23 : BitVec 32) : Fin 2 → Nat :=
  let arg1 : BitVec 32 := BitVec.ofNat 32 (i 1).val
  let c4_i32_22 : BitVec 32 := 4#32
  let v43 : BitVec 32 := Scalar.muli arg1 c4_i32_22
  let v44 : BitVec 32 := Scalar.addi v43 c0_i32_23
  let c256_i32 : BitVec 32 := 256#32
  let v45 : BitVec 32 := Scalar.muli v44 c256_i32
  let v46 : BitVec 32 := v45
  let v47 : Index := Scalar.indexCast v46
  let c0_24 : Index := 0#32
  ![v47.toNat, 0]
def k0_mult4 (i : grid0.Coords) : BitVec 32 :=
  let arg1 : BitVec 32 := BitVec.ofNat 32 (i 1).val
  let c4_i32_63 : BitVec 32 := 4#32
  let v185 : BitVec 32 := Scalar.muli arg1 c4_i32_63
  let c1_i32_64 : BitVec 32 := 1#32
  let v186 : BitVec 32 := Scalar.addi v185 c1_i32_64
  let c256_i32_65 : BitVec 32 := 256#32
  let v187 : BitVec 32 := Scalar.muli v186 c256_i32_65
  v187
def k0_mult5 (i : grid0.Coords) : BitVec 32 :=
  let arg1 : BitVec 32 := BitVec.ofNat 32 (i 1).val
  let c4_i32_106 : BitVec 32 := 4#32
  let v355 : BitVec 32 := Scalar.muli arg1 c4_i32_106
  let c2_i32 : BitVec 32 := 2#32
  let v356 : BitVec 32 := Scalar.addi v355 c2_i32
  let c256_i32_107 : BitVec 32 := 256#32
  let v357 : BitVec 32 := Scalar.muli v356 c256_i32_107
  v357
def k0_mult6 (i : grid0.Coords) : BitVec 32 :=
  let arg1 : BitVec 32 := BitVec.ofNat 32 (i 1).val
  let c4_i32_147 : BitVec 32 := 4#32
  let v525 : BitVec 32 := Scalar.muli arg1 c4_i32_147
  let c3_i32 : BitVec 32 := 3#32
  let v526 : BitVec 32 := Scalar.addi v525 c3_i32
  let c256_i32_148 : BitVec 32 := 256#32
  let v527 : BitVec 32 := Scalar.muli v526 c256_i32_148
  v527
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8192x3072 : Shape := ⟨2, ![8192, 3072]⟩
abbrev S8192x1024 : Shape := ⟨2, ![8192, 1024]⟩
abbrev S8192x16x64 : Shape := ⟨3, ![8192, 16, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 177
  | .vmem => 0
  | .smem => 0
  | _ => 0

abbrev hbmTy0_0 (i : Nat) : BufTy := match i % 128 with
  | 0 => ⟨S8192x3072, .bf16⟩
  | 1 => ⟨S8192x1024, .bf16⟩
  | 2 => ⟨S8192x1024, .bf16⟩
  | 3 => ⟨S8192x1024, .f32⟩
  | 4 => ⟨S8192x1024, .bf16⟩
  | 5 => ⟨S8192x1024, .f32⟩
  | 6 => ⟨S8192x1024, .bf16⟩
  | 7 => ⟨S8192x1024, .f32⟩
  | 8 => ⟨S8192x16x64, .f32⟩
  | 9 => ⟨S_, .f32⟩
  | 10 => ⟨S8192x16x64, .f32⟩
  | 11 => ⟨S8192x16x64, .f32⟩
  | 12 => ⟨S8192x16x64, .f32⟩
  | 13 => ⟨S16x8192x8192, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S16x8192x8192, .f32⟩
  | 21 => ⟨S16x8192x8192, .f32⟩
  | 22 => ⟨S_, .f32⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .i1⟩
  | 28 => ⟨S16x8192x8192, .f32⟩
  | 29 => ⟨S16x8192x8192, .f32⟩
  | 30 => ⟨S16x8192x8192, .f32⟩
  | 31 => ⟨S16x8192x8192, .f32⟩
  | 32 => ⟨S16x8192x8192, .f32⟩
  | 33 => ⟨S16x8192x8192, .f32⟩
  | 34 => ⟨S16x8192x8192, .f32⟩
  | 35 => ⟨S16x8192x8192, .f32⟩
  | 36 => ⟨S_, .f32⟩
  | 37 => ⟨S16x8192x8192, .f32⟩
  | 38 => ⟨S16x8192x8192, .i1⟩
  | 39 => ⟨S_, .f32⟩
  | 40 => ⟨S16x8192x8192, .f32⟩
  | 41 => ⟨S16x8192x8192, .f32⟩
  | 42 => ⟨S_, .f32⟩
  | 43 => ⟨S16x8192x8192, .f32⟩
  | 44 => ⟨S16x8192x8192, .i1⟩
  | 45 => ⟨S_, .f32⟩
  | 46 => ⟨S16x8192x8192, .f32⟩
  | 47 => ⟨S16x8192x8192, .f32⟩
  | 48 => ⟨S16x8192x8192, .f32⟩
  | 49 => ⟨S16x8192x8192, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S16x8192x8192, .f32⟩
  | 58 => ⟨S16x8192x8192, .i1⟩
  | 59 => ⟨S_, .f32⟩
  | 60 => ⟨S16x8192x8192, .f32⟩
  | 61 => ⟨S16x8192x8192, .f32⟩
  | 62 => ⟨S16x8192x8192, .f32⟩
  | 63 => ⟨S16x8192x8192, .f32⟩
  | 64 => ⟨S16x8192x8192, .f32⟩
  | 65 => ⟨S_, .f32⟩
  | 66 => ⟨S16x8192x8192, .f32⟩
  | 67 => ⟨S16x8192x8192, .f32⟩
  | 68 => ⟨S16x8192x8192, .f32⟩
  | 69 => ⟨S_, .f32⟩
  | 70 => ⟨S_, .f32⟩
  | 71 => ⟨S16x8192x8192, .i1⟩
  | 72 => ⟨S16x8192x8192, .f32⟩
  | 73 => ⟨S16x8192x8192, .f32⟩
  | 74 => ⟨S_, .f32⟩
  | 75 => ⟨S16x8192x8192, .f32⟩
  | 76 => ⟨S_, .f32⟩
  | 77 => ⟨S_, .f32⟩
  | 78 => ⟨S16x8192x8192, .f32⟩
  | 79 => ⟨S16x8192x8192, .f32⟩
  | 80 => ⟨S16x8192x8192, .f32⟩
  | 81 => ⟨S_, .f32⟩
  | 82 => ⟨S16x8192x8192, .f32⟩
  | 83 => ⟨S16x8192x8192, .f32⟩
  | 84 => ⟨S16x8192x8192, .f32⟩
  | 85 => ⟨S16x8192x8192, .f32⟩
  | 86 => ⟨S16x8192x8192, .i1⟩
  | 87 => ⟨S16x8192x8192, .f32⟩
  | 88 => ⟨S16x8192x8192, .f32⟩
  | 89 => ⟨S16x8192x8192, .f32⟩
  | 90 => ⟨S16x8192x8192, .f32⟩
  | 91 => ⟨S16x8192x8192, .f32⟩
  | 92 => ⟨S16x8192x8192, .f32⟩
  | 93 => ⟨S16x8192x8192, .f32⟩
  | 94 => ⟨S16x8192x8192, .f32⟩
  | 95 => ⟨S_, .f32⟩
  | 96 => ⟨S16x8192x8192, .f32⟩
  | 97 => ⟨S16x8192x8192, .i1⟩
  | 98 => ⟨S_, .f32⟩
  | 99 => ⟨S16x8192x8192, .f32⟩
  | 100 => ⟨S16x8192x8192, .f32⟩
  | 101 => ⟨S_, .f32⟩
  | 102 => ⟨S16x8192x8192, .f32⟩
  | 103 => ⟨S16x8192x8192, .i1⟩
  | 104 => ⟨S_, .f32⟩
  | 105 => ⟨S16x8192x8192, .f32⟩
  | 106 => ⟨S16x8192x8192, .f32⟩
  | 107 => ⟨S16x8192x8192, .f32⟩
  | 108 => ⟨S16x8192x8192, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S16x8192x8192, .f32⟩
  | 117 => ⟨S16x8192x8192, .i1⟩
  | 118 => ⟨S_, .f32⟩
  | 119 => ⟨S16x8192x8192, .f32⟩
  | 120 => ⟨S16x8192x8192, .f32⟩
  | 121 => ⟨S16x8192x8192, .f32⟩
  | 122 => ⟨S16x8192x8192, .f32⟩
  | 123 => ⟨S16x8192x8192, .f32⟩
  | 124 => ⟨S_, .f32⟩
  | 125 => ⟨S16x8192x8192, .f32⟩
  | 126 => ⟨S16x8192x8192, .f32⟩
  | 127 => ⟨S16x8192x8192, .f32⟩
  | _ => ⟨S8192x3072, .bf16⟩

abbrev hbmTy0_1 (i : Nat) : BufTy := match i % 128 with
  | 0 => ⟨S16x8192x8192, .f32⟩
  | 1 => ⟨S16x8192x8192, .f32⟩
  | 2 => ⟨S_, .f32⟩
  | 3 => ⟨S_, .f32⟩
  | 4 => ⟨S16x8192x8192, .i1⟩
  | 5 => ⟨S16x8192x8192, .f32⟩
  | 6 => ⟨S16x8192x8192, .f32⟩
  | 7 => ⟨S_, .f32⟩
  | 8 => ⟨S16x8192x8192, .f32⟩
  | 9 => ⟨S8192x16x64, .f32⟩
  | 10 => ⟨S16x64x8192, .f32⟩
  | 11 => ⟨S8192x16x64, .f32⟩
  | 12 => ⟨S8192x1024, .f32⟩
  | 13 => ⟨S8192x1024, .f32⟩
  | 14 => ⟨S8192x16x64, .f32⟩
  | 15 => ⟨S16x64x8192, .f32⟩
  | 16 => ⟨S16x8192x8192, .f32⟩
  | 17 => ⟨S16x64x8192, .f32⟩
  | 18 => ⟨S8192x16x64, .f32⟩
  | 19 => ⟨S8192x1024, .f32⟩
  | 20 => ⟨S_, .f32⟩
  | 21 => ⟨S16x8192x8192, .f32⟩
  | 22 => ⟨S16x8192x8192, .f32⟩
  | 23 => ⟨S16x8192x8192, .f32⟩
  | 24 => ⟨S16x8192x8192, .f32⟩
  | 25 => ⟨S16x8192x8192, .f32⟩
  | 26 => ⟨S16x8192x8192, .f32⟩
  | 27 => ⟨S16x8192x8192, .f32⟩
  | 28 => ⟨S_, .f32⟩
  | 29 => ⟨S_, .f32⟩
  | 30 => ⟨S16x8192x8192, .f32⟩
  | 31 => ⟨S16x8192x8192, .f32⟩
  | 32 => ⟨S_, .f32⟩
  | 33 => ⟨S16x8192x8192, .f32⟩
  | 34 => ⟨S16x8192x8192, .f32⟩
  | 35 => ⟨S16x8192x8192, .f32⟩
  | 36 => ⟨S16x8192x8192, .f32⟩
  | 37 => ⟨S16x8192x8192, .f32⟩
  | 38 => ⟨S16x8192x8192, .f32⟩
  | 39 => ⟨S16x8192x8192, .f32⟩
  | 40 => ⟨S16x8192x64, .f32⟩
  | 41 => ⟨S8192x16x64, .f32⟩
  | 42 => ⟨S16x8192x64, .f32⟩
  | 43 => ⟨S8192x16x64, .f32⟩
  | 44 => ⟨S8192x1024, .f32⟩
  | 45 => ⟨S_, .f32⟩
  | 46 => ⟨S8192x16x64, .f32⟩
  | 47 => ⟨S8192x16x64, .f32⟩
  | 48 => ⟨S8192x1024, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_cst_2 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== Kernel2.lean ====
abbrev S2x8192x2816 : Shape := ⟨3, ![2, 8192, 2816]⟩
abbrev S2816x1024 : Shape := ⟨2, ![2816, 1024]⟩
abbrev S8192x1024 : Shape := ⟨2, ![8192, 1024]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 9
  | .smem => 0
  | _ => 0

abbrev bufTy : (tb : Table) → Fin (tcTables nBuf tb) → BufTy
  | .hbm, ⟨0, _⟩ => ⟨S2x8192x2816, .bf16⟩
  | .hbm, ⟨1, _⟩ => ⟨S2816x1024, .bf16⟩
  | .hbm, ⟨2, _⟩ => ⟨S8192x1024, .f32⟩
  | .hbm, ⟨3, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2x8192x2816 : Shape := ⟨3, ![2, 8192, 2816]⟩
abbrev S2816x1024 : Shape := ⟨2, ![2816, 1024]⟩
abbrev S8192x1024 : Shape := ⟨2, ![8192, 1024]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S2816x1024, .bf16⟩
  | .hbm, ⟨2, _⟩ => ⟨S8192x1024, .f32⟩
  | .hbm, ⟨3, _⟩ => ⟨S2x8192x2816, .f32⟩
  | .hbm, ⟨4, _⟩ => ⟨S2816x1024, .f32⟩
  | .hbm, ⟨5, _⟩ => ⟨S1x8192x2816, .f32⟩
  | .hbm, ⟨6, _⟩ => ⟨S8192x2816, .f32⟩
  | .hbm, ⟨7, _⟩ => ⟨S1x8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S1x8192x2816, .f32⟩
  | .hbm, ⟨38, _⟩ => ⟨S1x8192x2816, .f32⟩
  | .hbm, ⟨39, _⟩ => ⟨S2x8192x2816, .f32⟩
  | .hbm, ⟨40, _⟩ => ⟨S2x8192x2816, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S1x8192x2816 : Shape := ⟨3, ![1, 8192, 2816]⟩
abbrev S8192x2816 : Shape := ⟨2, ![8192, 2816]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x8192x2816, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S1x8192x2816, .f32⟩
  | .hbm, ⟨8, _⟩ => ⟨S8192x2816, .f32⟩
  | .hbm, ⟨9, _⟩ => ⟨S1x8192x2816, .f32⟩
  | .hbm, ⟨10, _⟩ => ⟨S8192x2816, .f32⟩
  | .hbm, ⟨11, _⟩ => ⟨S8192x5632, .f32⟩
  | .hbm, ⟨12, _⟩ => ⟨S5632x1024, .f32⟩
  | .hbm, ⟨13, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_26 : BitVec 32 := 0#32
  let v53 : BitVec 1 := Scalar.cmpi .eq arg0 c0_i32_26
  let v54 : BitVec 32 := Scalar.extui v53
  let c0_i32_27 : BitVec 32 := 0#32
  let v55 : BitVec 1 := Scalar.cmpi .ne v54 c0_i32_27
  v55

def k0_cond5 (i : grid0.Coords) : BitVec 1 :=
  let arg0 : BitVec 32 := BitVec.ofNat 32 (i 0).val
  let c0_i32_28 : BitVec 32 := 0#32
  let v56 : BitVec 1 := Scalar.cmpi .sgt arg0 c0_i32_28
  let v57 : BitVec 32 := Scalar.extui v56
  let c0_i32_29 : BitVec 32 := 0#32
  let v58 : BitVec 1 := Scalar.cmpi .ne v57 c0_i32_29
  v58

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference5Ideal.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x8192x2816 : Shape := ⟨3, ![1, 8192, 2816]⟩
abbrev S8192x2816 : Shape := ⟨2, ![8192, 2816]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S2x8192x2816, .f32⟩
  | .hbm, ⟨6, _⟩ => ⟨S1024x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S1x8192x2816, .f32⟩
  | .hbm, ⟨29, _⟩ => ⟨S8192x2816, .f32⟩
  | .hbm, ⟨30, _⟩ => ⟨S1x8192x2816, .f32⟩
  | .hbm, ⟨31, _⟩ => ⟨S8192x2816, .f32⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S2x8192x2816 : Shape := ⟨3, ![2, 8192, 2816]⟩
abbrev S8192x2816 : Shape := ⟨2, ![8192, 2816]⟩
abbrev S512x1024 : Shape := ⟨2, ![512, 1024]⟩
abbrev S1024x1408 : Shape := ⟨2, ![1024, 1408]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x512x1408 : Shape := ⟨3, ![1, 512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S8192x1024, .bf16⟩
  | .hbm, ⟨5, _⟩ => ⟨S2x8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S512x1024, .bf16⟩
  | .local _ .vmem, ⟨8, _⟩ => ⟨S512x1024, .bf16⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5632, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S1x8192x2816, .f32⟩
  | .hbm, ⟨41, _⟩ => ⟨S1x8192x2816, .f32⟩
  | .hbm, ⟨42, _⟩ => ⟨S2x8192x2816, .f32⟩
  | .hbm, ⟨43, _⟩ => ⟨S2x8192x2816, .bf16⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond4 (i : grid0.Coords) : BitVec 1 :=
  let arg0 : BitVec 32 := BitVec.ofNat 32 (i 0).val
  let c0_i32_26 : BitVec 32 := 0#32
  let v52 : BitVec 1 := Scalar.cmpi .eq arg0 c0_i32_26
  let v53 : BitVec 32 := Scalar.extui v52
  let c0_i32_27 : BitVec 32 := 0#32
  let v54 : BitVec 1 := Scalar.cmpi .ne v53 c0_i32_27
  v54

def k0_cond5 (i : grid0.Coords) : BitVec 1 :=
  let arg0 : BitVec 32 := BitVec.ofNat 32 (i 0).val
  let c0_i32_28 : BitVec 32 := 0#32
  let v55 : BitVec 1 := Scalar.cmpi .sgt arg0 c0_i32_28
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference15Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel16.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond4 (i : grid0.Coords) : BitVec 1 :=
  let arg0 : BitVec 32 := BitVec.ofNat 32 (i 0).val
  let c0_i32_26 : BitVec 32 := 0#32
  let v52 : BitVec 1 := Scalar.cmpi .eq arg0 c0_i32_26
  let v53 : BitVec 32 := Scalar.extui v52
  let c0_i32_27 : BitVec 32 := 0#32
  let v54 : BitVec 1 := Scalar.cmpi .ne v53 c0_i32_27
  v54

def k0_cond5 (i : grid0.Coords) : BitVec 1 :=
  let arg0 : BitVec 32 := BitVec.ofNat 32 (i 0).val
  let c0_i32_28 : BitVec 32 := 0#32
  let v55 : BitVec 1 := Scalar.cmpi .sgt arg0 c0_i32_28
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference16Ideal.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel17.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond4 (i : grid0.Coords) : BitVec 1 :=
  let arg0 : BitVec 32 := BitVec.ofNat 32 (i 0).val
  let c0_i32_26 : BitVec 32 := 0#32
  let v52 : BitVec 1 := Scalar.cmpi .eq arg0 c0_i32_26
  let v53 : BitVec 32 := Scalar.extui v52
  let c0_i32_27 : BitVec 32 := 0#32
  let v54 : BitVec 1 := Scalar.cmpi .ne v53 c0_i32_27
  v54

def k0_cond5 (i : grid0.Coords) : BitVec 1 :=
  let arg0 : BitVec 32 := BitVec.ofNat 32 (i 0).val
  let c0_i32_28 : BitVec 32 := 0#32
  let v55 : BitVec 1 := Scalar.cmpi .sgt arg0 c0_i32_28
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference17Ideal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x3072, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S8192x1024 : Shape := ⟨2, ![8192, 1024]⟩
abbrev S1024x3072 : Shape := ⟨2, ![1024, 3072]⟩
abbrev S8192x3072 : Shape := ⟨2, ![8192, 3072]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S8192x3072 : Shape := ⟨2, ![8192, 3072]⟩
abbrev S256x256 : Shape := ⟨2, ![256, 256]⟩
abbrev S8192x1024 : Shape := ⟨2, ![8192, 1024]⟩
abbrev S8x8192x2 : Shape := ⟨3, ![8, 8192, 2]⟩
abbrev S1024x128 : Shape := ⟨2, ![1024, 128]⟩
abbrev S8192x128 : Shape := ⟨2, ![8192, 128]⟩
abbrev S1x1024x2 : Shape := ⟨3, ![1, 1024, 2]⟩
abbrev S1024x1 : Shape := ⟨2, ![1024, 1]⟩
abbrev S256x128 : Shape := ⟨2, ![256, 128]⟩
abbrev S256x1 : Shape := ⟨2, ![256, 1]⟩
abbrev S768x1 : Shape := ⟨2, ![768, 1]⟩
abbrev S768x128 : Shape := ⟨2, ![768, 128]⟩
abbrev S512x128 : Shape := ⟨2, ![512, 128]⟩
abbrev S512x256 : Shape := ⟨2, ![512, 256]⟩
abbrev S512x1 : Shape := ⟨2, ![512, 1]⟩
abbrev S768x256 : Shape := ⟨2, ![768, 256]⟩
abbrev S1024x256 : Shape := ⟨2, ![1024, 256]⟩
abbrev S1024x2 : Shape := ⟨2, ![1024, 2]⟩

abbrev nBuf : Space → Nat
  | .hbm => 7
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S8192x1024, .bf16⟩
  | .hbm, ⟨6, _⟩ => ⟨S8x8192x2, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S1024x128, .bf16⟩
  | .local _ .vmem, ⟨8, _⟩ => ⟨S1024x128, .bf16⟩
  | .local _ .vmem, ⟨9, _⟩ => ⟨S1x1024x2, .f32⟩
  | .local _ .vmem, ⟨10, _⟩ => ⟨S1x1024x2, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c4_i32 : BitVec 32 := 4#32
  let v17 : BitVec 32 := Scalar.muli arg1 c4_i32
  let c3_i32 : BitVec 32 := 3#32
  let v18 : BitVec 32 := Scalar.addi v17 c3_i32
  let c256_i32 : BitVec 32 := 256#32
  let v19 : BitVec 32 := Scalar.muli v18 c256_i32
  v19
def k0_off1 (i : grid0.Coords) (c3_i32 : BitVec 32) : Fin 2 → Nat :=
  let arg1 : BitVec 32 := BitVec.ofNat 32 (i 1).val
  let c4_i32 : BitVec 32 := 4#32
  let v17 : BitVec 32 := Scalar.muli arg1 c4_i32
  let v18 : BitVec 32 := Scalar.addi v17 c3_i32
  let c256_i32 : BitVec 32 := 256#32
  let v19 : BitVec 32 := Scalar.muli v18 c256_i32
  let v20 : BitVec 32 := v19
  let v21 : Index := Scalar.indexCast v20
  let c0_8 : Index := 0#32
  ![v21.toNat, 0]
def k0_mult2 (i : grid0.Coords) : BitVec 32 :=
  let arg1 : BitVec 32 := BitVec.ofNat 32 (i 1).val
  let c4_i32_32 : BitVec 32 := 4#32
  let v125 : BitVec 32 := Scalar.muli arg1 c4_i32_32
  let c2_i32 : BitVec 32 := 2#32
  let v126 : BitVec 32 := Scalar.addi v125 c2_i32
  let c256_i32_33 : BitVec 32 := 256#32
  let v127 : BitVec 32 := Scalar.muli v126 c256_i32_33
  v127
def k0_mult3 (i : grid0.Coords) : BitVec 32 :=
  let arg1 : BitVec 32 := BitVec.ofNat 32 (i 1).val
  let c4_i32_59 : BitVec 32 := 4#32
  let v233 : BitVec 32 := Scalar.muli arg1 c4_i32_59
  let c1_i32 : BitVec 32 := 1#32
  let v234 : BitVec 32 := Scalar.addi v233 c1_i32
  let c256_i32_60 : BitVec 32 := 256#32
  let v235 : BitVec 32 := Scalar.muli v234 c256_i32_60
  v235
def k0_mult4 (i : grid0.Coords) : BitVec 32 :=
  let arg1 : BitVec 32 := BitVec.ofNat 32 (i 1).val
  let c4_i32_87 : BitVec 32 := 4#32
  let v341 : BitVec 32 := Scalar.muli arg1 c4_i32_87
  let c0_i32 : BitVec 32 := 0#32
  let v342 : BitVec 32 := Scalar.addi v341 c0_i32
  let c256_i32_88 : BitVec 32 := 256#32
  let v343 : BitVec 32 := Scalar.muli v342 c256_i32_88
  v343
@[reducible] def k0_t1_loop (i : grid0.Coords) : Scf.Loop 32 :=
  let c0_i32_116 : BitVec 32 := 0#32
  let arg1 : BitVec 32 := BitVec.ofNat 32 (i 1).val
  let c4_i32_115 : BitVec 32 := 4#32
  let v433 : BitVec 32 := Scalar.muli arg1 c4_i32_115
  let v434 : BitVec 32 := Scalar.subi v433 c0_i32_116
  let c1_i32_117 : BitVec 32 := 1#32
  let v436 : BitVec 32 := Scalar.divsi v434 c1_i32_117
  let v437 : BitVec 32 := Scalar.muli v436 c1_i32_117
  let v438 : BitVec 32 := Scalar.addi c0_i32_116 v437
  let c1_i32_118 : BitVec 32 := 1#32
  ⟨c0_i32_116, v438, c1_i32_118⟩
def k0_mult5 (i : grid0.Coords) (k0_t1 : Fin (k0_t1_loop i).trips) : BitVec 32 :=
  let arg1 : BitVec 32 := BitVec.ofNat 32 (i 1).val
  let c4_i32_127 : BitVec 32 := 4#32
  let v458 : BitVec 32 := Scalar.muli arg1 c4_i32_127
  let c1_i32_128 : BitVec 32 := 1#32
  let v459 : BitVec 32 := Scalar.subi v458 c1_i32_128
  let c0_i32_116 : BitVec 32 := 0#32
  let c1_i32_118 : BitVec 32 := 1#32
  let arg8 : BitVec 32 := Scf.iv c0_i32_116 c1_i32_118 k0_t1
  let v460 : BitVec 32 := Scalar.subi v459 arg8
  let c256_i32_129 : BitVec 32 := 256#32
  let v461 : BitVec 32 := Scalar.muli v460 c256_i32_129
  v461
def k0_off2 (i : grid0.Coords) (k0_t1 : Fin (k0_t1_loop i).trips) : Fin 2 → Nat :=
  let arg1 : BitVec 32 := BitVec.ofNat 32 (i 1).val
  let c4_i32_127 : BitVec 32 := 4#32
  let v458 : BitVec 32 := Scalar.muli arg1 c4_i32_127
  let c1_i32_128 : BitVec 32 := 1#32
  let v459 : BitVec 32 := Scalar.subi v458 c1_i32_128
  let c0_i32_116 : BitVec 32 := 0#32
  let c1_i32_118 : BitVec 32 := 1#32
  let arg8 : BitVec 32 := Scf.iv c0_i32_116 c1_i32_118 k0_t1
  let v460 : BitVec 32 := Scalar.subi v459 arg8
  let c256_i32_129 : BitVec 32 := 256#32
  let v461 : BitVec 32 := Scalar.muli v460 c256_i32_129
  let v462 : BitVec 32 := v461
  let v463 : Index := Scalar.indexCast v462
  let c0_130 : Index := 0#32
  ![v463.toNat, 0]
@[reducible] def k0_t2_loop (i : grid0.Coords) : Scf.Loop 32 :=
  let c0_i32_116 : BitVec 32 := 0#32
  let arg1 : BitVec 32 := BitVec.ofNat 32 (i 1).val
  let c4_i32_115 : BitVec 32 := 4#32
  let v433 : BitVec 32 := Scalar.muli arg1 c4_i32_115
  let v434 : BitVec 32 := Scalar.subi v433 c0_i32_116
  let c1_i32_117 : BitVec 32 := 1#32
  let v436 : BitVec 32 := Scalar.divsi v434 c1_i32_117
  let v437 : BitVec 32 := Scalar.muli v436 c1_i32_117
  let v438 : BitVec 32 := Scalar.addi c0_i32_116 v437
  let v435 : BitVec 32 := Scalar.addi c0_i32_116 v434
  let c1_i32_119 : BitVec 32 := 1#32
  ⟨v438, v435, c1_i32_119⟩
def k0_mult6 (i : grid0.Coords) (k0_t2 : Fin (k0_t2_loop i).trips) : BitVec 32 :=
  let arg1 : BitVec 32 := BitVec.ofNat 32 (i 1).val
  let c4_i32_127 : BitVec 32 := 4#32
  let v458 : BitVec 32 := Scalar.muli arg1 c4_i32_127
  let c1_i32_128 : BitVec 32 := 1#32
  let v459 : BitVec 32 := Scalar.subi v458 c1_i32_128
  let c0_i32_116 : BitVec 32 := 0#32
  let c4_i32_115 : BitVec 32 := 4#32
  let v433 : BitVec 32 := Scalar.muli arg1 c4_i32_115
  let v434 : BitVec 32 := Scalar.subi v433 c0_i32_116
  let c1_i32_117 : BitVec 32 := 1#32
  let v436 : BitVec 32 := Scalar.divsi v434 c1_i32_117
  let v437 : BitVec 32 := Scalar.muli v436 c1_i32_117
  let v438 : BitVec 32 := Scalar.addi c0_i32_116 v437
  let c1_i32_119 : BitVec 32 := 1#32
  let arg8 : BitVec 32 := Scf.iv v438 c1_i32_119 k0_t2
  let v460 : BitVec 32 := Scalar.subi v459 arg8
  let c256_i32_129 : BitVec 32 := 256#32
  let v461 : BitVec 32 := Scalar.muli v460 c256_i32_129
  v461
def k0_off3 (i : grid0.Coords) (k0_t2 : Fin (k0_t2_loop i).trips) : Fin 2 → Nat :=
  let arg1 : BitVec 32 := BitVec.ofNat 32 (i 1).val
  let c4_i32_127 : BitVec 32 := 4#32
  let v458 : BitVec 32 := Scalar.muli arg1 c4_i32_127
  let c1_i32_128 : BitVec 32 := 1#32
  let v459 : BitVec 32 := Scalar.subi v458 c1_i32_128
  let c0_i32_116 : BitVec 32 := 0#32
  let c4_i32_115 : BitVec 32 := 4#32
  let v433 : BitVec 32 := Scalar.muli arg1 c4_i32_115
  let v434 : BitVec 32 := Scalar.subi v433 c0_i32_116
  let c1_i32_117 : BitVec 32 := 1#32
  let v436 : BitVec 32 := Scalar.divsi v434 c1_i32_117
  let v437 : BitVec 32 := Scalar.muli v436 c1_i32_117
  let v438 : BitVec 32 := Scalar.addi c0_i32_116 v437
  let c1_i32_119 : BitVec 32 := 1#32
  let arg8 : BitVec 32 := Scf.iv v438 c1_i32_119 k0_t2
  let v460 : BitVec 32 := Scalar.subi v459 arg8
  let c256_i32_129 : BitVec 32 := 256#32
  let v461 : BitVec 32 := Scalar.muli v460 c256_i32_129
  let v462 : BitVec 32 := v461
  let v463 : Index := Scalar.indexCast v462
  let c0_130 : Index := 0#32
  ![v463.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference23Ideal.lean ====
abbrev S8192x3072 : Shape := ⟨2, ![8192, 3072]⟩
abbrev S8192x1024 : Shape := ⟨2, ![8192, 1024]⟩
abbrev S8192x16x64 : Shape := ⟨3, ![8192, 16, 64]⟩
abbrev S_ : Shape := ⟨0, ![]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192 : Shape := ⟨2, ![16, 8192]⟩
abbrev S8x2x8192 : Shape := ⟨3, ![8, 2, 8192]⟩
abbrev S8x8192x2 : Shape := ⟨3, ![8, 8192, 2]⟩

abbrev nBuf : Space → Nat
  | .hbm => 111
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x16x64, .f32⟩
  | .hbm, ⟨8, _⟩ => ⟨S_, .f32⟩
  | .hbm, ⟨9, _⟩ => ⟨S8192x16x64, .f32⟩
  | .hbm, ⟨10, _⟩ => ⟨S8192x16x64, .f32⟩
  | .hbm, ⟨11, _⟩ => ⟨S8192x16x64, .f32⟩
  | .hbm, ⟨12, _⟩ => ⟨S16x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S16x8192x8192, .f32⟩
  | .hbm, ⟨20, _⟩ => ⟨S16x8192x8192, .f32⟩
  | .hbm, ⟨21, _⟩ => ⟨S_, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S_, .f32⟩
  | .hbm, ⟨37, _⟩ => ⟨S_, .f32⟩
  | .hbm, ⟨38, _⟩ => ⟨S16x8192x8192, .i1⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S_, .f32⟩
  | .hbm, ⟨43, _⟩ => ⟨S16x8192x8192, .f32⟩
  | .hbm, ⟨44, _⟩ => ⟨S16x8192x8192, .f32⟩
  | .hbm, ⟨45, _⟩ => ⟨S16x8192x8192, .f32⟩
  | .hbm, ⟨46, _⟩ => ⟨S_, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S16x8192x8192, .f32⟩
  | .hbm, ⟨51, _⟩ => ⟨S16x8192x8192, .i1⟩
  | .hbm, ⟨52, _⟩ => ⟨S16x8192x8192, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S_, .f32⟩
  | .hbm, ⟨64, _⟩ => ⟨S_, .f32⟩
  | .hbm, ⟨65, _⟩ => ⟨S16x8192x8192, .i1⟩
  | .hbm, ⟨66, _⟩ => ⟨S16x8192x8192, .f32⟩
  | .hbm, ⟨67, _⟩ => ⟨S16x8192x8192, .f32⟩
  | .hbm, ⟨68, _⟩ => ⟨S8192x16x64, .f32⟩
  | .hbm, ⟨69, _⟩ => ⟨S16x64x8192, .f32⟩
  | .hbm, ⟨70, _⟩ => ⟨S8192x16x64, .f32⟩
  | .hbm, ⟨71, _⟩ => ⟨S8192x1024, .f32⟩
  | .hbm, ⟨72, _⟩ => ⟨S8192x1024, .bf16⟩
  | .hbm, ⟨73, _⟩ => ⟨S8192x16x64, .f32⟩
  | .hbm, ⟨74, _⟩ => ⟨S_, .f32⟩
  | .hbm, ⟨75, _⟩ => ⟨S8192x16x64, .f32⟩
  | .hbm, ⟨76, _⟩ => ⟨S8192x16x64, .f32⟩
  | .hbm, ⟨77, _⟩ => ⟨S8192x16x64, .f32⟩
  | .hbm, ⟨78, _⟩ => ⟨S16x8192x8192, .f32⟩
  | .hbm, ⟨79, _⟩ => ⟨S8192, .i32⟩
  | .hbm, ⟨80, _⟩ => ⟨S1x8192, .i32⟩
  | .hbm, ⟨81, _⟩ => ⟨S8192x1, .i32⟩
  | .hbm, ⟨82, _⟩ => ⟨S8192x8192, .i32⟩
  | .hbm, ⟨83, _⟩ => ⟨S8192x8192, .i32⟩
  | .hbm, ⟨84, _⟩ => ⟨S8192x8192, .i1⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S16x8192x8192, .i1⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S16x8192x8192, .f32⟩
  | .hbm, ⟨97, _⟩ => ⟨S16x8192x8192, .f32⟩
  | .hbm, ⟨98, _⟩ => ⟨S16x8192x8192, .f32⟩
  | .hbm, ⟨99, _⟩ => ⟨S16x8192x8192, .f32⟩
  | .hbm, ⟨100, _⟩ => ⟨S16x8192x8192, .f32⟩
  | .hbm, ⟨101, _⟩ => ⟨S16x8192x8192, .f32⟩
  | .hbm, ⟨102, _⟩ => ⟨S_, .f32⟩
  | .hbm, ⟨103, _⟩ => ⟨S_, .f32⟩
  | .hbm, ⟨104, _⟩ => ⟨S16x8192x8192, .i1⟩
  | .hbm, ⟨105, _⟩ => ⟨S16x8192x8192, .f32⟩
  | .hbm, ⟨106, _⟩ => ⟨S16x8192x8192, .f32⟩
  | .hbm, ⟨107, _⟩ => ⟨S_, .f32⟩
  | .hbm, ⟨108, _⟩ => ⟨S16x8192, .f32⟩
  | .hbm, ⟨109, _⟩ => ⟨S8x2x8192, .f32⟩
  | .hbm, ⟨110, _⟩ => ⟨S8x8192x2, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_2 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_call5_v0 : Ref sig .tc := ⟨.hbm, 86, rfl⟩
abbrev main_call5_call0_cst : Ref sig .tc := ⟨.hbm, 87, rfl⟩
abbrev main_call5_call0_v0 : Ref sig .tc := ⟨.hbm, 88, rfl⟩
abbrev main_call5_call0_v1 : Ref sig .tc := ⟨.hbm, 89, rfl⟩
abbrev main_call5_call0_v2 : Ref sig .tc := ⟨.hbm, 90, rfl⟩
abbrev main_call5_call0_v3 : Ref sig .tc := ⟨.hbm, 91, rfl⟩
abbrev main_call5_call0_v4 : Ref sig .tc := ⟨.hbm, 92, rfl⟩
abbrev main_call5_call0_v5 : Ref sig .tc := ⟨.hbm, 93, rfl⟩
abbrev main_call5_call0_v6 : Ref sig .tc := ⟨.hbm, 94, rfl⟩
abbrev main_call5_call0_v7 : Ref sig .tc := ⟨.hbm, 95, rfl⟩
abbrev main_call5_call0_v8 : Ref sig .tc := ⟨.hbm, 96, rfl⟩
abbrev main_call5_call0_v9 : Ref sig .tc := ⟨.hbm, 97, rfl⟩
abbrev main_call5_call0_v10 : Ref sig .tc := ⟨.hbm, 98, rfl⟩
abbrev main_call5_call0_v11 : Ref sig .tc := ⟨.hbm, 99, rfl⟩
abbrev main_call5_v1 : Ref sig .tc := ⟨.hbm, 100, rfl⟩
abbrev main_v43 : Ref sig .tc := ⟨.hbm, 101, rfl⟩
abbrev main_cst_3 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_v44 : Ref sig .tc := ⟨.hbm, 106, rfl⟩
abbrev main_cst_4 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩

abbrev nD : Nat := 1
abbrev τ : Topo := Topo.v7x

variable {F : FTy → Type} [FloatOps F]
-- ==== Proof.In6.lean ====
/- The first product of the feed-forward layer: the run of its program. The normalised rows are written at the first of the two points of a block of rows and written back at the second, which leaves them as they are. -/
module

public import proofs.«01_k».proof.Defs
public import proofs.«01_k».proof.Proof.Gen.Kernel6Ideal
public import proofs.«01_k».proof.Proof.Gen.Kernel6
public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.V6

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The arrays as the launch finds them. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
theorem entry (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh0 main_chain

/-- The line before the launch writes the row of the weights of the norm and nothing else. -/
theorem V_of_ne {b : Ref sig .tc} (h : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))

/-- The block of an array at a point. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point of a block of rows. -/
abbrev first (i : grid0.Coords) : Prop := k0_cond1 i = 1#1
theorem first_iff : ∀ t : Fin cfg0.N, first (grid0.coords t) ↔ t.val % 2 = 0 :=
  (by decide +kernel : ∀ t : Fin grid0.N, first (grid0.coords t) ↔ t.val % 2 = 0)

/-! ## The body at a point of either kind -/

-- the term the run leaves is large
set_option maxHeartbeats 1000000 in
/-- The first point of a block of rows: it writes the normalised rows twice, for the result and for itself, then the two products and the activation. -/
def start (i : grid0.Coords) {a2 : Memref sig .tc .vmem S512x1024 .f32} (h2 : a2.IsWhole) {a3 : Memref sig .tc .vmem S1x1024 .f32} (h3 : a3.IsWhole) {a4 : Memref sig .tc .vmem S1024x1408 .bf16} (h4 : a4.IsWhole) {a5 : Memref sig .tc .vmem S1024x1408 .bf16} (h5 : a5.IsWhole) {a6 : Memref sig .tc .vmem S512x1024 .bf16} (h6 : a6.IsWhole) {a7 : Memref sig .tc .vmem S2x512x1408 .bf16} (h7 : a7.IsWhole) {a8 : Memref sig .tc .vmem S512x1408 .bf16} (h8 : a8.IsWhole) {a9 : Memref sig .tc .vmem S512x1024 .bf16} (h9 : a9.IsWhole) (hc : first i)
    (x0 : Vec F S512x1024 .f32) (x1 : Vec F S1x1024 .f32) (x2 : Vec F S1024x1408 .bf16) (x3 : Vec F S1024x1408 .bf16) :
    Σ' (L5 : List (View.Piece (Elt F) S2x512x1408 .bf16)), Σ' (L6 : List (View.Piece (Elt F) S512x1408 .bf16)), Σ' (L4 : List (View.Piece (Elt F) S512x1024 .bf16)), { LS : List (View.Piece (Elt F) S512x1024 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f LS)) -∗ K ⟨⟩))
          ⊢ wp frame (wpE (defs₀ (F := F)) Variants.none c none) E (cc0_ffn_in i a2 h2 a3 h3 a4 h4 a5 h5 a6 h6 a7 h7 a8 h8 a9 h9) K } := by
  refine ⟨?_, ?_, ?_, ?_, fun E K => ?run⟩
  case run =>
    simp only [cc0_ffn_in_eq_skeleton]; unfold cc0_ffn_in_skel
    unfold owns
    iintro ⟨⟨%f0, %e0, H0⟩, ⟨%f1, %e1, H1⟩, ⟨%f2, %e2, H2⟩, ⟨%f3, %e3, H3⟩, ⟨%d4, %f4, -, H4⟩, ⟨%d5, %f5, -, H5⟩, ⟨%d6, %f6, -, H6⟩, ⟨%d9, %f9, -, H9⟩, Hk⟩
    obtain rfl := h2.eq_unread e0; obtain rfl := h3.eq_unread e1; obtain rfl := h4.eq_unread e2; obtain rfl := h5.eq_unread e3
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    iexists _; iexact H9

-- the term the run leaves is large
set_option maxHeartbeats 1000000 in
/-- The second point: it reads the normalised rows it was left and writes the two products and the activation. -/
def next (i : grid0.Coords) {a2 : Memref sig .tc .vmem S512x1024 .f32} (h2 : a2.IsWhole) {a3 : Memref sig .tc .vmem S1x1024 .f32} (h3 : a3.IsWhole) {a4 : Memref sig .tc .vmem S1024x1408 .bf16} (h4 : a4.IsWhole) {a5 : Memref sig .tc .vmem S1024x1408 .bf16} (h5 : a5.IsWhole) {a6 : Memref sig .tc .vmem S512x1024 .bf16} (h6 : a6.IsWhole) {a7 : Memref sig .tc .vmem S2x512x1408 .bf16} (h7 : a7.IsWhole) {a8 : Memref sig .tc .vmem S512x1408 .bf16} (h8 : a8.IsWhole) {a9 : Memref sig .tc .vmem S512x1024 .bf16} (h9 : a9.IsWhole) (hc : ¬first i)
    (x0 : Vec F S512x1024 .f32) (x1 : Vec F S1x1024 .f32) (x2 : Vec F S1024x1408 .bf16) (x3 : Vec F S1024x1408 .bf16) (x9 : Vec F S512x1024 .bf16) :
    Σ' (L5 : List (View.Piece (Elt F) S2x512x1408 .bf16)), { L6 : List (View.Piece (Elt F) S512x1408 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a7 fullShare d) ∗ (∃ d, owns (c : Thread nD τ) a8 fullShare d) ∗ owns (c : Thread nD τ) a9 fullShare x9
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ owns (c : Thread nD τ) a9 fullShare x9) -∗ K ⟨⟩))
          ⊢ wp frame (wpE (defs₀ (F := F)) Variants.none c none) E (cc0_ffn_in i a2 h2 a3 h3 a4 h4 a5 h5 a6 h6 a7 h7 a8 h8 a9 h9) K } := by
  refine ⟨?_, ?_, fun E K => ?run⟩
  case run =>
    simp only [cc0_ffn_in_eq_skeleton]; unfold cc0_ffn_in_skel
    unfold owns
    iintro ⟨⟨%f0, %e0, H0⟩, ⟨%f1, %e1, H1⟩, ⟨%f2, %e2, H2⟩, ⟨%f3, %e3, H3⟩, ⟨%d5, %f5, -, H5⟩, ⟨%d6, %f6, -, H6⟩, ⟨%f9, %e9, H9⟩, Hk⟩
    obtain rfl := h2.eq_unread e0; obtain rfl := h3.eq_unread e1; obtain rfl := h4.eq_unread e2; obtain rfl := h5.eq_unread e3; obtain rfl := h9.eq_unread e9
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H5]; · iexists _; iexact H5
    isplitl [H6]; · iexists _; iexact H6
    iexists _; isplitr; · ipureintro; exact h9.read_unread _
    iexact H9

/-! ## The buffers at a point -/

abbrev b0 (t : Fin cfg0.N) : Memref sig .tc .vmem S512x1024 .f32 := win0_0.stage (cfg0.slots t 0)
theorem w0 (t : Fin cfg0.N) : (b0 t).IsWhole := hstage0_0 ((cfg0.slots t 0).cast nbuf0_0)
abbrev b1 (t : Fin cfg0.N) : Memref sig .tc .vmem S1x1024 .f32 := win0_1.stage (cfg0.slots t 1)
theorem w1 (t : Fin cfg0.N) : (b1 t).IsWhole := hstage0_1 ((cfg0.slots t 1).cast nbuf0_1)
abbrev b2 (t : Fin cfg0.N) : Memref sig .tc .vmem S1024x1408 .bf16 := win0_2.stage (cfg0.slots t 2)
theorem w2 (t : Fin cfg0.N) : (b2 t).IsWhole := hstage0_2 ((cfg0.slots t 2).cast nbuf0_2)
abbrev b3 (t : Fin cfg0.N) : Memref sig .tc .vmem S1024x1408 .bf16 := win0_3.stage (cfg0.slots t 3)
theorem w3 (t : Fin cfg0.N) : (b3 t).IsWhole := hstage0_3 ((cfg0.slots t 3).cast nbuf0_3)
abbrev b4 (t : Fin cfg0.N) : Memref sig .tc .vmem S512x1024 .bf16 := win0_4.stage (cfg0.slots t 4)
theorem w4 (t : Fin cfg0.N) : (b4 t).IsWhole := hstage0_4 ((cfg0.slots t 4).cast nbuf0_4)
abbrev b5 (t : Fin cfg0.N) : Memref sig .tc .vmem S2x512x1408 .bf16 := win0_5.stage (cfg0.slots t 5)
theorem w5 (t : Fin cfg0.N) : (b5 t).IsWhole := hstage0_5 ((cfg0.slots t 5).cast nbuf0_5)
abbrev b6 (t : Fin cfg0.N) : Memref sig .tc .vmem S512x1408 .bf16 := win0_6.stage (cfg0.slots t 6)
theorem w6 (t : Fin cfg0.N) : (b6 t).IsWhole := hstage0_6 ((cfg0.slots t 6).cast nbuf0_6)
/-- The kernel's own buffer. -/
abbrev own : Memref sig .tc .vmem S512x1024 .bf16 := Memref.whole cc0_scratch0
theorem wown : own.IsWhole := Memref.isWhole_whole _

theorem launch_inv : (Pipeline.ΦA spec0 c : sProp 𝕄) = iprop(iprop((∃ d, owns (c : Thread nD τ) own fullShare d)) ∗ (∃ r, prngReg c r)) := by
  unfold Pipeline.ΦA; rw [scopedRest0_eq]; simp only [own, owns_whole]; rfl

/-- The two runs at a point's buffers and blocks. -/
abbrev startAt (t : Fin cfg0.N) (h : t.val % 2 = 0) :=
  start (F := F) c (grid0.coords t) (w0 t) (w1 t) (w2 t) (w3 t) (w4 t) (w5 t) (w6 t) wown ((first_iff t).mpr h) (iblk m c 0 t) (iblk m c 1 t) (iblk m c 2 t) (iblk m c 3 t)
abbrev nextAt (t : Fin cfg0.N) (h : ¬t.val % 2 = 0) (x9 : Vec F S512x1024 .bf16) :=
  next (F := F) c (grid0.coords t) (w0 t) (w1 t) (w2 t) (w3 t) (w4 t) (w5 t) (w6 t) wown (fun h' => h ((first_iff t).mp h')) (iblk m c 0 t) (iblk m c 1 t) (iblk m c 2 t) (iblk m c 3 t) x9

/-! The stores of a point fill each buffer they touch. -/

theorem fills_start5 (t : Fin cfg0.N) (h : t.val % 2 = 0) (y : S2x512x1408.Idx) : ∃ pc ∈ (startAt m c t h).1, y ∈ pc.1.set :=
  View.cover_of_tiledL (startAt m c t h).1 S1x512x1408.size (by sl_kernel_rfl) y
theorem fills_start6 (t : Fin cfg0.N) (h : t.val % 2 = 0) (y : S512x1408.Idx) : ∃ pc ∈ (startAt m c t h).2.1, y ∈ pc.1.set :=
  View.cover_of_tiledL (startAt m c t h).2.1 S512x1408.size (by sl_kernel_rfl) y
theorem fills_start4 (t : Fin cfg0.N) (h : t.val % 2 = 0) (y : S512x1024.Idx) : ∃ pc ∈ (startAt m c t h).2.2.1, y ∈ pc.1.set :=
  View.cover_of_tiledL (startAt m c t h).2.2.1 S512x1024.size (by sl_kernel_rfl) y
theorem fills_start9 (t : Fin cfg0.N) (h : t.val % 2 = 0) (y : S512x1024.Idx) : ∃ pc ∈ (startAt m c t h).2.2.2.1, y ∈ pc.1.set :=
  View.cover_of_tiledL (startAt m c t h).2.2.2.1 S512x1024.size (by sl_kernel_rfl) y
theorem fills_next5 (t : Fin cfg0.N) (h : ¬t.val % 2 = 0) (x9 : Vec F S512x1024 .bf16) (y : S2x512x1408.Idx) : ∃ pc ∈ (nextAt m c t h x9).1, y ∈ pc.1.set :=
  View.cover_of_tiledL (nextAt m c t h x9).1 S1x512x1408.size (by sl_kernel_rfl) y
theorem fills_next6 (t : Fin cfg0.N) (h : ¬t.val % 2 = 0) (x9 : Vec F S512x1024 .bf16) (y : S512x1408.Idx) : ∃ pc ∈ (nextAt m c t h x9).2.1, y ∈ pc.1.set :=
  View.cover_of_tiledL (nextAt m c t h x9).2.1 S512x1408.size (by sl_kernel_rfl) y

/-! A buffer of each kind, to read the stores through. -/
abbrev O4 : View sig .tc .vmem S512x1024 .bf16 := (Memref.whole cc0_stg4_0 : Memref sig .tc .vmem S512x1024 .bf16).view
abbrev O5 : View sig .tc .vmem S2x512x1408 .bf16 := (Memref.whole cc0_stg5_0 : Memref sig .tc .vmem S2x512x1408 .bf16).view
abbrev O6 : View sig .tc .vmem S512x1408 .bf16 := (Memref.whole cc0_stg6_0 : Memref sig .tc .vmem S512x1408 .bf16).view
abbrev O9 : View sig .tc .vmem S512x1024 .bf16 := own.view

/-- What a point leaves: the normalised rows, the products, the activation, the kernel's own copy of the rows. -/
structure Left (F : FTy → Type) where
  hn : Vec F S512x1024 .bf16
  gu : Vec F S2x512x1408 .bf16
  act : Vec F S512x1408 .bf16
  cp : Vec F S512x1024 .bf16

def leftStart (t : Fin cfg0.N) (h : t.val % 2 = 0) : Left F where
  hn := O4.read (Elt F) (O4.writes (Elt F) O4.junk (startAt m c t h).2.2.1)
  gu := O5.read (Elt F) (O5.writes (Elt F) O5.junk (startAt m c t h).1)
  act := O6.read (Elt F) (O6.writes (Elt F) O6.junk (startAt m c t h).2.1)
  cp := O9.read (Elt F) (O9.writes (Elt F) O9.junk (startAt m c t h).2.2.2.1)

def leftNext (t : Fin cfg0.N) (h : ¬t.val % 2 = 0) (p : Left F) : Left F where
  hn := p.hn
  gu := O5.read (Elt F) (O5.writes (Elt F) O5.junk (nextAt m c t h p.cp).1)
  act := O6.read (Elt F) (O6.writes (Elt F) O6.junk (nextAt m c t h p.cp).2.1)
  cp := p.cp

theorem leftNext_hn (t : Fin cfg0.N) (h : ¬t.val % 2 = 0) (p : Left F) : (leftNext m c t h p).hn = p.hn := by unfold leftNext; dsimp only

/-- The point before one that is not the first of its block of rows. -/
abbrev prev (t : Fin cfg0.N) : Fin cfg0.N := ⟨t.val - 1, Nat.lt_of_le_of_lt (Nat.sub_le _ _) t.isLt⟩
theorem prev_even {t : Fin cfg0.N} (h : ¬t.val % 2 = 0) : (prev t).val % 2 = 0 := by
  show (t.val - 1) % 2 = 0
  omega

def left (t : Fin cfg0.N) : Left F :=
  if h : t.val % 2 = 0 then leftStart m c t h else leftNext m c t h (leftStart m c (prev t) (prev_even h))
theorem left_start (t : Fin cfg0.N) (h : t.val % 2 = 0) : left m c t = leftStart m c t h := dif_pos h
theorem left_next (t : Fin cfg0.N) (h : ¬t.val % 2 = 0) : left m c t = leftNext m c t h (left m c (prev t)) := by
  rw [left_start m c (prev t) (prev_even h)]; exact dif_neg h

/-- Between the points: the kernel's own buffer as the last point left it. -/
def inv : (n : ℕ) → n ≤ cfg0.N → sProp 𝕄
  | 0, _ => Pipeline.ΦA spec0 c
  | n + 1, hn => iprop(iprop(owns (c : Thread nD τ) own fullShare (left m c ⟨n, hn⟩).cp) ∗ (∃ r, prngReg c r))

theorem inv_zero (n : ℕ) (h : n ≤ cfg0.N) (hz : n = 0) : inv m c n h = Pipeline.ΦA spec0 c := by
  subst hz; rfl
theorem inv_succ (n : ℕ) (hn : n < cfg0.N) :
    inv m c (n + 1) hn = iprop(iprop(owns (c : Thread nD τ) own fullShare (left m c ⟨n, hn⟩).cp) ∗ (∃ r, prngReg c r)) := rfl
theorem inv_pos (n : ℕ) (h : n ≤ cfg0.N) (hz : n ≠ 0) :
    inv m c n h = iprop(iprop(owns (c : Thread nD τ) own fullShare (left m c ⟨n - 1, by omega⟩).cp) ∗ (∃ r, prngReg c r)) := by
  cases n with
  | zero => exact absurd rfl hz
  | succ n => rfl

/-- The data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (left m c t).hn
    | ⟨5, _⟩ => (left m c t).gu
    | ⟨6, _⟩ => (left m c t).act
  Φ t := inv m c t.val (Nat.le_of_lt_succ t.isLt)
  q w := Pipeline.shareOf spec0 w
  owed _ := 0

theorem A_eq (w : Fin cfg0.W) : (dats m 0 c).A w = V m c (Pipeline.arrRef spec0 w) := by dsimp only [dats]
theorem inv_at (t : Fin cfg0.N) : (dats m 0 c).Φ t.castSucc = inv m c t.val (Nat.le_of_lt t.isLt) := by
  dsimp only [dats]; exact Pipeline.Dat.Φ_castSucc (inv m c) t

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = (left m c t).hn := by dsimp only [dats]
theorem after5 (t : Fin cfg0.N) : (dats m 0 c).after 5 t = (left m c t).gu := by dsimp only [dats]
theorem after6 (t : Fin cfg0.N) : (dats m 0 c).after 6 t = (left m c t).act := by dsimp only [dats]

theorem before0 (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; rfl)
theorem before1 (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; rfl)
theorem before2 (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; rfl)
theorem before3 (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; rfl)

/-! ## The normalised rows: written at the first point of a block of rows, kept and written back at the second -/

theorem busy4 : ∀ t : Fin cfg0.N, t.val % 2 = 0 → cfg0.idle 4 (grid0.coords t) = false := by decide +kernel
theorem idle4 : ∀ t : Fin cfg0.N, ¬t.val % 2 = 0 → cfg0.idle 4 (grid0.coords t) = true := by decide +kernel
theorem back4 : ∀ t : Fin cfg0.N, ¬t.val % 2 = 0 → (cfg0.win 4).flush t = true := by decide +kernel

/-- Whether nothing was written since the last write-back: so before an even point, and not before an odd one. -/
def freshTab (n : ℕ) : Bool := n % 2 == 0
theorem freshTab_step : ∀ t : Fin cfg0.N,
    freshTab (t.val + 1) = ((cfg0.win 4).flush t || (cfg0.idle 4 (cfg0.grid.coords t) && freshTab t.val)) := by decide +kernel
theorem fresh4 (t : Fin cfg0.N) : cfg0.fresh 4 t.val = freshTab t.val :=
  Pipeline.Cfg.fresh_tab cfg0 4 freshTab rfl freshTab_step t.val (Nat.le_of_lt t.isLt)

theorem carry4 : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  rw [after4, after4]
  by_cases h : t.val % 2 = 0
  · rw [busy4 t h] at hi; exact absurd hi Bool.false_ne_true
  · rw [left_next m c t h, leftNext_hn]

theorem before4 (t : Fin cfg0.N) (h : ¬t.val % 2 = 0) (d) : (dats m 0 c).before 4 t d = (left m c t).hn := by
  have hf : cfg0.fresh 4 t.val = false := by rw [fresh4]; simpa [freshTab] using h
  rw [Dat.before_out_traj _ 4 rfl (fun _ _ => rfl) (carry4 m c) t.val t rfl d, if_neg (by rw [hf]; exact Bool.false_ne_true), after4,
    left_next m c t h, leftNext_hn]

theorem leaves4 (t : Fin cfg0.N) : (dats m 0 c).leavesExact 4 t = owns (c : Thread nD τ) (b4 t) fullShare (left m c t).hn := by
  unfold Dat.leavesExact
  by_cases h : t.val % 2 = 0
  · rw [busy4 t h, after4]
  · rw [idle4 t h, back4 t h, after4]

theorem leaves0 (t : Fin cfg0.N) : (dats m 0 c).leavesExact 0 t = owns (c : Thread nD τ) (b0 t) fullShare (iblk m c 0 t) := by
  unfold Dat.leavesExact; rw [show cfg0.idle 0 (cfg0.grid.coords t) = false from rfl, after0]
theorem leaves1 (t : Fin cfg0.N) : (dats m 0 c).leavesExact 1 t = owns (c : Thread nD τ) (b1 t) fullShare (iblk m c 1 t) := by
  unfold Dat.leavesExact; rw [show cfg0.idle 1 (cfg0.grid.coords t) = false from rfl, after1]
theorem leaves2 (t : Fin cfg0.N) : (dats m 0 c).leavesExact 2 t = owns (c : Thread nD τ) (b2 t) fullShare (iblk m c 2 t) := by
  unfold Dat.leavesExact; rw [show cfg0.idle 2 (cfg0.grid.coords t) = false from rfl, after2]
theorem leaves3 (t : Fin cfg0.N) : (dats m 0 c).leavesExact 3 t = owns (c : Thread nD τ) (b3 t) fullShare (iblk m c 3 t) := by
  unfold Dat.leavesExact; rw [show cfg0.idle 3 (cfg0.grid.coords t) = false from rfl, after3]
theorem leaves5 (t : Fin cfg0.N) : (dats m 0 c).leavesExact 5 t = owns (c : Thread nD τ) (b5 t) fullShare ((left m c t).gu) := by
  unfold Dat.leavesExact; rw [show cfg0.idle 5 (cfg0.grid.coords t) = false from rfl, after5]
theorem leaves6 (t : Fin cfg0.N) : (dats m 0 c).leavesExact 6 t = owns (c : Thread nD τ) (b6 t) fullShare ((left m c t).act) := by
  unfold Dat.leavesExact; rw [show cfg0.idle 6 (cfg0.grid.coords t) = false from rfl, after6]

/-! ## The body, at any point -/

def bodyPre (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d)))
def bodyPost (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- Before any point the kernel's own buffer holds something. -/
theorem inv_any (n : ℕ) (h : n ≤ cfg0.N) :
    inv m c n h ⊢ iprop((∃ d, owns (c : Thread nD τ) own fullShare d) ∗ (∃ r, prngReg c r)) := by
  by_cases hz : n = 0
  · rw [inv_zero m c n h hz, launch_inv]
  · rw [inv_pos m c n h hz]
    iintro ⟨H, Hg⟩
    isplitl [H]; · iexists _; iexact H
    iexact Hg

set_option maxHeartbeats 6400000 in
theorem body_start (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [leaves0, leaves1, leaves2, leaves3, leaves4, leaves5, leaves6, inv_at,
    show (dats m 0 c).owesAt () t.succ = (dats m 0 c).owesAt () t.castSucc from rfl,
    show (dats m 0 c).Φ t.succ = inv m c (t.val + 1) t.isLt from rfl, inv_succ, left_start m c t h]
  unfold leftStart; dsimp only
  iintro ⟨HI, Ho, ⟨%d0, H0⟩, ⟨%d1, H1⟩, ⟨%d2, H2⟩, ⟨%d3, H3⟩, ⟨%d4, H4⟩, ⟨%d5, H5⟩, ⟨%d6, H6⟩⟩
  icases (inv_any m c t.val (Nat.le_of_lt t.isLt)) $$ HI with ⟨H9, Hg⟩
  iapply ((startAt m c t h).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H9]; · iexact H9
  iintro ⟨H0, H1, H2, H3, ⟨%e4, H4⟩, ⟨%e5, H5⟩, ⟨%e6, H6⟩, ⟨%e9, H9⟩⟩
  isplitl [H9 Hg]
  · isplitl [H9]
    · unfold owns; iexists _; isplitr
      swap; · iexact H9
      ipureintro; exact View.read_writes_of_cover _ _ _ _ _ (fills_start9 m c t h)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (fills_start4 m c t h)
  isplitl [H5]
  · unfold owns; iexists _; isplitr
    swap; · iexact H5
    ipureintro; exact View.read_writes_of_cover _ _ _ _ _ (fills_start5 m c t h)
  unfold owns; iexists _; isplitr
  swap; · iexact H6
  ipureintro; exact View.read_writes_of_cover _ _ _ _ _ (fills_start6 m c t h)

set_option maxHeartbeats 6400000 in
theorem body_next (t : Fin cfg0.N) (h : ¬t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3, before4 m c t h]
  rw [leaves0, leaves1, leaves2, leaves3, leaves4, leaves5, leaves6, inv_at, inv_pos m c t.val _ (fun e => h (by rw [e])),
    show (dats m 0 c).owesAt () t.succ = (dats m 0 c).owesAt () t.castSucc from rfl,
    show (dats m 0 c).Φ t.succ = inv m c (t.val + 1) t.isLt from rfl, inv_succ, left_next m c t h]
  unfold leftNext; dsimp only
  iintro ⟨⟨H9, Hg⟩, Ho, ⟨%d0, H0⟩, ⟨%d1, H1⟩, ⟨%d2, H2⟩, ⟨%d3, H3⟩, ⟨%d4, H4⟩, ⟨%d5, H5⟩, ⟨%d6, H6⟩⟩
  iapply ((nextAt m c t h (left m c (prev t)).cp).2.2 Set.univ _)
  isplitl [H0]; · iexact H0
  isplitl [H1]; · iexact H1
  isplitl [H2]; · iexact H2
  isplitl [H3]; · iexact H3
  isplitl [H5]; · iexists _; iexact H5
  isplitl [H6]; · iexists _; iexact H6
  isplitl [H9]; · iexact H9
  iintro ⟨H0, H1, H2, H3, ⟨%e5, H5⟩, ⟨%e6, H6⟩, H9⟩
  isplitl [H9 Hg]
  · isplitl [H9]; · iexact H9
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (fills_next5 m c t h _)
  unfold owns; iexists _; isplitr
  swap; · iexact H6
  ipureintro; exact View.read_writes_of_cover _ _ _ _ _ (fills_next6 m c t h _)

theorem body (t : Fin cfg0.N) :
    bodyPre m c t ⊢ wp frame (wpE (defs₀ (F := F)) Variants.none c none) Set.univ (bodyAt0 t) (fun _ => bodyPost m c t) := by
  by_cases h : t.val % 2 = 0
  · exact body_start m c t h
  · exact body_next m c t h

theorem row (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, row]
  exact triple_restated (body m c t) rfl .rfl fun _ => .rfl

theorem inv_in : Pipeline.ΦA spec0 c ⊢ (dats m 0 c).Φ 0 := by
  rw [show (dats m 0 c).Φ 0 = inv m c 0 (Nat.zero_le _) from rfl, inv_zero m c 0 _ rfl]

theorem inv_out : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl, launch_inv]
  exact inv_any m c _ _

/-! ## The run -/

set_option backward.isDefEq.respectTransparency.types false in
/-- Every run ends, with the arrays as the data says and the counters at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := entry m Variants.none) (hA := A_eq m) (hin := inv_in m) (hout := inv_out m)

/-- The three results of a run, and its arguments as they were. -/
theorem run_blocks : θ_run defs (onTc (τ := τ) (main (F := F))) ⟨m, fun _ => 0, ρ⟩ fun r => (∀ c : Dev nD,
      (r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_v1_2) = (dats m 0 c).arrAt 6 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0 :=
  (θ_run defs _ _).mono (fun r h => ⟨fun c => ⟨⟨(h.1 c).1 4, (h.1 c).1 5, (h.1 c).1 6⟩,
      ((h.1 c).1 0).trans (((dats m 0 c).arrAt_in 0 rfl _).trans ((A_eq m c 0).trans (V_of_ne m c (by decide)))),
      ((h.1 c).2 main_arg1 (Pipeline.mem_restRefs_of main_arg1 (by decide) (by decide))).trans (V_of_ne m c (by decide)),
      ((h.1 c).1 3).trans (((dats m 0 c).arrAt_in 3 rfl _).trans ((A_eq m c 3).trans (V_of_ne m c (by decide))))⟩, h.2⟩)
    (run_main m ρ)

theorem run_kept : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => (h.1 c).2, h.2⟩) (run_blocks m ρ)

theorem frame_ideal : Cert.quiescent_Kernel6Ideal := fun m ρ _ => run_kept m ρ

/-! The program over the machine's floats has the same text. -/
theorem bodies_eq : Cert.Kernel6.defs₀ (F := Bits) = Cert.Kernel6Ideal.defs₀ (F := Bits) := by
  funext κ ℓ x
  match κ, ℓ, x with
  | .tc, ⟨0, _⟩, (t, s) => exact rfl
  | .scScalar _, ℓ, x => exact rfl
  | .scVector _ _, ℓ, x => exact rfl
theorem defs_eq : Cert.Kernel6.defs (F := Bits) = Cert.Kernel6Ideal.defs (F := Bits) :=
  congrArg (Pipeline.defs Cert.Kernel6Ideal.pcfgs) bodies_eq

theorem frame_kernel : Cert.quiescent_Kernel6 := fun m ρ _ => by
  rw [defs_eq]
  exact run_kept (F := Bits) m ρ

end Cert.V6

end
-- ==== Proof.Ext.lean ====
/- Arrays of extended reals as functions of their coordinates, and the sums of a product taken by blocks. -/
module

public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.Ext

open Idealize.ShloMosaic

/-- A matrix given by its entries. -/
def eV {n m : ℕ} {φ : FTy} (f : ℕ → ℕ → EReal) : FVec Ideal ⟨2, ![n, m]⟩ φ := fun x => f (x 0).val (x 1).val

/-- A stack of matrices given by its entries. -/
def eT {l n m : ℕ} {φ : FTy} (f : ℕ → ℕ → ℕ → EReal) : FVec Ideal ⟨3, ![l, n, m]⟩ φ := fun x => f (x 0).val (x 1).val (x 2).val

/-- A vector given by its entries. -/
def eL {n : ℕ} {φ : FTy} (f : ℕ → EReal) : FVec Ideal ⟨1, ![n]⟩ φ := fun x => f (x 0).val

theorem exL {n : ℕ} {φ : FTy} (A : FVec Ideal ⟨1, ![n]⟩ φ) : ∃ f, A = eL f := by
  refine ⟨fun i => if h : i < n then A (ix1 ⟨i, h⟩) else 0, funext fun x => ?_⟩
  show A x = dite ((x 0).val < n) (fun h => A (ix1 ⟨_, h⟩)) fun _ => 0
  rw [dif_pos (show (x 0).val < n from (x 0).isLt)]
  refine congrArg A (funext fun a => ?_)
  match a with
  | ⟨0, _⟩ => rfl

theorem exV {n m : ℕ} {φ : FTy} (A : FVec Ideal ⟨2, ![n, m]⟩ φ) : ∃ f, A = eV f := by
  refine ⟨fun i j => if h : i < n ∧ j < m then A (ix2 ⟨i, h.1⟩ ⟨j, h.2⟩) else 0, funext fun x => ?_⟩
  show A x = dite ((x 0).val < n ∧ (x 1).val < m) (fun h => A (ix2 ⟨_, h.1⟩ ⟨_, h.2⟩)) fun _ => 0
  rw [dif_pos (show (x 0).val < n ∧ (x 1).val < m from ⟨(x 0).isLt, (x 1).isLt⟩)]
  refine congrArg A (funext fun a => ?_)
  match a with
  | ⟨0, _⟩ => rfl
  | ⟨1, _⟩ => rfl

theorem exT {l n m : ℕ} {φ : FTy} (A : FVec Ideal ⟨3, ![l, n, m]⟩ φ) : ∃ f, A = eT f := by
  refine ⟨fun p i j => if h : p < l ∧ i < n ∧ j < m then A (ix3 ⟨p, h.1⟩ ⟨i, h.2.1⟩ ⟨j, h.2.2⟩) else 0, funext fun x => ?_⟩
  show A x = dite ((x 0).val < l ∧ (x 1).val < n ∧ (x 2).val < m) (fun h => A (ix3 ⟨_, h.1⟩ ⟨_, h.2.1⟩ ⟨_, h.2.2⟩)) fun _ => 0
  rw [dif_pos (show (x 0).val < l ∧ (x 1).val < n ∧ (x 2).val < m from ⟨(x 0).isLt, (x 1).isLt, (x 2).isLt⟩)]
  refine congrArg A (funext fun a => ?_)
  match a with
  | ⟨0, _⟩ => rfl
  | ⟨1, _⟩ => rfl
  | ⟨2, _⟩ => rfl

theorem ext_e {n m : ℕ} {φ : FTy} (f g : ℕ → ℕ → EReal) (h : ∀ i < n, ∀ j < m, f i j = g i j) :
    (eV f : FVec Ideal ⟨2, ![n, m]⟩ φ) = eV g :=
  funext fun x => h _ (x 0).isLt _ (x 1).isLt

/-- A sum whose terms come in blocks of `T`. -/
theorem sum_blocks (T : ℕ) (f : ℕ → EReal) : ∀ K : ℕ, ∑ k ∈ Finset.range K, ∑ s ∈ Finset.range T, f (T * k + s) = ∑ s ∈ Finset.range (T * K), f s
  | 0 => by simp
  | K + 1 => by rw [Finset.sum_range_succ (fun k => ∑ s ∈ Finset.range T, f (T * k + s)), sum_blocks T f K, Nat.mul_succ, Finset.sum_range_add]

/-- A number that is real and not negative goes into a sum. -/
theorem mul_sum_e {c : EReal} (h0 : 0 ≤ c) (h1 : c ≠ ⊤) (f : ℕ → EReal) (s : Finset ℕ) : c * ∑ k ∈ s, f k = ∑ k ∈ s, c * f k := by
  induction s using Finset.induction_on with
  | empty => simp
  | insert a s ha ih => rw [Finset.sum_insert ha, Finset.sum_insert ha, EReal.left_distrib_of_nonneg_of_ne_top h0 h1, ih]

theorem lit_half : Ideal.ofBits .f32 0x3F000000#32 = ((1 / 2 : ℝ) : EReal) := by
  simp [Ideal.ofBits, Ideal.ieee, -EReal.coe_mul]; norm_num

end Cert.Ext

end
-- ==== Proof.Dgu2.lean ====
/- The gradient of the gate and the up projection of the feed-forward layer: what the kernel leaves is the reference's array. -/
module

public import proofs.«01_k».proof.Defs
public import proofs.«01_k».proof.Proof.Ext
public import proofs.«01_k».proof.Proof.Gen.Kernel2Ideal.Value
public import proofs.«01_k».proof.Proof.Gen.Reference2Ideal.Run
public import Idealize.ShloMosaic.Lib.Pipeline.ReadBack

@[expose] public section

set_option maxRecDepth 16384

noncomputable section

namespace Cert.V2

open Cert.Ext Idealize.ShloMosaic Idealize.ShloMosaic.TcCoe Finset

/-- The logistic function. -/
def sg (x : EReal) : EReal := Ideal.div 1 (1 + Ideal.exp (-x))

/-- The two gradients of one entry: of the gate, of the up projection. -/
def gate (x u w : EReal) : EReal := w * u * sg x + x * (w * u) * (sg x * (1 - sg x))
def up (x w : EReal) : EReal := x * sg x * w

/-- The derivative of the logistic function, as the kernel takes it. -/
theorem gate_eq (x v : EReal) :
    0 - (0 - x * v * Ideal.div 1 ((1 + Ideal.exp (-x)) * (1 + Ideal.exp (-x)))) * Ideal.exp (-x) = x * v * (sg x * (1 - sg x)) := by
  induction x using EReal.rec with
  | bot =>
    have e : (1 : EReal) + ⊤ = ⊤ := EReal.coe_add_top 1
    have h : sg ⊥ = 0 := by simp [sg, Ideal.div, e]
    rw [h]
    simp [Ideal.div, e]
  | top =>
    have e : (1 : EReal) - 1 = 0 := by rw [← EReal.coe_one, ← EReal.coe_sub, sub_self, EReal.coe_zero]
    have h : sg ⊤ = 1 := by simp [sg, Ideal.div]
    rw [h]
    simp [Ideal.div, e]
  | coe r =>
    have hy : (1 + Real.exp (-r)) ≠ 0 := by positivity
    have hz : (1 + Real.exp (-r)) * (1 + Real.exp (-r)) ≠ 0 := mul_ne_zero hy hy
    have e1 : (1 : EReal) + Ideal.exp (-(r : EReal)) = ((1 + Real.exp (-r) : ℝ) : EReal) := by
      rw [← EReal.coe_neg, Ideal.exp_coe, EReal.coe_add, EReal.coe_one]
    have e2 : sg r = ((1 / (1 + Real.exp (-r)) : ℝ) : EReal) := by
      unfold sg; rw [e1, Ideal.div_coe hy, one_mul]
    rw [e2, e1, ← EReal.coe_mul, Ideal.div_coe hz, one_mul, ← EReal.coe_neg, Ideal.exp_coe, zero_sub, zero_sub, EReal.neg_mul, neg_neg, mul_assoc (_ * v)]
    refine congrArg _ ?_
    rw [← EReal.coe_one, ← EReal.coe_sub, ← EReal.coe_mul, ← EReal.coe_mul]
    refine congrArg _ ?_
    field_simp
    ring

/-- The two gradients, at the places of the arrays. -/
def both (G : ℕ → ℕ → ℕ → EReal) (W H : ℕ → ℕ → EReal) (p i j : ℕ) : EReal :=
  if p < 1 then gate (G 0 i j) (G 1 i j) (((1 / 2 : ℝ) : EReal) * ∑ k ∈ range 1024, H i k * W j k)
  else up (G 0 i j) (((1 / 2 : ℝ) : EReal) * ∑ k ∈ range 1024, H i k * W j k)

section
open Cert.Reference2Ideal Cert.Reference2Ideal.Gen

/-- The reference's result. -/
theorem ref (G : ℕ → ℕ → ℕ → EReal) (W H : ℕ → ℕ → EReal) : (truncf .bf16 (concatenate S2x8192x2816 0 [⟨S1x8192x2816, (broadcastInDim S1x8192x2816 ![1, 2] bcast_S8192x2816_S1x8192x2816_1_2 (addf (mulf (mulf (Host.dotGeneral (F := Ideal) dot_S8192x1024_S2816x1024_S8192x2816_1_1_0_0_n_n none (mulf (broadcastInDim S8192x1024 ![] bcast_S_S8192x1024 (constant S_ .f32 0x3F000000#32)) (eV H : FVec Ideal S8192x1024 .f32)) (extf .f32 (eV W : FVec Ideal S2816x1024 .bf16) bitsLt_bf16_f32)) (shapeCast _ (extractStridedSlice S1x8192x2816 ![1, 0, 0] (extf .f32 (eT G : FVec Ideal S2x8192x2816 .bf16) bitsLt_bf16_f32) slices_S2x8192x2816_S1x8192x2816_1_0_0) shapeCasts_S1x8192x2816_S8192x2816)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (shapeCast _ (extractStridedSlice S1x8192x2816 ![0, 0, 0] (extf .f32 (eT G : FVec Ideal S2x8192x2816 .bf16) bitsLt_bf16_f32) slices_S2x8192x2816_S1x8192x2816_0_0_0) shapeCasts_S1x8192x2816_S8192x2816)))))) (mulf (mulf (shapeCast _ (extractStridedSlice S1x8192x2816 ![0, 0, 0] (extf .f32 (eT G : FVec Ideal S2x8192x2816 .bf16) bitsLt_bf16_f32) slices_S2x8192x2816_S1x8192x2816_0_0_0) shapeCasts_S1x8192x2816_S8192x2816) (mulf (Host.dotGeneral (F := Ideal) dot_S8192x1024_S2816x1024_S8192x2816_1_1_0_0_n_n none (mulf (broadcastInDim S8192x1024 ![] bcast_S_S8192x1024 (constant S_ .f32 0x3F000000#32)) (eV H : FVec Ideal S8192x1024 .f32)) (extf .f32 (eV W : FVec Ideal S2816x1024 .bf16) bitsLt_bf16_f32)) (shapeCast _ (extractStridedSlice S1x8192x2816 ![1, 0, 0] (extf .f32 (eT G : FVec Ideal S2x8192x2816 .bf16) bitsLt_bf16_f32) slices_S2x8192x2816_S1x8192x2816_1_0_0) shapeCasts_S1x8192x2816_S8192x2816))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (shapeCast _ (extractStridedSlice S1x8192x2816 ![0, 0, 0] (extf .f32 (eT G : FVec Ideal S2x8192x2816 .bf16) bitsLt_bf16_f32) slices_S2x8192x2816_S1x8192x2816_0_0_0) shapeCasts_S1x8192x2816_S8192x2816))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (shapeCast _ (extractStridedSlice S1x8192x2816 ![0, 0, 0] (extf .f32 (eT G : FVec Ideal S2x8192x2816 .bf16) bitsLt_bf16_f32) slices_S2x8192x2816_S1x8192x2816_0_0_0) shapeCasts_S1x8192x2816_S8192x2816))))))))))⟩, ⟨S1x8192x2816, (broadcastInDim S1x8192x2816 ![1, 2] bcast_S8192x2816_S1x8192x2816_1_2 (mulf (mulf (shapeCast _ (extractStridedSlice S1x8192x2816 ![0, 0, 0] (extf .f32 (eT G : FVec Ideal S2x8192x2816 .bf16) bitsLt_bf16_f32) slices_S2x8192x2816_S1x8192x2816_0_0_0) shapeCasts_S1x8192x2816_S8192x2816) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (shapeCast _ (extractStridedSlice S1x8192x2816 ![0, 0, 0] (extf .f32 (eT G : FVec Ideal S2x8192x2816 .bf16) bitsLt_bf16_f32) slices_S2x8192x2816_S1x8192x2816_0_0_0) shapeCasts_S1x8192x2816_S8192x2816)))))) (Host.dotGeneral (F := Ideal) dot_S8192x1024_S2816x1024_S8192x2816_1_1_0_0_n_n none (mulf (broadcastInDim S8192x1024 ![] bcast_S_S8192x1024 (constant S_ .f32 0x3F000000#32)) (eV H : FVec Ideal S8192x1024 .f32)) (extf .f32 (eV W : FVec Ideal S2816x1024 .bf16) bitsLt_bf16_f32))))⟩] concatenates_S1x8192x2816_S1x8192x2816_S2x8192x2816_d0) bitsLt_bf16_f32 : FVec Ideal S2x8192x2816 .bf16)
      = eT (both G W H) := by
  funext x; idx_vars x; pointwise [eV, eT]
  unfold both gate up sg
  rw [mul_sum_e (EReal.coe_nonneg.mpr (by norm_num)) (EReal.coe_ne_top _), sum_range, lit_half]
  simp only [mul_assoc (((1 / 2 : ℝ) : EReal))]
  rfl

end

open Cert.Kernel2Ideal Cert.Kernel2Ideal.Gen

/-- A block of the result. -/
theorem pay (f g : ℕ → ℕ → EReal) (u : ℕ → ℕ → ℕ → EReal) :
    k0_pay4 (F := Ideal) (k0_pay2 (F := Ideal) (eV (φ := .f32) f) (eV (φ := .bf16) g)) (eT (φ := .bf16) u) = eT (both u g f) := by
  funext x; idx_vars x; pointwise [k0_pay4, k0_pay2, k0_pay1, eV, eT]
  rw [lit_half, ← sum_range (fun k => f x1.val k * g x2.val k)]
  simp only [zero_sub (u 0 x1.val x2.val)]
  rw [gate_eq]
  rfl

variable (m : (ℓ : Loc nD τ sig) → Buf (Elt Ideal) ℓ) (c : Dev nD) (G : ℕ → ℕ → ℕ → EReal) (W H : ℕ → ℕ → EReal)
  (hG : m ((c : Thread nD τ).loc main_arg0) = eT (l := 2) (n := 8192) (m := 2816) (φ := .bf16) G)
  (hW : m ((c : Thread nD τ).loc main_arg1) = eV (n := 2816) (m := 1024) (φ := .bf16) W)
  (hH : m ((c : Thread nD τ).loc main_arg2) = eV (n := 8192) (m := 1024) (φ := .f32) H)

theorem idx0 (t : Fin cfg0.N) : win0_0.index t = ![t.val / 2, 0] :=
  (by decide +kernel : ∀ t : Fin grid0.N, win0_0.index t = ![t.val / 2, 0]) t
theorem idx1 (t : Fin cfg0.N) : win0_1.index t = ![t.val % 2, 0] :=
  (by decide +kernel : ∀ t : Fin grid0.N, win0_1.index t = ![t.val % 2, 0]) t
theorem idx2 (t : Fin cfg0.N) : win0_2.index t = ![0, t.val / 2, t.val % 2] :=
  (by decide +kernel : ∀ t : Fin grid0.N, win0_2.index t = ![0, t.val / 2, t.val % 2]) t
theorem idx3 (t : Fin cfg0.N) : win0_3.index t = ![0, t.val / 2, t.val % 2] :=
  (by decide +kernel : ∀ t : Fin grid0.N, win0_3.index t = ![0, t.val / 2, t.val % 2]) t

include hH in
theorem iblk0 (t : Fin cfg0.N) : iblk m c 0 t = eV (n := 512) (m := 1024) (φ := .f32) (fun i j => H (512 * (t.val / 2) + i) j) := by
  funext y
  have e := (V_main_arg2 m c).trans hH
  blk_simp [iblk, e, idx0 t]
  have h0 : (((win0_0.blk t).view.emb y) 0 : ℕ) = 512 * (t.val / 2) + (y 0).val := by blk_simp [idx0 t] <;> omega
  have h1 : (((win0_0.blk t).view.emb y) 1 : ℕ) = (y 1).val := by blk_simp [idx0 t] <;> omega
  have e2 := congr (congrArg H h0) h1
  exact e2
include hW in
theorem iblk1 (t : Fin cfg0.N) : iblk m c 1 t = eV (n := 1408) (m := 1024) (φ := .bf16) (fun i j => W (1408 * (t.val % 2) + i) j) := by
  funext y
  have e := (V_main_arg1 m c).trans hW
  blk_simp [iblk, e, idx1 t]
  have h0 : (((win0_1.blk t).view.emb y) 0 : ℕ) = 1408 * (t.val % 2) + (y 0).val := by blk_simp [idx1 t] <;> omega
  have h1 : (((win0_1.blk t).view.emb y) 1 : ℕ) = (y 1).val := by blk_simp [idx1 t] <;> omega
  have e2 := congr (congrArg W h0) h1
  exact e2
include hG in
theorem iblk2 (t : Fin cfg0.N) : iblk m c 2 t = eT (l := 2) (n := 512) (m := 1408) (φ := .bf16) (fun p i j => G p (512 * (t.val / 2) + i) (1408 * (t.val % 2) + j)) := by
  funext y
  have e := (V_main_arg0 m c).trans hG
  blk_simp [iblk, e, idx2 t]
  have h0 : (((win0_2.blk t).view.emb y) 0 : ℕ) = (y 0).val := by blk_simp [idx2 t] <;> omega
  have h1 : (((win0_2.blk t).view.emb y) 1 : ℕ) = 512 * (t.val / 2) + (y 1).val := by blk_simp [idx2 t] <;> omega
  have h2 : (((win0_2.blk t).view.emb y) 2 : ℕ) = 1408 * (t.val % 2) + (y 2).val := by blk_simp [idx2 t] <;> omega
  have e2 := congr (congr (congrArg G h0) h1) h2
  exact e2

include hG hW hH in
theorem arr : (dats m 0 c).arrAt 3 cfg0.N = eT (l := 2) (n := 8192) (m := 2816) (φ := .bf16) (both G W H) := by
  refine (dats m 0 c).arrAt_eq_of_covers 3 _ (by decide +kernel) fun t hf y => ?_
  blk_simp
  rw [after0_3, outsAt0]
  frame_out
  rw [iblk0 m c H hH, iblk1 m c W hW, iblk2 m c G hG, pay]
  have h0 : (((win0_3.blk t).view.emb y) 0 : ℕ) = (y 0).val := by blk_simp [idx3 t] <;> omega
  have h1 : (((win0_3.blk t).view.emb y) 1 : ℕ) = 512 * (t.val / 2) + (y 1).val := by blk_simp [idx3 t] <;> omega
  have h2 : (((win0_3.blk t).view.emb y) 2 : ℕ) = 1408 * (t.val % 2) + (y 2).val := by blk_simp [idx3 t] <;> omega
  unfold eT
  rw [h0, h1, h2]
  rfl

theorem values : @Cert.algebraic_Kernel2Ideal_Reference2Ideal Cert.Kernel2Ideal.Gen.facts Cert.Reference2Ideal.Gen.facts := by
  intro m g m' g' _ hargs
  refine ⟨_, Cert.Kernel2Ideal.Value.run_blocks (F := Ideal) m g, ?_⟩
  refine (θ_run Cert.Reference2Ideal.defs _ _).mono (fun r h c => ?_) (Cert.Reference2Ideal.Value.run (F := Ideal) m' g')
  obtain ⟨r0, r1⟩ := h c
  obtain ⟨a0, a1, a2⟩ := hargs c
  obtain ⟨G, hG⟩ := exT (l := 2) (n := 8192) (m := 2816) (φ := .bf16) (m ((c : Thread nD τ).loc main_arg0))
  obtain ⟨W, hW⟩ := exV (n := 2816) (m := 1024) (φ := .bf16) (m ((c : Thread nD τ).loc main_arg1))
  obtain ⟨H, hH⟩ := exV (n := 8192) (m := 1024) (φ := .f32) (m ((c : Thread nD τ).loc main_arg2))
  refine ⟨r0.trans ?_, r1⟩
  rw [a0.trans hG, a1.trans hW, a2.trans hH]
  exact (ref G W H).trans (arr m c G W H hG hW hH).symm

end Cert.V2

end
-- ==== Proof.Dhn5.lean ====
/- The gradient through the norm of the feed-forward layer: what the kernel leaves is the reference's arrays. -/
module

public import proofs.«01_k».proof.Defs
public import proofs.«01_k».proof.Proof.Ext
public import proofs.«01_k».proof.Proof.Gen.Kernel5Ideal.Value
public import proofs.«01_k».proof.Proof.Gen.Reference5Ideal.Run
public import Idealize.ShloMosaic.Lib.Pipeline.ReadBack

@[expose] public section

set_option maxRecDepth 16384

noncomputable section

namespace Cert.V5

open Cert.Ext Idealize.ShloMosaic Idealize.ShloMosaic.TcCoe Finset

variable (D : ℕ → ℕ → ℕ → EReal) (W X Y : ℕ → ℕ → EReal) (G : ℕ → EReal)

/-- The literals, the gradient of the normed input, the mean square, the share of a row's mean, and the two results. -/
def cN : EReal := Ideal.ofBits FTy.f32 1149239296#32
def cE : EReal := Ideal.ofBits FTy.f32 897988541#32
def cH : EReal := Ideal.ofBits FTy.f32 3204448256#32
def dx (i j : ℕ) : EReal := ∑ k ∈ range 2816, D 0 i k * W j k + ∑ k ∈ range 2816, D 1 i k * W j (2816 + k)
def ms (i : ℕ) : EReal := Ideal.div (∑ k ∈ range 1024, X i k * X i k) cN + cE
def qs (d : ℕ → ℕ → EReal) (i : ℕ) : EReal :=
  Ideal.div ((∑ k ∈ range 1024, X i k * (d i k * G k)) * (cH * Ideal.div (Ideal.rsqrt (ms X i)) (ms X i))) cN
def back (d : ℕ → ℕ → EReal) (i j : ℕ) : EReal :=
  Y i j + d i j * G j * Ideal.rsqrt (ms X i) + X i j * qs X G d i + qs X G d i * X i j
def share (d : ℕ → ℕ → EReal) (i j : ℕ) : EReal := X i j * Ideal.rsqrt (ms X i) * d i j

section
open Cert.Reference5Ideal Cert.Reference5Ideal.Gen

/-- The gradient of the normed input, the mean square, and the share of a row's mean, as the reference takes them. -/
def rdx : FVec Ideal S8192x1024 .f32 := Host.dotGeneral (F := Ideal) dot_S8192x5632_S1024x5632_S8192x1024_1_1_0_0_n_n none (concatenate S8192x5632 1 [⟨S8192x2816, (shapeCast _ (extractStridedSlice S1x8192x2816 ![0, 0, 0] (extf .f32 (eT D : FVec Ideal S2x8192x2816 .bf16) bitsLt_bf16_f32) slices_S2x8192x2816_S1x8192x2816_0_0_0) shapeCasts_S1x8192x2816_S8192x2816)⟩, ⟨S8192x2816, (shapeCast _ (extractStridedSlice S1x8192x2816 ![1, 0, 0] (extf .f32 (eT D : FVec Ideal S2x8192x2816 .bf16) bitsLt_bf16_f32) slices_S2x8192x2816_S1x8192x2816_1_0_0) shapeCasts_S1x8192x2816_S8192x2816)⟩] concatenates_S8192x2816_S8192x2816_S8192x5632_d1) (extf .f32 (eV W : FVec Ideal S1024x5632 .bf16) bitsLt_bf16_f32)
def rms : FVec Ideal S8192x1 .f32 := addf (Host.divf (broadcastInDim S8192x1 ![0] bcast_S8192_S8192x1_0 (Host.reduceAdd (mulf (eV X : FVec Ideal S8192x1024 .f32) (eV X : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def rq : FVec Ideal S8192 .f32 := Host.reduceAdd (Host.divf (mulf (shapeCast _ (Host.reduceAdd (mulf (eV X : FVec Ideal S8192x1024 .f32) (mulf (rdx D W) (broadcastInDim S8192x1024 ![0, 1] bcast_S1x1024_S8192x1024_0_1 (broadcastInDim S1x1024 ![1] bcast_S1024_S1x1024_1 (eL G : FVec Ideal S1024 .f32))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rms X)) (rms X)))) (broadcastInDim S8192x1 ![] bcast_S_S8192x1 (constant S_ .f32 0x44800000#32))) (constant S_ .f32 0x00000000#32) reducesTo_S8192x1_S8192_d1 h_S_

theorem rdx_eq : rdx D W = eV (dx D W) := by
  funext x; idx_vars x; pointwise [rdx, eV, eT]
  unfold dx
  rw [sum_range, sum_range]
theorem rms_eq : rms X = eV fun i _ => ms X i := by
  funext x; idx_vars x; pointwise [rms, eV]
  unfold ms cN cE
  rw [sum_range]
theorem rq_eq : rq D W X G = eL (qs X G (dx D W)) := by
  unfold rq
  rw [rdx_eq, rms_eq]
  funext x; idx_vars x; pointwise [eV, eL]
  unfold qs cN cH
  rw [sum_range]
  exact Fin.sum_univ_one _
theorem ref0 : (addf (addf (addf (eV Y : FVec Ideal S8192x1024 .f32) (mulf (mulf (rdx D W) (broadcastInDim S8192x1024 ![0, 1] bcast_S1x1024_S8192x1024_0_1 (broadcastInDim S1x1024 ![1] bcast_S1024_S1x1024_1 (eL G : FVec Ideal S1024 .f32)))) (broadcastInDim S8192x1024 ![0, 1] bcast_S8192x1_S8192x1024_0_1 (Host.rsqrt (rms X))))) (mulf (eV X : FVec Ideal S8192x1024 .f32) (broadcastInDim S8192x1024 ![0] bcast_S8192_S8192x1024_0 (rq D W X G)))) (mulf (broadcastInDim S8192x1024 ![0] bcast_S8192_S8192x1024_0 (rq D W X G)) (eV X : FVec Ideal S8192x1024 .f32)) : FVec Ideal S8192x1024 .f32) = eV (back X Y G (dx D W)) := by
  rw [rdx_eq, rms_eq, rq_eq]
  funext x; idx_vars x; pointwise [eV, eL, back]
theorem ref1 : (shapeCast _ (Host.reduceAdd (shapeCast _ (Host.reduceAdd (mulf (mulf (eV X : FVec Ideal S8192x1024 .f32) (broadcastInDim S8192x1024 ![0, 1] bcast_S8192x1_S8192x1024_0_1 (Host.rsqrt (rms X)))) (rdx D W)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) = eV fun _ j => ∑ i ∈ range 8192, share X (dx D W) i j := by
  rw [rdx_eq, rms_eq]
  funext x; idx_vars x; pointwise [eV, eL]
  rw [sum_range]
  exact Fin.sum_univ_one _
end

open Cert.Kernel5Ideal Cert.Kernel5Ideal.Gen

theorem pay2 (f : ℕ → ℕ → ℕ → EReal) (g : ℕ → ℕ → EReal) :
    k0_pay2 (F := Ideal) (eT (φ := .bf16) f) (eV (φ := .bf16) g) = eV fun i j => ∑ k ∈ range 2816, f 0 i k * g j k := by
  funext x; idx_vars x; pointwise [k0_pay2, k0_pay1, eV, eT]; rw [sum_range]
theorem pay3 (f : ℕ → ℕ → ℕ → EReal) (g a : ℕ → ℕ → EReal) :
    k0_pay3 (F := Ideal) (eT (φ := .bf16) f) (eV (φ := .bf16) g) (eV (φ := .f32) a) = eV fun i j => a i j + ∑ k ∈ range 2816, f 0 i k * g j k := by
  funext x; idx_vars x; pointwise [k0_pay3, k0_pay1, eV, eT]; rw [sum_range]
theorem pay4 (a b : ℕ → ℕ → EReal) : k0_pay4 (F := Ideal) (eV (φ := .f32) a) (eV (φ := .f32) b) = eV fun i j => b i j + a i j := by
  funext x; idx_vars x; pointwise [k0_pay4, eV]
theorem pay7 (x a : ℕ → ℕ → EReal) : k0_pay7 (F := Ideal) (eV (φ := .f32) x) (eV (φ := .f32) a) = eV fun _ j => ∑ i ∈ range 512, share x a i j := by
  funext z; idx_vars z; pointwise [k0_pay7, k0_pay6, k0_pay5, eV]
  rw [sum_range]
  unfold share ms cN cE
  simp only [sum_range]
theorem pay8 (x g a y : ℕ → ℕ → EReal) :
    k0_pay8 (F := Ideal) (eV (φ := .f32) x) (eV (φ := .f32) g) (eV (φ := .f32) a) (eV (φ := .f32) y) = eV (back x y (g 0) a) := by
  funext z; idx_vars z; pointwise [k0_pay8, k0_pay6, k0_pay5, eV]
  unfold back qs ms cN cE cH
  simp only [sum_range, Fin.sum_univ_one, add_assoc]

variable (m : (ℓ : Loc nD τ sig) → Buf (Elt Ideal) ℓ) (c : Dev nD)
  (hD : m ((c : Thread nD τ).loc main_arg0) = eT (l := 2) (n := 8192) (m := 2816) (φ := .bf16) D)
  (hW : m ((c : Thread nD τ).loc main_arg1) = eV (n := 1024) (m := 5632) (φ := .bf16) W)
  (hX : m ((c : Thread nD τ).loc main_arg2) = eV (n := 8192) (m := 1024) (φ := .f32) X)
  (hG : m ((c : Thread nD τ).loc main_arg3) = eL (n := 1024) (φ := .f32) G)
  (hY : m ((c : Thread nD τ).loc main_arg4) = eV (n := 8192) (m := 1024) (φ := .f32) Y)

theorem idx0 (t : Fin cfg0.N) : win0_0.index t = ![t.val % 2, t.val / 2, 0] :=
  (by decide +kernel : ∀ t : Fin grid0.N, win0_0.index t = ![t.val % 2, t.val / 2, 0]) t
theorem idx1 (t : Fin cfg0.N) : win0_1.index t = ![0, t.val % 2] :=
  (by decide +kernel : ∀ t : Fin grid0.N, win0_1.index t = ![0, t.val % 2]) t
theorem idx2 (t : Fin cfg0.N) : win0_2.index t = ![t.val / 2, 0] :=
  (by decide +kernel : ∀ t : Fin grid0.N, win0_2.index t = ![t.val / 2, 0]) t
theorem idx3 (t : Fin cfg0.N) : win0_3.index t = ![0, 0] :=
  (by decide +kernel : ∀ t : Fin grid0.N, win0_3.index t = ![0, 0]) t
theorem idx4 (t : Fin cfg0.N) : win0_4.index t = ![t.val / 2, 0] :=
  (by decide +kernel : ∀ t : Fin grid0.N, win0_4.index t = ![t.val / 2, 0]) t
theorem idx5 (t : Fin cfg0.N) : win0_5.index t = ![t.val / 2, 0] :=
  (by decide +kernel : ∀ t : Fin grid0.N, win0_5.index t = ![t.val / 2, 0]) t
theorem idx6 (t : Fin cfg0.N) : win0_6.index t = ![0, 0] :=
  (by decide +kernel : ∀ t : Fin grid0.N, win0_6.index t = ![0, 0]) t

/-- The scale, a row of one, as the host lays it out. -/
theorem V_v0 : V m c main_v0 = shapeCast S1x1024 (m ((c : Thread nD τ).loc main_arg3)) shapeCasts_S1024_S1x1024 := by
  simp only [V, hostOps0]
  after_results_simp <;> rfl
theorem cast_row : shapeCast S1x1024 (eL G : FVec Ideal S1024 .f32) shapeCasts_S1024_S1x1024 = (eV fun _ j => G j : FVec Ideal S1x1024 .f32) := by
  funext x; idx_vars x; pointwise [eV, eL]

include hD in
theorem iblk0 (t : Fin cfg0.N) : iblk m c 0 t = eT (l := 1) (n := 512) (m := 2816) (φ := .bf16) (fun _ i j => D (t.val % 2) (512 * (t.val / 2) + i) j) := by
  funext y
  have e := (V_main_arg0 m c).trans hD
  blk_simp [iblk, e, idx0 t]
  have h0 : (((win0_0.blk t).view.emb y) 0 : ℕ) = t.val % 2 := by have hy : (y 0).val < 1 := (y 0).isLt; blk_simp [idx0 t] <;> omega
  have h1 : (((win0_0.blk t).view.emb y) 1 : ℕ) = 512 * (t.val / 2) + (y 1).val := by blk_simp [idx0 t] <;> omega
  have h2 : (((win0_0.blk t).view.emb y) 2 : ℕ) = (y 2).val := by blk_simp [idx0 t] <;> omega
  have e2 := congr (congr (congrArg D h0) h1) h2
  exact e2
include hW in
theorem iblk1 (t : Fin cfg0.N) : iblk m c 1 t = eV (n := 1024) (m := 2816) (φ := .bf16) (fun i j => W i (2816 * (t.val % 2) + j)) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = 2816 * (t.val % 2) + (y 1).val := by blk_simp [idx1 t] <;> omega
  have e2 := congr (congrArg W h0) h1
  exact e2
include hX in
theorem iblk2 (t : Fin cfg0.N) : iblk m c 2 t = eV (n := 512) (m := 1024) (φ := .f32) (fun i j => X (512 * (t.val / 2) + i) j) := by
  funext y
  have e := (V_main_arg2 m c).trans hX
  blk_simp [iblk, e, idx2 t]
  have h0 : (((win0_2.blk t).view.emb y) 0 : ℕ) = 512 * (t.val / 2) + (y 0).val := by blk_simp [idx2 t] <;> omega
  have h1 : (((win0_2.blk t).view.emb y) 1 : ℕ) = (y 1).val := by blk_simp [idx2 t] <;> omega
  have e2 := congr (congrArg X h0) h1
  exact e2
include hG in
theorem iblk3 (t : Fin cfg0.N) : iblk m c 3 t = eV (n := 1) (m := 1024) (φ := .f32) (fun _ j => G j) := by
  funext y
  have e := (V_v0 m c).trans ((congrArg (fun v => shapeCast S1x1024 v shapeCasts_S1024_S1x1024) hG).trans (cast_row G))
  blk_simp [iblk, e, idx3 t]
  have h1 : (((win0_3.blk t).view.emb y) 1 : ℕ) = (y 1).val := by blk_simp [idx3 t] <;> omega
  have e2 := congrArg G h1
  exact e2
include hY in
theorem iblk4 (t : Fin cfg0.N) : iblk m c 4 t = eV (n := 512) (m := 1024) (φ := .f32) (fun i j => Y (512 * (t.val / 2) + i) j) := by
  funext y
  have e := (V_main_arg4 m c).trans hY
  blk_simp [iblk, e, idx4 t]
  have h0 : (((win0_4.blk t).view.emb y) 0 : ℕ) = 512 * (t.val / 2) + (y 0).val := by blk_simp [idx4 t] <;> omega
  have h1 : (((win0_4.blk t).view.emb y) 1 : ℕ) = (y 1).val := by blk_simp [idx4 t] <;> omega
  have e2 := congr (congrArg Y h0) h1
  exact e2

/-- The first half of the gradient of the normed input, on the rows of one block. -/
def half (b : ℕ) : FVec Ideal S512x1024 .f32 := eV fun i j => ∑ k ∈ range 2816, D 0 (512 * b + i) k * W j k
/-- All of it. -/
def full (b : ℕ) : FVec Ideal S512x1024 .f32 := eV fun i j => dx D W (512 * b + i) j
/-- The gradient of the scale after some blocks of rows. -/
def scale (b : ℕ) : FVec Ideal S1x1024 .f32 := eV fun _ j => ∑ k ∈ range b, ∑ s ∈ range 512, share X (dx D W) (512 * k + s) j
/-- The gradient of the input on one block. -/
def out (b : ℕ) : FVec Ideal S512x1024 .f32 := eV fun i j => back X Y G (dx D W) (512 * b + i) j

include hD hW in
theorem whole (t : Fin cfg0.N) (h : t.val % 2 = 1) :
    k0_pay3 (F := Ideal) (iblk m c 0 t) (iblk m c 1 t) (half D W (t.val / 2)) = full D W (t.val / 2) := by
  unfold half
  rw [iblk0 D m c hD, iblk1 W m c hW, pay3, h]
  rfl
include hX hG hY in
theorem write (t : Fin cfg0.N) :
    k0_pay8 (F := Ideal) (iblk m c 2 t) (iblk m c 3 t) (full D W (t.val / 2)) (iblk m c 4 t) = out D W X Y G (t.val / 2) := by
  unfold full
  rw [iblk2 X m c hX, iblk3 G m c hG, iblk4 Y m c hY, pay8]
  rfl
include hX in
theorem rows (t : Fin cfg0.N) :
    k0_pay7 (F := Ideal) (iblk m c 2 t) (full D W (t.val / 2)) = eV fun _ j => ∑ s ∈ range 512, share X (dx D W) (512 * (t.val / 2) + s) j := by
  unfold full
  rw [iblk2 X m c hX, pay7]
  rfl

include hD hW hX hG hY in
theorem outs : ∀ (n : ℕ) (h : n < cfg0.N), (n % 2 = 0 → (outsAt0 m c n h).2.2 = half D W (n / 2))
    ∧ (1 ≤ n → (outsAt0 m c n h).2.1 = scale D W X ((n + 1) / 2))
    ∧ (n % 2 = 1 → (outsAt0 m c n h).1 = out D W X Y G (n / 2)) := by
  intro n
  induction n using Nat.strong_induction_on with
  | _ n ih =>
  intro h
  by_cases h0 : n % 2 = 0
  · have h1 : ¬n % 2 = 1 := by omega
    refine ⟨fun _ => ?_, fun hn => ?_, fun h => absurd h h1⟩
    · refine (congrArg (fun p => p.2.2) (outsAt0_A m c ⟨n, h⟩ h0 h1 h1)).trans ?_
      frame_out
      rw [iblk0 D m c hD, iblk1 W m c hW, pay2]
      unfold half
      rw [h0]
      simp only [Nat.mul_zero, Nat.zero_add]
    · refine (congrArg (fun p => p.2.1) (outsAt0_A m c ⟨n, h⟩ h0 h1 h1)).trans ?_
      have ip := (ih (n - 1) (by omega) (Nat.lt_of_le_of_lt (Nat.sub_le _ _) h)).2.1 (by omega)
      rw [show (n - 1 + 1) / 2 = (n + 1) / 2 by omega] at ip
      dsimp only [out0_A_6]
      rw [ip]
  · have h1 : n % 2 = 1 := by omega
    have ip := ih (n - 1) (by omega) (Nat.lt_of_le_of_lt (Nat.sub_le _ _) h)
    have is := ip.1 (by omega)
    rw [show (n - 1) / 2 = n / 2 by omega] at is
    have hs := whole D W m c hD hW ⟨n, h⟩ h1
    have hw := write D W X Y G m c hX hG hY ⟨n, h⟩
    have hr := rows D W X m c hX ⟨n, h⟩
    dsimp only at hs hw hr
    by_cases h3 : n < 2
    · have h4 : ¬2 ≤ n := by omega
      refine ⟨fun h => absurd h h0, fun _ => ?_, fun _ => ?_⟩
      · refine (congrArg (fun p => p.2.1) (outsAt0_B m c ⟨n, h⟩ h0 h1 h1 h3 h4)).trans ?_
        frame_out
        simp only [read_unread_whole]
        rw [is, hs, hr]
        have hn : n = 1 := by omega
        subst hn
        unfold scale
        simp only [Nat.reduceDiv, Nat.reduceAdd, sum_range_one]
      · refine (congrArg (fun p => p.1) (outsAt0_B m c ⟨n, h⟩ h0 h1 h1 h3 h4)).trans ?_
        frame_out
        simp only [read_unread_whole]
        rw [is, hs, hw]
    · have h4 : 2 ≤ n := by omega
      refine ⟨fun h => absurd h h0, fun _ => ?_, fun _ => ?_⟩
      · refine (congrArg (fun p => p.2.1) (outsAt0_C m c ⟨n, h⟩ h0 h1 h1 h3 h4)).trans ?_
        frame_out
        simp only [read_unread_whole]
        have io := ip.2.1 (by omega)
        rw [show (n - 1 + 1) / 2 = n / 2 by omega] at io
        rw [is, hs, hr, io]
        unfold scale
        rw [pay4, show (n + 1) / 2 = n / 2 + 1 by omega]
        simp only [sum_range_succ _ (n / 2)]
      · refine (congrArg (fun p => p.1) (outsAt0_C m c ⟨n, h⟩ h0 h1 h1 h3 h4)).trans ?_
        frame_out
        simp only [read_unread_whole]
        rw [is, hs, hw]

include hD hW hX hG hY in
theorem arr5 : (dats m 0 c).arrAt 5 cfg0.N = (eV (back X Y G (dx D W)) : FVec Ideal S8192x1024 .f32) := by
  refine (dats m 0 c).arrAt_eq_of_covers 5 _ (by decide +kernel) fun t hf y => ?_
  have hr : t.val % 2 = 1 := (flush0_5 t).mp hf
  blk_simp
  rw [after0_5, (outs D W X Y G m c hD hW hX hG hY t.val t.isLt).2.2 hr]
  have h0 : (((win0_5.blk t).view.emb y) 0 : ℕ) = 512 * (t.val / 2) + (y 0).val := by blk_simp [idx5 t] <;> omega
  have h1 : (((win0_5.blk t).view.emb y) 1 : ℕ) = (y 1).val := by blk_simp [idx5 t] <;> omega
  unfold out eV
  rw [h0, h1]
include hD hW hX hG hY in
theorem arr6 : (dats m 0 c).arrAt 6 cfg0.N = (eV fun _ j => ∑ i ∈ range 8192, share X (dx D W) i j : FVec Ideal S1x1024 .f32) := by
  refine (dats m 0 c).arrAt_eq_of_covers 6 _ (by decide +kernel) fun t hf y => ?_
  have hr : t.val % 32 = 31 := (flush0_6 t).mp hf
  have ht : t.val < 32 := t.isLt
  have hq : (t.val + 1) / 2 = 16 := by omega
  blk_simp
  rw [after0_6, (outs D W X Y G m c hD hW hX hG hY t.val t.isLt).2.1 (by omega)]
  have h1 : (((win0_6.blk t).view.emb y) 1 : ℕ) = (y 1).val := by blk_simp [idx6 t] <;> omega
  unfold scale eV
  rw [h1, hq]
  beta_reduce
  exact sum_blocks 512 (fun s => share X (dx D W) s (y 1).val) 16

theorem values : @Cert.algebraic_Kernel5Ideal_Reference5Ideal Cert.Kernel5Ideal.Gen.facts Cert.Reference5Ideal.Gen.facts := by
  intro m g m' g' _ hargs
  refine ⟨_, _, Cert.Kernel5Ideal.Value.run_blocks (F := Ideal) m g, ?_⟩
  refine (θ_run Cert.Reference5Ideal.defs _ _).mono (fun r h c => ?_) (Cert.Reference5Ideal.Value.run (F := Ideal) m' g')
  obtain ⟨r0, r1, r2⟩ := h c
  obtain ⟨a0, a1, a2, a3, a4⟩ := hargs c
  obtain ⟨D, hD⟩ := exT (l := 2) (n := 8192) (m := 2816) (φ := .bf16) (m ((c : Thread nD τ).loc main_arg0))
  obtain ⟨W, hW⟩ := exV (n := 1024) (m := 5632) (φ := .bf16) (m ((c : Thread nD τ).loc main_arg1))
  obtain ⟨X, hX⟩ := exV (n := 8192) (m := 1024) (φ := .f32) (m ((c : Thread nD τ).loc main_arg2))
  obtain ⟨G, hG⟩ := exL (n := 1024) (φ := .f32) (m ((c : Thread nD τ).loc main_arg3))
  obtain ⟨Y, hY⟩ := exV (n := 8192) (m := 1024) (φ := .f32) (m ((c : Thread nD τ).loc main_arg4))
  refine ⟨r0.trans ?_, r1.trans ?_, r2⟩
  · unfold Cert.Reference5Ideal.Value.res_main_v45
    rw [a0.trans hD, a1.trans hW, a2.trans hX, a3.trans hG, a4.trans hY]
    exact (ref0 D W X Y G).trans (arr5 D W X Y G m c hD hW hX hG hY).symm
  · rw [a0.trans hD, a1.trans hW, a2.trans hX]
    exact (ref1 D W X).trans (arr6 D W X Y G m c hD hW hX hG hY).symm

end Cert.V5

end
-- ==== Proof.Ffn6.lean ====
/- The first half of the feed-forward layer: what the kernel leaves is the reference's arrays. -/
module

public import proofs.«01_k».proof.Defs
public import proofs.«01_k».proof.Proof.Ext
public import proofs.«01_k».proof.Proof.In6
public import proofs.«01_k».proof.Proof.Dgu2
public import proofs.«01_k».proof.Proof.Dhn5
public import proofs.«01_k».proof.Proof.Gen.Reference6Ideal.Run
public import Idealize.ShloMosaic.Lib.Pipeline.ReadBack

@[expose] public section

set_option maxRecDepth 16384

noncomputable section

namespace Cert.V6

open Cert.Ext Idealize.ShloMosaic Idealize.ShloMosaic.TcCoe Finset
open Cert.V5 (ms cN cE)
open Cert.V2 (sg)

variable (X : ℕ → ℕ → EReal) (G : ℕ → EReal) (W : ℕ → ℕ → EReal)

/-- The normed input, the gate and the up projection (`p` is 0 and 1), and the activation. -/
def nrm (i j : ℕ) : EReal := X i j * Ideal.rsqrt (ms X i) * G j
def gu (p i j : ℕ) : EReal := if p < 1 then ∑ k ∈ range 1024, nrm X G i k * W k j else ∑ k ∈ range 1024, nrm X G i k * W k (2816 + j)
def act (i j : ℕ) : EReal := gu X G W 0 i j * sg (gu X G W 0 i j) * gu X G W 1 i j

section
open Cert.Reference6Ideal Cert.Reference6Ideal.Gen

/-- The normed input, and its product with the weights, as the reference takes them. -/
def rn : FVec Ideal S8192x1024 .f32 := (mulf (mulf (eV X : FVec Ideal S8192x1024 .f32) (broadcastInDim S8192x1024 ![0, 1] bcast_S8192x1_S8192x1024_0_1 (Host.rsqrt (addf (Host.divf (broadcastInDim S8192x1 ![0] bcast_S8192_S8192x1_0 (Host.reduceAdd (mulf (eV X : FVec Ideal S8192x1024 .f32) (eV X : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (eL G : FVec Ideal S1024 .f32))))
def rp : FVec Ideal S8192x5632 .f32 := (Host.dotGeneral (F := Ideal) dot_S8192x1024_S1024x5632_S8192x5632_1_0_0_1_n_n none (rn X G) (extf .f32 (eV W : FVec Ideal S1024x5632 .bf16) bitsLt_bf16_f32))

theorem rn_eq : rn X G = eV (nrm X G) := by
  funext x; idx_vars x; pointwise [rn, eV, eL]
  unfold nrm ms cN cE
  rw [sum_range]
theorem rp_eq : rp X G W = eV fun i j => ∑ k ∈ range 1024, nrm X G i k * W k j := by
  unfold rp
  rw [rn_eq]
  funext x; idx_vars x; pointwise [eV]
  rw [sum_range]
theorem ref0 : truncf .bf16 (rn X G) bitsLt_bf16_f32 = (eV (nrm X G) : FVec Ideal S8192x1024 .bf16) := by
  rw [rn_eq]
  rfl
theorem ref1 : truncf .bf16 (concatenate S2x8192x2816 0 [⟨S1x8192x2816, (broadcastInDim S1x8192x2816 ![1, 2] bcast_S8192x2816_S1x8192x2816_1_2 (extractStridedSlice S8192x2816 ![0, 0] (rp X G W) slices_S8192x5632_S8192x2816_0_0))⟩, ⟨S1x8192x2816, (broadcastInDim S1x8192x2816 ![1, 2] bcast_S8192x2816_S1x8192x2816_1_2 (extractStridedSlice S8192x2816 ![0, 2816] (rp X G W) slices_S8192x5632_S8192x2816_0_2816))⟩] concatenates_S1x8192x2816_S1x8192x2816_S2x8192x2816_d0) bitsLt_bf16_f32 = (eT (gu X G W) : FVec Ideal S2x8192x2816 .bf16) := by
  rw [rp_eq]
  funext x; idx_vars x; pointwise [eV, eT]
  unfold gu
  rfl
theorem ref2 : truncf .bf16 (mulf (mulf (extractStridedSlice S8192x2816 ![0, 0] (rp X G W) slices_S8192x5632_S8192x2816_0_0) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (extractStridedSlice S8192x2816 ![0, 0] (rp X G W) slices_S8192x5632_S8192x2816_0_0)))))) (extractStridedSlice S8192x2816 ![0, 2816] (rp X G W) slices_S8192x5632_S8192x2816_0_2816)) bitsLt_bf16_f32 = (eV (act X G W) : FVec Ideal S8192x2816 .bf16) := by
  rw [rp_eq]
  funext x; idx_vars x; pointwise [eV]
  unfold act gu sg
  rfl
end

open Cert.Kernel6Ideal Cert.Kernel6Ideal.Gen

theorem pay1 (x g : ℕ → ℕ → EReal) : k0_pay1 (F := Ideal) (eV (φ := .f32) x) (eV (φ := .f32) g) = eV (nrm x (g 0)) := by
  funext z; idx_vars z; pointwise [k0_pay1, eV]
  unfold nrm ms cN cE
  rw [sum_range]
theorem pay2 (x g : ℕ → ℕ → EReal) : k0_pay2 (F := Ideal) (eV (φ := .f32) x) (eV (φ := .f32) g) = eV (nrm x (g 0)) := by
  unfold k0_pay2
  rw [pay1]
  funext z; idx_vars z; pointwise [eV]
theorem pay5 (n w : ℕ → ℕ → EReal) : k0_pay5 (F := Ideal) (eV (φ := .bf16) n) (eV (φ := .bf16) w) = eT fun _ i j => ∑ k ∈ range 1024, n i k * w k j := by
  funext z; idx_vars z; pointwise [k0_pay5, k0_pay3, eV, eT]; rw [sum_range]
theorem pay6 (n w : ℕ → ℕ → EReal) : k0_pay6 (F := Ideal) (eV (φ := .bf16) n) (eV (φ := .bf16) w) = eT fun _ i j => ∑ k ∈ range 1024, n i k * w k j := by
  funext z; idx_vars z; pointwise [k0_pay6, k0_pay4, eV, eT]; rw [sum_range]
theorem pay7 (n w u : ℕ → ℕ → EReal) : k0_pay7 (F := Ideal) (eV (φ := .bf16) n) (eV (φ := .bf16) w) (eV (φ := .bf16) u)
    = eV fun i j => (∑ k ∈ range 1024, n i k * w k j) * sg (∑ k ∈ range 1024, n i k * w k j) * ∑ k ∈ range 1024, n i k * u k j := by
  funext z; idx_vars z; pointwise [k0_pay7, k0_pay3, k0_pay4, eV]
  unfold sg
  simp only [sum_range, zero_sub]

/-- Two matrices side by side in the stack. -/
theorem stack (f g : ℕ → ℕ → EReal) : View.canon (Val := Elt Ideal) (e := .bf16)
      [⟨Rect.unit ![1, 0, 0] ![1, 512, 1408] inb_S2x512x1408_S1x512x1408_1_0_0, (eT (fun _ => g) : FVec Ideal S1x512x1408 .bf16)⟩,
        ⟨Rect.unit ![0, 0, 0] ![1, 512, 1408] inb_S2x512x1408_S1x512x1408_0_0_0, (eT (fun _ => f) : FVec Ideal S1x512x1408 .bf16)⟩]
      = (eT (fun p i j => if p < 1 then f i j else g i j) : FVec Ideal S2x512x1408 .bf16) := by
  funext y
  refine View.canon_apply_of_pieces (Val := Elt Ideal) (e := .bf16) (eT (fun p i j => if p < 1 then f i j else g i j) : FVec Ideal S2x512x1408 .bf16) _ ?_ y ?_
  case refine_2 => exact View.cover_of_tiledL (s := S2x512x1408) _ S1x512x1408.size (by sl_kernel_rfl) y
  intro p hp x
  simp only [List.mem_cons, List.not_mem_nil, or_false] at hp
  rcases hp with rfl | rfl
  · have h0 : ((Rect.unit (s := S2x512x1408) ![1, 0, 0] ![1, 512, 1408] inb_S2x512x1408_S1x512x1408_1_0_0).emb x 0).val = 1 + (x 0).val := by simp
    have h1 : ((Rect.unit (s := S2x512x1408) ![1, 0, 0] ![1, 512, 1408] inb_S2x512x1408_S1x512x1408_1_0_0).emb x 1).val = (x 1).val := by simp
    have h2 : ((Rect.unit (s := S2x512x1408) ![1, 0, 0] ![1, 512, 1408] inb_S2x512x1408_S1x512x1408_1_0_0).emb x 2).val = (x 2).val := by simp
    dsimp only [eT]
    rw [h0, h1, h2, if_neg (by omega)]
  · have hx : (x 0).val < 1 := (x 0).isLt
    have h0 : ((Rect.unit (s := S2x512x1408) ![0, 0, 0] ![1, 512, 1408] inb_S2x512x1408_S1x512x1408_0_0_0).emb x 0).val = (x 0).val := by simp
    have h1 : ((Rect.unit (s := S2x512x1408) ![0, 0, 0] ![1, 512, 1408] inb_S2x512x1408_S1x512x1408_0_0_0).emb x 1).val = (x 1).val := by simp
    have h2 : ((Rect.unit (s := S2x512x1408) ![0, 0, 0] ![1, 512, 1408] inb_S2x512x1408_S1x512x1408_0_0_0).emb x 2).val = (x 2).val := by simp
    dsimp only [eT]
    rw [h0, h1, h2, if_pos hx]

variable (m : (ℓ : Loc nD τ sig) → Buf (Elt Ideal) ℓ) (c : Dev nD)
  (hX : m ((c : Thread nD τ).loc main_arg0) = eV (n := 8192) (m := 1024) (φ := .f32) X)
  (hG : m ((c : Thread nD τ).loc main_arg1) = eL (n := 1024) (φ := .f32) G)
  (hW : m ((c : Thread nD τ).loc main_arg2) = eV (n := 1024) (m := 5632) (φ := .bf16) W)

theorem idx0 (t : Fin cfg0.N) : win0_0.index t = ![t.val / 2, 0] :=
  (by decide +kernel : ∀ t : Fin grid0.N, win0_0.index t = ![t.val / 2, 0]) t
theorem idx1 (t : Fin cfg0.N) : win0_1.index t = ![0, 0] :=
  (by decide +kernel : ∀ t : Fin grid0.N, win0_1.index t = ![0, 0]) t
theorem idx2 (t : Fin cfg0.N) : win0_2.index t = ![0, t.val % 2] :=
  (by decide +kernel : ∀ t : Fin grid0.N, win0_2.index t = ![0, t.val % 2]) t
theorem idx3 (t : Fin cfg0.N) : win0_3.index t = ![0, 2 + t.val % 2] :=
  (by decide +kernel : ∀ t : Fin grid0.N, win0_3.index t = ![0, 2 + t.val % 2]) t
theorem idx4 (t : Fin cfg0.N) : win0_4.index t = ![t.val / 2, 0] :=
  (by decide +kernel : ∀ t : Fin grid0.N, win0_4.index t = ![t.val / 2, 0]) t
theorem idx5 (t : Fin cfg0.N) : win0_5.index t = ![0, t.val / 2, t.val % 2] :=
  (by decide +kernel : ∀ t : Fin grid0.N, win0_5.index t = ![0, t.val / 2, t.val % 2]) t
theorem idx6 (t : Fin cfg0.N) : win0_6.index t = ![t.val / 2, t.val % 2] :=
  (by decide +kernel : ∀ t : Fin grid0.N, win0_6.index t = ![t.val / 2, t.val % 2]) t

/-- The scale, a row of one, as the host lays it out. -/
theorem V_v0 : V m c main_v0 = shapeCast S1x1024 (m ((c : Thread nD τ).loc main_arg1)) shapeCasts_S1024_S1x1024 := by
  simp only [V, hostOps0]
  after_results_simp <;> rfl
theorem cast_row : shapeCast S1x1024 (eL G : FVec Ideal S1024 .f32) shapeCasts_S1024_S1x1024 = (eV fun _ j => G j : FVec Ideal S1x1024 .f32) := by
  funext x; idx_vars x; pointwise [eV, eL]

include hX in
theorem iblk0 (t : Fin cfg0.N) : iblk m c 0 t = eV (n := 512) (m := 1024) (φ := .f32) (fun i j => X (512 * (t.val / 2) + i) j) := by
  funext y
  have e := (V_of_ne m c (b := main_arg0) (by decide)).trans hX
  blk_simp [iblk, e, idx0 t]
  have h0 : (((win0_0.blk t).view.emb y) 0 : ℕ) = 512 * (t.val / 2) + (y 0).val := by blk_simp [idx0 t] <;> omega
  have h1 : (((win0_0.blk t).view.emb y) 1 : ℕ) = (y 1).val := by blk_simp [idx0 t] <;> omega
  have e2 := congr (congrArg X h0) h1
  exact e2
include hG in
theorem iblk1 (t : Fin cfg0.N) : iblk m c 1 t = eV (n := 1) (m := 1024) (φ := .f32) (fun _ j => G j) := by
  funext y
  have e := (V_v0 m c).trans ((congrArg (fun v => shapeCast S1x1024 v shapeCasts_S1024_S1x1024) hG).trans (cast_row G))
  blk_simp [iblk, e, idx1 t]
  have h1 : (((win0_1.blk t).view.emb y) 1 : ℕ) = (y 1).val := by blk_simp [idx1 t] <;> omega
  have e2 := congrArg G h1
  exact e2
include hW in
theorem iblk2 (t : Fin cfg0.N) : iblk m c 2 t = eV (n := 1024) (m := 1408) (φ := .bf16) (fun i j => W i (1408 * (t.val % 2) + j)) := by
  funext y
  have e := (V_of_ne m c (b := main_arg2) (by decide)).trans hW
  blk_simp [iblk, e, idx2 t]
  have h0 : (((win0_2.blk t).view.emb y) 0 : ℕ) = (y 0).val := by blk_simp [idx2 t] <;> omega
  have h1 : (((win0_2.blk t).view.emb y) 1 : ℕ) = 1408 * (t.val % 2) + (y 1).val := by blk_simp [idx2 t] <;> omega
  have e2 := congr (congrArg W h0) h1
  exact e2
include hW in
theorem iblk3 (t : Fin cfg0.N) : iblk m c 3 t = eV (n := 1024) (m := 1408) (φ := .bf16) (fun i j => W i (2816 + (1408 * (t.val % 2) + j))) := by
  funext y
  have e := (V_of_ne m c (b := main_arg2) (by decide)).trans hW
  blk_simp [iblk, e, idx3 t]
  have h0 : (((win0_3.blk t).view.emb y) 0 : ℕ) = (y 0).val := by blk_simp [idx3 t] <;> omega
  have h1 : (((win0_3.blk t).view.emb y) 1 : ℕ) = 2816 + (1408 * (t.val % 2) + (y 1).val) := by blk_simp [idx3 t] <;> omega
  have e2 := congr (congrArg W h0) h1
  exact e2

/-- What the points of a block of rows `b` leave: the normed rows, and with the columns `q` the stack and the activation. -/
def pn (b : ℕ) : FVec Ideal S512x1024 .bf16 := eV fun i j => nrm X G (512 * b + i) j
def pg (b q : ℕ) : FVec Ideal S2x512x1408 .bf16 := eT fun p i j => gu X G W p (512 * b + i) (1408 * q + j)
def pa (b q : ℕ) : FVec Ideal S512x1408 .bf16 := eV fun i j => act X G W (512 * b + i) (1408 * q + j)

include hW in
theorem gu_at (t : Fin cfg0.N) : View.canon (Val := Elt Ideal) (e := .bf16)
      [⟨Rect.unit ![1, 0, 0] ![1, 512, 1408] inb_S2x512x1408_S1x512x1408_1_0_0, k0_pay6 (F := Ideal) (pn X G (t.val / 2)) (iblk m c 3 t)⟩,
        ⟨Rect.unit ![0, 0, 0] ![1, 512, 1408] inb_S2x512x1408_S1x512x1408_0_0_0, k0_pay5 (F := Ideal) (pn X G (t.val / 2)) (iblk m c 2 t)⟩]
      = pg X G W (t.val / 2) (t.val % 2) := by
  unfold pn
  rw [iblk2 W m c hW, iblk3 W m c hW, pay5, pay6, stack]
  rfl
include hW in
theorem act_at (t : Fin cfg0.N) : k0_pay7 (F := Ideal) (pn X G (t.val / 2)) (iblk m c 2 t) (iblk m c 3 t) = pa X G W (t.val / 2) (t.val % 2) := by
  unfold pn
  rw [iblk2 W m c hW, iblk3 W m c hW, pay7]
  rfl

include hX hG hW in
theorem at_start (t : Fin cfg0.N) (h : t.val % 2 = 0) : (leftStart m c t h).hn = pn X G (t.val / 2)
    ∧ (leftStart m c t h).gu = pg X G W (t.val / 2) (t.val % 2)
    ∧ (leftStart m c t h).act = pa X G W (t.val / 2) (t.val % 2) ∧ (leftStart m c t h).cp = pn X G (t.val / 2) := by
  have e1 : k0_pay1 (F := Ideal) (iblk m c 0 t) (iblk m c 1 t) = pn X G (t.val / 2) := by
    rw [iblk0 X m c hX, iblk1 G m c hG, pay1]; rfl
  have e2 : k0_pay2 (F := Ideal) (iblk m c 0 t) (iblk m c 1 t) = pn X G (t.val / 2) := by
    rw [iblk0 X m c hX, iblk1 G m c hG, pay2]; rfl
  refine ⟨?_, ?_, ?_, ?_⟩
  · unfold leftStart startAt start; dsimp only
    frame_out
    exact e1
  · unfold leftStart startAt start; dsimp only
    frame_out
    rw [e2]
    exact gu_at X G W m c hW t
  · unfold leftStart startAt start; dsimp only
    frame_out
    rw [e2]
    exact act_at X G W m c hW t
  · unfold leftStart startAt start; dsimp only
    frame_out
    exact e2

theorem own_read (x : Vec Ideal S512x1024 .bf16) : View.read (Elt Ideal) (View.whole cc0_scratch0) (wown.unread x) = x := wown.read_unread x

/-- What the second point of a block of rows leaves, over what it was left. -/
theorem next_gu (t : Fin cfg0.N) (h : ¬t.val % 2 = 0) (p : Left Ideal) : (leftNext m c t h p).gu = View.canon (Val := Elt Ideal) (e := .bf16)
      [⟨Rect.unit ![1, 0, 0] ![1, 512, 1408] inb_S2x512x1408_S1x512x1408_1_0_0, k0_pay6 (F := Ideal) p.cp (iblk m c 3 t)⟩,
        ⟨Rect.unit ![0, 0, 0] ![1, 512, 1408] inb_S2x512x1408_S1x512x1408_0_0_0, k0_pay5 (F := Ideal) p.cp (iblk m c 2 t)⟩] := by
  unfold leftNext nextAt next; dsimp only
  frame_out
  rw [own_read]
theorem next_act (t : Fin cfg0.N) (h : ¬t.val % 2 = 0) (p : Left Ideal) : (leftNext m c t h p).act = k0_pay7 (F := Ideal) p.cp (iblk m c 2 t) (iblk m c 3 t) := by
  unfold leftNext nextAt next; dsimp only
  frame_out
  rw [own_read]
theorem next_cp (t : Fin cfg0.N) (h : ¬t.val % 2 = 0) (p : Left Ideal) : (leftNext m c t h p).cp = p.cp := by
  unfold leftNext; dsimp only

include hX hG hW in
theorem at_point (t : Fin cfg0.N) : (left m c t).hn = pn X G (t.val / 2)
    ∧ (left m c t).gu = pg X G W (t.val / 2) (t.val % 2)
    ∧ (left m c t).act = pa X G W (t.val / 2) (t.val % 2) ∧ (left m c t).cp = pn X G (t.val / 2) := by
  by_cases h : t.val % 2 = 0
  · rw [left_start m c t h]
    exact at_start X G W m c hX hG hW t h
  · obtain ⟨p1, -, -, p4⟩ := at_start X G W m c hX hG hW (prev t) (prev_even h)
    have hb : (prev t).val / 2 = t.val / 2 := by show (t.val - 1) / 2 = t.val / 2; omega
    rw [hb] at p1 p4
    rw [left_next m c t h, left_start m c (prev t) (prev_even h)]
    refine ⟨(leftNext_hn m c t h _).trans p1, ?_, ?_, ?_⟩
    · rw [next_gu, p4]
      exact gu_at X G W m c hW t
    · rw [next_act, p4]
      exact act_at X G W m c hW t
    · exact (next_cp m c t h _).trans p4

include hX hG hW in
theorem arr4 : (dats m 0 c).arrAt 4 cfg0.N = (eV (nrm X G) : FVec Ideal S8192x1024 .bf16) := by
  refine (dats m 0 c).arrAt_eq_of_covers 4 _ (by decide +kernel) fun t hf y => ?_
  blk_simp
  rw [after4, (at_point X G W m c hX hG hW t).1]
  have h0 : (((win0_4.blk t).view.emb y) 0 : ℕ) = 512 * (t.val / 2) + (y 0).val := by blk_simp [idx4 t] <;> omega
  have h1 : (((win0_4.blk t).view.emb y) 1 : ℕ) = (y 1).val := by blk_simp [idx4 t] <;> omega
  unfold eV
  rw [h0, h1]
  rfl
include hX hG hW in
theorem arr5 : (dats m 0 c).arrAt 5 cfg0.N = (eT (gu X G W) : FVec Ideal S2x8192x2816 .bf16) := by
  refine (dats m 0 c).arrAt_eq_of_covers 5 _ (by decide +kernel) fun t hf y => ?_
  blk_simp
  rw [after5, (at_point X G W m c hX hG hW t).2.1]
  have h0 : (((win0_5.blk t).view.emb y) 0 : ℕ) = (y 0).val := by blk_simp [idx5 t] <;> omega
  have h1 : (((win0_5.blk t).view.emb y) 1 : ℕ) = 512 * (t.val / 2) + (y 1).val := by blk_simp [idx5 t] <;> omega
  have h2 : (((win0_5.blk t).view.emb y) 2 : ℕ) = 1408 * (t.val % 2) + (y 2).val := by blk_simp [idx5 t] <;> omega
  unfold eT
  rw [h0, h1, h2]
  rfl
include hX hG hW in
theorem arr6 : (dats m 0 c).arrAt 6 cfg0.N = (eV (act X G W) : FVec Ideal S8192x2816 .bf16) := by
  refine (dats m 0 c).arrAt_eq_of_covers 6 _ (by decide +kernel) fun t hf y => ?_
  blk_simp
  rw [after6, (at_point X G W m c hX hG hW t).2.2.1]
  have h0 : (((win0_6.blk t).view.emb y) 0 : ℕ) = 512 * (t.val / 2) + (y 0).val := by blk_simp [idx6 t] <;> omega
  have h1 : (((win0_6.blk t).view.emb y) 1 : ℕ) = 1408 * (t.val % 2) + (y 1).val := by blk_simp [idx6 t] <;> omega
  unfold eV
  rw [h0, h1]
  rfl

theorem values : @Cert.algebraic_Kernel6Ideal_Reference6Ideal Cert.Kernel6Ideal.Gen.facts Cert.Reference6Ideal.Gen.facts := by
  intro m g m' g' _ hargs
  refine ⟨_, _, _, (θ_run Cert.Kernel6Ideal.defs _ _).mono (fun r h c => ⟨(h.1 c).1.1, (h.1 c).1.2.1, (h.1 c).1.2.2, (h.1 c).2⟩) (run_blocks (F := Ideal) m g), ?_⟩
  refine (θ_run Cert.Reference6Ideal.defs _ _).mono (fun r h c => ?_) (Cert.Reference6Ideal.Value.run (F := Ideal) m' g')
  obtain ⟨r0, r1, r2, r3⟩ := h c
  obtain ⟨a0, a1, a2⟩ := hargs c
  obtain ⟨X, hX⟩ := exV (n := 8192) (m := 1024) (φ := .f32) (m ((c : Thread nD τ).loc main_arg0))
  obtain ⟨G, hG⟩ := exL (n := 1024) (φ := .f32) (m ((c : Thread nD τ).loc main_arg1))
  obtain ⟨W, hW⟩ := exV (n := 1024) (m := 5632) (φ := .bf16) (m ((c : Thread nD τ).loc main_arg2))
  refine ⟨r0.trans ?_, r1.trans ?_, r2.trans ?_, r3⟩
  · rw [a0.trans hX, a1.trans hG]
    exact (ref0 X G).trans (arr4 X G W m c hX hG hW).symm
  · rw [a0.trans hX, a1.trans hG, a2.trans hW]
    exact (ref1 X G W).trans (arr5 X G W m c hX hG hW).symm
  · rw [a0.trans hX, a1.trans hG, a2.trans hW]
    exact (ref2 X G W).trans (arr6 X G W m c hX hG hW).symm

end Cert.V6

end
-- ==== Proof.Ops.lean ====
/- Operations of the kernel on arrays of real numbers. -/
module

public import proofs.«01_k».proof.Proof.Gen.KernelIdeal.Skeleton
public import Idealize.ShloMosaic.Lib.Pointwise

@[expose] public section

set_option maxRecDepth 16384

noncomputable section

namespace Cert.Val

open Cert.KernelIdeal Cert.KernelIdeal.Gen Idealize.ShloMosaic

/-- A matrix of reals, on naturals, as an array of the ideal semantics. -/
def toV {n m : Nat} {φ : FTy} (f : ℕ → ℕ → ℝ) : FVec Ideal ⟨2, ![n, m]⟩ φ :=
  fun i => ((f (i 0).val (i 1).val : ℝ) : EReal)

/-- A matrix of truth values as an array of bits. -/
def toM {n m : Nat} (P : ℕ → ℕ → Bool) : IVec ⟨2, ![n, m]⟩ 1 :=
  fun i => BitVec.ofBool (P (i 0).val (i 1).val)

variable {n m : Nat} {φ : FTy}

theorem addf_v (f g : ℕ → ℕ → ℝ) :
    addf (toV (n := n) (m := m) (φ := φ) f) (toV g) = toV (fun i j => f i j + g i j) := by
  funext i; exact (EReal.coe_add _ _).symm

theorem subf_v (f g : ℕ → ℕ → ℝ) :
    subf (toV (n := n) (m := m) (φ := φ) f) (toV g) = toV (fun i j => f i j - g i j) := by
  funext i; exact (EReal.coe_sub _ _).symm

theorem mulf_v (f g : ℕ → ℕ → ℝ) :
    mulf (toV (n := n) (m := m) (φ := φ) f) (toV g) = toV (fun i j => f i j * g i j) := by
  funext i; exact (EReal.coe_mul _ _).symm

theorem maximumf_v (f g : ℕ → ℕ → ℝ) :
    maximumf (toV (n := n) (m := m) (φ := φ) f) (toV g) = toV (fun i j => max (f i j) (g i j)) := by
  funext i; exact (EReal.coe_strictMono.monotone.map_max).symm

theorem absf_v (f : ℕ → ℕ → ℝ) :
    absf (toV (n := n) (m := m) (φ := φ) f) = toV (fun i j => |f i j|) := by
  funext i
  show max ((f (i 0).val (i 1).val : ℝ) : EReal) (-((f (i 0).val (i 1).val : ℝ) : EReal)) = _
  rw [← EReal.coe_neg, ← EReal.coe_strictMono.monotone.map_max]; rfl

theorem exp_v (f : ℕ → ℕ → ℝ) :
    exp (toV (n := n) (m := m) (φ := φ) f) = toV (fun i j => Real.exp (f i j)) := rfl

theorem log_v (f : ℕ → ℕ → ℝ) :
    log (toV (n := n) (m := m) (φ := φ) fun i j => 1 + Real.exp (f i j)) = toV (fun i j => Real.log (1 + Real.exp (f i j))) := by
  funext i
  show (if 1 + Real.exp (f (i 0).val (i 1).val) ≤ 0 then (⊥ : EReal) else _) = _
  rw [if_neg (by have := Real.exp_pos (f (i 0).val (i 1).val); linarith)]; rfl

theorem truncf_v {ψ : FTy} (f : ℕ → ℕ → ℝ) (h) :
    truncf ψ (toV (n := n) (m := m) (φ := φ) f) h = toV f := rfl

theorem extf_v {ψ : FTy} (f : ℕ → ℕ → ℝ) (h) :
    extf ψ (toV (n := n) (m := m) (φ := φ) f) h = toV f := rfl

theorem zero_v (w : BitVec 32) (h : Ideal.ofBits .f32 w = 0) : constant (F := Ideal) ⟨2, ![n, m]⟩ .f32 w = toV (fun _ _ => 0) := by
  funext i; exact h

theorem lit0 : (FloatOps.ofBits .f32 0x00000000#32 : Ideal .f32) = ((0 : ℝ) : EReal) := Ideal.ofBits_zero_f32
theorem lit0b : (FloatOps.ofBits .bf16 0x0000#16 : Ideal .bf16) = ((0 : ℝ) : EReal) := Ideal.ofBits_zero_bf16
theorem lit1 : (FloatOps.ofBits .f32 0x3F800000#32 : Ideal .f32) = ((1 : ℝ) : EReal) := Ideal.ofBits_one_f32
theorem lit8 : (FloatOps.ofBits .f32 0x3E000000#32 : Ideal .f32) = ((1 / 8 : ℝ) : EReal) := by
  show Ideal.ofBits .f32 0x3E000000#32 = _
  simp [Ideal.ofBits, Ideal.ieee, -EReal.coe_mul]; norm_num
theorem lit8b : (FloatOps.ofBits .bf16 0x3E00#16 : Ideal .bf16) = ((1 / 8 : ℝ) : EReal) := by
  show Ideal.ofBits .bf16 0x3E00#16 = _
  simp [Ideal.ofBits, Ideal.ieee, -EReal.coe_mul]; norm_num

theorem bc_v (c : ℝ) : broadcast (α := Ideal φ) ⟨2, ![n, m]⟩ ((c : ℝ) : EReal) = toV (fun _ _ => c) := rfl

theorem select_v (P : ℕ → ℕ → Bool) (f g : ℕ → ℕ → ℝ) :
    select (toM P) (toV (n := n) (m := m) (φ := φ) f) (toV g) = toV (fun i j => if P i j then f i j else g i j) := by
  funext i
  show (if BitVec.ofBool (P (i 0).val (i 1).val) = 1#1 then ((f (i 0).val (i 1).val : ℝ) : EReal) else _) = ((if P (i 0).val (i 1).val then _ else _ : ℝ) : EReal)
  cases P (i 0).val (i 1).val <;> rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_range (k : ℕ) (f : ℕ → ℝ) : ((∑ i ∈ Finset.range k, f i : ℝ) : EReal) = ∑ i : Fin k, (f i.val : EReal) := by
  rw [Finset.sum_range, coe_sum]

theorem ext_v (f g : ℕ → ℕ → ℝ) (h : ∀ i < n, ∀ j < m, f i j = g i j) :
    (toV f : FVec Ideal ⟨2, ![n, m]⟩ φ) = toV g := by
  funext i; show ((f (i 0).val (i 1).val : ℝ) : EReal) = _
  rw [h _ (i 0).isLt _ (i 1).isLt]; rfl

theorem mm_S1024x128_S256x128_S1024x256_1_1_0_0 (f g : ℕ → ℕ → ℝ) :
    matmul (F := Ideal) (φ₁ := .bf16) (φ₂ := .bf16) dot_S1024x128_S256x128_S1024x256_1_1_0_0_n_n none (toV f) (toV g) (toV fun _ _ => 0)
      = (toV fun i j => ∑ k ∈ Finset.range 128, f i k * g j k) := by
  funext x; idx_vars x; pointwise [toV]; rw [coe_sum_range]; simp only [EReal.coe_mul, EReal.coe_zero, zero_add]

theorem mm_S1024x256_S1024x128_S256x128_0_0_1_1 (f g : ℕ → ℕ → ℝ) :
    matmul (F := Ideal) (φ₁ := .bf16) (φ₂ := .bf16) dot_S1024x256_S1024x128_S256x128_0_0_1_1_n_n none (toV f) (toV g) (toV fun _ _ => 0)
      = (toV fun i j => ∑ k ∈ Finset.range 1024, f k i * g k j) := by
  funext x; idx_vars x; pointwise [toV]; rw [coe_sum_range]; simp only [EReal.coe_mul, EReal.coe_zero, zero_add]

theorem mm_S1024x256_S256x128_S1024x128_1_0_0_1 (f g : ℕ → ℕ → ℝ) :
    matmul (F := Ideal) (φ₁ := .bf16) (φ₂ := .bf16) dot_S1024x256_S256x128_S1024x128_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S1024x256_S256x256_S1024x256_1_0_0_1 (f g : ℕ → ℕ → ℝ) :
    matmul (F := Ideal) (φ₁ := .bf16) (φ₂ := .bf16) dot_S1024x256_S256x256_S1024x256_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S256x128_S256x128_S256x256_1_1_0_0 (f g : ℕ → ℕ → ℝ) :
    matmul (F := Ideal) (φ₁ := .bf16) (φ₂ := .bf16) dot_S256x128_S256x128_S256x256_1_1_0_0_n_n none (toV f) (toV g) (toV fun _ _ => 0)
      = (toV fun i j => ∑ k ∈ Finset.range 128, f i k * g j k) := by
  funext x; idx_vars x; pointwise [toV]; rw [coe_sum_range]; simp only [EReal.coe_mul, EReal.coe_zero, zero_add]

theorem mm_S256x256_S256x128_S256x128_0_0_1_1 (f g : ℕ → ℕ → ℝ) :
    matmul (F := Ideal) (φ₁ := .bf16) (φ₂ := .bf16) dot_S256x256_S256x128_S256x128_0_0_1_1_n_n none (toV f) (toV g) (toV fun _ _ => 0)
      = (toV fun i j => ∑ k ∈ Finset.range 256, f k i * g k j) := by
  funext x; idx_vars x; pointwise [toV]; rw [coe_sum_range]; simp only [EReal.coe_mul, EReal.coe_zero, zero_add]

theorem mm_S256x256_S256x128_S256x128_1_0_0_1 (f g : ℕ → ℕ → ℝ) :
    matmul (F := Ideal) (φ₁ := .bf16) (φ₂ := .bf16) dot_S256x256_S256x128_S256x128_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S256x256_S256x256_S256x256_1_0_0_1 (f g : ℕ → ℕ → ℝ) :
    matmul (F := Ideal) (φ₁ := .bf16) (φ₂ := .bf16) dot_S256x256_S256x256_S256x256_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S512x128_S256x128_S512x256_1_1_0_0 (f g : ℕ → ℕ → ℝ) :
    matmul (F := Ideal) (φ₁ := .bf16) (φ₂ := .bf16) dot_S512x128_S256x128_S512x256_1_1_0_0_n_n none (toV f) (toV g) (toV fun _ _ => 0)
      = (toV fun i j => ∑ k ∈ Finset.range 128, f i k * g j k) := by
  funext x; idx_vars x; pointwise [toV]; rw [coe_sum_range]; simp only [EReal.coe_mul, EReal.coe_zero, zero_add]

theorem mm_S512x256_S256x128_S512x128_1_0_0_1 (f g : ℕ → ℕ → ℝ) :
    matmul (F := Ideal) (φ₁ := .bf16) (φ₂ := .bf16) dot_S512x256_S256x128_S512x128_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S512x256_S256x256_S512x256_1_0_0_1 (f g : ℕ → ℕ → ℝ) :
    matmul (F := Ideal) (φ₁ := .bf16) (φ₂ := .bf16) dot_S512x256_S256x256_S512x256_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S512x256_S512x128_S256x128_0_0_1_1 (f g : ℕ → ℕ → ℝ) :
    matmul (F := Ideal) (φ₁ := .bf16) (φ₂ := .bf16) dot_S512x256_S512x128_S256x128_0_0_1_1_n_n none (toV f) (toV g) (toV fun _ _ => 0)
      = (toV fun i j => ∑ k ∈ Finset.range 512, f k i * g k j) := by
  funext x; idx_vars x; pointwise [toV]; rw [coe_sum_range]; simp only [EReal.coe_mul, EReal.coe_zero, zero_add]

theorem mm_S768x128_S256x128_S768x256_1_1_0_0 (f g : ℕ → ℕ → ℝ) :
    matmul (F := Ideal) (φ₁ := .bf16) (φ₂ := .bf16) dot_S768x128_S256x128_S768x256_1_1_0_0_n_n none (toV f) (toV g) (toV fun _ _ => 0)
      = (toV fun i j => ∑ k ∈ Finset.range 128, f i k * g j k) := by
  funext x; idx_vars x; pointwise [toV]; rw [coe_sum_range]; simp only [EReal.coe_mul, EReal.coe_zero, zero_add]

theorem mm_S768x256_S256x128_S768x128_1_0_0_1 (f g : ℕ → ℕ → ℝ) :
    matmul (F := Ideal) (φ₁ := .bf16) (φ₂ := .bf16) dot_S768x256_S256x128_S768x128_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S768x256_S256x256_S768x256_1_0_0_1 (f g : ℕ → ℕ → ℝ) :
    matmul (F := Ideal) (φ₁ := .bf16) (φ₂ := .bf16) dot_S768x256_S256x256_S768x256_1_0_0_1_n_n none (toV f) (toV g) (toV fun _ _ => 0)
      = (toV fun i j => ∑ k ∈ Finset.range 256, f i k * g k j) := by
  funext x; idx_vars x; pointwise [toV]; rw [coe_sum_range]; simp only [EReal.coe_mul, EReal.coe_zero, zero_add]

theorem mm_S768x256_S768x128_S256x128_0_0_1_1 (f g : ℕ → ℕ → ℝ) :
    matmul (F := Ideal) (φ₁ := .bf16) (φ₂ := .bf16) dot_S768x256_S768x128_S256x128_0_0_1_1_n_n none (toV f) (toV g) (toV fun _ _ => 0)
      = (toV fun i j => ∑ k ∈ Finset.range 768, f k i * g k j) := by
  funext x; idx_vars x; pointwise [toV]; rw [coe_sum_range]; simp only [EReal.coe_mul, EReal.coe_zero, zero_add]

theorem slices_S1024x128_o0_0_S256x128_v (f : ℕ → ℕ → ℝ) :
    extractStridedSlice (α := Ideal φ) S256x128 ![0, 0] (toV (n := 1024) (m := 128) (φ := φ) f) slices_S1024x128_o0_0_S256x128 = (toV fun i j => f (i) j) := by
  funext x; idx_vars x; pointwise [toV]

theorem slices_S1024x128_o0_0_S512x128_v (f : ℕ → ℕ → ℝ) :
    extractStridedSlice (α := Ideal φ) S512x128 ![0, 0] (toV (n := 1024) (m := 128) (φ := φ) f) slices_S1024x128_o0_0_S512x128 = (toV fun i j => f (i) j) := by
  funext x; idx_vars x; pointwise [toV]

theorem slices_S1024x128_o0_0_S768x128_v (f : ℕ → ℕ → ℝ) :
    extractStridedSlice (α := Ideal φ) S768x128 ![0, 0] (toV (n := 1024) (m := 128) (φ := φ) f) slices_S1024x128_o0_0_S768x128 = (toV fun i j => f (i) j) := by
  funext x; idx_vars x; pointwise [toV]

theorem slices_S1024x128_o256_0_S768x128_v (f : ℕ → ℕ → ℝ) :
    extractStridedSlice (α := Ideal φ) S768x128 ![256, 0] (toV (n := 1024) (m := 128) (φ := φ) f) slices_S1024x128_o256_0_S768x128 = (toV fun i j => f (256 + i) j) := by
  funext x; idx_vars x; pointwise [toV]

theorem slices_S1024x128_o512_0_S512x128_v (f : ℕ → ℕ → ℝ) :
    extractStridedSlice (α := Ideal φ) S512x128 ![512, 0] (toV (n := 1024) (m := 128) (φ := φ) f) slices_S1024x128_o512_0_S512x128 = (toV fun i j => f (512 + i) j) := by
  funext x; idx_vars x; pointwise [toV]

theorem slices_S1024x128_o768_0_S256x128_v (f : ℕ → ℕ → ℝ) :
    extractStridedSlice (α := Ideal φ) S256x128 ![768, 0] (toV (n := 1024) (m := 128) (φ := φ) f) slices_S1024x128_o768_0_S256x128 = (toV fun i j => f (768 + i) j) := by
  funext x; idx_vars x; pointwise [toV]

theorem slices_S1024x1_o0_0_S256x1_v (f : ℕ → ℕ → ℝ) :
    extractStridedSlice (α := Ideal φ) S256x1 ![0, 0] (toV (n := 1024) (m := 1) (φ := φ) f) slices_S1024x1_o0_0_S256x1 = (toV fun i j => f (i) j) := by
  funext x; idx_vars x; pointwise [toV] <;> simp only [Fin.val_eq_zero]

theorem slices_S1024x1_o0_0_S512x1_v (f : ℕ → ℕ → ℝ) :
    extractStridedSlice (α := Ideal φ) S512x1 ![0, 0] (toV (n := 1024) (m := 1) (φ := φ) f) slices_S1024x1_o0_0_S512x1 = (toV fun i j => f (i) j) := by
  funext x; idx_vars x; pointwise [toV] <;> simp only [Fin.val_eq_zero]

theorem slices_S1024x1_o256_0_S768x1_v (f : ℕ → ℕ → ℝ) :
    extractStridedSlice (α := Ideal φ) S768x1 ![256, 0] (toV (n := 1024) (m := 1) (φ := φ) f) slices_S1024x1_o256_0_S768x1 = (toV fun i j => f (256 + i) j) := by
  funext x; idx_vars x; pointwise [toV] <;> simp only [Fin.val_eq_zero]

theorem slices_S1024x1_o512_0_S512x1_v (f : ℕ → ℕ → ℝ) :
    extractStridedSlice (α := Ideal φ) S512x1 ![512, 0] (toV (n := 1024) (m := 1) (φ := φ) f) slices_S1024x1_o512_0_S512x1 = (toV fun i j => f (512 + i) j) := by
  funext x; idx_vars x; pointwise [toV] <;> simp only [Fin.val_eq_zero]

theorem slices_S1024x1_o768_0_S256x1_v (f : ℕ → ℕ → ℝ) :
    extractStridedSlice (α := Ideal φ) S256x1 ![768, 0] (toV (n := 1024) (m := 1) (φ := φ) f) slices_S1024x1_o768_0_S256x1 = (toV fun i j => f (768 + i) j) := by
  funext x; idx_vars x; pointwise [toV] <;> simp only [Fin.val_eq_zero]

theorem slices_S1024x256_o0_255_S1024x1_v (f : ℕ → ℕ → ℝ) :
    extractStridedSlice (α := Ideal φ) S1024x1 ![0, 255] (toV (n := 1024) (m := 256) (φ := φ) f) slices_S1024x256_o0_255_S1024x1 = (toV fun i j => f (i) 255) := by
  funext x; idx_vars x; pointwise [toV]

theorem slices_S1024x2_o0_0_S1024x1_v (f : ℕ → ℕ → ℝ) :
    extractStridedSlice (α := Ideal φ) S1024x1 ![0, 0] (toV (n := 1024) (m := 2) (φ := φ) f) slices_S1024x2_o0_0_S1024x1 = (toV fun i j => f (i) 0) := by
  funext x; idx_vars x; pointwise [toV]

theorem slices_S1024x2_o0_1_S1024x1_v (f : ℕ → ℕ → ℝ) :
    extractStridedSlice (α := Ideal φ) S1024x1 ![0, 1] (toV (n := 1024) (m := 2) (φ := φ) f) slices_S1024x2_o0_1_S1024x1 = (toV fun i j => f (i) 1) := by
  funext x; idx_vars x; pointwise [toV]

theorem slices_S512x256_o0_255_S512x1_v (f : ℕ → ℕ → ℝ) :
    extractStridedSlice (α := Ideal φ) S512x1 ![0, 255] (toV (n := 512) (m := 256) (φ := φ) f) slices_S512x256_o0_255_S512x1 = (toV fun i j => f (i) 255) := by
  funext x; idx_vars x; pointwise [toV]

theorem slices_S768x256_o0_255_S768x1_v (f : ℕ → ℕ → ℝ) :
    extractStridedSlice (α := Ideal φ) S768x1 ![0, 255] (toV (n := 768) (m := 256) (φ := φ) f) slices_S768x256_o0_255_S768x1 = (toV fun i j => f (i) 255) := by
  funext x; idx_vars x; pointwise [toV]

theorem broadcasts_S1024x1_S1024x256_v (f : ℕ → ℕ → ℝ) :
    broadcastTo S1024x256 (toV (n := 1024) (m := 1) (φ := φ) f) broadcasts_S1024x1_S1024x256 = (toV fun i _ => f i 0) := by
  funext x; idx_vars x; pointwise [toV]

theorem broadcasts_S256x1_S256x256_v (f : ℕ → ℕ → ℝ) :
    broadcastTo S256x256 (toV (n := 256) (m := 1) (φ := φ) f) broadcasts_S256x1_S256x256 = (toV fun i _ => f i 0) := by
  funext x; idx_vars x; pointwise [toV]

theorem broadcasts_S512x1_S512x256_v (f : ℕ → ℕ → ℝ) :
    broadcastTo S512x256 (toV (n := 512) (m := 1) (φ := φ) f) broadcasts_S512x1_S512x256 = (toV fun i _ => f i 0) := by
  funext x; idx_vars x; pointwise [toV]

theorem broadcasts_S768x1_S768x256_v (f : ℕ → ℕ → ℝ) :
    broadcastTo S768x256 (toV (n := 768) (m := 1) (φ := φ) f) broadcasts_S768x1_S768x256 = (toV fun i _ => f i 0) := by
  funext x; idx_vars x; pointwise [toV]

/-- One block of rows above another. -/
def concatenates_S256x128_S768x128_S1024x128_d0_c (x : FVec Ideal S256x128 .f32) (y : FVec Ideal S768x128 .f32) : FVec Ideal S1024x128 .f32 :=
  concatenate S1024x128 0 [⟨S256x128, x⟩, ⟨S768x128, y⟩] concatenates_S256x128_S768x128_S1024x128_d0

theorem concatenates_S256x128_S768x128_S1024x128_d0_d (x : FVec Ideal S256x128 .f32) (y : FVec Ideal S768x128 .f32) :
    concatenate S1024x128 0 [⟨S256x128, x⟩, ⟨S768x128, y⟩] concatenates_S256x128_S768x128_S1024x128_d0 = concatenates_S256x128_S768x128_S1024x128_d0_c x y := rfl

theorem concatenates_S256x128_S768x128_S1024x128_d0_v (f g : ℕ → ℕ → ℝ) :
    concatenates_S256x128_S768x128_S1024x128_d0_c (toV f) (toV g) = (toV fun i j => if i < 256 then f i j else g (i - 256) j) := by
  funext x; idx_vars x; pointwise [toV, concatenates_S256x128_S768x128_S1024x128_d0_c]; split <;> rfl

/-- One block of rows above another. -/
def concatenates_S256x1_S768x1_S1024x1_d0_c (x : FVec Ideal S256x1 .f32) (y : FVec Ideal S768x1 .f32) : FVec Ideal S1024x1 .f32 :=
  concatenate S1024x1 0 [⟨S256x1, x⟩, ⟨S768x1, y⟩] concatenates_S256x1_S768x1_S1024x1_d0

theorem concatenates_S256x1_S768x1_S1024x1_d0_d (x : FVec Ideal S256x1 .f32) (y : FVec Ideal S768x1 .f32) :
    concatenate S1024x1 0 [⟨S256x1, x⟩, ⟨S768x1, y⟩] concatenates_S256x1_S768x1_S1024x1_d0 = concatenates_S256x1_S768x1_S1024x1_d0_c x y := rfl

theorem concatenates_S256x1_S768x1_S1024x1_d0_v (f g : ℕ → ℕ → ℝ) :
    concatenates_S256x1_S768x1_S1024x1_d0_c (toV f) (toV g) = (toV fun i j => if i < 256 then f i j else g (i - 256) j) := by
  funext x; idx_vars x; pointwise [toV, concatenates_S256x1_S768x1_S1024x1_d0_c]; split <;> rfl

/-- One block of rows above another. -/
def concatenates_S512x128_S512x128_S1024x128_d0_c (x : FVec Ideal S512x128 .f32) (y : FVec Ideal S512x128 .f32) : FVec Ideal S1024x128 .f32 :=
  concatenate S1024x128 0 [⟨S512x128, x⟩, ⟨S512x128, y⟩] concatenates_S512x128_S512x128_S1024x128_d0

theorem concatenates_S512x128_S512x128_S1024x128_d0_d (x : FVec Ideal S512x128 .f32) (y : FVec Ideal S512x128 .f32) :
    concatenate S1024x128 0 [⟨S512x128, x⟩, ⟨S512x128, y⟩] concatenates_S512x128_S512x128_S1024x128_d0 = concatenates_S512x128_S512x128_S1024x128_d0_c x y := rfl

theorem concatenates_S512x128_S512x128_S1024x128_d0_v (f g : ℕ → ℕ → ℝ) :
    concatenates_S512x128_S512x128_S1024x128_d0_c (toV f) (toV g) = (toV fun i j => if i < 512 then f i j else g (i - 512) j) := by
  funext x; idx_vars x; pointwise [toV, concatenates_S512x128_S512x128_S1024x128_d0_c]; split <;> rfl

/-- One block of rows above another. -/
def concatenates_S512x1_S512x1_S1024x1_d0_c (x : FVec Ideal S512x1 .f32) (y : FVec Ideal S512x1 .f32) : FVec Ideal S1024x1 .f32 :=
  concatenate S1024x1 0 [⟨S512x1, x⟩, ⟨S512x1, y⟩] concatenates_S512x1_S512x1_S1024x1_d0

theorem concatenates_S512x1_S512x1_S1024x1_d0_d (x : FVec Ideal S512x1 .f32) (y : FVec Ideal S512x1 .f32) :
    concatenate S1024x1 0 [⟨S512x1, x⟩, ⟨S512x1, y⟩] concatenates_S512x1_S512x1_S1024x1_d0 = concatenates_S512x1_S512x1_S1024x1_d0_c x y := rfl

theorem concatenates_S512x1_S512x1_S1024x1_d0_v (f g : ℕ → ℕ → ℝ) :
    concatenates_S512x1_S512x1_S1024x1_d0_c (toV f) (toV g) = (toV fun i j => if i < 512 then f i j else g (i - 512) j) := by
  funext x; idx_vars x; pointwise [toV, concatenates_S512x1_S512x1_S1024x1_d0_c]; split <;> rfl

/-- One block of rows above another. -/
def concatenates_S768x128_S256x128_S1024x128_d0_c (x : FVec Ideal S768x128 .f32) (y : FVec Ideal S256x128 .f32) : FVec Ideal S1024x128 .f32 :=
  concatenate S1024x128 0 [⟨S768x128, x⟩, ⟨S256x128, y⟩] concatenates_S768x128_S256x128_S1024x128_d0

theorem concatenates_S768x128_S256x128_S1024x128_d0_d (x : FVec Ideal S768x128 .f32) (y : FVec Ideal S256x128 .f32) :
    concatenate S1024x128 0 [⟨S768x128, x⟩, ⟨S256x128, y⟩] concatenates_S768x128_S256x128_S1024x128_d0 = concatenates_S768x128_S256x128_S1024x128_d0_c x y := rfl

theorem concatenates_S768x128_S256x128_S1024x128_d0_v (f g : ℕ → ℕ → ℝ) :
    concatenates_S768x128_S256x128_S1024x128_d0_c (toV f) (toV g) = (toV fun i j => if i < 768 then f i j else g (i - 768) j) := by
  funext x; idx_vars x; pointwise [toV, concatenates_S768x128_S256x128_S1024x128_d0_c]; split <;> rfl

theorem shapeCasts_S256x128_v (f : ℕ → ℕ → ℝ) :
    shapeCast S256x128 (toV (n := 256) (m := 128) (φ := φ) f) shapeCasts_S256x128_S256x128 = toV f := by
  funext x; idx_vars x; pointwise [toV]

theorem shapeCasts_S256x256_v (f : ℕ → ℕ → ℝ) :
    shapeCast S256x256 (toV (n := 256) (m := 256) (φ := φ) f) shapeCasts_S256x256_S256x256 = toV f := by
  funext x; idx_vars x; pointwise [toV]

theorem muli_n (a b : ℕ) : Scalar.muli (BitVec.ofNat 32 a) (BitVec.ofNat 32 b) = BitVec.ofNat 32 (a * b) :=
  (BitVec.ofNat_mul ..).symm

theorem addi_n (a b : ℕ) : Scalar.addi (BitVec.ofNat 32 a) (BitVec.ofNat 32 b) = BitVec.ofNat 32 (a + b) :=
  (BitVec.ofNat_add ..).symm

theorem slt_n (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  rw [BitVec.slt_eq_decide, BitVec.toInt_eq_toNat_cond, BitVec.toInt_eq_toNat_cond]
  simp only [BitVec.toNat_ofNat]
  rw [Nat.mod_eq_of_lt (by omega), Nat.mod_eq_of_lt (by omega), if_pos (by omega), if_pos (by omega)]
  simp

theorem sge_n (a b : ℕ) (ha : a < 2 ^ 31) (hb : b < 2 ^ 31) :
    IntOp.cmpi .sge (BitVec.ofNat 32 a) (BitVec.ofNat 32 b) = BitVec.ofBool (decide (b ≤ a)) := by
  show BitVec.ofBool (BitVec.sle (BitVec.ofNat 32 b) (BitVec.ofNat 32 a)) = _
  congr 1
  rw [BitVec.sle_eq_decide, BitVec.toInt_eq_toNat_cond, BitVec.toInt_eq_toNat_cond]
  simp only [BitVec.toNat_ofNat]
  rw [Nat.mod_eq_of_lt (by omega), Nat.mod_eq_of_lt (by omega), if_pos (by omega), if_pos (by omega)]
  simp

theorem mask_1024 (a b : ℕ) (ha : a < 2 ^ 20) (hb : b < 2 ^ 20) :
    cmpi .slt (addi (iota .tc S1024x256 32 [1] iota_S1024x256_d1_w32) (broadcast S1024x256 (BitVec.ofNat 32 a)))
        (addi (iota .tc S1024x256 32 [0] iota_S1024x256_d0_w32) (broadcast S1024x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem mask_768 (a b : ℕ) (ha : a < 2 ^ 20) (hb : b < 2 ^ 20) :
    cmpi .slt (addi (iota .tc S768x256 32 [1] iota_S768x256_d1_w32) (broadcast S768x256 (BitVec.ofNat 32 a)))
        (addi (iota .tc S768x256 32 [0] iota_S768x256_d0_w32) (broadcast S768x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem mask_512 (a b : ℕ) (ha : a < 2 ^ 20) (hb : b < 2 ^ 20) :
    cmpi .slt (addi (iota .tc S512x256 32 [1] iota_S512x256_d1_w32) (broadcast S512x256 (BitVec.ofNat 32 a)))
        (addi (iota .tc S512x256 32 [0] iota_S512x256_d0_w32) (broadcast S512x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem mask_256 (a b : ℕ) (ha : a < 2 ^ 20) (hb : b < 2 ^ 20) :
    cmpi .slt (addi (iota .tc S256x256 32 [1] iota_S256x256_d1_w32) (broadcast S256x256 (BitVec.ofNat 32 a)))
        (addi (iota .tc S256x256 32 [0] iota_S256x256_d0_w32) (broadcast S256x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem laneA : cmpi .slt (iota .tc S1024x128 32 [1] iota_S1024x128_d1_w32) (broadcast S1024x128 64#32)
      = toM fun _ d => decide (d < 64) := by
  funext x; idx_vars x
  have h1 := x1.isLt
  pointwise [toM]
  exact slt_n _ _ (by omega) (by omega)

theorem laneB : cmpi .sge (iota .tc S1024x128 32 [1] iota_S1024x128_d1_w32) (broadcast S1024x128 64#32)
      = toM fun _ d => decide (64 ≤ d) := by
  funext x; idx_vars x
  have h1 := x1.isLt
  pointwise [toM]
  exact sge_n _ _ (by omega) (by omega)

end Cert.Val

end
-- ==== Proof.FwdOps.lean ====
/- The operations of the attention kernel's body on arrays given by their entries. -/
module

public import proofs.«01_k».proof.Proof.Ext
public import proofs.«01_k».proof.Proof.Ops
public import proofs.«01_k».proof.Proof.Gen.Kernel23Ideal.Value

@[expose] public section

set_option maxRecDepth 16384

noncomputable section

namespace Cert.V23

open Cert.Kernel23Ideal Cert.Kernel23Ideal.Gen Idealize.ShloMosaic
open Cert.Ext (eV eT exV exT ext_e)
open Cert.Val (toM slt_n sge_n muli_n addi_n)

variable {n m : ℕ} {φ : FTy}

theorem addf_e (f g : ℕ → ℕ → EReal) : addf (eV (n := n) (m := m) (φ := φ) f) (eV g) = eV fun i j => f i j + g i j := rfl
theorem subf_e (f g : ℕ → ℕ → EReal) : subf (eV (n := n) (m := m) (φ := φ) f) (eV g) = eV fun i j => f i j - g i j := rfl
theorem mulf_e (f g : ℕ → ℕ → EReal) : mulf (eV (n := n) (m := m) (φ := φ) f) (eV g) = eV fun i j => f i j * g i j := rfl
theorem maximumf_e (f g : ℕ → ℕ → EReal) : maximumf (eV (n := n) (m := m) (φ := φ) f) (eV g) = eV fun i j => max (f i j) (g i j) := rfl
theorem absf_e (f : ℕ → ℕ → EReal) : absf (eV (n := n) (m := m) (φ := φ) f) = eV fun i j => max (f i j) (-f i j) := rfl
theorem exp_e (f : ℕ → ℕ → EReal) : exp (eV (n := n) (m := m) (φ := φ) f) = eV fun i j => Ideal.exp (f i j) := rfl
theorem log_e (f : ℕ → ℕ → EReal) : log (eV (n := n) (m := m) (φ := φ) f) = eV fun i j => Ideal.log (f i j) := rfl
theorem truncf_e {ψ : FTy} (f : ℕ → ℕ → EReal) (h) : truncf ψ (eV (n := n) (m := m) (φ := φ) f) h = eV f := rfl
theorem extf_e {ψ : FTy} (f : ℕ → ℕ → EReal) (h) : extf ψ (eV (n := n) (m := m) (φ := φ) f) h = eV f := rfl
theorem select_e (P : ℕ → ℕ → Bool) (f g : ℕ → ℕ → EReal) :
    select (toM P) (eV (n := n) (m := m) (φ := φ) f) (eV g) = eV fun i j => if P i j then f i j else g i j := by
  funext i
  show (if BitVec.ofBool (P (i 0).val (i 1).val) = 1#1 then f (i 0).val (i 1).val else _) = if P (i 0).val (i 1).val then _ else _
  cases P (i 0).val (i 1).val <;> rfl
theorem zc : constant (F := Ideal) ⟨2, ![n, m]⟩ .f32 0x00000000#32 = eV fun _ _ => 0 := by
  funext i; exact Ideal.ofBits_zero_f32
theorem bz : broadcast (α := Ideal .f32) ⟨2, ![n, m]⟩ (FloatOps.ofBits .f32 0x00000000#32 : Ideal .f32) = eV fun _ _ => 0 := by
  funext i; exact Ideal.ofBits_zero_f32
theorem bo : broadcast (α := Ideal .f32) ⟨2, ![n, m]⟩ (FloatOps.ofBits .f32 0x3F800000#32 : Ideal .f32) = eV fun _ _ => 1 := by
  funext i; exact Ideal.ofBits_one_f32
theorem sz : broadcast (α := Ideal .f32) ⟨2, ![n, m]⟩ (Scalar.ofBits (F := Ideal) .f32 0x00000000#32) = eV fun _ _ => 0 := bz
theorem so : broadcast (α := Ideal .f32) ⟨2, ![n, m]⟩ (Scalar.ofBits (F := Ideal) .f32 0x3F800000#32) = eV fun _ _ => 1 := bo
theorem bzb : broadcast (α := Ideal .bf16) ⟨2, ![n, m]⟩ (Scalar.ofBits (F := Ideal) .bf16 0x0000#16) = eV fun _ _ => 0 := by
  funext i; exact Ideal.ofBits_zero_bf16
theorem b8b : broadcast (α := Ideal .bf16) ⟨2, ![n, m]⟩ (Scalar.ofBits (F := Ideal) .bf16 0x3E00#16) = eV fun _ _ => ((1 / 8 : ℝ) : EReal) := by
  funext i; exact Cert.Val.lit8b

theorem mm_S256x128_S256x128_S256x256_1_1_0_0 (f g : ℕ → ℕ → EReal) :
    matmul (F := Ideal) (φ₁ := .bf16) (φ₂ := .bf16) dot_S256x128_S256x128_S256x256_1_1_0_0_n_n none (eV f) (eV g) (eV fun _ _ => 0)
      = eV fun i j => ∑ k ∈ Finset.range 128, f i k * g j k := by
  funext x; idx_vars x; pointwise [eV]; rw [Finset.sum_range]

theorem mm_S256x256_S256x256_S256x256_1_0_0_1 (f g : ℕ → ℕ → EReal) :
    matmul (F := Ideal) (φ₁ := .bf16) (φ₂ := .bf16) dot_S256x256_S256x256_S256x256_1_0_0_1_n_n none (eV f) (eV g) (eV fun _ _ => 0)
      = eV fun i j => ∑ k ∈ Finset.range 256, f i k * g k j := by
  funext x; idx_vars x; pointwise [eV]; rw [Finset.sum_range]

theorem mm_S256x256_S256x128_S256x128_1_0_0_1 (f g : ℕ → ℕ → EReal) :
    matmul (F := Ideal) (φ₁ := .bf16) (φ₂ := .bf16) dot_S256x256_S256x128_S256x128_1_0_0_1_n_n none (eV f) (eV g) (eV fun _ _ => 0)
      = eV fun i j => ∑ k ∈ Finset.range 256, f i k * g k j := by
  funext x; idx_vars x; pointwise [eV]; rw [Finset.sum_range]

theorem mm_S512x128_S256x128_S512x256_1_1_0_0 (f g : ℕ → ℕ → EReal) :
    matmul (F := Ideal) (φ₁ := .bf16) (φ₂ := .bf16) dot_S512x128_S256x128_S512x256_1_1_0_0_n_n none (eV f) (eV g) (eV fun _ _ => 0)
      = eV fun i j => ∑ k ∈ Finset.range 128, f i k * g j k := by
  funext x; idx_vars x; pointwise [eV]; rw [Finset.sum_range]

theorem mm_S512x256_S256x256_S512x256_1_0_0_1 (f g : ℕ → ℕ → EReal) :
    matmul (F := Ideal) (φ₁ := .bf16) (φ₂ := .bf16) dot_S512x256_S256x256_S512x256_1_0_0_1_n_n none (eV f) (eV g) (eV fun _ _ => 0)
      = eV fun i j => ∑ k ∈ Finset.range 256, f i k * g k j := by
  funext x; idx_vars x; pointwise [eV]; rw [Finset.sum_range]

theorem mm_S512x256_S256x128_S512x128_1_0_0_1 (f g : ℕ → ℕ → EReal) :
    matmul (F := Ideal) (φ₁ := .bf16) (φ₂ := .bf16) dot_S512x256_S256x128_S512x128_1_0_0_1_n_n none (eV f) (eV g) (eV fun _ _ => 0)
      = eV fun i j => ∑ k ∈ Finset.range 256, f i k * g k j := by
  funext x; idx_vars x; pointwise [eV]; rw [Finset.sum_range]

theorem mm_S768x128_S256x128_S768x256_1_1_0_0 (f g : ℕ → ℕ → EReal) :
    matmul (F := Ideal) (φ₁ := .bf16) (φ₂ := .bf16) dot_S768x128_S256x128_S768x256_1_1_0_0_n_n none (eV f) (eV g) (eV fun _ _ => 0)
      = eV fun i j => ∑ k ∈ Finset.range 128, f i k * g j k := by
  funext x; idx_vars x; pointwise [eV]; rw [Finset.sum_range]

theorem mm_S768x256_S256x256_S768x256_1_0_0_1 (f g : ℕ → ℕ → EReal) :
    matmul (F := Ideal) (φ₁ := .bf16) (φ₂ := .bf16) dot_S768x256_S256x256_S768x256_1_0_0_1_n_n none (eV f) (eV g) (eV fun _ _ => 0)
      = eV fun i j => ∑ k ∈ Finset.range 256, f i k * g k j := by
  funext x; idx_vars x; pointwise [eV]; rw [Finset.sum_range]

theorem mm_S768x256_S256x128_S768x128_1_0_0_1 (f g : ℕ → ℕ → EReal) :
    matmul (F := Ideal) (φ₁ := .bf16) (φ₂ := .bf16) dot_S768x256_S256x128_S768x128_1_0_0_1_n_n none (eV f) (eV g) (eV fun _ _ => 0)
      = eV fun i j => ∑ k ∈ Finset.range 256, f i k * g k j := by
  funext x; idx_vars x; pointwise [eV]; rw [Finset.sum_range]

theorem mm_S1024x128_S256x128_S1024x256_1_1_0_0 (f g : ℕ → ℕ → EReal) :
    matmul (F := Ideal) (φ₁ := .bf16) (φ₂ := .bf16) dot_S1024x128_S256x128_S1024x256_1_1_0_0_n_n none (eV f) (eV g) (eV fun _ _ => 0)
      = eV fun i j => ∑ k ∈ Finset.range 128, f i k * g j k := by
  funext x; idx_vars x; pointwise [eV]; rw [Finset.sum_range]

theorem mm_S1024x256_S256x256_S1024x256_1_0_0_1 (f g : ℕ → ℕ → EReal) :
    matmul (F := Ideal) (φ₁ := .bf16) (φ₂ := .bf16) dot_S1024x256_S256x256_S1024x256_1_0_0_1_n_n none (eV f) (eV g) (eV fun _ _ => 0)
      = eV fun i j => ∑ k ∈ Finset.range 256, f i k * g k j := by
  funext x; idx_vars x; pointwise [eV]; rw [Finset.sum_range]

theorem mm_S1024x256_S256x128_S1024x128_1_0_0_1 (f g : ℕ → ℕ → EReal) :
    matmul (F := Ideal) (φ₁ := .bf16) (φ₂ := .bf16) dot_S1024x256_S256x128_S1024x128_1_0_0_1_n_n none (eV f) (eV g) (eV fun _ _ => 0)
      = eV fun i j => ∑ k ∈ Finset.range 256, f i k * g k j := by
  funext x; idx_vars x; pointwise [eV]; rw [Finset.sum_range]

theorem slices_S1024x128_o0_0_S256x128_e (f : ℕ → ℕ → EReal) :
    extractStridedSlice (α := Ideal φ) S256x128 ![0, 0] (eV (n := 1024) (m := 128) (φ := φ) f) slices_S1024x128_o0_0_S256x128 = eV fun i j => f i j := by
  funext x; idx_vars x; pointwise [eV]

theorem slices_S1024x128_o0_0_S512x128_e (f : ℕ → ℕ → EReal) :
    extractStridedSlice (α := Ideal φ) S512x128 ![0, 0] (eV (n := 1024) (m := 128) (φ := φ) f) slices_S1024x128_o0_0_S512x128 = eV fun i j => f i j := by
  funext x; idx_vars x; pointwise [eV]

theorem slices_S1024x128_o0_0_S768x128_e (f : ℕ → ℕ → EReal) :
    extractStridedSlice (α := Ideal φ) S768x128 ![0, 0] (eV (n := 1024) (m := 128) (φ := φ) f) slices_S1024x128_o0_0_S768x128 = eV fun i j => f i j := by
  funext x; idx_vars x; pointwise [eV]

theorem slices_S1024x128_o256_0_S768x128_e (f : ℕ → ℕ → EReal) :
    extractStridedSlice (α := Ideal φ) S768x128 ![256, 0] (eV (n := 1024) (m := 128) (φ := φ) f) slices_S1024x128_o256_0_S768x128 = eV fun i j => f (256 + i) j := by
  funext x; idx_vars x; pointwise [eV]

theorem slices_S1024x128_o512_0_S512x128_e (f : ℕ → ℕ → EReal) :
    extractStridedSlice (α := Ideal φ) S512x128 ![512, 0] (eV (n := 1024) (m := 128) (φ := φ) f) slices_S1024x128_o512_0_S512x128 = eV fun i j => f (512 + i) j := by
  funext x; idx_vars x; pointwise [eV]

theorem slices_S1024x128_o768_0_S256x128_e (f : ℕ → ℕ → EReal) :
    extractStridedSlice (α := Ideal φ) S256x128 ![768, 0] (eV (n := 1024) (m := 128) (φ := φ) f) slices_S1024x128_o768_0_S256x128 = eV fun i j => f (768 + i) j := by
  funext x; idx_vars x; pointwise [eV]

theorem slices_S1024x1_o0_0_S256x1_e (f : ℕ → ℕ → EReal) :
    extractStridedSlice (α := Ideal φ) S256x1 ![0, 0] (eV (n := 1024) (m := 1) (φ := φ) f) slices_S1024x1_o0_0_S256x1 = eV fun i j => f i j := by
  funext x; idx_vars x; pointwise [eV]

theorem slices_S1024x1_o0_0_S512x1_e (f : ℕ → ℕ → EReal) :
    extractStridedSlice (α := Ideal φ) S512x1 ![0, 0] (eV (n := 1024) (m := 1) (φ := φ) f) slices_S1024x1_o0_0_S512x1 = eV fun i j => f i j := by
  funext x; idx_vars x; pointwise [eV]

theorem slices_S1024x1_o0_0_S768x1_e (f : ℕ → ℕ → EReal) :
    extractStridedSlice (α := Ideal φ) S768x1 ![0, 0] (eV (n := 1024) (m := 1) (φ := φ) f) slices_S1024x1_o0_0_S768x1 = eV fun i j => f i j := by
  funext x; idx_vars x; pointwise [eV]

theorem slices_S1024x1_o256_0_S768x1_e (f : ℕ → ℕ → EReal) :
    extractStridedSlice (α := Ideal φ) S768x1 ![256, 0] (eV (n := 1024) (m := 1) (φ := φ) f) slices_S1024x1_o256_0_S768x1 = eV fun i j => f (256 + i) j := by
  funext x; idx_vars x; pointwise [eV]

theorem slices_S1024x1_o512_0_S512x1_e (f : ℕ → ℕ → EReal) :
    extractStridedSlice (α := Ideal φ) S512x1 ![512, 0] (eV (n := 1024) (m := 1) (φ := φ) f) slices_S1024x1_o512_0_S512x1 = eV fun i j => f (512 + i) j := by
  funext x; idx_vars x; pointwise [eV]

theorem slices_S1024x1_o768_0_S256x1_e (f : ℕ → ℕ → EReal) :
    extractStridedSlice (α := Ideal φ) S256x1 ![768, 0] (eV (n := 1024) (m := 1) (φ := φ) f) slices_S1024x1_o768_0_S256x1 = eV fun i j => f (768 + i) j := by
  funext x; idx_vars x; pointwise [eV]

theorem slices_S1024x256_o0_0_S1024x1_e (f : ℕ → ℕ → EReal) :
    extractStridedSlice (α := Ideal φ) S1024x1 ![0, 0] (eV (n := 1024) (m := 256) (φ := φ) f) slices_S1024x256_o0_0_S1024x1 = eV fun i j => f i j := by
  funext x; idx_vars x; pointwise [eV]

theorem slices_S256x256_o0_0_S256x1_e (f : ℕ → ℕ → EReal) :
    extractStridedSlice (α := Ideal φ) S256x1 ![0, 0] (eV (n := 256) (m := 256) (φ := φ) f) slices_S256x256_o0_0_S256x1 = eV fun i j => f i j := by
  funext x; idx_vars x; pointwise [eV]

theorem slices_S512x256_o0_0_S512x1_e (f : ℕ → ℕ → EReal) :
    extractStridedSlice (α := Ideal φ) S512x1 ![0, 0] (eV (n := 512) (m := 256) (φ := φ) f) slices_S512x256_o0_0_S512x1 = eV fun i j => f i j := by
  funext x; idx_vars x; pointwise [eV]

theorem slices_S768x256_o0_0_S768x1_e (f : ℕ → ℕ → EReal) :
    extractStridedSlice (α := Ideal φ) S768x1 ![0, 0] (eV (n := 768) (m := 256) (φ := φ) f) slices_S768x256_o0_0_S768x1 = eV fun i j => f i j := by
  funext x; idx_vars x; pointwise [eV]

theorem broadcasts_S256x1_S256x256_e (f : ℕ → ℕ → EReal) :
    broadcastTo S256x256 (eV (n := 256) (m := 1) (φ := φ) f) broadcasts_S256x1_S256x256 = eV fun i _ => f i 0 := by
  funext x; idx_vars x; pointwise [eV]

theorem broadcasts_S512x1_S512x256_e (f : ℕ → ℕ → EReal) :
    broadcastTo S512x256 (eV (n := 512) (m := 1) (φ := φ) f) broadcasts_S512x1_S512x256 = eV fun i _ => f i 0 := by
  funext x; idx_vars x; pointwise [eV]

theorem broadcasts_S768x1_S768x256_e (f : ℕ → ℕ → EReal) :
    broadcastTo S768x256 (eV (n := 768) (m := 1) (φ := φ) f) broadcasts_S768x1_S768x256 = eV fun i _ => f i 0 := by
  funext x; idx_vars x; pointwise [eV]

theorem broadcasts_S1024x1_S1024x256_e (f : ℕ → ℕ → EReal) :
    broadcastTo S1024x256 (eV (n := 1024) (m := 1) (φ := φ) f) broadcasts_S1024x1_S1024x256 = eV fun i _ => f i 0 := by
  funext x; idx_vars x; pointwise [eV]

/-- Rows above rows. -/
def concatenates_S256x128_S768x128_S1024x128_d0_c (x : FVec Ideal S256x128 .f32) (y : FVec Ideal S768x128 .f32) : FVec Ideal S1024x128 .f32 :=
  concatenate S1024x128 0 [⟨S256x128, x⟩, ⟨S768x128, y⟩] concatenates_S256x128_S768x128_S1024x128_d0
theorem concatenates_S256x128_S768x128_S1024x128_d0_d (x : FVec Ideal S256x128 .f32) (y : FVec Ideal S768x128 .f32) :
    concatenate S1024x128 0 [⟨S256x128, x⟩, ⟨S768x128, y⟩] concatenates_S256x128_S768x128_S1024x128_d0 = concatenates_S256x128_S768x128_S1024x128_d0_c x y := rfl
theorem concatenates_S256x128_S768x128_S1024x128_d0_v (f g : ℕ → ℕ → EReal) :
    concatenates_S256x128_S768x128_S1024x128_d0_c (eV f) (eV g) = eV fun i j => if i < 256 then f i j else g (i - 256) j := by
  funext x; idx_vars x; pointwise [eV, concatenates_S256x128_S768x128_S1024x128_d0_c]; split <;> rfl

/-- Rows above rows. -/
def concatenates_S256x1_S768x1_S1024x1_d0_c (x : FVec Ideal S256x1 .f32) (y : FVec Ideal S768x1 .f32) : FVec Ideal S1024x1 .f32 :=
  concatenate S1024x1 0 [⟨S256x1, x⟩, ⟨S768x1, y⟩] concatenates_S256x1_S768x1_S1024x1_d0
theorem concatenates_S256x1_S768x1_S1024x1_d0_d (x : FVec Ideal S256x1 .f32) (y : FVec Ideal S768x1 .f32) :
    concatenate S1024x1 0 [⟨S256x1, x⟩, ⟨S768x1, y⟩] concatenates_S256x1_S768x1_S1024x1_d0 = concatenates_S256x1_S768x1_S1024x1_d0_c x y := rfl
theorem concatenates_S256x1_S768x1_S1024x1_d0_v (f g : ℕ → ℕ → EReal) :
    concatenates_S256x1_S768x1_S1024x1_d0_c (eV f) (eV g) = eV fun i j => if i < 256 then f i j else g (i - 256) j := by
  funext x; idx_vars x; pointwise [eV, concatenates_S256x1_S768x1_S1024x1_d0_c]; split <;> rfl

/-- Rows above rows. -/
def concatenates_S512x128_S512x128_S1024x128_d0_c (x : FVec Ideal S512x128 .f32) (y : FVec Ideal S512x128 .f32) : FVec Ideal S1024x128 .f32 :=
  concatenate S1024x128 0 [⟨S512x128, x⟩, ⟨S512x128, y⟩] concatenates_S512x128_S512x128_S1024x128_d0
theorem concatenates_S512x128_S512x128_S1024x128_d0_d (x : FVec Ideal S512x128 .f32) (y : FVec Ideal S512x128 .f32) :
    concatenate S1024x128 0 [⟨S512x128, x⟩, ⟨S512x128, y⟩] concatenates_S512x128_S512x128_S1024x128_d0 = concatenates_S512x128_S512x128_S1024x128_d0_c x y := rfl
theorem concatenates_S512x128_S512x128_S1024x128_d0_v (f g : ℕ → ℕ → EReal) :
    concatenates_S512x128_S512x128_S1024x128_d0_c (eV f) (eV g) = eV fun i j => if i < 512 then f i j else g (i - 512) j := by
  funext x; idx_vars x; pointwise [eV, concatenates_S512x128_S512x128_S1024x128_d0_c]; split <;> rfl

/-- Rows above rows. -/
def concatenates_S512x1_S512x1_S1024x1_d0_c (x : FVec Ideal S512x1 .f32) (y : FVec Ideal S512x1 .f32) : FVec Ideal S1024x1 .f32 :=
  concatenate S1024x1 0 [⟨S512x1, x⟩, ⟨S512x1, y⟩] concatenates_S512x1_S512x1_S1024x1_d0
theorem concatenates_S512x1_S512x1_S1024x1_d0_d (x : FVec Ideal S512x1 .f32) (y : FVec Ideal S512x1 .f32) :
    concatenate S1024x1 0 [⟨S512x1, x⟩, ⟨S512x1, y⟩] concatenates_S512x1_S512x1_S1024x1_d0 = concatenates_S512x1_S512x1_S1024x1_d0_c x y := rfl
theorem concatenates_S512x1_S512x1_S1024x1_d0_v (f g : ℕ → ℕ → EReal) :
    concatenates_S512x1_S512x1_S1024x1_d0_c (eV f) (eV g) = eV fun i j => if i < 512 then f i j else g (i - 512) j := by
  funext x; idx_vars x; pointwise [eV, concatenates_S512x1_S512x1_S1024x1_d0_c]; split <;> rfl

/-- Rows above rows. -/
def concatenates_S768x128_S256x128_S1024x128_d0_c (x : FVec Ideal S768x128 .f32) (y : FVec Ideal S256x128 .f32) : FVec Ideal S1024x128 .f32 :=
  concatenate S1024x128 0 [⟨S768x128, x⟩, ⟨S256x128, y⟩] concatenates_S768x128_S256x128_S1024x128_d0
theorem concatenates_S768x128_S256x128_S1024x128_d0_d (x : FVec Ideal S768x128 .f32) (y : FVec Ideal S256x128 .f32) :
    concatenate S1024x128 0 [⟨S768x128, x⟩, ⟨S256x128, y⟩] concatenates_S768x128_S256x128_S1024x128_d0 = concatenates_S768x128_S256x128_S1024x128_d0_c x y := rfl
theorem concatenates_S768x128_S256x128_S1024x128_d0_v (f g : ℕ → ℕ → EReal) :
    concatenates_S768x128_S256x128_S1024x128_d0_c (eV f) (eV g) = eV fun i j => if i < 768 then f i j else g (i - 768) j := by
  funext x; idx_vars x; pointwise [eV, concatenates_S768x128_S256x128_S1024x128_d0_c]; split <;> rfl

/-- Rows above rows. -/
def concatenates_S768x1_S256x1_S1024x1_d0_c (x : FVec Ideal S768x1 .f32) (y : FVec Ideal S256x1 .f32) : FVec Ideal S1024x1 .f32 :=
  concatenate S1024x1 0 [⟨S768x1, x⟩, ⟨S256x1, y⟩] concatenates_S768x1_S256x1_S1024x1_d0
theorem concatenates_S768x1_S256x1_S1024x1_d0_d (x : FVec Ideal S768x1 .f32) (y : FVec Ideal S256x1 .f32) :
    concatenate S1024x1 0 [⟨S768x1, x⟩, ⟨S256x1, y⟩] concatenates_S768x1_S256x1_S1024x1_d0 = concatenates_S768x1_S256x1_S1024x1_d0_c x y := rfl
theorem concatenates_S768x1_S256x1_S1024x1_d0_v (f g : ℕ → ℕ → EReal) :
    concatenates_S768x1_S256x1_S1024x1_d0_c (eV f) (eV g) = eV fun i j => if i < 768 then f i j else g (i - 768) j := by
  funext x; idx_vars x; pointwise [eV, concatenates_S768x1_S256x1_S1024x1_d0_c]; split <;> rfl

theorem mask_256 (a b : ℕ) (ha : a < 2 ^ 20) (hb : b < 2 ^ 20) :
    cmpi .slt (addi (iota .tc S256x256 32 [1] iota_S256x256_d1_w32) (broadcast S256x256 (BitVec.ofNat 32 a)))
        (addi (iota .tc S256x256 32 [0] iota_S256x256_d0_w32) (broadcast S256x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem mask_512 (a b : ℕ) (ha : a < 2 ^ 20) (hb : b < 2 ^ 20) :
    cmpi .slt (addi (iota .tc S512x256 32 [1] iota_S512x256_d1_w32) (broadcast S512x256 (BitVec.ofNat 32 a)))
        (addi (iota .tc S512x256 32 [0] iota_S512x256_d0_w32) (broadcast S512x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem mask_768 (a b : ℕ) (ha : a < 2 ^ 20) (hb : b < 2 ^ 20) :
    cmpi .slt (addi (iota .tc S768x256 32 [1] iota_S768x256_d1_w32) (broadcast S768x256 (BitVec.ofNat 32 a)))
        (addi (iota .tc S768x256 32 [0] iota_S768x256_d0_w32) (broadcast S768x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem mask_1024 (a b : ℕ) (ha : a < 2 ^ 20) (hb : b < 2 ^ 20) :
    cmpi .slt (addi (iota .tc S1024x256 32 [1] iota_S1024x256_d1_w32) (broadcast S1024x256 (BitVec.ofNat 32 a)))
        (addi (iota .tc S1024x256 32 [0] iota_S1024x256_d0_w32) (broadcast S1024x256 (BitVec.ofNat 32 b)))
      = toM (fun r s => decide (s + a < r + b)) := by
  funext x; idx_vars x
  have h0 := x0.isLt; have h1 := x1.isLt
  have e : ∀ u v : ℕ, IntOp.addi (BitVec.ofNat 32 u) (BitVec.ofNat 32 v) = BitVec.ofNat 32 (u + v) := addi_n
  pointwise
  rw [e, e]
  exact slt_n _ _ (by omega) (by omega)

theorem laneA : cmpi .slt (iota .tc S1024x128 32 [1] iota_S1024x128_d1_w32) (broadcast S1024x128 64#32)
      = toM fun _ d => decide (d < 64) := by
  funext x; idx_vars x
  have h1 := x1.isLt
  pointwise [toM]
  exact slt_n _ _ (by omega) (by omega)
theorem laneB : cmpi .sge (iota .tc S1024x128 32 [1] iota_S1024x128_d1_w32) (broadcast S1024x128 64#32)
      = toM fun _ d => decide (64 ≤ d) := by
  funext x; idx_vars x
  have h1 := x1.isLt
  pointwise [toM]
  exact sge_n _ _ (by omega) (by omega)

/-- One head's lanes of a pair, times an eighth. -/
def qa (f : ℕ → ℕ → EReal) : ℕ → ℕ → EReal := fun r d => (if d < 64 then f r d else 0) * ((1 / 8 : ℝ) : EReal)
def qb (f : ℕ → ℕ → EReal) : ℕ → ℕ → EReal := fun r d => (if 64 ≤ d then f r d else 0) * ((1 / 8 : ℝ) : EReal)

theorem pay20_e (f : ℕ → ℕ → EReal) : (k0_pay20 (eV (n := 1024) (m := 128) (φ := .bf16) f) : FVec Ideal S1024x128 .bf16) = eV (qa f) := by
  simp only [k0_pay20, k0_pay19, bzb, b8b]
  rw [laneA]
  refine ((congrArg (fun x => mulf x _) (select_e (n := 1024) (m := 128) (φ := .bf16) (fun _ d => decide (d < 64)) f (fun _ _ => 0))).trans (mulf_e (n := 1024) (m := 128) (φ := .bf16) _ _)).trans (ext_e _ _ fun r _ d _ => ?_)
  unfold qa; simp
theorem pay21_e (f : ℕ → ℕ → EReal) : (k0_pay21 (eV (n := 1024) (m := 128) (φ := .bf16) f) : FVec Ideal S1024x128 .bf16) = eV (qb f) := by
  simp only [k0_pay21, k0_pay19, bzb, b8b]
  rw [laneB]
  refine ((congrArg (fun x => mulf x _) (select_e (n := 1024) (m := 128) (φ := .bf16) (fun _ d => decide (64 ≤ d)) f (fun _ _ => 0))).trans (mulf_e (n := 1024) (m := 128) (φ := .bf16) _ _)).trans (ext_e _ _ fun r _ d _ => ?_)
  unfold qb; simp
theorem pay22_e (f : ℕ → ℕ → EReal) : (k0_pay22 (eV (φ := .bf16) f) : FVec Ideal S256x256 .bf16) = eV f := by
  funext x; idx_vars x; pointwise [k0_pay22, eV]
theorem pay23_e : (k0_pay23 : FVec Ideal S1024x1 .f32) = eV fun _ _ => 0 := by simp only [k0_pay23, sz]
theorem pay24_e : (k0_pay24 : FVec Ideal S1024x128 .f32) = eV fun _ _ => 0 := by simp only [k0_pay24, sz]
theorem pay105_e (f g : ℕ → ℕ → EReal) : (k0_pay105 (eV (φ := .f32) f) (eV (φ := .f32) g) : FVec Ideal S1024x128 .bf16) = eV fun r e => if e < 64 then f r e else g r e := by
  simp only [k0_pay105]
  rw [laneA]
  refine (congrArg (fun x => truncf .bf16 x bitsLt_bf16_f32) (select_e (n := 1024) (m := 128) (φ := .f32) (fun _ d => decide (d < 64)) f g)).trans ((truncf_e _ _).trans (ext_e _ _ fun r _ d _ => ?_))
  simp
theorem pay106_e (f g : ℕ → ℕ → EReal) : (k0_pay106 (eV (φ := .f32) f) (eV (φ := .f32) g) : FVec Ideal S1x1024x2 .f32) = eT fun _ r j => if j = 0 then f r 0 else g r 0 := by
  funext x; idx_vars x
  pointwise [k0_pay106, eV, eT]
  have h2 := x2.isLt
  rcases x2 with ⟨x2, h2⟩
  interval_cases x2 <;> rfl

end Cert.V23

end
-- ==== Proof.Host3.lean ====
/- Operations of the host programs on arrays of real numbers. -/
module

public import proofs.«01_k».proof.Proof.Ops
public import Idealize.ShloMosaic.Lib.Pointwise

@[expose] public section

set_option maxRecDepth 16384

noncomputable section

namespace Cert.Val

open Idealize.ShloMosaic

/-- Reals indexed by three naturals, as an array of the ideal semantics. -/
def toW {a b c : Nat} {φ : FTy} (f : ℕ → ℕ → ℕ → ℝ) : FVec Ideal ⟨3, ![a, b, c]⟩ φ :=
  fun i => ((f (i 0).val (i 1).val (i 2).val : ℝ) : EReal)

/-- Truth values indexed by three naturals, as an array of bits. -/
def toN {a b c : Nat} (P : ℕ → ℕ → ℕ → Bool) : IVec ⟨3, ![a, b, c]⟩ 1 :=
  fun i => BitVec.ofBool (P (i 0).val (i 1).val (i 2).val)

variable {a b c : Nat} {φ : FTy}

theorem ext_w (f g : ℕ → ℕ → ℕ → ℝ) (h : ∀ i < a, ∀ j < b, ∀ k < c, f i j k = g i j k) :
    (toW f : FVec Ideal ⟨3, ![a, b, c]⟩ φ) = toW g := by
  funext i; show ((f (i 0).val (i 1).val (i 2).val : ℝ) : EReal) = _
  rw [h _ (i 0).isLt _ (i 1).isLt _ (i 2).isLt]; rfl

theorem addf_w (f g : ℕ → ℕ → ℕ → ℝ) :
    addf (toW (a := a) (b := b) (c := c) (φ := φ) f) (toW g) = toW (fun i j k => f i j k + g i j k) := by
  funext i; exact (EReal.coe_add _ _).symm

theorem subf_w (f g : ℕ → ℕ → ℕ → ℝ) :
    subf (toW (a := a) (b := b) (c := c) (φ := φ) f) (toW g) = toW (fun i j k => f i j k - g i j k) := by
  funext i; exact (EReal.coe_sub _ _).symm

theorem mulf_w (f g : ℕ → ℕ → ℕ → ℝ) :
    mulf (toW (a := a) (b := b) (c := c) (φ := φ) f) (toW g) = toW (fun i j k => f i j k * g i j k) := by
  funext i; exact (EReal.coe_mul _ _).symm

theorem negf_w (f : ℕ → ℕ → ℕ → ℝ) :
    Host.negf (toW (a := a) (b := b) (c := c) (φ := φ) f) = toW (fun i j k => -f i j k) := by
  funext i; exact (EReal.coe_neg _).symm

theorem exp_w (f : ℕ → ℕ → ℕ → ℝ) :
    Host.exp (toW (a := a) (b := b) (c := c) (φ := φ) f) = toW (fun i j k => Real.exp (f i j k)) := rfl

theorem absf_w (f : ℕ → ℕ → ℕ → ℝ) :
    Host.absf (toW (a := a) (b := b) (c := c) (φ := φ) f) = toW (fun i j k => |f i j k|) := by
  funext i
  show max ((f (i 0).val (i 1).val (i 2).val : ℝ) : EReal) (-((f (i 0).val (i 1).val (i 2).val : ℝ) : EReal)) = _
  rw [← EReal.coe_neg, ← EReal.coe_strictMono.monotone.map_max]; rfl

theorem maximumf_w (f g : ℕ → ℕ → ℕ → ℝ) :
    maximumf (toW (a := a) (b := b) (c := c) (φ := φ) f) (toW g) = toW (fun i j k => max (f i j k) (g i j k)) := by
  funext i; exact (EReal.coe_strictMono.monotone.map_max).symm

theorem log1p_w (f : ℕ → ℕ → ℕ → ℝ) :
    Host.log1p (toW (a := a) (b := b) (c := c) (φ := φ) fun i j k => Real.exp (f i j k)) = toW (fun i j k => Real.log (1 + Real.exp (f i j k))) := by
  funext i
  have h := Real.exp_pos (f (i 0).val (i 1).val (i 2).val)
  show Ideal.log (1 + ((Real.exp (f (i 0).val (i 1).val (i 2).val) : ℝ) : EReal)) = _
  rw [← EReal.coe_one, ← EReal.coe_add]
  show (if 1 + Real.exp (f (i 0).val (i 1).val (i 2).val) ≤ 0 then (⊥ : EReal) else _) = _
  rw [if_neg (by linarith)]; rfl

theorem select_w (P : ℕ → ℕ → ℕ → Bool) (f g : ℕ → ℕ → ℕ → ℝ) :
    select (toN P) (toW (a := a) (b := b) (c := c) (φ := φ) f) (toW g) = toW (fun i j k => if P i j k then f i j k else g i j k) := by
  funext i
  show (if BitVec.ofBool (P (i 0).val (i 1).val (i 2).val) = 1#1 then ((f (i 0).val (i 1).val (i 2).val : ℝ) : EReal) else _) = ((if P (i 0).val (i 1).val (i 2).val then _ else _ : ℝ) : EReal)
  cases P (i 0).val (i 1).val (i 2).val <;> rfl

theorem une_w (f : ℕ → ℕ → ℕ → ℝ) :
    cmpf .une (toW (a := a) (b := b) (c := c) (φ := φ) f) (toW f) = toN (fun _ _ _ => false) := by
  funext i
  show BitVec.ofBool (decide (_ ≠ _)) = _
  rw [decide_eq_false (by simp)]; rfl

theorem oeq_inf_w (f : ℕ → ℕ → ℕ → ℝ) (u : FVec Ideal ⟨3, ![a, b, c]⟩ φ) (hu : ∀ i, u i = (⊤ : EReal)) :
    cmpf .oeq (toW (a := a) (b := b) (c := c) (φ := φ) f) u = toN (fun _ _ _ => false) := by
  funext i
  show BitVec.ofBool (decide (_ = u i)) = _
  rw [hu]; exact congrArg BitVec.ofBool (decide_eq_false (EReal.coe_ne_top _))

theorem sp_real (x : ℝ) : max x 0 + Real.log (1 + Real.exp (-|x|)) = Real.log (1 + Real.exp x) := by
  rcases le_total 0 x with h | h
  · rw [max_eq_left h, abs_of_nonneg h]
    have e : 1 + Real.exp x = Real.exp x * (1 + Real.exp (-x)) := by rw [mul_add, ← Real.exp_add]; simp [add_comm]
    rw [e, Real.log_mul (Real.exp_ne_zero _) (by positivity), Real.log_exp]
  · rw [max_eq_right h, abs_of_nonpos h, neg_neg, zero_add]

/-- The host's softplus of a real array. -/
theorem softplus_w (f : ℕ → ℕ → ℕ → ℝ) (X Z : FVec Ideal ⟨3, ![a, b, c]⟩ φ) (hX : X = toW f) (hZ : Z = toW fun _ _ _ => 0) :
    select (cmpf .une (subf X Z) (subf X Z)) (addf X Z)
      (addf (maximumf X Z) (Host.log1p (Host.exp (Host.negf (Host.absf (subf X Z))))))
    = toW fun i j k => Real.log (1 + Real.exp (f i j k)) := by
  subst hX hZ
  rw [subf_w, une_w, addf_w, maximumf_w, absf_w, negf_w, exp_w, log1p_w, addf_w, select_w]
  refine ext_w _ _ fun i _ j _ k _ => ?_
  rw [if_neg (by decide), sub_zero, sp_real]

theorem foldl_sum {ι : Type} (g : ι → EReal) (l : List ι) (z : EReal) : l.foldl (fun r n => r + g n) z = z + (l.map g).sum := by
  induction l generalizing z with
  | nil => simp
  | cons x l ih => rw [List.foldl_cons, ih, List.map_cons, List.sum_cons, add_assoc]

/-- A window sum from zero, its window one row of the last axis. -/
theorem window_sum {lo hi : Fin 3 → ℕ} (x : FVec Ideal ⟨3, ![a, b, c]⟩ φ) {u : Shape} (v : FVec Ideal u φ) (hv : ∀ i, v i = (0 : EReal))
    (h : (⟨3, ![a, b, c]⟩ : Shape).ReduceWindows ![1, 1, c] ![1, 1, 1] lo hi ⟨3, ![a, b, c]⟩) (hu : 0 < u.numel)
    (g : Fin c → EReal) (i : (⟨3, ![a, b, c]⟩ : Shape).Idx)
    (hg : ∀ n : (⟨3, ![1, 1, c]⟩ : Shape).Idx, (if hin : ∀ z, lo z ≤ (i z).val * ![1, 1, 1] z + (n z).val ∧ (i z).val * ![1, 1, 1] z + (n z).val - lo z < ![a, b, c] z
      then (x fun z => ⟨(i z).val * ![1, 1, 1] z + (n z).val - lo z, (hin z).2⟩ : EReal) else 0) = g (n 2)) :
    Host.reduceWindowAdd ![1, 1, c] ![1, 1, 1] lo hi x v h hu i = ∑ k : Fin c, g k := by
  have e : Host.reduceWindowAdd ![1, 1, c] ![1, 1, 1] lo hi x v h hu i
      = (List.finRange (⟨3, ![1, 1, c]⟩ : Shape).numel).foldl (fun r n => r + g ((⟨3, ![1, 1, c]⟩ : Shape).rowMajor.symm n 2)) 0 := by
    have hv0 : (v (Shape.Idx.first hu) : EReal) = 0 := hv _
    refine Eq.trans (b := (List.finRange (⟨3, ![1, 1, c]⟩ : Shape).numel).foldl _ (v (Shape.Idx.first hu) : EReal)) rfl ?_
    rw [hv0]
    refine congrArg (fun w => List.foldl w (0 : EReal) _) (funext fun r => funext fun n => congrArg (r + ·) (Eq.trans ?_ (hg _)))
    by_cases hin : ∀ z, lo z ≤ (i z).val * ![1, 1, 1] z + ((⟨3, ![1, 1, c]⟩ : Shape).rowMajor.symm n z).val ∧ (i z).val * ![1, 1, 1] z + ((⟨3, ![1, 1, c]⟩ : Shape).rowMajor.symm n z).val - lo z < ![a, b, c] z
    · exact (dif_pos hin).trans (by rw [dif_pos hin]; rfl)
    · exact (dif_neg hin).trans (by rw [dif_neg hin])
  rw [e, foldl_sum, zero_add, ← Fin.sum_univ_def]
  rw [Equiv.sum_comp (⟨3, ![1, 1, c]⟩ : Shape).rowMajor.symm (fun n => g (n 2)), sum_idx3]
  simp

/-- A running sum along the last axis from an element to the end. -/
theorem revsum_w (f : ℕ → ℕ → ℕ → ℝ) {hi : Fin 3 → ℕ} {u : Shape} (v : FVec Ideal u φ) (hv : ∀ i, v i = (0 : EReal))
    (h : (⟨3, ![a, b, c]⟩ : Shape).ReduceWindows ![1, 1, c] ![1, 1, 1] ![0, 0, 0] hi ⟨3, ![a, b, c]⟩) (hu : 0 < u.numel) :
    Host.reduceWindowAdd ![1, 1, c] ![1, 1, 1] ![0, 0, 0] hi (toW (a := a) (b := b) (c := c) (φ := φ) f) v h hu
      = toW (a := a) (b := b) (c := c) fun i j k => ∑ t ∈ Finset.range c, if k ≤ t then f i j t else 0 := by
  funext i
  refine (window_sum _ v hv h hu (fun t => (((if (i 2).val + t.val < c then f (i 0).val (i 1).val ((i 2).val + t.val) else 0 : ℝ)) : EReal)) i fun n => ?_).trans ?_
  · have n0 : (n 0).val = 0 := by have := (n 0).isLt; change _ < 1 at this; omega
    have n1 : (n 1).val = 0 := by have := (n 1).isLt; change _ < 1 at this; omega
    by_cases hk : (i 2).val + (n 2).val < c
    · rw [if_pos hk, dif_pos]
      · show ((f _ _ _ : ℝ) : EReal) = _
        congr 2
        · show (i 0).val * 1 + (n 0).val - 0 = _; omega
        · show (i 1).val * 1 + (n 1).val - 0 = _; omega
        · show (i 2).val * 1 + (n 2).val - 0 = _; omega
      · intro z
        match z with
        | 0 => exact ⟨Nat.zero_le _, by show (i 0).val * 1 + (n 0).val - 0 < a; have := (i 0).isLt; change _ < a at this; omega⟩
        | 1 => exact ⟨Nat.zero_le _, by show (i 1).val * 1 + (n 1).val - 0 < b; have := (i 1).isLt; change _ < b at this; omega⟩
        | 2 => exact ⟨Nat.zero_le _, by show (i 2).val * 1 + (n 2).val - 0 < c; omega⟩
    · rw [if_neg hk, dif_neg]
      · rfl
      · intro hin
        have := (hin 2).2
        change (i 2).val * 1 + (n 2).val - 0 < c at this
        omega
  · rw [← coe_sum_range c fun t => if (i 2).val + t < c then f (i 0).val (i 1).val ((i 2).val + t) else 0]
    show _ = ((∑ t ∈ Finset.range c, if (i 2).val ≤ t then f (i 0).val (i 1).val t else 0 : ℝ) : EReal)
    congr 1
    have hi2 : (i 2).val < c := (i 2).isLt
    generalize (i 2).val = k at *
    rw [← Finset.sum_filter, ← Finset.sum_filter]
    refine Finset.sum_bij' (fun t _ => k + t) (fun t _ => t - k) ?_ ?_ ?_ ?_ ?_
    all_goals simp only [Finset.mem_filter, Finset.mem_range]
    all_goals intros
    all_goals first | omega | rfl | skip
    all_goals (try constructor) <;> omega

/-- A running sum along the last axis from the start to an element. -/
theorem fwdsum_w (f : ℕ → ℕ → ℕ → ℝ) {n1 : ℕ} (hn : n1 + 1 = c) {u : Shape} (v : FVec Ideal u φ) (hv : ∀ i, v i = (0 : EReal))
    (h : (⟨3, ![a, b, c]⟩ : Shape).ReduceWindows ![1, 1, c] ![1, 1, 1] ![0, 0, n1] ![0, 0, 0] ⟨3, ![a, b, c]⟩) (hu : 0 < u.numel) :
    Host.reduceWindowAdd ![1, 1, c] ![1, 1, 1] ![0, 0, n1] ![0, 0, 0] (toW (a := a) (b := b) (c := c) (φ := φ) f) v h hu
      = toW (a := a) (b := b) (c := c) fun i j k => ∑ t ∈ Finset.range c, if t ≤ k then f i j t else 0 := by
  funext i
  refine (window_sum _ v hv h hu (fun t => (((if n1 ≤ (i 2).val + t.val then f (i 0).val (i 1).val ((i 2).val + t.val - n1) else 0 : ℝ)) : EReal)) i fun n => ?_).trans ?_
  · have n0 : (n 0).val = 0 := by have := (n 0).isLt; change _ < 1 at this; omega
    have n1' : (n 1).val = 0 := by have := (n 1).isLt; change _ < 1 at this; omega
    have n2 : (n 2).val < c := (n 2).isLt
    have i2 : (i 2).val < c := (i 2).isLt
    by_cases hk : n1 ≤ (i 2).val + (n 2).val
    · rw [if_pos hk, dif_pos]
      · show ((f _ _ _ : ℝ) : EReal) = _
        congr 2
        · show (i 0).val * 1 + (n 0).val - 0 = _; omega
        · show (i 1).val * 1 + (n 1).val - 0 = _; omega
        · show (i 2).val * 1 + (n 2).val - n1 = _; omega
      · intro z
        match z with
        | 0 => exact ⟨Nat.zero_le _, by show (i 0).val * 1 + (n 0).val - 0 < a; have := (i 0).isLt; change _ < a at this; omega⟩
        | 1 => exact ⟨Nat.zero_le _, by show (i 1).val * 1 + (n 1).val - 0 < b; have := (i 1).isLt; change _ < b at this; omega⟩
        | 2 => exact ⟨by show n1 ≤ (i 2).val * 1 + (n 2).val; omega, by show (i 2).val * 1 + (n 2).val - n1 < c; omega⟩
    · rw [if_neg hk, dif_neg]
      · rfl
      · intro hin
        have := (hin 2).1
        change n1 ≤ (i 2).val * 1 + (n 2).val at this
        omega
  · rw [← coe_sum_range c fun t => if n1 ≤ (i 2).val + t then f (i 0).val (i 1).val ((i 2).val + t - n1) else 0]
    show _ = ((∑ t ∈ Finset.range c, if t ≤ (i 2).val then f (i 0).val (i 1).val t else 0 : ℝ) : EReal)
    congr 1
    have hi2 : (i 2).val < c := (i 2).isLt
    generalize (i 2).val = k at *
    rw [← Finset.sum_filter, ← Finset.sum_filter]
    refine Finset.sum_bij' (fun t _ => k + t - n1) (fun t _ => t + n1 - k) ?_ ?_ ?_ ?_ ?_
    all_goals simp only [Finset.mem_filter, Finset.mem_range]
    all_goals intros
    all_goals first | omega | rfl | skip
    all_goals (try constructor) <;> omega

end Cert.Val

end
-- ==== Proof.FwdMath.lean ====
/- The attention's weights over the extended reals, and the steps of the kernel's tiles towards them. -/
module

public import proofs.«01_k».proof.Proof.Ext
public import proofs.«01_k».proof.Proof.Host3

@[expose] public section

noncomputable section

namespace Cert.V23

open Idealize.ShloMosaic Finset

/-- The softplus as the kernel computes it. -/
def sp (z : EReal) : EReal := max z 0 + Ideal.log (1 + Ideal.exp (0 - max z (-z)))

section tile
variable (M : ℕ → ℕ → Bool) (q k v t c a : ℕ → ℕ → EReal)
/-- The logits of a tile. -/
def fZ (r s : ℕ) : EReal := ∑ e ∈ range 128, q r e * k s e
/-- The logarithm of the part that is kept. -/
def fL (r s : ℕ) : EReal := if M r s then 0 - sp (fZ q k r s) else 0
/-- Its sums over the later keys of the tile. -/
def fU (r s : ℕ) : EReal := ∑ u ∈ range 256, fL M q k r u * t u s
/-- The weights of a tile. -/
def fW (r s : ℕ) : EReal := if M r s then Ideal.exp (fZ q k r s + fL M q k r s + c r 0 + fU M q k t r s) else 0
/-- The running sum after a tile. -/
def fC (r j : ℕ) : EReal := c r j + fU M q k t r j + fL M q k r j
/-- The output after a tile. -/
def fA (r e : ℕ) : EReal := a r e + ∑ s ∈ range 256, fW M q k t c r s * v s e
end tile

/-- Rows from the row `x` on, and the first `x` rows of one matrix above another. -/
def dn (x : ℕ) (f : ℕ → ℕ → EReal) : ℕ → ℕ → EReal := fun i j => f (x + i) j
def ab (x : ℕ) (f g : ℕ → ℕ → EReal) : ℕ → ℕ → EReal := fun i j => if i < x then f i j else g (i - x) j
/-- The mask of a tile whose first column is `a` and whose first row is `b`. -/
def fM (a b : ℕ) : ℕ → ℕ → Bool := fun r s => decide (s + a < r + b)
/-- Ones where the row comes after the column. -/
def tri : ℕ → ℕ → EReal := fun u s => if s < u then 1 else 0

section whole
variable (b : ℕ) (q k v : ℕ → ℕ → EReal)
/-- What a row keeps at a key, the rows counted from `b`. -/
def gL (r s : ℕ) : EReal := if s < b + r then 0 - sp (fZ q k r s) else 0
/-- Its sum over the keys from `a` on. -/
def gC (a : ℕ) (r _j : ℕ) : EReal := ∑ s ∈ Ico a 8192, gL b q k r s
/-- The weights. -/
def gW (r s : ℕ) : EReal := if s < b + r then Ideal.exp (fZ q k r s + gL b q k r s + gC b q k (s + 1) r 0) else 0
/-- The output from the keys from `a` on. -/
def gA (a : ℕ) (r e : ℕ) : EReal := ∑ s ∈ Ico a 8192, gW b q k r s * v s e
end whole

variable {b a x : ℕ} {q k v t : ℕ → ℕ → EReal} {M : ℕ → ℕ → Bool}

theorem fL_g (hM : ∀ r s, s < 256 → (M r s = true ↔ a + s < b + (x + r))) {r s : ℕ} (hs : s < 256) :
    fL M (dn x q) (dn a k) r s = gL b q k (x + r) (a + s) := by
  unfold fL gL
  exact if_congr (hM r s hs) rfl rfl

theorem fU_g (hM : ∀ r s, s < 256 → (M r s = true ↔ a + s < b + (x + r))) (ht : ∀ u < 256, ∀ s < 256, t u s = tri u s) {r s : ℕ} (hs : s < 256) :
    fU M (dn x q) (dn a k) t r s = ∑ u ∈ Ico (a + s + 1) (a + 256), gL b q k (x + r) u := by
  unfold fU
  have e : ∀ u ∈ range 256, fL M (dn x q) (dn a k) r u * t u s = if s < u then gL b q k (x + r) (a + u) else 0 := fun u hu => by
    rw [fL_g hM (mem_range.mp hu), ht u (mem_range.mp hu) s hs]; unfold tri
    split
    · exact mul_one _
    · exact mul_zero _
  rw [sum_congr rfl e, ← sum_filter, sum_Ico_eq_sum_range]
  refine (sum_bij' (fun i _ => s + 1 + i) (fun u _ => u - (s + 1)) ?_ ?_ ?_ ?_ ?_).symm
  all_goals simp only [mem_filter, mem_range]
  · intro i hi; omega
  · intro u hu; omega
  · intro i hi; omega
  · intro u hu; omega
  · intro i hi; congr 1; omega

theorem fC_g (hM : ∀ r s, s < 256 → (M r s = true ↔ a + s < b + (x + r))) (ht : ∀ u < 256, ∀ s < 256, t u s = tri u s) (ha : a + 256 ≤ 8192) (r : ℕ) :
    fC M (dn x q) (dn a k) t (dn x (gC b q k (a + 256))) r 0 = gC b q k a (x + r) 0 := by
  unfold fC
  rw [fU_g hM ht (by omega), fL_g hM (by omega)]
  show gC b q k (a + 256) (x + r) 0 + _ + _ = _
  unfold gC
  rw [← sum_Ico_consecutive _ (show a ≤ a + 256 by omega) ha, sum_eq_sum_Ico_succ_bot (show a < a + 256 by omega), add_zero]
  rw [add_comm (∑ s ∈ Ico (a + 256) 8192, _) _, add_assoc, add_comm (∑ s ∈ Ico (a + 256) 8192, _) _, ← add_assoc, add_comm _ (gL b q k (x + r) a)]

theorem fW_g (hM : ∀ r s, s < 256 → (M r s = true ↔ a + s < b + (x + r))) (ht : ∀ u < 256, ∀ s < 256, t u s = tri u s) (ha : a + 256 ≤ 8192) {r s : ℕ} (hs : s < 256) :
    fW M (dn x q) (dn a k) t (dn x (gC b q k (a + 256))) r s = gW b q k (x + r) (a + s) := by
  unfold fW gW
  refine if_congr (hM r s hs) ?_ rfl
  rw [fU_g hM ht hs, fL_g hM hs]
  congr 1
  show fZ (dn x q) (dn a k) r s + _ + gC b q k (a + 256) (x + r) 0 + _ = fZ q k (x + r) (a + s) + _ + _
  rw [add_assoc]
  unfold gC
  rw [← sum_Ico_consecutive _ (show a + s + 1 ≤ a + 256 by omega) ha, add_comm (∑ s ∈ Ico (a + 256) 8192, _) _]
  rfl

theorem fA_g (hM : ∀ r s, s < 256 → (M r s = true ↔ a + s < b + (x + r))) (ht : ∀ u < 256, ∀ s < 256, t u s = tri u s) (ha : a + 256 ≤ 8192) (r e : ℕ) :
    fA M (dn x q) (dn a k) (dn a v) t (dn x (gC b q k (a + 256))) (dn x (gA b q k v (a + 256))) r e = gA b q k v a (x + r) e := by
  unfold fA
  rw [sum_congr rfl fun s hs => by rw [fW_g hM ht ha (mem_range.mp hs)]]
  show gA b q k v (a + 256) (x + r) e + _ = _
  unfold gA
  rw [← sum_Ico_consecutive _ (show a ≤ a + 256 by omega) ha, sum_Ico_eq_sum_range _ a (a + 256), Nat.add_sub_cancel_left, add_comm]
  rfl

/-- The keys from a row on give that row nothing. -/
theorem gL_out {r s : ℕ} (h : b + r ≤ s) : gL b q k r s = 0 := if_neg (by omega)
theorem gW_out {r s : ℕ} (h : b + r ≤ s) : gW b q k r s = 0 := if_neg (by omega)
theorem gC_out {r j : ℕ} (h : b + r ≤ a) : gC b q k a r j = 0 := sum_eq_zero fun s hs => gL_out (by have := (mem_Ico.mp hs).1; omega)
theorem gA_out {r e : ℕ} (h : b + r ≤ a) : gA b q k v a r e = 0 :=
  sum_eq_zero fun s hs => by rw [gW_out (by have := (mem_Ico.mp hs).1; omega), zero_mul]

/-- A tile on the diagonal: its rows start at its first column. -/
theorem diag_C {r : ℕ} (ht : ∀ u < 256, ∀ s < 256, t u s = tri u s) (hM : ∀ r s, s < 256 → (M r s = true ↔ (b + x) + s < b + (x + r))) (ha : b + x + 256 ≤ 8192) :
    ab x (gC b q k (b + x + 256)) (fC M (dn x q) (dn (b + x) k) t (dn x (gC b q k (b + x + 256)))) r 0 = gC b q k (b + x) r 0 := by
  unfold ab
  split
  · rw [gC_out (by omega), gC_out (by omega)]
  · rw [fC_g hM ht ha, Nat.add_sub_cancel' (by omega)]
theorem diag_A {r e : ℕ} (ht : ∀ u < 256, ∀ s < 256, t u s = tri u s) (hM : ∀ r s, s < 256 → (M r s = true ↔ (b + x) + s < b + (x + r))) (ha : b + x + 256 ≤ 8192) :
    ab x (gA b q k v (b + x + 256)) (fA M (dn x q) (dn (b + x) k) (dn (b + x) v) t (dn x (gC b q k (b + x + 256))) (dn x (gA b q k v (b + x + 256)))) r e = gA b q k v (b + x) r e := by
  unfold ab
  split
  · rw [gA_out (by omega), gA_out (by omega)]
  · rw [fA_g hM ht ha, Nat.add_sub_cancel' (by omega)]

theorem dn_zero (f : ℕ → ℕ → EReal) : dn 0 f = f := by funext i j; unfold dn; rw [Nat.zero_add]

/-- A tile before the diagonal. -/
theorem full_C {r : ℕ} (ht : ∀ u < 256, ∀ s < 256, t u s = tri u s) (hb : a + 256 ≤ b) (hb' : b ≤ 8192) :
    fC (fun _ _ => true) q (dn a k) t (gC b q k (a + 256)) r 0 = gC b q k a r 0 := by
  have h := fC_g (b := b) (a := a) (x := 0) (q := q) (k := k) (t := t) (M := fun _ _ => true) (fun r s hs => by simp; omega) ht (by omega) r
  rw [dn_zero, dn_zero, Nat.zero_add] at h; exact h
theorem full_A {r e : ℕ} (ht : ∀ u < 256, ∀ s < 256, t u s = tri u s) (hb : a + 256 ≤ b) (hb' : b ≤ 8192) :
    fA (fun _ _ => true) q (dn a k) (dn a v) t (gC b q k (a + 256)) (gA b q k v (a + 256)) r e = gA b q k v a r e := by
  have h := fA_g (b := b) (a := a) (x := 0) (q := q) (k := k) (v := v) (t := t) (M := fun _ _ => true) (fun r s hs => by simp; omega) ht (by omega) r e
  rw [dn_zero, dn_zero, dn_zero, Nat.zero_add] at h; exact h

theorem sp_coe (z : ℝ) : sp (z : EReal) = ((Real.log (1 + Real.exp z) : ℝ) : EReal) := by
  have e : max (z : EReal) (-(z : EReal)) = ((|z| : ℝ) : EReal) := by
    rw [← EReal.coe_neg, ← EReal.coe_strictMono.monotone.map_max]; rfl
  have h := Real.exp_pos (-|z|)
  unfold sp
  rw [e, zero_sub, ← EReal.coe_neg, ← EReal.coe_zero, ← EReal.coe_strictMono.monotone.map_max]
  show _ + Ideal.log (1 + ((Real.exp (-|z|) : ℝ) : EReal)) = _
  rw [← EReal.coe_one, ← EReal.coe_add]
  show _ + (if 1 + Real.exp (-|z|) ≤ 0 then (⊥ : EReal) else ((Real.log (1 + Real.exp (-|z|)) : ℝ) : EReal)) = _
  rw [if_neg (by linarith), ← EReal.coe_add, Cert.Val.sp_real]
theorem exp_bot : Ideal.exp ⊥ = 0 := rfl
theorem log_one : Ideal.log (1 : EReal) = 0 := by
  rw [← EReal.coe_one]
  show (if (1 : ℝ) ≤ 0 then (⊥ : EReal) else ((Real.log 1 : ℝ) : EReal)) = 0
  rw [if_neg (by norm_num), Real.log_one, EReal.coe_zero]
theorem sp_top : sp ⊤ = ⊤ := by
  unfold sp
  rw [max_eq_left le_top, max_eq_left le_top, zero_sub, EReal.neg_top, exp_bot, add_zero, log_one, add_zero]
theorem sp_bot : sp ⊥ = 0 := by
  unfold sp
  rw [max_eq_right bot_le, EReal.neg_bot, max_eq_right bot_le, zero_sub, EReal.neg_top, exp_bot, add_zero, log_one, add_zero]

/-- The kernel's exponent and the one of the definition agree under the exponential. -/
theorem weight (z S : EReal) : -sp (-z) + ((0 - sp z + S) - (0 - sp z)) = z + (0 - sp z) + S := by
  induction z with
  | bot =>
    rw [EReal.neg_bot, sp_top, EReal.neg_top, sp_bot, EReal.bot_add, EReal.bot_add, EReal.bot_add]
  | top =>
    rw [sp_top, zero_sub, EReal.neg_top, EReal.bot_add, EReal.add_bot, EReal.bot_add]
    show _ + ((⊥ : EReal) + -⊥) = _
    rw [EReal.bot_add, EReal.add_bot]
  | coe z =>
    rw [← EReal.coe_neg, sp_coe, sp_coe, zero_sub, ← EReal.coe_neg, ← EReal.coe_neg, ← EReal.coe_add]
    have e : z + -Real.log (1 + Real.exp z) = -Real.log (1 + Real.exp (-z)) := by
      have h : 1 + Real.exp z = Real.exp z * (1 + Real.exp (-z)) := by rw [mul_add, ← Real.exp_add]; simp [add_comm]
      rw [h, Real.log_mul (Real.exp_ne_zero _) (by positivity), Real.log_exp]; ring
    rw [e]
    congr 1
    generalize -Real.log (1 + Real.exp z) = w
    induction S with
    | bot => rw [EReal.add_bot, sub_eq_add_neg, EReal.bot_add]
    | top => rw [EReal.coe_add_top, sub_eq_add_neg, ← EReal.coe_neg, EReal.top_add_coe]
    | coe S => rw [← EReal.coe_add, ← EReal.coe_sub]; congr 1; ring

end Cert.V23

end
-- ==== Proof.FwdTileA.lean ====
/- The attention kernel's last two tiles of a block of queries. -/
module

public import proofs.«01_k».proof.Proof.FwdOps
public import proofs.«01_k».proof.Proof.FwdMath

@[expose] public section

set_option maxRecDepth 16384
set_option maxHeartbeats 4000000

noncomputable section

namespace Cert.V23

open Cert.Kernel23Ideal Cert.Kernel23Ideal.Gen Idealize.ShloMosaic
open Cert.Ext (eV eT exV exT ext_e)
open Cert.Val (toM slt_n sge_n muli_n addi_n)

theorem t3_ca (i : ℕ) (hi : i < 8) (q k t c : ℕ → ℕ → EReal) :
    (k0_pay31 (BitVec.ofNat 32 i) (eV (φ := .bf16) t) (eV (φ := .f32) c) (Scalar.addi (Scalar.muli (BitVec.ofNat 32 i) 4#32) 3#32) (k0_pay26 (eV (φ := .bf16) q) (eV (φ := .bf16) k)) (Scalar.ofBits .f32 0x00000000#32) : FVec Ideal S1024x1 .f32)
      = eV (ab 768 c (fC (fM ((i * 4 + 3) * 256) (i * 1024 + 768)) (dn 768 (qa q)) k t (dn 768 c))) := by
  have hm := mask_256 ((i * 4 + 3) * 256) (i * 1024 + 768) (by omega) (by omega)
  simp only [k0_pay25, k0_pay26, k0_pay27, k0_pay28, k0_pay29, k0_pay30, k0_pay31, addf_e, subf_e, mulf_e, maximumf_e, absf_e, exp_e, log_e, truncf_e, extf_e, select_e, zc, bz, bo, sz, so, muli_n, addi_n, hm, pay20_e, mm_S256x128_S256x128_S256x256_1_1_0_0, mm_S256x256_S256x256_S256x256_1_0_0_1, mm_S256x256_S256x128_S256x128_1_0_0_1, slices_S1024x128_o0_0_S768x128_e, slices_S1024x128_o768_0_S256x128_e, slices_S1024x1_o0_0_S768x1_e, slices_S1024x1_o768_0_S256x1_e, slices_S256x256_o0_0_S256x1_e, broadcasts_S256x1_S256x256_e, concatenates_S768x128_S256x128_S1024x128_d0_d, concatenates_S768x128_S256x128_S1024x128_d0_v, concatenates_S768x1_S256x1_S1024x1_d0_d, concatenates_S768x1_S256x1_S1024x1_d0_v]
  rfl

theorem t3_aa (i : ℕ) (hi : i < 8) (q k v t c a : ℕ → ℕ → EReal) :
    (k0_pay32 (BitVec.ofNat 32 i) (eV (φ := .bf16) t) (eV (φ := .f32) c) (eV (φ := .f32) a) (Scalar.addi (Scalar.muli (BitVec.ofNat 32 i) 4#32) 3#32) (eV (φ := .bf16) v) (k0_pay25 (eV (φ := .bf16) q) (eV (φ := .bf16) k)) (k0_pay26 (eV (φ := .bf16) q) (eV (φ := .bf16) k)) (Scalar.ofBits .f32 0x00000000#32) : FVec Ideal S1024x128 .f32)
      = eV (ab 768 a (fA (fM ((i * 4 + 3) * 256) (i * 1024 + 768)) (dn 768 (qa q)) k v t (dn 768 c) (dn 768 a))) := by
  have hm := mask_256 ((i * 4 + 3) * 256) (i * 1024 + 768) (by omega) (by omega)
  simp only [k0_pay25, k0_pay26, k0_pay27, k0_pay28, k0_pay29, k0_pay30, k0_pay32, addf_e, subf_e, mulf_e, maximumf_e, absf_e, exp_e, log_e, truncf_e, extf_e, select_e, zc, bz, bo, sz, so, muli_n, addi_n, hm, pay20_e, mm_S256x128_S256x128_S256x256_1_1_0_0, mm_S256x256_S256x256_S256x256_1_0_0_1, mm_S256x256_S256x128_S256x128_1_0_0_1, slices_S1024x128_o0_0_S768x128_e, slices_S1024x128_o768_0_S256x128_e, slices_S1024x1_o0_0_S768x1_e, slices_S1024x1_o768_0_S256x1_e, slices_S256x256_o0_0_S256x1_e, broadcasts_S256x1_S256x256_e, concatenates_S768x128_S256x128_S1024x128_d0_d, concatenates_S768x128_S256x128_S1024x128_d0_v, concatenates_S768x1_S256x1_S1024x1_d0_d, concatenates_S768x1_S256x1_S1024x1_d0_v]
  rfl

theorem t3_cb (i : ℕ) (hi : i < 8) (q k t c : ℕ → ℕ → EReal) :
    (k0_pay40 (BitVec.ofNat 32 i) (eV (φ := .bf16) t) (eV (φ := .f32) c) (Scalar.addi (Scalar.muli (BitVec.ofNat 32 i) 4#32) 3#32) (k0_pay34 (eV (φ := .bf16) (qb q)) (eV (φ := .bf16) k)) (k0_pay35 (eV (φ := .bf16) (qb q)) (eV (φ := .bf16) k)) : FVec Ideal S1024x1 .f32)
      = eV (ab 768 c (fC (fM ((i * 4 + 3) * 256) (i * 1024 + 768)) (dn 768 (qb q)) k t (dn 768 c))) := by
  have hm := mask_256 ((i * 4 + 3) * 256) (i * 1024 + 768) (by omega) (by omega)
  simp only [k0_pay33, k0_pay34, k0_pay35, k0_pay36, k0_pay37, k0_pay38, k0_pay39, k0_pay40, addf_e, subf_e, mulf_e, maximumf_e, absf_e, exp_e, log_e, truncf_e, extf_e, select_e, zc, bz, bo, sz, so, muli_n, addi_n, hm, pay20_e, mm_S256x128_S256x128_S256x256_1_1_0_0, mm_S256x256_S256x256_S256x256_1_0_0_1, mm_S256x256_S256x128_S256x128_1_0_0_1, slices_S1024x128_o0_0_S768x128_e, slices_S1024x128_o768_0_S256x128_e, slices_S1024x1_o0_0_S768x1_e, slices_S1024x1_o768_0_S256x1_e, slices_S256x256_o0_0_S256x1_e, broadcasts_S256x1_S256x256_e, concatenates_S768x128_S256x128_S1024x128_d0_d, concatenates_S768x128_S256x128_S1024x128_d0_v, concatenates_S768x1_S256x1_S1024x1_d0_d, concatenates_S768x1_S256x1_S1024x1_d0_v]
  rfl

theorem t3_ab (i : ℕ) (hi : i < 8) (q k v t c a : ℕ → ℕ → EReal) :
    (k0_pay41 (BitVec.ofNat 32 i) (eV (φ := .bf16) t) (eV (φ := .f32) c) (eV (φ := .f32) a) (Scalar.addi (Scalar.muli (BitVec.ofNat 32 i) 4#32) 3#32) (eV (φ := .bf16) v) (k0_pay33 (eV (φ := .bf16) (qb q)) (eV (φ := .bf16) k)) (k0_pay34 (eV (φ := .bf16) (qb q)) (eV (φ := .bf16) k)) (k0_pay35 (eV (φ := .bf16) (qb q)) (eV (φ := .bf16) k)) : FVec Ideal S1024x128 .f32)
      = eV (ab 768 a (fA (fM ((i * 4 + 3) * 256) (i * 1024 + 768)) (dn 768 (qb q)) k v t (dn 768 c) (dn 768 a))) := by
  have hm := mask_256 ((i * 4 + 3) * 256) (i * 1024 + 768) (by omega) (by omega)
  simp only [k0_pay33, k0_pay34, k0_pay35, k0_pay36, k0_pay37, k0_pay38, k0_pay39, k0_pay41, addf_e, subf_e, mulf_e, maximumf_e, absf_e, exp_e, log_e, truncf_e, extf_e, select_e, zc, bz, bo, sz, so, muli_n, addi_n, hm, pay20_e, mm_S256x128_S256x128_S256x256_1_1_0_0, mm_S256x256_S256x256_S256x256_1_0_0_1, mm_S256x256_S256x128_S256x128_1_0_0_1, slices_S1024x128_o0_0_S768x128_e, slices_S1024x128_o768_0_S256x128_e, slices_S1024x1_o0_0_S768x1_e, slices_S1024x1_o768_0_S256x1_e, slices_S256x256_o0_0_S256x1_e, broadcasts_S256x1_S256x256_e, concatenates_S768x128_S256x128_S1024x128_d0_d, concatenates_S768x128_S256x128_S1024x128_d0_v, concatenates_S768x1_S256x1_S1024x1_d0_d, concatenates_S768x1_S256x1_S1024x1_d0_v]
  rfl

theorem t2_ca (i : ℕ) (hi : i < 8) (q k t c : ℕ → ℕ → EReal) :
    (k0_pay48 (BitVec.ofNat 32 i) (eV (φ := .bf16) (qa q)) (eV (φ := .bf16) t) (eV (φ := .f32) c) (Scalar.addi (Scalar.muli (BitVec.ofNat 32 i) 4#32) 2#32) (eV (φ := .bf16) k) : FVec Ideal S1024x1 .f32)
      = eV (ab 512 c (fC (fM ((i * 4 + 2) * 256) (i * 1024 + 512)) (dn 512 (qa q)) k t (dn 512 c))) := by
  have hm := mask_512 ((i * 4 + 2) * 256) (i * 1024 + 512) (by omega) (by omega)
  simp only [k0_pay42, k0_pay43, k0_pay44, k0_pay45, k0_pay46, k0_pay48, addf_e, subf_e, mulf_e, maximumf_e, absf_e, exp_e, log_e, truncf_e, extf_e, select_e, zc, bz, bo, sz, so, muli_n, addi_n, hm, pay20_e, mm_S512x128_S256x128_S512x256_1_1_0_0, mm_S512x256_S256x256_S512x256_1_0_0_1, mm_S512x256_S256x128_S512x128_1_0_0_1, slices_S1024x128_o0_0_S512x128_e, slices_S1024x128_o512_0_S512x128_e, slices_S1024x1_o0_0_S512x1_e, slices_S1024x1_o512_0_S512x1_e, slices_S512x256_o0_0_S512x1_e, broadcasts_S512x1_S512x256_e, concatenates_S512x128_S512x128_S1024x128_d0_d, concatenates_S512x128_S512x128_S1024x128_d0_v, concatenates_S512x1_S512x1_S1024x1_d0_d, concatenates_S512x1_S512x1_S1024x1_d0_v]
  rfl

theorem t2_aa (i : ℕ) (hi : i < 8) (q k v t c a : ℕ → ℕ → EReal) :
    (k0_pay49 (eV (φ := .f32) a) (k0_pay47 (BitVec.ofNat 32 i) (eV (φ := .bf16) (qa q)) (eV (φ := .bf16) t) (eV (φ := .f32) c) (eV (φ := .f32) a) (Scalar.addi (Scalar.muli (BitVec.ofNat 32 i) 4#32) 2#32) (eV (φ := .bf16) k) (eV (φ := .bf16) v)) : FVec Ideal S1024x128 .f32)
      = eV (ab 512 a (fA (fM ((i * 4 + 2) * 256) (i * 1024 + 512)) (dn 512 (qa q)) k v t (dn 512 c) (dn 512 a))) := by
  have hm := mask_512 ((i * 4 + 2) * 256) (i * 1024 + 512) (by omega) (by omega)
  simp only [k0_pay42, k0_pay43, k0_pay44, k0_pay45, k0_pay46, k0_pay47, k0_pay49, addf_e, subf_e, mulf_e, maximumf_e, absf_e, exp_e, log_e, truncf_e, extf_e, select_e, zc, bz, bo, sz, so, muli_n, addi_n, hm, pay20_e, mm_S512x128_S256x128_S512x256_1_1_0_0, mm_S512x256_S256x256_S512x256_1_0_0_1, mm_S512x256_S256x128_S512x128_1_0_0_1, slices_S1024x128_o0_0_S512x128_e, slices_S1024x128_o512_0_S512x128_e, slices_S1024x1_o0_0_S512x1_e, slices_S1024x1_o512_0_S512x1_e, slices_S512x256_o0_0_S512x1_e, broadcasts_S512x1_S512x256_e, concatenates_S512x128_S512x128_S1024x128_d0_d, concatenates_S512x128_S512x128_S1024x128_d0_v, concatenates_S512x1_S512x1_S1024x1_d0_d, concatenates_S512x1_S512x1_S1024x1_d0_v]
  rfl

theorem t2_cb (i : ℕ) (hi : i < 8) (q k t c : ℕ → ℕ → EReal) :
    (k0_pay57 (eV (φ := .f32) c) (k0_pay55 (BitVec.ofNat 32 i) (eV (φ := .bf16) (qb q)) (eV (φ := .bf16) t) (eV (φ := .f32) c) (Scalar.addi (Scalar.muli (BitVec.ofNat 32 i) 4#32) 2#32) (eV (φ := .bf16) k)) : FVec Ideal S1024x1 .f32)
      = eV (ab 512 c (fC (fM ((i * 4 + 2) * 256) (i * 1024 + 512)) (dn 512 (qb q)) k t (dn 512 c))) := by
  have hm := mask_512 ((i * 4 + 2) * 256) (i * 1024 + 512) (by omega) (by omega)
  simp only [k0_pay50, k0_pay51, k0_pay52, k0_pay53, k0_pay54, k0_pay55, k0_pay57, addf_e, subf_e, mulf_e, maximumf_e, absf_e, exp_e, log_e, truncf_e, extf_e, select_e, zc, bz, bo, sz, so, muli_n, addi_n, hm, pay20_e, mm_S512x128_S256x128_S512x256_1_1_0_0, mm_S512x256_S256x256_S512x256_1_0_0_1, mm_S512x256_S256x128_S512x128_1_0_0_1, slices_S1024x128_o0_0_S512x128_e, slices_S1024x128_o512_0_S512x128_e, slices_S1024x1_o0_0_S512x1_e, slices_S1024x1_o512_0_S512x1_e, slices_S512x256_o0_0_S512x1_e, broadcasts_S512x1_S512x256_e, concatenates_S512x128_S512x128_S1024x128_d0_d, concatenates_S512x128_S512x128_S1024x128_d0_v, concatenates_S512x1_S512x1_S1024x1_d0_d, concatenates_S512x1_S512x1_S1024x1_d0_v]
  rfl

theorem t2_ab (i : ℕ) (hi : i < 8) (q k v t c a : ℕ → ℕ → EReal) :
    (k0_pay58 (eV (φ := .f32) a) (k0_pay56 (BitVec.ofNat 32 i) (eV (φ := .bf16) (qb q)) (eV (φ := .bf16) t) (eV (φ := .f32) c) (eV (φ := .f32) a) (Scalar.addi (Scalar.muli (BitVec.ofNat 32 i) 4#32) 2#32) (eV (φ := .bf16) k) (eV (φ := .bf16) v)) : FVec Ideal S1024x128 .f32)
      = eV (ab 512 a (fA (fM ((i * 4 + 2) * 256) (i * 1024 + 512)) (dn 512 (qb q)) k v t (dn 512 c) (dn 512 a))) := by
  have hm := mask_512 ((i * 4 + 2) * 256) (i * 1024 + 512) (by omega) (by omega)
  simp only [k0_pay50, k0_pay51, k0_pay52, k0_pay53, k0_pay54, k0_pay56, k0_pay58, addf_e, subf_e, mulf_e, maximumf_e, absf_e, exp_e, log_e, truncf_e, extf_e, select_e, zc, bz, bo, sz, so, muli_n, addi_n, hm, pay20_e, mm_S512x128_S256x128_S512x256_1_1_0_0, mm_S512x256_S256x256_S512x256_1_0_0_1, mm_S512x256_S256x128_S512x128_1_0_0_1, slices_S1024x128_o0_0_S512x128_e, slices_S1024x128_o512_0_S512x128_e, slices_S1024x1_o0_0_S512x1_e, slices_S1024x1_o512_0_S512x1_e, slices_S512x256_o0_0_S512x1_e, broadcasts_S512x1_S512x256_e, concatenates_S512x128_S512x128_S1024x128_d0_d, concatenates_S512x128_S512x128_S1024x128_d0_v, concatenates_S512x1_S512x1_S1024x1_d0_d, concatenates_S512x1_S512x1_S1024x1_d0_v]
  rfl

end Cert.V23

end
-- ==== Proof.FwdTileB.lean ====
/- The attention kernel's first two tiles of a block of queries. -/
module

public import proofs.«01_k».proof.Proof.FwdOps
public import proofs.«01_k».proof.Proof.FwdMath

@[expose] public section

set_option maxRecDepth 16384
set_option maxHeartbeats 4000000

noncomputable section

namespace Cert.V23

open Cert.Kernel23Ideal Cert.Kernel23Ideal.Gen Idealize.ShloMosaic
open Cert.Ext (eV eT exV exT ext_e)
open Cert.Val (toM slt_n sge_n muli_n addi_n)

theorem t1_ca (i : ℕ) (hi : i < 8) (q k t c : ℕ → ℕ → EReal) :
    (k0_pay66 (eV (φ := .f32) c) (k0_pay62 (BitVec.ofNat 32 i) (eV (φ := .bf16) (qa q)) (eV (φ := .bf16) k)) (k0_pay64 (BitVec.ofNat 32 i) (eV (φ := .bf16) (qa q)) (eV (φ := .bf16) t) (eV (φ := .bf16) k)) : FVec Ideal S1024x1 .f32)
      = eV (ab 256 c (fC (fM ((i * 4 + 1) * 256) (i * 1024 + 256)) (dn 256 (qa q)) k t (dn 256 c))) := by
  have hm := mask_768 ((i * 4 + 1) * 256) (i * 1024 + 256) (by omega) (by omega)
  simp only [k0_pay59, k0_pay60, k0_pay61, k0_pay62, k0_pay63, k0_pay64, k0_pay66, addf_e, subf_e, mulf_e, maximumf_e, absf_e, exp_e, log_e, truncf_e, extf_e, select_e, zc, bz, bo, sz, so, muli_n, addi_n, hm, pay20_e, mm_S768x128_S256x128_S768x256_1_1_0_0, mm_S768x256_S256x256_S768x256_1_0_0_1, mm_S768x256_S256x128_S768x128_1_0_0_1, slices_S1024x128_o0_0_S256x128_e, slices_S1024x128_o256_0_S768x128_e, slices_S1024x1_o0_0_S256x1_e, slices_S1024x1_o256_0_S768x1_e, slices_S768x256_o0_0_S768x1_e, broadcasts_S768x1_S768x256_e, concatenates_S256x128_S768x128_S1024x128_d0_d, concatenates_S256x128_S768x128_S1024x128_d0_v, concatenates_S256x1_S768x1_S1024x1_d0_d, concatenates_S256x1_S768x1_S1024x1_d0_v]
  rfl

theorem t1_aa (i : ℕ) (hi : i < 8) (q k v t c a : ℕ → ℕ → EReal) :
    (k0_pay67 (eV (φ := .f32) a) (eV (φ := .bf16) v) (k0_pay60 (BitVec.ofNat 32 i)) (k0_pay63 (BitVec.ofNat 32 i) (eV (φ := .bf16) (qa q)) (eV (φ := .bf16) t) (eV (φ := .bf16) k)) (k0_pay65 (BitVec.ofNat 32 i) (eV (φ := .bf16) (qa q)) (eV (φ := .f32) c) (eV (φ := .bf16) k)) : FVec Ideal S1024x128 .f32)
      = eV (ab 256 a (fA (fM ((i * 4 + 1) * 256) (i * 1024 + 256)) (dn 256 (qa q)) k v t (dn 256 c) (dn 256 a))) := by
  have hm := mask_768 ((i * 4 + 1) * 256) (i * 1024 + 256) (by omega) (by omega)
  simp only [k0_pay59, k0_pay60, k0_pay61, k0_pay62, k0_pay63, k0_pay65, k0_pay67, addf_e, subf_e, mulf_e, maximumf_e, absf_e, exp_e, log_e, truncf_e, extf_e, select_e, zc, bz, bo, sz, so, muli_n, addi_n, hm, pay20_e, mm_S768x128_S256x128_S768x256_1_1_0_0, mm_S768x256_S256x256_S768x256_1_0_0_1, mm_S768x256_S256x128_S768x128_1_0_0_1, slices_S1024x128_o0_0_S256x128_e, slices_S1024x128_o256_0_S768x128_e, slices_S1024x1_o0_0_S256x1_e, slices_S1024x1_o256_0_S768x1_e, slices_S768x256_o0_0_S768x1_e, broadcasts_S768x1_S768x256_e, concatenates_S256x128_S768x128_S1024x128_d0_d, concatenates_S256x128_S768x128_S1024x128_d0_v, concatenates_S256x1_S768x1_S1024x1_d0_d, concatenates_S256x1_S768x1_S1024x1_d0_v]
  rfl

theorem t1_cb (i : ℕ) (hi : i < 8) (q k t c : ℕ → ℕ → EReal) :
    (k0_pay76 (eV (φ := .f32) c) (k0_pay71 (BitVec.ofNat 32 i) (eV (φ := .bf16) (qb q)) (Scalar.addi (Scalar.muli (BitVec.ofNat 32 i) 4#32) 1#32) (eV (φ := .bf16) k)) (k0_pay73 (BitVec.ofNat 32 i) (eV (φ := .bf16) (qb q)) (eV (φ := .bf16) t) (Scalar.addi (Scalar.muli (BitVec.ofNat 32 i) 4#32) 1#32) (eV (φ := .bf16) k)) : FVec Ideal S1024x1 .f32)
      = eV (ab 256 c (fC (fM ((i * 4 + 1) * 256) (i * 1024 + 256)) (dn 256 (qb q)) k t (dn 256 c))) := by
  have hm := mask_768 ((i * 4 + 1) * 256) (i * 1024 + 256) (by omega) (by omega)
  simp only [k0_pay68, k0_pay69, k0_pay70, k0_pay71, k0_pay72, k0_pay73, k0_pay76, addf_e, subf_e, mulf_e, maximumf_e, absf_e, exp_e, log_e, truncf_e, extf_e, select_e, zc, bz, bo, sz, so, muli_n, addi_n, hm, pay20_e, mm_S768x128_S256x128_S768x256_1_1_0_0, mm_S768x256_S256x256_S768x256_1_0_0_1, mm_S768x256_S256x128_S768x128_1_0_0_1, slices_S1024x128_o0_0_S256x128_e, slices_S1024x128_o256_0_S768x128_e, slices_S1024x1_o0_0_S256x1_e, slices_S1024x1_o256_0_S768x1_e, slices_S768x256_o0_0_S768x1_e, broadcasts_S768x1_S768x256_e, concatenates_S256x128_S768x128_S1024x128_d0_d, concatenates_S256x128_S768x128_S1024x128_d0_v, concatenates_S256x1_S768x1_S1024x1_d0_d, concatenates_S256x1_S768x1_S1024x1_d0_v]
  rfl

theorem t1_ab (i : ℕ) (hi : i < 8) (q k v t c a : ℕ → ℕ → EReal) :
    (k0_pay77 (eV (φ := .f32) a) (eV (φ := .bf16) v) (k0_pay69 (BitVec.ofNat 32 i) (Scalar.addi (Scalar.muli (BitVec.ofNat 32 i) 4#32) 1#32)) (k0_pay72 (BitVec.ofNat 32 i) (eV (φ := .bf16) (qb q)) (eV (φ := .bf16) t) (Scalar.addi (Scalar.muli (BitVec.ofNat 32 i) 4#32) 1#32) (eV (φ := .bf16) k)) (k0_pay74 (BitVec.ofNat 32 i) (eV (φ := .bf16) (qb q)) (Scalar.addi (Scalar.muli (BitVec.ofNat 32 i) 4#32) 1#32) (eV (φ := .bf16) k)) (k0_pay75 (eV (φ := .f32) c)) : FVec Ideal S1024x128 .f32)
      = eV (ab 256 a (fA (fM ((i * 4 + 1) * 256) (i * 1024 + 256)) (dn 256 (qb q)) k v t (dn 256 c) (dn 256 a))) := by
  have hm := mask_768 ((i * 4 + 1) * 256) (i * 1024 + 256) (by omega) (by omega)
  simp only [k0_pay68, k0_pay69, k0_pay70, k0_pay71, k0_pay72, k0_pay74, k0_pay75, k0_pay77, addf_e, subf_e, mulf_e, maximumf_e, absf_e, exp_e, log_e, truncf_e, extf_e, select_e, zc, bz, bo, sz, so, muli_n, addi_n, hm, pay20_e, mm_S768x128_S256x128_S768x256_1_1_0_0, mm_S768x256_S256x256_S768x256_1_0_0_1, mm_S768x256_S256x128_S768x128_1_0_0_1, slices_S1024x128_o0_0_S256x128_e, slices_S1024x128_o256_0_S768x128_e, slices_S1024x1_o0_0_S256x1_e, slices_S1024x1_o256_0_S768x1_e, slices_S768x256_o0_0_S768x1_e, broadcasts_S768x1_S768x256_e, concatenates_S256x128_S768x128_S1024x128_d0_d, concatenates_S256x128_S768x128_S1024x128_d0_v, concatenates_S256x1_S768x1_S1024x1_d0_d, concatenates_S256x1_S768x1_S1024x1_d0_v]
  rfl

theorem t0_ca (i : ℕ) (hi : i < 8) (q k t c : ℕ → ℕ → EReal) :
    (k0_pay85 (eV (φ := .bf16) t) (eV (φ := .f32) c) (k0_pay79 (eV (φ := .bf16) (qa q)) (eV (φ := .bf16) k)) (Scalar.addi (Scalar.muli (BitVec.ofNat 32 i) 1024#32) 0#32) (iota .tc S1024x256 32 [1] iota_S1024x256_d1_w32) (k0_pay80 (BitVec.ofNat 32 i)) : FVec Ideal S1024x1 .f32)
      = eV (fC (fM ((i * 4 + 0) * 256) (i * 1024 + 0)) (qa q) k t c) := by
  have hm := mask_1024 ((i * 4 + 0) * 256) (i * 1024 + 0) (by omega) (by omega)
  simp only [k0_pay78, k0_pay79, k0_pay80, k0_pay81, k0_pay82, k0_pay83, k0_pay84, k0_pay85, addf_e, subf_e, mulf_e, maximumf_e, absf_e, exp_e, log_e, truncf_e, extf_e, select_e, zc, bz, bo, sz, so, muli_n, addi_n, hm, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

theorem t0_aa (i : ℕ) (hi : i < 8) (q k v t c a : ℕ → ℕ → EReal) :
    (k0_pay86 (eV (φ := .bf16) t) (eV (φ := .f32) c) (eV (φ := .f32) a) (eV (φ := .bf16) v) (k0_pay78 (eV (φ := .bf16) (qa q)) (eV (φ := .bf16) k)) (k0_pay79 (eV (φ := .bf16) (qa q)) (eV (φ := .bf16) k)) (Scalar.addi (Scalar.muli (BitVec.ofNat 32 i) 1024#32) 0#32) (iota .tc S1024x256 32 [1] iota_S1024x256_d1_w32) (k0_pay80 (BitVec.ofNat 32 i)) : FVec Ideal S1024x128 .f32)
      = eV (fA (fM ((i * 4 + 0) * 256) (i * 1024 + 0)) (qa q) k v t c a) := by
  have hm := mask_1024 ((i * 4 + 0) * 256) (i * 1024 + 0) (by omega) (by omega)
  simp only [k0_pay78, k0_pay79, k0_pay80, k0_pay81, k0_pay82, k0_pay83, k0_pay84, k0_pay86, addf_e, subf_e, mulf_e, maximumf_e, absf_e, exp_e, log_e, truncf_e, extf_e, select_e, zc, bz, bo, sz, so, muli_n, addi_n, hm, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

theorem t0_cb (i : ℕ) (hi : i < 8) (q k t c : ℕ → ℕ → EReal) :
    (k0_pay93 (eV (φ := .bf16) t) (eV (φ := .f32) c) (k0_pay88 (eV (φ := .bf16) (qb q)) (eV (φ := .bf16) k)) (k0_pay89 (BitVec.ofNat 32 i) (Scalar.addi (Scalar.muli (BitVec.ofNat 32 i) 4#32) 0#32)) (Scalar.ofBits .f32 0x00000000#32) : FVec Ideal S1024x1 .f32)
      = eV (fC (fM ((i * 4 + 0) * 256) (i * 1024 + 0)) (qb q) k t c) := by
  have hm := mask_1024 ((i * 4 + 0) * 256) (i * 1024 + 0) (by omega) (by omega)
  simp only [k0_pay87, k0_pay88, k0_pay89, k0_pay90, k0_pay91, k0_pay92, k0_pay93, addf_e, subf_e, mulf_e, maximumf_e, absf_e, exp_e, log_e, truncf_e, extf_e, select_e, zc, bz, bo, sz, so, muli_n, addi_n, hm, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

theorem t0_ab (i : ℕ) (hi : i < 8) (q k v t c a : ℕ → ℕ → EReal) :
    (k0_pay94 (eV (φ := .bf16) t) (eV (φ := .f32) c) (eV (φ := .f32) a) (eV (φ := .bf16) v) (k0_pay87 (eV (φ := .bf16) (qb q)) (eV (φ := .bf16) k)) (k0_pay88 (eV (φ := .bf16) (qb q)) (eV (φ := .bf16) k)) (k0_pay89 (BitVec.ofNat 32 i) (Scalar.addi (Scalar.muli (BitVec.ofNat 32 i) 4#32) 0#32)) (Scalar.ofBits .f32 0x00000000#32) : FVec Ideal S1024x128 .f32)
      = eV (fA (fM ((i * 4 + 0) * 256) (i * 1024 + 0)) (qb q) k v t c a) := by
  have hm := mask_1024 ((i * 4 + 0) * 256) (i * 1024 + 0) (by omega) (by omega)
  simp only [k0_pay87, k0_pay88, k0_pay89, k0_pay90, k0_pay91, k0_pay92, k0_pay94, addf_e, subf_e, mulf_e, maximumf_e, absf_e, exp_e, log_e, truncf_e, extf_e, select_e, zc, bz, bo, sz, so, muli_n, addi_n, hm, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

end Cert.V23

end
-- ==== Proof.FwdTileL.lean ====
/- The attention kernel's tiles before the diagonal. -/
module

public import proofs.«01_k».proof.Proof.FwdOps
public import proofs.«01_k».proof.Proof.FwdMath

@[expose] public section

set_option maxRecDepth 16384
set_option maxHeartbeats 4000000

noncomputable section

namespace Cert.V23

open Cert.Kernel23Ideal Cert.Kernel23Ideal.Gen Idealize.ShloMosaic
open Cert.Ext (eV eT exV exT ext_e)
open Cert.Val (toM slt_n sge_n muli_n addi_n)

theorem tl_ca (q k t c : ℕ → ℕ → EReal) :
    (k0_pay5 (eV (φ := .bf16) q) (eV (φ := .bf16) t) (eV (φ := .f32) c) (eV (φ := .bf16) k) : FVec Ideal S1024x1 .f32)
      = eV (fC (fun _ _ => true) q k t c) := by
  simp only [k0_pay1, k0_pay2, k0_pay3, k0_pay4, k0_pay5, addf_e, subf_e, mulf_e, maximumf_e, absf_e, exp_e, log_e, truncf_e, extf_e, select_e, zc, bz, bo, sz, so, muli_n, addi_n, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

theorem tl_aa (q k v t c a : ℕ → ℕ → EReal) :
    (k0_pay6 (eV (φ := .bf16) q) (eV (φ := .bf16) t) (eV (φ := .f32) c) (eV (φ := .f32) a) (eV (φ := .bf16) k) (eV (φ := .bf16) v) : FVec Ideal S1024x128 .f32)
      = eV (fA (fun _ _ => true) q k v t c a) := by
  simp only [k0_pay1, k0_pay2, k0_pay3, k0_pay4, k0_pay6, addf_e, subf_e, mulf_e, maximumf_e, absf_e, exp_e, log_e, truncf_e, extf_e, select_e, zc, bz, bo, sz, so, muli_n, addi_n, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

theorem tl_cb (q k t c : ℕ → ℕ → EReal) :
    (k0_pay98 (eV (φ := .bf16) t) (eV (φ := .f32) c) (k0_pay8 (eV (φ := .bf16) q) (eV (φ := .bf16) k)) (k0_pay9 (eV (φ := .bf16) q) (eV (φ := .bf16) k)) : FVec Ideal S1024x1 .f32)
      = eV (fC (fun _ _ => true) q k t c) := by
  simp only [k0_pay7, k0_pay8, k0_pay9, k0_pay95, k0_pay96, k0_pay97, k0_pay98, addf_e, subf_e, mulf_e, maximumf_e, absf_e, exp_e, log_e, truncf_e, extf_e, select_e, zc, bz, bo, sz, so, muli_n, addi_n, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

theorem tl_ab (q k v t c a : ℕ → ℕ → EReal) :
    (k0_pay99 (eV (φ := .bf16) t) (eV (φ := .f32) c) (eV (φ := .f32) a) (eV (φ := .bf16) v) (k0_pay7 (eV (φ := .bf16) q) (eV (φ := .bf16) k)) (k0_pay8 (eV (φ := .bf16) q) (eV (φ := .bf16) k)) (k0_pay9 (eV (φ := .bf16) q) (eV (φ := .bf16) k)) : FVec Ideal S1024x128 .f32)
      = eV (fA (fun _ _ => true) q k v t c a) := by
  simp only [k0_pay7, k0_pay8, k0_pay9, k0_pay95, k0_pay96, k0_pay97, k0_pay99, addf_e, subf_e, mulf_e, maximumf_e, absf_e, exp_e, log_e, truncf_e, extf_e, select_e, zc, bz, bo, sz, so, muli_n, addi_n, pay20_e, mm_S1024x128_S256x128_S1024x256_1_1_0_0, mm_S1024x256_S256x256_S1024x256_1_0_0_1, mm_S1024x256_S256x128_S1024x128_1_0_0_1, slices_S1024x256_o0_0_S1024x1_e, broadcasts_S1024x1_S1024x256_e]
  rfl

end Cert.V23

end
-- ==== Proof.FwdLoop.lean ====
/- The attention kernel's loop over the tiles before the diagonal. -/
module

public import proofs.«01_k».proof.Proof.FwdTileL
public import Idealize.ShloMosaic.Lib.WholeRead
public import proofs.«01_k».proof.Proof.Gen.Kernel23Ideal.Frame

@[expose] public section

set_option maxRecDepth 16384
set_option maxHeartbeats 2000000

noncomputable section

namespace Cert.V23

open Cert.Kernel23Ideal Cert.Kernel23Ideal.Gen Idealize.ShloMosaic
open Cert.Ext (eV eT exV exT ext_e)

theorem trips1 (i : grid0.Coords) : (k0_t1_loop i).trips = 4 * (i 1).val := by
  have h : ∀ x : Fin 8, Scf.trips 0#32 (Scalar.addi 0#32 (Scalar.muli (Scalar.divsi (Scalar.subi (Scalar.muli (BitVec.ofNat 32 x.val) 4#32) 0#32) 1#32) 1#32)) 1#32 = 4 * x.val := by
    decide +kernel
  exact h (i 1)

theorem trips2 (i : grid0.Coords) : (k0_t2_loop i).trips = 0 := Nat.le_zero.mp (k0_t2_abs i).2.1

theorem off2_eq : ∀ (i : grid0.Coords) (k : Fin (k0_t1_loop i).trips), k0_off2 i k = ![1024 * (i 1).val - 256 * (k.val + 1), 0] := by
  decide +kernel

theorem read_rowsb (V : View sig .tc .vmem S8192x128 .bf16) (f : V.ty.Contents (Elt Ideal)) {D : ℕ → ℕ → EReal}
    (hD : V.read (Elt Ideal) f = eV (n := 8192) (m := 128) (φ := .bf16) D) {a : ℕ} {off : Fin 2 → ℕ} (h : off = ![a, 0])
    (inb : ∀ x, off x + S256x128.size x ≤ S8192x128.size x) :
    V.readAt (Elt Ideal) (Rect.unit (s := S8192x128) off S256x128.size inb).toLoadRect f
      = eV (n := 256) (m := 128) (φ := .bf16) (dn a D) := by
  subst h
  funext x
  have e : V.readAt (Elt Ideal) (Rect.unit (s := S8192x128) ![a, 0] S256x128.size inb).toLoadRect f x
      = V.read (Elt Ideal) f ((Rect.unit (s := S8192x128) ![a, 0] S256x128.size inb).idx x) := rfl
  rw [e, hD]
  unfold eV dn
  rw [Rect.idx_unit_val, Rect.idx_unit_val]
  simp

/-- What a query block carries over the columns from `a` on, for both heads. -/
def cr (b : ℕ) (Qa Qb k v : ℕ → ℕ → EReal) (a : ℕ) :
    FVec Ideal S1024x1 .f32 × FVec Ideal S1024x128 .f32 × FVec Ideal S1024x1 .f32 × FVec Ideal S1024x128 .f32 :=
  (eV (gC b Qa k a), eV (gA b Qa k v a), eV (gC b Qb k a), eV (gA b Qb k v a))

theorem loop_inv (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole) (arg6 : Memref sig .tc .vmem S1024x128 .bf16) (harg6 : arg6.IsWhole) (arg7 : Memref sig .tc .vmem S1x1024x2 .f32) (harg7 : arg7.IsWhole)
    (v338 : FVec Ideal S1024x1 .f32) (v340 : FVec Ideal S1024x128 .f32) (v348 : Vec Ideal S256x128 .bf16) (v387 : FVec Ideal S1024x1 .f32) (v390 : FVec Ideal S1024x128 .f32) (v391 v403 : FVec Ideal S1024x256 .f32) (v413 : IVec S1024x256 1) (cst : Ideal .f32)
    (X3 : BufTy.Contents (Elt Ideal) arg3.view.ty) (X4 : BufTy.Contents (Elt Ideal) arg4.view.ty)
    (Qa Qb k v t0 : ℕ → ℕ → EReal) (b : ℕ) (hb : b = 1024 * (i 1).val)
    (h3 : arg3.view.read (Elt Ideal) X3 = eV (n := 8192) (m := 128) (φ := .bf16) k)
    (h4 : arg4.view.read (Elt Ideal) X4 = eV (n := 8192) (m := 128) (φ := .bf16) v)
    (h0 : ∀ u < 256, ∀ s < 256, t0 u s = tri u s)
    (t : ℕ) (ht : t ≤ (k0_t1_loop i).trips) (a : ℕ) (ha : a + 256 * t = b) :
    st_k0_t1 (F := Ideal) Variants.none c none i arg2 harg2 arg3 harg3 arg4 harg4 arg5 harg5 arg6 harg6 arg7 harg7 (BitVec.ofNat 32 (i 1).val) (eV (n := 1024) (m := 128) (φ := .bf16) Qa) (eV (n := 1024) (m := 128) (φ := .bf16) Qb) (eV (n := 256) (m := 256) (φ := .bf16) t0) v338 v340 v348 v387 v390 v391 v403 v413 cst X3 X4 (eV (gC b Qa k b), eV (gA b Qa k v b), eV (gC b Qb k b), eV (gA b Qb k v b)) t = cr b Qa Qb k v a := by
  have hi : (i 1).val < 8 := (i 1).isLt
  induction t generalizing a with
  | zero =>
    obtain rfl : a = b := by omega
    rfl
  | succ t ih =>
    have hlt : t < (k0_t1_loop i).trips := ht
    have hs := st_k0_t1_succ (F := Ideal) Variants.none c none i arg2 harg2 arg3 harg3 arg4 harg4 arg5 harg5 arg6 harg6 arg7 harg7 (BitVec.ofNat 32 (i 1).val) (eV (n := 1024) (m := 128) (φ := .bf16) Qa) (eV (n := 1024) (m := 128) (φ := .bf16) Qb) (eV (n := 256) (m := 256) (φ := .bf16) t0) v338 v340 v348 v387 v390 v391 v403 v413 cst X3 X4 (eV (gC b Qa k b), eV (gA b Qa k v b), eV (gC b Qb k b), eV (gA b Qb k v b)) ⟨t, hlt⟩
    rw [hs]
    have e1 := ih hlt.le (a + 256) (by omega)
    generalize st_k0_t1 (F := Ideal) Variants.none c none i arg2 harg2 arg3 harg3 arg4 harg4 arg5 harg5 arg6 harg6 arg7 harg7 (BitVec.ofNat 32 (i 1).val) (eV (n := 1024) (m := 128) (φ := .bf16) Qa) (eV (n := 1024) (m := 128) (φ := .bf16) Qb) (eV (n := 256) (m := 256) (φ := .bf16) t0) v338 v340 v348 v387 v390 v391 v403 v413 cst X3 X4 (eV (gC b Qa k b), eV (gA b Qa k v b), eV (gC b Qb k b), eV (gA b Qb k v b)) t = st at e1 ⊢
    subst e1
    have off : k0_off2 i ⟨t, hlt⟩ = ![a, 0] := (off2_eq i ⟨t, hlt⟩).trans (by rw [show 1024 * (i 1).val - 256 * (t + 1) = a by omega])
    have hK := read_rowsb arg3.view X3 h3 off (k0_off2_inb i ⟨t, hlt⟩)
    have hV := read_rowsb arg4.view X4 h4 off (k0_off2_inb i ⟨t, hlt⟩)
    have hC : ∀ Q : ℕ → ℕ → EReal, (eV (fC (fun _ _ => true) Q (dn a k) t0 (gC b Q k (a + 256))) : FVec Ideal S1024x1 .f32) = eV (gC b Q k a) := fun Q =>
      ext_e _ _ fun r _ j hj => by
        obtain rfl : j = 0 := by omega
        exact full_C h0 (by omega) (by omega)
    have hA : ∀ Q : ℕ → ℕ → EReal, (eV (fA (fun _ _ => true) Q (dn a k) (dn a v) t0 (gC b Q k (a + 256)) (gA b Q k v (a + 256))) : FVec Ideal S1024x128 .f32) = eV (gA b Q k v a) := fun Q =>
      ext_e _ _ fun r _ j _ => full_A h0 (by omega) (by omega)
    unfold tripR_k0_t1 trip_k0_t1
    dsimp only
    unfold cr trip_k0_t1.sl.r_1 trip_k0_t1.sl.r_2 trip_k0_t1.sl.r_3 trip_k0_t1.sl.r_4 trip_k0_t1.sl.r_5 trip_k0_t1.sl.r
    dsimp only
    simp only [hK, hV]
    rw [tl_ca, tl_aa, tl_cb, tl_ab, hC, hC, hA, hA]

end Cert.V23

end
-- ==== Proof.FwdBody.lean ====
/- What the attention kernel's body leaves at a grid point. -/
module

public import proofs.«01_k».proof.Proof.FwdTileA
public import proofs.«01_k».proof.Proof.FwdTileB
public import proofs.«01_k».proof.Proof.FwdLoop

@[expose] public section

set_option maxRecDepth 16384
set_option maxHeartbeats 2000000

noncomputable section

namespace Cert.V23

open Cert.Kernel23Ideal Cert.Kernel23Ideal.Gen Idealize.ShloMosaic
open Cert.Ext (eV eT exV exT ext_e)

theorem read2 {n m : ℕ} {e : EltTy} (M : Memref sig .tc .vmem ⟨2, ![n, m]⟩ e) (h : M.IsWhole)
    (x : Vec Ideal ⟨2, ![n, m]⟩ e) (hb : ∀ a, (![0, 0] : Fin 2 → ℕ) a + (⟨2, ![n, m]⟩ : Shape).size a ≤ (⟨2, ![n, m]⟩ : Shape).size a) :
    M.view.readAt (Elt Ideal) (Rect.unit (s := ⟨2, ![n, m]⟩) ![0, 0] (⟨2, ![n, m]⟩ : Shape).size hb).toLoadRect (h.unread x) = x := by
  funext y
  refine (Memref.IsWhole.readAt_unread h x _ y).trans ?_
  congr 1
  funext a
  apply Fin.ext
  refine (Rect.idx_unit_val _ _ _ _ _).trans ?_
  match a with
  | ⟨0, _⟩ => exact Nat.zero_add _
  | ⟨1, _⟩ => exact Nat.zero_add _

/-- A store of a whole block leaves what was stored. -/
theorem read_whole {n m : ℕ} {e : EltTy} (V : View sig .tc .vmem ⟨2, ![n, m]⟩ e) (f : V.ty.Contents (Elt Ideal))
    (x : Vec Ideal ⟨2, ![n, m]⟩ e) (hb : ∀ a, (![0, 0] : Fin 2 → ℕ) a + (⟨2, ![n, m]⟩ : Shape).size a ≤ (⟨2, ![n, m]⟩ : Shape).size a)
    (L : List (View.Piece (Elt Ideal) ⟨2, ![n, m]⟩ e)) :
    V.read (Elt Ideal) (V.writes (Elt Ideal) f (⟨Rect.unit (s := ⟨2, ![n, m]⟩) ![0, 0] (⟨2, ![n, m]⟩ : Shape).size hb, x⟩ :: L)) = x := by
  funext y
  have hy : (Rect.unit (s := ⟨2, ![n, m]⟩) ![0, 0] (⟨2, ![n, m]⟩ : Shape).size hb).emb y = y := by
    funext a
    apply Fin.ext
    refine (Rect.idx_unit_val _ _ _ _ _).trans ?_
    match a with
    | ⟨0, _⟩ => exact Nat.zero_add _
    | ⟨1, _⟩ => exact Nat.zero_add _
  have h := View.read_writes_cons_emb V f (Rect.unit (s := ⟨2, ![n, m]⟩) ![0, 0] (⟨2, ![n, m]⟩ : Shape).size hb) x L y
  rwa [hy] at h

/-- A store of a whole block leaves what was stored. -/
theorem read_whole3 {n m p : ℕ} {e : EltTy} (V : View sig .tc .vmem ⟨3, ![n, m, p]⟩ e) (f : V.ty.Contents (Elt Ideal))
    (x : Vec Ideal ⟨3, ![n, m, p]⟩ e) (hb : ∀ a, (![0, 0, 0] : Fin 3 → ℕ) a + (⟨3, ![n, m, p]⟩ : Shape).size a ≤ (⟨3, ![n, m, p]⟩ : Shape).size a)
    (L : List (View.Piece (Elt Ideal) ⟨3, ![n, m, p]⟩ e)) :
    V.read (Elt Ideal) (V.writes (Elt Ideal) f (⟨Rect.unit (s := ⟨3, ![n, m, p]⟩) ![0, 0, 0] (⟨3, ![n, m, p]⟩ : Shape).size hb, x⟩ :: L)) = x := by
  funext y
  have hy : (Rect.unit (s := ⟨3, ![n, m, p]⟩) ![0, 0, 0] (⟨3, ![n, m, p]⟩ : Shape).size hb).emb y = y := by
    funext a
    apply Fin.ext
    refine (Rect.idx_unit_val _ _ _ _ _).trans ?_
    match a with
    | ⟨0, _⟩ => exact Nat.zero_add _
    | ⟨1, _⟩ => exact Nat.zero_add _
    | ⟨2, _⟩ => exact Nat.zero_add _
  have h := View.read_writes_cons_emb V f (Rect.unit (s := ⟨3, ![n, m, p]⟩) ![0, 0, 0] (⟨3, ![n, m, p]⟩ : Shape).size hb) x L y
  rwa [hy] at h

theorem diag0_C {b r : ℕ} {q k t : ℕ → ℕ → EReal} {M : ℕ → ℕ → Bool} (ht : ∀ u < 256, ∀ s < 256, t u s = tri u s) (hM : ∀ r s, s < 256 → (M r s = true ↔ b + s < b + r)) (ha : b + 256 ≤ 8192) :
    fC M q (dn b k) t (gC b q k (b + 256)) r 0 = gC b q k b r 0 := by
  have h := fC_g (b := b) (a := b) (x := 0) (q := q) (k := k) (t := t) (M := M) (fun r s hs => by rw [hM r s hs, Nat.zero_add]) ht ha r
  rw [dn_zero, dn_zero, Nat.zero_add] at h; exact h
theorem diag0_A {b r e : ℕ} {q k v t : ℕ → ℕ → EReal} {M : ℕ → ℕ → Bool} (ht : ∀ u < 256, ∀ s < 256, t u s = tri u s) (hM : ∀ r s, s < 256 → (M r s = true ↔ b + s < b + r)) (ha : b + 256 ≤ 8192) :
    fA M q (dn b k) (dn b v) t (gC b q k (b + 256)) (gA b q k v (b + 256)) r e = gA b q k v b r e := by
  have h := fA_g (b := b) (a := b) (x := 0) (q := q) (k := k) (v := v) (t := t) (M := M) (fun r s hs => by rw [hM r s hs, Nat.zero_add]) ht ha r e
  rw [dn_zero, dn_zero, dn_zero, Nat.zero_add] at h; exact h

theorem body (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole) (arg6 : Memref sig .tc .vmem S1024x128 .bf16) (harg6 : arg6.IsWhole) (arg7 : Memref sig .tc .vmem S1x1024x2 .f32) (harg7 : arg7.IsWhole) (q k v t : ℕ → ℕ → EReal)
    (h0 : ∀ u < 256, ∀ s < 256, t u s = tri u s) :
    out0_A_4 (F := Ideal) c i arg2 harg2 arg3 harg3 arg4 harg4 arg5 harg5 arg6 harg6 arg7 harg7 (eV (n := 1024) (m := 128) (φ := .bf16) q) (eV (n := 8192) (m := 128) (φ := .bf16) k) (eV (n := 8192) (m := 128) (φ := .bf16) v) (eV (n := 256) (m := 256) (φ := .bf16) t)
      = eV (n := 1024) (m := 128) (φ := .bf16) (fun r e => if e < 64 then gA (1024 * (i 1).val) (qa q) k v 0 r e else gA (1024 * (i 1).val) (qb q) k v 0 r e)
    ∧ out0_A_5 (F := Ideal) c i arg2 harg2 arg3 harg3 arg4 harg4 arg5 harg5 arg6 harg6 arg7 harg7 (eV (n := 1024) (m := 128) (φ := .bf16) q) (eV (n := 8192) (m := 128) (φ := .bf16) k) (eV (n := 8192) (m := 128) (φ := .bf16) v) (eV (n := 256) (m := 256) (φ := .bf16) t)
      = eT (l := 1) (n := 1024) (m := 2) (φ := .f32) (fun _ r j => if j = 0 then gC (1024 * (i 1).val) (qa q) k 0 r 0 else gC (1024 * (i 1).val) (qb q) k 0 r 0) := by
  have hi : (i 1).val < 8 := (i 1).isLt
  have e_r : (kernelRun0_A.sl.r (F := Ideal) c arg2 harg2 (eV (n := 1024) (m := 128) (φ := .bf16) q)) = (eV (n := 1024) (m := 128) (φ := .bf16) (qa q)) := by
    unfold kernelRun0_A.sl.r
    rw [read2 arg2 harg2 _ _]
    exact pay20_e _
  have e_r_1 : (kernelRun0_A.sl.r_1 (F := Ideal) c arg2 harg2 (eV (n := 1024) (m := 128) (φ := .bf16) q)) = (eV (n := 1024) (m := 128) (φ := .bf16) (qb q)) := by
    unfold kernelRun0_A.sl.r_1
    rw [read2 arg2 harg2 _ _]
    exact pay21_e _
  have e_r_2 : (kernelRun0_A.sl.r_2 (F := Ideal) c arg5 harg5 (eV (n := 256) (m := 256) (φ := .bf16) t)) = (eV (n := 256) (m := 256) (φ := .bf16) t) := by
    unfold kernelRun0_A.sl.r_2
    rw [read2 arg5 harg5 _ _]
    exact pay22_e _
  have off0 : k0_off1 i 0#32 = ![(1024 * (i 1).val), 0] := k0_off1_eq i 0
  have inb0 : ∀ a, k0_off1 i 0#32 a + S256x128.size a ≤ S8192x128.size a := k0_off1_inb i 0
  have e_r_40 : (kernelRun0_A.sl.r_40 (F := Ideal) c i arg3 harg3 (eV (n := 8192) (m := 128) (φ := .bf16) k)) = (eV (n := 256) (m := 128) (φ := .bf16) (dn (1024 * (i 1).val) k)) := read_rowsb arg3.view (harg3.unread (eV (n := 8192) (m := 128) (φ := .bf16) k)) (harg3.read_unread _) off0 inb0
  have e_r_41 : (kernelRun0_A.sl.r_41 (F := Ideal) c i arg4 harg4 (eV (n := 8192) (m := 128) (φ := .bf16) v)) = (eV (n := 256) (m := 128) (φ := .bf16) (dn (1024 * (i 1).val) v)) := read_rowsb arg4.view (harg4.unread (eV (n := 8192) (m := 128) (φ := .bf16) v)) (harg4.read_unread _) off0 inb0
  have rd40 := e_r_40
  unfold kernelRun0_A.sl.r_40 at rd40
  have rd41 := e_r_41
  unfold kernelRun0_A.sl.r_41 at rd41
  have hM0 : ∀ r s, s < 256 → (fM (((i 1).val * 4 + 0) * 256) ((i 1).val * 1024 + 0) r s = true ↔ (1024 * (i 1).val) + s < (1024 * (i 1).val) + r) := fun r s _ => by unfold fM; rw [decide_eq_true_iff]; omega
  have off1 : k0_off1 i 1#32 = ![((1024 * (i 1).val) + 256), 0] := k0_off1_eq i 1
  have inb1 : ∀ a, k0_off1 i 1#32 a + S256x128.size a ≤ S8192x128.size a := k0_off1_inb i 1
  have e_r_23 : (kernelRun0_A.sl.r_23 (F := Ideal) c i arg3 harg3 (eV (n := 8192) (m := 128) (φ := .bf16) k)) = (eV (n := 256) (m := 128) (φ := .bf16) (dn ((1024 * (i 1).val) + 256) k)) := read_rowsb arg3.view (harg3.unread (eV (n := 8192) (m := 128) (φ := .bf16) k)) (harg3.read_unread _) off1 inb1
  have e_r_24 : (kernelRun0_A.sl.r_24 (F := Ideal) c i arg4 harg4 (eV (n := 8192) (m := 128) (φ := .bf16) v)) = (eV (n := 256) (m := 128) (φ := .bf16) (dn ((1024 * (i 1).val) + 256) v)) := read_rowsb arg4.view (harg4.unread (eV (n := 8192) (m := 128) (φ := .bf16) v)) (harg4.read_unread _) off1 inb1
  have rd23 := e_r_23
  unfold kernelRun0_A.sl.r_23 at rd23
  have rd24 := e_r_24
  unfold kernelRun0_A.sl.r_24 at rd24
  have hM1 : ∀ r s, s < 256 → (fM (((i 1).val * 4 + 1) * 256) ((i 1).val * 1024 + 256) r s = true ↔ ((1024 * (i 1).val) + 256) + s < (1024 * (i 1).val) + (256 + r)) := fun r s _ => by unfold fM; rw [decide_eq_true_iff]; omega
  have off2 : k0_off1 i 2#32 = ![((1024 * (i 1).val) + 512), 0] := k0_off1_eq i 2
  have inb2 : ∀ a, k0_off1 i 2#32 a + S256x128.size a ≤ S8192x128.size a := k0_off1_inb i 2
  have e_r_14 : (kernelRun0_A.sl.r_14 (F := Ideal) c i arg3 harg3 (eV (n := 8192) (m := 128) (φ := .bf16) k)) = (eV (n := 256) (m := 128) (φ := .bf16) (dn ((1024 * (i 1).val) + 512) k)) := read_rowsb arg3.view (harg3.unread (eV (n := 8192) (m := 128) (φ := .bf16) k)) (harg3.read_unread _) off2 inb2
  have e_r_15 : (kernelRun0_A.sl.r_15 (F := Ideal) c i arg4 harg4 (eV (n := 8192) (m := 128) (φ := .bf16) v)) = (eV (n := 256) (m := 128) (φ := .bf16) (dn ((1024 * (i 1).val) + 512) v)) := read_rowsb arg4.view (harg4.unread (eV (n := 8192) (m := 128) (φ := .bf16) v)) (harg4.read_unread _) off2 inb2
  have rd14 := e_r_14
  unfold kernelRun0_A.sl.r_14 at rd14
  have rd15 := e_r_15
  unfold kernelRun0_A.sl.r_15 at rd15
  have hM2 : ∀ r s, s < 256 → (fM (((i 1).val * 4 + 2) * 256) ((i 1).val * 1024 + 512) r s = true ↔ ((1024 * (i 1).val) + 512) + s < (1024 * (i 1).val) + (512 + r)) := fun r s _ => by unfold fM; rw [decide_eq_true_iff]; omega
  have off3 : k0_off1 i 3#32 = ![((1024 * (i 1).val) + 768), 0] := k0_off1_eq i 3
  have inb3 : ∀ a, k0_off1 i 3#32 a + S256x128.size a ≤ S8192x128.size a := k0_off1_inb i 3
  have e_r_3 : (kernelRun0_A.sl.r_3 (F := Ideal) c i arg3 harg3 (eV (n := 8192) (m := 128) (φ := .bf16) k)) = (eV (n := 256) (m := 128) (φ := .bf16) (dn ((1024 * (i 1).val) + 768) k)) := read_rowsb arg3.view (harg3.unread (eV (n := 8192) (m := 128) (φ := .bf16) k)) (harg3.read_unread _) off3 inb3
  have e_r_4 : (kernelRun0_A.sl.r_4 (F := Ideal) c i arg4 harg4 (eV (n := 8192) (m := 128) (φ := .bf16) v)) = (eV (n := 256) (m := 128) (φ := .bf16) (dn ((1024 * (i 1).val) + 768) v)) := read_rowsb arg4.view (harg4.unread (eV (n := 8192) (m := 128) (φ := .bf16) v)) (harg4.read_unread _) off3 inb3
  have rd3 := e_r_3
  unfold kernelRun0_A.sl.r_3 at rd3
  have rd4 := e_r_4
  unfold kernelRun0_A.sl.r_4 at rd4
  have hM3 : ∀ r s, s < 256 → (fM (((i 1).val * 4 + 3) * 256) ((i 1).val * 1024 + 768) r s = true ↔ ((1024 * (i 1).val) + 768) + s < (1024 * (i 1).val) + (768 + r)) := fun r s _ => by unfold fM; rw [decide_eq_true_iff]; omega
  have z23a : (k0_pay23 : FVec Ideal S1024x1 .f32) = eV (gC (1024 * (i 1).val) (qa q) k ((1024 * (i 1).val) + 768 + 256)) := pay23_e.trans (ext_e _ _ fun r hr j _ => (gC_out (by omega)).symm)
  have z24a : (k0_pay24 : FVec Ideal S1024x128 .f32) = eV (gA (1024 * (i 1).val) (qa q) k v ((1024 * (i 1).val) + 768 + 256)) := pay24_e.trans (ext_e _ _ fun r hr j _ => (gA_out (by omega)).symm)
  have z23b : (k0_pay23 : FVec Ideal S1024x1 .f32) = eV (gC (1024 * (i 1).val) (qb q) k ((1024 * (i 1).val) + 768 + 256)) := pay23_e.trans (ext_e _ _ fun r hr j _ => (gC_out (by omega)).symm)
  have z24b : (k0_pay24 : FVec Ideal S1024x128 .f32) = eV (gA (1024 * (i 1).val) (qb q) k v ((1024 * (i 1).val) + 768 + 256)) := pay24_e.trans (ext_e _ _ fun r hr j _ => (gA_out (by omega)).symm)
  have e_r_7 : (kernelRun0_A.sl.r_7 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qa q) k ((1024 * (i 1).val) + 768))) := by
    unfold kernelRun0_A.sl.r_7 kernelRun0_A.sl.r_6 kernelRun0_A.sl.v18 kernelRun0_A.sl.cst_14
    rw [read2 arg2 harg2 _ _]
    simp only [e_r, e_r_1, e_r_2, e_r_3, e_r_4, rd3, rd4, kernelRun0_A.sl.v17, kernelRun0_A.sl.v362, z23a]
    rw [t3_ca _ hi]
    refine ext_e _ _ fun r _ j hj => ?_
    obtain rfl : j = 0 := by omega
    exact diag_C h0 hM3 (by omega)
  have e_r_8 : (kernelRun0_A.sl.r_8 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qa q) k v ((1024 * (i 1).val) + 768))) := by
    unfold kernelRun0_A.sl.r_8 kernelRun0_A.sl.r_5 kernelRun0_A.sl.r_6 kernelRun0_A.sl.v18 kernelRun0_A.sl.cst_14
    rw [read2 arg2 harg2 _ _]
    simp only [e_r, e_r_1, e_r_2, e_r_3, e_r_4, rd3, rd4, kernelRun0_A.sl.v17, kernelRun0_A.sl.v362, z23a, z24a]
    rw [t3_aa _ hi]
    exact ext_e _ _ fun r _ j _ => diag_A h0 hM3 (by omega)
  have e_r_12 : (kernelRun0_A.sl.r_12 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qb q) k ((1024 * (i 1).val) + 768))) := by
    unfold kernelRun0_A.sl.r_12 kernelRun0_A.sl.r_10 kernelRun0_A.sl.r_11 kernelRun0_A.sl.v18
    simp only [e_r, e_r_1, e_r_2, e_r_3, e_r_4, rd3, rd4, kernelRun0_A.sl.v17, kernelRun0_A.sl.v362, z23b]
    rw [t3_cb _ hi]
    refine ext_e _ _ fun r _ j hj => ?_
    obtain rfl : j = 0 := by omega
    exact diag_C h0 hM3 (by omega)
  have e_r_13 : (kernelRun0_A.sl.r_13 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qb q) k v ((1024 * (i 1).val) + 768))) := by
    unfold kernelRun0_A.sl.r_13 kernelRun0_A.sl.r_9 kernelRun0_A.sl.r_10 kernelRun0_A.sl.r_11 kernelRun0_A.sl.v18
    simp only [e_r, e_r_1, e_r_2, e_r_3, e_r_4, rd3, rd4, kernelRun0_A.sl.v17, kernelRun0_A.sl.v362, z23b, z24b]
    rw [t3_ab _ hi]
    exact ext_e _ _ fun r _ j _ => diag_A h0 hM3 (by omega)
  have e_r_17 : (kernelRun0_A.sl.r_17 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qa q) k ((1024 * (i 1).val) + 512))) := by
    unfold kernelRun0_A.sl.r_17 kernelRun0_A.sl.v126
    simp only [e_r, e_r_1, e_r_2, e_r_14, e_r_15, e_r_7, rd14, rd15, kernelRun0_A.sl.v17, kernelRun0_A.sl.v362]
    rw [t2_ca _ hi]
    refine ext_e _ _ fun r _ j hj => ?_
    obtain rfl : j = 0 := by omega
    exact diag_C h0 hM2 (by omega)
  have e_r_18 : (kernelRun0_A.sl.r_18 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qa q) k v ((1024 * (i 1).val) + 512))) := by
    unfold kernelRun0_A.sl.r_18 kernelRun0_A.sl.r_16 kernelRun0_A.sl.v126
    simp only [e_r, e_r_1, e_r_2, e_r_14, e_r_15, e_r_7, e_r_8, rd14, rd15, kernelRun0_A.sl.v17, kernelRun0_A.sl.v362]
    rw [t2_aa _ hi]
    exact ext_e _ _ fun r _ j _ => diag_A h0 hM2 (by omega)
  have e_r_21 : (kernelRun0_A.sl.r_21 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qb q) k ((1024 * (i 1).val) + 512))) := by
    unfold kernelRun0_A.sl.r_21 kernelRun0_A.sl.r_19 kernelRun0_A.sl.v126
    simp only [e_r, e_r_1, e_r_2, e_r_14, e_r_15, e_r_12, rd14, rd15, kernelRun0_A.sl.v17, kernelRun0_A.sl.v362]
    rw [t2_cb _ hi]
    refine ext_e _ _ fun r _ j hj => ?_
    obtain rfl : j = 0 := by omega
    exact diag_C h0 hM2 (by omega)
  have e_r_22 : (kernelRun0_A.sl.r_22 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qb q) k v ((1024 * (i 1).val) + 512))) := by
    unfold kernelRun0_A.sl.r_22 kernelRun0_A.sl.r_20 kernelRun0_A.sl.v126
    simp only [e_r, e_r_1, e_r_2, e_r_14, e_r_15, e_r_12, e_r_13, rd14, rd15, kernelRun0_A.sl.v17, kernelRun0_A.sl.v362]
    rw [t2_ab _ hi]
    exact ext_e _ _ fun r _ j _ => diag_A h0 hM2 (by omega)
  have e_r_30 : (kernelRun0_A.sl.r_30 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qa q) k ((1024 * (i 1).val) + 256))) := by
    unfold kernelRun0_A.sl.r_30 kernelRun0_A.sl.r_26 kernelRun0_A.sl.r_28
    simp only [e_r, e_r_1, e_r_2, e_r_23, e_r_24, e_r_17, rd23, rd24, kernelRun0_A.sl.v17, kernelRun0_A.sl.v362]
    rw [t1_ca _ hi]
    refine ext_e _ _ fun r _ j hj => ?_
    obtain rfl : j = 0 := by omega
    exact diag_C h0 hM1 (by omega)
  have e_r_31 : (kernelRun0_A.sl.r_31 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qa q) k v ((1024 * (i 1).val) + 256))) := by
    unfold kernelRun0_A.sl.r_31 kernelRun0_A.sl.r_25 kernelRun0_A.sl.r_27 kernelRun0_A.sl.r_29
    simp only [e_r, e_r_1, e_r_2, e_r_23, e_r_24, e_r_17, e_r_18, rd23, rd24, kernelRun0_A.sl.v17, kernelRun0_A.sl.v362]
    rw [t1_aa _ hi]
    exact ext_e _ _ fun r _ j _ => diag_A h0 hM1 (by omega)
  have e_r_38 : (kernelRun0_A.sl.r_38 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qb q) k ((1024 * (i 1).val) + 256))) := by
    unfold kernelRun0_A.sl.r_38 kernelRun0_A.sl.r_33 kernelRun0_A.sl.r_35 kernelRun0_A.sl.v234
    simp only [e_r, e_r_1, e_r_2, e_r_23, e_r_24, e_r_21, rd23, rd24, kernelRun0_A.sl.v17, kernelRun0_A.sl.v362]
    rw [t1_cb _ hi]
    refine ext_e _ _ fun r _ j hj => ?_
    obtain rfl : j = 0 := by omega
    exact diag_C h0 hM1 (by omega)
  have e_r_39 : (kernelRun0_A.sl.r_39 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qb q) k v ((1024 * (i 1).val) + 256))) := by
    unfold kernelRun0_A.sl.r_39 kernelRun0_A.sl.r_32 kernelRun0_A.sl.r_34 kernelRun0_A.sl.r_36 kernelRun0_A.sl.r_37 kernelRun0_A.sl.v234
    simp only [e_r, e_r_1, e_r_2, e_r_23, e_r_24, e_r_21, e_r_22, rd23, rd24, kernelRun0_A.sl.v17, kernelRun0_A.sl.v362]
    rw [t1_ab _ hi]
    exact ext_e _ _ fun r _ j _ => diag_A h0 hM1 (by omega)
  have e_r_45 : (kernelRun0_A.sl.r_45 (F := Ideal) c i arg2 harg2 arg3 harg3 arg5 harg5 (eV (n := 1024) (m := 128) (φ := .bf16) q) (eV (n := 8192) (m := 128) (φ := .bf16) k) (eV (n := 256) (m := 256) (φ := .bf16) t)) = (eV (n := 1024) (m := 1) (φ := .f32) (gC (1024 * (i 1).val) (qa q) k ((1024 * (i 1).val)))) := by
    unfold kernelRun0_A.sl.r_45 kernelRun0_A.sl.r_43 kernelRun0_A.sl.r_44 kernelRun0_A.sl.v363 kernelRun0_A.sl.v365
    simp only [e_r, e_r_1, e_r_2, e_r_40, e_r_41, e_r_30, rd40, rd41, kernelRun0_A.sl.v17, kernelRun0_A.sl.v362]
    rw [t0_ca _ hi]
    refine ext_e _ _ fun r _ j hj => ?_
    obtain rfl : j = 0 := by omega
    exact diag0_C h0 hM0 (by omega)
  have e_r_46 : (kernelRun0_A.sl.r_46 (F := Ideal) c i arg2 harg2 arg3 harg3 arg4 harg4 arg5 harg5 (eV (n := 1024) (m := 128) (φ := .bf16) q) (eV (n := 8192) (m := 128) (φ := .bf16) k) (eV (n := 8192) (m := 128) (φ := .bf16) v) (eV (n := 256) (m := 256) (φ := .bf16) t)) = (eV (n := 1024) (m := 128) (φ := .f32) (gA (1024 * (i 1).val) (qa q) k v ((1024 * (i 1).val)))) := by
    unfold kernelRun0_A.sl.r_46 kernelRun0_A.sl.r_42 kernelRun0_A.sl.r_43 kernelRun0_A.sl.r_44 kernelRun0_A.sl.v363 kernelRun0_A.sl.v365
    simp only [e_r, e_r_1, e_r_2, e_r_40, e_r_41, e_r_30, e_r_31, rd40, rd41, kernelRun0_A.sl.v17, kernelRun0_A.sl.v362]
    rw [t0_aa _ hi]
    exact ext_e _ _ fun r _ j _ => diag0_A h0 hM0 (by omega)
  have e_cb : (k0_pay93 (eV (n := 256) (m := 256) (φ := .bf16) t) (eV (n := 1024) (m := 1) (φ := .f32) (gC (1024 * (i 1).val) (qb q) k ((1024 * (i 1).val) + 256))) (kernelRun0_A.sl.r_48 (F := Ideal) c i arg2 harg2 arg3 harg3 (eV (n := 1024) (m := 128) (φ := .bf16) q) (eV (n := 8192) (m := 128) (φ := .bf16) k)) (kernelRun0_A.sl.r_49 i) (kernelRun0_A.sl.cst_14 (F := Ideal)) : FVec Ideal S1024x1 .f32) = eV (gC (1024 * (i 1).val) (qb q) k (1024 * (i 1).val)) := by
    unfold kernelRun0_A.sl.r_48 kernelRun0_A.sl.r_49 kernelRun0_A.sl.v342 kernelRun0_A.sl.cst_14
    simp only [e_r_1, e_r_40, rd40, kernelRun0_A.sl.v17, kernelRun0_A.sl.v362]
    rw [t0_cb _ hi]
    refine ext_e _ _ fun r _ j hj => ?_
    obtain rfl : j = 0 := by omega
    exact diag0_C h0 hM0 (by omega)
  have e_ab : (k0_pay94 (eV (n := 256) (m := 256) (φ := .bf16) t) (eV (n := 1024) (m := 1) (φ := .f32) (gC (1024 * (i 1).val) (qb q) k ((1024 * (i 1).val) + 256))) (eV (n := 1024) (m := 128) (φ := .f32) (gA (1024 * (i 1).val) (qb q) k v ((1024 * (i 1).val) + 256))) (eV (n := 256) (m := 128) (φ := .bf16) (dn (1024 * (i 1).val) v)) (kernelRun0_A.sl.r_47 (F := Ideal) c i arg2 harg2 arg3 harg3 (eV (n := 1024) (m := 128) (φ := .bf16) q) (eV (n := 8192) (m := 128) (φ := .bf16) k)) (kernelRun0_A.sl.r_48 (F := Ideal) c i arg2 harg2 arg3 harg3 (eV (n := 1024) (m := 128) (φ := .bf16) q) (eV (n := 8192) (m := 128) (φ := .bf16) k)) (kernelRun0_A.sl.r_49 i) (kernelRun0_A.sl.cst_14 (F := Ideal)) : FVec Ideal S1024x128 .f32) = eV (gA (1024 * (i 1).val) (qb q) k v (1024 * (i 1).val)) := by
    unfold kernelRun0_A.sl.r_47 kernelRun0_A.sl.r_48 kernelRun0_A.sl.r_49 kernelRun0_A.sl.v342 kernelRun0_A.sl.cst_14
    simp only [e_r_1, e_r_40, rd40, kernelRun0_A.sl.v17, kernelRun0_A.sl.v362]
    rw [t0_ab _ hi]
    exact ext_e _ _ fun r _ j _ => diag0_A h0 hM0 (by omega)
  have ht2 : Scf.trips (k0_t2_loop i).lb (k0_t2_loop i).ub (k0_t2_loop i).st = 0 := trips2 i
  have hT : 0 + 256 * Scf.trips (k0_t1_loop i).lb (k0_t1_loop i).ub (k0_t1_loop i).st = (1024 * (i 1).val) := by
    show 0 + 256 * (k0_t1_loop i).trips = _
    rw [trips1]; omega
  have l := fun (v338 : FVec Ideal S1024x1 .f32) (v340 : FVec Ideal S1024x128 .f32) (v348 : Vec Ideal S256x128 .bf16) (v387 : FVec Ideal S1024x1 .f32) (v390 : FVec Ideal S1024x128 .f32) (v391 v403 : FVec Ideal S1024x256 .f32) (v413 : IVec S1024x256 1) (cst : Ideal .f32) =>
    loop_inv c i arg2 harg2 arg3 harg3 arg4 harg4 arg5 harg5 arg6 harg6 arg7 harg7 v338 v340 v348 v387 v390 v391 v403 v413 cst (harg3.unread (eV (n := 8192) (m := 128) (φ := .bf16) k)) (harg4.unread (eV (n := 8192) (m := 128) (φ := .bf16) v)) (qa q) (qb q) k v t (1024 * (i 1).val) rfl (harg3.read_unread _) (harg4.read_unread _) h0 (Scf.trips (k0_t1_loop i).lb (k0_t1_loop i).ub (k0_t1_loop i).st) le_rfl 0 hT
  unfold out0_A_4 out0_A_5 kernelRun0_A
  dsimp only
  refine ⟨(read_whole VO0_4 _ _ _ _).trans ?_, (read_whole3 VO0_5 _ _ _ _).trans ?_⟩
  · rw [ht2]
    simp only [st_k0_t2, e_r, e_r_1, e_r_2, e_r_38, e_r_39, e_r_41, e_r_45, e_r_46, e_cb, e_ab, l]
    dsimp only [cr]
    exact pay105_e _ _
  · unfold kernelRun0_A.sl.r_50
    rw [ht2]
    simp only [st_k0_t2, e_r, e_r_1, e_r_2, e_r_38, e_r_39, e_r_41, e_r_45, e_r_46, e_cb, e_ab, l]
    dsimp only [cr]
    exact pay106_e _ _

end Cert.V23

end
-- ==== Proof.FwdRef.lean ====
/- The attention's forward as the reference computes it, over the extended reals. -/
module

public import proofs.«01_k».proof.Proof.FwdMath
public import proofs.«01_k».proof.Proof.Ops
public import proofs.«01_k».proof.Proof.Gen.Reference23Ideal.Run

@[expose] public section

set_option maxRecDepth 16384
set_option maxHeartbeats 2000000

noncomputable section

namespace Cert.V23.R

open Cert.Reference23Ideal Cert.Reference23Ideal.Gen Idealize.ShloMosaic Finset
open Cert.Ext (eV eT exV exT ext_e)
open Cert.Val (toN slt_n)

abbrev A : Type := FVec Ideal S8192x3072 .bf16
abbrev W : Type := FVec Ideal S16x8192x8192 .f32
abbrev H : Type := FVec Ideal S8192x16x64 .f32

/-- Two stacks of matrices with the same entries. -/
theorem ext_t {l n m : ℕ} {φ : FTy} (f g : ℕ → ℕ → ℕ → EReal) (h : ∀ p < l, ∀ i < n, ∀ j < m, f p i j = g p i j) :
    (eT f : FVec Ideal ⟨3, ![l, n, m]⟩ φ) = eT g :=
  funext fun x => h _ (x 0).isLt _ (x 1).isLt _ (x 2).isLt

def hq (X : A) : H := mulf (shapeCast _ (extf .f32 (extractStridedSlice S8192x1024 ![0, 0] X slices_S8192x3072_S8192x1024_0_0) bitsLt_bf16_f32) shapeCasts_S8192x1024_S8192x16x64) (broadcastInDim S8192x16x64 ![] bcast_S_S8192x16x64 (constant S_ .f32 0x3E000000#32))
def hk (X : A) : H := shapeCast _ (extf .f32 (extractStridedSlice S8192x1024 ![0, 1024] X slices_S8192x3072_S8192x1024_0_1024) bitsLt_bf16_f32) shapeCasts_S8192x1024_S8192x16x64
def hv (X : A) : H := shapeCast _ (extf .f32 (extractStridedSlice S8192x1024 ![0, 2048] X slices_S8192x3072_S8192x1024_0_2048) bitsLt_bf16_f32) shapeCasts_S8192x1024_S8192x16x64
def hz (X : A) : W := Host.dotGeneral dot_S8192x16x64_S8192x16x64_S16x8192x8192_2_2_0_0_1_1 none (hq X) (hk X)
def before : IVec S16x8192x8192 1 := broadcastInDim S16x8192x8192 ![1, 2] bcast_S8192x8192_S16x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def Z : W := broadcastInDim S16x8192x8192 ![] bcast_S_S16x8192x8192 (constant S_ .f32 0x00000000#32)
def Z' : W := broadcastInDim S16x8192x8192 ![] bcast_S_S16x8192x8192 (id (constant S_ .f32 0x00000000#32))
def soft (x : W) : W := select (cmpf .une (subf x Z) (subf x Z)) (addf x Z) (addf (maximumf x Z) (Host.log1p (Host.exp (Host.negf (Host.absf (subf x Z))))))
def hl (X : A) : W := select before (Host.negf (soft (Host.negf (Host.negf (hz X))))) Z'
def cum (x : W) : W := Host.reduceWindowAdd ![1, 1, 8192] ![1, 1, 1] ![0, 0, 0] ![0, 0, 8191] x (broadcastInDim S_ ![] bcast_S_S_ (constant S_ .f32 0x00000000#32)) reduceWindows_S16x8192x8192_S16x8192x8192_w1s1p0_0_w1s1p0_0_w8192s1p0_8191 h_S_
def hw (X : A) : W := select before (Host.exp (addf (Host.negf (soft (Host.negf (hz X)))) (subf (cum (hl X)) (hl X)))) Z'
def ho (X : A) : FVec Ideal S8192x1024 .bf16 := truncf .bf16 (shapeCast _ (transpose S8192x16x64 [2, 0, 1] (Host.dotGeneral dot_S8192x16x64_S16x8192x8192_S16x64x8192_0_2_2_1_1_0 none (hv X) (hw X)) transposes_S16x64x8192_S8192x16x64_2_0_1) shapeCasts_S8192x16x64_S8192x1024) bitsLt_bf16_f32
def ht (X : A) : FVec Ideal S8x8192x2 .f32 := transpose S8x8192x2 [0, 2, 1] (shapeCast _ (Host.reduceAdd (hl X) (constant S_ .f32 0x00000000#32) reducesTo_S16x8192x8192_S16x8192_d2 h_S_) shapeCasts_S16x8192_S8x2x8192) transposes_S8x2x8192_S8x8192x2_0_2_1

theorem out_o (m : (ℓ : Loc nD τ sig) → Buf (Elt Ideal) ℓ) (c : Dev nD) :
    Cert.Reference23Ideal.Value.res_main_v30 (F := Ideal) m c = ho (m ((c.tc : Thread nD τ).loc main_arg0)) := rfl
theorem out_t (m : (ℓ : Loc nD τ sig) → Buf (Elt Ideal) ℓ) (c : Dev nD) :
    Cert.Reference23Ideal.Value.res_main_v47 (F := Ideal) m c = ht (m ((c.tc : Thread nD τ).loc main_arg0)) := rfl

/-- The logits of a head, what a row keeps of a key, and the weights. -/
def rz (X : ℕ → ℕ → EReal) (h r s : ℕ) : EReal := ∑ d ∈ range 64, X r (64 * h + d) * ((1 / 8 : ℝ) : EReal) * X s (1024 + (64 * h + d))
def rl (X : ℕ → ℕ → EReal) (h r s : ℕ) : EReal := if s < r then 0 - sp (rz X h r s) else 0
def rwt (X : ℕ → ℕ → EReal) (h r s : ℕ) : EReal := if s < r then Ideal.exp (rz X h r s + rl X h r s + ∑ u ∈ Ico (s + 1) 8192, rl X h r u) else 0

theorem hq_e (X : ℕ → ℕ → EReal) : hq (eV X) = eT fun r h d => X r (64 * h + d) * ((1 / 8 : ℝ) : EReal) := by
  have e : (broadcastInDim S8192x16x64 ![] bcast_S_S8192x16x64 (constant S_ .f32 0x3E000000#32) : H) = eT fun _ _ _ => ((1 / 8 : ℝ) : EReal) := by
    funext x; exact Cert.Val.lit8
  have e' : (shapeCast _ (extf .f32 (extractStridedSlice S8192x1024 ![0, 0] (eV X : A) slices_S8192x3072_S8192x1024_0_0) bitsLt_bf16_f32) shapeCasts_S8192x1024_S8192x16x64 : H) = eT fun r h d => X r (64 * h + d) := by
    funext x; idx_vars x; pointwise [eV, eT]; show X _ _ = X _ _; congr 1; omega
  unfold hq; rw [e, e']; rfl
theorem hk_e (X : ℕ → ℕ → EReal) : hk (eV X) = eT fun r h d => X r (1024 + (64 * h + d)) := by
  unfold hk; funext x; idx_vars x; pointwise [eV, eT]; show X _ _ = X _ _; congr 1; omega
theorem hv_e (X : ℕ → ℕ → EReal) : hv (eV X) = eT fun r h d => X r (2048 + (64 * h + d)) := by
  unfold hv; funext x; idx_vars x; pointwise [eV, eT]; show X _ _ = X _ _; congr 1; omega
theorem hz_e (X : ℕ → ℕ → EReal) : hz (eV X) = eT (rz X) := by
  unfold hz; rw [hq_e, hk_e]; funext x; idx_vars x; pointwise [eT, rz]; rw [Finset.sum_range]
theorem before_e : before = toN fun _ r s => decide (s < r) := by
  unfold before; funext x; idx_vars x; pointwise [toN]; exact slt_n _ _ (by omega) (by omega)
theorem Z_e : Z = eT fun _ _ _ => 0 := by unfold Z; funext x; exact Ideal.ofBits_zero_f32
theorem Z'_e : Z' = eT fun _ _ _ => 0 := by unfold Z'; funext x; exact Ideal.ofBits_zero_f32

theorem soft_e (f : ℕ → ℕ → ℕ → EReal) : soft (eT f) = eT fun h r s => sp (f h r s) := by
  unfold soft; rw [Z_e]
  funext x
  have hc : (cmpf .une (subf (eT f : W) (eT fun _ _ _ => 0)) (subf (eT f : W) (eT fun _ _ _ => 0)) : IVec S16x8192x8192 1) x = 0#1 := by
    show (BitVec.ofBool (decide _) : BitVec 1) = _
    simp
  show (if (cmpf .une (subf (eT f : W) (eT fun _ _ _ => 0)) (subf (eT f : W) (eT fun _ _ _ => 0)) : IVec S16x8192x8192 1) x = 1#1 then _ else max (f (x 0).val (x 1).val (x 2).val) 0 + Ideal.log (1 + Ideal.exp (-max (f (x 0).val (x 1).val (x 2).val - 0) (-(f (x 0).val (x 1).val (x 2).val - 0))))) = _
  rw [hc, if_neg (by decide), sub_zero]
  show _ = sp (f (x 0).val (x 1).val (x 2).val)
  unfold sp; rw [zero_sub]

theorem select_t (P : ℕ → ℕ → ℕ → Bool) (f g : ℕ → ℕ → ℕ → EReal) :
    select (toN P) (eT f : W) (eT g) = eT fun h i j => if P h i j then f h i j else g h i j := by
  funext i
  show (if BitVec.ofBool (P (i 0).val (i 1).val (i 2).val) = 1#1 then f (i 0).val (i 1).val (i 2).val else _) = if P (i 0).val (i 1).val (i 2).val then _ else _
  cases P (i 0).val (i 1).val (i 2).val <;> rfl
theorem negf_t (f : ℕ → ℕ → ℕ → EReal) : Host.negf (eT f : W) = eT fun h i j => -f h i j := rfl

theorem hl_e (X : ℕ → ℕ → EReal) : hl (eV X) = eT (rl X) := by
  unfold hl; rw [hz_e, negf_t, negf_t, soft_e, negf_t, before_e, Z'_e, select_t]
  refine ext_t _ _ fun h _ r _ s _ => ?_
  unfold rl; simp

theorem cum_e (f : ℕ → ℕ → ℕ → EReal) : cum (eT f) = eT fun h r s => ∑ u ∈ Ico s 8192, f h r u := by
  unfold cum
  funext i
  refine (Cert.Val.window_sum _ _ (fun _ => Ideal.ofBits_zero_f32) _ _ (fun t => if (i 2).val + t.val < 8192 then f (i 0).val (i 1).val ((i 2).val + t.val) else 0) i fun n => ?_).trans ?_
  · have n0 : (n 0).val = 0 := by have := (n 0).isLt; change _ < 1 at this; omega
    have n1 : (n 1).val = 0 := by have := (n 1).isLt; change _ < 1 at this; omega
    by_cases hk : (i 2).val + (n 2).val < 8192
    · rw [if_pos hk, dif_pos]
      · show f _ _ _ = _
        congr 1
        · show (i 0).val * 1 + (n 0).val - 0 = _; omega
        · show (i 1).val * 1 + (n 1).val - 0 = _; omega
        · show (i 2).val * 1 + (n 2).val - 0 = _; omega
      · intro z
        match z with
        | 0 => exact ⟨Nat.zero_le _, by show (i 0).val * 1 + (n 0).val - 0 < 16; have := (i 0).isLt; change _ < 16 at this; omega⟩
        | 1 => exact ⟨Nat.zero_le _, by show (i 1).val * 1 + (n 1).val - 0 < 8192; have := (i 1).isLt; change _ < 8192 at this; omega⟩
        | 2 => exact ⟨Nat.zero_le _, by show (i 2).val * 1 + (n 2).val - 0 < 8192; omega⟩
    · rw [if_neg hk, dif_neg]
      intro hin
      have := (hin 2).2
      change (i 2).val * 1 + (n 2).val - 0 < 8192 at this; omega
  · show ∑ t : Fin 8192, _ = ∑ u ∈ Ico (i 2).val 8192, f (i 0).val (i 1).val u
    have hi : (i 2).val < 8192 := (i 2).isLt
    rw [← Finset.sum_range (fun t => if (i 2).val + t < 8192 then f (i 0).val (i 1).val ((i 2).val + t) else 0), ← sum_filter, sum_Ico_eq_sum_range]
    refine sum_congr ?_ fun _ _ => rfl
    ext t; simp only [mem_filter, mem_range]; omega

theorem hw_e (X : ℕ → ℕ → EReal) : hw (eV X) = eT (rwt X) := by
  unfold hw; rw [hz_e, negf_t, soft_e, negf_t, hl_e, cum_e, before_e, Z'_e]
  refine (select_t _ (fun h r s => Ideal.exp (-sp (-rz X h r s) + ((∑ u ∈ Ico s 8192, rl X h r u) - rl X h r s))) _).trans ?_
  refine ext_t _ _ fun h _ r _ s hs => ?_
  unfold rwt
  by_cases hr : s < r
  · rw [if_pos hr, decide_eq_true hr, if_pos rfl, sum_eq_sum_Ico_succ_bot hs]
    have e : rl X h r s = 0 - sp (rz X h r s) := if_pos hr
    rw [e, weight]
  · rw [if_neg hr, decide_eq_false hr]; rfl

theorem ho_e (X : ℕ → ℕ → EReal) : ho (eV X) = eV fun r e => ∑ s ∈ range 8192, rwt X (e / 64) r s * X s (2048 + e) := by
  unfold ho; rw [hv_e, hw_e]; funext x; idx_vars x; pointwise [eT, eV]; rw [Finset.sum_range]
  refine sum_congr rfl fun s _ => ?_
  refine (mul_comm _ _).trans ?_
  congr 1; congr 1; omega
theorem ht_e (X : ℕ → ℕ → EReal) : ht (eV X) = eT fun p r k => ∑ s ∈ range 8192, rl X (2 * p + k) r s := by
  unfold ht; rw [hl_e]; funext x; idx_vars x; pointwise [eT]; rw [Finset.sum_range, Nat.mul_comm (x0 : ℕ) 2]

end Cert.V23.R

end
-- ==== Proof.FwdPoint.lean ====
/- The attention of a block of rows, read as rows of the whole arrays. -/
module

public import proofs.«01_k».proof.Proof.FwdBody
public import proofs.«01_k».proof.Proof.FwdRef

@[expose] public section

set_option maxRecDepth 16384
set_option maxHeartbeats 1000000

noncomputable section

namespace Cert.V23

open Cert.Kernel23Ideal Cert.Kernel23Ideal.Gen Idealize.ShloMosaic
open Cert.Ext (eV eT exV exT ext_e)
open Finset

def xq (X : ℕ → ℕ → EReal) (p j : ℕ) : ℕ → ℕ → EReal := fun r e => X (1024 * j + r) (128 * p + e)
def xk (X : ℕ → ℕ → EReal) (p : ℕ) : ℕ → ℕ → EReal := fun s e => X s (1024 + (128 * p + e))
def xv (X : ℕ → ℕ → EReal) (p : ℕ) : ℕ → ℕ → EReal := fun s e => X s (2048 + (128 * p + e))

/-- The first head of a pair: the lanes of the other contribute nothing. -/
theorem zA (X : ℕ → ℕ → EReal) (p j r s : ℕ) : fZ (qa (xq X p j)) (xk X p) r s = R.rz X (2 * p) (1024 * j + r) s := by
  unfold fZ R.rz
  rw [show (128 : ℕ) = 64 + 64 from rfl, sum_range_add]
  have z : ∑ x ∈ range 64, qa (xq X p j) r (64 + x) * xk X p s (64 + x) = 0 := sum_eq_zero fun x _ => by
    unfold qa
    rw [if_neg (by omega), zero_mul, zero_mul]
  rw [z, add_zero]
  refine sum_congr rfl fun d hd => ?_
  have hd' := mem_range.mp hd
  unfold qa xq xk
  rw [if_pos hd', show 64 * (2 * p) + d = 128 * p + d by omega]

/-- The second head of a pair. -/
theorem zB (X : ℕ → ℕ → EReal) (p j r s : ℕ) : fZ (qb (xq X p j)) (xk X p) r s = R.rz X (2 * p + 1) (1024 * j + r) s := by
  unfold fZ R.rz
  rw [show (128 : ℕ) = 64 + 64 from rfl, sum_range_add]
  have z : ∑ x ∈ range 64, qb (xq X p j) r x * xk X p s x = 0 := sum_eq_zero fun x hx => by
    have hx' := mem_range.mp hx
    unfold qb
    rw [if_neg (by omega), zero_mul, zero_mul]
  rw [z, zero_add]
  refine sum_congr rfl fun d hd => ?_
  unfold qb xq xk
  rw [if_pos (by omega), show 64 * (2 * p + 1) + d = 128 * p + (64 + d) by omega]

theorem l_eq {X Q K : ℕ → ℕ → EReal} {b h : ℕ} (hz : ∀ r s, fZ Q K r s = R.rz X h (b + r) s) (r s : ℕ) :
    gL b Q K r s = R.rl X h (b + r) s := by
  unfold gL R.rl
  rw [hz]

theorem c_eq {X Q K : ℕ → ℕ → EReal} {b h : ℕ} (hz : ∀ r s, fZ Q K r s = R.rz X h (b + r) s) (a r : ℕ) :
    gC b Q K a r 0 = ∑ s ∈ Ico a 8192, R.rl X h (b + r) s :=
  sum_congr rfl fun s _ => l_eq hz r s

theorem w_eq {X Q K : ℕ → ℕ → EReal} {b h : ℕ} (hz : ∀ r s, fZ Q K r s = R.rz X h (b + r) s) (r s : ℕ) :
    gW b Q K r s = R.rwt X h (b + r) s := by
  unfold gW R.rwt
  rw [hz, l_eq hz, c_eq hz]

theorem a_eq {X Q K v : ℕ → ℕ → EReal} {b h : ℕ} (hz : ∀ r s, fZ Q K r s = R.rz X h (b + r) s) (r e : ℕ) :
    gA b Q K v 0 r e = ∑ s ∈ range 8192, R.rwt X h (b + r) s * v s e := by
  rw [range_eq_Ico]
  exact sum_congr rfl fun s _ => congrArg (· * v s e) (w_eq hz r s)

/-- The attention's output. -/
def vo (X : ℕ → ℕ → EReal) : ℕ → ℕ → EReal := fun r e => ∑ s ∈ range 8192, R.rwt X (e / 64) r s * X s (2048 + e)
/-- The row totals. -/
def vt (X : ℕ → ℕ → EReal) : ℕ → ℕ → ℕ → EReal := fun p r k => ∑ s ∈ range 8192, R.rl X (2 * p + k) r s

theorem point (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole) (arg6 : Memref sig .tc .vmem S1024x128 .bf16) (harg6 : arg6.IsWhole) (arg7 : Memref sig .tc .vmem S1x1024x2 .f32) (harg7 : arg7.IsWhole)
    (X : ℕ → ℕ → EReal) (x0 : Vec Ideal S1024x128 .bf16) (x1 : Vec Ideal S8192x128 .bf16) (x2 : Vec Ideal S8192x128 .bf16) (x3 : Vec Ideal S256x256 .bf16) (p j : ℕ) (hj : (i 1).val = j)
    (h0 : x0 = eV (n := 1024) (m := 128) (φ := .bf16) (xq X p j)) (h1 : x1 = eV (n := 8192) (m := 128) (φ := .bf16) (xk X p)) (h2 : x2 = eV (n := 8192) (m := 128) (φ := .bf16) (xv X p)) (h3 : x3 = eV (n := 256) (m := 256) (φ := .bf16) tri) :
    out0_A_4 (F := Ideal) c i arg2 harg2 arg3 harg3 arg4 harg4 arg5 harg5 arg6 harg6 arg7 harg7 x0 x1 x2 x3 = eV (n := 1024) (m := 128) (φ := .bf16) (fun r e => vo X (1024 * j + r) (128 * p + e))
    ∧ out0_A_5 (F := Ideal) c i arg2 harg2 arg3 harg3 arg4 harg4 arg5 harg5 arg6 harg6 arg7 harg7 x0 x1 x2 x3 = eT (l := 1) (n := 1024) (m := 2) (φ := .f32) (fun _ r k => vt X p (1024 * j + r) k) := by
  subst h0 h1 h2 h3 hj
  obtain ⟨e4, e5⟩ := body c i arg2 harg2 arg3 harg3 arg4 harg4 arg5 harg5 arg6 harg6 arg7 harg7 (xq X p (i 1).val) (xk X p) (xv X p) tri (fun _ _ _ _ => rfl)
  refine ⟨e4.trans (ext_e _ _ fun r _ e he => ?_), e5.trans (R.ext_t _ _ fun _ _ r _ k hk => ?_)⟩
  · unfold vo
    by_cases h : e < 64
    · rw [if_pos h, a_eq (zA X p (i 1).val), show (128 * p + e) / 64 = 2 * p by omega]
      rfl
    · rw [if_neg h, a_eq (zB X p (i 1).val), show (128 * p + e) / 64 = 2 * p + 1 by omega]
      rfl
  · unfold vt
    by_cases h : k = 0
    · subst h
      rw [if_pos rfl, c_eq (zA X p (i 1).val), range_eq_Ico]
      rfl
    · obtain rfl : k = 1 := by omega
      rw [if_neg h, c_eq (zB X p (i 1).val), range_eq_Ico]

end Cert.V23

end
-- ==== Proof.TileDefs.lean ====
/- The tiles of the kernel's body as functions of real matrices. -/
module

public import proofs.«01_k».proof.Proof.Ops

@[expose] public section

set_option maxRecDepth 16384

noncomputable section

namespace Cert.Val

open Cert.KernelIdeal Cert.KernelIdeal.Gen Idealize.ShloMosaic

variable (n : ℕ) (M : ℕ → ℕ → Bool) (q o k v l c p ti te d : ℕ → ℕ → ℝ)

/-- The causal mask of a tile whose first column is `a` and whose first row is `b`. -/
def tM (a b : ℕ) : ℕ → ℕ → Bool := fun r s => decide (s + a < r + b)
/-- Rows of a matrix from the row `a` on. -/
def rsh (a : ℕ) (f : ℕ → ℕ → ℝ) : ℕ → ℕ → ℝ := fun i j => f (a + i) j
/-- The first `a` rows of one matrix above another. -/
def rcat (a : ℕ) (f g : ℕ → ℕ → ℝ) : ℕ → ℕ → ℝ := fun i j => if i < a then f i j else g (i - a) j
/-- The logits of a tile. -/
def tZ (r s : ℕ) : ℝ := ∑ e ∈ Finset.range 128, q r e * k s e
/-- The logarithm of the part that is kept. -/
def tLK (r s : ℕ) : ℝ := if M r s then 0 - (max (tZ q k r s) 0 + Real.log (1 + Real.exp (0 - |tZ q k r s|))) else 0
/-- The logarithm of the part that is taken. -/
def tB (r s : ℕ) : ℝ := tZ q k r s + tLK M q k r s
/-- Running sums along the keys of a tile. -/
def tU (r s : ℕ) : ℝ := ∑ u ∈ Finset.range 256, tLK M q k r u * ti u s
/-- The weights of a tile. -/
def tW (r s : ℕ) : ℝ := if M r s then Real.exp (tB M q k r s + (l r 0 - c r 0) - tU M q k ti r s) else 0
/-- The weights times their cotangents. -/
def tG (r s : ℕ) : ℝ := tW M q k l c ti r s * ∑ e ∈ Finset.range 128, o r e * v s e
/-- Running sums of `tG` along the keys of a tile. -/
def tF (r s : ℕ) : ℝ := ∑ u ∈ Finset.range 256, tG M q o k v l c ti r u * te u s
/-- The cotangents of the logits. -/
def tDZ (r s : ℕ) : ℝ :=
  if M r s then tG M q o k v l c ti r s - Real.exp (tB M q k r s) * (tG M q o k v l c ti r s + p r 0 + tF M q o k v l c ti te r s) else 0
/-- What a tile adds to the gradient of the keys. -/
def tDK (s e : ℕ) : ℝ := ∑ r ∈ Finset.range n, tDZ M q o k v l c p ti te r s * q r e
/-- What a tile adds to the gradient of the values. -/
def tDV (s e : ℕ) : ℝ := ∑ r ∈ Finset.range n, tW M q k l c ti r s * o r e
/-- The running sum of the logarithms after a tile. -/
def tCl (r j : ℕ) : ℝ := c r j + tU M q k ti r 255
/-- The running sum of `tG` after a tile. -/
def tCp (r j : ℕ) : ℝ := p r j + tF M q o k v l c ti te r 255 + tG M q o k v l c ti r 255
/-- The gradient of the queries after a tile. -/
def tDq (r e : ℕ) : ℝ := d r e + ∑ s ∈ Finset.range 256, tDZ M q o k v l c p ti te r s * k s e

theorem zc {n m : ℕ} : constant (F := Ideal) ⟨2, ![n, m]⟩ .f32 0x00000000#32 = toV (fun _ _ => 0) := zero_v _ Ideal.ofBits_zero_f32
theorem bz {n m : ℕ} : broadcast (α := Ideal .f32) ⟨2, ![n, m]⟩ (FloatOps.ofBits .f32 0x00000000#32 : Ideal .f32) = toV (fun _ _ => 0) := by rw [lit0]; rfl
theorem bo {n m : ℕ} : broadcast (α := Ideal .f32) ⟨2, ![n, m]⟩ (FloatOps.ofBits .f32 0x3F800000#32 : Ideal .f32) = toV (fun _ _ => 1) := by rw [lit1]; rfl
theorem b8 {n m : ℕ} : broadcast (α := Ideal .f32) ⟨2, ![n, m]⟩ (FloatOps.ofBits .f32 0x3E000000#32 : Ideal .f32) = toV (fun _ _ => 1 / 8) := by rw [lit8]; rfl
theorem sz {n m : ℕ} : broadcast (α := Ideal .f32) ⟨2, ![n, m]⟩ (Scalar.ofBits (F := Ideal) .f32 0x00000000#32) = toV (fun _ _ => 0) := bz
theorem so {n m : ℕ} : broadcast (α := Ideal .f32) ⟨2, ![n, m]⟩ (Scalar.ofBits (F := Ideal) .f32 0x3F800000#32) = toV (fun _ _ => 1) := bo
theorem s8 {n m : ℕ} : broadcast (α := Ideal .f32) ⟨2, ![n, m]⟩ (Scalar.ofBits (F := Ideal) .f32 0x3E000000#32) = toV (fun _ _ => 1 / 8) := b8

end Cert.Val

end
-- ==== Proof.Tiles.lean ====
/- One head of the attention's gradient on a block of rows, and what a tile does to its running sums. -/
module

public import proofs.«01_k».proof.Proof.TileDefs

@[expose] public section

noncomputable section

namespace Cert.Val

open Finset

/-- The sums up to and including a column. -/
def trI : ℕ → ℕ → ℝ := fun u s => if u ≤ s then 1 else 0
/-- The sums before a column. -/
def trE : ℕ → ℕ → ℝ := fun u s => if u < s then 1 else 0

variable (b : ℕ) (q o k v : ℕ → ℕ → ℝ) (l : ℕ → ℝ)

/-- The logits of the rows from `b` on. -/
def bZ (r s : ℕ) : ℝ := ∑ e ∈ range 128, q r e * k s e
/-- The logarithms of the parts that are kept. -/
def bK (r s : ℕ) : ℝ := if s < b + r then 0 - (max (bZ q k r s) 0 + Real.log (1 + Real.exp (0 - |bZ q k r s|))) else 0
/-- Their sums over the first `n` columns. -/
def bC (r n : ℕ) : ℝ := ∑ s ∈ range n, bK b q k r s
/-- The weights. -/
def bW (r s : ℕ) : ℝ := if s < b + r then Real.exp (bZ q k r s + bK b q k r s + (l r - bC b q k r (s + 1))) else 0
/-- The weights times their cotangents. -/
def bG (r s : ℕ) : ℝ := bW b q k l r s * ∑ e ∈ range 128, o r e * v s e
/-- Their sums over the first `n` columns. -/
def bP (r n : ℕ) : ℝ := ∑ s ∈ range n, bG b q o k v l r s
/-- The cotangents of the logits. -/
def bDZ (r s : ℕ) : ℝ :=
  if s < b + r then bG b q o k v l r s - Real.exp (bZ q k r s + bK b q k r s) * bP b q o k v l r (s + 1) else 0
/-- The gradient of the queries from the first `n` columns. -/
def bDQ (n r e : ℕ) : ℝ := ∑ s ∈ range n, bDZ b q o k v l r s * k s e
/-- The gradient of the keys. -/
def bDK (s e : ℕ) : ℝ := ∑ r ∈ range 1024, bDZ b q o k v l r s * q r e
/-- The gradient of the values. -/
def bDV (s e : ℕ) : ℝ := ∑ r ∈ range 1024, bW b q k l r s * o r e

theorem sum_tri (f : ℕ → ℝ) {m n : ℕ} (h : m ≤ n) : ∑ u ∈ range n, f u * (if u < m then 1 else 0) = ∑ u ∈ range m, f u := by
  simp only [mul_ite, mul_one, mul_zero]
  rw [← sum_filter]
  congr 1
  ext x
  simp only [mem_filter, mem_range]
  omega

theorem sum_trI (f : ℕ → ℝ) {s : ℕ} (h : s < 256) : ∑ u ∈ range 256, f u * trI u s = ∑ u ∈ range (s + 1), f u := by
  rw [← sum_tri f (show s + 1 ≤ 256 from h)]
  refine sum_congr rfl fun u _ => ?_
  unfold trI
  congr 1
  exact if_congr (by omega) rfl rfl

theorem sum_trE (f : ℕ → ℝ) {s : ℕ} (h : s < 256) : ∑ u ∈ range 256, f u * trE u s = ∑ u ∈ range s, f u :=
  sum_tri f (le_of_lt h)

section Tile

variable {b q o k v l} {a r0 : ℕ} {M : ℕ → ℕ → Bool} {L c p d : ℕ → ℕ → ℝ}
  (hM : ∀ r s, s < 256 → (M r s = true ↔ a + s < b + (r0 + r)))
  (hL : ∀ r, L r 0 = l (r0 + r)) (hc : ∀ r, c r 0 = bC b q k (r0 + r) a)
  (hp : ∀ r, p r 0 = bP b q o k v l (r0 + r) a)

theorem tile_Z (r s : ℕ) : tZ (rsh r0 q) (rsh a k) r s = bZ q k (r0 + r) (a + s) := rfl

include hM in
theorem tile_K (r s : ℕ) (hs : s < 256) : tLK M (rsh r0 q) (rsh a k) r s = bK b q k (r0 + r) (a + s) := by
  unfold tLK bK
  rw [tile_Z]
  exact if_congr (hM r s hs) rfl rfl

include hM in
theorem tile_U (r s : ℕ) (hs : s < 256) :
    tU M (rsh r0 q) (rsh a k) trI r s = bC b q k (r0 + r) (a + s + 1) - bC b q k (r0 + r) a := by
  unfold tU bC
  rw [sum_trI _ hs, add_assoc, sum_range_add _ a, add_sub_cancel_left]
  exact sum_congr rfl fun u hu => tile_K hM r u (by have := mem_range.mp hu; omega)

include hM hL hc in
theorem tile_W (r s : ℕ) (hs : s < 256) :
    tW M (rsh r0 q) (rsh a k) L c trI r s = bW b q k l (r0 + r) (a + s) := by
  unfold tW bW tB
  rw [tile_U hM r s hs, tile_K hM r s hs, tile_Z, hL, hc]
  refine if_congr (hM r s hs) (congrArg Real.exp ?_) rfl
  ring

include hM hL hc in
theorem tile_G (r s : ℕ) (hs : s < 256) :
    tG M (rsh r0 q) (rsh r0 o) (rsh a k) (rsh a v) L c trI r s = bG b q o k v l (r0 + r) (a + s) := by
  unfold tG bG
  rw [tile_W hM hL hc r s hs]
  rfl

include hM hL hc in
theorem tile_F (r s : ℕ) (hs : s < 256) :
    tF M (rsh r0 q) (rsh r0 o) (rsh a k) (rsh a v) L c trI trE r s
      = bP b q o k v l (r0 + r) (a + s) - bP b q o k v l (r0 + r) a := by
  unfold tF bP
  rw [sum_trE _ hs, sum_range_add, add_sub_cancel_left]
  exact sum_congr rfl fun u hu => tile_G hM hL hc r u (by have := mem_range.mp hu; omega)

include hM hL hc hp in
theorem tile_DZ (r s : ℕ) (hs : s < 256) :
    tDZ M (rsh r0 q) (rsh r0 o) (rsh a k) (rsh a v) L c p trI trE r s = bDZ b q o k v l (r0 + r) (a + s) := by
  unfold tDZ bDZ tB
  rw [tile_F hM hL hc r s hs, tile_G hM hL hc r s hs, tile_K hM r s hs, tile_Z, hp]
  refine if_congr (hM r s hs) ?_ rfl
  have e : bP b q o k v l (r0 + r) (a + s + 1) = bP b q o k v l (r0 + r) (a + s) + bG b q o k v l (r0 + r) (a + s) := by
    unfold bP; rw [sum_range_succ]
  rw [e]
  ring

include hM hc in
theorem tile_Cl (r : ℕ) : tCl M (rsh r0 q) (rsh a k) c trI r 0 = bC b q k (r0 + r) (a + 256) := by
  unfold tCl
  rw [tile_U hM r 255 (by omega), hc]
  ring

include hM hL hc hp in
theorem tile_Cp (r : ℕ) :
    tCp M (rsh r0 q) (rsh r0 o) (rsh a k) (rsh a v) L c p trI trE r 0 = bP b q o k v l (r0 + r) (a + 256) := by
  unfold tCp
  rw [tile_F hM hL hc r 255 (by omega), tile_G hM hL hc r 255 (by omega), hp]
  have e : bP b q o k v l (r0 + r) (a + 256) = bP b q o k v l (r0 + r) (a + 255) + bG b q o k v l (r0 + r) (a + 255) := by
    unfold bP; rw [show a + 256 = a + 255 + 1 from rfl, sum_range_succ]
  rw [e]
  ring

include hM hL hc hp in
theorem tile_Dq (hd : ∀ r e, d r e = bDQ b q o k v l a (r0 + r) e) (r e : ℕ) :
    tDq M (rsh r0 q) (rsh r0 o) (rsh a k) (rsh a v) L c p trI trE d r e = bDQ b q o k v l (a + 256) (r0 + r) e := by
  unfold tDq
  rw [hd]
  unfold bDQ
  rw [sum_range_add]
  congr 1
  refine sum_congr rfl fun s hs => ?_
  rw [tile_DZ hM hL hc hp r s (mem_range.mp hs)]
  rfl

/-- Past the diagonal nothing is added. -/
theorem bK_zero {r s : ℕ} (h : b + r ≤ s) : bK b q k r s = 0 := if_neg (by omega)
theorem bW_zero {r s : ℕ} (h : b + r ≤ s) : bW b q k l r s = 0 := if_neg (by omega)
theorem bG_zero {r s : ℕ} (h : b + r ≤ s) : bG b q o k v l r s = 0 := by unfold bG; rw [bW_zero h, zero_mul]
theorem bDZ_zero {r s : ℕ} (h : b + r ≤ s) : bDZ b q o k v l r s = 0 := if_neg (by omega)

include hM hL hc hp in
theorem tile_DK {n : ℕ} (hn : r0 + n = 1024) (h0 : r0 = 0 ∨ b + r0 ≤ a) (s e : ℕ) (hs : s < 256) :
    tDK n M (rsh r0 q) (rsh r0 o) (rsh a k) (rsh a v) L c p trI trE s e = bDK b q o k v l (a + s) e := by
  unfold tDK bDK
  rw [← hn, sum_range_add, sum_eq_zero (s := range r0), zero_add]
  · exact sum_congr rfl fun r _ => by rw [tile_DZ hM hL hc hp r s hs]; rfl
  · intro r hr
    have := mem_range.mp hr
    rw [bDZ_zero (by omega), zero_mul]

include hM hL hc in
theorem tile_DV {n : ℕ} (hn : r0 + n = 1024) (h0 : r0 = 0 ∨ b + r0 ≤ a) (s e : ℕ) (hs : s < 256) :
    tDV n M (rsh r0 q) (rsh r0 o) (rsh a k) L c trI s e = bDV b q o k l (a + s) e := by
  unfold tDV bDV
  rw [← hn, sum_range_add, sum_eq_zero (s := range r0), zero_add]
  · exact sum_congr rfl fun r _ => by rw [tile_W hM hL hc r s hs]; rfl
  · intro r hr
    have := mem_range.mp hr
    rw [bW_zero (by omega), zero_mul]

theorem sum_keep {f : ℕ → ℝ} {a n : ℕ} (h : ∀ s, a ≤ s → f s = 0) : ∑ s ∈ range (a + n), f s = ∑ s ∈ range a, f s := by
  rw [sum_range_add, sum_eq_zero fun u _ => h (a + u) (by omega), add_zero]

theorem bC_keep {r n : ℕ} (h : b + r ≤ a) : bC b q k r (a + n) = bC b q k r a := sum_keep fun s hs => bK_zero (by omega)
theorem bP_keep {r n : ℕ} (h : b + r ≤ a) : bP b q o k v l r (a + n) = bP b q o k v l r a := sum_keep fun s hs => bG_zero (by omega)
theorem bDQ_keep {r n : ℕ} (e : ℕ) (h : b + r ≤ a) : bDQ b q o k v l (a + n) r e = bDQ b q o k v l a r e :=
  sum_keep fun s hs => by rw [bDZ_zero (by omega), zero_mul]

end Tile

end Cert.Val

end
-- ==== Proof.Model.lean ====
/- The gradient of the attention as functions of real numbers, head by head. -/
module

public import proofs.«01_k».proof.Proof.Host3

@[expose] public section

noncomputable section

namespace Cert.Val

/-- The scaled queries, the keys, the values and the gradient of the output, of head `h`. -/
def rq (X : ℕ → ℕ → ℝ) (h r d : ℕ) : ℝ := X r (64 * h + d) * (1 / 8)
def rk (X : ℕ → ℕ → ℝ) (h s d : ℕ) : ℝ := X s (1024 + (64 * h + d))
def rv (X : ℕ → ℕ → ℝ) (h s d : ℕ) : ℝ := X s (2048 + (64 * h + d))
def ro (D : ℕ → ℕ → ℝ) (h r d : ℕ) : ℝ := D r (64 * h + d)

/-- Softplus. -/
def lsp (x : ℝ) : ℝ := Real.log (1 + Real.exp x)

/-- The logits. -/
def rz (X : ℕ → ℕ → ℝ) (h r s : ℕ) : ℝ := ∑ d ∈ Finset.range 64, rq X h r d * rk X h s d
/-- The logarithms of what an element leaves. -/
def rl (X : ℕ → ℕ → ℝ) (h r s : ℕ) : ℝ := if s < r then -lsp (rz X h r s) else 0
/-- The weights, not yet masked. -/
def re (X : ℕ → ℕ → ℝ) (h r s : ℕ) : ℝ :=
  Real.exp (-lsp (-rz X h r s) + ((∑ t ∈ Finset.range 8192, if s ≤ t then rl X h r t else 0) - rl X h r s))
/-- The gradient of the weights. -/
def rdw (X D : ℕ → ℕ → ℝ) (h r s : ℕ) : ℝ := ∑ d ∈ Finset.range 64, ro D h r d * rv X h s d
/-- The gradient of the weights' logarithms. -/
def rg (X D : ℕ → ℕ → ℝ) (h r s : ℕ) : ℝ := (if s < r then rdw X D h r s else 0) * re X h r s
/-- The gradient of the logits. -/
def rdz (X D : ℕ → ℕ → ℝ) (h r s : ℕ) : ℝ :=
  rg X D h r s * Real.exp (-rz X h r s - lsp (-rz X h r s))
    - (if s < r then (∑ t ∈ Finset.range 8192, if t ≤ s then rg X D h r t else 0) - rg X D h r s else 0) * Real.exp (rz X h r s - lsp (rz X h r s))

/-- The three gradients. -/
def rdv (X D : ℕ → ℕ → ℝ) (h s d : ℕ) : ℝ := ∑ r ∈ Finset.range 8192, ro D h r d * (if s < r then re X h r s else 0)
def rdk (X D : ℕ → ℕ → ℝ) (h s d : ℕ) : ℝ := ∑ r ∈ Finset.range 8192, rdz X D h r s * rq X h r d
def rdq (X D : ℕ → ℕ → ℝ) (h r d : ℕ) : ℝ := (∑ s ∈ Finset.range 8192, rdz X D h r s * rk X h s d) * (1 / 8)

end Cert.Val

end
-- ==== Proof.KHost.lean ====
/- The values the host prepares for the kernel, on real arrays. -/
module

public import proofs.«01_k».proof.Proof.Host3
public import proofs.«01_k».proof.Proof.Tiles
public import proofs.«01_k».proof.Proof.Model
public import proofs.«01_k».proof.Proof.Gen.KernelIdeal.Frame
public import Idealize.ShloMosaic.Lib.StableHlo.Run
public import Idealize.ShloMosaic.Lib.Pointwise

@[expose] public section

set_option maxRecDepth 16384
set_option maxHeartbeats 1000000

noncomputable section

namespace Cert.Val.Pre

open Cert.KernelIdeal Cert.KernelIdeal.Gen Idealize.ShloMosaic Idealize.ShloMosaic.TcCoe

def u4 (X : FVec Ideal S8192x3072 .bf16) : IVec S8192 32 := iotaInDim S8192 32 0
def u5 (X : FVec Ideal S8192x3072 .bf16) : IVec S1x8192 32 := broadcastInDim S1x8192 ![1] bcast_S8192_S1x8192_1 (u4 X)
def u6 (X : FVec Ideal S8192x3072 .bf16) : IVec S8192x8192 32 := broadcastInDim S8192x8192 ![0, 1] bcast_S1x8192_S8192x8192_0_1 (u5 X)
def u7 (X : FVec Ideal S8192x3072 .bf16) : IVec S8192x1 32 := broadcastInDim S8192x1 ![0] bcast_S8192_S8192x1_0 (u4 X)
def u8 (X : FVec Ideal S8192x3072 .bf16) : IVec S8192x8192 32 := broadcastInDim S8192x8192 ![0, 1] bcast_S8192x1_S8192x8192_0_1 (u7 X)
def u9 (X : FVec Ideal S8192x3072 .bf16) : IVec S8192x8192 1 := cmpi .slt (u6 X) (u8 X)
def u10 (X : FVec Ideal S8192x3072 .bf16) : IVec S16x8192x8192 1 := broadcastInDim S16x8192x8192 ![1, 2] bcast_S8192x8192_S16x8192x8192_1_2 (u9 X)
def u12 (X : FVec Ideal S8192x3072 .bf16) : FVec Ideal S8192x1024 .bf16 := extractStridedSlice S8192x1024 ![0, 0] X slices_S8192x3072_S8192x1024_0_0
def u13 (X : FVec Ideal S8192x3072 .bf16) : FVec Ideal S8192x1024 .f32 := extf .f32 (u12 X) bitsLt_bf16_f32
def u14 (X : FVec Ideal S8192x3072 .bf16) : FVec Ideal S8192x16x64 .f32 := shapeCast _ (u13 X) shapeCasts_S8192x1024_S8192x16x64
def u15 (X : FVec Ideal S8192x3072 .bf16) : FVec Ideal S_ .f32 := constant S_ .f32 0x3E000000#32
def u16 (X : FVec Ideal S8192x3072 .bf16) : FVec Ideal S8192x16x64 .f32 := broadcastInDim S8192x16x64 ![] bcast_S_S8192x16x64 (u15 X)
def u17 (X : FVec Ideal S8192x3072 .bf16) : FVec Ideal S8192x16x64 .f32 := mulf (u14 X) (u16 X)
def u18 (X : FVec Ideal S8192x3072 .bf16) : FVec Ideal S8192x1024 .bf16 := extractStridedSlice S8192x1024 ![0, 1024] X slices_S8192x3072_S8192x1024_0_1024
def u19 (X : FVec Ideal S8192x3072 .bf16) : FVec Ideal S8192x1024 .f32 := extf .f32 (u18 X) bitsLt_bf16_f32
def u20 (X : FVec Ideal S8192x3072 .bf16) : FVec Ideal S8192x16x64 .f32 := shapeCast _ (u19 X) shapeCasts_S8192x1024_S8192x16x64
def u21 (X : FVec Ideal S8192x3072 .bf16) : FVec Ideal S16x8192x8192 .f32 := Host.dotGeneral dot_S8192x16x64_S8192x16x64_S16x8192x8192_2_2_0_0_1_1 none (u17 X) (u20 X)
def u22 (X : FVec Ideal S8192x3072 .bf16) : FVec Ideal S16x8192x8192 .f32 := Host.negf (u21 X)
def u36 (X : FVec Ideal S8192x3072 .bf16) : FVec Ideal S16x8192x8192 .f32 := Host.negf (u22 X)
def u23 (X : FVec Ideal S8192x3072 .bf16) : FVec Ideal S_ .f32 := constant S_ .f32 0x00000000#32
def u24 (X : FVec Ideal S8192x3072 .bf16) : FVec Ideal S16x8192x8192 .f32 := broadcastInDim S16x8192x8192 ![] bcast_S_S16x8192x8192 (u23 X)
def u37 (X : FVec Ideal S8192x3072 .bf16) : FVec Ideal S16x8192x8192 .f32 := subf (u36 X) (u24 X)
def u38 (X : FVec Ideal S8192x3072 .bf16) : IVec S16x8192x8192 1 := cmpf .une (u37 X) (u37 X)
def u39 (X : FVec Ideal S8192x3072 .bf16) : FVec Ideal S16x8192x8192 .f32 := addf (u36 X) (u24 X)
def u40 (X : FVec Ideal S8192x3072 .bf16) : FVec Ideal S16x8192x8192 .f32 := maximumf (u36 X) (u24 X)
def u41 (X : FVec Ideal S8192x3072 .bf16) : FVec Ideal S16x8192x8192 .f32 := Host.absf (u37 X)
def u42 (X : FVec Ideal S8192x3072 .bf16) : FVec Ideal S16x8192x8192 .f32 := Host.negf (u41 X)
def u43 (X : FVec Ideal S8192x3072 .bf16) : FVec Ideal S16x8192x8192 .f32 := Host.exp (u42 X)
def u44 (X : FVec Ideal S8192x3072 .bf16) : FVec Ideal S16x8192x8192 .f32 := Host.log1p (u43 X)
def u45 (X : FVec Ideal S8192x3072 .bf16) : FVec Ideal S16x8192x8192 .f32 := addf (u40 X) (u44 X)
def u46 (X : FVec Ideal S8192x3072 .bf16) : FVec Ideal S16x8192x8192 .f32 := select (u38 X) (u39 X) (u45 X)
def u47 (X : FVec Ideal S8192x3072 .bf16) : FVec Ideal S16x8192x8192 .f32 := Host.negf (u46 X)
def u48 (X : FVec Ideal S8192x3072 .bf16) : FVec Ideal S_ .f32 := id (u23 X)
def u49 (X : FVec Ideal S8192x3072 .bf16) : FVec Ideal S16x8192x8192 .f32 := broadcastInDim S16x8192x8192 ![] bcast_S_S16x8192x8192 (u48 X)
def u50 (X : FVec Ideal S8192x3072 .bf16) : FVec Ideal S16x8192x8192 .f32 := select (u10 X) (u47 X) (u49 X)
def u51 (X : FVec Ideal S8192x3072 .bf16) : FVec Ideal S16x8192 .f32 := Host.reduceAdd (u50 X) (constant S_ .f32 0x00000000#32) reducesTo_S16x8192x8192_S16x8192_d2 h_S_
def u52 (X : FVec Ideal S8192x3072 .bf16) : FVec Ideal S8x2x8192 .f32 := shapeCast _ (u51 X) shapeCasts_S16x8192_S8x2x8192
def u53 (X : FVec Ideal S8192x3072 .bf16) : FVec Ideal S8x8192x2 .f32 := transpose S8x8192x2 [0, 2, 1] (u52 X) transposes_S8x2x8192_S8x8192x2_0_2_1
def uI : FVec Ideal S256x256 .bf16 := uitofp .bf16 (cmpi .sle (iotaInDim S256x256 32 0) (iotaInDim S256x256 32 1))
def uE : FVec Ideal S256x256 .bf16 := uitofp .bf16 (cmpi .slt (iotaInDim S256x256 32 0) (iotaInDim S256x256 32 1))

theorem e12 (X : ℕ → ℕ → ℝ) : u12 (toV X) = toV fun r e => X r e := by
  unfold u12; funext x; idx_vars x; pointwise [toV]
theorem e18 (X : ℕ → ℕ → ℝ) : u18 (toV X) = toV fun r e => X r (1024 + e) := by
  unfold u18; funext x; idx_vars x; pointwise [toV]
theorem e13 (X : ℕ → ℕ → ℝ) : u13 (toV X) = toV fun r e => X r e := by
  unfold u13; rw [e12]; rfl
theorem e19 (X : ℕ → ℕ → ℝ) : u19 (toV X) = toV fun r e => X r (1024 + e) := by
  unfold u19; rw [e18]; rfl
theorem e14 (X : ℕ → ℕ → ℝ) : u14 (toV X) = toW fun r h d => X r (64 * h + d) := by
  unfold u14; rw [e13]; funext x; idx_vars x; pointwise [toV, toW]; congr 3; omega
theorem e20 (X : ℕ → ℕ → ℝ) : u20 (toV X) = toW fun r h d => rk X h r d := by
  unfold u20 rk; rw [e19]; funext x; idx_vars x; pointwise [toV, toW]; congr 3; omega
theorem e16 (X : ℕ → ℕ → ℝ) : u16 (toV X) = toW fun _ _ _ => 1 / 8 := by
  unfold u16 u15; funext x; exact lit8
theorem e17 (X : ℕ → ℕ → ℝ) : u17 (toV X) = toW fun r h d => rq X h r d := by
  unfold u17; rw [e14, e16, mulf_w]; rfl
theorem e10 (X : ℕ → ℕ → ℝ) : u10 (toV X) = toN fun _ r s => decide (s < r) := by
  unfold u10 u9 u8 u7 u6 u5 u4; funext x; idx_vars x; pointwise [toN]; exact slt_n _ _ (by omega) (by omega)
theorem e21 (X : ℕ → ℕ → ℝ) : u21 (toV X) = toW fun h r s => rz X h r s := by
  unfold u21 rz; rw [e17, e20]; funext x; idx_vars x; pointwise [toW]; rw [coe_sum_range]; simp only [EReal.coe_mul]
theorem e22 (X : ℕ → ℕ → ℝ) : u22 (toV X) = toW fun h r s => -rz X h r s := by
  unfold u22; rw [e21, negf_w]
theorem e24 (X : ℕ → ℕ → ℝ) : u24 (toV X) = toW fun _ _ _ => 0 := by
  unfold u24 u23; funext x; exact lit0
theorem e49 (X : ℕ → ℕ → ℝ) : u49 (toV X) = toW fun _ _ _ => 0 := by
  unfold u49 u48 u23; funext x; exact lit0
theorem e36 (X : ℕ → ℕ → ℝ) : u36 (toV X) = toW fun h r s => rz X h r s := by
  unfold u36; rw [e22, negf_w]; exact ext_w _ _ fun _ _ _ _ _ _ => neg_neg _
theorem e46 (X : ℕ → ℕ → ℝ) : u46 (toV X) = toW fun h r s => lsp (rz X h r s) := by
  unfold u46 u38 u37 u39 u45 u40 u44 u43 u42 u41 u37; exact softplus_w _ _ _ (e36 X) (e24 X)
theorem e47 (X : ℕ → ℕ → ℝ) : u47 (toV X) = toW fun h r s => -lsp (rz X h r s) := by
  unfold u47; rw [e46, negf_w]
theorem e50 (X : ℕ → ℕ → ℝ) : u50 (toV X) = toW fun h r s => rl X h r s := by
  unfold u50; rw [e10, e47, e49, select_w]; refine ext_w _ _ fun h _ r _ s _ => ?_; unfold rl; simp only [decide_eq_true_eq]
theorem e51 (X : ℕ → ℕ → ℝ) : u51 (toV X) = toV fun h r => ∑ s ∈ Finset.range 8192, rl X h r s := by
  unfold u51; rw [e50]; funext x; idx_vars x; pointwise [toW, toV]; rw [coe_sum_range]
theorem e53 (X : ℕ → ℕ → ℝ) : u53 (toV X) = toW fun p r k => ∑ s ∈ Finset.range 8192, rl X (2 * p + k) r s := by
  unfold u53 u52; rw [e51]; funext x; idx_vars x; pointwise [toW, toV]; congr 3; funext s; rw [Nat.mul_comm]
theorem one_bit (P : Prop) [Decidable P] (φ : FTy) : FloatOps.uitofp (F := Ideal) φ (BitVec.ofBool (decide P)) = (((if P then 1 else 0 : ℝ)) : EReal) := by
  by_cases h : P
  · rw [if_pos h, decide_eq_true h]; show (((BitVec.ofBool true).toNat : ℝ) : EReal) = _; simp
  · rw [if_neg h, decide_eq_false h]; show (((BitVec.ofBool false).toNat : ℝ) : EReal) = _; simp

theorem eI : uI = toV trI := by
  unfold uI; funext x; idx_vars x; pointwise [toV]
  have e : IntOp.cmpi .sle (BitVec.ofNat 32 x0.val) (BitVec.ofNat 32 x1.val) = BitVec.ofBool (decide (x0.val ≤ x1.val)) := by
    show BitVec.ofBool (BitVec.sle (BitVec.ofNat 32 x0.val) (BitVec.ofNat 32 x1.val)) = _
    congr 1
    rw [BitVec.sle_eq_decide, BitVec.toInt_eq_toNat_cond, BitVec.toInt_eq_toNat_cond]
    have h0 := x0.isLt; have h1 := x1.isLt
    have a0 : (BitVec.ofNat 32 x0.val).toNat = x0.val := by rw [BitVec.toNat_ofNat]; omega
    have a1 : (BitVec.ofNat 32 x1.val).toNat = x1.val := by rw [BitVec.toNat_ofNat]; omega
    rw [a0, a1, if_pos (by omega), if_pos (by omega)]
    simp
  rw [e]; exact one_bit _ _
theorem eE : uE = toV trE := by
  unfold uE; funext x; idx_vars x; pointwise [toV]
  rw [slt_n _ _ (by omega) (by omega)]
  exact one_bit _ _

theorem V_v20 (m : (ℓ : Loc nD τ sig) → Buf (Elt Ideal) ℓ) (c : Dev nD) : V m c main_v20 = u53 (m ((c : Thread nD τ).loc main_arg0)) := by
  simp only [V, hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_v24 (m : (ℓ : Loc nD τ sig) → Buf (Elt Ideal) ℓ) (c : Dev nD) : V m c main_v24 = uI := by
  simp only [V, hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_v28 (m : (ℓ : Loc nD τ sig) → Buf (Elt Ideal) ℓ) (c : Dev nD) : V m c main_v28 = uE := by
  simp only [V, hostOps0, hostOps0_1, hostOps0_2, hostOps0_3, hostOps0_4, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

end Cert.Val.Pre

end
-- ==== Proof.Fwd23.lean ====
/- The attention's forward call over its whole grid, and the reference's arrays. -/
module

public import proofs.«01_k».proof.Defs
public import proofs.«01_k».proof.Proof.FwdPoint
public import proofs.«01_k».proof.Proof.KHost
public import proofs.«01_k».proof.Proof.Gen.Kernel23Ideal.Value
public import proofs.«01_k».proof.Proof.Gen.Reference23Ideal.Run
public import Idealize.ShloMosaic.Lib.Pipeline.ValueKit

@[expose] public section

set_option maxRecDepth 16384
set_option maxHeartbeats 1000000

noncomputable section

namespace Cert.V23

open Cert.Ext Cert.Kernel23Ideal Cert.Kernel23Ideal.Gen Idealize.ShloMosaic Idealize.ShloMosaic.TcCoe

variable (m : (ℓ : Loc nD τ sig) → Buf (Elt Ideal) ℓ) (c : Dev nD) (X : ℕ → ℕ → EReal)
  (hX : m ((c : Thread nD τ).loc main_arg0) = eV (n := 8192) (m := 3072) (φ := .bf16) X)

theorem coord1 (t : Fin cfg0.N) : (grid0.coords t 1).val = t.val % 8 :=
  (by decide +kernel : ∀ t : Fin grid0.N, (grid0.coords t 1).val = t.val % 8) t
theorem idx0 (t : Fin cfg0.N) : win0_0.index t = ![t.val % 8, t.val / 8] :=
  (by decide +kernel : ∀ t : Fin grid0.N, win0_0.index t = ![t.val % 8, t.val / 8]) t
theorem idx1 (t : Fin cfg0.N) : win0_1.index t = ![0, 8 + t.val / 8] :=
  (by decide +kernel : ∀ t : Fin grid0.N, win0_1.index t = ![0, 8 + t.val / 8]) t
theorem idx2 (t : Fin cfg0.N) : win0_2.index t = ![0, 16 + t.val / 8] :=
  (by decide +kernel : ∀ t : Fin grid0.N, win0_2.index t = ![0, 16 + t.val / 8]) t
theorem idx3 (t : Fin cfg0.N) : win0_3.index t = ![0, 0] :=
  (by decide +kernel : ∀ t : Fin grid0.N, win0_3.index t = ![0, 0]) t
theorem idx4 (t : Fin cfg0.N) : win0_4.index t = ![t.val % 8, t.val / 8] :=
  (by decide +kernel : ∀ t : Fin grid0.N, win0_4.index t = ![t.val % 8, t.val / 8]) t
theorem idx5 (t : Fin cfg0.N) : win0_5.index t = ![t.val / 8, t.val % 8, 0] :=
  (by decide +kernel : ∀ t : Fin grid0.N, win0_5.index t = ![t.val / 8, t.val % 8, 0]) t

include hX in
theorem iblk0 (t : Fin cfg0.N) : iblk m c 0 t = eV (n := 1024) (m := 128) (φ := .bf16) (xq X (t.val / 8) (t.val % 8)) := by
  funext y
  have e := (V_main_arg0 m c).trans hX
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = 128 * (t.val / 8) + (y 1).val := by blk_simp [idx0 t] <;> omega
  have e2 := congr (congrArg X h0) h1
  exact e2
include hX in
theorem iblk1 (t : Fin cfg0.N) : iblk m c 1 t = eV (n := 8192) (m := 128) (φ := .bf16) (xk X (t.val / 8)) := by
  funext y
  have e := (V_main_arg0 m c).trans hX
  blk_simp [iblk, e, idx1 t]
  have h0 : (((win0_1.blk t).view.emb y) 0 : ℕ) = (y 0).val := by blk_simp [idx1 t] <;> omega
  have h1 : (((win0_1.blk t).view.emb y) 1 : ℕ) = 1024 + (128 * (t.val / 8) + (y 1).val) := by blk_simp [idx1 t] <;> omega
  have e2 := congr (congrArg X h0) h1
  exact e2
include hX in
theorem iblk2 (t : Fin cfg0.N) : iblk m c 2 t = eV (n := 8192) (m := 128) (φ := .bf16) (xv X (t.val / 8)) := by
  funext y
  have e := (V_main_arg0 m c).trans hX
  blk_simp [iblk, e, idx2 t]
  have h0 : (((win0_2.blk t).view.emb y) 0 : ℕ) = (y 0).val := by blk_simp [idx2 t] <;> omega
  have h1 : (((win0_2.blk t).view.emb y) 1 : ℕ) = 2048 + (128 * (t.val / 8) + (y 1).val) := by blk_simp [idx2 t] <;> omega
  have e2 := congr (congrArg X h0) h1
  exact e2

/-- The triangular array the host prepares. -/
def hostTri : FVec Ideal S256x256 .bf16 := uitofp .bf16 (cmpi .sgt (iotaInDim S256x256 32 0) (iotaInDim S256x256 32 1))
theorem hostTri_e : hostTri = eV (n := 256) (m := 256) (φ := .bf16) tri := by
  unfold hostTri
  funext x; idx_vars x; pointwise [eV]
  have h0 := x0.isLt
  have h1 := x1.isLt
  have e : IntOp.cmpi .sgt (BitVec.ofNat 32 x0.val) (BitVec.ofNat 32 x1.val) = BitVec.ofBool (decide (x1.val < x0.val)) := by
    show BitVec.ofBool (BitVec.slt (BitVec.ofNat 32 x1.val) (BitVec.ofNat 32 x0.val)) = _
    congr 1
    rw [BitVec.slt_eq_decide, BitVec.toInt_eq_toNat_cond, BitVec.toInt_eq_toNat_cond]
    have a0 : (BitVec.ofNat 32 x0.val).toNat = x0.val := by rw [BitVec.toNat_ofNat]; omega
    have a1 : (BitVec.ofNat 32 x1.val).toNat = x1.val := by rw [BitVec.toNat_ofNat]; omega
    rw [a0, a1, if_pos (by omega), if_pos (by omega)]
    simp
  rw [e]
  refine (Cert.Val.Pre.one_bit _ _).trans ?_
  unfold tri
  split <;> simp
theorem V_v3 : V m c main_v3 = hostTri := by
  simp only [V, hostOps0, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem iblk3 (t : Fin cfg0.N) : iblk m c 3 t = eV (n := 256) (m := 256) (φ := .bf16) tri := by
  funext y
  have e := (V_v3 m c).trans hostTri_e
  blk_simp [iblk, e, idx3 t]
  have h0 : (((win0_3.blk t).view.emb y) 0 : ℕ) = (y 0).val := by blk_simp [idx3 t] <;> omega
  have h1 : (((win0_3.blk t).view.emb y) 1 : ℕ) = (y 1).val := by blk_simp [idx3 t] <;> omega
  have e2 := congr (congrArg tri h0) h1
  exact e2

include hX in
theorem outs (t : Fin cfg0.N) : outsAt0 m c t = (eV (n := 1024) (m := 128) (φ := .bf16) (fun r e => vo X (1024 * (t.val % 8) + r) (128 * (t.val / 8) + e)),
    eT (l := 1) (n := 1024) (m := 2) (φ := .f32) (fun _ r k => vt X (t.val / 8) (1024 * (t.val % 8) + r) k)) := by
  obtain ⟨e4, e5⟩ := point c (grid0.coords t) (ms0_0 t) (hs0_0 t) (ms0_1 t) (hs0_1 t) (ms0_2 t) (hs0_2 t) (ms0_3 t) (hs0_3 t) (ms0_4 t) (hs0_4 t) (ms0_5 t) (hs0_5 t) X
    (iblk m c 0 t) (iblk m c 1 t) (iblk m c 2 t) (iblk m c 3 t) (t.val / 8) (t.val % 8) (coord1 t) (iblk0 m c X hX t) (iblk1 m c X hX t) (iblk2 m c X hX t) (iblk3 m c t)
  exact congr (congrArg Prod.mk e4) e5

include hX in
theorem arr4 : (dats m 0 c).arrAt 4 cfg0.N = eV (n := 8192) (m := 1024) (φ := .bf16) (vo X) := by
  refine (dats m 0 c).arrAt_eq_of_covers 4 _ (by decide +kernel) fun t hf y => ?_
  blk_simp
  rw [after0_4, outs m c X hX]
  have h0 : (((win0_4.blk t).view.emb y) 0 : ℕ) = 1024 * (t.val % 8) + (y 0).val := by blk_simp [idx4 t] <;> omega
  have h1 : (((win0_4.blk t).view.emb y) 1 : ℕ) = 128 * (t.val / 8) + (y 1).val := by blk_simp [idx4 t] <;> omega
  unfold eV
  rw [h0, h1]

include hX in
theorem arr5 : (dats m 0 c).arrAt 5 cfg0.N = eT (l := 8) (n := 8192) (m := 2) (φ := .f32) (vt X) := by
  refine (dats m 0 c).arrAt_eq_of_covers 5 _ (by decide +kernel) fun t hf y => ?_
  blk_simp
  rw [after0_5, outs m c X hX]
  have h0 : (((win0_5.blk t).view.emb y) 0 : ℕ) = t.val / 8 := by have hy : (y 0).val < 1 := (y 0).isLt; blk_simp [idx5 t] <;> omega
  have h1 : (((win0_5.blk t).view.emb y) 1 : ℕ) = 1024 * (t.val % 8) + (y 1).val := by blk_simp [idx5 t] <;> omega
  have h2 : (((win0_5.blk t).view.emb y) 2 : ℕ) = (y 2).val := by blk_simp [idx5 t] <;> omega
  unfold eT
  rw [h0, h1, h2]

theorem values : @Cert.algebraic_Kernel23Ideal_Reference23Ideal Cert.Kernel23Ideal.Gen.facts Cert.Reference23Ideal.Gen.facts := by
  intro m g m' g' _ hargs
  refine ⟨_, _, Cert.Kernel23Ideal.Value.run_blocks (F := Ideal) m g, ?_⟩
  refine (θ_run Cert.Reference23Ideal.defs _ _).mono (fun r h c => ?_) (Cert.Reference23Ideal.Value.run (F := Ideal) m' g')
  obtain ⟨r0, r1, r2⟩ := h c
  have a0 := hargs c
  obtain ⟨X, hX⟩ := exV (n := 8192) (m := 3072) (φ := .bf16) (m ((c : Thread nD τ).loc main_arg0))
  refine ⟨r0.trans ?_, r1.trans ?_, r2⟩
  · refine (R.out_o m' c).trans ?_
    rw [a0.trans hX]
    exact (R.ho_e X).trans (arr4 m c X hX).symm
  · refine (R.out_t m' c).trans ?_
    rw [a0.trans hX]
    exact (R.ht_e X).trans (arr5 m c X hX).symm

end Cert.V23

end
-- ==== Proof.Mem.lean ====
/- What rows of a buffer hold, as real matrices. -/
module

public import proofs.«01_k».proof.Proof.TileDefs
public import Idealize.ShloMosaic.Lib.Pipeline.Value
public import Idealize.ShloMosaic.Lib.Pipeline.ValueKit

@[expose] public section

set_option maxRecDepth 16384

noncomputable section

namespace Cert.Val

open Cert.KernelIdeal Cert.KernelIdeal.Gen Idealize.ShloMosaic

/-- A matrix with 256 rows replaced. -/
def upd (a : ℕ) (w D : ℕ → ℕ → ℝ) : ℕ → ℕ → ℝ := fun s e => if a ≤ s ∧ s < a + 256 then w (s - a) e else D s e

theorem read_rows (V : View sig .tc .vmem S8192x128 .f32) (f : V.ty.Contents (Elt Ideal)) {D : ℕ → ℕ → ℝ}
    (hD : V.read (Elt Ideal) f = toV (n := 8192) (m := 128) (φ := .f32) D) {a : ℕ} {off : Fin 2 → ℕ} (h : off = ![a, 0])
    (inb : ∀ x, off x + S256x128.size x ≤ S8192x128.size x) :
    V.readAt (Elt Ideal) (Rect.unit (s := S8192x128) off S256x128.size inb).toLoadRect f
      = toV (n := 256) (m := 128) (φ := .f32) (rsh a D) := by
  subst h
  funext x
  have e : V.readAt (Elt Ideal) (Rect.unit (s := S8192x128) ![a, 0] S256x128.size inb).toLoadRect f x
      = V.read (Elt Ideal) f ((Rect.unit (s := S8192x128) ![a, 0] S256x128.size inb).idx x) := rfl
  rw [e, hD]
  unfold toV rsh
  rw [Rect.idx_unit_val, Rect.idx_unit_val]
  simp

theorem read_rowsb (V : View sig .tc .vmem S8192x128 .bf16) (f : V.ty.Contents (Elt Ideal)) {D : ℕ → ℕ → ℝ}
    (hD : V.read (Elt Ideal) f = toV (n := 8192) (m := 128) (φ := .bf16) D) {a : ℕ} {off : Fin 2 → ℕ} (h : off = ![a, 0])
    (inb : ∀ x, off x + S256x128.size x ≤ S8192x128.size x) :
    V.readAt (Elt Ideal) (Rect.unit (s := S8192x128) off S256x128.size inb).toLoadRect f
      = toV (n := 256) (m := 128) (φ := .bf16) (rsh a D) := by
  subst h
  funext x
  have e : V.readAt (Elt Ideal) (Rect.unit (s := S8192x128) ![a, 0] S256x128.size inb).toLoadRect f x
      = V.read (Elt Ideal) f ((Rect.unit (s := S8192x128) ![a, 0] S256x128.size inb).idx x) := rfl
  rw [e, hD]
  unfold toV rsh
  rw [Rect.idx_unit_val, Rect.idx_unit_val]
  simp

theorem read_upd (V : View sig .tc .vmem S8192x128 .f32) (f : V.ty.Contents (Elt Ideal)) {D : ℕ → ℕ → ℝ}
    (L : List (View.Piece (Elt Ideal) S8192x128 .f32))
    (hD : V.read (Elt Ideal) (V.writes (Elt Ideal) f L) = toV (n := 8192) (m := 128) (φ := .f32) D) {a : ℕ} {off : Fin 2 → ℕ}
    (h : off = ![a, 0]) (inb : ∀ x, off x + S256x128.size x ≤ S8192x128.size x) (w : ℕ → ℕ → ℝ) :
    V.read (Elt Ideal) (V.writes (Elt Ideal) f
      ((⟨Rect.unit (s := S8192x128) off S256x128.size inb, toV (n := 256) (m := 128) (φ := .f32) w⟩ : View.Piece (Elt Ideal) S8192x128 .f32) :: L))
      = toV (n := 8192) (m := 128) (φ := .f32) (upd a w D) := by
  subst h
  funext y
  have h0 : (y 0).val < 8192 := (y 0).isLt
  have h1 : (y 1).val < 128 := (y 1).isLt
  by_cases hy : a ≤ (y 0).val ∧ (y 0).val < a + 256
  · have hm : y ∈ (Rect.unit (s := S8192x128) ![a, 0] S256x128.size inb).set := by
      rw [Rect.mem_set_unit]
      intro x
      match x with
      | ⟨0, _⟩ => exact hy
      | ⟨1, _⟩ => exact ⟨Nat.zero_le _, by show (y 1).val < 0 + 128; omega⟩
    obtain ⟨x, rfl⟩ := LoadRect.exists_idx_of_mem _ hm
    refine (View.read_writes_cons_emb V f (Rect.unit (s := S8192x128) ![a, 0] S256x128.size inb)
      (toV (n := 256) (m := 128) (φ := .f32) w) L x).trans ?_
    have e0 : ((Rect.unit (s := S8192x128) ![a, 0] S256x128.size inb).idx x 0).val = a + (x 0).val := Rect.idx_unit_val _ _ _ _ _
    have e1 : ((Rect.unit (s := S8192x128) ![a, 0] S256x128.size inb).idx x 1).val = 0 + (x 1).val := Rect.idx_unit_val _ _ _ _ _
    unfold toV upd
    rw [if_pos hy, e0, e1, Nat.add_sub_cancel_left, Nat.zero_add]
  · rw [View.writes_cons, View.read_slice_write_of_not_mem, hD]
    · unfold toV upd; rw [if_neg hy]
    · rw [Rect.map_emb_univ, Rect.mem_set_unit]
      intro hx
      exact hy (hx 0)

end Cert.Val

end
-- ==== Proof.Steps.lean ====
/- What a tile makes of the running sums and of the two accumulated gradients, from their values before it. -/
module

public import proofs.«01_k».proof.Proof.Tiles
public import proofs.«01_k».proof.Proof.Mem

@[expose] public section

set_option maxRecDepth 16384

noncomputable section

namespace Cert.Val

open Cert.KernelIdeal Cert.KernelIdeal.Gen Idealize.ShloMosaic

theorem rsh_zero (f : ℕ → ℕ → ℝ) : rsh 0 f = f := by funext i j; simp [rsh]

/-- The running sums of a head before a column, as columns and as a matrix. -/
def cc (b : ℕ) (q k : ℕ → ℕ → ℝ) (a : ℕ) : ℕ → ℕ → ℝ := fun r _ => bC b q k r a
def pp (b : ℕ) (q o k v : ℕ → ℕ → ℝ) (l : ℕ → ℝ) (a : ℕ) : ℕ → ℕ → ℝ := fun r _ => bP b q o k v l r a
def ll (l : ℕ → ℝ) : ℕ → ℕ → ℝ := fun r _ => l r
/-- An accumulated gradient of which the first `n` rows have been added to. -/
def dd (old X : ℕ → ℕ → ℝ) (n : ℕ) : ℕ → ℕ → ℝ := fun s e => old s e + if s < n then X s e else 0

variable {n m : ℕ} {φ : FTy} {b a r0 : ℕ} {q o k v q' o' : ℕ → ℕ → ℝ} {l l' : ℕ → ℝ} {M : ℕ → ℕ → Bool}

section Whole

variable (hM : ∀ r s, s < 256 → (M r s = true ↔ a + s < b + r))
include hM

theorem whole_Cl : (toV (tCl M q (rsh a k) (cc b q k a) trI) : FVec Ideal ⟨2, ![n, 1]⟩ φ) = toV (cc b q k (a + 256)) := by
  refine ext_v _ _ fun r _ j hj => ?_
  obtain rfl : j = 0 := by omega
  have h := tile_Cl (b := b) (q := q) (k := k) (a := a) (r0 := 0) (M := M) (c := cc b q k a)
    (fun r s hs => by rw [Nat.zero_add]; exact hM r s hs) (fun r => by rw [Nat.zero_add]; rfl) r
  rw [rsh_zero, Nat.zero_add] at h
  exact h

theorem whole_Cp : (toV (tCp M q o (rsh a k) (rsh a v) (ll l) (cc b q k a) (pp b q o k v l a) trI trE) : FVec Ideal ⟨2, ![n, 1]⟩ φ)
    = toV (pp b q o k v l (a + 256)) := by
  refine ext_v _ _ fun r _ j hj => ?_
  obtain rfl : j = 0 := by omega
  have h := tile_Cp (b := b) (q := q) (o := o) (k := k) (v := v) (l := l) (a := a) (r0 := 0) (M := M) (L := ll l) (c := cc b q k a)
    (p := pp b q o k v l a) (fun r s hs => by rw [Nat.zero_add]; exact hM r s hs) (fun r => by rw [Nat.zero_add]; rfl)
    (fun r => by rw [Nat.zero_add]; rfl) (fun r => by rw [Nat.zero_add]; rfl) r
  rw [rsh_zero, rsh_zero, Nat.zero_add] at h
  exact h

theorem whole_Dq : (toV (tDq M q o (rsh a k) (rsh a v) (ll l) (cc b q k a) (pp b q o k v l a) trI trE (bDQ b q o k v l a)) : FVec Ideal ⟨2, ![n, m]⟩ φ)
    = toV (bDQ b q o k v l (a + 256)) := by
  refine ext_v _ _ fun r _ j hj => ?_
  have h := tile_Dq (b := b) (q := q) (o := o) (k := k) (v := v) (l := l) (a := a) (r0 := 0) (M := M) (L := ll l) (c := cc b q k a)
    (p := pp b q o k v l a) (d := bDQ b q o k v l a) (fun r s hs => by rw [Nat.zero_add]; exact hM r s hs) (fun r => by rw [Nat.zero_add]; rfl)
    (fun r => by rw [Nat.zero_add]; rfl) (fun r => by rw [Nat.zero_add]; rfl) (fun r e => by rw [Nat.zero_add]) r j
  rw [rsh_zero, rsh_zero, Nat.zero_add] at h
  exact h

theorem whole_DK (s e : ℕ) (hs : s < 256) :
    tDK 1024 M q o (rsh a k) (rsh a v) (ll l) (cc b q k a) (pp b q o k v l a) trI trE s e = bDK b q o k v l (a + s) e := by
  have h := tile_DK (b := b) (q := q) (o := o) (k := k) (v := v) (l := l) (a := a) (r0 := 0) (M := M) (L := ll l) (c := cc b q k a)
    (p := pp b q o k v l a) (fun r s hs => by rw [Nat.zero_add]; exact hM r s hs) (fun r => by rw [Nat.zero_add]; rfl)
    (fun r => by rw [Nat.zero_add]; rfl) (fun r => by rw [Nat.zero_add]; rfl) (n := 1024) rfl (Or.inl rfl) s e hs
  rw [rsh_zero, rsh_zero] at h
  exact h

theorem whole_DV (s e : ℕ) (hs : s < 256) :
    tDV 1024 M q o (rsh a k) (ll l) (cc b q k a) trI s e = bDV b q o k l (a + s) e := by
  have h := tile_DV (b := b) (q := q) (o := o) (k := k) (l := l) (a := a) (r0 := 0) (M := M) (L := ll l) (c := cc b q k a)
    (fun r s hs => by rw [Nat.zero_add]; exact hM r s hs) (fun r => by rw [Nat.zero_add]; rfl)
    (fun r => by rw [Nat.zero_add]; rfl) (n := 1024) rfl (Or.inl rfl) s e hs
  rw [rsh_zero, rsh_zero] at h
  exact h

end Whole

section Lower

variable (hM : ∀ r s, s < 256 → (M r s = true ↔ a + s < b + (r0 + r))) (ha : b + r0 = a)
include hM

include ha in
theorem lower_Cl : (toV (rcat r0 (cc b q k a) (tCl M (rsh r0 q) (rsh a k) (rsh r0 (cc b q k a)) trI)) : FVec Ideal ⟨2, ![n, 1]⟩ φ)
    = toV (cc b q k (a + 256)) := by
  refine ext_v _ _ fun r _ j hj => ?_
  obtain rfl : j = 0 := by omega
  unfold rcat
  split
  · exact (bC_keep (by omega)).symm
  · have h := tile_Cl (b := b) (q := q) (k := k) (a := a) (r0 := r0) (M := M) (c := rsh r0 (cc b q k a)) hM (fun r => rfl) (r - r0)
    rw [h, Nat.add_sub_cancel' (by omega)]; rfl

include ha in
theorem lower_Cp : (toV (rcat r0 (pp b q o k v l a) (tCp M (rsh r0 q) (rsh r0 o) (rsh a k) (rsh a v) (rsh r0 (ll l)) (rsh r0 (cc b q k a))
      (rsh r0 (pp b q o k v l a)) trI trE)) : FVec Ideal ⟨2, ![n, 1]⟩ φ)
    = toV (pp b q o k v l (a + 256)) := by
  refine ext_v _ _ fun r _ j hj => ?_
  obtain rfl : j = 0 := by omega
  unfold rcat
  split
  · exact (bP_keep (by omega)).symm
  · have h := tile_Cp (b := b) (q := q) (o := o) (k := k) (v := v) (l := l) (a := a) (r0 := r0) (M := M) (L := rsh r0 (ll l))
      (c := rsh r0 (cc b q k a)) (p := rsh r0 (pp b q o k v l a)) hM (fun r => rfl) (fun r => rfl) (fun r => rfl) (r - r0)
    rw [h, Nat.add_sub_cancel' (by omega)]; rfl

include ha in
theorem lower_dq (r j : ℕ) : rcat r0 (bDQ b q o k v l a) (tDq M (rsh r0 q) (rsh r0 o) (rsh a k) (rsh a v) (rsh r0 (ll l)) (rsh r0 (cc b q k a))
      (rsh r0 (pp b q o k v l a)) trI trE (rsh r0 (bDQ b q o k v l a))) r j
    = bDQ b q o k v l (a + 256) r j := by
  unfold rcat
  split
  · exact (bDQ_keep _ (by omega)).symm
  · have h := tile_Dq (b := b) (q := q) (o := o) (k := k) (v := v) (l := l) (a := a) (r0 := r0) (M := M) (L := rsh r0 (ll l))
      (c := rsh r0 (cc b q k a)) (p := rsh r0 (pp b q o k v l a)) (d := rsh r0 (bDQ b q o k v l a))
      hM (fun r => rfl) (fun r => rfl) (fun r => rfl) (fun r e => rfl) (r - r0) j
    rw [h, Nat.add_sub_cancel' (by omega)]

include ha in
theorem lower_Dq : (toV (rcat r0 (bDQ b q o k v l a) (tDq M (rsh r0 q) (rsh r0 o) (rsh a k) (rsh a v) (rsh r0 (ll l)) (rsh r0 (cc b q k a))
      (rsh r0 (pp b q o k v l a)) trI trE (rsh r0 (bDQ b q o k v l a)))) : FVec Ideal ⟨2, ![n, m]⟩ φ)
    = toV (bDQ b q o k v l (a + 256)) :=
  ext_v _ _ fun r _ j _ => lower_dq hM ha r j

theorem lower_DK (ha : b + r0 ≤ a) {w : ℕ} (hw : r0 + w = 1024) (s e : ℕ) (hs : s < 256) :
    tDK w M (rsh r0 q) (rsh r0 o) (rsh a k) (rsh a v) (rsh r0 (ll l)) (rsh r0 (cc b q k a)) (rsh r0 (pp b q o k v l a)) trI trE s e
      = bDK b q o k v l (a + s) e :=
  tile_DK (b := b) (q := q) (o := o) (k := k) (v := v) (l := l) (a := a) (r0 := r0) (M := M) (L := rsh r0 (ll l))
    (c := rsh r0 (cc b q k a)) (p := rsh r0 (pp b q o k v l a)) hM (fun r => rfl) (fun r => rfl) (fun r => rfl) hw (Or.inr ha) s e hs

theorem lower_DV (ha : b + r0 ≤ a) {w : ℕ} (hw : r0 + w = 1024) (s e : ℕ) (hs : s < 256) :
    tDV w M (rsh r0 q) (rsh r0 o) (rsh a k) (rsh r0 (ll l)) (rsh r0 (cc b q k a)) trI s e = bDV b q o k l (a + s) e :=
  tile_DV (b := b) (q := q) (o := o) (k := k) (l := l) (a := a) (r0 := r0) (M := M) (L := rsh r0 (ll l))
    (c := rsh r0 (cc b q k a)) hM (fun r => rfl) (fun r => rfl) hw (Or.inr ha) s e hs

end Lower

/-- Rows added to in a block, and the matrix with them put back. -/
theorem upd_dd {old X w : ℕ → ℕ → ℝ} (hw : ∀ s e, s < 256 → w s e = rsh a (dd old X a) s e + X (a + s) e) :
    (toV (upd a w (dd old X a)) : FVec Ideal ⟨2, ![n, m]⟩ φ) = toV (dd old X (a + 256)) := by
  refine ext_v _ _ fun s _ e _ => ?_
  unfold upd
  split
  · rename_i h
    rw [hw _ _ (by omega)]
    unfold rsh dd
    rw [Nat.add_sub_cancel' h.1, if_neg (by omega), if_pos (by omega), add_zero]
  · rename_i h
    unfold dd
    by_cases h1 : s < a
    · rw [if_pos h1, if_pos (by omega)]
    · rw [if_neg h1, if_neg (by omega)]

theorem dd_zero {old X : ℕ → ℕ → ℝ} : dd old X 0 = old := by funext s e; unfold dd; rw [if_neg (Nat.not_lt_zero s), add_zero]

end Cert.Val

end
-- ==== Proof.Base.lean ====
/- The words of the kernel's body that come before its tiles. -/
module

public import proofs.«01_k».proof.Proof.Steps
public import Idealize.ShloMosaic.Lib.WholeRead
public import proofs.«01_k».proof.Proof.Gen.KernelIdeal.Frame

@[expose] public section

set_option maxRecDepth 16384

noncomputable section

namespace Cert.Val

open Cert.KernelIdeal Cert.KernelIdeal.Gen Idealize.ShloMosaic

/-- One head's lanes of a pair. -/
def ha (f : ℕ → ℕ → ℝ) : ℕ → ℕ → ℝ := fun r d => if d < 64 then f r d else 0
def hb (f : ℕ → ℕ → ℝ) : ℕ → ℕ → ℝ := fun r d => if 64 ≤ d then f r d else 0
/-- A matrix times an eighth. -/
def eighth (f : ℕ → ℕ → ℝ) : ℕ → ℕ → ℝ := fun r d => f r d * (1 / 8)

theorem bzb {n m : ℕ} : broadcast (α := Ideal .bf16) ⟨2, ![n, m]⟩ (Scalar.ofBits (F := Ideal) .bf16 0x0000#16) = toV (fun _ _ => 0) := by
  show broadcast (α := Ideal .bf16) ⟨2, ![n, m]⟩ (FloatOps.ofBits .bf16 0x0000#16 : Ideal .bf16) = _
  rw [lit0b]; rfl
theorem b8b {n m : ℕ} : broadcast (α := Ideal .bf16) ⟨2, ![n, m]⟩ (Scalar.ofBits (F := Ideal) .bf16 0x3E00#16) = toV (fun _ _ => 1 / 8) := by
  show broadcast (α := Ideal .bf16) ⟨2, ![n, m]⟩ (FloatOps.ofBits .bf16 0x3E00#16 : Ideal .bf16) = _
  rw [lit8b]; rfl

theorem pay63_v (f : ℕ → ℕ → ℝ) : (k0_pay63 (toV (n := 1024) (m := 128) (φ := .bf16) f) : FVec Ideal S1024x128 .bf16) = toV (eighth (ha f)) := by
  simp only [k0_pay63, k0_pay62, bzb, b8b]
  rw [laneA]
  refine ((congrArg (fun x => mulf x _) (select_v (n := 1024) (m := 128) (φ := .bf16) (fun _ d => decide (d < 64)) f (fun _ _ => 0))).trans (mulf_v (n := 1024) (m := 128) (φ := .bf16) _ _)).trans (ext_v _ _ fun r _ d _ => ?_)
  unfold eighth ha; simp
theorem pay64_v (f : ℕ → ℕ → ℝ) : (k0_pay64 (toV (n := 1024) (m := 128) (φ := .bf16) f) : FVec Ideal S1024x128 .bf16) = toV (eighth (hb f)) := by
  simp only [k0_pay64, k0_pay62, bzb, b8b]
  rw [laneB]
  refine ((congrArg (fun x => mulf x _) (select_v (n := 1024) (m := 128) (φ := .bf16) (fun _ d => decide (64 ≤ d)) f (fun _ _ => 0))).trans (mulf_v (n := 1024) (m := 128) (φ := .bf16) _ _)).trans (ext_v _ _ fun r _ d _ => ?_)
  unfold eighth hb; simp
theorem pay66_v (f : ℕ → ℕ → ℝ) : (k0_pay66 (toV (n := 1024) (m := 128) (φ := .bf16) f) : Vec Ideal S1024x128 .bf16) = toV (n := 1024) (m := 128) (φ := .bf16) (ha f) := by
  simp only [k0_pay66, k0_pay65, bzb]
  rw [laneA]
  refine (select_v (n := 1024) (m := 128) (φ := .bf16) (fun _ d => decide (d < 64)) f (fun _ _ => 0)).trans (ext_v _ _ fun r _ d _ => ?_)
  unfold ha; simp
theorem pay67_v (f : ℕ → ℕ → ℝ) : (k0_pay67 (toV (n := 1024) (m := 128) (φ := .bf16) f) : Vec Ideal S1024x128 .bf16) = toV (n := 1024) (m := 128) (φ := .bf16) (hb f) := by
  simp only [k0_pay67, k0_pay65, bzb]
  rw [laneB]
  refine (select_v (n := 1024) (m := 128) (φ := .bf16) (fun _ d => decide (64 ≤ d)) f (fun _ _ => 0)).trans (ext_v _ _ fun r _ d _ => ?_)
  unfold hb; simp

/-- The row totals of a pair of heads as the kernel is given them. -/
def toT (l : ℕ → ℕ → ℝ) : FVec Ideal S1x1024x2 .f32 := fun x => ((l (x 1).val (x 2).val : ℝ) : EReal)

theorem pay68_v (l : ℕ → ℕ → ℝ) : (k0_pay68 (toT l) : FVec Ideal S1024x2 .f32) = toV l := by
  funext x; idx_vars x; pointwise [k0_pay68, toT, toV]
theorem pay69_v (l : ℕ → ℕ → ℝ) : (k0_pay69 (toT l) : FVec Ideal S1024x1 .f32) = toV (ll fun r => l r 0) := by
  simp only [k0_pay69, pay68_v, slices_S1024x2_o0_0_S1024x1_v]; rfl
theorem pay70_v (l : ℕ → ℕ → ℝ) : (k0_pay70 (toT l) : FVec Ideal S1024x1 .f32) = toV (ll fun r => l r 1) := by
  simp only [k0_pay70, pay68_v, slices_S1024x2_o0_1_S1024x1_v]; rfl
theorem pay71_v (f : ℕ → ℕ → ℝ) : (k0_pay71 (toV (φ := .bf16) f) : FVec Ideal S256x256 .bf16) = toV f := by
  funext x; idx_vars x; pointwise [k0_pay71, toV]
theorem pay72_v (f : ℕ → ℕ → ℝ) : (k0_pay72 (toV (φ := .bf16) f) : FVec Ideal S256x256 .bf16) = toV f := by
  funext x; idx_vars x; pointwise [k0_pay72, toV]
theorem pay73_v : (k0_pay73 : FVec Ideal S1024x1 .f32) = toV fun _ _ => 0 := by simp only [k0_pay73, sz]
theorem pay74_v : (k0_pay74 (FloatOps.ofBits .f32 0#32) : FVec Ideal S1024x128 .f32) = toV fun _ _ => 0 := by simp only [k0_pay74, bz]
theorem pay60_v : (k0_pay60 : FVec Ideal S8192x128 .f32) = toV fun _ _ => 0 := by simp only [k0_pay60, sz]
theorem pay61_v : (k0_pay61 : FVec Ideal S8192x128 .f32) = toV fun _ _ => 0 := by simp only [k0_pay61, sz]

theorem cc_zero {b : ℕ} {q k : ℕ → ℕ → ℝ} : cc b q k 0 = fun _ _ => 0 := by funext r j; simp [cc, bC]
theorem pp_zero {b : ℕ} {q o k v : ℕ → ℕ → ℝ} {l : ℕ → ℝ} : pp b q o k v l 0 = fun _ _ => 0 := by funext r j; simp [pp, bP]
theorem dq_zero {b : ℕ} {q o k v : ℕ → ℕ → ℝ} {l : ℕ → ℝ} : bDQ b q o k v l 0 = fun _ _ => 0 := by funext r j; simp [bDQ]

/-- A load of a whole block reads what the block holds. -/
theorem read2 {n m : ℕ} {e : EltTy} (M : Memref sig .tc .vmem ⟨2, ![n, m]⟩ e) (h : M.IsWhole)
    (x : Vec Ideal ⟨2, ![n, m]⟩ e) (hb : ∀ a, (![0, 0] : Fin 2 → ℕ) a + (⟨2, ![n, m]⟩ : Shape).size a ≤ (⟨2, ![n, m]⟩ : Shape).size a) :
    M.view.readAt (Elt Ideal) (Rect.unit (s := ⟨2, ![n, m]⟩) ![0, 0] (⟨2, ![n, m]⟩ : Shape).size hb).toLoadRect (h.unread x) = x := by
  funext y
  refine (Memref.IsWhole.readAt_unread h x _ y).trans ?_
  congr 1
  funext a
  apply Fin.ext
  refine (Rect.idx_unit_val _ _ _ _ _).trans ?_
  match a with
  | ⟨0, _⟩ => exact Nat.zero_add _
  | ⟨1, _⟩ => exact Nat.zero_add _

theorem read3 {n m p : ℕ} {e : EltTy} (M : Memref sig .tc .vmem ⟨3, ![n, m, p]⟩ e) (h : M.IsWhole)
    (x : Vec Ideal ⟨3, ![n, m, p]⟩ e) (hb : ∀ a, (![0, 0, 0] : Fin 3 → ℕ) a + (⟨3, ![n, m, p]⟩ : Shape).size a ≤ (⟨3, ![n, m, p]⟩ : Shape).size a) :
    M.view.readAt (Elt Ideal) (Rect.unit (s := ⟨3, ![n, m, p]⟩) ![0, 0, 0] (⟨3, ![n, m, p]⟩ : Shape).size hb).toLoadRect (h.unread x) = x := by
  funext y
  refine (Memref.IsWhole.readAt_unread h x _ y).trans ?_
  congr 1
  funext a
  apply Fin.ext
  refine (Rect.idx_unit_val _ _ _ _ _).trans ?_
  match a with
  | ⟨0, _⟩ => exact Nat.zero_add _
  | ⟨1, _⟩ => exact Nat.zero_add _
  | ⟨2, _⟩ => exact Nat.zero_add _

/-- A store of a whole block leaves what was stored. -/
theorem read_whole {n m : ℕ} {e : EltTy} (V : View sig .tc .vmem ⟨2, ![n, m]⟩ e) (f : V.ty.Contents (Elt Ideal))
    (x : Vec Ideal ⟨2, ![n, m]⟩ e) (hb : ∀ a, (![0, 0] : Fin 2 → ℕ) a + (⟨2, ![n, m]⟩ : Shape).size a ≤ (⟨2, ![n, m]⟩ : Shape).size a)
    (L : List (View.Piece (Elt Ideal) ⟨2, ![n, m]⟩ e)) :
    V.read (Elt Ideal) (V.writes (Elt Ideal) f (⟨Rect.unit (s := ⟨2, ![n, m]⟩) ![0, 0] (⟨2, ![n, m]⟩ : Shape).size hb, x⟩ :: L)) = x := by
  funext y
  have hy : (Rect.unit (s := ⟨2, ![n, m]⟩) ![0, 0] (⟨2, ![n, m]⟩ : Shape).size hb).emb y = y := by
    funext a
    apply Fin.ext
    refine (Rect.idx_unit_val _ _ _ _ _).trans ?_
    match a with
    | ⟨0, _⟩ => exact Nat.zero_add _
    | ⟨1, _⟩ => exact Nat.zero_add _
  have h := View.read_writes_cons_emb V f (Rect.unit (s := ⟨2, ![n, m]⟩) ![0, 0] (⟨2, ![n, m]⟩ : Shape).size hb) x L y
  rwa [hy] at h

theorem trips1 (i : grid0.Coords) : (k0_t1_loop i).trips = 4 * (i 1).val := by
  have h : ∀ x : Fin 8, Scf.trips 0#32 (Scalar.addi 0#32 (Scalar.muli (Scalar.divsi (Scalar.subi (Scalar.muli (BitVec.ofNat 32 x.val) 4#32) 0#32) 1#32) 1#32)) 1#32 = 4 * x.val := by
    decide +kernel
  exact h (i 1)

theorem trips2 (i : grid0.Coords) : (k0_t2_loop i).trips = 0 := Nat.le_zero.mp (k0_t2_abs i).2.1

end Cert.Val

end
-- ==== Proof.TileL.lean ====
/- Tiles of the kernel's body as functions of real matrices. -/
module

public import proofs.«01_k».proof.Proof.TileDefs

@[expose] public section

set_option maxRecDepth 16384

noncomputable section

namespace Cert.Val

open Cert.KernelIdeal Cert.KernelIdeal.Gen Idealize.ShloMosaic

theorem loop_cla (qa ti ca k : ℕ → ℕ → ℝ) :
    (k0_pay13 (toV (φ := .bf16) qa) (toV (φ := .bf16) ti) (toV (φ := .f32) ca) (toV (φ := .bf16) k) : FVec Ideal S1024x1 .f32)
      = toV (tCl (fun _ _ => true) qa k ca ti) := by
  simp only [k0_pay2, k0_pay3, k0_pay5, k0_pay13, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v]
  rfl

theorem loop_cpa (qa oa la ti te ca pa k v : ℕ → ℕ → ℝ) :
    (k0_pay16 (k0_pay14 (toV (φ := .bf16) qa) (toV (φ := .bf16) oa) (toV (φ := .f32) la) (toV (φ := .bf16) ti) (toV (φ := .bf16) te) (toV (φ := .f32) ca) (toV (φ := .f32) pa) (toV (φ := .bf16) k) (toV (φ := .bf16) v)) (k0_pay15 (toV (φ := .bf16) qa) (toV (φ := .bf16) oa) (toV (φ := .f32) la) (toV (φ := .bf16) ti) (toV (φ := .f32) ca) (toV (φ := .bf16) k) (toV (φ := .bf16) v)) : FVec Ideal S1024x1 .f32)
      = toV (tCp (fun _ _ => true) qa oa k v la ca pa ti te) := by
  simp only [k0_pay2, k0_pay3, k0_pay4, k0_pay5, k0_pay6, k0_pay7, k0_pay8, k0_pay9, k0_pay14, k0_pay15, k0_pay16, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v, broadcasts_S1024x1_S1024x256_v]
  rfl

theorem loop_dqa (qa oa la ti te ca pa da k v : ℕ → ℕ → ℝ) :
    (k0_pay17 (toV (φ := .f32) da) (toV (φ := .bf16) k) (k0_pay10 (toV (φ := .bf16) qa) (toV (φ := .bf16) oa) (toV (φ := .f32) la) (toV (φ := .bf16) ti) (toV (φ := .bf16) te) (toV (φ := .f32) ca) (toV (φ := .f32) pa) (toV (φ := .bf16) k) (toV (φ := .bf16) v)) : FVec Ideal S1024x128 .f32)
      = toV (tDq (fun _ _ => true) qa oa k v la ca pa ti te da) := by
  simp only [k0_pay2, k0_pay3, k0_pay4, k0_pay5, k0_pay6, k0_pay7, k0_pay8, k0_pay9, k0_pay10, k0_pay17, laneA, addf_v, subf_v, mulf_v, maximumf_v, absf_v, exp_v, log_v, truncf_v, extf_v, select_v, zc, bz, bo, b8, sz, so, s8, mm_S1024x128_S256x128_S1024x256_1_1_0_0, mm_S1024x256_S256x128_S1024x128_1_0_0_1, mm_S1024x256_S256x256_S1024x256_1_0_0_1, broadcasts_S1024x1_S1024x256_v]
  rfl

theorem loop_clb (qb ti cb k : ℕ → ℕ → ℝ) :
    (k0_pay29 (toV (φ := .bf16) qb) (toV (φ := .bf16) ti) (toV (φ := .f32) cb) (toV (φ := .bf16) k) : FVec Ideal S1024x1 .f32)
      = toV (tCl (fun _ _ => true) qb k cb ti) := by
  simp only [k0_pay18, k0_pay19, k0_pay21, k0_pay29, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v]
  rfl

theorem loop_cpb (qb ob lb ti te cb pb k v : ℕ → ℕ → ℝ) :
    (k0_pay30 (toV (φ := .bf16) qb) (toV (φ := .bf16) ob) (toV (φ := .f32) lb) (toV (φ := .bf16) ti) (toV (φ := .bf16) te) (toV (φ := .f32) cb) (toV (φ := .f32) pb) (toV (φ := .bf16) k) (toV (φ := .bf16) v) : FVec Ideal S1024x1 .f32)
      = toV (tCp (fun _ _ => true) qb ob k v lb cb pb ti te) := by
  simp only [k0_pay18, k0_pay19, k0_pay20, k0_pay21, k0_pay22, k0_pay23, k0_pay24, k0_pay25, k0_pay30, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v, broadcasts_S1024x1_S1024x256_v]
  rfl

theorem loop_dqb (qb ob lb ti te cb pb db k v : ℕ → ℕ → ℝ) :
    (k0_pay75 (toV (φ := .f32) db) (toV (φ := .bf16) k) (k0_pay26 (toV (φ := .bf16) qb) (toV (φ := .bf16) ob) (toV (φ := .f32) lb) (toV (φ := .bf16) ti) (toV (φ := .bf16) te) (toV (φ := .f32) cb) (toV (φ := .f32) pb) (toV (φ := .bf16) k) (toV (φ := .bf16) v)) (constant S1024x128 FTy.f32 0#32) : FVec Ideal S1024x128 .f32)
      = toV (tDq (fun _ _ => true) qb ob k v lb cb pb ti te db) := by
  simp only [k0_pay18, k0_pay19, k0_pay20, k0_pay21, k0_pay22, k0_pay23, k0_pay24, k0_pay25, k0_pay26, k0_pay75, laneA, addf_v, subf_v, mulf_v, maximumf_v, absf_v, exp_v, log_v, truncf_v, extf_v, select_v, zc, bz, bo, b8, sz, so, s8, mm_S1024x128_S256x128_S1024x256_1_1_0_0, mm_S1024x256_S256x128_S1024x128_1_0_0_1, mm_S1024x256_S256x256_S1024x256_1_0_0_1, broadcasts_S1024x1_S1024x256_v]
  rfl

theorem loop_dk (qa qb oa ob la lb ti te ca pa cb pb k v old : ℕ → ℕ → ℝ) :
    (k0_pay76 (k0_pay27 (toV (φ := .bf16) qb) (toV (φ := .bf16) ob) (toV (φ := .f32) lb) (toV (φ := .bf16) ti) (toV (φ := .bf16) te) (toV (φ := .f32) cb) (toV (φ := .f32) pb) (toV (φ := .bf16) k) (toV (φ := .bf16) v) (k0_pay11 (toV (φ := .bf16) qa) (toV (φ := .bf16) oa) (toV (φ := .f32) la) (toV (φ := .bf16) ti) (toV (φ := .bf16) te) (toV (φ := .f32) ca) (toV (φ := .f32) pa) (toV (φ := .bf16) k) (toV (φ := .bf16) v))) (toV (φ := .f32) old) : FVec Ideal S256x128 .f32)
      = toV (fun s d => old s d + (tDK 1024 (fun _ _ => true) qa oa k v la ca pa ti te s d + tDK 1024 (fun _ _ => true) qb ob k v lb cb pb ti te s d)) := by
  simp only [k0_pay2, k0_pay3, k0_pay4, k0_pay5, k0_pay6, k0_pay7, k0_pay8, k0_pay9, k0_pay10, k0_pay11, k0_pay18, k0_pay19, k0_pay20, k0_pay21, k0_pay22, k0_pay23, k0_pay24, k0_pay25, k0_pay26, k0_pay27, k0_pay76, laneA, addf_v, subf_v, mulf_v, maximumf_v, absf_v, exp_v, log_v, truncf_v, extf_v, select_v, zc, bz, bo, b8, sz, so, s8, mm_S1024x128_S256x128_S1024x256_1_1_0_0, mm_S1024x256_S1024x128_S256x128_0_0_1_1, mm_S1024x256_S256x256_S1024x256_1_0_0_1, broadcasts_S1024x1_S1024x256_v, shapeCasts_S256x128_v]
  rfl

theorem loop_dv (qa qb oa ob la lb ti ca cb k old : ℕ → ℕ → ℝ) :
    (k0_pay77 (k0_pay28 (toV (φ := .bf16) qb) (toV (φ := .bf16) ob) (toV (φ := .f32) lb) (toV (φ := .bf16) ti) (toV (φ := .f32) cb) (toV (φ := .bf16) k) (k0_pay12 (toV (φ := .bf16) qa) (toV (φ := .bf16) oa) (toV (φ := .f32) la) (toV (φ := .bf16) ti) (toV (φ := .f32) ca) (toV (φ := .bf16) k))) (toV (φ := .f32) old) : FVec Ideal S256x128 .f32)
      = toV (fun s d => old s d + (tDV 1024 (fun _ _ => true) qa oa k la ca ti s d + tDV 1024 (fun _ _ => true) qb ob k lb cb ti s d)) := by
  simp only [k0_pay2, k0_pay3, k0_pay4, k0_pay5, k0_pay6, k0_pay12, k0_pay18, k0_pay19, k0_pay20, k0_pay21, k0_pay22, k0_pay28, k0_pay77, laneA, addf_v, subf_v, mulf_v, maximumf_v, absf_v, exp_v, log_v, truncf_v, extf_v, select_v, zc, bz, bo, b8, sz, so, s8, mm_S1024x128_S256x128_S1024x256_1_1_0_0, mm_S1024x256_S1024x128_S256x128_0_0_1_1, mm_S1024x256_S256x256_S1024x256_1_0_0_1, broadcasts_S1024x1_S1024x256_v, shapeCasts_S256x128_v]
  rfl

end Cert.Val

end
-- ==== Proof.Loop.lean ====
/- The kernel's loop over the tiles before the diagonal. -/
module

public import proofs.«01_k».proof.Proof.Base
public import proofs.«01_k».proof.Proof.TileL

@[expose] public section

set_option maxRecDepth 16384

noncomputable section

namespace Cert.Val

open Cert.KernelIdeal Cert.KernelIdeal.Gen Idealize.ShloMosaic

/-- What a query block carries over the columns before `a`. -/
def carryV (b : ℕ) (qa oa qb ob k v : ℕ → ℕ → ℝ) (la lb : ℕ → ℝ) (a : ℕ) :
    FVec Ideal S1024x1 .f32 × FVec Ideal S1024x1 .f32 × FVec Ideal S1024x128 .f32 × FVec Ideal S1024x1 .f32 × FVec Ideal S1024x1 .f32 × FVec Ideal S1024x128 .f32 :=
  (toV (cc b qa k a), toV (pp b qa oa k v la a), toV (bDQ b qa oa k v la a),
   toV (cc b qb k a), toV (pp b qb ob k v lb a), toV (bDQ b qb ob k v lb a))
/-- What a query block adds to the gradients of the keys and of the values. -/
def dkX (b : ℕ) (qa oa qb ob k v : ℕ → ℕ → ℝ) (la lb : ℕ → ℝ) : ℕ → ℕ → ℝ :=
  fun s e => bDK b qa oa k v la s e + bDK b qb ob k v lb s e
def dvX (b : ℕ) (qa oa qb ob k : ℕ → ℕ → ℝ) (la lb : ℕ → ℝ) : ℕ → ℕ → ℝ :=
  fun s e => bDV b qa oa k la s e + bDV b qb ob k lb s e

theorem loop_inv (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole) (v33 : FVec Ideal S1024x1 .f32) (cst : Ideal .f32)
    (X3 : BufTy.Contents (Elt Ideal) arg3.view.ty) (X4 : BufTy.Contents (Elt Ideal) arg4.view.ty)
    (G10 : BufTy.Contents (Elt Ideal) arg10.view.ty) (G11 : BufTy.Contents (Elt Ideal) arg11.view.ty)
    (qa oa qb ob k v old8 old9 : ℕ → ℕ → ℝ) (la lb : ℕ → ℝ) (b : ℕ) (hb : b = 1024 * (i 1).val)
    (h3 : arg3.view.read (Elt Ideal) X3 = toV (n := 8192) (m := 128) (φ := .bf16) k)
    (h4 : arg4.view.read (Elt Ideal) X4 = toV (n := 8192) (m := 128) (φ := .bf16) v)
    (h10 : arg10.view.read (Elt Ideal) G10 = toV (n := 8192) (m := 128) (φ := .f32) old8)
    (h11 : arg11.view.read (Elt Ideal) G11 = toV (n := 8192) (m := 128) (φ := .f32) old9)
    (t : ℕ) (ht : t ≤ (k0_t1_loop i).trips) :
    (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (toV (n := 1024) (m := 128) (φ := .bf16) qa) (toV (n := 1024) (m := 128) (φ := .bf16) qb) (toV (n := 1024) (m := 128) (φ := .bf16) oa) (toV (n := 1024) (m := 128) (φ := .bf16) ob) (toV (n := 1024) (m := 1) (φ := .f32) (ll la)) (toV (n := 1024) (m := 1) (φ := .f32) (ll lb)) (toV (n := 256) (m := 256) (φ := .bf16) trI) (toV (n := 256) (m := 256) (φ := .bf16) trE) v33 cst X3 X4 G10 G11 (carryV b qa oa qb ob k v la lb 0) t).1 = carryV b qa oa qb ob k v la lb (256 * t)
    ∧ arg10.view.read (Elt Ideal) (arg10.view.writes (Elt Ideal) G10 (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (toV (n := 1024) (m := 128) (φ := .bf16) qa) (toV (n := 1024) (m := 128) (φ := .bf16) qb) (toV (n := 1024) (m := 128) (φ := .bf16) oa) (toV (n := 1024) (m := 128) (φ := .bf16) ob) (toV (n := 1024) (m := 1) (φ := .f32) (ll la)) (toV (n := 1024) (m := 1) (φ := .f32) (ll lb)) (toV (n := 256) (m := 256) (φ := .bf16) trI) (toV (n := 256) (m := 256) (φ := .bf16) trE) v33 cst X3 X4 G10 G11 (carryV b qa oa qb ob k v la lb 0) t).2.1)
        = toV (n := 8192) (m := 128) (φ := .f32) (dd old8 (dkX b qa oa qb ob k v la lb) (256 * t))
    ∧ arg11.view.read (Elt Ideal) (arg11.view.writes (Elt Ideal) G11 (st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (toV (n := 1024) (m := 128) (φ := .bf16) qa) (toV (n := 1024) (m := 128) (φ := .bf16) qb) (toV (n := 1024) (m := 128) (φ := .bf16) oa) (toV (n := 1024) (m := 128) (φ := .bf16) ob) (toV (n := 1024) (m := 1) (φ := .f32) (ll la)) (toV (n := 1024) (m := 1) (φ := .f32) (ll lb)) (toV (n := 256) (m := 256) (φ := .bf16) trI) (toV (n := 256) (m := 256) (φ := .bf16) trE) v33 cst X3 X4 G10 G11 (carryV b qa oa qb ob k v la lb 0) t).2.2)
        = toV (n := 8192) (m := 128) (φ := .f32) (dd old9 (dvX b qa oa qb ob k la lb) (256 * t)) := by
  induction t with
  | zero => exact ⟨rfl, by rw [Nat.mul_zero, dd_zero]; exact h10, by rw [Nat.mul_zero, dd_zero]; exact h11⟩
  | succ t ih =>
    have hlt : t < (k0_t1_loop i).trips := ht
    have hb' : 256 * t + 256 ≤ b := by rw [trips1] at hlt; omega
    have hs := st_k0_t1_succ (F := Ideal) Variants.none c none i arg2 harg2 arg3 harg3 arg4 harg4 arg5 harg5 arg6 harg6 arg7 harg7 arg8 harg8 arg9 harg9 arg10 harg10 arg11 harg11 (BitVec.ofNat 32 (i 1).val) (toV (n := 1024) (m := 128) (φ := .bf16) qa) (toV (n := 1024) (m := 128) (φ := .bf16) qb) (toV (n := 1024) (m := 128) (φ := .bf16) oa) (toV (n := 1024) (m := 128) (φ := .bf16) ob) (toV (n := 1024) (m := 1) (φ := .f32) (ll la)) (toV (n := 1024) (m := 1) (φ := .f32) (ll lb)) (toV (n := 256) (m := 256) (φ := .bf16) trI) (toV (n := 256) (m := 256) (φ := .bf16) trE) v33 cst X3 X4 G10 G11 (carryV b qa oa qb ob k v la lb 0) ⟨t, hlt⟩
    rw [hs]
    obtain ⟨e1, e2, e3⟩ := ih hlt.le
    generalize st_k0_t1 (F := Ideal) Variants.none c none i arg2 harg2 arg3 harg3 arg4 harg4 arg5 harg5 arg6 harg6 arg7 harg7 arg8 harg8 arg9 harg9 arg10 harg10 arg11 harg11 (BitVec.ofNat 32 (i 1).val) (toV (n := 1024) (m := 128) (φ := .bf16) qa) (toV (n := 1024) (m := 128) (φ := .bf16) qb) (toV (n := 1024) (m := 128) (φ := .bf16) oa) (toV (n := 1024) (m := 128) (φ := .bf16) ob) (toV (n := 1024) (m := 1) (φ := .f32) (ll la)) (toV (n := 1024) (m := 1) (φ := .f32) (ll lb)) (toV (n := 256) (m := 256) (φ := .bf16) trI) (toV (n := 256) (m := 256) (φ := .bf16) trE) v33 cst X3 X4 G10 G11 (carryV b qa oa qb ob k v la lb 0) t = st at e1 e2 e3 ⊢
    obtain ⟨acc, L1, L2⟩ := st
    dsimp only at e1 e2 e3 ⊢
    subst e1
    have hM : ∀ r s, s < 256 → ((fun _ _ => true : ℕ → ℕ → Bool) r s = true ↔ 256 * t + s < b + r) := fun r s _ => by
      simp; omega
    have hK := read_rowsb arg3.view X3 h3 (k0_off1_eq i ⟨t, hlt⟩) (k0_off1_inb i ⟨t, hlt⟩)
    have hV := read_rowsb arg4.view X4 h4 (k0_off1_eq i ⟨t, hlt⟩) (k0_off1_inb i ⟨t, hlt⟩)
    have hR10 := read_rows arg10.view _ e2 (k0_off1_eq i ⟨t, hlt⟩) (k0_off1_inb i ⟨t, hlt⟩)
    have hR11 := read_rows arg11.view _ e3 (k0_off1_eq i ⟨t, hlt⟩) (k0_off1_inb i ⟨t, hlt⟩)
    unfold tripR_k0_t1 trip_k0_t1
    dsimp only
    refine ⟨?_, ?_, ?_⟩
    · unfold carryV trip_k0_t1.sl.r_5 trip_k0_t1.sl.r_8 trip_k0_t1.sl.r_9 trip_k0_t1.sl.r_13 trip_k0_t1.sl.r_14 trip_k0_t1.sl.r_10
        trip_k0_t1.sl.r_2 trip_k0_t1.sl.r_6 trip_k0_t1.sl.r_7 trip_k0_t1.sl.r trip_k0_t1.sl.r_1 trip_k0_t1.sl.cst_216
      dsimp only
      simp only [hK, hV]
      rw [loop_cla, loop_cpa, loop_dqa, loop_clb, loop_cpb, loop_dqb, whole_Cl hM, whole_Cp hM, whole_Dq hM, whole_Cl hM, whole_Cp hM, whole_Dq hM]
      rfl
    · unfold carryV trip_k0_t1.sl.r_11 trip_k0_t1.sl.r_3 trip_k0_t1.sl.r trip_k0_t1.sl.r_1
      dsimp only
      simp only [hK, hV, hR10]
      rw [loop_dk]
      refine (read_upd arg10.view G10 L1 e2 (k0_off1_eq i ⟨t, hlt⟩) (k0_off1_inb i ⟨t, hlt⟩) _).trans (upd_dd fun s e hs => ?_)
      rw [whole_DK hM s e hs, whole_DK hM s e hs]; rfl
    · unfold carryV trip_k0_t1.sl.r_12 trip_k0_t1.sl.r_4 trip_k0_t1.sl.r
      dsimp only
      simp only [hK, hR11]
      rw [loop_dv]
      refine (read_upd arg11.view G11 L2 e3 (k0_off1_eq i ⟨t, hlt⟩) (k0_off1_inb i ⟨t, hlt⟩) _).trans (upd_dd fun s e hs => ?_)
      rw [whole_DV hM s e hs, whole_DV hM s e hs]; rfl

end Cert.Val

end
-- ==== Proof.Done.lean ====
/- What a query block has added once its last tile is done. -/
module

public import proofs.«01_k».proof.Proof.Loop

@[expose] public section

noncomputable section

namespace Cert.Val

open Cert.KernelIdeal Cert.KernelIdeal.Gen Idealize.ShloMosaic

/-- The gradient of a query block, its two heads side by side. -/
def dqX (b : ℕ) (qa oa qb ob k v : ℕ → ℕ → ℝ) (la lb : ℕ → ℝ) : ℕ → ℕ → ℝ :=
  fun r d => (if d < 64 then bDQ b qa oa k v la (b + 1024) r d else bDQ b qb ob k v lb (b + 1024) r d) * (1 / 8)

theorem bDK_zero {b : ℕ} {q o k v : ℕ → ℕ → ℝ} {l : ℕ → ℝ} {s e : ℕ} (h : b + 1024 ≤ s) : bDK b q o k v l s e = 0 :=
  Finset.sum_eq_zero fun r hr => by rw [bDZ_zero (by have := Finset.mem_range.mp hr; omega), zero_mul]
theorem bDV_zero {b : ℕ} {q o k : ℕ → ℕ → ℝ} {l : ℕ → ℝ} {s e : ℕ} (h : b + 1024 ≤ s) : bDV b q o k l s e = 0 :=
  Finset.sum_eq_zero fun r hr => by rw [bW_zero (by have := Finset.mem_range.mp hr; omega), zero_mul]

theorem toV_dd_dk {n m : ℕ} {φ : FTy} (b : ℕ) (qa oa qb ob k v old : ℕ → ℕ → ℝ) (la lb : ℕ → ℝ) :
    (toV (dd old (dkX b qa oa qb ob k v la lb) (b + 1024)) : FVec Ideal ⟨2, ![n, m]⟩ φ) = toV fun s e => old s e + dkX b qa oa qb ob k v la lb s e := by
  refine ext_v _ _ fun s _ e _ => ?_
  unfold dd dkX
  split
  · rfl
  · rename_i h
    rw [bDK_zero (by omega), bDK_zero (by omega)]; simp only [add_zero]

theorem toV_dd_dv {n m : ℕ} {φ : FTy} (b : ℕ) (qa oa qb ob k old : ℕ → ℕ → ℝ) (la lb : ℕ → ℝ) :
    (toV (dd old (dvX b qa oa qb ob k la lb) (b + 1024)) : FVec Ideal ⟨2, ![n, m]⟩ φ) = toV fun s e => old s e + dvX b qa oa qb ob k la lb s e := by
  refine ext_v _ _ fun s _ e _ => ?_
  unfold dd dvX
  split
  · rfl
  · rename_i h
    rw [bDV_zero (by omega), bDV_zero (by omega)]; simp only [add_zero]

end Cert.Val

end
-- ==== Proof.Final.lean ====
/- The gradients that the blocks of the kernel add up to are the gradients of the attention. -/
module

public import proofs.«01_k».proof.Proof.Model
public import proofs.«01_k».proof.Proof.Done

@[expose] public section

noncomputable section

namespace Cert.Val

open Finset

theorem lsp_neg (z : ℝ) : lsp z = z + lsp (-z) := by
  unfold lsp
  have h : (0 : ℝ) < 1 + Real.exp (-z) := by positivity
  have e : 1 + Real.exp z = Real.exp z * (1 + Real.exp (-z)) := by
    rw [mul_add, ← Real.exp_add, add_neg_cancel, Real.exp_zero]; ring
  rw [e, Real.log_mul (Real.exp_pos z).ne' h.ne', Real.log_exp]

theorem lsp_max (z : ℝ) : max z 0 + Real.log (1 + Real.exp (0 - |z|)) = lsp z := by
  rcases le_total 0 z with h | h
  · rw [max_eq_left h, abs_of_nonneg h, zero_sub, lsp_neg z]; rfl
  · rw [max_eq_right h, abs_of_nonpos h, zero_sub, neg_neg, zero_add]; rfl

/-- The two parts that a step splits a unit into. -/
theorem parts (z : ℝ) : Real.exp (-z - lsp (-z)) = 1 - Real.exp (z - lsp z) := by
  have h : (0 : ℝ) < 1 + Real.exp z := by positivity
  have e1 : -z - lsp (-z) = -lsp z := by have := lsp_neg z; linarith
  have e2 : Real.exp (-lsp z) = 1 / (1 + Real.exp z) := by
    unfold lsp; rw [Real.exp_neg, Real.exp_log h, one_div]
  rw [e1, sub_eq_add_neg z, Real.exp_add, e2]
  field_simp
  ring

/-- The part of a sum from an index on. -/
theorem sum_from (f : ℕ → ℝ) {s : ℕ} (hs : s < 8192) :
    (∑ t ∈ range 8192, if s ≤ t then f t else 0) - f s = (∑ t ∈ range 8192, f t) - ∑ t ∈ range (s + 1), f t := by
  have e : ∀ t ∈ range 8192, f t = (if s ≤ t then f t else 0) + (if t < s then f t else 0) := fun t _ => by
    by_cases h : s ≤ t
    · rw [if_pos h, if_neg (by omega), add_zero]
    · rw [if_neg h, if_pos (by omega), zero_add]
  have e2 : ∑ t ∈ range 8192, (if t < s then f t else 0) = ∑ t ∈ range s, f t := by
    rw [← sum_filter]; refine sum_congr ?_ fun _ _ => rfl; ext x; simp only [mem_filter, mem_range]; omega
  rw [sum_congr rfl e, sum_add_distrib, e2, sum_range_succ f s]; ring

/-- The part of a sum up to an index. -/
theorem sum_upto (f : ℕ → ℝ) {s : ℕ} (hs : s < 8192) :
    (∑ t ∈ range 8192, if t ≤ s then f t else 0) = ∑ t ∈ range (s + 1), f t := by
  rw [← sum_filter]; refine sum_congr ?_ fun _ _ => rfl; ext x; simp only [mem_filter, mem_range]; omega

section Head

variable {X D : ℕ → ℕ → ℝ} {h b : ℕ} {q o k v : ℕ → ℕ → ℝ} {l : ℕ → ℝ}
  (hz : ∀ r s, bZ q k r s = rz X h (b + r) s)
  (hw : ∀ r s, ∑ e ∈ range 128, o r e * v s e = rdw X D h (b + r) s)
  (hl : ∀ r, l r = ∑ s ∈ range 8192, rl X h (b + r) s)

include hz in
theorem head_K (r s : ℕ) : bK b q k r s = rl X h (b + r) s := by
  unfold bK rl
  rw [hz, lsp_max, zero_sub]

include hz hl in
theorem head_W (r s : ℕ) (hs : s < 8192) : bW b q k l r s = if s < b + r then re X h (b + r) s else 0 := by
  unfold bW
  by_cases hm : s < b + r
  · rw [if_pos hm, if_pos hm]
    unfold re bC
    rw [sum_from _ hs, hz, head_K hz, hl, sum_congr rfl fun u _ => head_K hz r u]
    congr 1
    have e : rl X h (b + r) s = -lsp (rz X h (b + r) s) := if_pos hm
    rw [e, lsp_neg (rz X h (b + r) s)]
    ring
  · rw [if_neg hm, if_neg hm]

include hz hw hl in
theorem head_G (r s : ℕ) (hs : s < 8192) : bG b q o k v l r s = rg X D h (b + r) s := by
  unfold bG rg
  rw [head_W hz hl r s hs, hw]
  by_cases hm : s < b + r
  · rw [if_pos hm, if_pos hm, mul_comm]
  · rw [if_neg hm, if_neg hm, zero_mul, zero_mul]

theorem rdz_zero {r s : ℕ} (hs : r ≤ s) : rdz X D h r s = 0 := by
  unfold rdz rg
  rw [if_neg (by omega), if_neg (by omega)]
  ring

include hz hw hl in
theorem head_DZ (r s : ℕ) (hs : s < 8192) : bDZ b q o k v l r s = rdz X D h (b + r) s := by
  by_cases hm : s < b + r
  · unfold bDZ rdz bP
    rw [if_pos hm, if_pos hm, sum_upto _ hs, hz, head_K hz, head_G hz hw hl r s hs,
      sum_congr rfl fun u hu => head_G hz hw hl r u (by have := mem_range.mp hu; omega), parts]
    have e : rl X h (b + r) s = -lsp (rz X h (b + r) s) := if_pos hm
    rw [e, ← sub_eq_add_neg]
    ring
  · rw [bDZ_zero (by omega), rdz_zero (by omega)]

end Head

theorem sum_ha (f g : ℕ → ℕ → ℝ) (r s : ℕ) : ∑ e ∈ range 128, ha f r e * g s e = ∑ d ∈ range 64, f r d * g s d := by
  rw [show (128 : ℕ) = 64 + 64 from rfl, sum_range_add, sum_congr rfl (fun d hd => by unfold ha; rw [if_pos (mem_range.mp hd)]), add_eq_left]
  exact sum_eq_zero fun d _ => by unfold ha; rw [if_neg (by omega), zero_mul]

theorem sum_hb (f g : ℕ → ℕ → ℝ) (r s : ℕ) : ∑ e ∈ range 128, hb f r e * g s e = ∑ d ∈ range 64, f r (64 + d) * g s (64 + d) := by
  rw [show (128 : ℕ) = 64 + 64 from rfl, sum_range_add, add_comm, sum_congr rfl (fun d hd => by unfold hb; rw [if_pos (show 64 ≤ 64 + d by omega)]), add_eq_left]
  exact sum_eq_zero fun d hd => by unfold hb; rw [if_neg (by have := mem_range.mp hd; omega), zero_mul]

theorem eighth_ha (f : ℕ → ℕ → ℝ) : eighth (ha f) = ha (eighth f) := by
  funext r d; unfold eighth ha; split <;> simp
theorem eighth_hb (f : ℕ → ℕ → ℝ) : eighth (hb f) = hb (eighth f) := by
  funext r d; unfold eighth hb; split <;> simp

/-- The blocks that the kernel is given for pair `p` of heads and query block `i`. -/
def xq (X : ℕ → ℕ → ℝ) (p i : ℕ) : ℕ → ℕ → ℝ := fun r e => X (1024 * i + r) (128 * p + e)
def xk (X : ℕ → ℕ → ℝ) (p : ℕ) : ℕ → ℕ → ℝ := fun s e => X s (1024 + (128 * p + e))
def xv (X : ℕ → ℕ → ℝ) (p : ℕ) : ℕ → ℕ → ℝ := fun s e => X s (2048 + (128 * p + e))
def xl (X : ℕ → ℕ → ℝ) (p i : ℕ) : ℕ → ℕ → ℝ := fun r k => ∑ s ∈ range 8192, rl X (2 * p + k) (1024 * i + r) s

/-- What the kernel leaves for pair `p` of heads and query block `i`. -/
def gq (X D : ℕ → ℕ → ℝ) (p i : ℕ) : ℕ → ℕ → ℝ :=
  dqX (1024 * i) (eighth (ha (xq X p i))) (ha (xq D p i)) (eighth (hb (xq X p i))) (hb (xq D p i)) (xk X p) (xv X p)
    (fun r => xl X p i r 0) (fun r => xl X p i r 1)
def gk (X D : ℕ → ℕ → ℝ) (p i : ℕ) : ℕ → ℕ → ℝ :=
  dkX (1024 * i) (eighth (ha (xq X p i))) (ha (xq D p i)) (eighth (hb (xq X p i))) (hb (xq D p i)) (xk X p) (xv X p)
    (fun r => xl X p i r 0) (fun r => xl X p i r 1)
def gv (X D : ℕ → ℕ → ℝ) (p i : ℕ) : ℕ → ℕ → ℝ :=
  dvX (1024 * i) (eighth (ha (xq X p i))) (ha (xq D p i)) (eighth (hb (xq X p i))) (hb (xq D p i)) (xk X p)
    (fun r => xl X p i r 0) (fun r => xl X p i r 1)

variable (X D : ℕ → ℕ → ℝ) (p i : ℕ)

theorem zA (r s : ℕ) : bZ (eighth (ha (xq X p i))) (xk X p) r s = rz X (2 * p) (1024 * i + r) s := by
  unfold bZ; rw [eighth_ha, sum_ha]
  unfold rz rq rk eighth xq xk
  refine sum_congr rfl fun d _ => ?_
  rw [show 64 * (2 * p) + d = 128 * p + d by omega]
theorem zB (r s : ℕ) : bZ (eighth (hb (xq X p i))) (xk X p) r s = rz X (2 * p + 1) (1024 * i + r) s := by
  unfold bZ; rw [eighth_hb, sum_hb]
  unfold rz rq rk eighth xq xk
  refine sum_congr rfl fun d _ => ?_
  rw [show 64 * (2 * p + 1) + d = 128 * p + (64 + d) by omega]
theorem wA (r s : ℕ) : ∑ e ∈ range 128, ha (xq D p i) r e * xv X p s e = rdw X D (2 * p) (1024 * i + r) s := by
  rw [sum_ha]
  unfold rdw ro rv xq xv
  refine sum_congr rfl fun d _ => ?_
  rw [show 64 * (2 * p) + d = 128 * p + d by omega]
theorem wB (r s : ℕ) : ∑ e ∈ range 128, hb (xq D p i) r e * xv X p s e = rdw X D (2 * p + 1) (1024 * i + r) s := by
  rw [sum_hb]
  unfold rdw ro rv xq xv
  refine sum_congr rfl fun d _ => ?_
  rw [show 64 * (2 * p + 1) + d = 128 * p + (64 + d) by omega]

theorem dzA (r s : ℕ) (hs : s < 8192) :
    bDZ (1024 * i) (eighth (ha (xq X p i))) (ha (xq D p i)) (xk X p) (xv X p) (fun r => xl X p i r 0) r s = rdz X D (2 * p) (1024 * i + r) s :=
  head_DZ (zA X p i) (wA X D p i) (fun _ => rfl) r s hs
theorem dzB (r s : ℕ) (hs : s < 8192) :
    bDZ (1024 * i) (eighth (hb (xq X p i))) (hb (xq D p i)) (xk X p) (xv X p) (fun r => xl X p i r 1) r s = rdz X D (2 * p + 1) (1024 * i + r) s :=
  head_DZ (zB X p i) (wB X D p i) (fun _ => rfl) r s hs
theorem wwA (r s : ℕ) (hs : s < 8192) :
    bW (1024 * i) (eighth (ha (xq X p i))) (xk X p) (fun r => xl X p i r 0) r s = if s < 1024 * i + r then re X (2 * p) (1024 * i + r) s else 0 :=
  head_W (zA X p i) (fun _ => rfl) r s hs
theorem wwB (r s : ℕ) (hs : s < 8192) :
    bW (1024 * i) (eighth (hb (xq X p i))) (xk X p) (fun r => xl X p i r 1) r s = if s < 1024 * i + r then re X (2 * p + 1) (1024 * i + r) s else 0 :=
  head_W (zB X p i) (fun _ => rfl) r s hs

theorem headA {e : ℕ} (he : e < 64) : (128 * p + e) / 64 = 2 * p ∧ (128 * p + e) % 64 = e := by omega
theorem headB {e : ℕ} (he : ¬e < 64) (h2 : e < 128) : (128 * p + e) / 64 = 2 * p + 1 ∧ 64 * (2 * p + 1) + (128 * p + e) % 64 = 128 * p + e := by omega

/-- A sum over the first `n` of the columns, of terms that vanish from there on, is the whole sum. -/
theorem sum_stop (f : ℕ → ℝ) {n : ℕ} (hn : n ≤ 8192) (hf : ∀ s, n ≤ s → f s = 0) : ∑ s ∈ range n, f s = ∑ s ∈ range 8192, f s :=
  sum_subset (range_mono hn) fun x _ h => hf x (by simpa using h)

theorem gq_eq (hi : i < 8) {r e : ℕ} (hr : r < 1024) (he : e < 128) :
    gq X D p i r e = rdq X D ((128 * p + e) / 64) (1024 * i + r) ((128 * p + e) % 64) := by
  unfold gq dqX rdq
  refine congrArg (fun x : ℝ => x * (1 / 8)) ?_
  by_cases h : e < 64
  · rw [if_pos h, (headA p h).1, (headA p h).2]
    unfold bDQ
    rw [sum_congr rfl fun s hs => by rw [dzA X D p i r s (by have := mem_range.mp hs; omega)],
      sum_stop _ (by omega) (fun s hs => by rw [rdz_zero (by omega), zero_mul])]
    unfold rk xk
    refine sum_congr rfl fun s _ => ?_
    rw [show 64 * (2 * p) + e = 128 * p + e by omega]
  · rw [if_neg h, (headB p h he).1]
    unfold bDQ
    rw [sum_congr rfl fun s hs => by rw [dzB X D p i r s (by have := mem_range.mp hs; omega)],
      sum_stop _ (by omega) (fun s hs => by rw [rdz_zero (by omega), zero_mul])]
    unfold rk xk
    refine sum_congr rfl fun s _ => ?_
    rw [(headB p h he).2]

theorem gk_eq {s e : ℕ} (hs : s < 8192) (he : e < 128) :
    gk X D p i s e = ∑ r ∈ range 1024, rdz X D ((128 * p + e) / 64) (1024 * i + r) s * rq X ((128 * p + e) / 64) (1024 * i + r) ((128 * p + e) % 64) := by
  unfold gk dkX bDK
  by_cases h : e < 64
  · rw [(headA p h).1, (headA p h).2, add_eq_left.mpr (sum_eq_zero fun r _ => by rw [eighth_hb]; unfold hb; rw [if_neg (by omega), mul_zero])]
    refine sum_congr rfl fun r _ => ?_
    rw [dzA X D p i r s hs, eighth_ha]
    unfold ha; rw [if_pos h]
    unfold rq eighth xq
    rw [show 64 * (2 * p) + e = 128 * p + e by omega]
  · rw [(headB p h he).1, add_eq_right.mpr (sum_eq_zero fun r _ => by rw [eighth_ha]; unfold ha; rw [if_neg h, mul_zero])]
    refine sum_congr rfl fun r _ => ?_
    rw [dzB X D p i r s hs, eighth_hb]
    unfold hb; rw [if_pos (show 64 ≤ e by omega)]
    unfold rq eighth xq
    rw [(headB p h he).2]

theorem gv_eq {s e : ℕ} (hs : s < 8192) (he : e < 128) :
    gv X D p i s e = ∑ r ∈ range 1024, ro D ((128 * p + e) / 64) (1024 * i + r) ((128 * p + e) % 64) *
      (if s < 1024 * i + r then re X ((128 * p + e) / 64) (1024 * i + r) s else 0) := by
  unfold gv dvX bDV
  by_cases h : e < 64
  · rw [(headA p h).1, (headA p h).2, add_eq_left.mpr (sum_eq_zero fun r _ => by unfold hb; rw [if_neg (by omega), mul_zero])]
    refine sum_congr rfl fun r _ => ?_
    rw [wwA X p i r s hs]
    unfold ha; rw [if_pos h, mul_comm]
    unfold ro xq
    rw [show 64 * (2 * p) + e = 128 * p + e by omega]
  · rw [(headB p h he).1, add_eq_right.mpr (sum_eq_zero fun r _ => by unfold ha; rw [if_neg h, mul_zero])]
    refine sum_congr rfl fun r _ => ?_
    rw [wwB X p i r s hs]
    unfold hb; rw [if_pos (show 64 ≤ e by omega), mul_comm]
    unfold ro xq
    rw [(headB p h he).2]

/-- A sum over the rows, block by block. -/
theorem sum_rows (f : ℕ → ℝ) (n : ℕ) : ∑ i ∈ range n, ∑ r ∈ range 1024, f (1024 * i + r) = ∑ r ∈ range (1024 * n), f r := by
  induction n with
  | zero => simp
  | succ n ih => rw [sum_range_succ, ih, Nat.mul_succ, sum_range_add]

theorem gk_sum {s e : ℕ} (hs : s < 8192) (he : e < 128) :
    ∑ i ∈ range 8, gk X D p i s e = rdk X D ((128 * p + e) / 64) s ((128 * p + e) % 64) := by
  unfold rdk
  rw [sum_congr rfl fun i _ => gk_eq X D p i hs he]
  exact sum_rows (fun r => rdz X D ((128 * p + e) / 64) r s * rq X ((128 * p + e) / 64) r ((128 * p + e) % 64)) 8

theorem gv_sum {s e : ℕ} (hs : s < 8192) (he : e < 128) :
    ∑ i ∈ range 8, gv X D p i s e = rdv X D ((128 * p + e) / 64) s ((128 * p + e) % 64) := by
  unfold rdv
  rw [sum_congr rfl fun i _ => gv_eq X D p i hs he]
  exact sum_rows (fun r => ro D ((128 * p + e) / 64) r ((128 * p + e) % 64) * (if s < r then re X ((128 * p + e) / 64) r s else 0)) 8

end Cert.Val

end
-- ==== Proof.Tile0.lean ====
/- Tiles of the kernel's body as functions of real matrices. -/
module

public import proofs.«01_k».proof.Proof.TileDefs

@[expose] public section

set_option maxRecDepth 16384

noncomputable section

namespace Cert.Val

open Cert.KernelIdeal Cert.KernelIdeal.Gen Idealize.ShloMosaic

theorem tile0_cla (i : ℕ) (hi : i < 8) (qa ti ca k : ℕ → ℕ → ℝ) :
    (k0_pay95 (toV (φ := .bf16) ti) (toV (φ := .f32) ca) (k0_pay82 (toV (φ := .bf16) qa) (toV (φ := .bf16) k)) (k0_pay83 (BitVec.ofNat 32 i)) k0_pay84 : FVec Ideal S1024x1 .f32)
      = toV (tCl (tM ((i * 4 + 0) * 256) (i * 1024 + 0)) qa k ca ti) := by
  have hm := mask_1024 ((i * 4 + 0) * 256) (i * 1024 + 0) (by omega) (by omega)
  simp only [k0_pay81, k0_pay82, k0_pay83, k0_pay84, k0_pay85, k0_pay87, k0_pay95, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v]
  rfl

theorem tile0_cpa (i : ℕ) (hi : i < 8) (qa oa la ti te ca pa k v : ℕ → ℕ → ℝ) :
    (k0_pay96 (toV (φ := .bf16) oa) (toV (φ := .f32) la) (toV (φ := .bf16) ti) (toV (φ := .bf16) te) (toV (φ := .f32) ca) (toV (φ := .f32) pa) (toV (φ := .bf16) v) (k0_pay81 (toV (φ := .bf16) qa) (toV (φ := .bf16) k)) (k0_pay82 (toV (φ := .bf16) qa) (toV (φ := .bf16) k)) (k0_pay83 (BitVec.ofNat 32 i)) k0_pay84 : FVec Ideal S1024x1 .f32)
      = toV (tCp (tM ((i * 4 + 0) * 256) (i * 1024 + 0)) qa oa k v la ca pa ti te) := by
  have hm := mask_1024 ((i * 4 + 0) * 256) (i * 1024 + 0) (by omega) (by omega)
  simp only [k0_pay81, k0_pay82, k0_pay83, k0_pay84, k0_pay85, k0_pay86, k0_pay87, k0_pay88, k0_pay89, k0_pay90, k0_pay91, k0_pay96, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v, broadcasts_S1024x1_S1024x256_v]
  rfl

theorem tile0_dqa (i : ℕ) (hi : i < 8) (qa oa la ti te ca pa da k v : ℕ → ℕ → ℝ) :
    (k0_pay97 (toV (φ := .bf16) oa) (toV (φ := .f32) la) (toV (φ := .bf16) ti) (toV (φ := .bf16) te) (toV (φ := .f32) ca) (toV (φ := .f32) pa) (toV (φ := .f32) da) (toV (φ := .bf16) k) (toV (φ := .bf16) v) (k0_pay81 (toV (φ := .bf16) qa) (toV (φ := .bf16) k)) (k0_pay82 (toV (φ := .bf16) qa) (toV (φ := .bf16) k)) (k0_pay83 (BitVec.ofNat 32 i)) k0_pay84 : FVec Ideal S1024x128 .f32)
      = toV (tDq (tM ((i * 4 + 0) * 256) (i * 1024 + 0)) qa oa k v la ca pa ti te da) := by
  have hm := mask_1024 ((i * 4 + 0) * 256) (i * 1024 + 0) (by omega) (by omega)
  simp only [k0_pay81, k0_pay82, k0_pay83, k0_pay84, k0_pay85, k0_pay86, k0_pay87, k0_pay88, k0_pay89, k0_pay90, k0_pay91, k0_pay92, k0_pay97, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S256x128_S1024x128_1_0_0_1, mm_S1024x256_S256x256_S1024x256_1_0_0_1, broadcasts_S1024x1_S1024x256_v]
  rfl

theorem tile0_clb (i : ℕ) (hi : i < 8) (qb ti cb k : ℕ → ℕ → ℝ) :
    (k0_pay111 (BitVec.ofNat 32 i) (toV (φ := .bf16) ti) (toV (φ := .f32) cb) (Scalar.addi (Scalar.muli (BitVec.ofNat 32 i) 4#32) 0#32) (k0_pay99 (toV (φ := .bf16) qb) (toV (φ := .bf16) k)) (FloatOps.ofBits FTy.f32 0#32) : FVec Ideal S1024x1 .f32)
      = toV (tCl (tM ((i * 4 + 0) * 256) (i * 1024 + 0)) qb k cb ti) := by
  have hm := mask_1024 ((i * 4 + 0) * 256) (i * 1024 + 0) (by omega) (by omega)
  simp only [k0_pay98, k0_pay99, k0_pay100, k0_pay101, k0_pay103, k0_pay111, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v]
  rfl

theorem tile0_cpb (i : ℕ) (hi : i < 8) (qb ob lb ti te cb pb k v : ℕ → ℕ → ℝ) :
    (k0_pay112 (BitVec.ofNat 32 i) (toV (φ := .bf16) ob) (toV (φ := .f32) lb) (toV (φ := .bf16) ti) (toV (φ := .bf16) te) (toV (φ := .f32) cb) (toV (φ := .f32) pb) (Scalar.addi (Scalar.muli (BitVec.ofNat 32 i) 4#32) 0#32) (toV (φ := .bf16) v) (k0_pay98 (toV (φ := .bf16) qb) (toV (φ := .bf16) k)) (k0_pay99 (toV (φ := .bf16) qb) (toV (φ := .bf16) k)) (FloatOps.ofBits FTy.f32 0#32) : FVec Ideal S1024x1 .f32)
      = toV (tCp (tM ((i * 4 + 0) * 256) (i * 1024 + 0)) qb ob k v lb cb pb ti te) := by
  have hm := mask_1024 ((i * 4 + 0) * 256) (i * 1024 + 0) (by omega) (by omega)
  simp only [k0_pay98, k0_pay99, k0_pay100, k0_pay101, k0_pay102, k0_pay103, k0_pay104, k0_pay105, k0_pay106, k0_pay107, k0_pay112, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S256x256_S1024x256_1_0_0_1, slices_S1024x256_o0_255_S1024x1_v, broadcasts_S1024x1_S1024x256_v]
  rfl

theorem tile0_dqb (i : ℕ) (hi : i < 8) (qb ob lb ti te cb pb db k v : ℕ → ℕ → ℝ) :
    (k0_pay113 (toV (φ := .f32) db) (toV (φ := .bf16) k) (k0_pay108 (BitVec.ofNat 32 i) (toV (φ := .bf16) ob) (toV (φ := .f32) lb) (toV (φ := .bf16) ti) (toV (φ := .bf16) te) (toV (φ := .f32) cb) (toV (φ := .f32) pb) (Scalar.addi (Scalar.muli (BitVec.ofNat 32 i) 4#32) 0#32) (toV (φ := .bf16) v) (k0_pay98 (toV (φ := .bf16) qb) (toV (φ := .bf16) k)) (k0_pay99 (toV (φ := .bf16) qb) (toV (φ := .bf16) k)) (FloatOps.ofBits FTy.f32 0#32)) : FVec Ideal S1024x128 .f32)
      = toV (tDq (tM ((i * 4 + 0) * 256) (i * 1024 + 0)) qb ob k v lb cb pb ti te db) := by
  have hm := mask_1024 ((i * 4 + 0) * 256) (i * 1024 + 0) (by omega) (by omega)
  simp only [k0_pay98, k0_pay99, k0_pay100, k0_pay101, k0_pay102, k0_pay103, k0_pay104, k0_pay105, k0_pay106, k0_pay107, k0_pay108, k0_pay113, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S256x128_S1024x128_1_0_0_1, mm_S1024x256_S256x256_S1024x256_1_0_0_1, broadcasts_S1024x1_S1024x256_v]
  rfl

theorem tile0_dk (i : ℕ) (hi : i < 8) (qa qb oa ob la lb ti te ca pa cb pb k v old : ℕ → ℕ → ℝ) :
    (k0_pay114 (k0_pay109 (BitVec.ofNat 32 i) (toV (φ := .bf16) qb) (toV (φ := .bf16) ob) (toV (φ := .f32) lb) (toV (φ := .bf16) ti) (toV (φ := .bf16) te) (toV (φ := .f32) cb) (toV (φ := .f32) pb) (Scalar.addi (Scalar.muli (BitVec.ofNat 32 i) 4#32) 0#32) (toV (φ := .bf16) v) (k0_pay93 (toV (φ := .bf16) qa) (toV (φ := .bf16) oa) (toV (φ := .f32) la) (toV (φ := .bf16) ti) (toV (φ := .bf16) te) (toV (φ := .f32) ca) (toV (φ := .f32) pa) (toV (φ := .bf16) v) (k0_pay81 (toV (φ := .bf16) qa) (toV (φ := .bf16) k)) (k0_pay82 (toV (φ := .bf16) qa) (toV (φ := .bf16) k)) (k0_pay83 (BitVec.ofNat 32 i)) k0_pay84) (k0_pay98 (toV (φ := .bf16) qb) (toV (φ := .bf16) k)) (k0_pay99 (toV (φ := .bf16) qb) (toV (φ := .bf16) k)) (FloatOps.ofBits FTy.f32 0#32)) (toV (φ := .f32) old) : FVec Ideal S256x128 .f32)
      = toV (fun s d => old s d + (tDK 1024 (tM ((i * 4 + 0) * 256) (i * 1024 + 0)) qa oa k v la ca pa ti te s d + tDK 1024 (tM ((i * 4 + 0) * 256) (i * 1024 + 0)) qb ob k v lb cb pb ti te s d)) := by
  have hm := mask_1024 ((i * 4 + 0) * 256) (i * 1024 + 0) (by omega) (by omega)
  simp only [k0_pay81, k0_pay82, k0_pay83, k0_pay84, k0_pay85, k0_pay86, k0_pay87, k0_pay88, k0_pay89, k0_pay90, k0_pay91, k0_pay92, k0_pay93, k0_pay98, k0_pay99, k0_pay100, k0_pay101, k0_pay102, k0_pay103, k0_pay104, k0_pay105, k0_pay106, k0_pay107, k0_pay108, k0_pay109, k0_pay114, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S1024x128_S256x128_0_0_1_1, mm_S1024x256_S256x256_S1024x256_1_0_0_1, broadcasts_S1024x1_S1024x256_v, shapeCasts_S256x128_v]
  rfl

theorem tile0_dv (i : ℕ) (hi : i < 8) (qa qb oa ob la lb ti ca cb k old : ℕ → ℕ → ℝ) :
    (k0_pay115 (k0_pay110 (BitVec.ofNat 32 i) (toV (φ := .bf16) ob) (toV (φ := .f32) lb) (toV (φ := .bf16) ti) (toV (φ := .f32) cb) (Scalar.addi (Scalar.muli (BitVec.ofNat 32 i) 4#32) 0#32) (k0_pay94 (toV (φ := .bf16) oa) (toV (φ := .f32) la) (toV (φ := .bf16) ti) (toV (φ := .f32) ca) (k0_pay81 (toV (φ := .bf16) qa) (toV (φ := .bf16) k)) (k0_pay82 (toV (φ := .bf16) qa) (toV (φ := .bf16) k)) (k0_pay83 (BitVec.ofNat 32 i)) k0_pay84) (k0_pay98 (toV (φ := .bf16) qb) (toV (φ := .bf16) k)) (k0_pay99 (toV (φ := .bf16) qb) (toV (φ := .bf16) k)) (FloatOps.ofBits FTy.f32 0#32)) (toV (φ := .f32) old) : FVec Ideal S256x128 .f32)
      = toV (fun s d => old s d + (tDV 1024 (tM ((i * 4 + 0) * 256) (i * 1024 + 0)) qa oa k la ca ti s d + tDV 1024 (tM ((i * 4 + 0) * 256) (i * 1024 + 0)) qb ob k lb cb ti s d)) := by
  have hm := mask_1024 ((i * 4 + 0) * 256) (i * 1024 + 0) (by omega) (by omega)
  simp only [k0_pay81, k0_pay82, k0_pay83, k0_pay84, k0_pay85, k0_pay86, k0_pay87, k0_pay88, k0_pay94, k0_pay98, k0_pay99, k0_pay100, k0_pay101, k0_pay102, k0_pay103, k0_pay104, k0_pay110, k0_pay115, muli_n, addi_n, hm, laneA, addf_v, subf_v, mulf_v, maximumf_v, absf_v, exp_v, log_v, truncf_v, extf_v, select_v, zc, bz, bo, b8, sz, so, s8, mm_S1024x128_S256x128_S1024x256_1_1_0_0, mm_S1024x256_S1024x128_S256x128_0_0_1_1, mm_S1024x256_S256x256_S1024x256_1_0_0_1, broadcasts_S1024x1_S1024x256_v, shapeCasts_S256x128_v]
  rfl

end Cert.Val

end
-- ==== Proof.Tile1.lean ====
/- Tiles of the kernel's body as functions of real matrices. -/
module

public import proofs.«01_k».proof.Proof.TileDefs

@[expose] public section

set_option maxRecDepth 16384

noncomputable section

namespace Cert.Val

open Cert.KernelIdeal Cert.KernelIdeal.Gen Idealize.ShloMosaic

theorem tile1_cla (i : ℕ) (hi : i < 8) (qa ti ca k : ℕ → ℕ → ℝ) :
    (k0_pay135 (k0_pay131 (toV (φ := .bf16) ti) (toV (φ := .f32) ca) (k0_pay119 (toV (φ := .bf16) qa) (toV (φ := .bf16) k)) (Scalar.addi (Scalar.muli (BitVec.ofNat 32 i) 1024#32) 256#32) (Scalar.muli (Scalar.addi (Scalar.muli (BitVec.ofNat 32 i) 4#32) 1#32) 256#32)) (k0_pay134 (toV (φ := .f32) ca)) : FVec Ideal S1024x1 .f32)
      = toV (rcat 256 ca (tCl (tM ((i * 4 + 1) * 256) (i * 1024 + 256)) (rsh 256 qa) k (rsh 256 ca) ti)) := by
  have hm := mask_768 ((i * 4 + 1) * 256) (i * 1024 + 256) (by omega) (by omega)
  simp only [k0_pay116, k0_pay118, k0_pay119, k0_pay120, k0_pay121, k0_pay123, k0_pay131, k0_pay134, k0_pay135, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x256_S768x256_1_0_0_1, slices_S1024x128_o256_0_S768x128_v, slices_S1024x1_o0_0_S256x1_v, slices_S1024x1_o256_0_S768x1_v, slices_S768x256_o0_255_S768x1_v, concatenates_S256x1_S768x1_S1024x1_d0_d, concatenates_S256x1_S768x1_S1024x1_d0_v]
  rfl

theorem tile1_cpa (i : ℕ) (hi : i < 8) (qa oa la ti te ca pa k v : ℕ → ℕ → ℝ) :
    (k0_pay136 (toV (φ := .f32) pa) (k0_pay132 (toV (φ := .f32) la) (toV (φ := .bf16) ti) (toV (φ := .bf16) te) (toV (φ := .f32) ca) (toV (φ := .f32) pa) (toV (φ := .bf16) v) (k0_pay117 (toV (φ := .bf16) oa)) (k0_pay118 (toV (φ := .bf16) qa) (toV (φ := .bf16) k)) (k0_pay119 (toV (φ := .bf16) qa) (toV (φ := .bf16) k)) (Scalar.addi (Scalar.muli (BitVec.ofNat 32 i) 1024#32) 256#32) (Scalar.muli (Scalar.addi (Scalar.muli (BitVec.ofNat 32 i) 4#32) 1#32) 256#32)) : FVec Ideal S1024x1 .f32)
      = toV (rcat 256 pa (tCp (tM ((i * 4 + 1) * 256) (i * 1024 + 256)) (rsh 256 qa) (rsh 256 oa) k v (rsh 256 la) (rsh 256 ca) (rsh 256 pa) ti te)) := by
  have hm := mask_768 ((i * 4 + 1) * 256) (i * 1024 + 256) (by omega) (by omega)
  simp only [k0_pay116, k0_pay117, k0_pay118, k0_pay119, k0_pay120, k0_pay121, k0_pay122, k0_pay123, k0_pay124, k0_pay125, k0_pay126, k0_pay127, k0_pay132, k0_pay136, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x256_S768x256_1_0_0_1, slices_S1024x128_o256_0_S768x128_v, slices_S1024x1_o0_0_S256x1_v, slices_S1024x1_o256_0_S768x1_v, slices_S768x256_o0_255_S768x1_v, broadcasts_S768x1_S768x256_v, concatenates_S256x1_S768x1_S1024x1_d0_d, concatenates_S256x1_S768x1_S1024x1_d0_v]
  rfl

theorem tile1_dqa (i : ℕ) (hi : i < 8) (qa oa la ti te ca pa da k v : ℕ → ℕ → ℝ) :
    (k0_pay137 (toV (φ := .f32) da) (k0_pay133 (toV (φ := .f32) la) (toV (φ := .bf16) ti) (toV (φ := .bf16) te) (toV (φ := .f32) ca) (toV (φ := .f32) pa) (toV (φ := .f32) da) (toV (φ := .bf16) k) (toV (φ := .bf16) v) (k0_pay117 (toV (φ := .bf16) oa)) (k0_pay118 (toV (φ := .bf16) qa) (toV (φ := .bf16) k)) (k0_pay119 (toV (φ := .bf16) qa) (toV (φ := .bf16) k)) (Scalar.addi (Scalar.muli (BitVec.ofNat 32 i) 1024#32) 256#32) (Scalar.muli (Scalar.addi (Scalar.muli (BitVec.ofNat 32 i) 4#32) 1#32) 256#32)) : FVec Ideal S1024x128 .f32)
      = toV (rcat 256 da (tDq (tM ((i * 4 + 1) * 256) (i * 1024 + 256)) (rsh 256 qa) (rsh 256 oa) k v (rsh 256 la) (rsh 256 ca) (rsh 256 pa) ti te (rsh 256 da))) := by
  have hm := mask_768 ((i * 4 + 1) * 256) (i * 1024 + 256) (by omega) (by omega)
  simp only [k0_pay116, k0_pay117, k0_pay118, k0_pay119, k0_pay120, k0_pay121, k0_pay122, k0_pay123, k0_pay124, k0_pay125, k0_pay126, k0_pay127, k0_pay128, k0_pay133, k0_pay137, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x128_S768x128_1_0_0_1, mm_S768x256_S256x256_S768x256_1_0_0_1, slices_S1024x128_o0_0_S256x128_v, slices_S1024x128_o256_0_S768x128_v, slices_S1024x1_o256_0_S768x1_v, broadcasts_S768x1_S768x256_v, concatenates_S256x128_S768x128_S1024x128_d0_d, concatenates_S256x128_S768x128_S1024x128_d0_v]
  rfl

theorem tile1_clb (i : ℕ) (hi : i < 8) (qb ti cb k : ℕ → ℕ → ℝ) :
    (k0_pay151 (toV (φ := .f32) cb) (k0_pay145 (BitVec.ofNat 32 i) (toV (φ := .bf16) qb) (toV (φ := .bf16) ti) (Scalar.addi (Scalar.muli (BitVec.ofNat 32 i) 4#32) 1#32) (toV (φ := .bf16) k)) : FVec Ideal S1024x1 .f32)
      = toV (rcat 256 cb (tCl (tM ((i * 4 + 1) * 256) (i * 1024 + 256)) (rsh 256 qb) k (rsh 256 cb) ti)) := by
  have hm := mask_768 ((i * 4 + 1) * 256) (i * 1024 + 256) (by omega) (by omega)
  simp only [k0_pay138, k0_pay140, k0_pay141, k0_pay142, k0_pay144, k0_pay145, k0_pay151, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x256_S768x256_1_0_0_1, slices_S1024x128_o256_0_S768x128_v, slices_S1024x1_o0_0_S256x1_v, slices_S1024x1_o256_0_S768x1_v, slices_S768x256_o0_255_S768x1_v, concatenates_S256x1_S768x1_S1024x1_d0_d, concatenates_S256x1_S768x1_S1024x1_d0_v]
  rfl

theorem tile1_cpb (i : ℕ) (hi : i < 8) (qb ob lb ti te cb pb k v : ℕ → ℕ → ℝ) :
    (k0_pay152 (toV (φ := .bf16) te) (toV (φ := .f32) pb) (k0_pay148 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 1#32) (toV (φ := .bf16) k) (toV (φ := .bf16) v)) : FVec Ideal S1024x1 .f32)
      = toV (rcat 256 pb (tCp (tM ((i * 4 + 1) * 256) (i * 1024 + 256)) (rsh 256 qb) (rsh 256 ob) k v (rsh 256 lb) (rsh 256 cb) (rsh 256 pb) ti te)) := by
  have hm := mask_768 ((i * 4 + 1) * 256) (i * 1024 + 256) (by omega) (by omega)
  simp only [k0_pay138, k0_pay139, k0_pay140, k0_pay141, k0_pay142, k0_pay143, k0_pay144, k0_pay146, k0_pay147, k0_pay148, k0_pay149, k0_pay152, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x256_S768x256_1_0_0_1, slices_S1024x128_o256_0_S768x128_v, slices_S1024x1_o0_0_S256x1_v, slices_S1024x1_o256_0_S768x1_v, slices_S768x256_o0_255_S768x1_v, broadcasts_S768x1_S768x256_v, concatenates_S256x1_S768x1_S1024x1_d0_d, concatenates_S256x1_S768x1_S1024x1_d0_v]
  rfl

theorem tile1_dqb (i : ℕ) (hi : i < 8) (qb ob lb ti te cb pb db k v : ℕ → ℕ → ℝ) :
    (k0_pay153 (toV (φ := .bf16) te) (toV (φ := .f32) pb) (toV (φ := .f32) db) (toV (φ := .bf16) k) (k0_pay141 (BitVec.ofNat 32 i) (Scalar.addi (Scalar.muli (BitVec.ofNat 32 i) 4#32) 1#32)) (k0_pay143 (BitVec.ofNat 32 i) (toV (φ := .bf16) qb) (Scalar.addi (Scalar.muli (BitVec.ofNat 32 i) 4#32) 1#32) (toV (φ := .bf16) k)) (k0_pay147 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 1#32) (toV (φ := .bf16) k) (toV (φ := .bf16) v)) (k0_pay148 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 1#32) (toV (φ := .bf16) k) (toV (φ := .bf16) v)) : FVec Ideal S1024x128 .f32)
      = toV (rcat 256 db (tDq (tM ((i * 4 + 1) * 256) (i * 1024 + 256)) (rsh 256 qb) (rsh 256 ob) k v (rsh 256 lb) (rsh 256 cb) (rsh 256 pb) ti te (rsh 256 db))) := by
  have hm := mask_768 ((i * 4 + 1) * 256) (i * 1024 + 256) (by omega) (by omega)
  simp only [k0_pay138, k0_pay139, k0_pay140, k0_pay141, k0_pay142, k0_pay143, k0_pay144, k0_pay146, k0_pay147, k0_pay148, k0_pay149, k0_pay150, k0_pay153, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x128_S768x128_1_0_0_1, mm_S768x256_S256x256_S768x256_1_0_0_1, slices_S1024x128_o0_0_S256x128_v, slices_S1024x128_o256_0_S768x128_v, slices_S1024x1_o256_0_S768x1_v, broadcasts_S768x1_S768x256_v, concatenates_S256x128_S768x128_S1024x128_d0_d, concatenates_S256x128_S768x128_S1024x128_d0_v]
  rfl

theorem tile1_dk (i : ℕ) (hi : i < 8) (qa qb oa ob la lb ti te ca pa cb pb k v old : ℕ → ℕ → ℝ) :
    (k0_pay154 (toV (φ := .bf16) te) (toV (φ := .f32) pb) (k0_pay129 (toV (φ := .f32) la) (toV (φ := .bf16) ti) (toV (φ := .bf16) te) (toV (φ := .f32) ca) (toV (φ := .f32) pa) (toV (φ := .bf16) v) (k0_pay116 (toV (φ := .bf16) qa)) (k0_pay117 (toV (φ := .bf16) oa)) (k0_pay118 (toV (φ := .bf16) qa) (toV (φ := .bf16) k)) (k0_pay119 (toV (φ := .bf16) qa) (toV (φ := .bf16) k)) (Scalar.addi (Scalar.muli (BitVec.ofNat 32 i) 1024#32) 256#32) (Scalar.muli (Scalar.addi (Scalar.muli (BitVec.ofNat 32 i) 4#32) 1#32) 256#32)) (k0_pay138 (toV (φ := .bf16) qb)) (k0_pay141 (BitVec.ofNat 32 i) (Scalar.addi (Scalar.muli (BitVec.ofNat 32 i) 4#32) 1#32)) (k0_pay143 (BitVec.ofNat 32 i) (toV (φ := .bf16) qb) (Scalar.addi (Scalar.muli (BitVec.ofNat 32 i) 4#32) 1#32) (toV (φ := .bf16) k)) (k0_pay147 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 1#32) (toV (φ := .bf16) k) (toV (φ := .bf16) v)) (k0_pay148 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 1#32) (toV (φ := .bf16) k) (toV (φ := .bf16) v)) (toV (φ := .f32) old) : FVec Ideal S256x128 .f32)
      = toV (fun s d => old s d + (tDK 768 (tM ((i * 4 + 1) * 256) (i * 1024 + 256)) (rsh 256 qa) (rsh 256 oa) k v (rsh 256 la) (rsh 256 ca) (rsh 256 pa) ti te s d + tDK 768 (tM ((i * 4 + 1) * 256) (i * 1024 + 256)) (rsh 256 qb) (rsh 256 ob) k v (rsh 256 lb) (rsh 256 cb) (rsh 256 pb) ti te s d)) := by
  have hm := mask_768 ((i * 4 + 1) * 256) (i * 1024 + 256) (by omega) (by omega)
  simp only [k0_pay116, k0_pay117, k0_pay118, k0_pay119, k0_pay120, k0_pay121, k0_pay122, k0_pay123, k0_pay124, k0_pay125, k0_pay126, k0_pay127, k0_pay128, k0_pay129, k0_pay138, k0_pay139, k0_pay140, k0_pay141, k0_pay142, k0_pay143, k0_pay144, k0_pay146, k0_pay147, k0_pay148, k0_pay149, k0_pay150, k0_pay154, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x256_S768x256_1_0_0_1, mm_S768x256_S768x128_S256x128_0_0_1_1, slices_S1024x128_o256_0_S768x128_v, slices_S1024x1_o256_0_S768x1_v, broadcasts_S768x1_S768x256_v, shapeCasts_S256x128_v]
  rfl

theorem tile1_dv (i : ℕ) (hi : i < 8) (qa qb oa ob la lb ti ca cb k old : ℕ → ℕ → ℝ) :
    (k0_pay155 (k0_pay130 (toV (φ := .f32) la) (toV (φ := .bf16) ti) (toV (φ := .f32) ca) (k0_pay117 (toV (φ := .bf16) oa)) (k0_pay118 (toV (φ := .bf16) qa) (toV (φ := .bf16) k)) (k0_pay119 (toV (φ := .bf16) qa) (toV (φ := .bf16) k)) (Scalar.addi (Scalar.muli (BitVec.ofNat 32 i) 1024#32) 256#32) (Scalar.muli (Scalar.addi (Scalar.muli (BitVec.ofNat 32 i) 4#32) 1#32) 256#32)) (k0_pay139 (toV (φ := .bf16) ob)) (k0_pay146 (BitVec.ofNat 32 i) (toV (φ := .bf16) qb) (toV (φ := .f32) lb) (toV (φ := .bf16) ti) (toV (φ := .f32) cb) (Scalar.addi (Scalar.muli (BitVec.ofNat 32 i) 4#32) 1#32) (toV (φ := .bf16) k)) (toV (φ := .f32) old) : FVec Ideal S256x128 .f32)
      = toV (fun s d => old s d + (tDV 768 (tM ((i * 4 + 1) * 256) (i * 1024 + 256)) (rsh 256 qa) (rsh 256 oa) k (rsh 256 la) (rsh 256 ca) ti s d + tDV 768 (tM ((i * 4 + 1) * 256) (i * 1024 + 256)) (rsh 256 qb) (rsh 256 ob) k (rsh 256 lb) (rsh 256 cb) ti s d)) := by
  have hm := mask_768 ((i * 4 + 1) * 256) (i * 1024 + 256) (by omega) (by omega)
  simp only [k0_pay116, k0_pay117, k0_pay118, k0_pay119, k0_pay120, k0_pay121, k0_pay122, k0_pay123, k0_pay124, k0_pay130, k0_pay138, k0_pay139, k0_pay140, k0_pay141, k0_pay142, k0_pay143, k0_pay144, k0_pay146, k0_pay155, muli_n, addi_n, hm, laneA, addf_v, subf_v, mulf_v, maximumf_v, absf_v, exp_v, log_v, truncf_v, extf_v, select_v, zc, bz, bo, b8, sz, so, s8, mm_S768x128_S256x128_S768x256_1_1_0_0, mm_S768x256_S256x256_S768x256_1_0_0_1, mm_S768x256_S768x128_S256x128_0_0_1_1, slices_S1024x128_o256_0_S768x128_v, slices_S1024x1_o256_0_S768x1_v, broadcasts_S768x1_S768x256_v, shapeCasts_S256x128_v]
  rfl

end Cert.Val

end
-- ==== Proof.Tile2.lean ====
/- Tiles of the kernel's body as functions of real matrices. -/
module

public import proofs.«01_k».proof.Proof.TileDefs

@[expose] public section

set_option maxRecDepth 16384

noncomputable section

namespace Cert.Val

open Cert.KernelIdeal Cert.KernelIdeal.Gen Idealize.ShloMosaic

theorem tile2_cla (i : ℕ) (hi : i < 8) (qa ti ca k : ℕ → ℕ → ℝ) :
    (k0_pay171 (toV (φ := .f32) ca) (k0_pay163 (BitVec.ofNat 32 i) (toV (φ := .bf16) qa) (toV (φ := .bf16) ti) (Scalar.addi (Scalar.muli (BitVec.ofNat 32 i) 4#32) 2#32) (toV (φ := .bf16) k)) : FVec Ideal S1024x1 .f32)
      = toV (rcat 512 ca (tCl (tM ((i * 4 + 2) * 256) (i * 1024 + 512)) (rsh 512 qa) k (rsh 512 ca) ti)) := by
  have hm := mask_512 ((i * 4 + 2) * 256) (i * 1024 + 512) (by omega) (by omega)
  simp only [k0_pay156, k0_pay158, k0_pay159, k0_pay160, k0_pay162, k0_pay163, k0_pay171, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x256_S512x256_1_0_0_1, slices_S1024x128_o512_0_S512x128_v, slices_S1024x1_o0_0_S512x1_v, slices_S1024x1_o512_0_S512x1_v, slices_S512x256_o0_255_S512x1_v, concatenates_S512x1_S512x1_S1024x1_d0_d, concatenates_S512x1_S512x1_S1024x1_d0_v]
  rfl

theorem tile2_cpa (i : ℕ) (hi : i < 8) (qa oa la ti te ca pa k v : ℕ → ℕ → ℝ) :
    (k0_pay172 (toV (φ := .bf16) te) (toV (φ := .f32) pa) (toV (φ := .bf16) v) (k0_pay157 (toV (φ := .bf16) oa)) (k0_pay164 (BitVec.ofNat 32 i) (toV (φ := .bf16) qa) (toV (φ := .f32) la) (toV (φ := .bf16) ti) (toV (φ := .f32) ca) (Scalar.addi (Scalar.muli (BitVec.ofNat 32 i) 4#32) 2#32) (toV (φ := .bf16) k)) : FVec Ideal S1024x1 .f32)
      = toV (rcat 512 pa (tCp (tM ((i * 4 + 2) * 256) (i * 1024 + 512)) (rsh 512 qa) (rsh 512 oa) k v (rsh 512 la) (rsh 512 ca) (rsh 512 pa) ti te)) := by
  have hm := mask_512 ((i * 4 + 2) * 256) (i * 1024 + 512) (by omega) (by omega)
  simp only [k0_pay156, k0_pay157, k0_pay158, k0_pay159, k0_pay160, k0_pay161, k0_pay162, k0_pay164, k0_pay165, k0_pay166, k0_pay167, k0_pay172, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x256_S512x256_1_0_0_1, slices_S1024x128_o512_0_S512x128_v, slices_S1024x1_o0_0_S512x1_v, slices_S1024x1_o512_0_S512x1_v, slices_S512x256_o0_255_S512x1_v, broadcasts_S512x1_S512x256_v, concatenates_S512x1_S512x1_S1024x1_d0_d, concatenates_S512x1_S512x1_S1024x1_d0_v]
  rfl

theorem tile2_dqa (i : ℕ) (hi : i < 8) (qa oa la ti te ca pa da k v : ℕ → ℕ → ℝ) :
    (k0_pay173 (toV (φ := .bf16) te) (toV (φ := .f32) pa) (toV (φ := .f32) da) (toV (φ := .bf16) k) (toV (φ := .bf16) v) (k0_pay157 (toV (φ := .bf16) oa)) (k0_pay159 (BitVec.ofNat 32 i) (Scalar.addi (Scalar.muli (BitVec.ofNat 32 i) 4#32) 2#32)) (k0_pay161 (BitVec.ofNat 32 i) (toV (φ := .bf16) qa) (Scalar.addi (Scalar.muli (BitVec.ofNat 32 i) 4#32) 2#32) (toV (φ := .bf16) k)) (k0_pay164 (BitVec.ofNat 32 i) (toV (φ := .bf16) qa) (toV (φ := .f32) la) (toV (φ := .bf16) ti) (toV (φ := .f32) ca) (Scalar.addi (Scalar.muli (BitVec.ofNat 32 i) 4#32) 2#32) (toV (φ := .bf16) k)) : FVec Ideal S1024x128 .f32)
      = toV (rcat 512 da (tDq (tM ((i * 4 + 2) * 256) (i * 1024 + 512)) (rsh 512 qa) (rsh 512 oa) k v (rsh 512 la) (rsh 512 ca) (rsh 512 pa) ti te (rsh 512 da))) := by
  have hm := mask_512 ((i * 4 + 2) * 256) (i * 1024 + 512) (by omega) (by omega)
  simp only [k0_pay156, k0_pay157, k0_pay158, k0_pay159, k0_pay160, k0_pay161, k0_pay162, k0_pay164, k0_pay165, k0_pay166, k0_pay167, k0_pay168, k0_pay173, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x128_S512x128_1_0_0_1, mm_S512x256_S256x256_S512x256_1_0_0_1, slices_S1024x128_o0_0_S512x128_v, slices_S1024x128_o512_0_S512x128_v, slices_S1024x1_o512_0_S512x1_v, broadcasts_S512x1_S512x256_v, concatenates_S512x128_S512x128_S1024x128_d0_d, concatenates_S512x128_S512x128_S1024x128_d0_v]
  rfl

theorem tile2_clb (i : ℕ) (hi : i < 8) (qb ti cb k : ℕ → ℕ → ℝ) :
    (k0_pay191 (toV (φ := .f32) cb) (k0_pay189 (BitVec.ofNat 32 i) (toV (φ := .bf16) ti) (toV (φ := .f32) cb) (Scalar.addi (Scalar.muli (BitVec.ofNat 32 i) 4#32) 2#32) (k0_pay177 (toV (φ := .bf16) qb) (toV (φ := .bf16) k))) : FVec Ideal S1024x1 .f32)
      = toV (rcat 512 cb (tCl (tM ((i * 4 + 2) * 256) (i * 1024 + 512)) (rsh 512 qb) k (rsh 512 cb) ti)) := by
  have hm := mask_512 ((i * 4 + 2) * 256) (i * 1024 + 512) (by omega) (by omega)
  simp only [k0_pay174, k0_pay176, k0_pay177, k0_pay178, k0_pay179, k0_pay181, k0_pay189, k0_pay191, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x256_S512x256_1_0_0_1, slices_S1024x128_o512_0_S512x128_v, slices_S1024x1_o0_0_S512x1_v, slices_S1024x1_o512_0_S512x1_v, slices_S512x256_o0_255_S512x1_v, concatenates_S512x1_S512x1_S1024x1_d0_d, concatenates_S512x1_S512x1_S1024x1_d0_v]
  rfl

theorem tile2_cpb (i : ℕ) (hi : i < 8) (qb ob lb ti te cb pb k v : ℕ → ℕ → ℝ) :
    (k0_pay192 (toV (φ := .f32) pb) (k0_pay184 (BitVec.ofNat 32 i) (toV (φ := .f32) lb) (toV (φ := .bf16) ti) (toV (φ := .f32) cb) (Scalar.addi (Scalar.muli (BitVec.ofNat 32 i) 4#32) 2#32) (toV (φ := .bf16) v) (k0_pay175 (toV (φ := .bf16) ob)) (k0_pay176 (toV (φ := .bf16) qb) (toV (φ := .bf16) k)) (k0_pay177 (toV (φ := .bf16) qb) (toV (φ := .bf16) k))) (k0_pay190 (BitVec.ofNat 32 i) (toV (φ := .f32) lb) (toV (φ := .bf16) ti) (toV (φ := .bf16) te) (toV (φ := .f32) cb) (toV (φ := .f32) pb) (Scalar.addi (Scalar.muli (BitVec.ofNat 32 i) 4#32) 2#32) (toV (φ := .bf16) v) (k0_pay175 (toV (φ := .bf16) ob)) (k0_pay176 (toV (φ := .bf16) qb) (toV (φ := .bf16) k)) (k0_pay177 (toV (φ := .bf16) qb) (toV (φ := .bf16) k))) : FVec Ideal S1024x1 .f32)
      = toV (rcat 512 pb (tCp (tM ((i * 4 + 2) * 256) (i * 1024 + 512)) (rsh 512 qb) (rsh 512 ob) k v (rsh 512 lb) (rsh 512 cb) (rsh 512 pb) ti te)) := by
  have hm := mask_512 ((i * 4 + 2) * 256) (i * 1024 + 512) (by omega) (by omega)
  simp only [k0_pay174, k0_pay175, k0_pay176, k0_pay177, k0_pay178, k0_pay179, k0_pay180, k0_pay181, k0_pay182, k0_pay183, k0_pay184, k0_pay185, k0_pay190, k0_pay192, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x256_S512x256_1_0_0_1, slices_S1024x128_o512_0_S512x128_v, slices_S1024x1_o0_0_S512x1_v, slices_S1024x1_o512_0_S512x1_v, slices_S512x256_o0_255_S512x1_v, broadcasts_S512x1_S512x256_v, concatenates_S512x1_S512x1_S1024x1_d0_d, concatenates_S512x1_S512x1_S1024x1_d0_v]
  rfl

theorem tile2_dqb (i : ℕ) (hi : i < 8) (qb ob lb ti te cb pb db k v : ℕ → ℕ → ℝ) :
    (k0_pay193 (toV (φ := .f32) db) (toV (φ := .bf16) k) (k0_pay186 (BitVec.ofNat 32 i) (toV (φ := .f32) lb) (toV (φ := .bf16) ti) (toV (φ := .bf16) te) (toV (φ := .f32) cb) (toV (φ := .f32) pb) (Scalar.addi (Scalar.muli (BitVec.ofNat 32 i) 4#32) 2#32) (toV (φ := .bf16) v) (k0_pay175 (toV (φ := .bf16) ob)) (k0_pay176 (toV (φ := .bf16) qb) (toV (φ := .bf16) k)) (k0_pay177 (toV (φ := .bf16) qb) (toV (φ := .bf16) k))) : FVec Ideal S1024x128 .f32)
      = toV (rcat 512 db (tDq (tM ((i * 4 + 2) * 256) (i * 1024 + 512)) (rsh 512 qb) (rsh 512 ob) k v (rsh 512 lb) (rsh 512 cb) (rsh 512 pb) ti te (rsh 512 db))) := by
  have hm := mask_512 ((i * 4 + 2) * 256) (i * 1024 + 512) (by omega) (by omega)
  simp only [k0_pay174, k0_pay175, k0_pay176, k0_pay177, k0_pay178, k0_pay179, k0_pay180, k0_pay181, k0_pay182, k0_pay183, k0_pay184, k0_pay185, k0_pay186, k0_pay193, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x128_S512x128_1_0_0_1, mm_S512x256_S256x256_S512x256_1_0_0_1, slices_S1024x128_o0_0_S512x128_v, slices_S1024x128_o512_0_S512x128_v, slices_S1024x1_o512_0_S512x1_v, broadcasts_S512x1_S512x256_v, concatenates_S512x128_S512x128_S1024x128_d0_d, concatenates_S512x128_S512x128_S1024x128_d0_v]
  rfl

theorem tile2_dk (i : ℕ) (hi : i < 8) (qa qb oa ob la lb ti te ca pa cb pb k v old : ℕ → ℕ → ℝ) :
    (k0_pay194 (k0_pay187 (BitVec.ofNat 32 i) (toV (φ := .f32) lb) (toV (φ := .bf16) ti) (toV (φ := .bf16) te) (toV (φ := .f32) cb) (toV (φ := .f32) pb) (Scalar.addi (Scalar.muli (BitVec.ofNat 32 i) 4#32) 2#32) (toV (φ := .bf16) v) (k0_pay169 (toV (φ := .bf16) te) (toV (φ := .f32) pa) (toV (φ := .bf16) v) (k0_pay156 (toV (φ := .bf16) qa)) (k0_pay157 (toV (φ := .bf16) oa)) (k0_pay159 (BitVec.ofNat 32 i) (Scalar.addi (Scalar.muli (BitVec.ofNat 32 i) 4#32) 2#32)) (k0_pay161 (BitVec.ofNat 32 i) (toV (φ := .bf16) qa) (Scalar.addi (Scalar.muli (BitVec.ofNat 32 i) 4#32) 2#32) (toV (φ := .bf16) k)) (k0_pay164 (BitVec.ofNat 32 i) (toV (φ := .bf16) qa) (toV (φ := .f32) la) (toV (φ := .bf16) ti) (toV (φ := .f32) ca) (Scalar.addi (Scalar.muli (BitVec.ofNat 32 i) 4#32) 2#32) (toV (φ := .bf16) k))) (k0_pay174 (toV (φ := .bf16) qb)) (k0_pay175 (toV (φ := .bf16) ob)) (k0_pay176 (toV (φ := .bf16) qb) (toV (φ := .bf16) k)) (k0_pay177 (toV (φ := .bf16) qb) (toV (φ := .bf16) k))) (toV (φ := .f32) old) : FVec Ideal S256x128 .f32)
      = toV (fun s d => old s d + (tDK 512 (tM ((i * 4 + 2) * 256) (i * 1024 + 512)) (rsh 512 qa) (rsh 512 oa) k v (rsh 512 la) (rsh 512 ca) (rsh 512 pa) ti te s d + tDK 512 (tM ((i * 4 + 2) * 256) (i * 1024 + 512)) (rsh 512 qb) (rsh 512 ob) k v (rsh 512 lb) (rsh 512 cb) (rsh 512 pb) ti te s d)) := by
  have hm := mask_512 ((i * 4 + 2) * 256) (i * 1024 + 512) (by omega) (by omega)
  simp only [k0_pay156, k0_pay157, k0_pay158, k0_pay159, k0_pay160, k0_pay161, k0_pay162, k0_pay164, k0_pay165, k0_pay166, k0_pay167, k0_pay168, k0_pay169, k0_pay174, k0_pay175, k0_pay176, k0_pay177, k0_pay178, k0_pay179, k0_pay180, k0_pay181, k0_pay182, k0_pay183, k0_pay184, k0_pay185, k0_pay186, k0_pay187, k0_pay194, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x256_S512x256_1_0_0_1, mm_S512x256_S512x128_S256x128_0_0_1_1, slices_S1024x128_o512_0_S512x128_v, slices_S1024x1_o512_0_S512x1_v, broadcasts_S512x1_S512x256_v, shapeCasts_S256x128_v]
  rfl

theorem tile2_dv (i : ℕ) (hi : i < 8) (qa qb oa ob la lb ti ca cb k old : ℕ → ℕ → ℝ) :
    (k0_pay195 (k0_pay188 (BitVec.ofNat 32 i) (toV (φ := .f32) lb) (toV (φ := .bf16) ti) (toV (φ := .f32) cb) (Scalar.addi (Scalar.muli (BitVec.ofNat 32 i) 4#32) 2#32) (k0_pay170 (k0_pay157 (toV (φ := .bf16) oa)) (k0_pay164 (BitVec.ofNat 32 i) (toV (φ := .bf16) qa) (toV (φ := .f32) la) (toV (φ := .bf16) ti) (toV (φ := .f32) ca) (Scalar.addi (Scalar.muli (BitVec.ofNat 32 i) 4#32) 2#32) (toV (φ := .bf16) k))) (k0_pay175 (toV (φ := .bf16) ob)) (k0_pay176 (toV (φ := .bf16) qb) (toV (φ := .bf16) k)) (k0_pay177 (toV (φ := .bf16) qb) (toV (φ := .bf16) k))) (toV (φ := .f32) old) : FVec Ideal S256x128 .f32)
      = toV (fun s d => old s d + (tDV 512 (tM ((i * 4 + 2) * 256) (i * 1024 + 512)) (rsh 512 qa) (rsh 512 oa) k (rsh 512 la) (rsh 512 ca) ti s d + tDV 512 (tM ((i * 4 + 2) * 256) (i * 1024 + 512)) (rsh 512 qb) (rsh 512 ob) k (rsh 512 lb) (rsh 512 cb) ti s d)) := by
  have hm := mask_512 ((i * 4 + 2) * 256) (i * 1024 + 512) (by omega) (by omega)
  simp only [k0_pay156, k0_pay157, k0_pay158, k0_pay159, k0_pay160, k0_pay161, k0_pay162, k0_pay164, k0_pay170, k0_pay174, k0_pay175, k0_pay176, k0_pay177, k0_pay178, k0_pay179, k0_pay180, k0_pay181, k0_pay182, k0_pay188, k0_pay195, muli_n, addi_n, hm, laneA, addf_v, subf_v, mulf_v, maximumf_v, absf_v, exp_v, log_v, truncf_v, extf_v, select_v, zc, bz, bo, b8, sz, so, s8, mm_S512x128_S256x128_S512x256_1_1_0_0, mm_S512x256_S256x256_S512x256_1_0_0_1, mm_S512x256_S512x128_S256x128_0_0_1_1, slices_S1024x128_o512_0_S512x128_v, slices_S1024x1_o512_0_S512x1_v, broadcasts_S512x1_S512x256_v, shapeCasts_S256x128_v]
  rfl

end Cert.Val

end
-- ==== Proof.Tile3.lean ====
/- Tiles of the kernel's body as functions of real matrices. -/
module

public import proofs.«01_k».proof.Proof.TileDefs

@[expose] public section

set_option maxRecDepth 16384

noncomputable section

namespace Cert.Val

open Cert.KernelIdeal Cert.KernelIdeal.Gen Idealize.ShloMosaic

theorem tile3_dq (i : ℕ) (hi : i < 8) (qa qb oa ob la lb ti te ca pa da cb pb db k v : ℕ → ℕ → ℝ) :
    (k0_pay1 (k0_pay224 (toV (φ := .f32) db) (toV (φ := .bf16) k) (k0_pay209 (toV (φ := .f32) da) (k0_pay208 (BitVec.ofNat 32 i) (toV (φ := .f32) la) (toV (φ := .bf16) ti) (toV (φ := .bf16) te) (toV (φ := .f32) ca) (toV (φ := .f32) pa) (toV (φ := .f32) da) (Scalar.addi (Scalar.muli (BitVec.ofNat 32 i) 4#32) 3#32) (toV (φ := .bf16) k) (toV (φ := .bf16) v) (k0_pay197 (toV (φ := .bf16) oa)) (k0_pay198 (toV (φ := .bf16) qa) (toV (φ := .bf16) k)) (k0_pay199 (toV (φ := .bf16) qa) (toV (φ := .bf16) k)) (k0_pay200 (toV (φ := .bf16) qa) (toV (φ := .bf16) k)))) (k0_pay213 (BitVec.ofNat 32 i) (Scalar.addi (Scalar.muli (BitVec.ofNat 32 i) 4#32) 3#32)) (k0_pay217 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 3#32) (toV (φ := .bf16) k) (toV (φ := .bf16) v)) (k0_pay218 (BitVec.ofNat 32 i) (toV (φ := .bf16) qb) (toV (φ := .bf16) ob) (toV (φ := .f32) lb) (toV (φ := .bf16) ti) (toV (φ := .bf16) te) (toV (φ := .f32) cb) (Scalar.addi (Scalar.muli (BitVec.ofNat 32 i) 4#32) 3#32) (toV (φ := .bf16) k) (toV (φ := .bf16) v)) (k0_pay219 (BitVec.ofNat 32 i) (toV (φ := .bf16) qb) (Scalar.addi (Scalar.muli (BitVec.ofNat 32 i) 4#32) 3#32) (toV (φ := .bf16) k)) (k0_pay220 (toV (φ := .f32) pb))) (FloatOps.ofBits FTy.f32 1040187392#32) : FVec Ideal S1024x128 .f32)
      = toV (fun r d => (if decide (d < 64) then rcat 768 da (tDq (tM ((i * 4 + 3) * 256) (i * 1024 + 768)) (rsh 768 qa) (rsh 768 oa) k v (rsh 768 la) (rsh 768 ca) (rsh 768 pa) ti te (rsh 768 da)) r d else rcat 768 db (tDq (tM ((i * 4 + 3) * 256) (i * 1024 + 768)) (rsh 768 qb) (rsh 768 ob) k v (rsh 768 lb) (rsh 768 cb) (rsh 768 pb) ti te (rsh 768 db)) r d) * (1 / 8)) := by
  have hm := mask_256 ((i * 4 + 3) * 256) (i * 1024 + 768) (by omega) (by omega)
  simp only [k0_pay1, k0_pay196, k0_pay197, k0_pay198, k0_pay199, k0_pay200, k0_pay201, k0_pay202, k0_pay203, k0_pay204, k0_pay205, k0_pay208, k0_pay209, k0_pay210, k0_pay211, k0_pay212, k0_pay213, k0_pay214, k0_pay215, k0_pay216, k0_pay217, k0_pay218, k0_pay219, k0_pay220, k0_pay221, k0_pay224, muli_n, addi_n, hm, laneA, addf_v, subf_v, mulf_v, maximumf_v, absf_v, exp_v, log_v, truncf_v, extf_v, select_v, zc, bz, bo, b8, sz, so, s8, mm_S256x128_S256x128_S256x256_1_1_0_0, mm_S256x256_S256x128_S256x128_1_0_0_1, mm_S256x256_S256x256_S256x256_1_0_0_1, slices_S1024x128_o0_0_S768x128_v, slices_S1024x128_o768_0_S256x128_v, slices_S1024x1_o768_0_S256x1_v, broadcasts_S256x1_S256x256_v, concatenates_S768x128_S256x128_S1024x128_d0_d, concatenates_S768x128_S256x128_S1024x128_d0_v]
  rw [laneA, select_v, mulf_v]
  rfl

theorem tile3_dk (i : ℕ) (hi : i < 8) (qa qb oa ob la lb ti te ca pa cb pb k v old : ℕ → ℕ → ℝ) :
    (k0_pay222 (k0_pay206 (BitVec.ofNat 32 i) (toV (φ := .f32) la) (toV (φ := .bf16) ti) (toV (φ := .bf16) te) (toV (φ := .f32) ca) (toV (φ := .f32) pa) (Scalar.addi (Scalar.muli (BitVec.ofNat 32 i) 4#32) 3#32) (toV (φ := .bf16) v) (k0_pay196 (toV (φ := .bf16) qa)) (k0_pay197 (toV (φ := .bf16) oa)) (k0_pay198 (toV (φ := .bf16) qa) (toV (φ := .bf16) k)) (k0_pay199 (toV (φ := .bf16) qa) (toV (φ := .bf16) k)) (k0_pay200 (toV (φ := .bf16) qa) (toV (φ := .bf16) k))) (k0_pay210 (toV (φ := .bf16) qb)) (k0_pay213 (BitVec.ofNat 32 i) (Scalar.addi (Scalar.muli (BitVec.ofNat 32 i) 4#32) 3#32)) (k0_pay217 (BitVec.ofNat 32 i) (toV (φ := .bf16) qb) (toV (φ := .bf16) ob) (toV (φ := .f32) lb) (toV (φ := .bf16) ti) (toV (φ := .f32) cb) (Scalar.addi (Scalar.muli (BitVec.ofNat 32 i) 4#32) 3#32) (toV (φ := .bf16) k) (toV (φ := .bf16) v)) (k0_pay218 (BitVec.ofNat 32 i) (toV (φ := .bf16) qb) (toV (φ := .bf16) ob) (toV (φ := .f32) lb) (toV (φ := .bf16) ti) (toV (φ := .bf16) te) (toV (φ := .f32) cb) (Scalar.addi (Scalar.muli (BitVec.ofNat 32 i) 4#32) 3#32) (toV (φ := .bf16) k) (toV (φ := .bf16) v)) (k0_pay219 (BitVec.ofNat 32 i) (toV (φ := .bf16) qb) (Scalar.addi (Scalar.muli (BitVec.ofNat 32 i) 4#32) 3#32) (toV (φ := .bf16) k)) (k0_pay220 (toV (φ := .f32) pb)) (toV (φ := .f32) old) : FVec Ideal S256x128 .f32)
      = toV (fun s d => old s d + (tDK 256 (tM ((i * 4 + 3) * 256) (i * 1024 + 768)) (rsh 768 qa) (rsh 768 oa) k v (rsh 768 la) (rsh 768 ca) (rsh 768 pa) ti te s d + tDK 256 (tM ((i * 4 + 3) * 256) (i * 1024 + 768)) (rsh 768 qb) (rsh 768 ob) k v (rsh 768 lb) (rsh 768 cb) (rsh 768 pb) ti te s d)) := by
  have hm := mask_256 ((i * 4 + 3) * 256) (i * 1024 + 768) (by omega) (by omega)
  simp only [k0_pay196, k0_pay197, k0_pay198, k0_pay199, k0_pay200, k0_pay201, k0_pay202, k0_pay203, k0_pay204, k0_pay205, k0_pay206, k0_pay210, k0_pay211, k0_pay212, k0_pay213, k0_pay214, k0_pay215, k0_pay216, k0_pay217, k0_pay218, k0_pay219, k0_pay220, k0_pay221, k0_pay222, muli_n, addi_n, hm, laneA, addf_v, subf_v, mulf_v, maximumf_v, absf_v, exp_v, log_v, truncf_v, extf_v, select_v, zc, bz, bo, b8, sz, so, s8, mm_S256x128_S256x128_S256x256_1_1_0_0, mm_S256x256_S256x128_S256x128_0_0_1_1, mm_S256x256_S256x256_S256x256_1_0_0_1, slices_S1024x128_o768_0_S256x128_v, slices_S1024x1_o768_0_S256x1_v, broadcasts_S256x1_S256x256_v, shapeCasts_S256x128_v]
  rfl

theorem tile3_dv (i : ℕ) (hi : i < 8) (qa qb oa ob la lb ti ca cb k old : ℕ → ℕ → ℝ) :
    (k0_pay223 (k0_pay207 (BitVec.ofNat 32 i) (toV (φ := .f32) la) (toV (φ := .bf16) ti) (toV (φ := .f32) ca) (Scalar.addi (Scalar.muli (BitVec.ofNat 32 i) 4#32) 3#32) (k0_pay197 (toV (φ := .bf16) oa)) (k0_pay198 (toV (φ := .bf16) qa) (toV (φ := .bf16) k)) (k0_pay199 (toV (φ := .bf16) qa) (toV (φ := .bf16) k)) (k0_pay200 (toV (φ := .bf16) qa) (toV (φ := .bf16) k))) (k0_pay211 (toV (φ := .bf16) ob)) (k0_pay216 (BitVec.ofNat 32 i) (toV (φ := .bf16) qb) (toV (φ := .f32) lb) (toV (φ := .bf16) ti) (toV (φ := .f32) cb) (Scalar.addi (Scalar.muli (BitVec.ofNat 32 i) 4#32) 3#32) (toV (φ := .bf16) k)) (toV (φ := .f32) old) : FVec Ideal S256x128 .f32)
      = toV (fun s d => old s d + (tDV 256 (tM ((i * 4 + 3) * 256) (i * 1024 + 768)) (rsh 768 qa) (rsh 768 oa) k (rsh 768 la) (rsh 768 ca) ti s d + tDV 256 (tM ((i * 4 + 3) * 256) (i * 1024 + 768)) (rsh 768 qb) (rsh 768 ob) k (rsh 768 lb) (rsh 768 cb) ti s d)) := by
  have hm := mask_256 ((i * 4 + 3) * 256) (i * 1024 + 768) (by omega) (by omega)
  simp only [k0_pay196, k0_pay197, k0_pay198, k0_pay199, k0_pay200, k0_pay201, k0_pay202, k0_pay203, k0_pay204, k0_pay207, k0_pay210, k0_pay211, k0_pay212, k0_pay213, k0_pay214, k0_pay215, k0_pay216, k0_pay223, muli_n, addi_n, hm, laneA, addf_v, subf_v, mulf_v, maximumf_v, absf_v, exp_v, log_v, truncf_v, extf_v, select_v, zc, bz, bo, b8, sz, so, s8, mm_S256x128_S256x128_S256x256_1_1_0_0, mm_S256x256_S256x128_S256x128_0_0_1_1, mm_S256x256_S256x256_S256x256_1_0_0_1, slices_S1024x128_o768_0_S256x128_v, slices_S1024x1_o768_0_S256x1_v, broadcasts_S256x1_S256x256_v, shapeCasts_S256x128_v]
  rfl

end Cert.Val

end
-- ==== Proof.BodyA.lean ====
/- What the kernel's body leaves at a grid point the first of its heads. -/
module

public import proofs.«01_k».proof.Proof.Loop
public import proofs.«01_k».proof.Proof.Done
public import proofs.«01_k».proof.Proof.Tile0
public import proofs.«01_k».proof.Proof.Tile1
public import proofs.«01_k».proof.Proof.Tile2
public import proofs.«01_k».proof.Proof.Tile3

@[expose] public section

set_option maxRecDepth 16384
set_option maxHeartbeats 4000000

noncomputable section

namespace Cert.Val

open Cert.KernelIdeal Cert.KernelIdeal.Gen Idealize.ShloMosaic

theorem body_A (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (q0 k v o0 lt : ℕ → ℕ → ℝ) :
    out0_A_7 (F := Ideal) c i arg2 harg2 arg3 harg3 arg4 harg4 arg5 harg5 arg6 harg6 arg7 harg7 arg8 harg8 arg9 harg9 arg10 harg10 arg11 harg11 hc0 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) = toV (n := 1024) (m := 128) (φ := .f32) (dqX (1024 * (i 1).val) (eighth (ha q0)) (ha o0) (eighth (hb q0)) (hb o0) k v (fun r => lt r 0) (fun r => lt r 1))
    ∧ out0_A_8 (F := Ideal) c i arg2 harg2 arg3 harg3 arg4 harg4 arg5 harg5 arg6 harg6 arg7 harg7 arg8 harg8 arg9 harg9 arg10 harg10 arg11 harg11 hc0 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) = toV (n := 8192) (m := 128) (φ := .f32) (fun s e => (fun _ _ => 0) s e + (dkX (1024 * (i 1).val) (eighth (ha q0)) (ha o0) (eighth (hb q0)) (hb o0) k v (fun r => lt r 0) (fun r => lt r 1)) s e)
    ∧ out0_A_9 (F := Ideal) c i arg2 harg2 arg3 harg3 arg4 harg4 arg5 harg5 arg6 harg6 arg7 harg7 arg8 harg8 arg9 harg9 arg10 harg10 arg11 harg11 hc0 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) = toV (n := 8192) (m := 128) (φ := .f32) (fun s e => (fun _ _ => 0) s e + (dvX (1024 * (i 1).val) (eighth (ha q0)) (ha o0) (eighth (hb q0)) (hb o0) k (fun r => lt r 0) (fun r => lt r 1)) s e) := by
  have hi : (i 1).val < 8 := (i 1).isLt
  have e_r : (kernelRun0_A.sl.r (F := Ideal) c arg2 harg2 (toV (n := 1024) (m := 128) (φ := .bf16) q0)) = toV (n := 1024) (m := 128) (φ := .bf16) (eighth (ha q0)) := by
    unfold kernelRun0_A.sl.r
    rw [read2 arg2 harg2 _ _]
    exact pay63_v _
  have e_r_1 : (kernelRun0_A.sl.r_1 (F := Ideal) c arg2 harg2 (toV (n := 1024) (m := 128) (φ := .bf16) q0)) = toV (n := 1024) (m := 128) (φ := .bf16) (eighth (hb q0)) := by
    unfold kernelRun0_A.sl.r_1
    rw [read2 arg2 harg2 _ _]
    exact pay64_v _
  have e_r_2 : (kernelRun0_A.sl.r_2 (F := Ideal) c arg5 harg5 (toV (n := 1024) (m := 128) (φ := .bf16) o0)) = toV (n := 1024) (m := 128) (φ := .bf16) (ha o0) := by
    unfold kernelRun0_A.sl.r_2
    rw [read2 arg5 harg5 _ _]
    exact pay66_v _
  have e_r_3 : (kernelRun0_A.sl.r_3 (F := Ideal) c arg5 harg5 (toV (n := 1024) (m := 128) (φ := .bf16) o0)) = toV (n := 1024) (m := 128) (φ := .bf16) (hb o0) := by
    unfold kernelRun0_A.sl.r_3
    rw [read2 arg5 harg5 _ _]
    exact pay67_v _
  have e_r_4 : (kernelRun0_A.sl.r_4 (F := Ideal) c arg6 harg6 (toT lt)) = toV (n := 1024) (m := 1) (φ := .f32) (ll (fun r => lt r 0)) := by
    unfold kernelRun0_A.sl.r_4
    rw [read3 arg6 harg6 _ _]
    exact pay69_v _
  have e_r_5 : (kernelRun0_A.sl.r_5 (F := Ideal) c arg6 harg6 (toT lt)) = toV (n := 1024) (m := 1) (φ := .f32) (ll (fun r => lt r 1)) := by
    unfold kernelRun0_A.sl.r_5
    rw [read3 arg6 harg6 _ _]
    exact pay70_v _
  have e_r_6 : (kernelRun0_A.sl.r_6 (F := Ideal) c arg7 harg7 (toV (n := 256) (m := 256) (φ := .bf16) trI)) = toV (n := 256) (m := 256) (φ := .bf16) trI := by
    unfold kernelRun0_A.sl.r_6
    rw [read2 arg7 harg7 _ _]
    exact pay71_v _
  have e_r_7 : (kernelRun0_A.sl.r_7 (F := Ideal) c arg8 harg8 (toV (n := 256) (m := 256) (φ := .bf16) trE)) = toV (n := 256) (m := 256) (φ := .bf16) trE := by
    unfold kernelRun0_A.sl.r_7
    rw [read2 arg8 harg8 _ _]
    exact pay72_v _
  have off0 : k0_off3 i 0#32 = ![1024 * (i 1).val, 0] := k0_off3_eq i 0
  have inb0 : ∀ a, k0_off3 i 0#32 a + S256x128.size a ≤ S8192x128.size a := k0_off3_inb i 0
  have hK0 := read_rowsb arg3.view (harg3.unread (toV (n := 8192) (m := 128) (φ := .bf16) k)) (harg3.read_unread _) off0 inb0
  have hV0 := read_rowsb arg4.view (harg4.unread (toV (n := 8192) (m := 128) (φ := .bf16) v)) (harg4.read_unread _) off0 inb0
  have hM0 : ∀ r s, s < 256 → (tM (((i 1).val * 4 + 0) * 256) ((i 1).val * 1024 + 0) r s = true ↔ (1024 * (i 1).val) + s < (1024 * (i 1).val) + r) := fun r s _ => by unfold tM; rw [decide_eq_true_iff]; omega
  have e_r_14 : (kernelRun0_A.sl.r_14 (F := Ideal) i arg3 harg3 (toV (n := 8192) (m := 128) (φ := .bf16) k)) = toV (n := 256) (m := 128) (φ := .bf16) (rsh (1024 * (i 1).val) k) := hK0
  have e_r_15 : (kernelRun0_A.sl.r_15 (F := Ideal) i arg4 harg4 (toV (n := 8192) (m := 128) (φ := .bf16) v)) = toV (n := 256) (m := 128) (φ := .bf16) (rsh (1024 * (i 1).val) v) := hV0
  have off1 : k0_off3 i 1#32 = ![1024 * (i 1).val + 256, 0] := k0_off3_eq i 1
  have inb1 : ∀ a, k0_off3 i 1#32 a + S256x128.size a ≤ S8192x128.size a := k0_off3_inb i 1
  have hK1 := read_rowsb arg3.view (harg3.unread (toV (n := 8192) (m := 128) (φ := .bf16) k)) (harg3.read_unread _) off1 inb1
  have hV1 := read_rowsb arg4.view (harg4.unread (toV (n := 8192) (m := 128) (φ := .bf16) v)) (harg4.read_unread _) off1 inb1
  have hM1 : ∀ r s, s < 256 → (tM (((i 1).val * 4 + 1) * 256) ((i 1).val * 1024 + 256) r s = true ↔ ((1024 * (i 1).val) + 256) + s < (1024 * (i 1).val) + (256 + r)) := fun r s _ => by unfold tM; rw [decide_eq_true_iff]; omega
  have e_r_32 : (kernelRun0_A.sl.r_32 (F := Ideal) i arg3 harg3 (toV (n := 8192) (m := 128) (φ := .bf16) k)) = toV (n := 256) (m := 128) (φ := .bf16) (rsh ((1024 * (i 1).val) + 256) k) := hK1
  have e_r_33 : (kernelRun0_A.sl.r_33 (F := Ideal) i arg4 harg4 (toV (n := 8192) (m := 128) (φ := .bf16) v)) = toV (n := 256) (m := 128) (φ := .bf16) (rsh ((1024 * (i 1).val) + 256) v) := hV1
  have off2 : k0_off3 i 2#32 = ![1024 * (i 1).val + 512, 0] := k0_off3_eq i 2
  have inb2 : ∀ a, k0_off3 i 2#32 a + S256x128.size a ≤ S8192x128.size a := k0_off3_inb i 2
  have hK2 := read_rowsb arg3.view (harg3.unread (toV (n := 8192) (m := 128) (φ := .bf16) k)) (harg3.read_unread _) off2 inb2
  have hV2 := read_rowsb arg4.view (harg4.unread (toV (n := 8192) (m := 128) (φ := .bf16) v)) (harg4.read_unread _) off2 inb2
  have hM2 : ∀ r s, s < 256 → (tM (((i 1).val * 4 + 2) * 256) ((i 1).val * 1024 + 512) r s = true ↔ ((1024 * (i 1).val) + 512) + s < (1024 * (i 1).val) + (512 + r)) := fun r s _ => by unfold tM; rw [decide_eq_true_iff]; omega
  have e_r_58 : (kernelRun0_A.sl.r_58 (F := Ideal) i arg3 harg3 (toV (n := 8192) (m := 128) (φ := .bf16) k)) = toV (n := 256) (m := 128) (φ := .bf16) (rsh ((1024 * (i 1).val) + 512) k) := hK2
  have e_r_59 : (kernelRun0_A.sl.r_59 (F := Ideal) i arg4 harg4 (toV (n := 8192) (m := 128) (φ := .bf16) v)) = toV (n := 256) (m := 128) (φ := .bf16) (rsh ((1024 * (i 1).val) + 512) v) := hV2
  have off3 : k0_off3 i 3#32 = ![1024 * (i 1).val + 768, 0] := k0_off3_eq i 3
  have inb3 : ∀ a, k0_off3 i 3#32 a + S256x128.size a ≤ S8192x128.size a := k0_off3_inb i 3
  have hK3 := read_rowsb arg3.view (harg3.unread (toV (n := 8192) (m := 128) (φ := .bf16) k)) (harg3.read_unread _) off3 inb3
  have hV3 := read_rowsb arg4.view (harg4.unread (toV (n := 8192) (m := 128) (φ := .bf16) v)) (harg4.read_unread _) off3 inb3
  have hM3 : ∀ r s, s < 256 → (tM (((i 1).val * 4 + 3) * 256) ((i 1).val * 1024 + 768) r s = true ↔ ((1024 * (i 1).val) + 768) + s < (1024 * (i 1).val) + (768 + r)) := fun r s _ => by unfold tM; rw [decide_eq_true_iff]; omega
  have e_r_84 : (kernelRun0_A.sl.r_84 (F := Ideal) i arg3 harg3 (toV (n := 8192) (m := 128) (φ := .bf16) k)) = toV (n := 256) (m := 128) (φ := .bf16) (rsh ((1024 * (i 1).val) + 768) k) := hK3
  have e_r_85 : (kernelRun0_A.sl.r_85 (F := Ideal) i arg4 harg4 (toV (n := 8192) (m := 128) (φ := .bf16) v)) = toV (n := 256) (m := 128) (φ := .bf16) (rsh ((1024 * (i 1).val) + 768) v) := hV3
  have hinit : ((k0_pay73, k0_pay73, k0_pay74 (kernelRun0_A.sl.cst_18 (F := Ideal) ), k0_pay73, k0_pay73, k0_pay74 (kernelRun0_A.sl.cst_18 (F := Ideal) )) : FVec Ideal S1024x1 .f32 × FVec Ideal S1024x1 .f32 × FVec Ideal S1024x128 .f32 × FVec Ideal S1024x1 .f32 × FVec Ideal S1024x1 .f32 × FVec Ideal S1024x128 .f32) = carryV (1024 * (i 1).val) (eighth (ha q0)) (ha o0) (eighth (hb q0)) (hb o0) k v (fun r => lt r 0) (fun r => lt r 1) 0 := by
    unfold carryV kernelRun0_A.sl.cst_18
    rw [cc_zero, cc_zero, pp_zero, pp_zero, dq_zero, dq_zero, pay73_v, pay74_v]
  have ht2 : Scf.trips (k0_t2_loop i).lb (k0_t2_loop i).ub (k0_t2_loop i).st = 0 := trips2 i
  have g10 : arg10.view.read (Elt Ideal) (arg10.view.writes (Elt Ideal) (arg10.view.junk (Val := Elt Ideal)) (kernelRun0_A.sl.H8_1 (F := Ideal) )) = toV (n := 8192) (m := 128) (φ := .f32) (fun _ _ => 0) := (read_whole arg10.view _ _ _ _).trans pay60_v
  have g11 : arg11.view.read (Elt Ideal) (arg11.view.writes (Elt Ideal) (arg11.view.junk (Val := Elt Ideal)) (kernelRun0_A.sl.H9_1 (F := Ideal) )) = toV (n := 8192) (m := 128) (φ := .f32) (fun _ _ => 0) := (read_whole arg11.view _ _ _ _).trans pay61_v
  obtain ⟨l1, l2, l3⟩ := loop_inv c i arg2 harg2 arg3 harg3 arg4 harg4 arg5 harg5 arg6 harg6 arg7 harg7 arg8 harg8 arg9 harg9 arg10 harg10 arg11 harg11 k0_pay73 (kernelRun0_A.sl.cst_18 (F := Ideal) ) (harg3.unread (toV (n := 8192) (m := 128) (φ := .bf16) k)) (harg4.unread (toV (n := 8192) (m := 128) (φ := .bf16) v)) (arg10.view.writes (Elt Ideal) (arg10.view.junk (Val := Elt Ideal)) (kernelRun0_A.sl.H8_1 (F := Ideal) )) (arg11.view.writes (Elt Ideal) (arg11.view.junk (Val := Elt Ideal)) (kernelRun0_A.sl.H9_1 (F := Ideal) )) (eighth (ha q0)) (ha o0) (eighth (hb q0)) (hb o0) k v (fun _ _ => 0) (fun _ _ => 0) (fun r => lt r 0) (fun r => lt r 1) (1024 * (i 1).val) rfl (harg3.read_unread _) (harg4.read_unread _) g10 g11 (k0_t1_loop i).trips le_rfl
  have hT : 256 * (k0_t1_loop i).trips = (1024 * (i 1).val) := by rw [trips1]; omega
  rw [hT] at l1 l2 l3
  have e_r_8 : (kernelRun0_A.sl.r_8 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (ha q0)) k (1024 * (i 1).val)) := by
    unfold kernelRun0_A.sl.r_8
    rw [ht2]
    simp only [st_k0_t2, e_r, e_r_1, e_r_2, e_r_3, e_r_4, e_r_5, e_r_6, e_r_7, hinit]
    exact congrArg (fun x => x.1) l1
  have e_r_9 : (kernelRun0_A.sl.r_9 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (ha q0)) (ha o0) k v (fun r => lt r 0) (1024 * (i 1).val)) := by
    unfold kernelRun0_A.sl.r_9
    rw [ht2]
    simp only [st_k0_t2, e_r, e_r_1, e_r_2, e_r_3, e_r_4, e_r_5, e_r_6, e_r_7, hinit]
    exact congrArg (fun x => x.2.1) l1
  have e_r_10 : (kernelRun0_A.sl.r_10 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (ha q0)) (ha o0) k v (fun r => lt r 0) (1024 * (i 1).val)) := by
    unfold kernelRun0_A.sl.r_10
    rw [ht2]
    simp only [st_k0_t2, e_r, e_r_1, e_r_2, e_r_3, e_r_4, e_r_5, e_r_6, e_r_7, hinit]
    exact congrArg (fun x => x.2.2.1) l1
  have e_r_11 : (kernelRun0_A.sl.r_11 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (hb q0)) k (1024 * (i 1).val)) := by
    unfold kernelRun0_A.sl.r_11
    rw [ht2]
    simp only [st_k0_t2, e_r, e_r_1, e_r_2, e_r_3, e_r_4, e_r_5, e_r_6, e_r_7, hinit]
    exact congrArg (fun x => x.2.2.2.1) l1
  have e_r_12 : (kernelRun0_A.sl.r_12 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (hb q0)) (hb o0) k v (fun r => lt r 1) (1024 * (i 1).val)) := by
    unfold kernelRun0_A.sl.r_12
    rw [ht2]
    simp only [st_k0_t2, e_r, e_r_1, e_r_2, e_r_3, e_r_4, e_r_5, e_r_6, e_r_7, hinit]
    exact congrArg (fun x => x.2.2.2.2.1) l1
  have e_r_13 : (kernelRun0_A.sl.r_13 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (hb q0)) (hb o0) k v (fun r => lt r 1) (1024 * (i 1).val)) := by
    unfold kernelRun0_A.sl.r_13
    rw [ht2]
    simp only [st_k0_t2, e_r, e_r_1, e_r_2, e_r_3, e_r_4, e_r_5, e_r_6, e_r_7, hinit]
    exact congrArg (fun x => x.2.2.2.2.2) l1
  have e_v174 : (kernelRun0_A.sl.v174 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 256) (m := 128) (φ := .f32) (rsh (1024 * (i 1).val) (dd (fun _ _ => 0) (dkX (1024 * (i 1).val) (eighth (ha q0)) (ha o0) (eighth (hb q0)) (hb o0) k v (fun r => lt r 0) (fun r => lt r 1)) (1024 * (i 1).val))) := by
    unfold kernelRun0_A.sl.v174
    rw [ht2]
    refine read_rows arg10.view _ ?_ off0 inb0
    simp only [st_k0_t2, List.nil_append, e_r, e_r_1, e_r_2, e_r_3, e_r_4, e_r_5, e_r_6, e_r_7, hinit]
    rw [View.writes_append]
    exact l2
  have e_v180 : (kernelRun0_A.sl.v180 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 256) (m := 128) (φ := .f32) (rsh (1024 * (i 1).val) (dd (fun _ _ => 0) (dvX (1024 * (i 1).val) (eighth (ha q0)) (ha o0) (eighth (hb q0)) (hb o0) k (fun r => lt r 0) (fun r => lt r 1)) (1024 * (i 1).val))) := by
    unfold kernelRun0_A.sl.v180
    rw [ht2]
    refine read_rows arg11.view _ ?_ off0 inb0
    simp only [st_k0_t2, List.nil_append, e_r, e_r_1, e_r_2, e_r_3, e_r_4, e_r_5, e_r_6, e_r_7, hinit]
    rw [View.writes_append]
    exact l3
  have e_r_21 : (kernelRun0_A.sl.r_21 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (ha q0)) k ((1024 * (i 1).val) + 256)) := by
    unfold kernelRun0_A.sl.r_21 kernelRun0_A.sl.r_18 kernelRun0_A.sl.r_17
    simp only [e_r, e_r_1, e_r_2, e_r_3, e_r_4, e_r_5, e_r_6, e_r_7, e_r_8, e_r_9, e_r_10, e_r_11, e_r_12, e_r_13, e_r_14, e_r_15, hK0, hV0]
    exact (tile0_cla _ hi _ _ _ _).trans (whole_Cl hM0)
  have e_r_22 : (kernelRun0_A.sl.r_22 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (ha q0)) (ha o0) k v (fun r => lt r 0) ((1024 * (i 1).val) + 256)) := by
    unfold kernelRun0_A.sl.r_22 kernelRun0_A.sl.r_18 kernelRun0_A.sl.r_17 kernelRun0_A.sl.r_16
    simp only [e_r, e_r_1, e_r_2, e_r_3, e_r_4, e_r_5, e_r_6, e_r_7, e_r_8, e_r_9, e_r_10, e_r_11, e_r_12, e_r_13, e_r_14, e_r_15, hK0, hV0]
    exact (tile0_cpa _ hi _ _ _ _ _ _ _ _ _).trans (whole_Cp hM0)
  have e_r_23 : (kernelRun0_A.sl.r_23 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (ha q0)) (ha o0) k v (fun r => lt r 0) ((1024 * (i 1).val) + 256)) := by
    unfold kernelRun0_A.sl.r_23 kernelRun0_A.sl.r_18 kernelRun0_A.sl.r_17 kernelRun0_A.sl.r_16
    simp only [e_r, e_r_1, e_r_2, e_r_3, e_r_4, e_r_5, e_r_6, e_r_7, e_r_8, e_r_9, e_r_10, e_r_11, e_r_12, e_r_13, e_r_14, e_r_15, hK0, hV0]
    exact (tile0_dqa _ hi _ _ _ _ _ _ _ _ _ _).trans (whole_Dq hM0)
  have e_r_29 : (kernelRun0_A.sl.r_29 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (hb q0)) k ((1024 * (i 1).val) + 256)) := by
    unfold kernelRun0_A.sl.r_29 kernelRun0_A.sl.cst_46 kernelRun0_A.sl.r_25 kernelRun0_A.sl.v44 kernelRun0_A.sl.v43
    simp only [e_r, e_r_1, e_r_2, e_r_3, e_r_4, e_r_5, e_r_6, e_r_7, e_r_8, e_r_9, e_r_10, e_r_11, e_r_12, e_r_13, e_r_14, e_r_15, hK0, hV0]
    exact (tile0_clb _ hi _ _ _ _).trans (whole_Cl hM0)
  have e_r_30 : (kernelRun0_A.sl.r_30 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (hb q0)) (hb o0) k v (fun r => lt r 1) ((1024 * (i 1).val) + 256)) := by
    unfold kernelRun0_A.sl.r_30 kernelRun0_A.sl.cst_46 kernelRun0_A.sl.r_25 kernelRun0_A.sl.r_24 kernelRun0_A.sl.v44 kernelRun0_A.sl.v43
    simp only [e_r, e_r_1, e_r_2, e_r_3, e_r_4, e_r_5, e_r_6, e_r_7, e_r_8, e_r_9, e_r_10, e_r_11, e_r_12, e_r_13, e_r_14, e_r_15, hK0, hV0]
    exact (tile0_cpb _ hi _ _ _ _ _ _ _ _ _).trans (whole_Cp hM0)
  have e_r_31 : (kernelRun0_A.sl.r_31 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (hb q0)) (hb o0) k v (fun r => lt r 1) ((1024 * (i 1).val) + 256)) := by
    unfold kernelRun0_A.sl.r_31 kernelRun0_A.sl.r_26 kernelRun0_A.sl.cst_46 kernelRun0_A.sl.r_25 kernelRun0_A.sl.r_24 kernelRun0_A.sl.v44 kernelRun0_A.sl.v43
    simp only [e_r, e_r_1, e_r_2, e_r_3, e_r_4, e_r_5, e_r_6, e_r_7, e_r_8, e_r_9, e_r_10, e_r_11, e_r_12, e_r_13, e_r_14, e_r_15, hK0, hV0]
    exact (tile0_dqb _ hi _ _ _ _ _ _ _ _ _ _).trans (whole_Dq hM0)
  have e_H8_1_1 : arg10.view.read (Elt Ideal) (arg10.view.writes (Elt Ideal) (arg10.view.junk (Val := Elt Ideal)) (kernelRun0_A.sl.H8_1_1 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))) = toV (n := 8192) (m := 128) (φ := .f32) (dd (fun _ _ => 0) (dkX (1024 * (i 1).val) (eighth (ha q0)) (ha o0) (eighth (hb q0)) (hb o0) k v (fun r => lt r 0) (fun r => lt r 1)) ((1024 * (i 1).val) + 256)) := by
    unfold kernelRun0_A.sl.H8_1_1 kernelRun0_A.sl.r_27 kernelRun0_A.sl.cst_46 kernelRun0_A.sl.r_25 kernelRun0_A.sl.r_24 kernelRun0_A.sl.r_19 kernelRun0_A.sl.r_18 kernelRun0_A.sl.r_17 kernelRun0_A.sl.r_16 kernelRun0_A.sl.v44 kernelRun0_A.sl.v43
    rw [ht2]
    simp only [st_k0_t2, List.nil_append, hinit, e_r, e_r_1, e_r_2, e_r_3, e_r_4, e_r_5, e_r_6, e_r_7, e_r_8, e_r_9, e_r_10, e_r_11, e_r_12, e_r_13, e_r_14, e_r_15, hK0, hV0, e_v174]
    rw [tile0_dk _ hi]
    refine (read_upd arg10.view (arg10.view.junk (Val := Elt Ideal)) _ ?_ off0 inb0 _).trans (upd_dd fun s e hs => ?_)
    · rw [View.writes_append]; exact l2
    · rw [whole_DK hM0 s e hs, whole_DK hM0 s e hs]; rfl
  have e_H9_1_1 : arg11.view.read (Elt Ideal) (arg11.view.writes (Elt Ideal) (arg11.view.junk (Val := Elt Ideal)) (kernelRun0_A.sl.H9_1_1 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))) = toV (n := 8192) (m := 128) (φ := .f32) (dd (fun _ _ => 0) (dvX (1024 * (i 1).val) (eighth (ha q0)) (ha o0) (eighth (hb q0)) (hb o0) k (fun r => lt r 0) (fun r => lt r 1)) ((1024 * (i 1).val) + 256)) := by
    unfold kernelRun0_A.sl.H9_1_1 kernelRun0_A.sl.r_28 kernelRun0_A.sl.cst_46 kernelRun0_A.sl.r_25 kernelRun0_A.sl.r_24 kernelRun0_A.sl.r_20 kernelRun0_A.sl.r_18 kernelRun0_A.sl.r_17 kernelRun0_A.sl.r_16 kernelRun0_A.sl.v44 kernelRun0_A.sl.v43
    rw [ht2]
    simp only [st_k0_t2, List.nil_append, hinit, e_r, e_r_1, e_r_2, e_r_3, e_r_4, e_r_5, e_r_6, e_r_7, e_r_8, e_r_9, e_r_10, e_r_11, e_r_12, e_r_13, e_r_14, e_r_15, hK0, hV0, e_v180]
    rw [tile0_dv _ hi]
    refine (read_upd arg11.view (arg11.view.junk (Val := Elt Ideal)) _ ?_ off0 inb0 _).trans (upd_dd fun s e hs => ?_)
    · rw [View.writes_append]; exact l3
    · rw [whole_DV hM0 s e hs, whole_DV hM0 s e hs]; rfl
  have e_r_44 : (kernelRun0_A.sl.r_44 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (ha q0)) k ((1024 * (i 1).val) + 512)) := by
    unfold kernelRun0_A.sl.r_44 kernelRun0_A.sl.r_43 kernelRun0_A.sl.r_40 kernelRun0_A.sl.v187 kernelRun0_A.sl.v186 kernelRun0_A.sl.v43 kernelRun0_A.sl.v209 kernelRun0_A.sl.v208 kernelRun0_A.sl.r_37
    simp only [e_r, e_r_1, e_r_2, e_r_3, e_r_4, e_r_5, e_r_6, e_r_7, e_r_21, e_r_22, e_r_23, e_r_29, e_r_30, e_r_31, e_r_32, e_r_33, hK1, hV1]
    exact (tile1_cla _ hi _ _ _ _).trans (lower_Cl hM1 rfl)
  have e_r_45 : (kernelRun0_A.sl.r_45 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (ha q0)) (ha o0) k v (fun r => lt r 0) ((1024 * (i 1).val) + 512)) := by
    unfold kernelRun0_A.sl.r_45 kernelRun0_A.sl.r_41 kernelRun0_A.sl.v187 kernelRun0_A.sl.v186 kernelRun0_A.sl.v43 kernelRun0_A.sl.v209 kernelRun0_A.sl.v208 kernelRun0_A.sl.r_37 kernelRun0_A.sl.r_36 kernelRun0_A.sl.r_35
    simp only [e_r, e_r_1, e_r_2, e_r_3, e_r_4, e_r_5, e_r_6, e_r_7, e_r_21, e_r_22, e_r_23, e_r_29, e_r_30, e_r_31, e_r_32, e_r_33, hK1, hV1]
    exact (tile1_cpa _ hi _ _ _ _ _ _ _ _ _).trans (lower_Cp hM1 rfl)
  have e_r_46 : (kernelRun0_A.sl.r_46 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (ha q0)) (ha o0) k v (fun r => lt r 0) ((1024 * (i 1).val) + 512)) := by
    unfold kernelRun0_A.sl.r_46 kernelRun0_A.sl.r_42 kernelRun0_A.sl.v187 kernelRun0_A.sl.v186 kernelRun0_A.sl.v43 kernelRun0_A.sl.v209 kernelRun0_A.sl.v208 kernelRun0_A.sl.r_37 kernelRun0_A.sl.r_36 kernelRun0_A.sl.r_35
    simp only [e_r, e_r_1, e_r_2, e_r_3, e_r_4, e_r_5, e_r_6, e_r_7, e_r_21, e_r_22, e_r_23, e_r_29, e_r_30, e_r_31, e_r_32, e_r_33, hK1, hV1]
    exact (tile1_dqa _ hi _ _ _ _ _ _ _ _ _ _).trans (lower_Dq hM1 rfl)
  have e_r_55 : (kernelRun0_A.sl.r_55 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (hb q0)) k ((1024 * (i 1).val) + 512)) := by
    unfold kernelRun0_A.sl.r_55 kernelRun0_A.sl.r_51 kernelRun0_A.sl.v186 kernelRun0_A.sl.v43
    simp only [e_r, e_r_1, e_r_2, e_r_3, e_r_4, e_r_5, e_r_6, e_r_7, e_r_21, e_r_22, e_r_23, e_r_29, e_r_30, e_r_31, e_r_32, e_r_33, hK1, hV1]
    exact (tile1_clb _ hi _ _ _ _).trans (lower_Cl hM1 rfl)
  have e_r_56 : (kernelRun0_A.sl.r_56 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (hb q0)) (hb o0) k v (fun r => lt r 1) ((1024 * (i 1).val) + 512)) := by
    unfold kernelRun0_A.sl.r_56 kernelRun0_A.sl.r_54 kernelRun0_A.sl.v186 kernelRun0_A.sl.v43
    simp only [e_r, e_r_1, e_r_2, e_r_3, e_r_4, e_r_5, e_r_6, e_r_7, e_r_21, e_r_22, e_r_23, e_r_29, e_r_30, e_r_31, e_r_32, e_r_33, hK1, hV1]
    exact (tile1_cpb _ hi _ _ _ _ _ _ _ _ _).trans (lower_Cp hM1 rfl)
  have e_r_57 : (kernelRun0_A.sl.r_57 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (hb q0)) (hb o0) k v (fun r => lt r 1) ((1024 * (i 1).val) + 512)) := by
    unfold kernelRun0_A.sl.r_57 kernelRun0_A.sl.r_54 kernelRun0_A.sl.r_53 kernelRun0_A.sl.r_50 kernelRun0_A.sl.r_49 kernelRun0_A.sl.v186 kernelRun0_A.sl.v43
    simp only [e_r, e_r_1, e_r_2, e_r_3, e_r_4, e_r_5, e_r_6, e_r_7, e_r_21, e_r_22, e_r_23, e_r_29, e_r_30, e_r_31, e_r_32, e_r_33, hK1, hV1]
    exact (tile1_dqb _ hi _ _ _ _ _ _ _ _ _ _).trans (lower_Dq hM1 rfl)
  have e_rd8_1 := read_rows arg10.view _ e_H8_1_1 off1 inb1
  have e_H8_2 : arg10.view.read (Elt Ideal) (arg10.view.writes (Elt Ideal) (arg10.view.junk (Val := Elt Ideal)) (kernelRun0_A.sl.H8_2 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))) = toV (n := 8192) (m := 128) (φ := .f32) (dd (fun _ _ => 0) (dkX (1024 * (i 1).val) (eighth (ha q0)) (ha o0) (eighth (hb q0)) (hb o0) k v (fun r => lt r 0) (fun r => lt r 1)) ((1024 * (i 1).val) + 512)) := by
    unfold kernelRun0_A.sl.H8_2 kernelRun0_A.sl.r_54 kernelRun0_A.sl.r_53 kernelRun0_A.sl.r_50 kernelRun0_A.sl.r_49 kernelRun0_A.sl.r_47 kernelRun0_A.sl.r_38 kernelRun0_A.sl.v187 kernelRun0_A.sl.v186 kernelRun0_A.sl.v43 kernelRun0_A.sl.v209 kernelRun0_A.sl.v208 kernelRun0_A.sl.r_37 kernelRun0_A.sl.r_36 kernelRun0_A.sl.r_35 kernelRun0_A.sl.r_34
    simp only [e_r, e_r_1, e_r_2, e_r_3, e_r_4, e_r_5, e_r_6, e_r_7, e_r_21, e_r_22, e_r_23, e_r_29, e_r_30, e_r_31, e_r_32, e_r_33, hK1, hV1, e_rd8_1]
    rw [tile1_dk _ hi]
    refine (read_upd arg10.view (arg10.view.junk (Val := Elt Ideal)) _ e_H8_1_1 off1 inb1 _).trans (upd_dd fun s e hs => ?_)
    rw [lower_DK hM1 le_rfl rfl s e hs, lower_DK hM1 le_rfl rfl s e hs]; rfl
  have e_rd9_1 := read_rows arg11.view _ e_H9_1_1 off1 inb1
  have e_H9_2 : arg11.view.read (Elt Ideal) (arg11.view.writes (Elt Ideal) (arg11.view.junk (Val := Elt Ideal)) (kernelRun0_A.sl.H9_2 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))) = toV (n := 8192) (m := 128) (φ := .f32) (dd (fun _ _ => 0) (dvX (1024 * (i 1).val) (eighth (ha q0)) (ha o0) (eighth (hb q0)) (hb o0) k (fun r => lt r 0) (fun r => lt r 1)) ((1024 * (i 1).val) + 512)) := by
    unfold kernelRun0_A.sl.H9_2 kernelRun0_A.sl.r_52 kernelRun0_A.sl.r_48 kernelRun0_A.sl.r_39 kernelRun0_A.sl.v187 kernelRun0_A.sl.v186 kernelRun0_A.sl.v43 kernelRun0_A.sl.v209 kernelRun0_A.sl.v208 kernelRun0_A.sl.r_37 kernelRun0_A.sl.r_36 kernelRun0_A.sl.r_35
    simp only [e_r, e_r_1, e_r_2, e_r_3, e_r_4, e_r_5, e_r_6, e_r_7, e_r_21, e_r_22, e_r_23, e_r_29, e_r_30, e_r_31, e_r_32, e_r_33, hK1, hV1, e_rd9_1]
    rw [tile1_dv _ hi]
    refine (read_upd arg11.view (arg11.view.junk (Val := Elt Ideal)) _ e_H9_1_1 off1 inb1 _).trans (upd_dd fun s e hs => ?_)
    rw [lower_DV hM1 le_rfl rfl s e hs, lower_DV hM1 le_rfl rfl s e hs]; rfl
  have e_r_68 : (kernelRun0_A.sl.r_68 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (ha q0)) k ((1024 * (i 1).val) + 768)) := by
    unfold kernelRun0_A.sl.r_68 kernelRun0_A.sl.r_64 kernelRun0_A.sl.v356 kernelRun0_A.sl.v43
    simp only [e_r, e_r_1, e_r_2, e_r_3, e_r_4, e_r_5, e_r_6, e_r_7, e_r_44, e_r_45, e_r_46, e_r_55, e_r_56, e_r_57, e_r_58, e_r_59, hK2, hV2]
    exact (tile2_cla _ hi _ _ _ _).trans (lower_Cl hM2 rfl)
  have e_r_69 : (kernelRun0_A.sl.r_69 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (ha q0)) (ha o0) k v (fun r => lt r 0) ((1024 * (i 1).val) + 768)) := by
    unfold kernelRun0_A.sl.r_69 kernelRun0_A.sl.r_65 kernelRun0_A.sl.v356 kernelRun0_A.sl.v43 kernelRun0_A.sl.r_61
    simp only [e_r, e_r_1, e_r_2, e_r_3, e_r_4, e_r_5, e_r_6, e_r_7, e_r_44, e_r_45, e_r_46, e_r_55, e_r_56, e_r_57, e_r_58, e_r_59, hK2, hV2]
    exact (tile2_cpa _ hi _ _ _ _ _ _ _ _ _).trans (lower_Cp hM2 rfl)
  have e_r_70 : (kernelRun0_A.sl.r_70 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (ha q0)) (ha o0) k v (fun r => lt r 0) ((1024 * (i 1).val) + 768)) := by
    unfold kernelRun0_A.sl.r_70 kernelRun0_A.sl.r_65 kernelRun0_A.sl.r_63 kernelRun0_A.sl.r_62 kernelRun0_A.sl.v356 kernelRun0_A.sl.v43 kernelRun0_A.sl.r_61
    simp only [e_r, e_r_1, e_r_2, e_r_3, e_r_4, e_r_5, e_r_6, e_r_7, e_r_44, e_r_45, e_r_46, e_r_55, e_r_56, e_r_57, e_r_58, e_r_59, hK2, hV2]
    exact (tile2_dqa _ hi _ _ _ _ _ _ _ _ _ _).trans (lower_Dq hM2 rfl)
  have e_r_81 : (kernelRun0_A.sl.r_81 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (cc (1024 * (i 1).val) (eighth (hb q0)) k ((1024 * (i 1).val) + 768)) := by
    unfold kernelRun0_A.sl.r_81 kernelRun0_A.sl.r_79 kernelRun0_A.sl.r_74 kernelRun0_A.sl.v356 kernelRun0_A.sl.v43
    simp only [e_r, e_r_1, e_r_2, e_r_3, e_r_4, e_r_5, e_r_6, e_r_7, e_r_44, e_r_45, e_r_46, e_r_55, e_r_56, e_r_57, e_r_58, e_r_59, hK2, hV2]
    exact (tile2_clb _ hi _ _ _ _).trans (lower_Cl hM2 rfl)
  have e_r_82 : (kernelRun0_A.sl.r_82 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 1) (φ := .f32) (pp (1024 * (i 1).val) (eighth (hb q0)) (hb o0) k v (fun r => lt r 1) ((1024 * (i 1).val) + 768)) := by
    unfold kernelRun0_A.sl.r_82 kernelRun0_A.sl.r_80 kernelRun0_A.sl.r_75 kernelRun0_A.sl.r_74 kernelRun0_A.sl.r_73 kernelRun0_A.sl.r_72 kernelRun0_A.sl.v356 kernelRun0_A.sl.v43
    simp only [e_r, e_r_1, e_r_2, e_r_3, e_r_4, e_r_5, e_r_6, e_r_7, e_r_44, e_r_45, e_r_46, e_r_55, e_r_56, e_r_57, e_r_58, e_r_59, hK2, hV2]
    exact (tile2_cpb _ hi _ _ _ _ _ _ _ _ _).trans (lower_Cp hM2 rfl)
  have e_r_83 : (kernelRun0_A.sl.r_83 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) = toV (n := 1024) (m := 128) (φ := .f32) (bDQ (1024 * (i 1).val) (eighth (hb q0)) (hb o0) k v (fun r => lt r 1) ((1024 * (i 1).val) + 768)) := by
    unfold kernelRun0_A.sl.r_83 kernelRun0_A.sl.r_76 kernelRun0_A.sl.r_74 kernelRun0_A.sl.r_73 kernelRun0_A.sl.r_72 kernelRun0_A.sl.v356 kernelRun0_A.sl.v43
    simp only [e_r, e_r_1, e_r_2, e_r_3, e_r_4, e_r_5, e_r_6, e_r_7, e_r_44, e_r_45, e_r_46, e_r_55, e_r_56, e_r_57, e_r_58, e_r_59, hK2, hV2]
    exact (tile2_dqb _ hi _ _ _ _ _ _ _ _ _ _).trans (lower_Dq hM2 rfl)
  have e_rd8_2 := read_rows arg10.view _ e_H8_2 off2 inb2
  have e_H8_3 : arg10.view.read (Elt Ideal) (arg10.view.writes (Elt Ideal) (arg10.view.junk (Val := Elt Ideal)) (kernelRun0_A.sl.H8_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))) = toV (n := 8192) (m := 128) (φ := .f32) (dd (fun _ _ => 0) (dkX (1024 * (i 1).val) (eighth (ha q0)) (ha o0) (eighth (hb q0)) (hb o0) k v (fun r => lt r 0) (fun r => lt r 1)) ((1024 * (i 1).val) + 768)) := by
    unfold kernelRun0_A.sl.H8_3 kernelRun0_A.sl.r_77 kernelRun0_A.sl.r_74 kernelRun0_A.sl.r_73 kernelRun0_A.sl.r_72 kernelRun0_A.sl.r_71 kernelRun0_A.sl.r_66 kernelRun0_A.sl.r_65 kernelRun0_A.sl.r_63 kernelRun0_A.sl.r_62 kernelRun0_A.sl.r_61 kernelRun0_A.sl.r_60 kernelRun0_A.sl.v356 kernelRun0_A.sl.v43
    simp only [e_r, e_r_1, e_r_2, e_r_3, e_r_4, e_r_5, e_r_6, e_r_7, e_r_44, e_r_45, e_r_46, e_r_55, e_r_56, e_r_57, e_r_58, e_r_59, hK2, hV2, e_rd8_2]
    rw [tile2_dk _ hi]
    refine (read_upd arg10.view (arg10.view.junk (Val := Elt Ideal)) _ e_H8_2 off2 inb2 _).trans (upd_dd fun s e hs => ?_)
    rw [lower_DK hM2 le_rfl rfl s e hs, lower_DK hM2 le_rfl rfl s e hs]; rfl
  have e_rd9_2 := read_rows arg11.view _ e_H9_2 off2 inb2
  have e_H9_3 : arg11.view.read (Elt Ideal) (arg11.view.writes (Elt Ideal) (arg11.view.junk (Val := Elt Ideal)) (kernelRun0_A.sl.H9_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))) = toV (n := 8192) (m := 128) (φ := .f32) (dd (fun _ _ => 0) (dvX (1024 * (i 1).val) (eighth (ha q0)) (ha o0) (eighth (hb q0)) (hb o0) k (fun r => lt r 0) (fun r => lt r 1)) ((1024 * (i 1).val) + 768)) := by
    unfold kernelRun0_A.sl.H9_3 kernelRun0_A.sl.r_78 kernelRun0_A.sl.r_74 kernelRun0_A.sl.r_73 kernelRun0_A.sl.r_72 kernelRun0_A.sl.r_67 kernelRun0_A.sl.r_65 kernelRun0_A.sl.r_61 kernelRun0_A.sl.v356 kernelRun0_A.sl.v43
    simp only [e_r, e_r_1, e_r_2, e_r_3, e_r_4, e_r_5, e_r_6, e_r_7, e_r_44, e_r_45, e_r_46, e_r_55, e_r_56, e_r_57, e_r_58, e_r_59, hK2, hV2, e_rd9_2]
    rw [tile2_dv _ hi]
    refine (read_upd arg11.view (arg11.view.junk (Val := Elt Ideal)) _ e_H9_2 off2 inb2 _).trans (upd_dd fun s e hs => ?_)
    rw [lower_DV hM2 le_rfl rfl s e hs, lower_DV hM2 le_rfl rfl s e hs]; rfl
  have e_rd8_3 := read_rows arg10.view _ e_H8_3 off3 inb3
  have e_fin8 : arg10.view.read (Elt Ideal) (arg10.view.writes (Elt Ideal) (arg10.view.junk (Val := Elt Ideal)) ((⟨Rect.unit (s := S8192x128) (k0_off3 i 3#32) S256x128.size inb3, k0_pay222 (kernelRun0_A.sl.r_91 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (kernelRun0_A.sl.r_95 (F := Ideal) c arg2 harg2 (toV (n := 1024) (m := 128) (φ := .bf16) q0)) (kernelRun0_A.sl.r_97 i) (kernelRun0_A.sl.r_99 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (kernelRun0_A.sl.r_100 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (kernelRun0_A.sl.r_101 (F := Ideal) c i arg2 harg2 arg3 harg3 (toV (n := 1024) (m := 128) (φ := .bf16) q0) (toV (n := 8192) (m := 128) (φ := .bf16) k)) (kernelRun0_A.sl.r_102 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (arg10.view.readAt (Elt Ideal) (Rect.unit (s := S8192x128) (k0_off3 i 3#32) S256x128.size inb3).toLoadRect (arg10.view.writes (Elt Ideal) (arg10.view.junk (Val := Elt Ideal)) (kernelRun0_A.sl.H8_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))))⟩ : View.Piece (Elt Ideal) S8192x128 .f32) :: (kernelRun0_A.sl.H8_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)))) = toV (n := 8192) (m := 128) (φ := .f32) (fun s e => (fun _ _ => 0) s e + (dkX (1024 * (i 1).val) (eighth (ha q0)) (ha o0) (eighth (hb q0)) (hb o0) k v (fun r => lt r 0) (fun r => lt r 1)) s e) := by
    unfold kernelRun0_A.sl.r_102 kernelRun0_A.sl.r_101 kernelRun0_A.sl.r_100 kernelRun0_A.sl.r_99 kernelRun0_A.sl.r_97 kernelRun0_A.sl.r_95 kernelRun0_A.sl.r_91 kernelRun0_A.sl.r_90 kernelRun0_A.sl.r_89 kernelRun0_A.sl.r_88 kernelRun0_A.sl.r_87 kernelRun0_A.sl.r_86 kernelRun0_A.sl.v526 kernelRun0_A.sl.v43
    simp only [e_r, e_r_1, e_r_2, e_r_3, e_r_4, e_r_5, e_r_6, e_r_7, e_r_68, e_r_69, e_r_70, e_r_81, e_r_82, e_r_83, e_r_84, e_r_85, hK3, hV3, e_rd8_3]
    rw [tile3_dk _ hi]
    refine (read_upd arg10.view (arg10.view.junk (Val := Elt Ideal)) _ e_H8_3 off3 inb3 _).trans ((upd_dd fun s e hs => ?_).trans (toV_dd_dk _ _ _ _ _ _ _ _ _ _))
    rw [lower_DK hM3 le_rfl rfl s e hs, lower_DK hM3 le_rfl rfl s e hs]; rfl
  have e_rd9_3 := read_rows arg11.view _ e_H9_3 off3 inb3
  have e_fin9 : arg11.view.read (Elt Ideal) (arg11.view.writes (Elt Ideal) (arg11.view.junk (Val := Elt Ideal)) ((⟨Rect.unit (s := S8192x128) (k0_off3 i 3#32) S256x128.size inb3, k0_pay223 (kernelRun0_A.sl.r_92 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (kernelRun0_A.sl.r_96 (F := Ideal) c arg5 harg5 (toV (n := 1024) (m := 128) (φ := .bf16) o0)) (kernelRun0_A.sl.r_98 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (arg11.view.readAt (Elt Ideal) (Rect.unit (s := S8192x128) (k0_off3 i 3#32) S256x128.size inb3).toLoadRect (arg11.view.writes (Elt Ideal) (arg11.view.junk (Val := Elt Ideal)) (kernelRun0_A.sl.H9_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE))))⟩ : View.Piece (Elt Ideal) S8192x128 .f32) :: (kernelRun0_A.sl.H9_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)))) = toV (n := 8192) (m := 128) (φ := .f32) (fun s e => (fun _ _ => 0) s e + (dvX (1024 * (i 1).val) (eighth (ha q0)) (ha o0) (eighth (hb q0)) (hb o0) k (fun r => lt r 0) (fun r => lt r 1)) s e) := by
    unfold kernelRun0_A.sl.r_98 kernelRun0_A.sl.r_96 kernelRun0_A.sl.r_92 kernelRun0_A.sl.r_90 kernelRun0_A.sl.r_89 kernelRun0_A.sl.r_88 kernelRun0_A.sl.r_87 kernelRun0_A.sl.v526 kernelRun0_A.sl.v43
    simp only [e_r, e_r_1, e_r_2, e_r_3, e_r_4, e_r_5, e_r_6, e_r_7, e_r_68, e_r_69, e_r_70, e_r_81, e_r_82, e_r_83, e_r_84, e_r_85, hK3, hV3, e_rd9_3]
    rw [tile3_dv _ hi]
    refine (read_upd arg11.view (arg11.view.junk (Val := Elt Ideal)) _ e_H9_3 off3 inb3 _).trans ((upd_dd fun s e hs => ?_).trans (toV_dd_dv _ _ _ _ _ _ _ _ _))
    rw [lower_DV hM3 le_rfl rfl s e hs, lower_DV hM3 le_rfl rfl s e hs]; rfl
  have e_fin7 : k0_pay1 (kernelRun0_A.sl.r_103 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE)) (kernelRun0_A.sl.cst_189 (F := Ideal) ) = toV (n := 1024) (m := 128) (φ := .f32) (dqX (1024 * (i 1).val) (eighth (ha q0)) (ha o0) (eighth (hb q0)) (hb o0) k v (fun r => lt r 0) (fun r => lt r 1)) := by
    unfold kernelRun0_A.sl.r_103 kernelRun0_A.sl.r_102 kernelRun0_A.sl.r_101 kernelRun0_A.sl.r_100 kernelRun0_A.sl.r_99 kernelRun0_A.sl.r_97 kernelRun0_A.sl.r_94 kernelRun0_A.sl.r_93 kernelRun0_A.sl.r_90 kernelRun0_A.sl.r_89 kernelRun0_A.sl.r_88 kernelRun0_A.sl.r_87 kernelRun0_A.sl.v526 kernelRun0_A.sl.v43 kernelRun0_A.sl.cst_189
    simp only [e_r, e_r_1, e_r_2, e_r_3, e_r_4, e_r_5, e_r_6, e_r_7, e_r_68, e_r_69, e_r_70, e_r_81, e_r_82, e_r_83, e_r_84, e_r_85, hK3, hV3]
    refine (tile3_dq _ hi _ _ _ _ _ _ _ _ _ _ _ _ _ _ _ _).trans (ext_v _ _ fun r _ d _ => ?_)
    rw [lower_dq hM3 rfl, lower_dq hM3 rfl]
    unfold dqX; simp only [decide_eq_true_eq]
  unfold out0_A_7 out0_A_8 out0_A_9 kernelRun0_A
  dsimp only
  exact ⟨(read_whole VO0_7 _ _ _ _).trans e_fin7,
    ((View.read_writes_junk_eq_canon VO0_8 _).trans (View.read_writes_junk_eq_canon arg10.view _).symm).trans e_fin8,
    ((View.read_writes_junk_eq_canon VO0_9 _).trans (View.read_writes_junk_eq_canon arg11.view _).symm).trans e_fin9⟩

end Cert.Val

end
-- ==== Proof.BodyB.lean ====
/- What the kernel's body leaves at a grid point that is not the first of its heads. -/
module

public import proofs.«01_k».proof.Proof.Loop
public import proofs.«01_k».proof.Proof.Done
public import proofs.«01_k».proof.Proof.Tile0
public import proofs.«01_k».proof.Proof.Tile1
public import proofs.«01_k».proof.Proof.Tile2
public import proofs.«01_k».proof.Proof.Tile3

@[expose] public section

set_option maxRecDepth 16384
set_option maxHeartbeats 4000000

noncomputable section

namespace Cert.Val

open Cert.KernelIdeal Cert.KernelIdeal.Gen Idealize.ShloMosaic

theorem body_B (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (q0 k v o0 lt old8 old9 : ℕ → ℕ → ℝ) :
    out0_B_7 (F := Ideal) c i arg2 harg2 arg3 harg3 arg4 harg4 arg5 harg5 arg6 harg6 arg7 harg7 arg8 harg8 arg9 harg9 arg10 harg10 arg11 harg11 hc0 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9) = toV (n := 1024) (m := 128) (φ := .f32) (dqX (1024 * (i 1).val) (eighth (ha q0)) (ha o0) (eighth (hb q0)) (hb o0) k v (fun r => lt r 0) (fun r => lt r 1))
    ∧ out0_B_8 (F := Ideal) c i arg2 harg2 arg3 harg3 arg4 harg4 arg5 harg5 arg6 harg6 arg7 harg7 arg8 harg8 arg9 harg9 arg10 harg10 arg11 harg11 hc0 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9) = toV (n := 8192) (m := 128) (φ := .f32) (fun s e => old8 s e + (dkX (1024 * (i 1).val) (eighth (ha q0)) (ha o0) (eighth (hb q0)) (hb o0) k v (fun r => lt r 0) (fun r => lt r 1)) s e)
    ∧ out0_B_9 (F := Ideal) c i arg2 harg2 arg3 harg3 arg4 harg4 arg5 harg5 arg6 harg6 arg7 harg7 arg8 harg8 arg9 harg9 arg10 harg10 arg11 harg11 hc0 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9) = toV (n := 8192) (m := 128) (φ := .f32) (fun s e => old9 s e + (dvX (1024 * (i 1).val) (eighth (ha q0)) (ha o0) (eighth (hb q0)) (hb o0) k (fun r => lt r 0) (fun r => lt r 1)) s e) := by
  have hi : (i 1).val < 8 := (i 1).isLt
  have e_r : (kernelRun0_B.sl.r (F := Ideal) c arg2 harg2 (toV (n := 1024) (m := 128) (φ := .bf16) q0)) = toV (n := 1024) (m := 128) (φ := .bf16) (eighth (ha q0)) := by
    unfold kernelRun0_B.sl.r
    rw [read2 arg2 harg2 _ _]
    exact pay63_v _
  have e_r_1 : (kernelRun0_B.sl.r_1 (F := Ideal) c arg2 harg2 (toV (n := 1024) (m := 128) (φ := .bf16) q0)) = toV (n := 1024) (m := 128) (φ := .bf16) (eighth (hb q0)) := by
    unfold kernelRun0_B.sl.r_1
    rw [read2 arg2 harg2 _ _]
    exact pay64_v _
  have e_r_2 : (kernelRun0_B.sl.r_2 (F := Ideal) c arg5 harg5 (toV (n := 1024) (m := 128) (φ := .bf16) o0)) = toV (n := 1024) (m := 128) (φ := .bf16) (ha o0) := by
    unfold kernelRun0_B.sl.r_2
    rw [read2 arg5 harg5 _ _]
    exact pay66_v _
  have e_r_3 : (kernelRun0_B.sl.r_3 (F := Ideal) c arg5 harg5 (toV (n := 1024) (m := 128) (φ := .bf16) o0)) = toV (n := 1024) (m := 128) (φ := .bf16) (hb o0) := by
    unfold kernelRun0_B.sl.r_3
    rw [read2 arg5 harg5 _ _]
    exact pay67_v _
  have e_r_4 : (kernelRun0_B.sl.r_4 (F := Ideal) c arg6 harg6 (toT lt)) = toV (n := 1024) (m := 1) (φ := .f32) (ll (fun r => lt r 0)) := by
    unfold kernelRun0_B.sl.r_4
    rw [read3 arg6 harg6 _ _]
    exact pay69_v _
  have e_r_5 : (kernelRun0_B.sl.r_5 (F := Ideal) c arg6 harg6 (toT lt)) = toV (n := 1024) (m := 1) (φ := .f32) (ll (fun r => lt r 1)) := by
    unfold kernelRun0_B.sl.r_5
    rw [read3 arg6 harg6 _ _]
    exact pay70_v _
  have e_r_6 : (kernelRun0_B.sl.r_6 (F := Ideal) c arg7 harg7 (toV (n := 256) (m := 256) (φ := .bf16) trI)) = toV (n := 256) (m := 256) (φ := .bf16) trI := by
    unfold kernelRun0_B.sl.r_6
    rw [read2 arg7 harg7 _ _]
    exact pay71_v _
  have e_r_7 : (kernelRun0_B.sl.r_7 (F := Ideal) c arg8 harg8 (toV (n := 256) (m := 256) (φ := .bf16) trE)) = toV (n := 256) (m := 256) (φ := .bf16) trE := by
    unfold kernelRun0_B.sl.r_7
    rw [read2 arg8 harg8 _ _]
    exact pay72_v _
  have off0 : k0_off3 i 0#32 = ![1024 * (i 1).val, 0] := k0_off3_eq i 0
  have inb0 : ∀ a, k0_off3 i 0#32 a + S256x128.size a ≤ S8192x128.size a := k0_off3_inb i 0
  have hK0 := read_rowsb arg3.view (harg3.unread (toV (n := 8192) (m := 128) (φ := .bf16) k)) (harg3.read_unread _) off0 inb0
  have hV0 := read_rowsb arg4.view (harg4.unread (toV (n := 8192) (m := 128) (φ := .bf16) v)) (harg4.read_unread _) off0 inb0
  have hM0 : ∀ r s, s < 256 → (tM (((i 1).val * 4 + 0) * 256) ((i 1).val * 1024 + 0) r s = true ↔ (1024 * (i 1).val) + s < (1024 * (i 1).val) + r) := fun r s _ => by unfold tM; rw [decide_eq_true_iff]; omega
  have e_r_14 : (kernelRun0_B.sl.r_14 (F := Ideal) i arg3 harg3 (toV (n := 8192) (m := 128) (φ := .bf16) k)) = toV (n := 256) (m := 128) (φ := .bf16) (rsh (1024 * (i 1).val) k) := hK0
  have e_r_15 : (kernelRun0_B.sl.r_15 (F := Ideal) i arg4 harg4 (toV (n := 8192) (m := 128) (φ := .bf16) v)) = toV (n := 256) (m := 128) (φ := .bf16) (rsh (1024 * (i 1).val) v) := hV0
  have off1 : k0_off3 i 1#32 = ![1024 * (i 1).val + 256, 0] := k0_off3_eq i 1
  have inb1 : ∀ a, k0_off3 i 1#32 a + S256x128.size a ≤ S8192x128.size a := k0_off3_inb i 1
  have hK1 := read_rowsb arg3.view (harg3.unread (toV (n := 8192) (m := 128) (φ := .bf16) k)) (harg3.read_unread _) off1 inb1
  have hV1 := read_rowsb arg4.view (harg4.unread (toV (n := 8192) (m := 128) (φ := .bf16) v)) (harg4.read_unread _) off1 inb1
  have hM1 : ∀ r s, s < 256 → (tM (((i 1).val * 4 + 1) * 256) ((i 1).val * 1024 + 256) r s = true ↔ ((1024 * (i 1).val) + 256) + s < (1024 * (i 1).val) + (256 + r)) := fun r s _ => by unfold tM; rw [decide_eq_true_iff]; omega
  have e_r_32 : (kernelRun0_B.sl.r_32 (F := Ideal) i arg3 harg3 (toV (n := 8192) (m := 128) (φ := .bf16) k)) = toV (n := 256) (m := 128) (φ := .bf16) (rsh ((1024 * (i 1).val) + 256) k) := hK1
  have e_r_33 : (kernelRun0_B.sl.r_33 (F := Ideal) i arg4 harg4 (toV (n := 8192) (m := 128) (φ := .bf16) v)) = toV (n := 256) (m := 128) (φ := .bf16) (rsh ((1024 * (i 1).val) + 256) v) := hV1
  have off2 : k0_off3 i 2#32 = ![1024 * (i 1).val + 512, 0] := k0_off3_eq i 2
  have inb2 : ∀ a, k0_off3 i 2#32 a + S256x128.size a ≤ S8192x128.size a := k0_off3_inb i 2
  have hK2 := read_rowsb arg3.view (harg3.unread (toV (n := 8192) (m := 128) (φ := .bf16) k)) (harg3.read_unread _) off2 inb2
  have hV2 := read_rowsb arg4.view (harg4.unread (toV (n := 8192) (m := 128) (φ := .bf16) v)) (harg4.read_unread _) off2 inb2
  have hM2 : ∀ r s, s < 256 → (tM (((i 1).val * 4 + 2) * 256) ((i 1).val * 1024 + 512) r s = true ↔ ((1024 * (i 1).val) + 512) + s < (1024 * (i 1).val) + (512 + r)) := fun r s _ => by unfold tM; rw [decide_eq_true_iff]; omega
  have e_r_58 : (kernelRun0_B.sl.r_58 (F := Ideal) i arg3 harg3 (toV (n := 8192) (m := 128) (φ := .bf16) k)) = toV (n := 256) (m := 128) (φ := .bf16) (rsh ((1024 * (i 1).val) + 512) k) := hK2
  have e_r_59 : (kernelRun0_B.sl.r_59 (F := Ideal) i arg4 harg4 (toV (n := 8192) (m := 128) (φ := .bf16) v)) = toV (n := 256) (m := 128) (φ := .bf16) (rsh ((1024 * (i 1).val) + 512) v) := hV2
  have off3 : k0_off3 i 3#32 = ![1024 * (i 1).val + 768, 0] := k0_off3_eq i 3
  have inb3 : ∀ a, k0_off3 i 3#32 a + S256x128.size a ≤ S8192x128.size a := k0_off3_inb i 3
  have hK3 := read_rowsb arg3.view (harg3.unread (toV (n := 8192) (m := 128) (φ := .bf16) k)) (harg3.read_unread _) off3 inb3
  have hV3 := read_rowsb arg4.view (harg4.unread (toV (n := 8192) (m := 128) (φ := .bf16) v)) (harg4.read_unread _) off3 inb3
  have hM3 : ∀ r s, s < 256 → (tM (((i 1).val * 4 + 3) * 256) ((i 1).val * 1024 + 768) r s = true ↔ ((1024 * (i 1).val) + 768) + s < (1024 * (i 1).val) + (768 + r)) := fun r s _ => by unfold tM; rw [decide_eq_true_iff]; omega
  have e_r_84 : (kernelRun0_B.sl.r_84 (F := Ideal) i arg3 harg3 (toV (n := 8192) (m := 128) (φ := .bf16) k)) = toV (n := 256) (m := 128) (φ := .bf16) (rsh ((1024 * (i 1).val) + 768) k) := hK3
  have e_r_85 : (kernelRun0_B.sl.r_85 (F := Ideal) i arg4 harg4 (toV (n := 8192) (m := 128) (φ := .bf16) v)) = toV (n := 256) (m := 128) (φ := .bf16) (rsh ((1024 * (i 1).val) + 768) v) := hV3
  have hinit : ((k0_pay73, k0_pay73, k0_pay74 (kernelRun0_B.sl.cst_18 (F := Ideal) ), k0_pay73, k0_pay73, k0_pay74 (kernelRun0_B.sl.cst_18 (F := Ideal) )) : FVec Ideal S1024x1 .f32 × FVec Ideal S1024x1 .f32 × FVec Ideal S1024x128 .f32 × FVec Ideal S1024x1 .f32 × FVec Ideal S1024x1 .f32 × FVec Ideal S1024x128 .f32) = carryV (1024 * (i 1).val) (eighth (ha q0)) (ha o0) (eighth (hb q0)) (hb o0) k v (fun r => lt r 0) (fun r => lt r 1) 0 := by
    unfold carryV kernelRun0_B.sl.cst_18
    rw [cc_zero, cc_zero, pp_zero, pp_zero, dq_zero, dq_zero, pay73_v, pay74_v]
  have ht2 : Scf.trips (k0_t2_loop i).lb (k0_t2_loop i).ub (k0_t2_loop i).st = 0 := trips2 i
  have g10 : arg10.view.read (Elt Ideal) (harg10.unread (toV (n := 8192) (m := 128) (φ := .f32) old8)) = toV (n := 8192) (m := 128) (φ := .f32) old8 := harg10.read_unread _
  have g11 : arg11.view.read (Elt Ideal) (harg11.unread (toV (n := 8192) (m := 128) (φ := .f32) old9)) = toV (n := 8192) (m := 128) (φ := .f32) old9 := harg11.read_unread _
  obtain ⟨l1, l2, l3⟩ := loop_inv c i arg2 harg2 arg3 harg3 arg4 harg4 arg5 harg5 arg6 harg6 arg7 harg7 arg8 harg8 arg9 harg9 arg10 harg10 arg11 harg11 k0_pay73 (kernelRun0_B.sl.cst_18 (F := Ideal) ) (harg3.unread (toV (n := 8192) (m := 128) (φ := .bf16) k)) (harg4.unread (toV (n := 8192) (m := 128) (φ := .bf16) v)) (harg10.unread (toV (n := 8192) (m := 128) (φ := .f32) old8)) (harg11.unread (toV (n := 8192) (m := 128) (φ := .f32) old9)) (eighth (ha q0)) (ha o0) (eighth (hb q0)) (hb o0) k v old8 old9 (fun r => lt r 0) (fun r => lt r 1) (1024 * (i 1).val) rfl (harg3.read_unread _) (harg4.read_unread _) g10 g11 (k0_t1_loop i).trips le_rfl
  have hT : 256 * (k0_t1_loop i).trips = (1024 * (i 1).val) := by rw [trips1]; omega
  rw [hT] at l1 l2 l3
  have e_r_8 : (kernelRun0_B.sl.r_8 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (ha q0)) k (1024 * (i 1).val)) := by
    unfold kernelRun0_B.sl.r_8
    rw [ht2]
    simp only [st_k0_t2, e_r, e_r_1, e_r_2, e_r_3, e_r_4, e_r_5, e_r_6, e_r_7, hinit]
    exact congrArg (fun x => x.1) l1
  have e_r_9 : (kernelRun0_B.sl.r_9 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (ha q0)) (ha o0) k v (fun r => lt r 0) (1024 * (i 1).val)) := by
    unfold kernelRun0_B.sl.r_9
    rw [ht2]
    simp only [st_k0_t2, e_r, e_r_1, e_r_2, e_r_3, e_r_4, e_r_5, e_r_6, e_r_7, hinit]
    exact congrArg (fun x => x.2.1) l1
  have e_r_10 : (kernelRun0_B.sl.r_10 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (ha q0)) (ha o0) k v (fun r => lt r 0) (1024 * (i 1).val)) := by
    unfold kernelRun0_B.sl.r_10
    rw [ht2]
    simp only [st_k0_t2, e_r, e_r_1, e_r_2, e_r_3, e_r_4, e_r_5, e_r_6, e_r_7, hinit]
    exact congrArg (fun x => x.2.2.1) l1
  have e_r_11 : (kernelRun0_B.sl.r_11 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (hb q0)) k (1024 * (i 1).val)) := by
    unfold kernelRun0_B.sl.r_11
    rw [ht2]
    simp only [st_k0_t2, e_r, e_r_1, e_r_2, e_r_3, e_r_4, e_r_5, e_r_6, e_r_7, hinit]
    exact congrArg (fun x => x.2.2.2.1) l1
  have e_r_12 : (kernelRun0_B.sl.r_12 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (hb q0)) (hb o0) k v (fun r => lt r 1) (1024 * (i 1).val)) := by
    unfold kernelRun0_B.sl.r_12
    rw [ht2]
    simp only [st_k0_t2, e_r, e_r_1, e_r_2, e_r_3, e_r_4, e_r_5, e_r_6, e_r_7, hinit]
    exact congrArg (fun x => x.2.2.2.2.1) l1
  have e_r_13 : (kernelRun0_B.sl.r_13 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (hb q0)) (hb o0) k v (fun r => lt r 1) (1024 * (i 1).val)) := by
    unfold kernelRun0_B.sl.r_13
    rw [ht2]
    simp only [st_k0_t2, e_r, e_r_1, e_r_2, e_r_3, e_r_4, e_r_5, e_r_6, e_r_7, hinit]
    exact congrArg (fun x => x.2.2.2.2.2) l1
  have e_v174 : (kernelRun0_B.sl.v174 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 256) (m := 128) (φ := .f32) (rsh (1024 * (i 1).val) (dd old8 (dkX (1024 * (i 1).val) (eighth (ha q0)) (ha o0) (eighth (hb q0)) (hb o0) k v (fun r => lt r 0) (fun r => lt r 1)) (1024 * (i 1).val))) := by
    unfold kernelRun0_B.sl.v174
    rw [ht2]
    refine read_rows arg10.view _ ?_ off0 inb0
    simp only [st_k0_t2, List.nil_append, e_r, e_r_1, e_r_2, e_r_3, e_r_4, e_r_5, e_r_6, e_r_7, hinit]
    exact l2
  have e_v180 : (kernelRun0_B.sl.v180 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 256) (m := 128) (φ := .f32) (rsh (1024 * (i 1).val) (dd old9 (dvX (1024 * (i 1).val) (eighth (ha q0)) (ha o0) (eighth (hb q0)) (hb o0) k (fun r => lt r 0) (fun r => lt r 1)) (1024 * (i 1).val))) := by
    unfold kernelRun0_B.sl.v180
    rw [ht2]
    refine read_rows arg11.view _ ?_ off0 inb0
    simp only [st_k0_t2, List.nil_append, e_r, e_r_1, e_r_2, e_r_3, e_r_4, e_r_5, e_r_6, e_r_7, hinit]
    exact l3
  have e_r_21 : (kernelRun0_B.sl.r_21 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (ha q0)) k ((1024 * (i 1).val) + 256)) := by
    unfold kernelRun0_B.sl.r_21 kernelRun0_B.sl.r_18 kernelRun0_B.sl.r_17
    simp only [e_r, e_r_1, e_r_2, e_r_3, e_r_4, e_r_5, e_r_6, e_r_7, e_r_8, e_r_9, e_r_10, e_r_11, e_r_12, e_r_13, e_r_14, e_r_15, hK0, hV0]
    exact (tile0_cla _ hi _ _ _ _).trans (whole_Cl hM0)
  have e_r_22 : (kernelRun0_B.sl.r_22 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (ha q0)) (ha o0) k v (fun r => lt r 0) ((1024 * (i 1).val) + 256)) := by
    unfold kernelRun0_B.sl.r_22 kernelRun0_B.sl.r_18 kernelRun0_B.sl.r_17 kernelRun0_B.sl.r_16
    simp only [e_r, e_r_1, e_r_2, e_r_3, e_r_4, e_r_5, e_r_6, e_r_7, e_r_8, e_r_9, e_r_10, e_r_11, e_r_12, e_r_13, e_r_14, e_r_15, hK0, hV0]
    exact (tile0_cpa _ hi _ _ _ _ _ _ _ _ _).trans (whole_Cp hM0)
  have e_r_23 : (kernelRun0_B.sl.r_23 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (ha q0)) (ha o0) k v (fun r => lt r 0) ((1024 * (i 1).val) + 256)) := by
    unfold kernelRun0_B.sl.r_23 kernelRun0_B.sl.r_18 kernelRun0_B.sl.r_17 kernelRun0_B.sl.r_16
    simp only [e_r, e_r_1, e_r_2, e_r_3, e_r_4, e_r_5, e_r_6, e_r_7, e_r_8, e_r_9, e_r_10, e_r_11, e_r_12, e_r_13, e_r_14, e_r_15, hK0, hV0]
    exact (tile0_dqa _ hi _ _ _ _ _ _ _ _ _ _).trans (whole_Dq hM0)
  have e_r_29 : (kernelRun0_B.sl.r_29 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (hb q0)) k ((1024 * (i 1).val) + 256)) := by
    unfold kernelRun0_B.sl.r_29 kernelRun0_B.sl.cst_46 kernelRun0_B.sl.r_25 kernelRun0_B.sl.v44 kernelRun0_B.sl.v43
    simp only [e_r, e_r_1, e_r_2, e_r_3, e_r_4, e_r_5, e_r_6, e_r_7, e_r_8, e_r_9, e_r_10, e_r_11, e_r_12, e_r_13, e_r_14, e_r_15, hK0, hV0]
    exact (tile0_clb _ hi _ _ _ _).trans (whole_Cl hM0)
  have e_r_30 : (kernelRun0_B.sl.r_30 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (hb q0)) (hb o0) k v (fun r => lt r 1) ((1024 * (i 1).val) + 256)) := by
    unfold kernelRun0_B.sl.r_30 kernelRun0_B.sl.cst_46 kernelRun0_B.sl.r_25 kernelRun0_B.sl.r_24 kernelRun0_B.sl.v44 kernelRun0_B.sl.v43
    simp only [e_r, e_r_1, e_r_2, e_r_3, e_r_4, e_r_5, e_r_6, e_r_7, e_r_8, e_r_9, e_r_10, e_r_11, e_r_12, e_r_13, e_r_14, e_r_15, hK0, hV0]
    exact (tile0_cpb _ hi _ _ _ _ _ _ _ _ _).trans (whole_Cp hM0)
  have e_r_31 : (kernelRun0_B.sl.r_31 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (hb q0)) (hb o0) k v (fun r => lt r 1) ((1024 * (i 1).val) + 256)) := by
    unfold kernelRun0_B.sl.r_31 kernelRun0_B.sl.r_26 kernelRun0_B.sl.cst_46 kernelRun0_B.sl.r_25 kernelRun0_B.sl.r_24 kernelRun0_B.sl.v44 kernelRun0_B.sl.v43
    simp only [e_r, e_r_1, e_r_2, e_r_3, e_r_4, e_r_5, e_r_6, e_r_7, e_r_8, e_r_9, e_r_10, e_r_11, e_r_12, e_r_13, e_r_14, e_r_15, hK0, hV0]
    exact (tile0_dqb _ hi _ _ _ _ _ _ _ _ _ _).trans (whole_Dq hM0)
  have e_H8_1 : arg10.view.read (Elt Ideal) (arg10.view.writes (Elt Ideal) (harg10.unread (toV (n := 8192) (m := 128) (φ := .f32) old8)) (kernelRun0_B.sl.H8_1 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))) = toV (n := 8192) (m := 128) (φ := .f32) (dd old8 (dkX (1024 * (i 1).val) (eighth (ha q0)) (ha o0) (eighth (hb q0)) (hb o0) k v (fun r => lt r 0) (fun r => lt r 1)) ((1024 * (i 1).val) + 256)) := by
    unfold kernelRun0_B.sl.H8_1 kernelRun0_B.sl.r_27 kernelRun0_B.sl.cst_46 kernelRun0_B.sl.r_25 kernelRun0_B.sl.r_24 kernelRun0_B.sl.r_19 kernelRun0_B.sl.r_18 kernelRun0_B.sl.r_17 kernelRun0_B.sl.r_16 kernelRun0_B.sl.v44 kernelRun0_B.sl.v43
    rw [ht2]
    simp only [st_k0_t2, List.nil_append, hinit, e_r, e_r_1, e_r_2, e_r_3, e_r_4, e_r_5, e_r_6, e_r_7, e_r_8, e_r_9, e_r_10, e_r_11, e_r_12, e_r_13, e_r_14, e_r_15, hK0, hV0, e_v174]
    rw [tile0_dk _ hi]
    refine (read_upd arg10.view (harg10.unread (toV (n := 8192) (m := 128) (φ := .f32) old8)) _ ?_ off0 inb0 _).trans (upd_dd fun s e hs => ?_)
    · exact l2
    · rw [whole_DK hM0 s e hs, whole_DK hM0 s e hs]; rfl
  have e_H9_1 : arg11.view.read (Elt Ideal) (arg11.view.writes (Elt Ideal) (harg11.unread (toV (n := 8192) (m := 128) (φ := .f32) old9)) (kernelRun0_B.sl.H9_1 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))) = toV (n := 8192) (m := 128) (φ := .f32) (dd old9 (dvX (1024 * (i 1).val) (eighth (ha q0)) (ha o0) (eighth (hb q0)) (hb o0) k (fun r => lt r 0) (fun r => lt r 1)) ((1024 * (i 1).val) + 256)) := by
    unfold kernelRun0_B.sl.H9_1 kernelRun0_B.sl.r_28 kernelRun0_B.sl.cst_46 kernelRun0_B.sl.r_25 kernelRun0_B.sl.r_24 kernelRun0_B.sl.r_20 kernelRun0_B.sl.r_18 kernelRun0_B.sl.r_17 kernelRun0_B.sl.r_16 kernelRun0_B.sl.v44 kernelRun0_B.sl.v43
    rw [ht2]
    simp only [st_k0_t2, List.nil_append, hinit, e_r, e_r_1, e_r_2, e_r_3, e_r_4, e_r_5, e_r_6, e_r_7, e_r_8, e_r_9, e_r_10, e_r_11, e_r_12, e_r_13, e_r_14, e_r_15, hK0, hV0, e_v180]
    rw [tile0_dv _ hi]
    refine (read_upd arg11.view (harg11.unread (toV (n := 8192) (m := 128) (φ := .f32) old9)) _ ?_ off0 inb0 _).trans (upd_dd fun s e hs => ?_)
    · exact l3
    · rw [whole_DV hM0 s e hs, whole_DV hM0 s e hs]; rfl
  have e_r_44 : (kernelRun0_B.sl.r_44 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (ha q0)) k ((1024 * (i 1).val) + 512)) := by
    unfold kernelRun0_B.sl.r_44 kernelRun0_B.sl.r_43 kernelRun0_B.sl.r_40 kernelRun0_B.sl.v187 kernelRun0_B.sl.v186 kernelRun0_B.sl.v43 kernelRun0_B.sl.v209 kernelRun0_B.sl.v208 kernelRun0_B.sl.r_37
    simp only [e_r, e_r_1, e_r_2, e_r_3, e_r_4, e_r_5, e_r_6, e_r_7, e_r_21, e_r_22, e_r_23, e_r_29, e_r_30, e_r_31, e_r_32, e_r_33, hK1, hV1]
    exact (tile1_cla _ hi _ _ _ _).trans (lower_Cl hM1 rfl)
  have e_r_45 : (kernelRun0_B.sl.r_45 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (ha q0)) (ha o0) k v (fun r => lt r 0) ((1024 * (i 1).val) + 512)) := by
    unfold kernelRun0_B.sl.r_45 kernelRun0_B.sl.r_41 kernelRun0_B.sl.v187 kernelRun0_B.sl.v186 kernelRun0_B.sl.v43 kernelRun0_B.sl.v209 kernelRun0_B.sl.v208 kernelRun0_B.sl.r_37 kernelRun0_B.sl.r_36 kernelRun0_B.sl.r_35
    simp only [e_r, e_r_1, e_r_2, e_r_3, e_r_4, e_r_5, e_r_6, e_r_7, e_r_21, e_r_22, e_r_23, e_r_29, e_r_30, e_r_31, e_r_32, e_r_33, hK1, hV1]
    exact (tile1_cpa _ hi _ _ _ _ _ _ _ _ _).trans (lower_Cp hM1 rfl)
  have e_r_46 : (kernelRun0_B.sl.r_46 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (ha q0)) (ha o0) k v (fun r => lt r 0) ((1024 * (i 1).val) + 512)) := by
    unfold kernelRun0_B.sl.r_46 kernelRun0_B.sl.r_42 kernelRun0_B.sl.v187 kernelRun0_B.sl.v186 kernelRun0_B.sl.v43 kernelRun0_B.sl.v209 kernelRun0_B.sl.v208 kernelRun0_B.sl.r_37 kernelRun0_B.sl.r_36 kernelRun0_B.sl.r_35
    simp only [e_r, e_r_1, e_r_2, e_r_3, e_r_4, e_r_5, e_r_6, e_r_7, e_r_21, e_r_22, e_r_23, e_r_29, e_r_30, e_r_31, e_r_32, e_r_33, hK1, hV1]
    exact (tile1_dqa _ hi _ _ _ _ _ _ _ _ _ _).trans (lower_Dq hM1 rfl)
  have e_r_55 : (kernelRun0_B.sl.r_55 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (hb q0)) k ((1024 * (i 1).val) + 512)) := by
    unfold kernelRun0_B.sl.r_55 kernelRun0_B.sl.r_51 kernelRun0_B.sl.v186 kernelRun0_B.sl.v43
    simp only [e_r, e_r_1, e_r_2, e_r_3, e_r_4, e_r_5, e_r_6, e_r_7, e_r_21, e_r_22, e_r_23, e_r_29, e_r_30, e_r_31, e_r_32, e_r_33, hK1, hV1]
    exact (tile1_clb _ hi _ _ _ _).trans (lower_Cl hM1 rfl)
  have e_r_56 : (kernelRun0_B.sl.r_56 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (hb q0)) (hb o0) k v (fun r => lt r 1) ((1024 * (i 1).val) + 512)) := by
    unfold kernelRun0_B.sl.r_56 kernelRun0_B.sl.r_54 kernelRun0_B.sl.v186 kernelRun0_B.sl.v43
    simp only [e_r, e_r_1, e_r_2, e_r_3, e_r_4, e_r_5, e_r_6, e_r_7, e_r_21, e_r_22, e_r_23, e_r_29, e_r_30, e_r_31, e_r_32, e_r_33, hK1, hV1]
    exact (tile1_cpb _ hi _ _ _ _ _ _ _ _ _).trans (lower_Cp hM1 rfl)
  have e_r_57 : (kernelRun0_B.sl.r_57 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (hb q0)) (hb o0) k v (fun r => lt r 1) ((1024 * (i 1).val) + 512)) := by
    unfold kernelRun0_B.sl.r_57 kernelRun0_B.sl.r_54 kernelRun0_B.sl.r_53 kernelRun0_B.sl.r_50 kernelRun0_B.sl.r_49 kernelRun0_B.sl.v186 kernelRun0_B.sl.v43
    simp only [e_r, e_r_1, e_r_2, e_r_3, e_r_4, e_r_5, e_r_6, e_r_7, e_r_21, e_r_22, e_r_23, e_r_29, e_r_30, e_r_31, e_r_32, e_r_33, hK1, hV1]
    exact (tile1_dqb _ hi _ _ _ _ _ _ _ _ _ _).trans (lower_Dq hM1 rfl)
  have e_rd8_1 := read_rows arg10.view _ e_H8_1 off1 inb1
  have e_H8_2 : arg10.view.read (Elt Ideal) (arg10.view.writes (Elt Ideal) (harg10.unread (toV (n := 8192) (m := 128) (φ := .f32) old8)) (kernelRun0_B.sl.H8_2 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))) = toV (n := 8192) (m := 128) (φ := .f32) (dd old8 (dkX (1024 * (i 1).val) (eighth (ha q0)) (ha o0) (eighth (hb q0)) (hb o0) k v (fun r => lt r 0) (fun r => lt r 1)) ((1024 * (i 1).val) + 512)) := by
    unfold kernelRun0_B.sl.H8_2 kernelRun0_B.sl.r_54 kernelRun0_B.sl.r_53 kernelRun0_B.sl.r_50 kernelRun0_B.sl.r_49 kernelRun0_B.sl.r_47 kernelRun0_B.sl.r_38 kernelRun0_B.sl.v187 kernelRun0_B.sl.v186 kernelRun0_B.sl.v43 kernelRun0_B.sl.v209 kernelRun0_B.sl.v208 kernelRun0_B.sl.r_37 kernelRun0_B.sl.r_36 kernelRun0_B.sl.r_35 kernelRun0_B.sl.r_34
    simp only [e_r, e_r_1, e_r_2, e_r_3, e_r_4, e_r_5, e_r_6, e_r_7, e_r_21, e_r_22, e_r_23, e_r_29, e_r_30, e_r_31, e_r_32, e_r_33, hK1, hV1, e_rd8_1]
    rw [tile1_dk _ hi]
    refine (read_upd arg10.view (harg10.unread (toV (n := 8192) (m := 128) (φ := .f32) old8)) _ e_H8_1 off1 inb1 _).trans (upd_dd fun s e hs => ?_)
    rw [lower_DK hM1 le_rfl rfl s e hs, lower_DK hM1 le_rfl rfl s e hs]; rfl
  have e_rd9_1 := read_rows arg11.view _ e_H9_1 off1 inb1
  have e_H9_2 : arg11.view.read (Elt Ideal) (arg11.view.writes (Elt Ideal) (harg11.unread (toV (n := 8192) (m := 128) (φ := .f32) old9)) (kernelRun0_B.sl.H9_2 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))) = toV (n := 8192) (m := 128) (φ := .f32) (dd old9 (dvX (1024 * (i 1).val) (eighth (ha q0)) (ha o0) (eighth (hb q0)) (hb o0) k (fun r => lt r 0) (fun r => lt r 1)) ((1024 * (i 1).val) + 512)) := by
    unfold kernelRun0_B.sl.H9_2 kernelRun0_B.sl.r_52 kernelRun0_B.sl.r_48 kernelRun0_B.sl.r_39 kernelRun0_B.sl.v187 kernelRun0_B.sl.v186 kernelRun0_B.sl.v43 kernelRun0_B.sl.v209 kernelRun0_B.sl.v208 kernelRun0_B.sl.r_37 kernelRun0_B.sl.r_36 kernelRun0_B.sl.r_35
    simp only [e_r, e_r_1, e_r_2, e_r_3, e_r_4, e_r_5, e_r_6, e_r_7, e_r_21, e_r_22, e_r_23, e_r_29, e_r_30, e_r_31, e_r_32, e_r_33, hK1, hV1, e_rd9_1]
    rw [tile1_dv _ hi]
    refine (read_upd arg11.view (harg11.unread (toV (n := 8192) (m := 128) (φ := .f32) old9)) _ e_H9_1 off1 inb1 _).trans (upd_dd fun s e hs => ?_)
    rw [lower_DV hM1 le_rfl rfl s e hs, lower_DV hM1 le_rfl rfl s e hs]; rfl
  have e_r_68 : (kernelRun0_B.sl.r_68 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (ha q0)) k ((1024 * (i 1).val) + 768)) := by
    unfold kernelRun0_B.sl.r_68 kernelRun0_B.sl.r_64 kernelRun0_B.sl.v356 kernelRun0_B.sl.v43
    simp only [e_r, e_r_1, e_r_2, e_r_3, e_r_4, e_r_5, e_r_6, e_r_7, e_r_44, e_r_45, e_r_46, e_r_55, e_r_56, e_r_57, e_r_58, e_r_59, hK2, hV2]
    exact (tile2_cla _ hi _ _ _ _).trans (lower_Cl hM2 rfl)
  have e_r_69 : (kernelRun0_B.sl.r_69 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (ha q0)) (ha o0) k v (fun r => lt r 0) ((1024 * (i 1).val) + 768)) := by
    unfold kernelRun0_B.sl.r_69 kernelRun0_B.sl.r_65 kernelRun0_B.sl.v356 kernelRun0_B.sl.v43 kernelRun0_B.sl.r_61
    simp only [e_r, e_r_1, e_r_2, e_r_3, e_r_4, e_r_5, e_r_6, e_r_7, e_r_44, e_r_45, e_r_46, e_r_55, e_r_56, e_r_57, e_r_58, e_r_59, hK2, hV2]
    exact (tile2_cpa _ hi _ _ _ _ _ _ _ _ _).trans (lower_Cp hM2 rfl)
  have e_r_70 : (kernelRun0_B.sl.r_70 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (ha q0)) (ha o0) k v (fun r => lt r 0) ((1024 * (i 1).val) + 768)) := by
    unfold kernelRun0_B.sl.r_70 kernelRun0_B.sl.r_65 kernelRun0_B.sl.r_63 kernelRun0_B.sl.r_62 kernelRun0_B.sl.v356 kernelRun0_B.sl.v43 kernelRun0_B.sl.r_61
    simp only [e_r, e_r_1, e_r_2, e_r_3, e_r_4, e_r_5, e_r_6, e_r_7, e_r_44, e_r_45, e_r_46, e_r_55, e_r_56, e_r_57, e_r_58, e_r_59, hK2, hV2]
    exact (tile2_dqa _ hi _ _ _ _ _ _ _ _ _ _).trans (lower_Dq hM2 rfl)
  have e_r_81 : (kernelRun0_B.sl.r_81 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (cc (1024 * (i 1).val) (eighth (hb q0)) k ((1024 * (i 1).val) + 768)) := by
    unfold kernelRun0_B.sl.r_81 kernelRun0_B.sl.r_79 kernelRun0_B.sl.r_74 kernelRun0_B.sl.v356 kernelRun0_B.sl.v43
    simp only [e_r, e_r_1, e_r_2, e_r_3, e_r_4, e_r_5, e_r_6, e_r_7, e_r_44, e_r_45, e_r_46, e_r_55, e_r_56, e_r_57, e_r_58, e_r_59, hK2, hV2]
    exact (tile2_clb _ hi _ _ _ _).trans (lower_Cl hM2 rfl)
  have e_r_82 : (kernelRun0_B.sl.r_82 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 1) (φ := .f32) (pp (1024 * (i 1).val) (eighth (hb q0)) (hb o0) k v (fun r => lt r 1) ((1024 * (i 1).val) + 768)) := by
    unfold kernelRun0_B.sl.r_82 kernelRun0_B.sl.r_80 kernelRun0_B.sl.r_75 kernelRun0_B.sl.r_74 kernelRun0_B.sl.r_73 kernelRun0_B.sl.r_72 kernelRun0_B.sl.v356 kernelRun0_B.sl.v43
    simp only [e_r, e_r_1, e_r_2, e_r_3, e_r_4, e_r_5, e_r_6, e_r_7, e_r_44, e_r_45, e_r_46, e_r_55, e_r_56, e_r_57, e_r_58, e_r_59, hK2, hV2]
    exact (tile2_cpb _ hi _ _ _ _ _ _ _ _ _).trans (lower_Cp hM2 rfl)
  have e_r_83 : (kernelRun0_B.sl.r_83 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) = toV (n := 1024) (m := 128) (φ := .f32) (bDQ (1024 * (i 1).val) (eighth (hb q0)) (hb o0) k v (fun r => lt r 1) ((1024 * (i 1).val) + 768)) := by
    unfold kernelRun0_B.sl.r_83 kernelRun0_B.sl.r_76 kernelRun0_B.sl.r_74 kernelRun0_B.sl.r_73 kernelRun0_B.sl.r_72 kernelRun0_B.sl.v356 kernelRun0_B.sl.v43
    simp only [e_r, e_r_1, e_r_2, e_r_3, e_r_4, e_r_5, e_r_6, e_r_7, e_r_44, e_r_45, e_r_46, e_r_55, e_r_56, e_r_57, e_r_58, e_r_59, hK2, hV2]
    exact (tile2_dqb _ hi _ _ _ _ _ _ _ _ _ _).trans (lower_Dq hM2 rfl)
  have e_rd8_2 := read_rows arg10.view _ e_H8_2 off2 inb2
  have e_H8_3 : arg10.view.read (Elt Ideal) (arg10.view.writes (Elt Ideal) (harg10.unread (toV (n := 8192) (m := 128) (φ := .f32) old8)) (kernelRun0_B.sl.H8_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))) = toV (n := 8192) (m := 128) (φ := .f32) (dd old8 (dkX (1024 * (i 1).val) (eighth (ha q0)) (ha o0) (eighth (hb q0)) (hb o0) k v (fun r => lt r 0) (fun r => lt r 1)) ((1024 * (i 1).val) + 768)) := by
    unfold kernelRun0_B.sl.H8_3 kernelRun0_B.sl.r_77 kernelRun0_B.sl.r_74 kernelRun0_B.sl.r_73 kernelRun0_B.sl.r_72 kernelRun0_B.sl.r_71 kernelRun0_B.sl.r_66 kernelRun0_B.sl.r_65 kernelRun0_B.sl.r_63 kernelRun0_B.sl.r_62 kernelRun0_B.sl.r_61 kernelRun0_B.sl.r_60 kernelRun0_B.sl.v356 kernelRun0_B.sl.v43
    simp only [e_r, e_r_1, e_r_2, e_r_3, e_r_4, e_r_5, e_r_6, e_r_7, e_r_44, e_r_45, e_r_46, e_r_55, e_r_56, e_r_57, e_r_58, e_r_59, hK2, hV2, e_rd8_2]
    rw [tile2_dk _ hi]
    refine (read_upd arg10.view (harg10.unread (toV (n := 8192) (m := 128) (φ := .f32) old8)) _ e_H8_2 off2 inb2 _).trans (upd_dd fun s e hs => ?_)
    rw [lower_DK hM2 le_rfl rfl s e hs, lower_DK hM2 le_rfl rfl s e hs]; rfl
  have e_rd9_2 := read_rows arg11.view _ e_H9_2 off2 inb2
  have e_H9_3 : arg11.view.read (Elt Ideal) (arg11.view.writes (Elt Ideal) (harg11.unread (toV (n := 8192) (m := 128) (φ := .f32) old9)) (kernelRun0_B.sl.H9_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))) = toV (n := 8192) (m := 128) (φ := .f32) (dd old9 (dvX (1024 * (i 1).val) (eighth (ha q0)) (ha o0) (eighth (hb q0)) (hb o0) k (fun r => lt r 0) (fun r => lt r 1)) ((1024 * (i 1).val) + 768)) := by
    unfold kernelRun0_B.sl.H9_3 kernelRun0_B.sl.r_78 kernelRun0_B.sl.r_74 kernelRun0_B.sl.r_73 kernelRun0_B.sl.r_72 kernelRun0_B.sl.r_67 kernelRun0_B.sl.r_65 kernelRun0_B.sl.r_61 kernelRun0_B.sl.v356 kernelRun0_B.sl.v43
    simp only [e_r, e_r_1, e_r_2, e_r_3, e_r_4, e_r_5, e_r_6, e_r_7, e_r_44, e_r_45, e_r_46, e_r_55, e_r_56, e_r_57, e_r_58, e_r_59, hK2, hV2, e_rd9_2]
    rw [tile2_dv _ hi]
    refine (read_upd arg11.view (harg11.unread (toV (n := 8192) (m := 128) (φ := .f32) old9)) _ e_H9_2 off2 inb2 _).trans (upd_dd fun s e hs => ?_)
    rw [lower_DV hM2 le_rfl rfl s e hs, lower_DV hM2 le_rfl rfl s e hs]; rfl
  have e_rd8_3 := read_rows arg10.view _ e_H8_3 off3 inb3
  have e_fin8 : arg10.view.read (Elt Ideal) (arg10.view.writes (Elt Ideal) (harg10.unread (toV (n := 8192) (m := 128) (φ := .f32) old8)) ((⟨Rect.unit (s := S8192x128) (k0_off3 i 3#32) S256x128.size inb3, k0_pay222 (kernelRun0_B.sl.r_91 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (kernelRun0_B.sl.r_95 (F := Ideal) c arg2 harg2 (toV (n := 1024) (m := 128) (φ := .bf16) q0)) (kernelRun0_B.sl.r_97 i) (kernelRun0_B.sl.r_99 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (kernelRun0_B.sl.r_100 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (kernelRun0_B.sl.r_101 (F := Ideal) c i arg2 harg2 arg3 harg3 (toV (n := 1024) (m := 128) (φ := .bf16) q0) (toV (n := 8192) (m := 128) (φ := .bf16) k)) (kernelRun0_B.sl.r_102 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (arg10.view.readAt (Elt Ideal) (Rect.unit (s := S8192x128) (k0_off3 i 3#32) S256x128.size inb3).toLoadRect (arg10.view.writes (Elt Ideal) (harg10.unread (toV (n := 8192) (m := 128) (φ := .f32) old8)) (kernelRun0_B.sl.H8_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))))⟩ : View.Piece (Elt Ideal) S8192x128 .f32) :: (kernelRun0_B.sl.H8_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)))) = toV (n := 8192) (m := 128) (φ := .f32) (fun s e => old8 s e + (dkX (1024 * (i 1).val) (eighth (ha q0)) (ha o0) (eighth (hb q0)) (hb o0) k v (fun r => lt r 0) (fun r => lt r 1)) s e) := by
    unfold kernelRun0_B.sl.r_102 kernelRun0_B.sl.r_101 kernelRun0_B.sl.r_100 kernelRun0_B.sl.r_99 kernelRun0_B.sl.r_97 kernelRun0_B.sl.r_95 kernelRun0_B.sl.r_91 kernelRun0_B.sl.r_90 kernelRun0_B.sl.r_89 kernelRun0_B.sl.r_88 kernelRun0_B.sl.r_87 kernelRun0_B.sl.r_86 kernelRun0_B.sl.v526 kernelRun0_B.sl.v43
    simp only [e_r, e_r_1, e_r_2, e_r_3, e_r_4, e_r_5, e_r_6, e_r_7, e_r_68, e_r_69, e_r_70, e_r_81, e_r_82, e_r_83, e_r_84, e_r_85, hK3, hV3, e_rd8_3]
    rw [tile3_dk _ hi]
    refine (read_upd arg10.view (harg10.unread (toV (n := 8192) (m := 128) (φ := .f32) old8)) _ e_H8_3 off3 inb3 _).trans ((upd_dd fun s e hs => ?_).trans (toV_dd_dk _ _ _ _ _ _ _ _ _ _))
    rw [lower_DK hM3 le_rfl rfl s e hs, lower_DK hM3 le_rfl rfl s e hs]; rfl
  have e_rd9_3 := read_rows arg11.view _ e_H9_3 off3 inb3
  have e_fin9 : arg11.view.read (Elt Ideal) (arg11.view.writes (Elt Ideal) (harg11.unread (toV (n := 8192) (m := 128) (φ := .f32) old9)) ((⟨Rect.unit (s := S8192x128) (k0_off3 i 3#32) S256x128.size inb3, k0_pay223 (kernelRun0_B.sl.r_92 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (kernelRun0_B.sl.r_96 (F := Ideal) c arg5 harg5 (toV (n := 1024) (m := 128) (φ := .bf16) o0)) (kernelRun0_B.sl.r_98 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (arg11.view.readAt (Elt Ideal) (Rect.unit (s := S8192x128) (k0_off3 i 3#32) S256x128.size inb3).toLoadRect (arg11.view.writes (Elt Ideal) (harg11.unread (toV (n := 8192) (m := 128) (φ := .f32) old9)) (kernelRun0_B.sl.H9_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9))))⟩ : View.Piece (Elt Ideal) S8192x128 .f32) :: (kernelRun0_B.sl.H9_3 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)))) = toV (n := 8192) (m := 128) (φ := .f32) (fun s e => old9 s e + (dvX (1024 * (i 1).val) (eighth (ha q0)) (ha o0) (eighth (hb q0)) (hb o0) k (fun r => lt r 0) (fun r => lt r 1)) s e) := by
    unfold kernelRun0_B.sl.r_98 kernelRun0_B.sl.r_96 kernelRun0_B.sl.r_92 kernelRun0_B.sl.r_90 kernelRun0_B.sl.r_89 kernelRun0_B.sl.r_88 kernelRun0_B.sl.r_87 kernelRun0_B.sl.v526 kernelRun0_B.sl.v43
    simp only [e_r, e_r_1, e_r_2, e_r_3, e_r_4, e_r_5, e_r_6, e_r_7, e_r_68, e_r_69, e_r_70, e_r_81, e_r_82, e_r_83, e_r_84, e_r_85, hK3, hV3, e_rd9_3]
    rw [tile3_dv _ hi]
    refine (read_upd arg11.view (harg11.unread (toV (n := 8192) (m := 128) (φ := .f32) old9)) _ e_H9_3 off3 inb3 _).trans ((upd_dd fun s e hs => ?_).trans (toV_dd_dv _ _ _ _ _ _ _ _ _))
    rw [lower_DV hM3 le_rfl rfl s e hs, lower_DV hM3 le_rfl rfl s e hs]; rfl
  have e_fin7 : k0_pay1 (kernelRun0_B.sl.r_103 (F := Ideal) c i arg2 harg2 arg3 harg3 arg4 harg4 arg5 harg5 arg6 harg6 arg7 harg7 arg8 harg8 arg9 harg9 arg10 harg10 arg11 harg11 (toV (n := 1024) (m := 128) (φ := .bf16) q0) (toV (n := 8192) (m := 128) (φ := .bf16) k) (toV (n := 8192) (m := 128) (φ := .bf16) v) (toV (n := 1024) (m := 128) (φ := .bf16) o0) (toT lt) (toV (n := 256) (m := 256) (φ := .bf16) trI) (toV (n := 256) (m := 256) (φ := .bf16) trE) (toV (n := 8192) (m := 128) (φ := .f32) old8) (toV (n := 8192) (m := 128) (φ := .f32) old9)) (kernelRun0_B.sl.cst_189 (F := Ideal) ) = toV (n := 1024) (m := 128) (φ := .f32) (dqX (1024 * (i 1).val) (eighth (ha q0)) (ha o0) (eighth (hb q0)) (hb o0) k v (fun r => lt r 0) (fun r => lt r 1)) := by
    unfold kernelRun0_B.sl.r_103 kernelRun0_B.sl.r_102 kernelRun0_B.sl.r_101 kernelRun0_B.sl.r_100 kernelRun0_B.sl.r_99 kernelRun0_B.sl.r_97 kernelRun0_B.sl.r_94 kernelRun0_B.sl.r_93 kernelRun0_B.sl.r_90 kernelRun0_B.sl.r_89 kernelRun0_B.sl.r_88 kernelRun0_B.sl.r_87 kernelRun0_B.sl.v526 kernelRun0_B.sl.v43 kernelRun0_B.sl.cst_189
    simp only [e_r, e_r_1, e_r_2, e_r_3, e_r_4, e_r_5, e_r_6, e_r_7, e_r_68, e_r_69, e_r_70, e_r_81, e_r_82, e_r_83, e_r_84, e_r_85, hK3, hV3]
    refine (tile3_dq _ hi _ _ _ _ _ _ _ _ _ _ _ _ _ _ _ _).trans (ext_v _ _ fun r _ d _ => ?_)
    rw [lower_dq hM3 rfl, lower_dq hM3 rfl]
    unfold dqX; simp only [decide_eq_true_eq]
  unfold out0_B_7 out0_B_8 out0_B_9 kernelRun0_B
  dsimp only
  exact ⟨(read_whole VO0_7 _ _ _ _).trans e_fin7, e_fin8, e_fin9⟩

end Cert.Val

end
-- ==== Proof.Grid.lean ====
/- What the kernel leaves over its whole grid. -/
module

public import proofs.«01_k».proof.Proof.Final
public import proofs.«01_k».proof.Proof.KHost
public import proofs.«01_k».proof.Proof.BodyA
public import proofs.«01_k».proof.Proof.BodyB
public import proofs.«01_k».proof.Proof.Gen.KernelIdeal.Value
public import Idealize.ShloMosaic.Lib.Pipeline.ValueKit

@[expose] public section

set_option maxRecDepth 16384

noncomputable section

namespace Cert.Val

open Cert.KernelIdeal Cert.KernelIdeal.Gen Idealize.ShloMosaic Idealize.ShloMosaic.TcCoe

variable (m : (ℓ : Loc nD τ sig) → Buf (Elt Ideal) ℓ) (c : Dev nD) (X D : ℕ → ℕ → ℝ)
  (hX : m ((c : Thread nD τ).loc main_arg0) = toV (n := 8192) (m := 3072) (φ := .bf16) X)
  (hD : m ((c : Thread nD τ).loc main_arg1) = toV (n := 8192) (m := 1024) (φ := .bf16) D)

theorem coord1 (t : Fin cfg0.N) : (grid0.coords t 1).val = t.val % 8 :=
  (by decide +kernel : ∀ t : Fin grid0.N, (grid0.coords t 1).val = t.val % 8) t
theorem idx0 (t : Fin cfg0.N) : win0_0.index t = ![t.val % 8, t.val / 8] :=
  (by decide +kernel : ∀ t : Fin grid0.N, win0_0.index t = ![t.val % 8, t.val / 8]) t
theorem idx1 (t : Fin cfg0.N) : win0_1.index t = ![0, 8 + t.val / 8] :=
  (by decide +kernel : ∀ t : Fin grid0.N, win0_1.index t = ![0, 8 + t.val / 8]) t
theorem idx2 (t : Fin cfg0.N) : win0_2.index t = ![0, 16 + t.val / 8] :=
  (by decide +kernel : ∀ t : Fin grid0.N, win0_2.index t = ![0, 16 + t.val / 8]) t
theorem idx3 (t : Fin cfg0.N) : win0_3.index t = ![t.val % 8, t.val / 8] :=
  (by decide +kernel : ∀ t : Fin grid0.N, win0_3.index t = ![t.val % 8, t.val / 8]) t
theorem idx4 (t : Fin cfg0.N) : win0_4.index t = ![t.val / 8, t.val % 8, 0] :=
  (by decide +kernel : ∀ t : Fin grid0.N, win0_4.index t = ![t.val / 8, t.val % 8, 0]) t
theorem idx5 (t : Fin cfg0.N) : win0_5.index t = ![0, 0] :=
  (by decide +kernel : ∀ t : Fin grid0.N, win0_5.index t = ![0, 0]) t
theorem idx6 (t : Fin cfg0.N) : win0_6.index t = ![0, 0] :=
  (by decide +kernel : ∀ t : Fin grid0.N, win0_6.index t = ![0, 0]) t
theorem idx7 (t : Fin cfg0.N) : win0_7.index t = ![t.val % 8, t.val / 8] :=
  (by decide +kernel : ∀ t : Fin grid0.N, win0_7.index t = ![t.val % 8, t.val / 8]) t
theorem idx8 (t : Fin cfg0.N) : win0_8.index t = ![0, t.val / 8] :=
  (by decide +kernel : ∀ t : Fin grid0.N, win0_8.index t = ![0, t.val / 8]) t
theorem idx9 (t : Fin cfg0.N) : win0_9.index t = ![0, t.val / 8] :=
  (by decide +kernel : ∀ t : Fin grid0.N, win0_9.index t = ![0, t.val / 8]) t

include hX in
theorem iblk0 (t : Fin cfg0.N) : iblk m c 0 t = toV (n := 1024) (m := 128) (φ := .bf16) (xq X (t.val / 8) (t.val % 8)) := by
  funext y
  have e := (V_main_arg0 m c).trans hX
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = 128 * (t.val / 8) + (y 1).val := by blk_simp [idx0 t] <;> omega
  have e2 := congr (congrArg X h0) h1
  exact congrArg (fun x : ℝ => (x : EReal)) e2
include hX in
theorem iblk1 (t : Fin cfg0.N) : iblk m c 1 t = toV (n := 8192) (m := 128) (φ := .bf16) (xk X (t.val / 8)) := by
  funext y
  have e := (V_main_arg0 m c).trans hX
  blk_simp [iblk, e, idx1 t]
  have h0 : (((win0_1.blk t).view.emb y) 0 : ℕ) = (y 0).val := by blk_simp [idx1 t] <;> omega
  have h1 : (((win0_1.blk t).view.emb y) 1 : ℕ) = 1024 + (128 * (t.val / 8) + (y 1).val) := by blk_simp [idx1 t] <;> omega
  have e2 := congr (congrArg X h0) h1
  exact congrArg (fun x : ℝ => (x : EReal)) e2
include hX in
theorem iblk2 (t : Fin cfg0.N) : iblk m c 2 t = toV (n := 8192) (m := 128) (φ := .bf16) (xv X (t.val / 8)) := by
  funext y
  have e := (V_main_arg0 m c).trans hX
  blk_simp [iblk, e, idx2 t]
  have h0 : (((win0_2.blk t).view.emb y) 0 : ℕ) = (y 0).val := by blk_simp [idx2 t] <;> omega
  have h1 : (((win0_2.blk t).view.emb y) 1 : ℕ) = 2048 + (128 * (t.val / 8) + (y 1).val) := by blk_simp [idx2 t] <;> omega
  have e2 := congr (congrArg X h0) h1
  exact congrArg (fun x : ℝ => (x : EReal)) e2
include hD in
theorem iblk3 (t : Fin cfg0.N) : iblk m c 3 t = toV (n := 1024) (m := 128) (φ := .bf16) (xq D (t.val / 8) (t.val % 8)) := by
  funext y
  have e := (V_main_arg1 m c).trans hD
  blk_simp [iblk, e, idx3 t]
  have h0 : (((win0_3.blk t).view.emb y) 0 : ℕ) = 1024 * (t.val % 8) + (y 0).val := by blk_simp [idx3 t] <;> omega
  have h1 : (((win0_3.blk t).view.emb y) 1 : ℕ) = 128 * (t.val / 8) + (y 1).val := by blk_simp [idx3 t] <;> omega
  have e2 := congr (congrArg D h0) h1
  exact congrArg (fun x : ℝ => (x : EReal)) e2
include hX in
theorem iblk4 (t : Fin cfg0.N) : iblk m c 4 t = toT (xl X (t.val / 8) (t.val % 8)) := by
  funext y
  have e := ((Pre.V_v20 m c).trans (congrArg Pre.u53 hX)).trans (Pre.e53 X)
  blk_simp [iblk, e, idx4 t]
  have h0 : (((win0_4.blk t).view.emb y) 0 : ℕ) = t.val / 8 := by have hy : (y 0).val < 1 := (y 0).isLt; blk_simp [idx4 t] <;> omega
  have h1 : (((win0_4.blk t).view.emb y) 1 : ℕ) = 1024 * (t.val % 8) + (y 1).val := by blk_simp [idx4 t] <;> omega
  have h2 : (((win0_4.blk t).view.emb y) 2 : ℕ) = (y 2).val := by blk_simp [idx4 t] <;> omega
  unfold toW toT xl
  refine congrArg (fun x : ℝ => (x : EReal)) (Finset.sum_congr rfl fun s _ => ?_)
  have e2 := congr (congr (congrArg (rl X) (congr (congrArg (fun a b : ℕ => 2 * a + b) h0) h2)) h1) (rfl : s = s)
  exact e2
theorem iblk5 (t : Fin cfg0.N) : iblk m c 5 t = toV (n := 256) (m := 256) (φ := .bf16) trI := by
  funext y
  have e := (Pre.V_v24 m c).trans Pre.eI
  blk_simp [iblk, e, idx5 t]
  have h0 : (((win0_5.blk t).view.emb y) 0 : ℕ) = (y 0).val := by blk_simp [idx5 t] <;> omega
  have h1 : (((win0_5.blk t).view.emb y) 1 : ℕ) = (y 1).val := by blk_simp [idx5 t] <;> omega
  have e2 := congr (congrArg trI h0) h1
  exact congrArg (fun x : ℝ => (x : EReal)) e2
theorem iblk6 (t : Fin cfg0.N) : iblk m c 6 t = toV (n := 256) (m := 256) (φ := .bf16) trE := by
  funext y
  have e := (Pre.V_v28 m c).trans Pre.eE
  blk_simp [iblk, e, idx6 t]
  have h0 : (((win0_6.blk t).view.emb y) 0 : ℕ) = (y 0).val := by blk_simp [idx6 t] <;> omega
  have h1 : (((win0_6.blk t).view.emb y) 1 : ℕ) = (y 1).val := by blk_simp [idx6 t] <;> omega
  have e2 := congr (congrArg trE h0) h1
  exact congrArg (fun x : ℝ => (x : EReal)) e2

/-- A point of the grid, its blocks given as arrays of real numbers. -/
theorem point_A (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole) (hc0 : cond0_0 i)
    (x0 : Vec Ideal S1024x128 .bf16) (x1 : Vec Ideal S8192x128 .bf16) (x2 : Vec Ideal S8192x128 .bf16) (x3 : Vec Ideal S1024x128 .bf16) (x4 : Vec Ideal S1x1024x2 .f32) (x5 : Vec Ideal S256x256 .bf16) (x6 : Vec Ideal S256x256 .bf16) (p j : ℕ) (hj : (i 1).val = j)
    (h0 : x0 = toV (n := 1024) (m := 128) (φ := .bf16) (xq X p j)) (h1 : x1 = toV (n := 8192) (m := 128) (φ := .bf16) (xk X p)) (h2 : x2 = toV (n := 8192) (m := 128) (φ := .bf16) (xv X p)) (h3 : x3 = toV (n := 1024) (m := 128) (φ := .bf16) (xq D p j)) (h4 : x4 = toT (xl X p j))
    (h5 : x5 = toV (n := 256) (m := 256) (φ := .bf16) trI) (h6 : x6 = toV (n := 256) (m := 256) (φ := .bf16) trE)  :
    (out0_A_7 (F := Ideal) c i arg2 harg2 arg3 harg3 arg4 harg4 arg5 harg5 arg6 harg6 arg7 harg7 arg8 harg8 arg9 harg9 arg10 harg10 arg11 harg11 hc0 x0 x1 x2 x3 x4 x5 x6, out0_A_8 (F := Ideal) c i arg2 harg2 arg3 harg3 arg4 harg4 arg5 harg5 arg6 harg6 arg7 harg7 arg8 harg8 arg9 harg9 arg10 harg10 arg11 harg11 hc0 x0 x1 x2 x3 x4 x5 x6, out0_A_9 (F := Ideal) c i arg2 harg2 arg3 harg3 arg4 harg4 arg5 harg5 arg6 harg6 arg7 harg7 arg8 harg8 arg9 harg9 arg10 harg10 arg11 harg11 hc0 x0 x1 x2 x3 x4 x5 x6) =
      (toV (n := 1024) (m := 128) (φ := .f32) (gq X D p j), toV (n := 8192) (m := 128) (φ := .f32) (fun s e => (fun _ _ => 0) s e + gk X D p j s e), toV (n := 8192) (m := 128) (φ := .f32) (fun s e => (fun _ _ => 0) s e + gv X D p j s e)) := by
  subst h0 h1 h2 h3 h4 h5 h6 hj
  obtain ⟨e7, e8, e9⟩ := body_A c i arg2 harg2 arg3 harg3 arg4 harg4 arg5 harg5 arg6 harg6 arg7 harg7 arg8 harg8 arg9 harg9 arg10 harg10 arg11 harg11 hc0 (xq X p (i 1).val) (xk X p) (xv X p) (xq D p (i 1).val) (xl X p (i 1).val)
  unfold gq gk gv
  exact congr (congrArg Prod.mk e7) (congr (congrArg Prod.mk e8) e9)

theorem point_B (c : Dev nD) (i : grid0.Coords) (arg2 : Memref sig .tc .vmem S1024x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S1024x128 .bf16) (harg5 : arg5.IsWhole) (arg6 : Memref sig .tc .vmem S1x1024x2 .f32) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x128 .f32) (harg9 : arg9.IsWhole) (arg10 : Memref sig .tc .vmem S8192x128 .f32) (harg10 : arg10.IsWhole) (arg11 : Memref sig .tc .vmem S8192x128 .f32) (harg11 : arg11.IsWhole) (hc0 : ¬cond0_0 i)
    (x0 : Vec Ideal S1024x128 .bf16) (x1 : Vec Ideal S8192x128 .bf16) (x2 : Vec Ideal S8192x128 .bf16) (x3 : Vec Ideal S1024x128 .bf16) (x4 : Vec Ideal S1x1024x2 .f32) (x5 : Vec Ideal S256x256 .bf16) (x6 : Vec Ideal S256x256 .bf16) (x8 x9 : Vec Ideal S8192x128 .f32) (p j : ℕ) (old8 old9 : ℕ → ℕ → ℝ) (hj : (i 1).val = j)
    (h0 : x0 = toV (n := 1024) (m := 128) (φ := .bf16) (xq X p j)) (h1 : x1 = toV (n := 8192) (m := 128) (φ := .bf16) (xk X p)) (h2 : x2 = toV (n := 8192) (m := 128) (φ := .bf16) (xv X p)) (h3 : x3 = toV (n := 1024) (m := 128) (φ := .bf16) (xq D p j)) (h4 : x4 = toT (xl X p j))
    (h5 : x5 = toV (n := 256) (m := 256) (φ := .bf16) trI) (h6 : x6 = toV (n := 256) (m := 256) (φ := .bf16) trE) (h8 : x8 = toV (n := 8192) (m := 128) (φ := .f32) old8) (h9 : x9 = toV (n := 8192) (m := 128) (φ := .f32) old9) :
    (out0_B_7 (F := Ideal) c i arg2 harg2 arg3 harg3 arg4 harg4 arg5 harg5 arg6 harg6 arg7 harg7 arg8 harg8 arg9 harg9 arg10 harg10 arg11 harg11 hc0 x0 x1 x2 x3 x4 x5 x6 x8 x9, out0_B_8 (F := Ideal) c i arg2 harg2 arg3 harg3 arg4 harg4 arg5 harg5 arg6 harg6 arg7 harg7 arg8 harg8 arg9 harg9 arg10 harg10 arg11 harg11 hc0 x0 x1 x2 x3 x4 x5 x6 x8 x9, out0_B_9 (F := Ideal) c i arg2 harg2 arg3 harg3 arg4 harg4 arg5 harg5 arg6 harg6 arg7 harg7 arg8 harg8 arg9 harg9 arg10 harg10 arg11 harg11 hc0 x0 x1 x2 x3 x4 x5 x6 x8 x9) =
      (toV (n := 1024) (m := 128) (φ := .f32) (gq X D p j), toV (n := 8192) (m := 128) (φ := .f32) (fun s e => old8 s e + gk X D p j s e), toV (n := 8192) (m := 128) (φ := .f32) (fun s e => old9 s e + gv X D p j s e)) := by
  subst h0 h1 h2 h3 h4 h5 h6 h8 h9 hj
  obtain ⟨e7, e8, e9⟩ := body_B c i arg2 harg2 arg3 harg3 arg4 harg4 arg5 harg5 arg6 harg6 arg7 harg7 arg8 harg8 arg9 harg9 arg10 harg10 arg11 harg11 hc0 (xq X p (i 1).val) (xk X p) (xv X p) (xq D p (i 1).val) (xl X p (i 1).val) old8 old9
  unfold gq gk gv
  exact congr (congrArg Prod.mk e7) (congr (congrArg Prod.mk e8) e9)

/-- The three gradients after each point. -/
def after (n : ℕ) : FVec Ideal S1024x128 .f32 × FVec Ideal S8192x128 .f32 × FVec Ideal S8192x128 .f32 :=
  (toV (gq X D (n / 8) (n % 8)), toV (fun s e => ∑ j ∈ Finset.range (n % 8 + 1), gk X D (n / 8) j s e),
    toV (fun s e => ∑ j ∈ Finset.range (n % 8 + 1), gv X D (n / 8) j s e))

include hX hD in
theorem outs : ∀ (n : ℕ) (h : n < cfg0.N), outsAt0 m c n h = after X D n := by
  intro n
  induction n using Nat.strong_induction_on with
  | _ n ih =>
  intro h
  by_cases h0 : n % 8 = 0
  · refine (outsAt0_A m c ⟨n, h⟩ h0).trans ?_
    refine (point_A X D c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (n / 8) (n % 8) (coord1 ⟨n, h⟩) (iblk0 m c X hX ⟨n, h⟩) (iblk1 m c X hX ⟨n, h⟩) (iblk2 m c X hX ⟨n, h⟩) (iblk3 m c D hD ⟨n, h⟩) (iblk4 m c X hX ⟨n, h⟩) (iblk5 m c ⟨n, h⟩) (iblk6 m c ⟨n, h⟩)).trans ?_
    unfold after
    rw [h0]
    simp only [zero_add, Finset.sum_range_one]
  · have ip := ih (n - 1) (by omega) (Nat.lt_of_le_of_lt (Nat.sub_le _ _) h)
    have hd : (n - 1) / 8 = n / 8 := by omega
    have hm : (n - 1) % 8 + 1 = n % 8 := by omega
    have i8 := congrArg (fun x => x.2.1) ip
    have i9 := congrArg (fun x => x.2.2) ip
    simp only [after, hd, hm] at i8 i9
    refine (outsAt0_B m c ⟨n, h⟩ h0).trans ?_
    refine (point_B X D c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (fun hh => h0 ((hcond0_0 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) _ _ (n / 8) (n % 8) _ _ (coord1 ⟨n, h⟩) (iblk0 m c X hX ⟨n, h⟩) (iblk1 m c X hX ⟨n, h⟩) (iblk2 m c X hX ⟨n, h⟩) (iblk3 m c D hD ⟨n, h⟩) (iblk4 m c X hX ⟨n, h⟩) (iblk5 m c ⟨n, h⟩) (iblk6 m c ⟨n, h⟩) i8 i9).trans ?_
    unfold after
    simp only [Finset.sum_range_succ]

include hX hD in
theorem arr7 : (dats m 0 c).arrAt 7 cfg0.N = toV (n := 8192) (m := 1024) (φ := .f32) (fun r e => rdq X D (e / 64) r (e % 64)) := by
  refine (dats m 0 c).arrAt_eq_of_covers 7 _ (by decide +kernel) fun t hf y => ?_
  blk_simp
  rw [after0_7, outs m c X D hX hD]
  have h0 : (((win0_7.blk t).view.emb y) 0 : ℕ) = 1024 * (t.val % 8) + (y 0).val := by blk_simp [idx7 t] <;> omega
  have h1 : (((win0_7.blk t).view.emb y) 1 : ℕ) = 128 * (t.val / 8) + (y 1).val := by blk_simp [idx7 t] <;> omega
  refine congrArg (fun x : ℝ => (x : EReal)) ((gq_eq X D (t.val / 8) (t.val % 8) (Nat.mod_lt _ (by decide)) (y 0).isLt (y 1).isLt).trans ?_)
  rw [h0, h1]

include hX hD in
theorem arr8 : (dats m 0 c).arrAt 8 cfg0.N = toV (n := 8192) (m := 1024) (φ := .f32) (fun s e => rdk X D (e / 64) s (e % 64)) := by
  refine (dats m 0 c).arrAt_eq_of_covers 8 _ (by decide +kernel) fun t hf y => ?_
  have hr : t.val % 8 = 7 := (flush0_8 t).mp hf
  blk_simp
  rw [after0_8, outs m c X D hX hD]
  have h0 : (((win0_8.blk t).view.emb y) 0 : ℕ) = (y 0).val := by blk_simp [idx8 t] <;> omega
  have h1 : (((win0_8.blk t).view.emb y) 1 : ℕ) = 128 * (t.val / 8) + (y 1).val := by blk_simp [idx8 t] <;> omega
  unfold after
  rw [hr]
  refine congrArg (fun x : ℝ => (x : EReal)) ((gk_sum X D (t.val / 8) (y 0).isLt (y 1).isLt).trans ?_)
  rw [h0, h1]

include hX hD in
theorem arr9 : (dats m 0 c).arrAt 9 cfg0.N = toV (n := 8192) (m := 1024) (φ := .f32) (fun s e => rdv X D (e / 64) s (e % 64)) := by
  refine (dats m 0 c).arrAt_eq_of_covers 9 _ (by decide +kernel) fun t hf y => ?_
  have hr : t.val % 8 = 7 := (flush0_9 t).mp hf
  blk_simp
  rw [after0_9, outs m c X D hX hD]
  have h0 : (((win0_9.blk t).view.emb y) 0 : ℕ) = (y 0).val := by blk_simp [idx9 t] <;> omega
  have h1 : (((win0_9.blk t).view.emb y) 1 : ℕ) = 128 * (t.val / 8) + (y 1).val := by blk_simp [idx9 t] <;> omega
  unfold after
  rw [hr]
  refine congrArg (fun x : ℝ => (x : EReal)) ((gv_sum X D (t.val / 8) (y 0).isLt (y 1).isLt).trans ?_)
  rw [h0, h1]

end Cert.Val

end
-- ==== Proof.RDefs.lean ====
/- The values of the reference, one by one. -/
module

public import proofs.«01_k».proof.Proof.Host3
public import proofs.«01_k».proof.Proof.Gen.ReferenceIdeal.Run
public import Idealize.ShloMosaic.Lib.Pointwise

@[expose] public section

set_option maxRecDepth 16384
set_option maxHeartbeats 1000000

noncomputable section

namespace Cert.Val.Ref

open Cert.ReferenceIdeal Cert.ReferenceIdeal.Gen Cert.ReferenceIdeal.Value Idealize.ShloMosaic Idealize.ShloMosaic.TcCoe

def n1 (X : FVec Ideal S8192x3072 .bf16) (D : FVec Ideal S8192x1024 .bf16) : FVec Ideal S8192x1024 .f32 := extf .f32 D bitsLt_bf16_f32
def n2 (X : FVec Ideal S8192x3072 .bf16) (D : FVec Ideal S8192x1024 .bf16) : FVec Ideal S8192x16x64 .f32 := shapeCast _ (n1 X D) shapeCasts_S8192x1024_S8192x16x64
def n3 (X : FVec Ideal S8192x3072 .bf16) (D : FVec Ideal S8192x1024 .bf16) : FVec Ideal S16x64x8192 .f32 := transpose S16x64x8192 [1, 2, 0] (n2 X D) transposes_S8192x16x64_S16x64x8192_1_2_0
def n4 (X : FVec Ideal S8192x3072 .bf16) (D : FVec Ideal S8192x1024 .bf16) : IVec S8192 32 := iotaInDim S8192 32 0
def n5 (X : FVec Ideal S8192x3072 .bf16) (D : FVec Ideal S8192x1024 .bf16) : IVec S1x8192 32 := broadcastInDim S1x8192 ![1] bcast_S8192_S1x8192_1 (n4 X D)
def n6 (X : FVec Ideal S8192x3072 .bf16) (D : FVec Ideal S8192x1024 .bf16) : IVec S8192x8192 32 := broadcastInDim S8192x8192 ![0, 1] bcast_S1x8192_S8192x8192_0_1 (n5 X D)
def n7 (X : FVec Ideal S8192x3072 .bf16) (D : FVec Ideal S8192x1024 .bf16) : IVec S8192x1 32 := broadcastInDim S8192x1 ![0] bcast_S8192_S8192x1_0 (n4 X D)
def n8 (X : FVec Ideal S8192x3072 .bf16) (D : FVec Ideal S8192x1024 .bf16) : IVec S8192x8192 32 := broadcastInDim S8192x8192 ![0, 1] bcast_S8192x1_S8192x8192_0_1 (n7 X D)
def n9 (X : FVec Ideal S8192x3072 .bf16) (D : FVec Ideal S8192x1024 .bf16) : IVec S8192x8192 1 := cmpi .slt (n6 X D) (n8 X D)
def n10 (X : FVec Ideal S8192x3072 .bf16) (D : FVec Ideal S8192x1024 .bf16) : IVec S16x8192x8192 1 := broadcastInDim S16x8192x8192 ![1, 2] bcast_S8192x8192_S16x8192x8192_1_2 (n9 X D)
def n12 (X : FVec Ideal S8192x3072 .bf16) (D : FVec Ideal S8192x1024 .bf16) : FVec Ideal S8192x1024 .bf16 := extractStridedSlice S8192x1024 ![0, 0] X slices_S8192x3072_S8192x1024_0_0
def n13 (X : FVec Ideal S8192x3072 .bf16) (D : FVec Ideal S8192x1024 .bf16) : FVec Ideal S8192x1024 .f32 := extf .f32 (n12 X D) bitsLt_bf16_f32
def n14 (X : FVec Ideal S8192x3072 .bf16) (D : FVec Ideal S8192x1024 .bf16) : FVec Ideal S8192x16x64 .f32 := shapeCast _ (n13 X D) shapeCasts_S8192x1024_S8192x16x64
def n15 (X : FVec Ideal S8192x3072 .bf16) (D : FVec Ideal S8192x1024 .bf16) : FVec Ideal S_ .f32 := constant S_ .f32 0x3E000000#32
def n16 (X : FVec Ideal S8192x3072 .bf16) (D : FVec Ideal S8192x1024 .bf16) : FVec Ideal S8192x16x64 .f32 := broadcastInDim S8192x16x64 ![] bcast_S_S8192x16x64 (n15 X D)
def n17 (X : FVec Ideal S8192x3072 .bf16) (D : FVec Ideal S8192x1024 .bf16) : FVec Ideal S8192x16x64 .f32 := mulf (n14 X D) (n16 X D)
def n18 (X : FVec Ideal S8192x3072 .bf16) (D : FVec Ideal S8192x1024 .bf16) : FVec Ideal S8192x1024 .bf16 := extractStridedSlice S8192x1024 ![0, 1024] X slices_S8192x3072_S8192x1024_0_1024
def n19 (X : FVec Ideal S8192x3072 .bf16) (D : FVec Ideal S8192x1024 .bf16) : FVec Ideal S8192x1024 .f32 := extf .f32 (n18 X D) bitsLt_bf16_f32
def n20 (X : FVec Ideal S8192x3072 .bf16) (D : FVec Ideal S8192x1024 .bf16) : FVec Ideal S8192x16x64 .f32 := shapeCast _ (n19 X D) shapeCasts_S8192x1024_S8192x16x64
def n21 (X : FVec Ideal S8192x3072 .bf16) (D : FVec Ideal S8192x1024 .bf16) : FVec Ideal S16x8192x8192 .f32 := Host.dotGeneral dot_S8192x16x64_S8192x16x64_S16x8192x8192_2_2_0_0_1_1 none (n17 X D) (n20 X D)
def n22 (X : FVec Ideal S8192x3072 .bf16) (D : FVec Ideal S8192x1024 .bf16) : FVec Ideal S16x8192x8192 .f32 := Host.negf (n21 X D)
def n23 (X : FVec Ideal S8192x3072 .bf16) (D : FVec Ideal S8192x1024 .bf16) : FVec Ideal S_ .f32 := constant S_ .f32 0x00000000#32
def n24 (X : FVec Ideal S8192x3072 .bf16) (D : FVec Ideal S8192x1024 .bf16) : FVec Ideal S16x8192x8192 .f32 := broadcastInDim S16x8192x8192 ![] bcast_S_S16x8192x8192 (n23 X D)
def n25 (X : FVec Ideal S8192x3072 .bf16) (D : FVec Ideal S8192x1024 .bf16) : FVec Ideal S16x8192x8192 .f32 := subf (n22 X D) (n24 X D)
def n26 (X : FVec Ideal S8192x3072 .bf16) (D : FVec Ideal S8192x1024 .bf16) : IVec S16x8192x8192 1 := cmpf .une (n25 X D) (n25 X D)
def n27 (X : FVec Ideal S8192x3072 .bf16) (D : FVec Ideal S8192x1024 .bf16) : FVec Ideal S16x8192x8192 .f32 := addf (n22 X D) (n24 X D)
def n28 (X : FVec Ideal S8192x3072 .bf16) (D : FVec Ideal S8192x1024 .bf16) : FVec Ideal S16x8192x8192 .f32 := maximumf (n22 X D) (n24 X D)
def n29 (X : FVec Ideal S8192x3072 .bf16) (D : FVec Ideal S8192x1024 .bf16) : FVec Ideal S16x8192x8192 .f32 := Host.absf (n25 X D)
def n30 (X : FVec Ideal S8192x3072 .bf16) (D : FVec Ideal S8192x1024 .bf16) : FVec Ideal S16x8192x8192 .f32 := Host.negf (n29 X D)
def n31 (X : FVec Ideal S8192x3072 .bf16) (D : FVec Ideal S8192x1024 .bf16) : FVec Ideal S16x8192x8192 .f32 := Host.exp (n30 X D)
def n32 (X : FVec Ideal S8192x3072 .bf16) (D : FVec Ideal S8192x1024 .bf16) : FVec Ideal S16x8192x8192 .f32 := Host.log1p (n31 X D)
def n33 (X : FVec Ideal S8192x3072 .bf16) (D : FVec Ideal S8192x1024 .bf16) : FVec Ideal S16x8192x8192 .f32 := addf (n28 X D) (n32 X D)
def n34 (X : FVec Ideal S8192x3072 .bf16) (D : FVec Ideal S8192x1024 .bf16) : FVec Ideal S16x8192x8192 .f32 := select (n26 X D) (n27 X D) (n33 X D)
def n35 (X : FVec Ideal S8192x3072 .bf16) (D : FVec Ideal S8192x1024 .bf16) : FVec Ideal S16x8192x8192 .f32 := Host.negf (n34 X D)
def n36 (X : FVec Ideal S8192x3072 .bf16) (D : FVec Ideal S8192x1024 .bf16) : FVec Ideal S16x8192x8192 .f32 := Host.negf (n22 X D)
def n37 (X : FVec Ideal S8192x3072 .bf16) (D : FVec Ideal S8192x1024 .bf16) : FVec Ideal S16x8192x8192 .f32 := subf (n36 X D) (n24 X D)
def n38 (X : FVec Ideal S8192x3072 .bf16) (D : FVec Ideal S8192x1024 .bf16) : IVec S16x8192x8192 1 := cmpf .une (n37 X D) (n37 X D)
def n39 (X : FVec Ideal S8192x3072 .bf16) (D : FVec Ideal S8192x1024 .bf16) : FVec Ideal S16x8192x8192 .f32 := addf (n36 X D) (n24 X D)
def n40 (X : FVec Ideal S8192x3072 .bf16) (D : FVec Ideal S8192x1024 .bf16) : FVec Ideal S16x8192x8192 .f32 := maximumf (n36 X D) (n24 X D)
def n41 (X : FVec Ideal S8192x3072 .bf16) (D : FVec Ideal S8192x1024 .bf16) : FVec Ideal S16x8192x8192 .f32 := Host.absf (n37 X D)
def n42 (X : FVec Ideal S8192x3072 .bf16) (D : FVec Ideal S8192x1024 .bf16) : FVec Ideal S16x8192x8192 .f32 := Host.negf (n41 X D)
def n43 (X : FVec Ideal S8192x3072 .bf16) (D : FVec Ideal S8192x1024 .bf16) : FVec Ideal S16x8192x8192 .f32 := Host.exp (n42 X D)
def n44 (X : FVec Ideal S8192x3072 .bf16) (D : FVec Ideal S8192x1024 .bf16) : FVec Ideal S16x8192x8192 .f32 := Host.log1p (n43 X D)
def n45 (X : FVec Ideal S8192x3072 .bf16) (D : FVec Ideal S8192x1024 .bf16) : FVec Ideal S16x8192x8192 .f32 := addf (n40 X D) (n44 X D)
def n46 (X : FVec Ideal S8192x3072 .bf16) (D : FVec Ideal S8192x1024 .bf16) : FVec Ideal S16x8192x8192 .f32 := select (n38 X D) (n39 X D) (n45 X D)
def n47 (X : FVec Ideal S8192x3072 .bf16) (D : FVec Ideal S8192x1024 .bf16) : FVec Ideal S16x8192x8192 .f32 := Host.negf (n46 X D)
def n48 (X : FVec Ideal S8192x3072 .bf16) (D : FVec Ideal S8192x1024 .bf16) : FVec Ideal S_ .f32 := id (n23 X D)
def n49 (X : FVec Ideal S8192x3072 .bf16) (D : FVec Ideal S8192x1024 .bf16) : FVec Ideal S16x8192x8192 .f32 := broadcastInDim S16x8192x8192 ![] bcast_S_S16x8192x8192 (n48 X D)
def n50 (X : FVec Ideal S8192x3072 .bf16) (D : FVec Ideal S8192x1024 .bf16) : FVec Ideal S16x8192x8192 .f32 := select (n10 X D) (n47 X D) (n49 X D)
def n51 (X : FVec Ideal S8192x3072 .bf16) (D : FVec Ideal S8192x1024 .bf16) : FVec Ideal S_ .f32 := broadcastInDim S_ ![] bcast_S_S_ (n23 X D)
def n52 (X : FVec Ideal S8192x3072 .bf16) (D : FVec Ideal S8192x1024 .bf16) : FVec Ideal S16x8192x8192 .f32 := Host.reduceWindowAdd ![1, 1, 8192] ![1, 1, 1] ![0, 0, 0] ![0, 0, 8191] (n50 X D) (n51 X D) reduceWindows_S16x8192x8192_S16x8192x8192_w1s1p0_0_w1s1p0_0_w8192s1p0_8191 h_S_
def n53 (X : FVec Ideal S8192x3072 .bf16) (D : FVec Ideal S8192x1024 .bf16) : FVec Ideal S16x8192x8192 .f32 := subf (n52 X D) (n50 X D)
def n54 (X : FVec Ideal S8192x3072 .bf16) (D : FVec Ideal S8192x1024 .bf16) : FVec Ideal S16x8192x8192 .f32 := addf (n35 X D) (n53 X D)
def n55 (X : FVec Ideal S8192x3072 .bf16) (D : FVec Ideal S8192x1024 .bf16) : FVec Ideal S16x8192x8192 .f32 := Host.exp (n54 X D)
def n56 (X : FVec Ideal S8192x3072 .bf16) (D : FVec Ideal S8192x1024 .bf16) : FVec Ideal S16x8192x8192 .f32 := select (n10 X D) (n55 X D) (n49 X D)
def n57 (X : FVec Ideal S8192x3072 .bf16) (D : FVec Ideal S8192x1024 .bf16) : FVec Ideal S16x64x8192 .f32 := Host.dotGeneral dot_S16x64x8192_S16x8192x8192_S16x64x8192_2_1_1_2_0_0 none (n3 X D) (n56 X D)
def n58 (X : FVec Ideal S8192x3072 .bf16) (D : FVec Ideal S8192x1024 .bf16) : FVec Ideal S8192x16x64 .f32 := transpose S8192x16x64 [2, 0, 1] (n57 X D) transposes_S16x64x8192_S8192x16x64_2_0_1
def n59 (X : FVec Ideal S8192x3072 .bf16) (D : FVec Ideal S8192x1024 .bf16) : FVec Ideal S8192x1024 .f32 := shapeCast _ (n58 X D) shapeCasts_S8192x16x64_S8192x1024
def n60 (X : FVec Ideal S8192x3072 .bf16) (D : FVec Ideal S8192x1024 .bf16) : FVec Ideal S8192x1024 .bf16 := extractStridedSlice S8192x1024 ![0, 2048] X slices_S8192x3072_S8192x1024_0_2048
def n61 (X : FVec Ideal S8192x3072 .bf16) (D : FVec Ideal S8192x1024 .bf16) : FVec Ideal S8192x1024 .f32 := extf .f32 (n60 X D) bitsLt_bf16_f32
def n62 (X : FVec Ideal S8192x3072 .bf16) (D : FVec Ideal S8192x1024 .bf16) : FVec Ideal S8192x16x64 .f32 := shapeCast _ (n61 X D) shapeCasts_S8192x1024_S8192x16x64
def n63 (X : FVec Ideal S8192x3072 .bf16) (D : FVec Ideal S8192x1024 .bf16) : FVec Ideal S16x8192x8192 .f32 := Host.dotGeneral dot_S16x64x8192_S8192x16x64_S16x8192x8192_1_2_2_0_0_1 none (n3 X D) (n62 X D)
def n64 (X : FVec Ideal S8192x3072 .bf16) (D : FVec Ideal S8192x1024 .bf16) : FVec Ideal S16x8192x8192 .f32 := select (n10 X D) (n63 X D) (n24 X D)
def n65 (X : FVec Ideal S8192x3072 .bf16) (D : FVec Ideal S8192x1024 .bf16) : FVec Ideal S16x8192x8192 .f32 := mulf (n64 X D) (n55 X D)
def n66 (X : FVec Ideal S8192x3072 .bf16) (D : FVec Ideal S8192x1024 .bf16) : FVec Ideal S16x8192x8192 .f32 := Host.negf (n65 X D)
def n67 (X : FVec Ideal S8192x3072 .bf16) (D : FVec Ideal S8192x1024 .bf16) : FVec Ideal S_ .f32 := constant S_ .f32 0x7F800000#32
def n68 (X : FVec Ideal S8192x3072 .bf16) (D : FVec Ideal S8192x1024 .bf16) : FVec Ideal S16x8192x8192 .f32 := broadcastInDim S16x8192x8192 ![] bcast_S_S16x8192x8192 (n67 X D)
def n69 (X : FVec Ideal S8192x3072 .bf16) (D : FVec Ideal S8192x1024 .bf16) : IVec S16x8192x8192 1 := cmpf .oeq (n22 X D) (n68 X D)
def n70 (X : FVec Ideal S8192x3072 .bf16) (D : FVec Ideal S8192x1024 .bf16) : FVec Ideal S16x8192x8192 .f32 := select (n69 X D) (n24 X D) (n22 X D)
def n71 (X : FVec Ideal S8192x3072 .bf16) (D : FVec Ideal S8192x1024 .bf16) : IVec S16x8192x8192 1 := cmpf .oeq (n34 X D) (n68 X D)
def n72 (X : FVec Ideal S8192x3072 .bf16) (D : FVec Ideal S8192x1024 .bf16) : FVec Ideal S16x8192x8192 .f32 := select (n71 X D) (n24 X D) (n34 X D)
def n73 (X : FVec Ideal S8192x3072 .bf16) (D : FVec Ideal S8192x1024 .bf16) : FVec Ideal S16x8192x8192 .f32 := subf (n70 X D) (n72 X D)
def n74 (X : FVec Ideal S8192x3072 .bf16) (D : FVec Ideal S8192x1024 .bf16) : FVec Ideal S16x8192x8192 .f32 := Host.exp (n73 X D)
def n75 (X : FVec Ideal S8192x3072 .bf16) (D : FVec Ideal S8192x1024 .bf16) : FVec Ideal S16x8192x8192 .f32 := mulf (n66 X D) (n74 X D)
def n76 (X : FVec Ideal S8192x3072 .bf16) (D : FVec Ideal S8192x1024 .bf16) : FVec Ideal S16x8192x8192 .f32 := Host.negf (n75 X D)
def n77 (X : FVec Ideal S8192x3072 .bf16) (D : FVec Ideal S8192x1024 .bf16) : FVec Ideal S16x8192x8192 .f32 := Host.reduceWindowAdd ![1, 1, 8192] ![1, 1, 1] ![0, 0, 8191] ![0, 0, 0] (n65 X D) (n51 X D) reduceWindows_S16x8192x8192_S16x8192x8192_w1s1p0_0_w1s1p0_0_w8192s1p8191_0 h_S_
def n78 (X : FVec Ideal S8192x3072 .bf16) (D : FVec Ideal S8192x1024 .bf16) : FVec Ideal S16x8192x8192 .f32 := addf (n66 X D) (n77 X D)
def n79 (X : FVec Ideal S8192x3072 .bf16) (D : FVec Ideal S8192x1024 .bf16) : FVec Ideal S16x8192x8192 .f32 := select (n10 X D) (n78 X D) (n24 X D)
def n80 (X : FVec Ideal S8192x3072 .bf16) (D : FVec Ideal S8192x1024 .bf16) : FVec Ideal S16x8192x8192 .f32 := Host.negf (n79 X D)
def n81 (X : FVec Ideal S8192x3072 .bf16) (D : FVec Ideal S8192x1024 .bf16) : IVec S16x8192x8192 1 := cmpf .oeq (n36 X D) (n68 X D)
def n82 (X : FVec Ideal S8192x3072 .bf16) (D : FVec Ideal S8192x1024 .bf16) : FVec Ideal S16x8192x8192 .f32 := select (n81 X D) (n24 X D) (n36 X D)
def n83 (X : FVec Ideal S8192x3072 .bf16) (D : FVec Ideal S8192x1024 .bf16) : IVec S16x8192x8192 1 := cmpf .oeq (n46 X D) (n68 X D)
def n84 (X : FVec Ideal S8192x3072 .bf16) (D : FVec Ideal S8192x1024 .bf16) : FVec Ideal S16x8192x8192 .f32 := select (n83 X D) (n24 X D) (n46 X D)
def n85 (X : FVec Ideal S8192x3072 .bf16) (D : FVec Ideal S8192x1024 .bf16) : FVec Ideal S16x8192x8192 .f32 := subf (n82 X D) (n84 X D)
def n86 (X : FVec Ideal S8192x3072 .bf16) (D : FVec Ideal S8192x1024 .bf16) : FVec Ideal S16x8192x8192 .f32 := Host.exp (n85 X D)
def n87 (X : FVec Ideal S8192x3072 .bf16) (D : FVec Ideal S8192x1024 .bf16) : FVec Ideal S16x8192x8192 .f32 := mulf (n80 X D) (n86 X D)
def n88 (X : FVec Ideal S8192x3072 .bf16) (D : FVec Ideal S8192x1024 .bf16) : FVec Ideal S16x8192x8192 .f32 := Host.negf (n87 X D)
def n89 (X : FVec Ideal S8192x3072 .bf16) (D : FVec Ideal S8192x1024 .bf16) : FVec Ideal S16x8192x8192 .f32 := Host.negf (n88 X D)
def n90 (X : FVec Ideal S8192x3072 .bf16) (D : FVec Ideal S8192x1024 .bf16) : FVec Ideal S16x8192x8192 .f32 := addf (n76 X D) (n89 X D)
def n91 (X : FVec Ideal S8192x3072 .bf16) (D : FVec Ideal S8192x1024 .bf16) : FVec Ideal S16x8192x64 .f32 := Host.dotGeneral dot_S16x8192x8192_S8192x16x64_S16x8192x64_1_0_2_2_0_1 none (n90 X D) (n17 X D)
def n92 (X : FVec Ideal S8192x3072 .bf16) (D : FVec Ideal S8192x1024 .bf16) : FVec Ideal S8192x16x64 .f32 := transpose S8192x16x64 [1, 0, 2] (n91 X D) transposes_S16x8192x64_S8192x16x64_1_0_2
def n93 (X : FVec Ideal S8192x3072 .bf16) (D : FVec Ideal S8192x1024 .bf16) : FVec Ideal S8192x1024 .f32 := shapeCast _ (n92 X D) shapeCasts_S8192x16x64_S8192x1024
def n94 (X : FVec Ideal S8192x3072 .bf16) (D : FVec Ideal S8192x1024 .bf16) : FVec Ideal S16x8192x64 .f32 := Host.dotGeneral dot_S16x8192x8192_S8192x16x64_S16x8192x64_2_0_1_2_0_1 none (n90 X D) (n20 X D)
def n95 (X : FVec Ideal S8192x3072 .bf16) (D : FVec Ideal S8192x1024 .bf16) : FVec Ideal S8192x16x64 .f32 := transpose S8192x16x64 [1, 0, 2] (n94 X D) transposes_S16x8192x64_S8192x16x64_1_0_2
def n96 (X : FVec Ideal S8192x3072 .bf16) (D : FVec Ideal S8192x1024 .bf16) : FVec Ideal S8192x16x64 .f32 := mulf (n95 X D) (n16 X D)
def n97 (X : FVec Ideal S8192x3072 .bf16) (D : FVec Ideal S8192x1024 .bf16) : FVec Ideal S8192x1024 .f32 := shapeCast _ (n96 X D) shapeCasts_S8192x16x64_S8192x1024

theorem dv_eq (m : (ℓ : Loc nD τ sig) → Buf (Elt Ideal) ℓ) (c : Dev nD) :
    res_main_v36 m c = n59 (m ((c.tc : Thread nD τ).loc main_arg0)) (m ((c.tc : Thread nD τ).loc main_arg1)) := rfl
theorem dk_eq (m : (ℓ : Loc nD τ sig) → Buf (Elt Ideal) ℓ) (c : Dev nD) :
    res_main_v51 m c = n93 (m ((c.tc : Thread nD τ).loc main_arg0)) (m ((c.tc : Thread nD τ).loc main_arg1)) := rfl
theorem dq_eq (m : (ℓ : Loc nD τ sig) → Buf (Elt Ideal) ℓ) (c : Dev nD) :
    res_main_v54 m c = n97 (m ((c.tc : Thread nD τ).loc main_arg0)) (m ((c.tc : Thread nD τ).loc main_arg1)) := rfl

end Cert.Val.Ref

end
-- ==== Proof.RVal.lean ====
/- The values of the reference on real arrays. -/
module

public import proofs.«01_k».proof.Proof.Host3
public import proofs.«01_k».proof.Proof.RDefs
public import proofs.«01_k».proof.Proof.Model
public import Idealize.ShloMosaic.Lib.Pointwise

@[expose] public section

set_option maxRecDepth 16384
set_option maxHeartbeats 1000000

noncomputable section

namespace Cert.Val.Ref

open Cert.ReferenceIdeal Cert.ReferenceIdeal.Gen Cert.ReferenceIdeal.Value Idealize.ShloMosaic Idealize.ShloMosaic.TcCoe

theorem e1 (X D : ℕ → ℕ → ℝ) : n1 (toV X) (toV D) = toV D := by
  rfl
theorem e2 (X D : ℕ → ℕ → ℝ) : n2 (toV X) (toV D) = toW fun r h d => ro D h r d := by
  unfold n2 ro; rw [e1]; funext x; idx_vars x; pointwise [toV, toW]; congr 3; omega
theorem e3 (X D : ℕ → ℕ → ℝ) : n3 (toV X) (toV D) = toW fun h d r => ro D h r d := by
  unfold n3; rw [e2]; funext x; idx_vars x; pointwise [toV, toW]
theorem e12 (X D : ℕ → ℕ → ℝ) : n12 (toV X) (toV D) = toV fun r e => X r e := by
  unfold n12; funext x; idx_vars x; pointwise [toV]
theorem e18 (X D : ℕ → ℕ → ℝ) : n18 (toV X) (toV D) = toV fun r e => X r (1024 + e) := by
  unfold n18; funext x; idx_vars x; pointwise [toV]
theorem e60 (X D : ℕ → ℕ → ℝ) : n60 (toV X) (toV D) = toV fun r e => X r (2048 + e) := by
  unfold n60; funext x; idx_vars x; pointwise [toV]
theorem e13 (X D : ℕ → ℕ → ℝ) : n13 (toV X) (toV D) = toV fun r e => X r e := by
  unfold n13; rw [e12]; rfl
theorem e19 (X D : ℕ → ℕ → ℝ) : n19 (toV X) (toV D) = toV fun r e => X r (1024 + e) := by
  unfold n19; rw [e18]; rfl
theorem e61 (X D : ℕ → ℕ → ℝ) : n61 (toV X) (toV D) = toV fun r e => X r (2048 + e) := by
  unfold n61; rw [e60]; rfl
theorem e14 (X D : ℕ → ℕ → ℝ) : n14 (toV X) (toV D) = toW fun r h d => X r (64 * h + d) := by
  unfold n14; rw [e13]; funext x; idx_vars x; pointwise [toV, toW]; congr 3; omega
theorem e20 (X D : ℕ → ℕ → ℝ) : n20 (toV X) (toV D) = toW fun r h d => rk X h r d := by
  unfold n20 rk; rw [e19]; funext x; idx_vars x; pointwise [toV, toW]; congr 3; omega
theorem e62 (X D : ℕ → ℕ → ℝ) : n62 (toV X) (toV D) = toW fun r h d => rv X h r d := by
  unfold n62 rv; rw [e61]; funext x; idx_vars x; pointwise [toV, toW]; congr 3; omega
theorem e16 (X D : ℕ → ℕ → ℝ) : n16 (toV X) (toV D) = toW fun _ _ _ => 1 / 8 := by
  unfold n16 n15; funext x; exact lit8
theorem e17 (X D : ℕ → ℕ → ℝ) : n17 (toV X) (toV D) = toW fun r h d => rq X h r d := by
  unfold n17; rw [e14, e16, mulf_w]; rfl
theorem e10 (X D : ℕ → ℕ → ℝ) : n10 (toV X) (toV D) = toN fun _ r s => decide (s < r) := by
  unfold n10 n9 n8 n7 n6 n5 n4; funext x; idx_vars x; pointwise [toN]; exact slt_n _ _ (by omega) (by omega)
theorem e21 (X D : ℕ → ℕ → ℝ) : n21 (toV X) (toV D) = toW fun h r s => rz X h r s := by
  unfold n21 rz; rw [e17, e20]; funext x; idx_vars x; pointwise [toW]; rw [coe_sum_range]; simp only [EReal.coe_mul]
theorem e22 (X D : ℕ → ℕ → ℝ) : n22 (toV X) (toV D) = toW fun h r s => -rz X h r s := by
  unfold n22; rw [e21, negf_w]
theorem e24 (X D : ℕ → ℕ → ℝ) : n24 (toV X) (toV D) = toW fun _ _ _ => 0 := by
  unfold n24 n23; funext x; exact lit0
theorem e49 (X D : ℕ → ℕ → ℝ) : n49 (toV X) (toV D) = toW fun _ _ _ => 0 := by
  unfold n49 n48 n23; funext x; exact lit0
theorem e34 (X D : ℕ → ℕ → ℝ) : n34 (toV X) (toV D) = toW fun h r s => lsp (-rz X h r s) := by
  unfold n34 n26 n25 n27 n33 n28 n32 n31 n30 n29 n25; exact softplus_w _ _ _ (e22 X D) (e24 X D)
theorem e35 (X D : ℕ → ℕ → ℝ) : n35 (toV X) (toV D) = toW fun h r s => -lsp (-rz X h r s) := by
  unfold n35; rw [e34, negf_w]
theorem e36 (X D : ℕ → ℕ → ℝ) : n36 (toV X) (toV D) = toW fun h r s => rz X h r s := by
  unfold n36; rw [e22, negf_w]; exact ext_w _ _ fun _ _ _ _ _ _ => neg_neg _
theorem e46 (X D : ℕ → ℕ → ℝ) : n46 (toV X) (toV D) = toW fun h r s => lsp (rz X h r s) := by
  unfold n46 n38 n37 n39 n45 n40 n44 n43 n42 n41 n37; exact softplus_w _ _ _ (e36 X D) (e24 X D)
theorem e47 (X D : ℕ → ℕ → ℝ) : n47 (toV X) (toV D) = toW fun h r s => -lsp (rz X h r s) := by
  unfold n47; rw [e46, negf_w]
theorem e50 (X D : ℕ → ℕ → ℝ) : n50 (toV X) (toV D) = toW fun h r s => rl X h r s := by
  unfold n50; rw [e10, e47, e49, select_w]; refine ext_w _ _ fun h _ r _ s _ => ?_; unfold rl; simp only [decide_eq_true_eq]
theorem e51 (X : FVec Ideal S8192x3072 .bf16) (D : FVec Ideal S8192x1024 .bf16) (i) : n51 X D i = (0 : EReal) := by
  unfold n51 n23; exact lit0
theorem e52 (X D : ℕ → ℕ → ℝ) : n52 (toV X) (toV D) = toW fun h r s => ∑ t ∈ Finset.range 8192, if s ≤ t then rl X h r t else 0 := by
  unfold n52; rw [e50]; exact revsum_w _ _ (e51 _ _) _ _
theorem e55 (X D : ℕ → ℕ → ℝ) : n55 (toV X) (toV D) = toW fun h r s => re X h r s := by
  unfold n55 n54 n53; rw [e35, e52, e50, subf_w, addf_w, exp_w]; rfl
theorem e56 (X D : ℕ → ℕ → ℝ) : n56 (toV X) (toV D) = toW fun h r s => if s < r then re X h r s else 0 := by
  unfold n56; rw [e10, e55, e49, select_w]; refine ext_w _ _ fun h _ r _ s _ => ?_; simp only [decide_eq_true_eq]
theorem e57 (X D : ℕ → ℕ → ℝ) : n57 (toV X) (toV D) = toW fun h d s => rdv X D h s d := by
  unfold n57 rdv; rw [e3, e56]; funext x; idx_vars x; pointwise [toW]; rw [coe_sum_range]; simp only [EReal.coe_mul]
theorem e63 (X D : ℕ → ℕ → ℝ) : n63 (toV X) (toV D) = toW fun h r s => rdw X D h r s := by
  unfold n63 rdw; rw [e3, e62]; funext x; idx_vars x; pointwise [toW]; rw [coe_sum_range]; simp only [EReal.coe_mul]
theorem e64 (X D : ℕ → ℕ → ℝ) : n64 (toV X) (toV D) = toW fun h r s => if s < r then rdw X D h r s else 0 := by
  unfold n64; rw [e10, e63, e24, select_w]; refine ext_w _ _ fun h _ r _ s _ => ?_; simp only [decide_eq_true_eq]
theorem e65 (X D : ℕ → ℕ → ℝ) : n65 (toV X) (toV D) = toW fun h r s => rg X D h r s := by
  unfold n65; rw [e64, e55, mulf_w]; rfl
theorem e66 (X D : ℕ → ℕ → ℝ) : n66 (toV X) (toV D) = toW fun h r s => -rg X D h r s := by
  unfold n66; rw [e65, negf_w]
theorem e68 (X : FVec Ideal S8192x3072 .bf16) (D : FVec Ideal S8192x1024 .bf16) (i) : n68 X D i = (⊤ : EReal) := by
  unfold n68 n67; show Ideal.ofBits .f32 0x7F800000#32 = ⊤; simp [Ideal.ofBits, Ideal.ieee]
theorem e70 (X D : ℕ → ℕ → ℝ) : n70 (toV X) (toV D) = toW fun h r s => -rz X h r s := by
  unfold n70 n69; rw [e22, oeq_inf_w _ _ (e68 _ _), e24, select_w]; exact ext_w _ _ fun h _ r _ s _ => if_neg (by decide)
theorem e72 (X D : ℕ → ℕ → ℝ) : n72 (toV X) (toV D) = toW fun h r s => lsp (-rz X h r s) := by
  unfold n72 n71; rw [e34, oeq_inf_w _ _ (e68 _ _), e24, select_w]; exact ext_w _ _ fun h _ r _ s _ => if_neg (by decide)
theorem e82 (X D : ℕ → ℕ → ℝ) : n82 (toV X) (toV D) = toW fun h r s => rz X h r s := by
  unfold n82 n81; rw [e36, oeq_inf_w _ _ (e68 _ _), e24, select_w]; exact ext_w _ _ fun h _ r _ s _ => if_neg (by decide)
theorem e84 (X D : ℕ → ℕ → ℝ) : n84 (toV X) (toV D) = toW fun h r s => lsp (rz X h r s) := by
  unfold n84 n83; rw [e46, oeq_inf_w _ _ (e68 _ _), e24, select_w]; exact ext_w _ _ fun h _ r _ s _ => if_neg (by decide)
theorem e76 (X D : ℕ → ℕ → ℝ) : n76 (toV X) (toV D) = toW fun h r s => -(-rg X D h r s * Real.exp (-rz X h r s - lsp (-rz X h r s))) := by
  unfold n76 n75 n74 n73; rw [e66, e70, e72, subf_w, exp_w, mulf_w, negf_w]
theorem e77 (X D : ℕ → ℕ → ℝ) : n77 (toV X) (toV D) = toW fun h r s => ∑ t ∈ Finset.range 8192, if t ≤ s then rg X D h r t else 0 := by
  unfold n77; rw [e65]; exact fwdsum_w _ rfl _ (e51 _ _) _ _
theorem e79 (X D : ℕ → ℕ → ℝ) : n79 (toV X) (toV D) = toW fun h r s => if s < r then -rg X D h r s + (∑ t ∈ Finset.range 8192, if t ≤ s then rg X D h r t else 0) else 0 := by
  unfold n79 n78; rw [e10, e66, e77, e24, addf_w, select_w]; refine ext_w _ _ fun h _ r _ s _ => ?_; simp only [decide_eq_true_eq]
theorem e90 (X D : ℕ → ℕ → ℝ) : n90 (toV X) (toV D) = toW fun h r s => rdz X D h r s := by
  unfold n90 n89 n88 n87 n86 n85 n80; rw [e76, e79, e82, e84, negf_w, subf_w, exp_w, mulf_w, negf_w, negf_w, addf_w]; refine ext_w _ _ fun h _ r _ s _ => ?_; unfold rdz; split <;> ring
theorem e91 (X D : ℕ → ℕ → ℝ) : n91 (toV X) (toV D) = toW fun h s d => rdk X D h s d := by
  unfold n91 rdk; rw [e90, e17]; funext x; idx_vars x; pointwise [toW]; rw [coe_sum_range]; simp only [EReal.coe_mul]
theorem e94 (X D : ℕ → ℕ → ℝ) : n94 (toV X) (toV D) = toW fun h r d => ∑ s ∈ Finset.range 8192, rdz X D h r s * rk X h s d := by
  unfold n94; rw [e90, e20]; funext x; idx_vars x; pointwise [toW]; rw [coe_sum_range]; simp only [EReal.coe_mul]
theorem e58 (X D : ℕ → ℕ → ℝ) : n58 (toV X) (toV D) = toW fun s h d => rdv X D h s d := by
  unfold n58; rw [e57]; funext x; idx_vars x; pointwise [toV, toW]
theorem e92 (X D : ℕ → ℕ → ℝ) : n92 (toV X) (toV D) = toW fun s h d => rdk X D h s d := by
  unfold n92; rw [e91]; funext x; idx_vars x; pointwise [toV, toW]
theorem e96 (X D : ℕ → ℕ → ℝ) : n96 (toV X) (toV D) = toW fun r h d => rdq X D h r d := by
  unfold n96 n95; rw [e94, e16]; funext x; idx_vars x; pointwise [toW]; exact (EReal.coe_mul _ _).symm
theorem e59 (X D : ℕ → ℕ → ℝ) : n59 (toV X) (toV D) = toV fun s e => rdv X D (e / 64) s (e % 64) := by
  unfold n59; rw [e58]; funext x; idx_vars x; pointwise [toV, toW]
theorem e93 (X D : ℕ → ℕ → ℝ) : n93 (toV X) (toV D) = toV fun s e => rdk X D (e / 64) s (e % 64) := by
  unfold n93; rw [e92]; funext x; idx_vars x; pointwise [toV, toW]
theorem e97 (X D : ℕ → ℕ → ℝ) : n97 (toV X) (toV D) = toV fun r e => rdq X D (e / 64) r (e % 64) := by
  unfold n97; rw [e96]; funext x; idx_vars x; pointwise [toV, toW]

end Cert.Val.Ref

end
-- ==== Proof.Finite.lean ====
/- Arguments that are finite are arrays of real numbers. -/
module

public import proofs.«01_k».proof.Proof.Host3
public import proofs.«01_k».proof.Pre_finite
public import Idealize.ShloMosaic.Lib.Pointwise

@[expose] public section

set_option maxRecDepth 16384

noncomputable section

namespace Cert.Val.Pre

open Cert.Pre_finite Idealize.ShloMosaic

theorem facts : Cert.Pre_finite.Facts where
  concatenates_S8192x3072_S8192x1024_S8192x4096_d1 := by decide
  bcast_S_S8192x4096 := by decide

theorem small_real (x : EReal) (h : BitVec.ofBool (decide (max x (-x) < (⊤ : EReal))) = 1#1) : x = ((x.toReal : ℝ) : EReal) := by
  have h2 : max x (-x) < (⊤ : EReal) := by
    by_contra hn
    rw [decide_eq_false hn] at h
    exact absurd h (by decide)
  refine (EReal.coe_toReal ?_ ?_).symm
  · rintro rfl; simp at h2
  · rintro rfl; simp at h2

/-- The real numbers that an array holds. -/
def reals {n m : ℕ} {φ : FTy} (x : FVec Ideal ⟨2, ![n, m]⟩ φ) : ℕ → ℕ → ℝ := fun i j =>
  if h : i < n ∧ j < m then EReal.toReal (x (ix2 ⟨i, h.1⟩ ⟨j, h.2⟩)) else 0

theorem reals_eq {n m : ℕ} {φ : FTy} (x : FVec Ideal ⟨2, ![n, m]⟩ φ) (h : ∀ (i : Fin n) (j : Fin m), (x (ix2 i j) : EReal) = ((EReal.toReal (x (ix2 i j)) : ℝ) : EReal)) :
    x = toV (reals x) := by
  funext y
  have e : y = ix2 (y 0) (y 1) := by
    funext a
    match a with
    | 0 => rfl
    | 1 => rfl
  have e2 : reals x (y 0).val (y 1).val = EReal.toReal (x (ix2 (y 0) (y 1))) := dif_pos ⟨(y 0).isLt, (y 1).isLt⟩
  refine Eq.trans ?_ (congrArg (fun z : ℝ => (z : EReal)) e2).symm
  exact (congrArg x e).trans (h (y 0) (y 1))

/-- The bit pattern of infinity. -/
theorem inf_top : Ideal.ofBits FTy.bf16 32640#16 = (⊤ : EReal) := by
  simp [Ideal.ofBits, Ideal.ieee]

variable [Cert.Pre_finite.Facts] (x : FVec Ideal S8192x3072 .bf16) (d : FVec Ideal S8192x1024 .bf16)
  (h : Cert.Pre_finite.fn x d = fun _ => 1#1)

include h in
theorem arg0 : x = toV (reals x) := by
  refine reals_eq x fun i j => ?_
  have e := congrFun h (ix2 i ⟨j.val, by omega⟩)
  simp only [fn] at e
  pointwise at e
  rw [inf_top] at e
  exact small_real _ e
include h in
theorem arg1 : d = toV (reals d) := by
  refine reals_eq d fun i j => ?_
  have e := congrFun h (ix2 i ⟨3072 + j.val, by omega⟩)
  simp only [fn] at e
  pointwise at e
  rw [inf_top] at e
  exact small_real _ e

end Cert.Val.Pre

end
-- ==== Proof.Dwout3.lean ====
/- The gradient of the second weight of the feed-forward layer: what the kernel leaves is the reference's array. -/
module

public import proofs.«01_k».proof.Defs
public import proofs.«01_k».proof.Proof.Ext
public import proofs.«01_k».proof.Proof.Gen.Kernel3Ideal.Value
public import Idealize.ShloMosaic.Lib.Pipeline.ReadBack
public import proofs.«01_k».proof.Proof.Gen.Reference3Ideal.Run

@[expose] public section

set_option maxRecDepth 16384

noncomputable section

namespace Cert.V3

open Cert.Ext Cert.Kernel3Ideal Cert.Kernel3Ideal.Gen Idealize.ShloMosaic Idealize.ShloMosaic.TcCoe Finset

variable (m : (ℓ : Loc nD τ sig) → Buf (Elt Ideal) ℓ) (c : Dev nD) (A D : ℕ → ℕ → EReal)
  (hA : m ((c : Thread nD τ).loc main_arg0) = eV (n := 8192) (m := 2816) (φ := .bf16) A)
  (hD : m ((c : Thread nD τ).loc main_arg1) = eV (n := 8192) (m := 1024) (φ := .f32) D)

theorem idx0 (t : Fin cfg0.N) : win0_0.index t = ![t.val % 8, t.val / 8] :=
  (by decide +kernel : ∀ t : Fin grid0.N, win0_0.index t = ![t.val % 8, t.val / 8]) t
theorem idx1 (t : Fin cfg0.N) : win0_1.index t = ![t.val % 8, 0] :=
  (by decide +kernel : ∀ t : Fin grid0.N, win0_1.index t = ![t.val % 8, 0]) t
theorem idx2 (t : Fin cfg0.N) : win0_2.index t = ![t.val / 8, 0] :=
  (by decide +kernel : ∀ t : Fin grid0.N, win0_2.index t = ![t.val / 8, 0]) t

include hA in
theorem iblk0 (t : Fin cfg0.N) : iblk m c 0 t = eV (n := 1024) (m := 1408) (φ := .bf16) (fun i j => A (1024 * (t.val % 8) + i) (1408 * (t.val / 8) + j)) := by
  funext y
  have e := (V_main_arg0 m c).trans hA
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = 1408 * (t.val / 8) + (y 1).val := by blk_simp [idx0 t] <;> omega
  have e2 := congr (congrArg A h0) h1
  exact e2
include hD in
theorem iblk1 (t : Fin cfg0.N) : iblk m c 1 t = eV (n := 1024) (m := 1024) (φ := .f32) (fun i j => D (1024 * (t.val % 8) + i) j) := by
  funext y
  have e := (V_main_arg1 m c).trans hD
  blk_simp [iblk, e, idx1 t]
  have h0 : (((win0_1.blk t).view.emb y) 0 : ℕ) = 1024 * (t.val % 8) + (y 0).val := by blk_simp [idx1 t] <;> omega
  have h1 : (((win0_1.blk t).view.emb y) 1 : ℕ) = (y 1).val := by blk_simp [idx1 t] <;> omega
  have e2 := congr (congrArg D h0) h1
  exact e2

theorem pay2 (f g : ℕ → ℕ → EReal) :
    k0_pay2 (F := Ideal) (eV (φ := .bf16) f) (eV (φ := .f32) g) = eV fun i j => ∑ k ∈ range 1024, f k i * g k j := by
  funext x; idx_vars x; pointwise [k0_pay2, k0_pay1, eV]; rw [sum_range]
theorem pay3 (f g a : ℕ → ℕ → EReal) :
    k0_pay3 (F := Ideal) (eV (φ := .bf16) f) (eV (φ := .f32) g) (eV (φ := .f32) a) = eV fun i j => a i j + ∑ k ∈ range 1024, f k i * g k j := by
  funext x; idx_vars x; pointwise [k0_pay3, k0_pay1, eV]; rw [sum_range]
theorem pay4 (a : ℕ → ℕ → EReal) : k0_pay4 (F := Ideal) (eV (φ := .f32) a) = eV fun i j => ((1 / 2 : ℝ) : EReal) * a i j := by
  funext x; idx_vars x; pointwise [k0_pay4, eV]; rw [lit_half]

/-- The share of one block of rows. -/
def part (q k i j : ℕ) : EReal := ∑ s ∈ range 1024, A (1024 * k + s) (1408 * q + i) * D (1024 * k + s) j

/-- The sum after each point. -/
def after (n : ℕ) : FVec Ideal S1408x1024 .f32 := eV fun i j => ∑ k ∈ range (n % 8 + 1), part A D (n / 8) k i j

include hA hD in
theorem outs : ∀ (n : ℕ) (h : n < cfg0.N), (outsAt0 m c n h).2 = after A D n ∧ (n % 8 = 7 → (outsAt0 m c n h).1 = k0_pay4 (F := Ideal) (after A D n)) := by
  intro n
  induction n using Nat.strong_induction_on with
  | _ n ih =>
  intro h
  by_cases h0 : n % 8 = 0
  · have h1 : ¬1 ≤ n % 8 := by omega
    have h3 : ¬n % 8 = 7 := by omega
    refine ⟨?_, fun h => absurd h h3⟩
    refine (congrArg Prod.snd (outsAt0_A m c ⟨n, h⟩ h0 h1 h3)).trans ?_
    frame_out
    rw [iblk0 m c A hA, iblk1 m c D hD, pay2]
    unfold after part
    rw [h0]
    simp only [zero_add, sum_range_one]
  · have h1 : 1 ≤ n % 8 := by omega
    have ip := (ih (n - 1) (by omega) (Nat.lt_of_le_of_lt (Nat.sub_le _ _) h)).1
    have hd : (n - 1) / 8 = n / 8 := by omega
    have hm : (n - 1) % 8 + 1 = n % 8 := by omega
    unfold after at ip
    rw [hd, hm] at ip
    have hs : k0_pay3 (F := Ideal) (iblk m c 0 ⟨n, h⟩) (iblk m c 1 ⟨n, h⟩) (outsAt0 m c (n - 1) (Nat.lt_of_le_of_lt (Nat.sub_le _ _) h)).2 = after A D n := by
      rw [ip, iblk0 m c A hA, iblk1 m c D hD, pay3]
      unfold after
      simp only [sum_range_succ _ (n % 8)]
      unfold part
      rfl
    by_cases h3 : n % 8 = 7
    · refine ⟨(congrArg Prod.snd (outsAt0_C m c ⟨n, h⟩ h0 h1 h3)).trans ?_, fun _ => (congrArg Prod.fst (outsAt0_C m c ⟨n, h⟩ h0 h1 h3)).trans ?_⟩
      · frame_out
        simp only [read_unread_whole]
        exact hs
      · frame_out
        simp only [read_unread_whole]
        exact congrArg k0_pay4 hs
    · refine ⟨(congrArg Prod.snd (outsAt0_B m c ⟨n, h⟩ h0 h1 h3)).trans ?_, fun h => absurd h h3⟩
      frame_out
      simp only [read_unread_whole]
      exact hs

/-- The gradient. -/
def grad : FVec Ideal S2816x1024 .f32 := eV fun i j => ((1 / 2 : ℝ) : EReal) * ∑ s ∈ range 8192, A s i * D s j

include hA hD in
theorem arr : (dats m 0 c).arrAt 2 cfg0.N = grad A D := by
  refine (dats m 0 c).arrAt_eq_of_covers 2 _ (by decide +kernel) fun t hf y => ?_
  have hr : t.val % 8 = 7 := (flush0_2 t).mp hf
  blk_simp
  rw [after0_2, (outs m c A D hA hD t.val t.isLt).2 hr]
  have h0 : (((win0_2.blk t).view.emb y) 0 : ℕ) = 1408 * (t.val / 8) + (y 0).val := by blk_simp [idx2 t] <;> omega
  have h1 : (((win0_2.blk t).view.emb y) 1 : ℕ) = (y 1).val := by blk_simp [idx2 t] <;> omega
  unfold after
  rw [pay4]
  unfold grad eV part
  rw [h0, h1, hr]
  beta_reduce
  exact congrArg _ (sum_blocks 1024 (fun s => A s (1408 * (t.val / 8) + (y 0).val) * D s (y 1).val) 8)

/-- The reference's result. -/
theorem ref : transpose S2816x1024 [1, 0] (Host.dotGeneral (F := Ideal) Cert.Reference3Ideal.dot_S8192x1024_S8192x2816_S1024x2816_0_0_1_1_n_n none (mulf (broadcastInDim S8192x1024 ![] Cert.Reference3Ideal.Gen.bcast_S_S8192x1024 (constant Cert.Reference3Ideal.S_ .f32 0x3F000000#32)) (eV D : FVec Ideal S8192x1024 .f32)) (extf .f32 (eV A : FVec Ideal S8192x2816 .bf16) Cert.Reference3Ideal.Gen.bitsLt_bf16_f32)) Cert.Reference3Ideal.Gen.transposes_S1024x2816_S2816x1024_1_0
      = grad A D := by
  funext x; idx_vars x; pointwise [eV, grad]; rw [mul_sum_e (EReal.coe_nonneg.mpr (by norm_num)) (EReal.coe_ne_top _), sum_range, lit_half]
  refine sum_congr rfl fun k _ => ?_
  rw [mul_assoc, mul_comm (D k.val x1.val)]

theorem values : @Cert.algebraic_Kernel3Ideal_Reference3Ideal Cert.Kernel3Ideal.Gen.facts Cert.Reference3Ideal.Gen.facts := by
  intro m g m' g' _ hargs
  refine ⟨_, Cert.Kernel3Ideal.Value.run_blocks (F := Ideal) m g, ?_⟩
  refine (θ_run Cert.Reference3Ideal.defs _ _).mono (fun r h c => ?_) (Cert.Reference3Ideal.Value.run (F := Ideal) m' g')
  obtain ⟨r0, r1⟩ := h c
  obtain ⟨a0, a1⟩ := hargs c
  obtain ⟨A, hA⟩ := exV (n := 8192) (m := 2816) (φ := .bf16) (m ((c : Thread nD τ).loc main_arg0))
  obtain ⟨D, hD⟩ := exV (n := 8192) (m := 1024) (φ := .f32) (m ((c : Thread nD τ).loc main_arg1))
  refine ⟨r0.trans ?_, r1⟩
  rw [a0.trans hA, a1.trans hD]
  exact (ref A D).trans (arr m c A D hA hD).symm

end Cert.V3

end
-- ==== Proof.Dwin4.lean ====
/- The gradient of the first weight of the feed-forward layer: what the kernel leaves is the reference's array. -/
module

public import proofs.«01_k».proof.Defs
public import proofs.«01_k».proof.Proof.Ext
public import proofs.«01_k».proof.Proof.Gen.Kernel4Ideal.Value
public import Idealize.ShloMosaic.Lib.Pipeline.ReadBack
public import proofs.«01_k».proof.Proof.Gen.Reference4Ideal.Run

@[expose] public section

set_option maxRecDepth 16384

noncomputable section

namespace Cert.V4

open Cert.Ext Cert.Kernel4Ideal Cert.Kernel4Ideal.Gen Idealize.ShloMosaic Idealize.ShloMosaic.TcCoe Finset

variable (m : (ℓ : Loc nD τ sig) → Buf (Elt Ideal) ℓ) (c : Dev nD) (A : ℕ → ℕ → EReal) (D : ℕ → ℕ → ℕ → EReal)
  (hA : m ((c : Thread nD τ).loc main_arg0) = eV (n := 8192) (m := 1024) (φ := .bf16) A)
  (hD : m ((c : Thread nD τ).loc main_arg1) = eT (l := 2) (n := 8192) (m := 2816) (φ := .bf16) D)

theorem idx0 (t : Fin cfg0.N) : win0_0.index t = ![t.val % 4, 0] :=
  (by decide +kernel : ∀ t : Fin grid0.N, win0_0.index t = ![t.val % 4, 0]) t
theorem idx1 (t : Fin cfg0.N) : win0_1.index t = ![t.val / 8, t.val % 4, t.val / 4 % 2] :=
  (by decide +kernel : ∀ t : Fin grid0.N, win0_1.index t = ![t.val / 8, t.val % 4, t.val / 4 % 2]) t
theorem idx2 (t : Fin cfg0.N) : win0_2.index t = ![0, t.val / 4] :=
  (by decide +kernel : ∀ t : Fin grid0.N, win0_2.index t = ![0, t.val / 4]) t

include hA in
theorem iblk0 (t : Fin cfg0.N) : iblk m c 0 t = eV (n := 2048) (m := 1024) (φ := .bf16) (fun i j => A (2048 * (t.val % 4) + i) j) := by
  funext y
  have e := (V_main_arg0 m c).trans hA
  blk_simp [iblk, e, idx0 t]
  have h0 : (((win0_0.blk t).view.emb y) 0 : ℕ) = 2048 * (t.val % 4) + (y 0).val := by blk_simp [idx0 t] <;> omega
  have h1 : (((win0_0.blk t).view.emb y) 1 : ℕ) = (y 1).val := by blk_simp [idx0 t] <;> omega
  have e2 := congr (congrArg A h0) h1
  exact e2
include hD in
theorem iblk1 (t : Fin cfg0.N) : iblk m c 1 t = eT (l := 1) (n := 2048) (m := 1408) (φ := .bf16) (fun _ i j => D (t.val / 8) (2048 * (t.val % 4) + i) (1408 * (t.val / 4 % 2) + j)) := by
  funext y
  have e := (V_main_arg1 m c).trans hD
  blk_simp [iblk, e, idx1 t]
  have h0 : (((win0_1.blk t).view.emb y) 0 : ℕ) = t.val / 8 := by have hy : (y 0).val < 1 := (y 0).isLt; blk_simp [idx1 t] <;> omega
  have h1 : (((win0_1.blk t).view.emb y) 1 : ℕ) = 2048 * (t.val % 4) + (y 1).val := by blk_simp [idx1 t] <;> omega
  have h2 : (((win0_1.blk t).view.emb y) 2 : ℕ) = 1408 * (t.val / 4 % 2) + (y 2).val := by blk_simp [idx1 t] <;> omega
  have e2 := congr (congr (congrArg D h0) h1) h2
  exact e2

theorem pay2 (f : ℕ → ℕ → EReal) (g : ℕ → ℕ → ℕ → EReal) :
    k0_pay2 (F := Ideal) (eV (φ := .bf16) f) (eT (φ := .bf16) g) = eV fun i j => ∑ k ∈ range 2048, f k i * g 0 k j := by
  funext x; idx_vars x; pointwise [k0_pay2, k0_pay1, eV, eT]; rw [sum_range]
theorem pay3 (f a : ℕ → ℕ → EReal) (g : ℕ → ℕ → ℕ → EReal) :
    k0_pay3 (F := Ideal) (eV (φ := .bf16) f) (eT (φ := .bf16) g) (eV (φ := .f32) a) = eV fun i j => a i j + ∑ k ∈ range 2048, f k i * g 0 k j := by
  funext x; idx_vars x; pointwise [k0_pay3, k0_pay1, eV, eT]; rw [sum_range]

/-- The share of one block of rows. -/
def part (q k i j : ℕ) : EReal := ∑ s ∈ range 2048, A (2048 * k + s) i * D (q / 2) (2048 * k + s) (1408 * (q % 2) + j)

/-- The sum after each point. -/
def after (n : ℕ) : FVec Ideal S1024x1408 .f32 := eV fun i j => ∑ k ∈ range (n % 4 + 1), part A D (n / 4) k i j

include hA hD in
theorem outs : ∀ (n : ℕ) (h : n < cfg0.N), (outsAt0 m c n h).2 = after A D n ∧ (n % 4 = 3 → (outsAt0 m c n h).1 = after A D n) := by
  intro n
  induction n using Nat.strong_induction_on with
  | _ n ih =>
  intro h
  have hq : n / 4 / 2 = n / 8 := by omega
  by_cases h0 : n % 4 = 0
  · have h1 : ¬1 ≤ n % 4 := by omega
    have h3 : ¬n % 4 = 3 := by omega
    refine ⟨?_, fun h => absurd h h3⟩
    refine (congrArg Prod.snd (outsAt0_A m c ⟨n, h⟩ h0 h1 h3)).trans ?_
    frame_out
    rw [iblk0 m c A hA, iblk1 m c D hD, pay2]
    unfold after part
    rw [h0, hq]
    simp only [zero_add, sum_range_one]
  · have h1 : 1 ≤ n % 4 := by omega
    have ip := (ih (n - 1) (by omega) (Nat.lt_of_le_of_lt (Nat.sub_le _ _) h)).1
    have hd : (n - 1) / 4 = n / 4 := by omega
    have hm : (n - 1) % 4 + 1 = n % 4 := by omega
    unfold after at ip
    rw [hd, hm] at ip
    have hs : k0_pay3 (F := Ideal) (iblk m c 0 ⟨n, h⟩) (iblk m c 1 ⟨n, h⟩) (outsAt0 m c (n - 1) (Nat.lt_of_le_of_lt (Nat.sub_le _ _) h)).2 = after A D n := by
      rw [ip, iblk0 m c A hA, iblk1 m c D hD, pay3]
      unfold after
      simp only [sum_range_succ _ (n % 4)]
      unfold part
      rw [hq]
    by_cases h3 : n % 4 = 3
    · refine ⟨(congrArg Prod.snd (outsAt0_C m c ⟨n, h⟩ h0 h1 h3)).trans ?_, fun _ => (congrArg Prod.fst (outsAt0_C m c ⟨n, h⟩ h0 h1 h3)).trans ?_⟩
      · frame_out
        simp only [read_unread_whole]
        exact hs
      · frame_out
        simp only [read_unread_whole]
        exact hs
    · refine ⟨(congrArg Prod.snd (outsAt0_B m c ⟨n, h⟩ h0 h1 h3)).trans ?_, fun h => absurd h h3⟩
      frame_out
      simp only [read_unread_whole]
      exact hs

/-- The gradient. -/
def grad : FVec Ideal S1024x5632 .f32 := eV fun i q => ∑ s ∈ range 8192, A s i * D (q / 2816) s (q % 2816)

include hA hD in
theorem arr : (dats m 0 c).arrAt 2 cfg0.N = grad A D := by
  refine (dats m 0 c).arrAt_eq_of_covers 2 _ (by decide +kernel) fun t hf y => ?_
  have hr : t.val % 4 = 3 := (flush0_2 t).mp hf
  blk_simp
  rw [after0_2, (outs m c A D hA hD t.val t.isLt).2 hr]
  have h0 : (((win0_2.blk t).view.emb y) 0 : ℕ) = (y 0).val := by blk_simp [idx2 t] <;> omega
  have h1 : (((win0_2.blk t).view.emb y) 1 : ℕ) = 1408 * (t.val / 4) + (y 1).val := by blk_simp [idx2 t] <;> omega
  have hy : (y 1).val < 1408 := (y 1).isLt
  unfold after grad eV part
  rw [h0, h1, hr]
  have e1 : (1408 * (t.val / 4) + (y 1).val) / 2816 = t.val / 4 / 2 := by omega
  have e2 : (1408 * (t.val / 4) + (y 1).val) % 2816 = 1408 * (t.val / 4 % 2) + (y 1).val := by omega
  beta_reduce
  rw [e1, e2]
  exact sum_blocks 2048 (fun s => A s (y 0).val * D (t.val / 4 / 2) s (1408 * (t.val / 4 % 2) + (y 1).val)) 4

/-- The reference's result. -/
theorem ref : transpose S1024x5632 [1, 0] (Host.dotGeneral (F := Ideal) Cert.Reference4Ideal.dot_S8192x5632_S8192x1024_S5632x1024_0_0_1_1_n_n none (concatenate Cert.Reference4Ideal.S8192x5632 1 [⟨Cert.Reference4Ideal.S8192x2816, (shapeCast _ (extractStridedSlice Cert.Reference4Ideal.S1x8192x2816 ![0, 0, 0] (extf .f32 (eT D : FVec Ideal S2x8192x2816 .bf16) Cert.Reference4Ideal.Gen.bitsLt_bf16_f32) Cert.Reference4Ideal.Gen.slices_S2x8192x2816_S1x8192x2816_0_0_0) Cert.Reference4Ideal.Gen.shapeCasts_S1x8192x2816_S8192x2816)⟩, ⟨Cert.Reference4Ideal.S8192x2816, (shapeCast _ (extractStridedSlice Cert.Reference4Ideal.S1x8192x2816 ![1, 0, 0] (extf .f32 (eT D : FVec Ideal S2x8192x2816 .bf16) Cert.Reference4Ideal.Gen.bitsLt_bf16_f32) Cert.Reference4Ideal.Gen.slices_S2x8192x2816_S1x8192x2816_1_0_0) Cert.Reference4Ideal.Gen.shapeCasts_S1x8192x2816_S8192x2816)⟩] Cert.Reference4Ideal.Gen.concatenates_S8192x2816_S8192x2816_S8192x5632_d1) (extf .f32 (eV A : FVec Ideal S8192x1024 .bf16) Cert.Reference4Ideal.Gen.bitsLt_bf16_f32)) Cert.Reference4Ideal.Gen.transposes_S5632x1024_S1024x5632_1_0
      = grad A D := by
  funext x; idx_vars x; pointwise [eV, eT, grad]; rw [sum_range]
  refine sum_congr rfl fun k _ => ?_
  have hx := x1.isLt
  rw [mul_comm (A k.val x0.val)]
  by_cases h : x1.val < 2816
  · rw [dif_pos h, Nat.div_eq_of_lt h, Nat.mod_eq_of_lt h]
  · rw [dif_neg h, show x1.val / 2816 = 1 by omega, show x1.val % 2816 = x1.val - 2816 by omega]

theorem values : @Cert.algebraic_Kernel4Ideal_Reference4Ideal Cert.Kernel4Ideal.Gen.facts Cert.Reference4Ideal.Gen.facts := by
  intro m g m' g' _ hargs
  refine ⟨_, Cert.Kernel4Ideal.Value.run_blocks (F := Ideal) m g, ?_⟩
  refine (θ_run Cert.Reference4Ideal.defs _ _).mono (fun r h c => ?_) (Cert.Reference4Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨D, hD⟩ := exT (l := 2) (n := 8192) (m := 2816) (φ := .bf16) (m ((c : Thread nD τ).loc main_arg1))
  refine ⟨r0.trans ?_, r1⟩
  rw [a0.trans hA, a1.trans hD]
  exact (ref A D).trans (arr m c A D hA hD).symm

end Cert.V4

end
-- ==== Proof.Out7.lean ====
/- The second product of the feed-forward layer: what the kernel leaves is the reference's array. -/
module

public import proofs.«01_k».proof.Defs
public import proofs.«01_k».proof.Proof.Ext
public import proofs.«01_k».proof.Proof.Gen.Kernel7Ideal.Value
public import proofs.«01_k».proof.Proof.Gen.Reference7Ideal.Run

@[expose] public section

set_option maxRecDepth 16384

noncomputable section

namespace Cert.V7

open Cert.Ext Cert.Kernel7Ideal Cert.Kernel7Ideal.Gen Idealize.ShloMosaic Idealize.ShloMosaic.TcCoe

variable (m : (ℓ : Loc nD τ sig) → Buf (Elt Ideal) ℓ) (c : Dev nD) (A W H : ℕ → ℕ → EReal)
  (hA : m ((c : Thread nD τ).loc main_arg0) = eV (n := 8192) (m := 2816) (φ := .bf16) A)
  (hW : m ((c : Thread nD τ).loc main_arg1) = eV (n := 2816) (m := 1024) (φ := .bf16) W)
  (hH : m ((c : Thread nD τ).loc main_arg2) = eV (n := 8192) (m := 1024) (φ := .f32) H)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![t.val, 0] :=
  (by decide +kernel : ∀ t : Fin grid0.N, win0_3.index t = ![t.val, 0]) t

include hA in
theorem iblk0 (t : Fin cfg0.N) : iblk m c 0 t = eV (n := 512) (m := 2816) (φ := .bf16) (fun i j => A (512 * t.val + i) j) := by
  funext y
  have e := (V_main_arg0 m c).trans hA
  blk_simp [iblk, e, idx0 t]
  have h0 : (((win0_0.blk t).view.emb y) 0 : ℕ) = 512 * t.val + (y 0).val := by blk_simp [idx0 t] <;> omega
  have h1 : (((win0_0.blk t).view.emb y) 1 : ℕ) = (y 1).val := by blk_simp [idx0 t] <;> omega
  exact congr (congrArg A h0) h1
include hW in
theorem iblk1 (t : Fin cfg0.N) : iblk m c 1 t = eV (n := 2816) (m := 1024) (φ := .bf16) W := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2
include hH in
theorem iblk2 (t : Fin cfg0.N) : iblk m c 2 t = eV (n := 512) (m := 1024) (φ := .f32) (fun i j => H (512 * t.val + i) j) := by
  funext y
  have e := (V_main_arg2 m c).trans hH
  blk_simp [iblk, e, idx2 t]
  have h0 : (((win0_2.blk t).view.emb y) 0 : ℕ) = 512 * t.val + (y 0).val := by blk_simp [idx2 t] <;> omega
  have h1 : (((win0_2.blk t).view.emb y) 1 : ℕ) = (y 1).val := by blk_simp [idx2 t] <;> omega
  exact congr (congrArg H h0) h1

/-- A block of the result. -/
theorem pay (f g h : ℕ → ℕ → EReal) :
    k0_pay4 (F := Ideal) (k0_pay2 (F := Ideal) (eV (φ := .bf16) f) (eV (φ := .bf16) g)) (eV (φ := .f32) h) = eV fun i j => h i j + ((1 / 2 : ℝ) : EReal) * ∑ k ∈ Finset.range 2816, f i k * g k j := by
  funext x; idx_vars x; pointwise [k0_pay4, k0_pay2, k0_pay1, eV]; rw [Finset.sum_range]
  rw [lit_half]

include hA hW hH in
theorem arr : (dats m 0 c).arrAt 3 cfg0.N = eV (n := 8192) (m := 1024) (φ := .f32)
    (fun i j => H i j + ((1 / 2 : ℝ) : EReal) * ∑ k ∈ Finset.range 2816, A i k * W k j) := by
  refine (dats m 0 c).arrAt_eq_of_covers 3 _ (by decide +kernel) fun t hf y => ?_
  blk_simp
  rw [after0_3, outsAt0]
  frame_out
  rw [iblk0 m c A hA, iblk1 m c W hW, iblk2 m c H hH, pay]
  have h0 : (((win0_3.blk t).view.emb y) 0 : ℕ) = 512 * t.val + (y 0).val := by blk_simp [idx3 t] <;> omega
  have h1 : (((win0_3.blk t).view.emb y) 1 : ℕ) = (y 1).val := by blk_simp [idx3 t] <;> omega
  unfold eV
  rw [h0, h1]

/-- The reference's result. -/
theorem ref (f g h : ℕ → ℕ → EReal) :
    addf (F := Ideal) (eV h) (mulf (broadcastInDim S8192x1024 ![] Cert.Reference7Ideal.Gen.bcast_S_S8192x1024 (constant Cert.Reference7Ideal.S_ .f32 0x3F000000#32)) (Host.dotGeneral Cert.Reference7Ideal.dot_S8192x2816_S2816x1024_S8192x1024_1_0_0_1_n_n none (extf .f32 (eV f : FVec Ideal ⟨2, ![8192, 2816]⟩ .bf16) Cert.Reference7Ideal.Gen.bitsLt_bf16_f32) (extf .f32 (eV g : FVec Ideal ⟨2, ![2816, 1024]⟩ .bf16) Cert.Reference7Ideal.Gen.bitsLt_bf16_f32)))
      = eV fun i j => h i j + ((1 / 2 : ℝ) : EReal) * ∑ k ∈ Finset.range 2816, f i k * g k j := by
  funext x; idx_vars x; pointwise [eV]; rw [Finset.sum_range]
  rw [lit_half]

theorem values : @Cert.algebraic_Kernel7Ideal_Reference7Ideal Cert.Kernel7Ideal.Gen.facts Cert.Reference7Ideal.Gen.facts := by
  intro m g m' g' _ hargs
  refine ⟨_, Cert.Kernel7Ideal.Value.run_blocks (F := Ideal) m g, ?_⟩
  refine (θ_run Cert.Reference7Ideal.defs _ _).mono (fun r h c => ?_) (Cert.Reference7Ideal.Value.run (F := Ideal) m' g')
  obtain ⟨r0, r1⟩ := h c
  obtain ⟨a0, a1, a2⟩ := hargs c
  obtain ⟨A, hA⟩ := exV (n := 8192) (m := 2816) (φ := .bf16) (m ((c : Thread nD τ).loc main_arg0))
  obtain ⟨W, hW⟩ := exV (n := 2816) (m := 1024) (φ := .bf16) (m ((c : Thread nD τ).loc main_arg1))
  obtain ⟨H, hH⟩ := exV (n := 8192) (m := 1024) (φ := .f32) (m ((c : Thread nD τ).loc main_arg2))
  refine ⟨r0.trans ?_, r1⟩
  rw [a0.trans hA, a1.trans hW, a2.trans hH]
  exact (ref A W H).trans (arr m c A W H hA hW hH).symm

end Cert.V7

end
-- ==== Proof.Mix8.lean ====
/- The gradient of a mixer's last weight, of an unrounded gradient: what the kernel leaves is the reference's array. -/
module

public import proofs.«01_k».proof.Defs
public import proofs.«01_k».proof.Proof.Ext
public import proofs.«01_k».proof.Proof.Gen.Kernel8Ideal.Value
public import Idealize.ShloMosaic.Lib.Pipeline.ReadBack
public import proofs.«01_k».proof.Proof.Gen.Reference8Ideal.Run

@[expose] public section

set_option maxRecDepth 16384

noncomputable section

namespace Cert.V8

open Cert.Ext Cert.Kernel8Ideal Cert.Kernel8Ideal.Gen Idealize.ShloMosaic Idealize.ShloMosaic.TcCoe Finset

variable (m : (ℓ : Loc nD τ sig) → Buf (Elt Ideal) ℓ) (c : Dev nD) (A D : ℕ → ℕ → EReal)
  (hA : m ((c : Thread nD τ).loc main_arg0) = eV (n := 8192) (m := 1024) (φ := .bf16) A)
  (hD : m ((c : Thread nD τ).loc main_arg1) = eV (n := 8192) (m := 1024) (φ := .f32) D)

theorem idx0 (t : Fin cfg0.N) : win0_0.index t = ![t.val % 8, 0] :=
  (by decide +kernel : ∀ t : Fin grid0.N, win0_0.index t = ![t.val % 8, 0]) t
theorem idx1 (t : Fin cfg0.N) : win0_1.index t = ![t.val % 8, t.val / 8] :=
  (by decide +kernel : ∀ t : Fin grid0.N, win0_1.index t = ![t.val % 8, t.val / 8]) t
theorem idx2 (t : Fin cfg0.N) : win0_2.index t = ![0, t.val / 8] :=
  (by decide +kernel : ∀ t : Fin grid0.N, win0_2.index t = ![0, t.val / 8]) t

include hA in
theorem iblk0 (t : Fin cfg0.N) : iblk m c 0 t = eV (n := 1024) (m := 1024) (φ := .bf16) (fun i j => A (1024 * (t.val % 8) + i) j) := by
  funext y
  have e := (V_main_arg0 m c).trans hA
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = (y 1).val := by blk_simp [idx0 t] <;> omega
  have e2 := congr (congrArg A h0) h1
  exact e2
include hD in
theorem iblk1 (t : Fin cfg0.N) : iblk m c 1 t = eV (n := 1024) (m := 1024) (φ := .f32) (fun i j => D (1024 * (t.val % 8) + i) (1024 * (t.val / 8) + j)) := by
  funext y
  have e := (V_main_arg1 m c).trans hD
  blk_simp [iblk, e, idx1 t]
  have h0 : (((win0_1.blk t).view.emb y) 0 : ℕ) = 1024 * (t.val % 8) + (y 0).val := by blk_simp [idx1 t] <;> omega
  have h1 : (((win0_1.blk t).view.emb y) 1 : ℕ) = 1024 * (t.val / 8) + (y 1).val := by blk_simp [idx1 t] <;> omega
  have e2 := congr (congrArg D h0) h1
  exact e2

theorem pay2 (f g : ℕ → ℕ → EReal) :
    k0_pay2 (F := Ideal) (eV (φ := .bf16) f) (eV (φ := .f32) g) = eV fun i j => ∑ k ∈ range 1024, f k i * g k j := by
  funext x; idx_vars x; pointwise [k0_pay2, k0_pay1, eV]; rw [sum_range]
theorem pay3 (f a g : ℕ → ℕ → EReal) :
    k0_pay3 (F := Ideal) (eV (φ := .bf16) f) (eV (φ := .f32) g) (eV (φ := .f32) a) = eV fun i j => a i j + ∑ k ∈ range 1024, f k i * g k j := by
  funext x; idx_vars x; pointwise [k0_pay3, k0_pay1, eV]; rw [sum_range]

/-- The share of one block of rows in one block of columns. -/
def part (q k i j : ℕ) : EReal := ∑ s ∈ range 1024, A (1024 * k + s) i * D (1024 * k + s) (1024 * q + j)

/-- The sum after each point. -/
def after (n : ℕ) : FVec Ideal S1024x1024 .f32 := eV fun i j => ∑ k ∈ range (n % 8 + 1), part A D (n / 8) k i j

include hA hD in
theorem outs : ∀ (n : ℕ) (h : n < cfg0.N), (outsAt0 m c n h).2 = after A D n ∧ (n % 8 = 7 → (outsAt0 m c n h).1 = after A D n) := by
  intro n
  induction n using Nat.strong_induction_on with
  | _ n ih =>
  intro h
  have hN : n < 8 := h
  by_cases h0 : n % 8 = 0
  · have h1 : ¬1 ≤ n := by omega
    have h3 : ¬n % 8 = 7 := by omega
    refine ⟨(congrArg Prod.snd (outsAt0_A m c ⟨n, h⟩ h0 h1 h3)).trans ?_, fun h => absurd h h3⟩
    frame_out
    rw [iblk0 m c A hA, iblk1 m c D hD, pay2]
    unfold after part
    rw [h0]
    simp only [zero_add, sum_range_one]
  · have h1 : 1 ≤ n := by omega
    have ip := (ih (n - 1) (by omega) (Nat.lt_of_le_of_lt (Nat.sub_le _ _) h)).1
    have hd : (n - 1) / 8 = n / 8 := by omega
    have hm : (n - 1) % 8 + 1 = n % 8 := by omega
    unfold after at ip
    rw [hd, hm] at ip
    have hs : k0_pay3 (F := Ideal) (iblk m c 0 ⟨n, h⟩) (iblk m c 1 ⟨n, h⟩) (outsAt0 m c (n - 1) (Nat.lt_of_le_of_lt (Nat.sub_le _ _) h)).2 = after A D n := by
      rw [ip, iblk0 m c A hA, iblk1 m c D hD, pay3]
      unfold after
      simp only [sum_range_succ _ (n % 8)]
      rfl
    by_cases h3 : n % 8 = 7
    · refine ⟨(congrArg Prod.snd (outsAt0_C m c ⟨n, h⟩ h0 h1 h3)).trans ?_, fun _ => (congrArg Prod.fst (outsAt0_C m c ⟨n, h⟩ h0 h1 h3)).trans ?_⟩
      · frame_out
        simp only [read_unread_whole]
        exact hs
      · frame_out
        simp only [read_unread_whole]
        exact hs
    · refine ⟨(congrArg Prod.snd (outsAt0_B m c ⟨n, h⟩ h0 h1 h3)).trans ?_, fun h => absurd h h3⟩
      frame_out
      simp only [read_unread_whole]
      exact hs

/-- The gradient. -/
def grad : FVec Ideal S1024x1024 .f32 := eV fun i j => ∑ s ∈ range 8192, A s i * D s j

include hA hD in
theorem arr : (dats m 0 c).arrAt 2 cfg0.N = grad A D := by
  refine (dats m 0 c).arrAt_eq_of_covers 2 _ (by decide +kernel) fun t hf y => ?_
  have hr : t.val % 8 = 7 := (flush0_2 t).mp hf
  blk_simp
  rw [after0_2, (outs m c A D hA hD t.val t.isLt).2 hr]
  have h0 : (((win0_2.blk t).view.emb y) 0 : ℕ) = (y 0).val := by blk_simp [idx2 t] <;> omega
  have h1 : (((win0_2.blk t).view.emb y) 1 : ℕ) = 1024 * (t.val / 8) + (y 1).val := by blk_simp [idx2 t] <;> omega
  unfold after grad eV part
  rw [h0, h1, hr]
  exact sum_blocks 1024 (fun s => A s (y 0).val * D s (1024 * (t.val / 8) + (y 1).val)) 8

/-- The reference's result. -/
theorem ref : transpose S1024x1024 [1, 0] (Host.dotGeneral (F := Ideal) Cert.Reference8Ideal.dot_S8192x1024_S8192x1024_S1024x1024_0_0_1_1_n_n none (eV D : FVec Ideal S8192x1024 .f32) (extf .f32 (eV A : FVec Ideal S8192x1024 .bf16) Cert.Reference8Ideal.Gen.bitsLt_bf16_f32)) Cert.Reference8Ideal.Gen.transposes_S1024x1024_S1024x1024_1_0
      = grad A D := by
  funext x; idx_vars x; pointwise [eV, grad]; rw [sum_range]
  exact sum_congr rfl fun k _ => mul_comm _ _

theorem values : @Cert.algebraic_Kernel8Ideal_Reference8Ideal Cert.Kernel8Ideal.Gen.facts Cert.Reference8Ideal.Gen.facts := by
  intro m g m' g' _ hargs
  refine ⟨_, Cert.Kernel8Ideal.Value.run_blocks (F := Ideal) m g, ?_⟩
  refine (θ_run Cert.Reference8Ideal.defs _ _).mono (fun r h c => ?_) (Cert.Reference8Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨D, hD⟩ := exV (n := 8192) (m := 1024) (φ := .f32) (m ((c : Thread nD τ).loc main_arg1))
  refine ⟨r0.trans ?_, r1⟩
  rw [a0.trans hA, a1.trans hD]
  exact (ref A D).trans (arr m c A D hA hD).symm

end Cert.V8

end
-- ==== Proof.Mix9.lean ====
/- The gradient of a mixer's weight of 2048 columns: what the kernel leaves is the reference's array. -/
module

public import proofs.«01_k».proof.Defs
public import proofs.«01_k».proof.Proof.Ext
public import proofs.«01_k».proof.Proof.Gen.Kernel9Ideal.Value
public import Idealize.ShloMosaic.Lib.Pipeline.ReadBack
public import proofs.«01_k».proof.Proof.Gen.Reference9Ideal.Run

@[expose] public section

set_option maxRecDepth 16384

noncomputable section

namespace Cert.V9

open Cert.Ext Cert.Kernel9Ideal Cert.Kernel9Ideal.Gen Idealize.ShloMosaic Idealize.ShloMosaic.TcCoe Finset

variable (m : (ℓ : Loc nD τ sig) → Buf (Elt Ideal) ℓ) (c : Dev nD) (A D : ℕ → ℕ → EReal)
  (hA : m ((c : Thread nD τ).loc main_arg0) = eV (n := 8192) (m := 1024) (φ := .bf16) A)
  (hD : m ((c : Thread nD τ).loc main_arg1) = eV (n := 8192) (m := 2048) (φ := .bf16) D)

theorem idx0 (t : Fin cfg0.N) : win0_0.index t = ![t.val % 8, 0] :=
  (by decide +kernel : ∀ t : Fin grid0.N, win0_0.index t = ![t.val % 8, 0]) t
theorem idx1 (t : Fin cfg0.N) : win0_1.index t = ![t.val % 8, t.val / 8] :=
  (by decide +kernel : ∀ t : Fin grid0.N, win0_1.index t = ![t.val % 8, t.val / 8]) t
theorem idx2 (t : Fin cfg0.N) : win0_2.index t = ![0, t.val / 8] :=
  (by decide +kernel : ∀ t : Fin grid0.N, win0_2.index t = ![0, t.val / 8]) t

include hA in
theorem iblk0 (t : Fin cfg0.N) : iblk m c 0 t = eV (n := 1024) (m := 1024) (φ := .bf16) (fun i j => A (1024 * (t.val % 8) + i) j) := by
  funext y
  have e := (V_main_arg0 m c).trans hA
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = (y 1).val := by blk_simp [idx0 t] <;> omega
  have e2 := congr (congrArg A h0) h1
  exact e2
include hD in
theorem iblk1 (t : Fin cfg0.N) : iblk m c 1 t = eV (n := 1024) (m := 1024) (φ := .bf16) (fun i j => D (1024 * (t.val % 8) + i) (1024 * (t.val / 8) + j)) := by
  funext y
  have e := (V_main_arg1 m c).trans hD
  blk_simp [iblk, e, idx1 t]
  have h0 : (((win0_1.blk t).view.emb y) 0 : ℕ) = 1024 * (t.val % 8) + (y 0).val := by blk_simp [idx1 t] <;> omega
  have h1 : (((win0_1.blk t).view.emb y) 1 : ℕ) = 1024 * (t.val / 8) + (y 1).val := by blk_simp [idx1 t] <;> omega
  have e2 := congr (congrArg D h0) h1
  exact e2

theorem pay2 (f g : ℕ → ℕ → EReal) :
    k0_pay2 (F := Ideal) (eV (φ := .bf16) f) (eV (φ := .bf16) g) = eV fun i j => ∑ k ∈ range 1024, f k i * g k j := by
  funext x; idx_vars x; pointwise [k0_pay2, k0_pay1, eV]; rw [sum_range]
theorem pay3 (f a g : ℕ → ℕ → EReal) :
    k0_pay3 (F := Ideal) (eV (φ := .bf16) f) (eV (φ := .bf16) g) (eV (φ := .f32) a) = eV fun i j => a i j + ∑ k ∈ range 1024, f k i * g k j := by
  funext x; idx_vars x; pointwise [k0_pay3, k0_pay1, eV]; rw [sum_range]

/-- The share of one block of rows in one block of columns. -/
def part (q k i j : ℕ) : EReal := ∑ s ∈ range 1024, A (1024 * k + s) i * D (1024 * k + s) (1024 * q + j)

/-- The sum after each point. -/
def after (n : ℕ) : FVec Ideal S1024x1024 .f32 := eV fun i j => ∑ k ∈ range (n % 8 + 1), part A D (n / 8) k i j

include hA hD in
theorem outs : ∀ (n : ℕ) (h : n < cfg0.N), (outsAt0 m c n h).2 = after A D n ∧ (n % 8 = 7 → (outsAt0 m c n h).1 = after A D n) := by
  intro n
  induction n using Nat.strong_induction_on with
  | _ n ih =>
  intro h
  have hN : n < 16 := h
  by_cases h0 : n % 8 = 0
  · have h1 : ¬1 ≤ n % 8 := by omega
    have h3 : ¬n % 8 = 7 := by omega
    refine ⟨(congrArg Prod.snd (outsAt0_A m c ⟨n, h⟩ h0 h1 h3)).trans ?_, fun h => absurd h h3⟩
    frame_out
    rw [iblk0 m c A hA, iblk1 m c D hD, pay2]
    unfold after part
    rw [h0]
    simp only [zero_add, sum_range_one]
  · have h1 : 1 ≤ n % 8 := by omega
    have ip := (ih (n - 1) (by omega) (Nat.lt_of_le_of_lt (Nat.sub_le _ _) h)).1
    have hd : (n - 1) / 8 = n / 8 := by omega
    have hm : (n - 1) % 8 + 1 = n % 8 := by omega
    unfold after at ip
    rw [hd, hm] at ip
    have hs : k0_pay3 (F := Ideal) (iblk m c 0 ⟨n, h⟩) (iblk m c 1 ⟨n, h⟩) (outsAt0 m c (n - 1) (Nat.lt_of_le_of_lt (Nat.sub_le _ _) h)).2 = after A D n := by
      rw [ip, iblk0 m c A hA, iblk1 m c D hD, pay3]
      unfold after
      simp only [sum_range_succ _ (n % 8)]
      rfl
    by_cases h3 : n % 8 = 7
    · refine ⟨(congrArg Prod.snd (outsAt0_C m c ⟨n, h⟩ h0 h1 h3)).trans ?_, fun _ => (congrArg Prod.fst (outsAt0_C m c ⟨n, h⟩ h0 h1 h3)).trans ?_⟩
      · frame_out
        simp only [read_unread_whole]
        exact hs
      · frame_out
        simp only [read_unread_whole]
        exact hs
    · refine ⟨(congrArg Prod.snd (outsAt0_B m c ⟨n, h⟩ h0 h1 h3)).trans ?_, fun h => absurd h h3⟩
      frame_out
      simp only [read_unread_whole]
      exact hs

/-- The gradient. -/
def grad : FVec Ideal S1024x2048 .f32 := eV fun i j => ∑ s ∈ range 8192, A s i * D s j

include hA hD in
theorem arr : (dats m 0 c).arrAt 2 cfg0.N = grad A D := by
  refine (dats m 0 c).arrAt_eq_of_covers 2 _ (by decide +kernel) fun t hf y => ?_
  have hr : t.val % 8 = 7 := (flush0_2 t).mp hf
  blk_simp
  rw [after0_2, (outs m c A D hA hD t.val t.isLt).2 hr]
  have h0 : (((win0_2.blk t).view.emb y) 0 : ℕ) = (y 0).val := by blk_simp [idx2 t] <;> omega
  have h1 : (((win0_2.blk t).view.emb y) 1 : ℕ) = 1024 * (t.val / 8) + (y 1).val := by blk_simp [idx2 t] <;> omega
  unfold after grad eV part
  rw [h0, h1, hr]
  exact sum_blocks 1024 (fun s => A s (y 0).val * D s (1024 * (t.val / 8) + (y 1).val)) 8

/-- The reference's result. -/
theorem ref : transpose S1024x2048 [1, 0] (Host.dotGeneral (F := Ideal) Cert.Reference9Ideal.dot_S8192x2048_S8192x1024_S2048x1024_0_0_1_1_n_n none (extf .f32 (eV D : FVec Ideal S8192x2048 .bf16) Cert.Reference9Ideal.Gen.bitsLt_bf16_f32) (extf .f32 (eV A : FVec Ideal S8192x1024 .bf16) Cert.Reference9Ideal.Gen.bitsLt_bf16_f32)) Cert.Reference9Ideal.Gen.transposes_S2048x1024_S1024x2048_1_0
      = grad A D := by
  funext x; idx_vars x; pointwise [eV, grad]; rw [sum_range]
  exact sum_congr rfl fun k _ => mul_comm _ _

theorem values : @Cert.algebraic_Kernel9Ideal_Reference9Ideal Cert.Kernel9Ideal.Gen.facts Cert.Reference9Ideal.Gen.facts := by
  intro m g m' g' _ hargs
  refine ⟨_, Cert.Kernel9Ideal.Value.run_blocks (F := Ideal) m g, ?_⟩
  refine (θ_run Cert.Reference9Ideal.defs _ _).mono (fun r h c => ?_) (Cert.Reference9Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨D, hD⟩ := exV (n := 8192) (m := 2048) (φ := .bf16) (m ((c : Thread nD τ).loc main_arg1))
  refine ⟨r0.trans ?_, r1⟩
  rw [a0.trans hA, a1.trans hD]
  exact (ref A D).trans (arr m c A D hA hD).symm

end Cert.V9

end
-- ==== Proof.Mix10.lean ====
/- The gradient of a mixer's weight of 1024 columns: what the kernel leaves is the reference's array. -/
module

public import proofs.«01_k».proof.Defs
public import proofs.«01_k».proof.Proof.Ext
public import proofs.«01_k».proof.Proof.Gen.Kernel10Ideal.Value
public import Idealize.ShloMosaic.Lib.Pipeline.ReadBack
public import proofs.«01_k».proof.Proof.Gen.Reference10Ideal.Run

@[expose] public section

set_option maxRecDepth 16384

noncomputable section

namespace Cert.V10

open Cert.Ext Cert.Kernel10Ideal Cert.Kernel10Ideal.Gen Idealize.ShloMosaic Idealize.ShloMosaic.TcCoe Finset

variable (m : (ℓ : Loc nD τ sig) → Buf (Elt Ideal) ℓ) (c : Dev nD) (A D : ℕ → ℕ → EReal)
  (hA : m ((c : Thread nD τ).loc main_arg0) = eV (n := 8192) (m := 1024) (φ := .bf16) A)
  (hD : m ((c : Thread nD τ).loc main_arg1) = eV (n := 8192) (m := 1024) (φ := .bf16) D)

theorem idx0 (t : Fin cfg0.N) : win0_0.index t = ![t.val % 8, 0] :=
  (by decide +kernel : ∀ t : Fin grid0.N, win0_0.index t = ![t.val % 8, 0]) t
theorem idx1 (t : Fin cfg0.N) : win0_1.index t = ![t.val % 8, t.val / 8] :=
  (by decide +kernel : ∀ t : Fin grid0.N, win0_1.index t = ![t.val % 8, t.val / 8]) t
theorem idx2 (t : Fin cfg0.N) : win0_2.index t = ![0, t.val / 8] :=
  (by decide +kernel : ∀ t : Fin grid0.N, win0_2.index t = ![0, t.val / 8]) t

include hA in
theorem iblk0 (t : Fin cfg0.N) : iblk m c 0 t = eV (n := 1024) (m := 1024) (φ := .bf16) (fun i j => A (1024 * (t.val % 8) + i) j) := by
  funext y
  have e := (V_main_arg0 m c).trans hA
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = (y 1).val := by blk_simp [idx0 t] <;> omega
  have e2 := congr (congrArg A h0) h1
  exact e2
include hD in
theorem iblk1 (t : Fin cfg0.N) : iblk m c 1 t = eV (n := 1024) (m := 1024) (φ := .bf16) (fun i j => D (1024 * (t.val % 8) + i) (1024 * (t.val / 8) + j)) := by
  funext y
  have e := (V_main_arg1 m c).trans hD
  blk_simp [iblk, e, idx1 t]
  have h0 : (((win0_1.blk t).view.emb y) 0 : ℕ) = 1024 * (t.val % 8) + (y 0).val := by blk_simp [idx1 t] <;> omega
  have h1 : (((win0_1.blk t).view.emb y) 1 : ℕ) = 1024 * (t.val / 8) + (y 1).val := by blk_simp [idx1 t] <;> omega
  have e2 := congr (congrArg D h0) h1
  exact e2

theorem pay2 (f g : ℕ → ℕ → EReal) :
    k0_pay2 (F := Ideal) (eV (φ := .bf16) f) (eV (φ := .bf16) g) = eV fun i j => ∑ k ∈ range 1024, f k i * g k j := by
  funext x; idx_vars x; pointwise [k0_pay2, k0_pay1, eV]; rw [sum_range]
theorem pay3 (f a g : ℕ → ℕ → EReal) :
    k0_pay3 (F := Ideal) (eV (φ := .bf16) f) (eV (φ := .bf16) g) (eV (φ := .f32) a) = eV fun i j => a i j + ∑ k ∈ range 1024, f k i * g k j := by
  funext x; idx_vars x; pointwise [k0_pay3, k0_pay1, eV]; rw [sum_range]

/-- The share of one block of rows in one block of columns. -/
def part (q k i j : ℕ) : EReal := ∑ s ∈ range 1024, A (1024 * k + s) i * D (1024 * k + s) (1024 * q + j)

/-- The sum after each point. -/
def after (n : ℕ) : FVec Ideal S1024x1024 .f32 := eV fun i j => ∑ k ∈ range (n % 8 + 1), part A D (n / 8) k i j

include hA hD in
theorem outs : ∀ (n : ℕ) (h : n < cfg0.N), (outsAt0 m c n h).2 = after A D n ∧ (n % 8 = 7 → (outsAt0 m c n h).1 = after A D n) := by
  intro n
  induction n using Nat.strong_induction_on with
  | _ n ih =>
  intro h
  have hN : n < 8 := h
  by_cases h0 : n % 8 = 0
  · have h1 : ¬1 ≤ n := by omega
    have h3 : ¬n % 8 = 7 := by omega
    refine ⟨(congrArg Prod.snd (outsAt0_A m c ⟨n, h⟩ h0 h1 h3)).trans ?_, fun h => absurd h h3⟩
    frame_out
    rw [iblk0 m c A hA, iblk1 m c D hD, pay2]
    unfold after part
    rw [h0]
    simp only [zero_add, sum_range_one]
  · have h1 : 1 ≤ n := by omega
    have ip := (ih (n - 1) (by omega) (Nat.lt_of_le_of_lt (Nat.sub_le _ _) h)).1
    have hd : (n - 1) / 8 = n / 8 := by omega
    have hm : (n - 1) % 8 + 1 = n % 8 := by omega
    unfold after at ip
    rw [hd, hm] at ip
    have hs : k0_pay3 (F := Ideal) (iblk m c 0 ⟨n, h⟩) (iblk m c 1 ⟨n, h⟩) (outsAt0 m c (n - 1) (Nat.lt_of_le_of_lt (Nat.sub_le _ _) h)).2 = after A D n := by
      rw [ip, iblk0 m c A hA, iblk1 m c D hD, pay3]
      unfold after
      simp only [sum_range_succ _ (n % 8)]
      rfl
    by_cases h3 : n % 8 = 7
    · refine ⟨(congrArg Prod.snd (outsAt0_C m c ⟨n, h⟩ h0 h1 h3)).trans ?_, fun _ => (congrArg Prod.fst (outsAt0_C m c ⟨n, h⟩ h0 h1 h3)).trans ?_⟩
      · frame_out
        simp only [read_unread_whole]
        exact hs
      · frame_out
        simp only [read_unread_whole]
        exact hs
    · refine ⟨(congrArg Prod.snd (outsAt0_B m c ⟨n, h⟩ h0 h1 h3)).trans ?_, fun h => absurd h h3⟩
      frame_out
      simp only [read_unread_whole]
      exact hs

/-- The gradient. -/
def grad : FVec Ideal S1024x1024 .f32 := eV fun i j => ∑ s ∈ range 8192, A s i * D s j

include hA hD in
theorem arr : (dats m 0 c).arrAt 2 cfg0.N = grad A D := by
  refine (dats m 0 c).arrAt_eq_of_covers 2 _ (by decide +kernel) fun t hf y => ?_
  have hr : t.val % 8 = 7 := (flush0_2 t).mp hf
  blk_simp
  rw [after0_2, (outs m c A D hA hD t.val t.isLt).2 hr]
  have h0 : (((win0_2.blk t).view.emb y) 0 : ℕ) = (y 0).val := by blk_simp [idx2 t] <;> omega
  have h1 : (((win0_2.blk t).view.emb y) 1 : ℕ) = 1024 * (t.val / 8) + (y 1).val := by blk_simp [idx2 t] <;> omega
  unfold after grad eV part
  rw [h0, h1, hr]
  exact sum_blocks 1024 (fun s => A s (y 0).val * D s (1024 * (t.val / 8) + (y 1).val)) 8

/-- The reference's result. -/
theorem ref : transpose S1024x1024 [1, 0] (Host.dotGeneral (F := Ideal) Cert.Reference10Ideal.dot_S8192x1024_S8192x1024_S1024x1024_0_0_1_1_n_n none (extf .f32 (eV D : FVec Ideal S8192x1024 .bf16) Cert.Reference10Ideal.Gen.bitsLt_bf16_f32) (extf .f32 (eV A : FVec Ideal S8192x1024 .bf16) Cert.Reference10Ideal.Gen.bitsLt_bf16_f32)) Cert.Reference10Ideal.Gen.transposes_S1024x1024_S1024x1024_1_0
      = grad A D := by
  funext x; idx_vars x; pointwise [eV, grad]; rw [sum_range]
  exact sum_congr rfl fun k _ => mul_comm _ _

theorem values : @Cert.algebraic_Kernel10Ideal_Reference10Ideal Cert.Kernel10Ideal.Gen.facts Cert.Reference10Ideal.Gen.facts := by
  intro m g m' g' _ hargs
  refine ⟨_, Cert.Kernel10Ideal.Value.run_blocks (F := Ideal) m g, ?_⟩
  refine (θ_run Cert.Reference10Ideal.defs _ _).mono (fun r h c => ?_) (Cert.Reference10Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨D, hD⟩ := exV (n := 8192) (m := 1024) (φ := .bf16) (m ((c : Thread nD τ).loc main_arg1))
  refine ⟨r0.trans ?_, r1⟩
  rw [a0.trans hA, a1.trans hD]
  exact (ref A D).trans (arr m c A D hA hD).symm

end Cert.V10

end
-- ==== Proof.Mix11.lean ====
/- The gradient of a mixer's weight of 3072 columns: what the kernel leaves is the reference's array. -/
module

public import proofs.«01_k».proof.Defs
public import proofs.«01_k».proof.Proof.Ext
public import proofs.«01_k».proof.Proof.Gen.Kernel11Ideal.Value
public import Idealize.ShloMosaic.Lib.Pipeline.ReadBack
public import proofs.«01_k».proof.Proof.Gen.Reference11Ideal.Run

@[expose] public section

set_option maxRecDepth 16384

noncomputable section

namespace Cert.V11

open Cert.Ext Cert.Kernel11Ideal Cert.Kernel11Ideal.Gen Idealize.ShloMosaic Idealize.ShloMosaic.TcCoe Finset

variable (m : (ℓ : Loc nD τ sig) → Buf (Elt Ideal) ℓ) (c : Dev nD) (A D : ℕ → ℕ → EReal)
  (hA : m ((c : Thread nD τ).loc main_arg0) = eV (n := 8192) (m := 1024) (φ := .bf16) A)
  (hD : m ((c : Thread nD τ).loc main_arg1) = eV (n := 8192) (m := 3072) (φ := .bf16) D)

theorem idx0 (t : Fin cfg0.N) : win0_0.index t = ![t.val % 8, 0] :=
  (by decide +kernel : ∀ t : Fin grid0.N, win0_0.index t = ![t.val % 8, 0]) t
theorem idx1 (t : Fin cfg0.N) : win0_1.index t = ![t.val % 8, t.val / 8] :=
  (by decide +kernel : ∀ t : Fin grid0.N, win0_1.index t = ![t.val % 8, t.val / 8]) t
theorem idx2 (t : Fin cfg0.N) : win0_2.index t = ![0, t.val / 8] :=
  (by decide +kernel : ∀ t : Fin grid0.N, win0_2.index t = ![0, t.val / 8]) t

include hA in
theorem iblk0 (t : Fin cfg0.N) : iblk m c 0 t = eV (n := 1024) (m := 1024) (φ := .bf16) (fun i j => A (1024 * (t.val % 8) + i) j) := by
  funext y
  have e := (V_main_arg0 m c).trans hA
  blk_simp [iblk, e, idx0 t]
  have h0 : (((win0_0.blk t).view.emb y) 0 : ℕ) = 1024 * (t.val % 8) + (y 0).val := by blk_simp [idx0 t] <;> omega
  have h1 : (((win0_0.blk t).view.emb y) 1 : ℕ) = (y 1).val := by blk_simp [idx0 t] <;> omega
  have e2 := congr (congrArg A h0) h1
  exact e2
include hD in
theorem iblk1 (t : Fin cfg0.N) : iblk m c 1 t = eV (n := 1024) (m := 1024) (φ := .bf16) (fun i j => D (1024 * (t.val % 8) + i) (1024 * (t.val / 8) + j)) := by
  funext y
  have e := (V_main_arg1 m c).trans hD
  blk_simp [iblk, e, idx1 t]
  have h0 : (((win0_1.blk t).view.emb y) 0 : ℕ) = 1024 * (t.val % 8) + (y 0).val := by blk_simp [idx1 t] <;> omega
  have h1 : (((win0_1.blk t).view.emb y) 1 : ℕ) = 1024 * (t.val / 8) + (y 1).val := by blk_simp [idx1 t] <;> omega
  have e2 := congr (congrArg D h0) h1
  exact e2

theorem pay2 (f g : ℕ → ℕ → EReal) :
    k0_pay2 (F := Ideal) (eV (φ := .bf16) f) (eV (φ := .bf16) g) = eV fun i j => ∑ k ∈ range 1024, f k i * g k j := by
  funext x; idx_vars x; pointwise [k0_pay2, k0_pay1, eV]; rw [sum_range]
theorem pay3 (f a g : ℕ → ℕ → EReal) :
    k0_pay3 (F := Ideal) (eV (φ := .bf16) f) (eV (φ := .bf16) g) (eV (φ := .f32) a) = eV fun i j => a i j + ∑ k ∈ range 1024, f k i * g k j := by
  funext x; idx_vars x; pointwise [k0_pay3, k0_pay1, eV]; rw [sum_range]

/-- The share of one block of rows in one block of columns. -/
def part (q k i j : ℕ) : EReal := ∑ s ∈ range 1024, A (1024 * k + s) i * D (1024 * k + s) (1024 * q + j)

/-- The sum after each point. -/
def after (n : ℕ) : FVec Ideal S1024x1024 .f32 := eV fun i j => ∑ k ∈ range (n % 8 + 1), part A D (n / 8) k i j

include hA hD in
theorem outs : ∀ (n : ℕ) (h : n < cfg0.N), (outsAt0 m c n h).2 = after A D n ∧ (n % 8 = 7 → (outsAt0 m c n h).1 = after A D n) := by
  intro n
  induction n using Nat.strong_induction_on with
  | _ n ih =>
  intro h
  have hN : n < 24 := h
  by_cases h0 : n % 8 = 0
  · have h1 : ¬1 ≤ n % 8 := by omega
    have h3 : ¬n % 8 = 7 := by omega
    refine ⟨(congrArg Prod.snd (outsAt0_A m c ⟨n, h⟩ h0 h1 h3)).trans ?_, fun h => absurd h h3⟩
    frame_out
    rw [iblk0 m c A hA, iblk1 m c D hD, pay2]
    unfold after part
    rw [h0]
    simp only [zero_add, sum_range_one]
  · have h1 : 1 ≤ n % 8 := by omega
    have ip := (ih (n - 1) (by omega) (Nat.lt_of_le_of_lt (Nat.sub_le _ _) h)).1
    have hd : (n - 1) / 8 = n / 8 := by omega
    have hm : (n - 1) % 8 + 1 = n % 8 := by omega
    unfold after at ip
    rw [hd, hm] at ip
    have hs : k0_pay3 (F := Ideal) (iblk m c 0 ⟨n, h⟩) (iblk m c 1 ⟨n, h⟩) (outsAt0 m c (n - 1) (Nat.lt_of_le_of_lt (Nat.sub_le _ _) h)).2 = after A D n := by
      rw [ip, iblk0 m c A hA, iblk1 m c D hD, pay3]
      unfold after
      simp only [sum_range_succ _ (n % 8)]
      rfl
    by_cases h3 : n % 8 = 7
    · refine ⟨(congrArg Prod.snd (outsAt0_C m c ⟨n, h⟩ h0 h1 h3)).trans ?_, fun _ => (congrArg Prod.fst (outsAt0_C m c ⟨n, h⟩ h0 h1 h3)).trans ?_⟩
      · frame_out
        simp only [read_unread_whole]
        exact hs
      · frame_out
        simp only [read_unread_whole]
        exact hs
    · refine ⟨(congrArg Prod.snd (outsAt0_B m c ⟨n, h⟩ h0 h1 h3)).trans ?_, fun h => absurd h h3⟩
      frame_out
      simp only [read_unread_whole]
      exact hs

/-- The gradient. -/
def grad : FVec Ideal S1024x3072 .f32 := eV fun i j => ∑ s ∈ range 8192, A s i * D s j

include hA hD in
theorem arr : (dats m 0 c).arrAt 2 cfg0.N = grad A D := by
  refine (dats m 0 c).arrAt_eq_of_covers 2 _ (by decide +kernel) fun t hf y => ?_
  have hr : t.val % 8 = 7 := (flush0_2 t).mp hf
  blk_simp
  rw [after0_2, (outs m c A D hA hD t.val t.isLt).2 hr]
  have h0 : (((win0_2.blk t).view.emb y) 0 : ℕ) = (y 0).val := by blk_simp [idx2 t] <;> omega
  have h1 : (((win0_2.blk t).view.emb y) 1 : ℕ) = 1024 * (t.val / 8) + (y 1).val := by blk_simp [idx2 t] <;> omega
  unfold after grad eV part
  rw [h0, h1, hr]
  exact sum_blocks 1024 (fun s => A s (y 0).val * D s (1024 * (t.val / 8) + (y 1).val)) 8

/-- The reference's result. -/
theorem ref : transpose S1024x3072 [1, 0] (Host.dotGeneral (F := Ideal) Cert.Reference11Ideal.dot_S8192x3072_S8192x1024_S3072x1024_0_0_1_1_n_n none (extf .f32 (eV D : FVec Ideal S8192x3072 .bf16) Cert.Reference11Ideal.Gen.bitsLt_bf16_f32) (extf .f32 (eV A : FVec Ideal S8192x1024 .bf16) Cert.Reference11Ideal.Gen.bitsLt_bf16_f32)) Cert.Reference11Ideal.Gen.transposes_S3072x1024_S1024x3072_1_0
      = grad A D := by
  funext x; idx_vars x; pointwise [eV, grad]; rw [sum_range]
  exact sum_congr rfl fun k _ => mul_comm _ _

theorem values : @Cert.algebraic_Kernel11Ideal_Reference11Ideal Cert.Kernel11Ideal.Gen.facts Cert.Reference11Ideal.Gen.facts := by
  intro m g m' g' _ hargs
  refine ⟨_, Cert.Kernel11Ideal.Value.run_blocks (F := Ideal) m g, ?_⟩
  refine (θ_run Cert.Reference11Ideal.defs _ _).mono (fun r h c => ?_) (Cert.Reference11Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨D, hD⟩ := exV (n := 8192) (m := 3072) (φ := .bf16) (m ((c : Thread nD τ).loc main_arg1))
  refine ⟨r0.trans ?_, r1⟩
  rw [a0.trans hA, a1.trans hD]
  exact (ref A D).trans (arr m c A D hA hD).symm

end Cert.V11

end
-- ==== Proof.Mix12.lean ====
/- The gradient through a mixer's last product: what the kernel leaves is the reference's array. -/
module

public import proofs.«01_k».proof.Defs
public import proofs.«01_k».proof.Proof.Ext
public import proofs.«01_k».proof.Proof.Gen.Kernel12Ideal.Value
public import Idealize.ShloMosaic.Lib.Pipeline.ReadBack
public import proofs.«01_k».proof.Proof.Gen.Reference12Ideal.Run

@[expose] public section

set_option maxRecDepth 16384

noncomputable section

namespace Cert.V12

open Cert.Ext Cert.Kernel12Ideal Cert.Kernel12Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 1024) (φ := .f32) A)
  (hW : m ((c : Thread nD τ).loc main_arg1) = eV (n := 1024) (m := 1024) (φ := .bf16) W)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t

include hA in
theorem iblk0 (t : Fin cfg0.N) : iblk m c 0 t = eV (n := 1024) (m := 1024) (φ := .f32) (fun i j => A (1024 * t.val + i) j) := by
  funext y
  have e := (V_main_arg0 m c).trans hA
  blk_simp [iblk, e, idx0 t]
  have h0 : (((win0_0.blk t).view.emb y) 0 : ℕ) = 1024 * t.val + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 1024) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2

/-- A block of the result. -/
theorem pay (f g : ℕ → ℕ → EReal) :
    k0_pay2 (F := Ideal) (eV (φ := .f32) f) (eV (φ := .bf16) g) = eV fun i j => ∑ k ∈ Finset.range 1024, f i k * g j k := by
  funext x; idx_vars x; pointwise [k0_pay2, k0_pay1, eV]; rw [Finset.sum_range]

/-- The result. -/
def res : FVec Ideal S8192x1024 .f32 := eV fun i j => ∑ k ∈ Finset.range 1024, A i k * W j k

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 1024 * t.val + (y 0).val := by blk_simp [idx2 t] <;> omega
  have h1 : (((win0_2.blk t).view.emb y) 1 : ℕ) = (y 1).val := by blk_simp [idx2 t] <;> omega
  unfold res eV
  rw [h0, h1]

/-- The reference's result. -/
theorem ref : Host.dotGeneral (F := Ideal) Cert.Reference12Ideal.dot_S8192x1024_S1024x1024_S8192x1024_1_1_0_0_n_n none (eV A : FVec Ideal Cert.Reference12Ideal.S8192x1024 .f32) (extf .f32 (eV W : FVec Ideal Cert.Reference12Ideal.S1024x1024 .bf16) Cert.Reference12Ideal.Gen.bitsLt_bf16_f32)
      = res A W := by
  funext x; idx_vars x; pointwise [eV, res]; rw [Finset.sum_range]

theorem values : @Cert.algebraic_Kernel12Ideal_Reference12Ideal Cert.Kernel12Ideal.Gen.facts Cert.Reference12Ideal.Gen.facts := by
  intro m g m' g' _ hargs
  refine ⟨_, Cert.Kernel12Ideal.Value.run_blocks (F := Ideal) m g, ?_⟩
  refine (θ_run Cert.Reference12Ideal.defs _ _).mono (fun r h c => ?_) (Cert.Reference12Ideal.Value.run (F := Ideal) m' g')
  obtain ⟨r0, r1⟩ := h c
  obtain ⟨a0, a1⟩ := hargs c
  obtain ⟨A, hA⟩ := exV (n := 8192) (m := 1024) (φ := .f32) (m ((c : Thread nD τ).loc main_arg0))
  obtain ⟨W, hW⟩ := exV (n := 1024) (m := 1024) (φ := .bf16) (m ((c : Thread nD τ).loc main_arg1))
  refine ⟨r0.trans ?_, r1⟩
  rw [a0.trans hA, a1.trans hW]
  exact (ref A W).trans (arr m c A W hA hW).symm

end Cert.V12

end
-- ==== Proof.Mix13.lean ====
/- The gradient through a mixer's last product, rounded: what the kernel leaves is the reference's array. -/
module

public import proofs.«01_k».proof.Defs
public import proofs.«01_k».proof.Proof.Ext
public import proofs.«01_k».proof.Proof.Gen.Kernel13Ideal.Value
public import Idealize.ShloMosaic.Lib.Pipeline.ReadBack
public import proofs.«01_k».proof.Proof.Gen.Reference13Ideal.Run

@[expose] public section

set_option maxRecDepth 16384

noncomputable section

namespace Cert.V13

open Cert.Ext Cert.Kernel13Ideal Cert.Kernel13Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 1024) (φ := .f32) A)
  (hW : m ((c : Thread nD τ).loc main_arg1) = eV (n := 1024) (m := 1024) (φ := .bf16) W)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t

include hA in
theorem iblk0 (t : Fin cfg0.N) : iblk m c 0 t = eV (n := 1024) (m := 1024) (φ := .f32) (fun i j => A (1024 * t.val + i) j) := by
  funext y
  have e := (V_main_arg0 m c).trans hA
  blk_simp [iblk, e, idx0 t]
  have h0 : (((win0_0.blk t).view.emb y) 0 : ℕ) = 1024 * t.val + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 1024) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2

/-- A block of the result. -/
theorem pay (f g : ℕ → ℕ → EReal) :
    k0_pay4 (F := Ideal) (k0_pay2 (F := Ideal) (eV (φ := .f32) f) (eV (φ := .bf16) g)) = eV fun i j => ∑ k ∈ Finset.range 1024, f i k * g j k := by
  funext x; idx_vars x; pointwise [k0_pay4, k0_pay2, k0_pay1, eV]; rw [Finset.sum_range]

/-- The result. -/
def res : FVec Ideal S8192x1024 .bf16 := eV fun i j => ∑ k ∈ Finset.range 1024, A i k * W j k

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 1024 * t.val + (y 0).val := by blk_simp [idx2 t] <;> omega
  have h1 : (((win0_2.blk t).view.emb y) 1 : ℕ) = (y 1).val := by blk_simp [idx2 t] <;> omega
  unfold res eV
  rw [h0, h1]

/-- The reference's result. -/
theorem ref : truncf .bf16 (Host.dotGeneral (F := Ideal) Cert.Reference13Ideal.dot_S8192x1024_S1024x1024_S8192x1024_1_1_0_0_n_n none (eV A : FVec Ideal Cert.Reference13Ideal.S8192x1024 .f32) (extf .f32 (eV W : FVec Ideal Cert.Reference13Ideal.S1024x1024 .bf16) Cert.Reference13Ideal.Gen.bitsLt_bf16_f32)) Cert.Reference13Ideal.Gen.bitsLt_bf16_f32
      = res A W := by
  funext x; idx_vars x; pointwise [eV, res]; rw [Finset.sum_range]

theorem values : @Cert.algebraic_Kernel13Ideal_Reference13Ideal Cert.Kernel13Ideal.Gen.facts Cert.Reference13Ideal.Gen.facts := by
  intro m g m' g' _ hargs
  refine ⟨_, Cert.Kernel13Ideal.Value.run_blocks (F := Ideal) m g, ?_⟩
  refine (θ_run Cert.Reference13Ideal.defs _ _).mono (fun r h c => ?_) (Cert.Reference13Ideal.Value.run (F := Ideal) m' g')
  obtain ⟨r0, r1⟩ := h c
  obtain ⟨a0, a1⟩ := hargs c
  obtain ⟨A, hA⟩ := exV (n := 8192) (m := 1024) (φ := .f32) (m ((c : Thread nD τ).loc main_arg0))
  obtain ⟨W, hW⟩ := exV (n := 1024) (m := 1024) (φ := .bf16) (m ((c : Thread nD τ).loc main_arg1))
  refine ⟨r0.trans ?_, r1⟩
  rw [a0.trans hA, a1.trans hW]
  exact (ref A W).trans (arr m c A W hA hW).symm

end Cert.V13

end
-- ==== Proof.Mix14.lean ====
/- The gradient through a mixer's product of 2048 columns: what the kernel leaves is the reference's array. -/
module

public import proofs.«01_k».proof.Defs
public import proofs.«01_k».proof.Proof.Ext
public import proofs.«01_k».proof.Proof.Gen.Kernel14Ideal.Value
public import Idealize.ShloMosaic.Lib.Pipeline.ReadBack
public import proofs.«01_k».proof.Proof.Gen.Reference14Ideal.Run

@[expose] public section

set_option maxRecDepth 16384

noncomputable section

namespace Cert.V14

open Cert.Ext Cert.Kernel14Ideal Cert.Kernel14Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 2048) (φ := .bf16) A)
  (hW : m ((c : Thread nD τ).loc main_arg1) = eV (n := 1024) (m := 2048) (φ := .bf16) W)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t

include hA in
theorem iblk0 (t : Fin cfg0.N) : iblk m c 0 t = eV (n := 1024) (m := 2048) (φ := .bf16) (fun i j => A (1024 * t.val + i) j) := by
  funext y
  have e := (V_main_arg0 m c).trans hA
  blk_simp [iblk, e, idx0 t]
  have h0 : (((win0_0.blk t).view.emb y) 0 : ℕ) = 1024 * t.val + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 2048) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2

/-- A block of the result. -/
theorem pay (f g : ℕ → ℕ → EReal) :
    k0_pay4 (F := Ideal) (k0_pay2 (F := Ideal) (eV (φ := .bf16) f) (eV (φ := .bf16) g)) = eV fun i j => ∑ k ∈ Finset.range 2048, f i k * g j k := by
  funext x; idx_vars x; pointwise [k0_pay4, k0_pay2, k0_pay1, eV]; rw [Finset.sum_range]

/-- The result. -/
def res : FVec Ideal S8192x1024 .bf16 := eV fun i j => ∑ k ∈ Finset.range 2048, A i k * W j k

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 1024 * t.val + (y 0).val := by blk_simp [idx2 t] <;> omega
  have h1 : (((win0_2.blk t).view.emb y) 1 : ℕ) = (y 1).val := by blk_simp [idx2 t] <;> omega
  unfold res eV
  rw [h0, h1]

/-- The reference's result. -/
theorem ref : truncf .bf16 (Host.dotGeneral (F := Ideal) Cert.Reference14Ideal.dot_S8192x2048_S1024x2048_S8192x1024_1_1_0_0_n_n none (extf .f32 (eV A : FVec Ideal Cert.Reference14Ideal.S8192x2048 .bf16) Cert.Reference14Ideal.Gen.bitsLt_bf16_f32) (extf .f32 (eV W : FVec Ideal Cert.Reference14Ideal.S1024x2048 .bf16) Cert.Reference14Ideal.Gen.bitsLt_bf16_f32)) Cert.Reference14Ideal.Gen.bitsLt_bf16_f32
      = res A W := by
  funext x; idx_vars x; pointwise [eV, res]; rw [Finset.sum_range]

theorem values : @Cert.algebraic_Kernel14Ideal_Reference14Ideal Cert.Kernel14Ideal.Gen.facts Cert.Reference14Ideal.Gen.facts := by
  intro m g m' g' _ hargs
  refine ⟨_, Cert.Kernel14Ideal.Value.run_blocks (F := Ideal) m g, ?_⟩
  refine (θ_run Cert.Reference14Ideal.defs _ _).mono (fun r h c => ?_) (Cert.Reference14Ideal.Value.run (F := Ideal) m' g')
  obtain ⟨r0, r1⟩ := h c
  obtain ⟨a0, a1⟩ := hargs c
  obtain ⟨A, hA⟩ := exV (n := 8192) (m := 2048) (φ := .bf16) (m ((c : Thread nD τ).loc main_arg0))
  obtain ⟨W, hW⟩ := exV (n := 1024) (m := 2048) (φ := .bf16) (m ((c : Thread nD τ).loc main_arg1))
  refine ⟨r0.trans ?_, r1⟩
  rw [a0.trans hA, a1.trans hW]
  exact (ref A W).trans (arr m c A W hA hW).symm

end Cert.V14

end
-- ==== Proof.Mix15.lean ====
/- The gradient through the norm of a mixer whose first weight has 1024 columns: what the kernel leaves is the reference's arrays. -/
module

public import proofs.«01_k».proof.Defs
public import proofs.«01_k».proof.Proof.Ext
public import proofs.«01_k».proof.Proof.Gen.Kernel15Ideal.Value
public import Idealize.ShloMosaic.Lib.Pipeline.ReadBack
public import proofs.«01_k».proof.Proof.Gen.Reference15Ideal.Run
public import proofs.«01_k».proof.Proof.Dhn5

@[expose] public section

set_option maxRecDepth 16384

noncomputable section

namespace Cert.V15

open Cert.Ext Idealize.ShloMosaic Idealize.ShloMosaic.TcCoe Finset
open Cert.V5 (cN cE cH ms qs back share)

variable (D W X Y : ℕ → ℕ → EReal) (G : ℕ → EReal)

/-- The gradient of the normed input. -/
def dx (i j : ℕ) : EReal := ∑ k ∈ range 1024, D i k * W j k

section
open Cert.Reference15Ideal Cert.Reference15Ideal.Gen

/-- The gradient of the normed input, the mean square, and the share of a row's mean, as the reference takes them. -/
def rdx : FVec Ideal S8192x1024 .f32 := Host.dotGeneral (F := Ideal) dot_S8192x1024_S1024x1024_S8192x1024_1_1_0_0_n_n none (extf .f32 (eV D : FVec Ideal S8192x1024 .bf16) bitsLt_bf16_f32) (extf .f32 (eV W : FVec Ideal S1024x1024 .bf16) bitsLt_bf16_f32)
def rms : FVec Ideal S8192x1 .f32 := addf (Host.divf (broadcastInDim S8192x1 ![0] bcast_S8192_S8192x1_0 (Host.reduceAdd (mulf (eV X : FVec Ideal S8192x1024 .f32) (eV X : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def rq : FVec Ideal S8192 .f32 := Host.reduceAdd (Host.divf (mulf (shapeCast _ (Host.reduceAdd (mulf (eV X : FVec Ideal S8192x1024 .f32) (mulf (rdx D W) (broadcastInDim S8192x1024 ![0, 1] bcast_S1x1024_S8192x1024_0_1 (broadcastInDim S1x1024 ![1] bcast_S1024_S1x1024_1 (eL G : FVec Ideal S1024 .f32))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rms X)) (rms X)))) (broadcastInDim S8192x1 ![] bcast_S_S8192x1 (constant S_ .f32 0x44800000#32))) (constant S_ .f32 0x00000000#32) reducesTo_S8192x1_S8192_d1 h_S_

theorem rdx_eq : rdx D W = eV (dx D W) := by
  funext x; idx_vars x; pointwise [rdx, eV]
  unfold dx
  rw [sum_range]
theorem rms_eq : rms X = eV fun i _ => ms X i := by
  funext x; idx_vars x; pointwise [rms, eV]
  unfold ms cN cE
  rw [sum_range]
theorem rq_eq : rq D W X G = eL (qs X G (dx D W)) := by
  unfold rq
  rw [rdx_eq, rms_eq]
  funext x; idx_vars x; pointwise [eV, eL]
  unfold qs cN cH
  rw [sum_range]
  exact Fin.sum_univ_one _
theorem ref0 : (addf (addf (addf (eV Y : FVec Ideal S8192x1024 .f32) (mulf (mulf (rdx D W) (broadcastInDim S8192x1024 ![0, 1] bcast_S1x1024_S8192x1024_0_1 (broadcastInDim S1x1024 ![1] bcast_S1024_S1x1024_1 (eL G : FVec Ideal S1024 .f32)))) (broadcastInDim S8192x1024 ![0, 1] bcast_S8192x1_S8192x1024_0_1 (Host.rsqrt (rms X))))) (mulf (eV X : FVec Ideal S8192x1024 .f32) (broadcastInDim S8192x1024 ![0] bcast_S8192_S8192x1024_0 (rq D W X G)))) (mulf (broadcastInDim S8192x1024 ![0] bcast_S8192_S8192x1024_0 (rq D W X G)) (eV X : FVec Ideal S8192x1024 .f32)) : FVec Ideal S8192x1024 .f32) = eV (back X Y G (dx D W)) := by
  rw [rdx_eq, rms_eq, rq_eq]
  funext x; idx_vars x; pointwise [eV, eL, back]
theorem ref1 : (shapeCast _ (Host.reduceAdd (shapeCast _ (Host.reduceAdd (mulf (mulf (eV X : FVec Ideal S8192x1024 .f32) (broadcastInDim S8192x1024 ![0, 1] bcast_S8192x1_S8192x1024_0_1 (Host.rsqrt (rms X)))) (rdx D W)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) = eV fun _ j => ∑ i ∈ range 8192, share X (dx D W) i j := by
  rw [rdx_eq, rms_eq]
  funext x; idx_vars x; pointwise [eV, eL]
  rw [sum_range]
  exact Fin.sum_univ_one _
end

open Cert.Kernel15Ideal Cert.Kernel15Ideal.Gen

theorem pay2 (f g : ℕ → ℕ → EReal) :
    k0_pay2 (F := Ideal) (eV (φ := .bf16) f) (eV (φ := .bf16) g) = eV fun i j => ∑ k ∈ range 1024, f i k * g j k := by
  funext x; idx_vars x; pointwise [k0_pay2, k0_pay1, eV]; rw [sum_range]
theorem pay4 (a b : ℕ → ℕ → EReal) : k0_pay4 (F := Ideal) (eV (φ := .f32) a) (eV (φ := .f32) b) = eV fun i j => b i j + a i j := by
  funext x; idx_vars x; pointwise [k0_pay4, eV]
theorem pay7 (x a : ℕ → ℕ → EReal) : k0_pay7 (F := Ideal) (eV (φ := .f32) x) (eV (φ := .f32) a) = eV fun _ j => ∑ i ∈ range 512, share x a i j := by
  funext z; idx_vars z; pointwise [k0_pay7, k0_pay6, k0_pay5, eV]
  rw [sum_range]
  unfold share ms cN cE
  simp only [sum_range]
theorem pay8 (x g a y : ℕ → ℕ → EReal) :
    k0_pay8 (F := Ideal) (eV (φ := .f32) x) (eV (φ := .f32) g) (eV (φ := .f32) a) (eV (φ := .f32) y) = eV (back x y (g 0) a) := by
  funext z; idx_vars z; pointwise [k0_pay8, k0_pay6, k0_pay5, eV]
  unfold back qs ms cN cE cH
  simp only [sum_range, Fin.sum_univ_one, add_assoc]

variable (m : (ℓ : Loc nD τ sig) → Buf (Elt Ideal) ℓ) (c : Dev nD)
  (hD : m ((c : Thread nD τ).loc main_arg0) = eV (n := 8192) (m := 1024) (φ := .bf16) D)
  (hW : m ((c : Thread nD τ).loc main_arg1) = eV (n := 1024) (m := 1024) (φ := .bf16) W)
  (hX : m ((c : Thread nD τ).loc main_arg2) = eV (n := 8192) (m := 1024) (φ := .f32) X)
  (hG : m ((c : Thread nD τ).loc main_arg3) = eL (n := 1024) (φ := .f32) G)
  (hY : m ((c : Thread nD τ).loc main_arg4) = eV (n := 8192) (m := 1024) (φ := .f32) Y)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![0, 0] :=
  (by decide +kernel : ∀ t : Fin grid0.N, win0_3.index t = ![0, 0]) t
theorem idx4 (t : Fin cfg0.N) : win0_4.index t = ![t.val, 0] :=
  (by decide +kernel : ∀ t : Fin grid0.N, win0_4.index t = ![t.val, 0]) t
theorem idx5 (t : Fin cfg0.N) : win0_5.index t = ![t.val, 0] :=
  (by decide +kernel : ∀ t : Fin grid0.N, win0_5.index t = ![t.val, 0]) t
theorem idx6 (t : Fin cfg0.N) : win0_6.index t = ![0, 0] :=
  (by decide +kernel : ∀ t : Fin grid0.N, win0_6.index t = ![0, 0]) t

/-- The scale, a row of one, as the host lays it out. -/
theorem V_v0 : V m c main_v0 = shapeCast S1x1024 (m ((c : Thread nD τ).loc main_arg3)) shapeCasts_S1024_S1x1024 := by
  simp only [V, hostOps0]
  after_results_simp <;> rfl
theorem cast_row : shapeCast S1x1024 (eL G : FVec Ideal S1024 .f32) shapeCasts_S1024_S1x1024 = (eV fun _ j => G j : FVec Ideal S1x1024 .f32) := by
  funext x; idx_vars x; pointwise [eV, eL]

include hD in
theorem iblk0 (t : Fin cfg0.N) : iblk m c 0 t = eV (n := 512) (m := 1024) (φ := .bf16) (fun i j => D (512 * t.val + i) j) := by
  funext y
  have e := (V_main_arg0 m c).trans hD
  blk_simp [iblk, e, idx0 t]
  have h0 : (((win0_0.blk t).view.emb y) 0 : ℕ) = 512 * t.val + (y 0).val := by blk_simp [idx0 t] <;> omega
  have h1 : (((win0_0.blk t).view.emb y) 1 : ℕ) = (y 1).val := by blk_simp [idx0 t] <;> omega
  have e2 := congr (congrArg D h0) h1
  exact e2
include hW in
theorem iblk1 (t : Fin cfg0.N) : iblk m c 1 t = eV (n := 1024) (m := 1024) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2
include hX in
theorem iblk2 (t : Fin cfg0.N) : iblk m c 2 t = eV (n := 512) (m := 1024) (φ := .f32) (fun i j => X (512 * t.val + i) j) := by
  funext y
  have e := (V_main_arg2 m c).trans hX
  blk_simp [iblk, e, idx2 t]
  have h0 : (((win0_2.blk t).view.emb y) 0 : ℕ) = 512 * t.val + (y 0).val := by blk_simp [idx2 t] <;> omega
  have h1 : (((win0_2.blk t).view.emb y) 1 : ℕ) = (y 1).val := by blk_simp [idx2 t] <;> omega
  have e2 := congr (congrArg X h0) h1
  exact e2
include hG in
theorem iblk3 (t : Fin cfg0.N) : iblk m c 3 t = eV (n := 1) (m := 1024) (φ := .f32) (fun _ j => G j) := by
  funext y
  have e := (V_v0 m c).trans ((congrArg (fun v => shapeCast S1x1024 v shapeCasts_S1024_S1x1024) hG).trans (cast_row G))
  blk_simp [iblk, e, idx3 t]
  have h1 : (((win0_3.blk t).view.emb y) 1 : ℕ) = (y 1).val := by blk_simp [idx3 t] <;> omega
  have e2 := congrArg G h1
  exact e2
include hY in
theorem iblk4 (t : Fin cfg0.N) : iblk m c 4 t = eV (n := 512) (m := 1024) (φ := .f32) (fun i j => Y (512 * t.val + i) j) := by
  funext y
  have e := (V_main_arg4 m c).trans hY
  blk_simp [iblk, e, idx4 t]
  have h0 : (((win0_4.blk t).view.emb y) 0 : ℕ) = 512 * t.val + (y 0).val := by blk_simp [idx4 t] <;> omega
  have h1 : (((win0_4.blk t).view.emb y) 1 : ℕ) = (y 1).val := by blk_simp [idx4 t] <;> omega
  have e2 := congr (congrArg Y h0) h1
  exact e2

/-- The gradient of the normed input, on the rows of one block. -/
def full (b : ℕ) : FVec Ideal S512x1024 .f32 := eV fun i j => dx D W (512 * b + i) j
/-- The gradient of the scale after some blocks of rows. -/
def scale (b : ℕ) : FVec Ideal S1x1024 .f32 := eV fun _ j => ∑ k ∈ range b, ∑ s ∈ range 512, share X (dx D W) (512 * k + s) j
/-- The gradient of the input on one block. -/
def out (b : ℕ) : FVec Ideal S512x1024 .f32 := eV fun i j => back X Y G (dx D W) (512 * b + i) j

include hD hW in
theorem whole (t : Fin cfg0.N) : k0_pay2 (F := Ideal) (iblk m c 0 t) (iblk m c 1 t) = full D W t.val := by
  rw [iblk0 D m c hD, iblk1 W m c hW, pay2]
  rfl
include hX hG hY in
theorem write (t : Fin cfg0.N) :
    k0_pay8 (F := Ideal) (iblk m c 2 t) (iblk m c 3 t) (full D W t.val) (iblk m c 4 t) = out D W X Y G t.val := by
  unfold full
  rw [iblk2 X m c hX, iblk3 G m c hG, iblk4 Y m c hY, pay8]
  rfl
include hX in
theorem rows (t : Fin cfg0.N) :
    k0_pay7 (F := Ideal) (iblk m c 2 t) (full D W t.val) = eV fun _ j => ∑ s ∈ range 512, share X (dx D W) (512 * t.val + s) j := by
  unfold full
  rw [iblk2 X m c hX, pay7]
  rfl

include hD hW hX hG hY in
theorem outs : ∀ (n : ℕ) (h : n < cfg0.N), (outsAt0 m c n h).2 = scale D W X (n + 1) ∧ (outsAt0 m c n h).1 = out D W X Y G n := by
  intro n
  induction n using Nat.strong_induction_on with
  | _ n ih =>
  intro h
  have hN : n < 16 := h
  have hs := whole D W m c hD hW ⟨n, h⟩
  have hw := write D W X Y G m c hX hG hY ⟨n, h⟩
  have hr := rows D W X m c hX ⟨n, h⟩
  dsimp only at hs hw hr
  by_cases h0 : n % 16 = 0
  · have h1 : ¬1 ≤ n := by omega
    refine ⟨(congrArg Prod.snd (outsAt0_A m c ⟨n, h⟩ h0 h1)).trans ?_, (congrArg Prod.fst (outsAt0_A m c ⟨n, h⟩ h0 h1)).trans ?_⟩
    · frame_out
      rw [hs, hr]
      have hn : n = 0 := by omega
      subst hn
      unfold scale
      simp only [Nat.zero_add, sum_range_one]
    · frame_out
      rw [hs, hw]
  · have h1 : 1 ≤ n := by omega
    have ip := (ih (n - 1) (by omega) (Nat.lt_of_le_of_lt (Nat.sub_le _ _) h)).1
    rw [show n - 1 + 1 = n by omega] at ip
    refine ⟨(congrArg Prod.snd (outsAt0_B m c ⟨n, h⟩ h0 h1)).trans ?_, (congrArg Prod.fst (outsAt0_B m c ⟨n, h⟩ h0 h1)).trans ?_⟩
    · frame_out
      rw [hs, hr, ip]
      unfold scale
      rw [pay4]
      simp only [sum_range_succ _ n]
    · frame_out
      rw [hs, hw]

include hD hW hX hG hY in
theorem arr5 : (dats m 0 c).arrAt 5 cfg0.N = (eV (back X Y G (dx D W)) : FVec Ideal S8192x1024 .f32) := by
  refine (dats m 0 c).arrAt_eq_of_covers 5 _ (by decide +kernel) fun t hf y => ?_
  blk_simp
  rw [after0_5, (outs D W X Y G m c hD hW hX hG hY t.val t.isLt).2]
  have h0 : (((win0_5.blk t).view.emb y) 0 : ℕ) = 512 * t.val + (y 0).val := by blk_simp [idx5 t] <;> omega
  have h1 : (((win0_5.blk t).view.emb y) 1 : ℕ) = (y 1).val := by blk_simp [idx5 t] <;> omega
  unfold out eV
  rw [h0, h1]
include hD hW hX hG hY in
theorem arr6 : (dats m 0 c).arrAt 6 cfg0.N = (eV fun _ j => ∑ i ∈ range 8192, share X (dx D W) i j : FVec Ideal S1x1024 .f32) := by
  refine (dats m 0 c).arrAt_eq_of_covers 6 _ (by decide +kernel) fun t hf y => ?_
  have hr : t.val % 16 = 15 := (flush0_6 t).mp hf
  have ht : t.val < 16 := t.isLt
  have hq : t.val + 1 = 16 := by omega
  blk_simp
  rw [after0_6, (outs D W X Y G m c hD hW hX hG hY t.val t.isLt).1]
  have h1 : (((win0_6.blk t).view.emb y) 1 : ℕ) = (y 1).val := by blk_simp [idx6 t] <;> omega
  unfold scale eV
  rw [h1, hq]
  beta_reduce
  exact sum_blocks 512 (fun s => share X (dx D W) s (y 1).val) 16

theorem values : @Cert.algebraic_Kernel15Ideal_Reference15Ideal Cert.Kernel15Ideal.Gen.facts Cert.Reference15Ideal.Gen.facts := by
  intro m g m' g' _ hargs
  refine ⟨_, _, Cert.Kernel15Ideal.Value.run_blocks (F := Ideal) m g, ?_⟩
  refine (θ_run Cert.Reference15Ideal.defs _ _).mono (fun r h c => ?_) (Cert.Reference15Ideal.Value.run (F := Ideal) m' g')
  obtain ⟨r0, r1, r2⟩ := h c
  obtain ⟨a0, a1, a2, a3, a4⟩ := hargs c
  obtain ⟨D, hD⟩ := exV (n := 8192) (m := 1024) (φ := .bf16) (m ((c : Thread nD τ).loc main_arg0))
  obtain ⟨W, hW⟩ := exV (n := 1024) (m := 1024) (φ := .bf16) (m ((c : Thread nD τ).loc main_arg1))
  obtain ⟨X, hX⟩ := exV (n := 8192) (m := 1024) (φ := .f32) (m ((c : Thread nD τ).loc main_arg2))
  obtain ⟨G, hG⟩ := exL (n := 1024) (φ := .f32) (m ((c : Thread nD τ).loc main_arg3))
  obtain ⟨Y, hY⟩ := exV (n := 8192) (m := 1024) (φ := .f32) (m ((c : Thread nD τ).loc main_arg4))
  refine ⟨r0.trans ?_, r1.trans ?_, r2⟩
  · unfold Cert.Reference15Ideal.Value.res_main_v40
    rw [a0.trans hD, a1.trans hW, a2.trans hX, a3.trans hG, a4.trans hY]
    exact (ref0 D W X Y G).trans (arr5 D W X Y G m c hD hW hX hG hY).symm
  · rw [a0.trans hD, a1.trans hW, a2.trans hX]
    exact (ref1 D W X).trans (arr6 D W X Y G m c hD hW hX hG hY).symm

end Cert.V15

end
-- ==== Proof.Mix16.lean ====
/- The gradient through the norm of a mixer whose first weight has 2048 columns: what the kernel leaves is the reference's arrays. -/
module

public import proofs.«01_k».proof.Defs
public import proofs.«01_k».proof.Proof.Ext
public import proofs.«01_k».proof.Proof.Gen.Kernel16Ideal.Value
public import Idealize.ShloMosaic.Lib.Pipeline.ReadBack
public import proofs.«01_k».proof.Proof.Gen.Reference16Ideal.Run
public import proofs.«01_k».proof.Proof.Dhn5

@[expose] public section

set_option maxRecDepth 16384

noncomputable section

namespace Cert.V16

open Cert.Ext Idealize.ShloMosaic Idealize.ShloMosaic.TcCoe Finset
open Cert.V5 (cN cE cH ms qs back share)

variable (D W X Y : ℕ → ℕ → EReal) (G : ℕ → EReal)

/-- The gradient of the normed input. -/
def dx (i j : ℕ) : EReal := ∑ k ∈ range 2048, D i k * W j k

section
open Cert.Reference16Ideal Cert.Reference16Ideal.Gen

/-- The gradient of the normed input, the mean square, and the share of a row's mean, as the reference takes them. -/
def rdx : FVec Ideal S8192x1024 .f32 := Host.dotGeneral (F := Ideal) dot_S8192x2048_S1024x2048_S8192x1024_1_1_0_0_n_n none (extf .f32 (eV D : FVec Ideal S8192x2048 .bf16) bitsLt_bf16_f32) (extf .f32 (eV W : FVec Ideal S1024x2048 .bf16) bitsLt_bf16_f32)
def rms : FVec Ideal S8192x1 .f32 := addf (Host.divf (broadcastInDim S8192x1 ![0] bcast_S8192_S8192x1_0 (Host.reduceAdd (mulf (eV X : FVec Ideal S8192x1024 .f32) (eV X : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def rq : FVec Ideal S8192 .f32 := Host.reduceAdd (Host.divf (mulf (shapeCast _ (Host.reduceAdd (mulf (eV X : FVec Ideal S8192x1024 .f32) (mulf (rdx D W) (broadcastInDim S8192x1024 ![0, 1] bcast_S1x1024_S8192x1024_0_1 (broadcastInDim S1x1024 ![1] bcast_S1024_S1x1024_1 (eL G : FVec Ideal S1024 .f32))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rms X)) (rms X)))) (broadcastInDim S8192x1 ![] bcast_S_S8192x1 (constant S_ .f32 0x44800000#32))) (constant S_ .f32 0x00000000#32) reducesTo_S8192x1_S8192_d1 h_S_

theorem rdx_eq : rdx D W = eV (dx D W) := by
  funext x; idx_vars x; pointwise [rdx, eV]
  unfold dx
  rw [sum_range]
theorem rms_eq : rms X = eV fun i _ => ms X i := by
  funext x; idx_vars x; pointwise [rms, eV]
  unfold ms cN cE
  rw [sum_range]
theorem rq_eq : rq D W X G = eL (qs X G (dx D W)) := by
  unfold rq
  rw [rdx_eq, rms_eq]
  funext x; idx_vars x; pointwise [eV, eL]
  unfold qs cN cH
  rw [sum_range]
  exact Fin.sum_univ_one _
theorem ref0 : (addf (addf (addf (eV Y : FVec Ideal S8192x1024 .f32) (mulf (mulf (rdx D W) (broadcastInDim S8192x1024 ![0, 1] bcast_S1x1024_S8192x1024_0_1 (broadcastInDim S1x1024 ![1] bcast_S1024_S1x1024_1 (eL G : FVec Ideal S1024 .f32)))) (broadcastInDim S8192x1024 ![0, 1] bcast_S8192x1_S8192x1024_0_1 (Host.rsqrt (rms X))))) (mulf (eV X : FVec Ideal S8192x1024 .f32) (broadcastInDim S8192x1024 ![0] bcast_S8192_S8192x1024_0 (rq D W X G)))) (mulf (broadcastInDim S8192x1024 ![0] bcast_S8192_S8192x1024_0 (rq D W X G)) (eV X : FVec Ideal S8192x1024 .f32)) : FVec Ideal S8192x1024 .f32) = eV (back X Y G (dx D W)) := by
  rw [rdx_eq, rms_eq, rq_eq]
  funext x; idx_vars x; pointwise [eV, eL, back]
theorem ref1 : (shapeCast _ (Host.reduceAdd (shapeCast _ (Host.reduceAdd (mulf (mulf (eV X : FVec Ideal S8192x1024 .f32) (broadcastInDim S8192x1024 ![0, 1] bcast_S8192x1_S8192x1024_0_1 (Host.rsqrt (rms X)))) (rdx D W)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) = eV fun _ j => ∑ i ∈ range 8192, share X (dx D W) i j := by
  rw [rdx_eq, rms_eq]
  funext x; idx_vars x; pointwise [eV, eL]
  rw [sum_range]
  exact Fin.sum_univ_one _
end

open Cert.Kernel16Ideal Cert.Kernel16Ideal.Gen

theorem pay2 (f g : ℕ → ℕ → EReal) :
    k0_pay2 (F := Ideal) (eV (φ := .bf16) f) (eV (φ := .bf16) g) = eV fun i j => ∑ k ∈ range 2048, f i k * g j k := by
  funext x; idx_vars x; pointwise [k0_pay2, k0_pay1, eV]; rw [sum_range]
theorem pay4 (a b : ℕ → ℕ → EReal) : k0_pay4 (F := Ideal) (eV (φ := .f32) a) (eV (φ := .f32) b) = eV fun i j => b i j + a i j := by
  funext x; idx_vars x; pointwise [k0_pay4, eV]
theorem pay7 (x a : ℕ → ℕ → EReal) : k0_pay7 (F := Ideal) (eV (φ := .f32) x) (eV (φ := .f32) a) = eV fun _ j => ∑ i ∈ range 512, share x a i j := by
  funext z; idx_vars z; pointwise [k0_pay7, k0_pay6, k0_pay5, eV]
  rw [sum_range]
  unfold share ms cN cE
  simp only [sum_range]
theorem pay8 (x g a y : ℕ → ℕ → EReal) :
    k0_pay8 (F := Ideal) (eV (φ := .f32) x) (eV (φ := .f32) g) (eV (φ := .f32) a) (eV (φ := .f32) y) = eV (back x y (g 0) a) := by
  funext z; idx_vars z; pointwise [k0_pay8, k0_pay6, k0_pay5, eV]
  unfold back qs ms cN cE cH
  simp only [sum_range, Fin.sum_univ_one, add_assoc]

variable (m : (ℓ : Loc nD τ sig) → Buf (Elt Ideal) ℓ) (c : Dev nD)
  (hD : m ((c : Thread nD τ).loc main_arg0) = eV (n := 8192) (m := 2048) (φ := .bf16) D)
  (hW : m ((c : Thread nD τ).loc main_arg1) = eV (n := 1024) (m := 2048) (φ := .bf16) W)
  (hX : m ((c : Thread nD τ).loc main_arg2) = eV (n := 8192) (m := 1024) (φ := .f32) X)
  (hG : m ((c : Thread nD τ).loc main_arg3) = eL (n := 1024) (φ := .f32) G)
  (hY : m ((c : Thread nD τ).loc main_arg4) = eV (n := 8192) (m := 1024) (φ := .f32) Y)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![0, 0] :=
  (by decide +kernel : ∀ t : Fin grid0.N, win0_3.index t = ![0, 0]) t
theorem idx4 (t : Fin cfg0.N) : win0_4.index t = ![t.val, 0] :=
  (by decide +kernel : ∀ t : Fin grid0.N, win0_4.index t = ![t.val, 0]) t
theorem idx5 (t : Fin cfg0.N) : win0_5.index t = ![t.val, 0] :=
  (by decide +kernel : ∀ t : Fin grid0.N, win0_5.index t = ![t.val, 0]) t
theorem idx6 (t : Fin cfg0.N) : win0_6.index t = ![0, 0] :=
  (by decide +kernel : ∀ t : Fin grid0.N, win0_6.index t = ![0, 0]) t

/-- The scale, a row of one, as the host lays it out. -/
theorem V_v0 : V m c main_v0 = shapeCast S1x1024 (m ((c : Thread nD τ).loc main_arg3)) shapeCasts_S1024_S1x1024 := by
  simp only [V, hostOps0]
  after_results_simp <;> rfl
theorem cast_row : shapeCast S1x1024 (eL G : FVec Ideal S1024 .f32) shapeCasts_S1024_S1x1024 = (eV fun _ j => G j : FVec Ideal S1x1024 .f32) := by
  funext x; idx_vars x; pointwise [eV, eL]

include hD in
theorem iblk0 (t : Fin cfg0.N) : iblk m c 0 t = eV (n := 512) (m := 2048) (φ := .bf16) (fun i j => D (512 * t.val + i) j) := by
  funext y
  have e := (V_main_arg0 m c).trans hD
  blk_simp [iblk, e, idx0 t]
  have h0 : (((win0_0.blk t).view.emb y) 0 : ℕ) = 512 * t.val + (y 0).val := by blk_simp [idx0 t] <;> omega
  have h1 : (((win0_0.blk t).view.emb y) 1 : ℕ) = (y 1).val := by blk_simp [idx0 t] <;> omega
  have e2 := congr (congrArg D h0) h1
  exact e2
include hW in
theorem iblk1 (t : Fin cfg0.N) : iblk m c 1 t = eV (n := 1024) (m := 2048) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2
include hX in
theorem iblk2 (t : Fin cfg0.N) : iblk m c 2 t = eV (n := 512) (m := 1024) (φ := .f32) (fun i j => X (512 * t.val + i) j) := by
  funext y
  have e := (V_main_arg2 m c).trans hX
  blk_simp [iblk, e, idx2 t]
  have h0 : (((win0_2.blk t).view.emb y) 0 : ℕ) = 512 * t.val + (y 0).val := by blk_simp [idx2 t] <;> omega
  have h1 : (((win0_2.blk t).view.emb y) 1 : ℕ) = (y 1).val := by blk_simp [idx2 t] <;> omega
  have e2 := congr (congrArg X h0) h1
  exact e2
include hG in
theorem iblk3 (t : Fin cfg0.N) : iblk m c 3 t = eV (n := 1) (m := 1024) (φ := .f32) (fun _ j => G j) := by
  funext y
  have e := (V_v0 m c).trans ((congrArg (fun v => shapeCast S1x1024 v shapeCasts_S1024_S1x1024) hG).trans (cast_row G))
  blk_simp [iblk, e, idx3 t]
  have h1 : (((win0_3.blk t).view.emb y) 1 : ℕ) = (y 1).val := by blk_simp [idx3 t] <;> omega
  have e2 := congrArg G h1
  exact e2
include hY in
theorem iblk4 (t : Fin cfg0.N) : iblk m c 4 t = eV (n := 512) (m := 1024) (φ := .f32) (fun i j => Y (512 * t.val + i) j) := by
  funext y
  have e := (V_main_arg4 m c).trans hY
  blk_simp [iblk, e, idx4 t]
  have h0 : (((win0_4.blk t).view.emb y) 0 : ℕ) = 512 * t.val + (y 0).val := by blk_simp [idx4 t] <;> omega
  have h1 : (((win0_4.blk t).view.emb y) 1 : ℕ) = (y 1).val := by blk_simp [idx4 t] <;> omega
  have e2 := congr (congrArg Y h0) h1
  exact e2

/-- The gradient of the normed input, on the rows of one block. -/
def full (b : ℕ) : FVec Ideal S512x1024 .f32 := eV fun i j => dx D W (512 * b + i) j
/-- The gradient of the scale after some blocks of rows. -/
def scale (b : ℕ) : FVec Ideal S1x1024 .f32 := eV fun _ j => ∑ k ∈ range b, ∑ s ∈ range 512, share X (dx D W) (512 * k + s) j
/-- The gradient of the input on one block. -/
def out (b : ℕ) : FVec Ideal S512x1024 .f32 := eV fun i j => back X Y G (dx D W) (512 * b + i) j

include hD hW in
theorem whole (t : Fin cfg0.N) : k0_pay2 (F := Ideal) (iblk m c 0 t) (iblk m c 1 t) = full D W t.val := by
  rw [iblk0 D m c hD, iblk1 W m c hW, pay2]
  rfl
include hX hG hY in
theorem write (t : Fin cfg0.N) :
    k0_pay8 (F := Ideal) (iblk m c 2 t) (iblk m c 3 t) (full D W t.val) (iblk m c 4 t) = out D W X Y G t.val := by
  unfold full
  rw [iblk2 X m c hX, iblk3 G m c hG, iblk4 Y m c hY, pay8]
  rfl
include hX in
theorem rows (t : Fin cfg0.N) :
    k0_pay7 (F := Ideal) (iblk m c 2 t) (full D W t.val) = eV fun _ j => ∑ s ∈ range 512, share X (dx D W) (512 * t.val + s) j := by
  unfold full
  rw [iblk2 X m c hX, pay7]
  rfl

include hD hW hX hG hY in
theorem outs : ∀ (n : ℕ) (h : n < cfg0.N), (outsAt0 m c n h).2 = scale D W X (n + 1) ∧ (outsAt0 m c n h).1 = out D W X Y G n := by
  intro n
  induction n using Nat.strong_induction_on with
  | _ n ih =>
  intro h
  have hN : n < 16 := h
  have hs := whole D W m c hD hW ⟨n, h⟩
  have hw := write D W X Y G m c hX hG hY ⟨n, h⟩
  have hr := rows D W X m c hX ⟨n, h⟩
  dsimp only at hs hw hr
  by_cases h0 : n % 16 = 0
  · have h1 : ¬1 ≤ n := by omega
    refine ⟨(congrArg Prod.snd (outsAt0_A m c ⟨n, h⟩ h0 h1)).trans ?_, (congrArg Prod.fst (outsAt0_A m c ⟨n, h⟩ h0 h1)).trans ?_⟩
    · frame_out
      rw [hs, hr]
      have hn : n = 0 := by omega
      subst hn
      unfold scale
      simp only [Nat.zero_add, sum_range_one]
    · frame_out
      rw [hs, hw]
  · have h1 : 1 ≤ n := by omega
    have ip := (ih (n - 1) (by omega) (Nat.lt_of_le_of_lt (Nat.sub_le _ _) h)).1
    rw [show n - 1 + 1 = n by omega] at ip
    refine ⟨(congrArg Prod.snd (outsAt0_B m c ⟨n, h⟩ h0 h1)).trans ?_, (congrArg Prod.fst (outsAt0_B m c ⟨n, h⟩ h0 h1)).trans ?_⟩
    · frame_out
      rw [hs, hr, ip]
      unfold scale
      rw [pay4]
      simp only [sum_range_succ _ n]
    · frame_out
      rw [hs, hw]

include hD hW hX hG hY in
theorem arr5 : (dats m 0 c).arrAt 5 cfg0.N = (eV (back X Y G (dx D W)) : FVec Ideal S8192x1024 .f32) := by
  refine (dats m 0 c).arrAt_eq_of_covers 5 _ (by decide +kernel) fun t hf y => ?_
  blk_simp
  rw [after0_5, (outs D W X Y G m c hD hW hX hG hY t.val t.isLt).2]
  have h0 : (((win0_5.blk t).view.emb y) 0 : ℕ) = 512 * t.val + (y 0).val := by blk_simp [idx5 t] <;> omega
  have h1 : (((win0_5.blk t).view.emb y) 1 : ℕ) = (y 1).val := by blk_simp [idx5 t] <;> omega
  unfold out eV
  rw [h0, h1]
include hD hW hX hG hY in
theorem arr6 : (dats m 0 c).arrAt 6 cfg0.N = (eV fun _ j => ∑ i ∈ range 8192, share X (dx D W) i j : FVec Ideal S1x1024 .f32) := by
  refine (dats m 0 c).arrAt_eq_of_covers 6 _ (by decide +kernel) fun t hf y => ?_
  have hr : t.val % 16 = 15 := (flush0_6 t).mp hf
  have ht : t.val < 16 := t.isLt
  have hq : t.val + 1 = 16 := by omega
  blk_simp
  rw [after0_6, (outs D W X Y G m c hD hW hX hG hY t.val t.isLt).1]
  have h1 : (((win0_6.blk t).view.emb y) 1 : ℕ) = (y 1).val := by blk_simp [idx6 t] <;> omega
  unfold scale eV
  rw [h1, hq]
  beta_reduce
  exact sum_blocks 512 (fun s => share X (dx D W) s (y 1).val) 16

theorem values : @Cert.algebraic_Kernel16Ideal_Reference16Ideal Cert.Kernel16Ideal.Gen.facts Cert.Reference16Ideal.Gen.facts := by
  intro m g m' g' _ hargs
  refine ⟨_, _, Cert.Kernel16Ideal.Value.run_blocks (F := Ideal) m g, ?_⟩
  refine (θ_run Cert.Reference16Ideal.defs _ _).mono (fun r h c => ?_) (Cert.Reference16Ideal.Value.run (F := Ideal) m' g')
  obtain ⟨r0, r1, r2⟩ := h c
  obtain ⟨a0, a1, a2, a3, a4⟩ := hargs c
  obtain ⟨D, hD⟩ := exV (n := 8192) (m := 2048) (φ := .bf16) (m ((c : Thread nD τ).loc main_arg0))
  obtain ⟨W, hW⟩ := exV (n := 1024) (m := 2048) (φ := .bf16) (m ((c : Thread nD τ).loc main_arg1))
  obtain ⟨X, hX⟩ := exV (n := 8192) (m := 1024) (φ := .f32) (m ((c : Thread nD τ).loc main_arg2))
  obtain ⟨G, hG⟩ := exL (n := 1024) (φ := .f32) (m ((c : Thread nD τ).loc main_arg3))
  obtain ⟨Y, hY⟩ := exV (n := 8192) (m := 1024) (φ := .f32) (m ((c : Thread nD τ).loc main_arg4))
  refine ⟨r0.trans ?_, r1.trans ?_, r2⟩
  · unfold Cert.Reference16Ideal.Value.res_main_v40
    rw [a0.trans hD, a1.trans hW, a2.trans hX, a3.trans hG, a4.trans hY]
    exact (ref0 D W X Y G).trans (arr5 D W X Y G m c hD hW hX hG hY).symm
  · rw [a0.trans hD, a1.trans hW, a2.trans hX]
    exact (ref1 D W X).trans (arr6 D W X Y G m c hD hW hX hG hY).symm

end Cert.V16

end
-- ==== Proof.Mix17.lean ====
/- The gradient through the norm of a mixer whose first weight has 3072 columns: what the kernel leaves is the reference's arrays. -/
module

public import proofs.«01_k».proof.Defs
public import proofs.«01_k».proof.Proof.Ext
public import proofs.«01_k».proof.Proof.Gen.Kernel17Ideal.Value
public import Idealize.ShloMosaic.Lib.Pipeline.ReadBack
public import proofs.«01_k».proof.Proof.Gen.Reference17Ideal.Run
public import proofs.«01_k».proof.Proof.Dhn5

@[expose] public section

set_option maxRecDepth 16384

noncomputable section

namespace Cert.V17

open Cert.Ext Idealize.ShloMosaic Idealize.ShloMosaic.TcCoe Finset
open Cert.V5 (cN cE cH ms qs back share)

variable (D W X Y : ℕ → ℕ → EReal) (G : ℕ → EReal)

/-- The gradient of the normed input. -/
def dx (i j : ℕ) : EReal := ∑ k ∈ range 3072, D i k * W j k

section
open Cert.Reference17Ideal Cert.Reference17Ideal.Gen

/-- The gradient of the normed input, the mean square, and the share of a row's mean, as the reference takes them. -/
def rdx : FVec Ideal S8192x1024 .f32 := Host.dotGeneral (F := Ideal) dot_S8192x3072_S1024x3072_S8192x1024_1_1_0_0_n_n none (extf .f32 (eV D : FVec Ideal S8192x3072 .bf16) bitsLt_bf16_f32) (extf .f32 (eV W : FVec Ideal S1024x3072 .bf16) bitsLt_bf16_f32)
def rms : FVec Ideal S8192x1 .f32 := addf (Host.divf (broadcastInDim S8192x1 ![0] bcast_S8192_S8192x1_0 (Host.reduceAdd (mulf (eV X : FVec Ideal S8192x1024 .f32) (eV X : FVec Ideal S8192x1024 .f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
def rq : FVec Ideal S8192 .f32 := Host.reduceAdd (Host.divf (mulf (shapeCast _ (Host.reduceAdd (mulf (eV X : FVec Ideal S8192x1024 .f32) (mulf (rdx D W) (broadcastInDim S8192x1024 ![0, 1] bcast_S1x1024_S8192x1024_0_1 (broadcastInDim S1x1024 ![1] bcast_S1024_S1x1024_1 (eL G : FVec Ideal S1024 .f32))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (rms X)) (rms X)))) (broadcastInDim S8192x1 ![] bcast_S_S8192x1 (constant S_ .f32 0x44800000#32))) (constant S_ .f32 0x00000000#32) reducesTo_S8192x1_S8192_d1 h_S_

theorem rdx_eq : rdx D W = eV (dx D W) := by
  funext x; idx_vars x; pointwise [rdx, eV]
  unfold dx
  rw [sum_range]
theorem rms_eq : rms X = eV fun i _ => ms X i := by
  funext x; idx_vars x; pointwise [rms, eV]
  unfold ms cN cE
  rw [sum_range]
theorem rq_eq : rq D W X G = eL (qs X G (dx D W)) := by
  unfold rq
  rw [rdx_eq, rms_eq]
  funext x; idx_vars x; pointwise [eV, eL]
  unfold qs cN cH
  rw [sum_range]
  exact Fin.sum_univ_one _
theorem ref0 : (addf (addf (addf (eV Y : FVec Ideal S8192x1024 .f32) (mulf (mulf (rdx D W) (broadcastInDim S8192x1024 ![0, 1] bcast_S1x1024_S8192x1024_0_1 (broadcastInDim S1x1024 ![1] bcast_S1024_S1x1024_1 (eL G : FVec Ideal S1024 .f32)))) (broadcastInDim S8192x1024 ![0, 1] bcast_S8192x1_S8192x1024_0_1 (Host.rsqrt (rms X))))) (mulf (eV X : FVec Ideal S8192x1024 .f32) (broadcastInDim S8192x1024 ![0] bcast_S8192_S8192x1024_0 (rq D W X G)))) (mulf (broadcastInDim S8192x1024 ![0] bcast_S8192_S8192x1024_0 (rq D W X G)) (eV X : FVec Ideal S8192x1024 .f32)) : FVec Ideal S8192x1024 .f32) = eV (back X Y G (dx D W)) := by
  rw [rdx_eq, rms_eq, rq_eq]
  funext x; idx_vars x; pointwise [eV, eL, back]
theorem ref1 : (shapeCast _ (Host.reduceAdd (shapeCast _ (Host.reduceAdd (mulf (mulf (eV X : FVec Ideal S8192x1024 .f32) (broadcastInDim S8192x1024 ![0, 1] bcast_S8192x1_S8192x1024_0_1 (Host.rsqrt (rms X)))) (rdx D W)) (constant S_ .f32 0x00000000#32) reducesTo_S8192x1024_S1024_d0 h_S_) shapeCasts_S1024_S1x1024) (constant S_ .f32 0x00000000#32) reducesTo_S1x1024_S1024_d0 h_S_) shapeCasts_S1024_S1x1024 : FVec Ideal S1x1024 .f32) = eV fun _ j => ∑ i ∈ range 8192, share X (dx D W) i j := by
  rw [rdx_eq, rms_eq]
  funext x; idx_vars x; pointwise [eV, eL]
  rw [sum_range]
  exact Fin.sum_univ_one _
end

open Cert.Kernel17Ideal Cert.Kernel17Ideal.Gen

theorem pay2 (f g : ℕ → ℕ → EReal) :
    k0_pay2 (F := Ideal) (eV (φ := .bf16) f) (eV (φ := .bf16) g) = eV fun i j => ∑ k ∈ range 3072, f i k * g j k := by
  funext x; idx_vars x; pointwise [k0_pay2, k0_pay1, eV]; rw [sum_range]
theorem pay4 (a b : ℕ → ℕ → EReal) : k0_pay4 (F := Ideal) (eV (φ := .f32) a) (eV (φ := .f32) b) = eV fun i j => b i j + a i j := by
  funext x; idx_vars x; pointwise [k0_pay4, eV]
theorem pay7 (x a : ℕ → ℕ → EReal) : k0_pay7 (F := Ideal) (eV (φ := .f32) x) (eV (φ := .f32) a) = eV fun _ j => ∑ i ∈ range 512, share x a i j := by
  funext z; idx_vars z; pointwise [k0_pay7, k0_pay6, k0_pay5, eV]
  rw [sum_range]
  unfold share ms cN cE
  simp only [sum_range]
theorem pay8 (x g a y : ℕ → ℕ → EReal) :
    k0_pay8 (F := Ideal) (eV (φ := .f32) x) (eV (φ := .f32) g) (eV (φ := .f32) a) (eV (φ := .f32) y) = eV (back x y (g 0) a) := by
  funext z; idx_vars z; pointwise [k0_pay8, k0_pay6, k0_pay5, eV]
  unfold back qs ms cN cE cH
  simp only [sum_range, Fin.sum_univ_one, add_assoc]

variable (m : (ℓ : Loc nD τ sig) → Buf (Elt Ideal) ℓ) (c : Dev nD)
  (hD : m ((c : Thread nD τ).loc main_arg0) = eV (n := 8192) (m := 3072) (φ := .bf16) D)
  (hW : m ((c : Thread nD τ).loc main_arg1) = eV (n := 1024) (m := 3072) (φ := .bf16) W)
  (hX : m ((c : Thread nD τ).loc main_arg2) = eV (n := 8192) (m := 1024) (φ := .f32) X)
  (hG : m ((c : Thread nD τ).loc main_arg3) = eL (n := 1024) (φ := .f32) G)
  (hY : m ((c : Thread nD τ).loc main_arg4) = eV (n := 8192) (m := 1024) (φ := .f32) Y)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![0, 0] :=
  (by decide +kernel : ∀ t : Fin grid0.N, win0_3.index t = ![0, 0]) t
theorem idx4 (t : Fin cfg0.N) : win0_4.index t = ![t.val, 0] :=
  (by decide +kernel : ∀ t : Fin grid0.N, win0_4.index t = ![t.val, 0]) t
theorem idx5 (t : Fin cfg0.N) : win0_5.index t = ![t.val, 0] :=
  (by decide +kernel : ∀ t : Fin grid0.N, win0_5.index t = ![t.val, 0]) t
theorem idx6 (t : Fin cfg0.N) : win0_6.index t = ![0, 0] :=
  (by decide +kernel : ∀ t : Fin grid0.N, win0_6.index t = ![0, 0]) t

/-- The scale, a row of one, as the host lays it out. -/
theorem V_v0 : V m c main_v0 = shapeCast S1x1024 (m ((c : Thread nD τ).loc main_arg3)) shapeCasts_S1024_S1x1024 := by
  simp only [V, hostOps0]
  after_results_simp <;> rfl
theorem cast_row : shapeCast S1x1024 (eL G : FVec Ideal S1024 .f32) shapeCasts_S1024_S1x1024 = (eV fun _ j => G j : FVec Ideal S1x1024 .f32) := by
  funext x; idx_vars x; pointwise [eV, eL]

include hD in
theorem iblk0 (t : Fin cfg0.N) : iblk m c 0 t = eV (n := 512) (m := 3072) (φ := .bf16) (fun i j => D (512 * t.val + i) j) := by
  funext y
  have e := (V_main_arg0 m c).trans hD
  blk_simp [iblk, e, idx0 t]
  have h0 : (((win0_0.blk t).view.emb y) 0 : ℕ) = 512 * t.val + (y 0).val := by blk_simp [idx0 t] <;> omega
  have h1 : (((win0_0.blk t).view.emb y) 1 : ℕ) = (y 1).val := by blk_simp [idx0 t] <;> omega
  have e2 := congr (congrArg D h0) h1
  exact e2
include hW in
theorem iblk1 (t : Fin cfg0.N) : iblk m c 1 t = eV (n := 1024) (m := 3072) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2
include hX in
theorem iblk2 (t : Fin cfg0.N) : iblk m c 2 t = eV (n := 512) (m := 1024) (φ := .f32) (fun i j => X (512 * t.val + i) j) := by
  funext y
  have e := (V_main_arg2 m c).trans hX
  blk_simp [iblk, e, idx2 t]
  have h0 : (((win0_2.blk t).view.emb y) 0 : ℕ) = 512 * t.val + (y 0).val := by blk_simp [idx2 t] <;> omega
  have h1 : (((win0_2.blk t).view.emb y) 1 : ℕ) = (y 1).val := by blk_simp [idx2 t] <;> omega
  have e2 := congr (congrArg X h0) h1
  exact e2
include hG in
theorem iblk3 (t : Fin cfg0.N) : iblk m c 3 t = eV (n := 1) (m := 1024) (φ := .f32) (fun _ j => G j) := by
  funext y
  have e := (V_v0 m c).trans ((congrArg (fun v => shapeCast S1x1024 v shapeCasts_S1024_S1x1024) hG).trans (cast_row G))
  blk_simp [iblk, e, idx3 t]
  have h1 : (((win0_3.blk t).view.emb y) 1 : ℕ) = (y 1).val := by blk_simp [idx3 t] <;> omega
  have e2 := congrArg G h1
  exact e2
include hY in
theorem iblk4 (t : Fin cfg0.N) : iblk m c 4 t = eV (n := 512) (m := 1024) (φ := .f32) (fun i j => Y (512 * t.val + i) j) := by
  funext y
  have e := (V_main_arg4 m c).trans hY
  blk_simp [iblk, e, idx4 t]
  have h0 : (((win0_4.blk t).view.emb y) 0 : ℕ) = 512 * t.val + (y 0).val := by blk_simp [idx4 t] <;> omega
  have h1 : (((win0_4.blk t).view.emb y) 1 : ℕ) = (y 1).val := by blk_simp [idx4 t] <;> omega
  have e2 := congr (congrArg Y h0) h1
  exact e2

/-- The gradient of the normed input, on the rows of one block. -/
def full (b : ℕ) : FVec Ideal S512x1024 .f32 := eV fun i j => dx D W (512 * b + i) j
/-- The gradient of the scale after some blocks of rows. -/
def scale (b : ℕ) : FVec Ideal S1x1024 .f32 := eV fun _ j => ∑ k ∈ range b, ∑ s ∈ range 512, share X (dx D W) (512 * k + s) j
/-- The gradient of the input on one block. -/
def out (b : ℕ) : FVec Ideal S512x1024 .f32 := eV fun i j => back X Y G (dx D W) (512 * b + i) j

include hD hW in
theorem whole (t : Fin cfg0.N) : k0_pay2 (F := Ideal) (iblk m c 0 t) (iblk m c 1 t) = full D W t.val := by
  rw [iblk0 D m c hD, iblk1 W m c hW, pay2]
  rfl
include hX hG hY in
theorem write (t : Fin cfg0.N) :
    k0_pay8 (F := Ideal) (iblk m c 2 t) (iblk m c 3 t) (full D W t.val) (iblk m c 4 t) = out D W X Y G t.val := by
  unfold full
  rw [iblk2 X m c hX, iblk3 G m c hG, iblk4 Y m c hY, pay8]
  rfl
include hX in
theorem rows (t : Fin cfg0.N) :
    k0_pay7 (F := Ideal) (iblk m c 2 t) (full D W t.val) = eV fun _ j => ∑ s ∈ range 512, share X (dx D W) (512 * t.val + s) j := by
  unfold full
  rw [iblk2 X m c hX, pay7]
  rfl

include hD hW hX hG hY in
theorem outs : ∀ (n : ℕ) (h : n < cfg0.N), (outsAt0 m c n h).2 = scale D W X (n + 1) ∧ (outsAt0 m c n h).1 = out D W X Y G n := by
  intro n
  induction n using Nat.strong_induction_on with
  | _ n ih =>
  intro h
  have hN : n < 16 := h
  have hs := whole D W m c hD hW ⟨n, h⟩
  have hw := write D W X Y G m c hX hG hY ⟨n, h⟩
  have hr := rows D W X m c hX ⟨n, h⟩
  dsimp only at hs hw hr
  by_cases h0 : n % 16 = 0
  · have h1 : ¬1 ≤ n := by omega
    refine ⟨(congrArg Prod.snd (outsAt0_A m c ⟨n, h⟩ h0 h1)).trans ?_, (congrArg Prod.fst (outsAt0_A m c ⟨n, h⟩ h0 h1)).trans ?_⟩
    · frame_out
      rw [hs, hr]
      have hn : n = 0 := by omega
      subst hn
      unfold scale
      simp only [Nat.zero_add, sum_range_one]
    · frame_out
      rw [hs, hw]
  · have h1 : 1 ≤ n := by omega
    have ip := (ih (n - 1) (by omega) (Nat.lt_of_le_of_lt (Nat.sub_le _ _) h)).1
    rw [show n - 1 + 1 = n by omega] at ip
    refine ⟨(congrArg Prod.snd (outsAt0_B m c ⟨n, h⟩ h0 h1)).trans ?_, (congrArg Prod.fst (outsAt0_B m c ⟨n, h⟩ h0 h1)).trans ?_⟩
    · frame_out
      rw [hs, hr, ip]
      unfold scale
      rw [pay4]
      simp only [sum_range_succ _ n]
    · frame_out
      rw [hs, hw]

include hD hW hX hG hY in
theorem arr5 : (dats m 0 c).arrAt 5 cfg0.N = (eV (back X Y G (dx D W)) : FVec Ideal S8192x1024 .f32) := by
  refine (dats m 0 c).arrAt_eq_of_covers 5 _ (by decide +kernel) fun t hf y => ?_
  blk_simp
  rw [after0_5, (outs D W X Y G m c hD hW hX hG hY t.val t.isLt).2]
  have h0 : (((win0_5.blk t).view.emb y) 0 : ℕ) = 512 * t.val + (y 0).val := by blk_simp [idx5 t] <;> omega
  have h1 : (((win0_5.blk t).view.emb y) 1 : ℕ) = (y 1).val := by blk_simp [idx5 t] <;> omega
  unfold out eV
  rw [h0, h1]
include hD hW hX hG hY in
theorem arr6 : (dats m 0 c).arrAt 6 cfg0.N = (eV fun _ j => ∑ i ∈ range 8192, share X (dx D W) i j : FVec Ideal S1x1024 .f32) := by
  refine (dats m 0 c).arrAt_eq_of_covers 6 _ (by decide +kernel) fun t hf y => ?_
  have hr : t.val % 16 = 15 := (flush0_6 t).mp hf
  have ht : t.val < 16 := t.isLt
  have hq : t.val + 1 = 16 := by omega
  blk_simp
  rw [after0_6, (outs D W X Y G m c hD hW hX hG hY t.val t.isLt).1]
  have h1 : (((win0_6.blk t).view.emb y) 1 : ℕ) = (y 1).val := by blk_simp [idx6 t] <;> omega
  unfold scale eV
  rw [h1, hq]
  beta_reduce
  exact sum_blocks 512 (fun s => share X (dx D W) s (y 1).val) 16

theorem values : @Cert.algebraic_Kernel17Ideal_Reference17Ideal Cert.Kernel17Ideal.Gen.facts Cert.Reference17Ideal.Gen.facts := by
  intro m g m' g' _ hargs
  refine ⟨_, _, Cert.Kernel17Ideal.Value.run_blocks (F := Ideal) m g, ?_⟩
  refine (θ_run Cert.Reference17Ideal.defs _ _).mono (fun r h c => ?_) (Cert.Reference17Ideal.Value.run (F := Ideal) m' g')
  obtain ⟨r0, r1, r2⟩ := h c
  obtain ⟨a0, a1, a2, a3, a4⟩ := hargs c
  obtain ⟨D, hD⟩ := exV (n := 8192) (m := 3072) (φ := .bf16) (m ((c : Thread nD τ).loc main_arg0))
  obtain ⟨W, hW⟩ := exV (n := 1024) (m := 3072) (φ := .bf16) (m ((c : Thread nD τ).loc main_arg1))
  obtain ⟨X, hX⟩ := exV (n := 8192) (m := 1024) (φ := .f32) (m ((c : Thread nD τ).loc main_arg2))
  obtain ⟨G, hG⟩ := exL (n := 1024) (φ := .f32) (m ((c : Thread nD τ).loc main_arg3))
  obtain ⟨Y, hY⟩ := exV (n := 8192) (m := 1024) (φ := .f32) (m ((c : Thread nD τ).loc main_arg4))
  refine ⟨r0.trans ?_, r1.trans ?_, r2⟩
  · unfold Cert.Reference17Ideal.Value.res_main_v40
    rw [a0.trans hD, a1.trans hW, a2.trans hX, a3.trans hG, a4.trans hY]
    exact (ref0 D W X Y G).trans (arr5 D W X Y G m c hD hW hX hG hY).symm
  · rw [a0.trans hD, a1.trans hW, a2.trans hX]
    exact (ref1 D W X).trans (arr6 D W X Y G m c hD hW hX hG hY).symm

end Cert.V17

end
-- ==== Proof.Mix18.lean ====
/- A mixer's first product, of 1024 columns: what the kernel leaves is the reference's array. -/
module

public import proofs.«01_k».proof.Defs
public import proofs.«01_k».proof.Proof.Ext
public import proofs.«01_k».proof.Proof.Gen.Kernel18Ideal.Value
public import Idealize.ShloMosaic.Lib.Pipeline.ReadBack
public import proofs.«01_k».proof.Proof.Gen.Reference18Ideal.Run

@[expose] public section

set_option maxRecDepth 16384

noncomputable section

namespace Cert.V18

open Cert.Ext Cert.Kernel18Ideal Cert.Kernel18Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 1024) (φ := .bf16) A)
  (hW : m ((c : Thread nD τ).loc main_arg1) = eV (n := 1024) (m := 1024) (φ := .bf16) W)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t

include hA in
theorem iblk0 (t : Fin cfg0.N) : iblk m c 0 t = eV (n := 1024) (m := 1024) (φ := .bf16) (fun i j => A (1024 * t.val + i) j) := by
  funext y
  have e := (V_main_arg0 m c).trans hA
  blk_simp [iblk, e, idx0 t]
  have h0 : (((win0_0.blk t).view.emb y) 0 : ℕ) = 1024 * t.val + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 1024) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2

/-- A block of the result. -/
theorem pay (f g : ℕ → ℕ → EReal) :
    k0_pay2 (F := Ideal) (eV (φ := .bf16) f) (eV (φ := .bf16) g) = eV fun i j => ∑ k ∈ Finset.range 1024, f i k * g k j := by
  funext x; idx_vars x; pointwise [k0_pay2, k0_pay1, eV]; rw [Finset.sum_range]

/-- The result. -/
def res : FVec Ideal S8192x1024 .f32 := eV fun i j => ∑ k ∈ Finset.range 1024, A i k * W k j

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 1024 * t.val + (y 0).val := by blk_simp [idx2 t] <;> omega
  have h1 : (((win0_2.blk t).view.emb y) 1 : ℕ) = (y 1).val := by blk_simp [idx2 t] <;> omega
  unfold res eV
  rw [h0, h1]

/-- The reference's result. -/
theorem ref : Host.dotGeneral (F := Ideal) Cert.Reference18Ideal.dot_S8192x1024_S1024x1024_S8192x1024_1_0_0_1_n_n none (extf .f32 (eV A : FVec Ideal Cert.Reference18Ideal.S8192x1024 .bf16) Cert.Reference18Ideal.Gen.bitsLt_bf16_f32) (extf .f32 (eV W : FVec Ideal Cert.Reference18Ideal.S1024x1024 .bf16) Cert.Reference18Ideal.Gen.bitsLt_bf16_f32)
      = res A W := by
  funext x; idx_vars x; pointwise [eV, res]; rw [Finset.sum_range]

theorem values : @Cert.algebraic_Kernel18Ideal_Reference18Ideal Cert.Kernel18Ideal.Gen.facts Cert.Reference18Ideal.Gen.facts := by
  intro m g m' g' _ hargs
  refine ⟨_, Cert.Kernel18Ideal.Value.run_blocks (F := Ideal) m g, ?_⟩
  refine (θ_run Cert.Reference18Ideal.defs _ _).mono (fun r h c => ?_) (Cert.Reference18Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨W, hW⟩ := exV (n := 1024) (m := 1024) (φ := .bf16) (m ((c : Thread nD τ).loc main_arg1))
  refine ⟨r0.trans ?_, r1⟩
  rw [a0.trans hA, a1.trans hW]
  exact (ref A W).trans (arr m c A W hA hW).symm

end Cert.V18

end
-- ==== Proof.Mix19.lean ====
/- A mixer's product of 2048 columns, rounded: what the kernel leaves is the reference's array. -/
module

public import proofs.«01_k».proof.Defs
public import proofs.«01_k».proof.Proof.Ext
public import proofs.«01_k».proof.Proof.Gen.Kernel19Ideal.Value
public import Idealize.ShloMosaic.Lib.Pipeline.ReadBack
public import proofs.«01_k».proof.Proof.Gen.Reference19Ideal.Run

@[expose] public section

set_option maxRecDepth 16384

noncomputable section

namespace Cert.V19

open Cert.Ext Cert.Kernel19Ideal Cert.Kernel19Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 1024) (φ := .bf16) A)
  (hW : m ((c : Thread nD τ).loc main_arg1) = eV (n := 1024) (m := 2048) (φ := .bf16) W)

theorem idx0 (t : Fin cfg0.N) : win0_0.index t = ![t.val / 2, 0] :=
  (by decide +kernel : ∀ t : Fin grid0.N, win0_0.index t = ![t.val / 2, 0]) t
theorem idx1 (t : Fin cfg0.N) : win0_1.index t = ![0, t.val % 2] :=
  (by decide +kernel : ∀ t : Fin grid0.N, win0_1.index t = ![0, t.val % 2]) t
theorem idx2 (t : Fin cfg0.N) : win0_2.index t = ![t.val / 2, t.val % 2] :=
  (by decide +kernel : ∀ t : Fin grid0.N, win0_2.index t = ![t.val / 2, t.val % 2]) t

include hA in
theorem iblk0 (t : Fin cfg0.N) : iblk m c 0 t = eV (n := 1024) (m := 1024) (φ := .bf16) (fun i j => A (1024 * (t.val / 2) + i) j) := by
  funext y
  have e := (V_main_arg0 m c).trans hA
  blk_simp [iblk, e, idx0 t]
  have h0 : (((win0_0.blk t).view.emb y) 0 : ℕ) = 1024 * (t.val / 2) + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 1024) (φ := .bf16) (fun i j => W i (1024 * (t.val % 2) + j)) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = 1024 * (t.val % 2) + (y 1).val := by blk_simp [idx1 t] <;> omega
  have e2 := congr (congrArg W h0) h1
  exact e2

/-- A block of the result. -/
theorem pay (f g : ℕ → ℕ → EReal) :
    k0_pay4 (F := Ideal) (k0_pay2 (F := Ideal) (eV (φ := .bf16) f) (eV (φ := .bf16) g)) = eV fun i j => ∑ k ∈ Finset.range 1024, f i k * g k j := by
  funext x; idx_vars x; pointwise [k0_pay4, k0_pay2, k0_pay1, eV]; rw [Finset.sum_range]

/-- The result. -/
def res : FVec Ideal S8192x2048 .bf16 := eV fun i j => ∑ k ∈ Finset.range 1024, A i k * W k j

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 1024 * (t.val / 2) + (y 0).val := by blk_simp [idx2 t] <;> omega
  have h1 : (((win0_2.blk t).view.emb y) 1 : ℕ) = 1024 * (t.val % 2) + (y 1).val := by blk_simp [idx2 t] <;> omega
  unfold res eV
  rw [h0, h1]

/-- The reference's result. -/
theorem ref : truncf .bf16 (Host.dotGeneral (F := Ideal) Cert.Reference19Ideal.dot_S8192x1024_S1024x2048_S8192x2048_1_0_0_1_n_n none (extf .f32 (eV A : FVec Ideal Cert.Reference19Ideal.S8192x1024 .bf16) Cert.Reference19Ideal.Gen.bitsLt_bf16_f32) (extf .f32 (eV W : FVec Ideal Cert.Reference19Ideal.S1024x2048 .bf16) Cert.Reference19Ideal.Gen.bitsLt_bf16_f32)) Cert.Reference19Ideal.Gen.bitsLt_bf16_f32
      = res A W := by
  funext x; idx_vars x; pointwise [eV, res]; rw [Finset.sum_range]

theorem values : @Cert.algebraic_Kernel19Ideal_Reference19Ideal Cert.Kernel19Ideal.Gen.facts Cert.Reference19Ideal.Gen.facts := by
  intro m g m' g' _ hargs
  refine ⟨_, Cert.Kernel19Ideal.Value.run_blocks (F := Ideal) m g, ?_⟩
  refine (θ_run Cert.Reference19Ideal.defs _ _).mono (fun r h c => ?_) (Cert.Reference19Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨W, hW⟩ := exV (n := 1024) (m := 2048) (φ := .bf16) (m ((c : Thread nD τ).loc main_arg1))
  refine ⟨r0.trans ?_, r1⟩
  rw [a0.trans hA, a1.trans hW]
  exact (ref A W).trans (arr m c A W hA hW).symm

end Cert.V19

end
-- ==== Proof.Mix20.lean ====
/- A mixer's first product, of 2048 columns: what the kernel leaves is the reference's array. -/
module

public import proofs.«01_k».proof.Defs
public import proofs.«01_k».proof.Proof.Ext
public import proofs.«01_k».proof.Proof.Gen.Kernel20Ideal.Value
public import Idealize.ShloMosaic.Lib.Pipeline.ReadBack
public import proofs.«01_k».proof.Proof.Gen.Reference20Ideal.Run

@[expose] public section

set_option maxRecDepth 16384

noncomputable section

namespace Cert.V20

open Cert.Ext Cert.Kernel20Ideal Cert.Kernel20Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 1024) (φ := .bf16) A)
  (hW : m ((c : Thread nD τ).loc main_arg1) = eV (n := 1024) (m := 2048) (φ := .bf16) W)

theorem idx0 (t : Fin cfg0.N) : win0_0.index t = ![t.val / 2, 0] :=
  (by decide +kernel : ∀ t : Fin grid0.N, win0_0.index t = ![t.val / 2, 0]) t
theorem idx1 (t : Fin cfg0.N) : win0_1.index t = ![0, t.val % 2] :=
  (by decide +kernel : ∀ t : Fin grid0.N, win0_1.index t = ![0, t.val % 2]) t
theorem idx2 (t : Fin cfg0.N) : win0_2.index t = ![t.val / 2, t.val % 2] :=
  (by decide +kernel : ∀ t : Fin grid0.N, win0_2.index t = ![t.val / 2, t.val % 2]) t

include hA in
theorem iblk0 (t : Fin cfg0.N) : iblk m c 0 t = eV (n := 1024) (m := 1024) (φ := .bf16) (fun i j => A (1024 * (t.val / 2) + i) j) := by
  funext y
  have e := (V_main_arg0 m c).trans hA
  blk_simp [iblk, e, idx0 t]
  have h0 : (((win0_0.blk t).view.emb y) 0 : ℕ) = 1024 * (t.val / 2) + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 1024) (φ := .bf16) (fun i j => W i (1024 * (t.val % 2) + j)) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = 1024 * (t.val % 2) + (y 1).val := by blk_simp [idx1 t] <;> omega
  have e2 := congr (congrArg W h0) h1
  exact e2

/-- A block of the result. -/
theorem pay (f g : ℕ → ℕ → EReal) :
    k0_pay2 (F := Ideal) (eV (φ := .bf16) f) (eV (φ := .bf16) g) = eV fun i j => ∑ k ∈ Finset.range 1024, f i k * g k j := by
  funext x; idx_vars x; pointwise [k0_pay2, k0_pay1, eV]; rw [Finset.sum_range]

/-- The result. -/
def res : FVec Ideal S8192x2048 .f32 := eV fun i j => ∑ k ∈ Finset.range 1024, A i k * W k j

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 1024 * (t.val / 2) + (y 0).val := by blk_simp [idx2 t] <;> omega
  have h1 : (((win0_2.blk t).view.emb y) 1 : ℕ) = 1024 * (t.val % 2) + (y 1).val := by blk_simp [idx2 t] <;> omega
  unfold res eV
  rw [h0, h1]

/-- The reference's result. -/
theorem ref : Host.dotGeneral (F := Ideal) Cert.Reference20Ideal.dot_S8192x1024_S1024x2048_S8192x2048_1_0_0_1_n_n none (extf .f32 (eV A : FVec Ideal Cert.Reference20Ideal.S8192x1024 .bf16) Cert.Reference20Ideal.Gen.bitsLt_bf16_f32) (extf .f32 (eV W : FVec Ideal Cert.Reference20Ideal.S1024x2048 .bf16) Cert.Reference20Ideal.Gen.bitsLt_bf16_f32)
      = res A W := by
  funext x; idx_vars x; pointwise [eV, res]; rw [Finset.sum_range]

theorem values : @Cert.algebraic_Kernel20Ideal_Reference20Ideal Cert.Kernel20Ideal.Gen.facts Cert.Reference20Ideal.Gen.facts := by
  intro m g m' g' _ hargs
  refine ⟨_, Cert.Kernel20Ideal.Value.run_blocks (F := Ideal) m g, ?_⟩
  refine (θ_run Cert.Reference20Ideal.defs _ _).mono (fun r h c => ?_) (Cert.Reference20Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨W, hW⟩ := exV (n := 1024) (m := 2048) (φ := .bf16) (m ((c : Thread nD τ).loc main_arg1))
  refine ⟨r0.trans ?_, r1⟩
  rw [a0.trans hA, a1.trans hW]
  exact (ref A W).trans (arr m c A W hA hW).symm

end Cert.V20

end
-- ==== Proof.Mix21.lean ====
/- A mixer's first product, of 3072 columns, rounded: what the kernel leaves is the reference's array. -/
module

public import proofs.«01_k».proof.Defs
public import proofs.«01_k».proof.Proof.Ext
public import proofs.«01_k».proof.Proof.Gen.Kernel21Ideal.Value
public import Idealize.ShloMosaic.Lib.Pipeline.ReadBack
public import proofs.«01_k».proof.Proof.Gen.Reference21Ideal.Run

@[expose] public section

set_option maxRecDepth 16384

noncomputable section

namespace Cert.V21

open Cert.Ext Cert.Kernel21Ideal Cert.Kernel21Ideal.Gen Idealize.ShloMosaic Idealize.ShloMosaic.TcCoe

variable (m : (ℓ : Loc nD τ sig) → Buf (Elt Ideal) ℓ) (c : Dev nD) (A W : ℕ → ℕ → EReal)
  (hA : m ((c : Thread nD τ).loc main_arg0) = eV (n := 8192) (m := 1024) (φ := .bf16) A)
  (hW : m ((c : Thread nD τ).loc main_arg1) = eV (n := 1024) (m := 3072) (φ := .bf16) W)

theorem idx0 (t : Fin cfg0.N) : win0_0.index t = ![t.val / 6, 0] :=
  (by decide +kernel : ∀ t : Fin grid0.N, win0_0.index t = ![t.val / 6, 0]) t
theorem idx1 (t : Fin cfg0.N) : win0_1.index t = ![0, t.val % 6] :=
  (by decide +kernel : ∀ t : Fin grid0.N, win0_1.index t = ![0, t.val % 6]) t
theorem idx2 (t : Fin cfg0.N) : win0_2.index t = ![t.val / 6, t.val % 6] :=
  (by decide +kernel : ∀ t : Fin grid0.N, win0_2.index t = ![t.val / 6, t.val % 6]) t

include hA in
theorem iblk0 (t : Fin cfg0.N) : iblk m c 0 t = eV (n := 2048) (m := 1024) (φ := .bf16) (fun i j => A (2048 * (t.val / 6) + i) j) := by
  funext y
  have e := (V_main_arg0 m c).trans hA
  blk_simp [iblk, e, idx0 t]
  have h0 : (((win0_0.blk t).view.emb y) 0 : ℕ) = 2048 * (t.val / 6) + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 512) (φ := .bf16) (fun i j => W i (512 * (t.val % 6) + j)) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = 512 * (t.val % 6) + (y 1).val := by blk_simp [idx1 t] <;> omega
  have e2 := congr (congrArg W h0) h1
  exact e2

/-- A block of the result. -/
theorem pay (f g : ℕ → ℕ → EReal) :
    k0_pay4 (F := Ideal) (k0_pay2 (F := Ideal) (eV (φ := .bf16) f) (eV (φ := .bf16) g)) = eV fun i j => ∑ k ∈ Finset.range 1024, f i k * g k j := by
  funext x; idx_vars x; pointwise [k0_pay4, k0_pay2, k0_pay1, eV]; rw [Finset.sum_range]

/-- The result. -/
def res : FVec Ideal S8192x3072 .bf16 := eV fun i j => ∑ k ∈ Finset.range 1024, A i k * W k j

include hA hW in
theorem arr : (dats m 0 c).arrAt 2 cfg0.N = res A W := by
  refine (dats m 0 c).arrAt_eq_of_covers 2 _ (by decide +kernel) fun t hf y => ?_
  blk_simp
  rw [after0_2, outsAt0]
  frame_out
  rw [iblk0 m c A hA, iblk1 m c W hW, pay]
  have h0 : (((win0_2.blk t).view.emb y) 0 : ℕ) = 2048 * (t.val / 6) + (y 0).val := by blk_simp [idx2 t] <;> omega
  have h1 : (((win0_2.blk t).view.emb y) 1 : ℕ) = 512 * (t.val % 6) + (y 1).val := by blk_simp [idx2 t] <;> omega
  unfold res eV
  rw [h0, h1]

/-- The reference's result. -/
theorem ref : truncf .bf16 (Host.dotGeneral (F := Ideal) Cert.Reference21Ideal.dot_S8192x1024_S1024x3072_S8192x3072_1_0_0_1_n_n none (extf .f32 (eV A : FVec Ideal Cert.Reference21Ideal.S8192x1024 .bf16) Cert.Reference21Ideal.Gen.bitsLt_bf16_f32) (extf .f32 (eV W : FVec Ideal Cert.Reference21Ideal.S1024x3072 .bf16) Cert.Reference21Ideal.Gen.bitsLt_bf16_f32)) Cert.Reference21Ideal.Gen.bitsLt_bf16_f32
      = res A W := by
  funext x; idx_vars x; pointwise [eV, res]; rw [Finset.sum_range]

theorem values : @Cert.algebraic_Kernel21Ideal_Reference21Ideal Cert.Kernel21Ideal.Gen.facts Cert.Reference21Ideal.Gen.facts := by
  intro m g m' g' _ hargs
  refine ⟨_, Cert.Kernel21Ideal.Value.run_blocks (F := Ideal) m g, ?_⟩
  refine (θ_run Cert.Reference21Ideal.defs _ _).mono (fun r h c => ?_) (Cert.Reference21Ideal.Value.run (F := Ideal) m' g')
  obtain ⟨r0, r1⟩ := h c
  obtain ⟨a0, a1⟩ := hargs c
  obtain ⟨A, hA⟩ := exV (n := 8192) (m := 1024) (φ := .bf16) (m ((c : Thread nD τ).loc main_arg0))
  obtain ⟨W, hW⟩ := exV (n := 1024) (m := 3072) (φ := .bf16) (m ((c : Thread nD τ).loc main_arg1))
  refine ⟨r0.trans ?_, r1⟩
  rw [a0.trans hA, a1.trans hW]
  exact (ref A W).trans (arr m c A W hA hW).symm

end Cert.V21

end
-- ==== Proof.Mix22.lean ====
/- A mixer's last product, added to its input: what the kernel leaves is the reference's array. -/
module

public import proofs.«01_k».proof.Defs
public import proofs.«01_k».proof.Proof.Ext
public import proofs.«01_k».proof.Proof.Gen.Kernel22Ideal.Value
public import Idealize.ShloMosaic.Lib.Pipeline.ReadBack
public import proofs.«01_k».proof.Proof.Gen.Reference22Ideal.Run

@[expose] public section

set_option maxRecDepth 16384

noncomputable section

namespace Cert.V22

open Cert.Ext Cert.Kernel22Ideal Cert.Kernel22Ideal.Gen Idealize.ShloMosaic Idealize.ShloMosaic.TcCoe

variable (m : (ℓ : Loc nD τ sig) → Buf (Elt Ideal) ℓ) (c : Dev nD) (A W H : ℕ → ℕ → EReal)
  (hA : m ((c : Thread nD τ).loc main_arg0) = eV (n := 8192) (m := 1024) (φ := .bf16) A)
  (hW : m ((c : Thread nD τ).loc main_arg1) = eV (n := 1024) (m := 1024) (φ := .bf16) W)
  (hH : m ((c : Thread nD τ).loc main_arg2) = eV (n := 8192) (m := 1024) (φ := .f32) H)

theorem idx0 (t : Fin cfg0.N) : win0_0.index t = ![t.val, 0] :=
  (by decide +kernel : ∀ t : Fin grid0.N, win0_0.index t = ![t.val, 0]) t
theorem idx1 (t : Fin cfg0.N) : win0_1.index t = ![0, 0] :=
  (by decide +kernel : ∀ t : Fin grid0.N, win0_1.index t = ![0, 0]) t
theorem idx2 (t : Fin cfg0.N) : win0_2.index t = ![t.val, 0] :=
  (by decide +kernel : ∀ t : Fin grid0.N, win0_2.index t = ![t.val, 0]) t
theorem idx3 (t : Fin cfg0.N) : win0_3.index t = ![t.val, 0] :=
  (by decide +kernel : ∀ t : Fin grid0.N, win0_3.index t = ![t.val, 0]) t

include hA in
theorem iblk0 (t : Fin cfg0.N) : iblk m c 0 t = eV (n := 1024) (m := 1024) (φ := .bf16) (fun i j => A (1024 * t.val + i) j) := by
  funext y
  have e := (V_main_arg0 m c).trans hA
  blk_simp [iblk, e, idx0 t]
  have h0 : (((win0_0.blk t).view.emb y) 0 : ℕ) = 1024 * t.val + (y 0).val := by blk_simp [idx0 t] <;> omega
  have h1 : (((win0_0.blk t).view.emb y) 1 : ℕ) = (y 1).val := by blk_simp [idx0 t] <;> omega
  have e2 := congr (congrArg A h0) h1
  exact e2
include hW in
theorem iblk1 (t : Fin cfg0.N) : iblk m c 1 t = eV (n := 1024) (m := 1024) (φ := .bf16) (fun i j => W i j) := by
  funext y
  have e := (V_main_arg1 m c).trans hW
  blk_simp [iblk, e, idx1 t]
  have h0 : (((win0_1.blk t).view.emb y) 0 : ℕ) = (y 0).val := by blk_simp [idx1 t] <;> omega
  have h1 : (((win0_1.blk t).view.emb y) 1 : ℕ) = (y 1).val := by blk_simp [idx1 t] <;> omega
  have e2 := congr (congrArg W h0) h1
  exact e2
include hH in
theorem iblk2 (t : Fin cfg0.N) : iblk m c 2 t = eV (n := 1024) (m := 1024) (φ := .f32) (fun i j => H (1024 * t.val + i) j) := by
  funext y
  have e := (V_main_arg2 m c).trans hH
  blk_simp [iblk, e, idx2 t]
  have h0 : (((win0_2.blk t).view.emb y) 0 : ℕ) = 1024 * t.val + (y 0).val := by blk_simp [idx2 t] <;> omega
  have h1 : (((win0_2.blk t).view.emb y) 1 : ℕ) = (y 1).val := by blk_simp [idx2 t] <;> omega
  have e2 := congr (congrArg H h0) h1
  exact e2

/-- A block of the result. -/
theorem pay (f g h : ℕ → ℕ → EReal) :
    k0_pay4 (F := Ideal) (k0_pay2 (F := Ideal) (eV (φ := .bf16) f) (eV (φ := .bf16) g)) (eV (φ := .f32) h) = eV fun i j => h i j + ∑ k ∈ Finset.range 1024, f i k * g k j := by
  funext x; idx_vars x; pointwise [k0_pay4, k0_pay2, k0_pay1, eV]; rw [Finset.sum_range]

/-- The result. -/
def res : FVec Ideal S8192x1024 .f32 := eV fun i j => H i j + ∑ k ∈ Finset.range 1024, A i k * W k j

include hA hW hH in
theorem arr : (dats m 0 c).arrAt 3 cfg0.N = res A W H := by
  refine (dats m 0 c).arrAt_eq_of_covers 3 _ (by decide +kernel) fun t hf y => ?_
  blk_simp
  rw [after0_3, outsAt0]
  frame_out
  rw [iblk0 m c A hA, iblk1 m c W hW, iblk2 m c H hH, pay]
  have h0 : (((win0_3.blk t).view.emb y) 0 : ℕ) = 1024 * t.val + (y 0).val := by blk_simp [idx3 t] <;> omega
  have h1 : (((win0_3.blk t).view.emb y) 1 : ℕ) = (y 1).val := by blk_simp [idx3 t] <;> omega
  unfold res eV
  rw [h0, h1]

/-- The reference's result. -/
theorem ref : addf (F := Ideal) (eV H : FVec Ideal S8192x1024 .f32) (Host.dotGeneral (F := Ideal) Cert.Reference22Ideal.dot_S8192x1024_S1024x1024_S8192x1024_1_0_0_1_n_n none (extf .f32 (eV A : FVec Ideal Cert.Reference22Ideal.S8192x1024 .bf16) Cert.Reference22Ideal.Gen.bitsLt_bf16_f32) (extf .f32 (eV W : FVec Ideal Cert.Reference22Ideal.S1024x1024 .bf16) Cert.Reference22Ideal.Gen.bitsLt_bf16_f32))
      = res A W H := by
  funext x; idx_vars x; pointwise [eV, res]; rw [Finset.sum_range]

theorem values : @Cert.algebraic_Kernel22Ideal_Reference22Ideal Cert.Kernel22Ideal.Gen.facts Cert.Reference22Ideal.Gen.facts := by
  intro m g m' g' _ hargs
  refine ⟨_, Cert.Kernel22Ideal.Value.run_blocks (F := Ideal) m g, ?_⟩
  refine (θ_run Cert.Reference22Ideal.defs _ _).mono (fun r h c => ?_) (Cert.Reference22Ideal.Value.run (F := Ideal) m' g')
  obtain ⟨r0, r1⟩ := h c
  obtain ⟨a0, a1, a2⟩ := hargs c
  obtain ⟨A, hA⟩ := exV (n := 8192) (m := 1024) (φ := .bf16) (m ((c : Thread nD τ).loc main_arg0))
  obtain ⟨W, hW⟩ := exV (n := 1024) (m := 1024) (φ := .bf16) (m ((c : Thread nD τ).loc main_arg1))
  obtain ⟨H, hH⟩ := exV (n := 8192) (m := 1024) (φ := .f32) (m ((c : Thread nD τ).loc main_arg2))
  refine ⟨r0.trans ?_, r1⟩
  rw [a0.trans hA, a1.trans hW, a2.trans hH]
  exact (ref A W H).trans (arr m c A W H hA hW hH).symm

end Cert.V22

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.In6
public import proofs.«01_k».proof.Proof.Ffn6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Fwd23
public import proofs.«01_k».proof.Proof.Grid
public import proofs.«01_k».proof.Proof.RVal
public import proofs.«01_k».proof.Proof.Finite
public import proofs.«01_k».proof.Proof.Dgu2
public import proofs.«01_k».proof.Proof.Dwout3
public import proofs.«01_k».proof.Proof.Dwin4
public import proofs.«01_k».proof.Proof.Dhn5
public import proofs.«01_k».proof.Proof.Out7
public import proofs.«01_k».proof.Proof.Mix8
public import proofs.«01_k».proof.Proof.Mix9
public import proofs.«01_k».proof.Proof.Mix10
public import proofs.«01_k».proof.Proof.Mix11
public import proofs.«01_k».proof.Proof.Mix12
public import proofs.«01_k».proof.Proof.Mix13
public import proofs.«01_k».proof.Proof.Mix14
public import proofs.«01_k».proof.Proof.Mix15
public import proofs.«01_k».proof.Proof.Mix16
public import proofs.«01_k».proof.Proof.Mix17
public import proofs.«01_k».proof.Proof.Mix18
public import proofs.«01_k».proof.Proof.Mix19
public import proofs.«01_k».proof.Proof.Mix20
public import proofs.«01_k».proof.Proof.Mix21
public import proofs.«01_k».proof.Proof.Mix22
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.SL.Sem Cert.Kernel

/-- The reference's frame: its generated run, and it declares no semaphore. -/
theorem frame_r : Cert.quiescent_ReferenceIdeal := by
  intro m ρ _
  exact (θ_run Cert.ReferenceIdeal.defs _ _).mono (fun r h => ⟨fun c => ⟨(h c).2.2.2.1, (h c).2.2.2.2⟩,
      Idealize.ShloMosaic.sem_eq_zero_of_no_sems (by decide) r.2⟩)
    (Cert.ReferenceIdeal.Value.run (F := Ideal) m ρ)

/-- On finite arguments the kernel leaves the reference's gradients. -/
theorem values : @Cert.algebraic_KernelIdeal_ReferenceIdeal_pre_finite Cert.KernelIdeal.Gen.facts Cert.ReferenceIdeal.Gen.facts Cert.Val.Pre.facts := by
  intro m g m' g' hpre hargs
  haveI := Cert.Val.Pre.facts
  have hx : ∀ c : Dev Cert.KernelIdeal.nD, _ := fun c => Cert.Val.Pre.arg0 _ _ (hpre c)
  have hd : ∀ c : Dev Cert.KernelIdeal.nD, _ := fun c => Cert.Val.Pre.arg1 _ _ (hpre c)
  refine ⟨_, _, _, Cert.KernelIdeal.Value.run_blocks (F := Ideal) m g, ?_⟩
  refine (θ_run Cert.ReferenceIdeal.defs _ _).mono (fun r h c => ?_) (Cert.ReferenceIdeal.Value.run (F := Ideal) m' g')
  obtain ⟨r0, r1, r2, r3, r4⟩ := h c
  obtain ⟨a0, a1⟩ := hargs c
  have b0 := a0.trans (hx c)
  have b1 := a1.trans (hd c)
  refine ⟨r0.trans ?_, r1.trans ?_, r2.trans ?_, r3, r4⟩
  · rw [Cert.Val.Ref.dq_eq, b0, b1]
    exact (Cert.Val.Ref.e97 _ _).trans (Cert.Val.arr7 m c _ _ (hx c) (hd c)).symm
  · rw [Cert.Val.Ref.dk_eq, b0, b1]
    exact (Cert.Val.Ref.e93 _ _).trans (Cert.Val.arr8 m c _ _ (hx c) (hd c)).symm
  · rw [Cert.Val.Ref.dv_eq, b0, b1]
    exact (Cert.Val.Ref.e59 _ _).trans (Cert.Val.arr9 m c _ _ (hx c) (hd c)).symm

theorem frame_r2 : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_r3 : Cert.quiescent_Reference3Ideal := by
  intro m ρ _
  exact (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem frame_r4 : Cert.quiescent_Reference4Ideal := by
  intro m ρ _
  exact (θ_run Cert.Reference4Ideal.defs _ _).mono (fun r h => ⟨fun c => (h c).2,
      Idealize.ShloMosaic.sem_eq_zero_of_no_sems (by decide) r.2⟩)
    (Cert.Reference4Ideal.Value.run (F := Ideal) m ρ)
theorem frame_r5 : Cert.quiescent_Reference5Ideal := by
  intro m ρ _
  exact (θ_run Cert.Reference5Ideal.defs _ _).mono (fun r h => ⟨fun c => (h c).2.2,
      Idealize.ShloMosaic.sem_eq_zero_of_no_sems (by decide) r.2⟩)
    (Cert.Reference5Ideal.Value.run (F := Ideal) m ρ)
theorem frame_r6 : Cert.quiescent_Reference6Ideal := by
  intro m ρ _
  exact (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)
theorem frame_r7 : Cert.quiescent_Reference7Ideal := by
  intro m ρ _
  exact (θ_run Cert.Reference7Ideal.defs _ _).mono (fun r h => ⟨fun c => (h c).2,
      Idealize.ShloMosaic.sem_eq_zero_of_no_sems (by decide) r.2⟩)
    (Cert.Reference7Ideal.Value.run (F := Ideal) m ρ)
theorem frame_r8 : Cert.quiescent_Reference8Ideal := by
  intro m ρ _
  exact (θ_run Cert.Reference8Ideal.defs _ _).mono (fun r h => ⟨fun c => (h c).2,
      Idealize.ShloMosaic.sem_eq_zero_of_no_sems (by decide) r.2⟩)
    (Cert.Reference8Ideal.Value.run (F := Ideal) m ρ)
theorem frame_r9 : Cert.quiescent_Reference9Ideal := by
  intro m ρ _
  exact (θ_run Cert.Reference9Ideal.defs _ _).mono (fun r h => ⟨fun c => (h c).2,
      Idealize.ShloMosaic.sem_eq_zero_of_no_sems (by decide) r.2⟩)
    (Cert.Reference9Ideal.Value.run (F := Ideal) m ρ)
theorem frame_r10 : Cert.quiescent_Reference10Ideal := by
  intro m ρ _
  exact (θ_run Cert.Reference10Ideal.defs _ _).mono (fun r h => ⟨fun c => (h c).2,
      Idealize.ShloMosaic.sem_eq_zero_of_no_sems (by decide) r.2⟩)
    (Cert.Reference10Ideal.Value.run (F := Ideal) m ρ)
theorem frame_r11 : Cert.quiescent_Reference11Ideal := by
  intro m ρ _
  exact (θ_run Cert.Reference11Ideal.defs _ _).mono (fun r h => ⟨fun c => (h c).2,
      Idealize.ShloMosaic.sem_eq_zero_of_no_sems (by decide) r.2⟩)
    (Cert.Reference11Ideal.Value.run (F := Ideal) m ρ)
theorem frame_r12 : Cert.quiescent_Reference12Ideal := by
  intro m ρ _
  exact (θ_run Cert.Reference12Ideal.defs _ _).mono (fun r h => ⟨fun c => (h c).2,
      Idealize.ShloMosaic.sem_eq_zero_of_no_sems (by decide) r.2⟩)
    (Cert.Reference12Ideal.Value.run (F := Ideal) m ρ)
theorem frame_r13 : Cert.quiescent_Reference13Ideal := by
  intro m ρ _
  exact (θ_run Cert.Reference13Ideal.defs _ _).mono (fun r h => ⟨fun c => (h c).2,
      Idealize.ShloMosaic.sem_eq_zero_of_no_sems (by decide) r.2⟩)
    (Cert.Reference13Ideal.Value.run (F := Ideal) m ρ)
theorem frame_r14 : Cert.quiescent_Reference14Ideal := by
  intro m ρ _
  exact (θ_run Cert.Reference14Ideal.defs _ _).mono (fun r h => ⟨fun c => (h c).2,
      Idealize.ShloMosaic.sem_eq_zero_of_no_sems (by decide) r.2⟩)
    (Cert.Reference14Ideal.Value.run (F := Ideal) m ρ)
theorem frame_r15 : Cert.quiescent_Reference15Ideal := by
  intro m ρ _
  exact (θ_run Cert.Reference15Ideal.defs _ _).mono (fun r h => ⟨fun c => (h c).2.2,
      Idealize.ShloMosaic.sem_eq_zero_of_no_sems (by decide) r.2⟩)
    (Cert.Reference15Ideal.Value.run (F := Ideal) m ρ)
theorem frame_r16 : Cert.quiescent_Reference16Ideal := by
  intro m ρ _
  exact (θ_run Cert.Reference16Ideal.defs _ _).mono (fun r h => ⟨fun c => (h c).2.2,
      Idealize.ShloMosaic.sem_eq_zero_of_no_sems (by decide) r.2⟩)
    (Cert.Reference16Ideal.Value.run (F := Ideal) m ρ)
theorem frame_r17 : Cert.quiescent_Reference17Ideal := by
  intro m ρ _
  exact (θ_run Cert.Reference17Ideal.defs _ _).mono (fun r h => ⟨fun c => (h c).2.2,
      Idealize.ShloMosaic.sem_eq_zero_of_no_sems (by decide) r.2⟩)
    (Cert.Reference17Ideal.Value.run (F := Ideal) m ρ)
theorem frame_r18 : Cert.quiescent_Reference18Ideal := by
  intro m ρ _
  exact (θ_run Cert.Reference18Ideal.defs _ _).mono (fun r h => ⟨fun c => (h c).2,
      Idealize.ShloMosaic.sem_eq_zero_of_no_sems (by decide) r.2⟩)
    (Cert.Reference18Ideal.Value.run (F := Ideal) m ρ)
theorem frame_r19 : Cert.quiescent_Reference19Ideal := by
  intro m ρ _
  exact (θ_run Cert.Reference19Ideal.defs _ _).mono (fun r h => ⟨fun c => (h c).2,
      Idealize.ShloMosaic.sem_eq_zero_of_no_sems (by decide) r.2⟩)
    (Cert.Reference19Ideal.Value.run (F := Ideal) m ρ)
theorem frame_r20 : Cert.quiescent_Reference20Ideal := by
  intro m ρ _
  exact (θ_run Cert.Reference20Ideal.defs _ _).mono (fun r h => ⟨fun c => (h c).2,
      Idealize.ShloMosaic.sem_eq_zero_of_no_sems (by decide) r.2⟩)
    (Cert.Reference20Ideal.Value.run (F := Ideal) m ρ)
theorem frame_r21 : Cert.quiescent_Reference21Ideal := by
  intro m ρ _
  exact (θ_run Cert.Reference21Ideal.defs _ _).mono (fun r h => ⟨fun c => (h c).2,
      Idealize.ShloMosaic.sem_eq_zero_of_no_sems (by decide) r.2⟩)
    (Cert.Reference21Ideal.Value.run (F := Ideal) m ρ)
theorem frame_r22 : Cert.quiescent_Reference22Ideal := by
  intro m ρ _
  exact (θ_run Cert.Reference22Ideal.defs _ _).mono (fun r h => ⟨fun c => (h c).2,
      Idealize.ShloMosaic.sem_eq_zero_of_no_sems (by decide) r.2⟩)
    (Cert.Reference22Ideal.Value.run (F := Ideal) m ρ)

theorem frame_r23 : Cert.quiescent_Reference23Ideal := by
  intro m ρ _
  exact (θ_run Cert.Reference23Ideal.defs _ _).mono (fun r h => ⟨fun c => (h c).2.2,
      Idealize.ShloMosaic.sem_eq_zero_of_no_sems (by decide) r.2⟩)
    (Cert.Reference23Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Val.Pre.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  Cert.V6.frame_kernel, Cert.V6.frame_ideal, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  fun m ρ _ => Cert.Kernel11.Gen.frame m ρ, fun m ρ _ => Cert.Kernel11Ideal.Gen.frame m ρ, frame_r11,
  fun m ρ _ => Cert.Kernel12.Gen.frame m ρ, fun m ρ _ => Cert.Kernel12Ideal.Gen.frame m ρ, frame_r12,
  fun m ρ _ => Cert.Kernel13.Gen.frame m ρ, fun m ρ _ => Cert.Kernel13Ideal.Gen.frame m ρ, frame_r13,
  fun m ρ _ => Cert.Kernel14.Gen.frame m ρ, fun m ρ _ => Cert.Kernel14Ideal.Gen.frame m ρ, frame_r14,
  fun m ρ _ => Cert.Kernel15.Gen.frame m ρ, fun m ρ _ => Cert.Kernel15Ideal.Gen.frame m ρ, frame_r15,
  fun m ρ _ => Cert.Kernel16.Gen.frame m ρ, fun m ρ _ => Cert.Kernel16Ideal.Gen.frame m ρ, frame_r16,
  fun m ρ _ => Cert.Kernel17.Gen.frame m ρ, fun m ρ _ => Cert.Kernel17Ideal.Gen.frame m ρ, frame_r17,
  fun m ρ _ => Cert.Kernel18.Gen.frame m ρ, fun m ρ _ => Cert.Kernel18Ideal.Gen.frame m ρ, frame_r18,
  fun m ρ _ => Cert.Kernel19.Gen.frame m ρ, fun m ρ _ => Cert.Kernel19Ideal.Gen.frame m ρ, frame_r19,
  fun m ρ _ => Cert.Kernel20.Gen.frame m ρ, fun m ρ _ => Cert.Kernel20Ideal.Gen.frame m ρ, frame_r20,
  fun m ρ _ => Cert.Kernel21.Gen.frame m ρ, fun m ρ _ => Cert.Kernel21Ideal.Gen.frame m ρ, frame_r21,
  fun m ρ _ => Cert.Kernel22.Gen.frame m ρ, fun m ρ _ => Cert.Kernel22Ideal.Gen.frame m ρ, frame_r22,
  fun m ρ _ => Cert.Kernel23.Gen.frame m ρ, fun m ρ _ => Cert.Kernel23Ideal.Gen.frame m ρ, frame_r23,
  trivial, values, trivial, Cert.V2.values, trivial, Cert.V3.values, trivial, Cert.V4.values, trivial, Cert.V5.values, trivial, Cert.V6.values, trivial, Cert.V7.values,
  trivial, Cert.V8.values, trivial, Cert.V9.values, trivial, Cert.V10.values, trivial, Cert.V11.values, trivial, Cert.V12.values,
  trivial, Cert.V13.values, trivial, Cert.V14.values, trivial, Cert.V15.values, trivial, Cert.V16.values, trivial, Cert.V17.values,
  trivial, Cert.V18.values, trivial, Cert.V19.values, trivial, Cert.V20.values, trivial, Cert.V21.values, trivial, Cert.V22.values, trivial, Cert.V23.values⟩

end Cert.Proof

end
